-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_GradDown (m : (ℓ : Loc Cert.GradDown.nD Cert.GradDown.τ Cert.GradDown.sig) → Buf (Elt Bits) ℓ) : Prop :=
  True

def Pre_GradDownIdeal (m : (ℓ : Loc Cert.GradDownIdeal.nD Cert.GradDownIdeal.τ Cert.GradDownIdeal.sig) → Buf (Elt Ideal) ℓ) : Prop :=
  True

def Pre_RefGradDownIdeal (m : (ℓ : Loc Cert.RefGradDownIdeal.nD Cert.RefGradDownIdeal.τ Cert.RefGradDownIdeal.sig) → Buf (Elt Ideal) ℓ) : Prop :=
  True

def Pre_GradSsm (m : (ℓ : Loc Cert.GradSsm.nD Cert.GradSsm.τ Cert.GradSsm.sig) → Buf (Elt Bits) ℓ) : Prop :=
  True

def Pre_GradSsmIdeal (m : (ℓ : Loc Cert.GradSsmIdeal.nD Cert.GradSsmIdeal.τ Cert.GradSsmIdeal.sig) → Buf (Elt Ideal) ℓ) : Prop :=
  True

def Pre_RefGradSsmIdeal (m : (ℓ : Loc Cert.RefGradSsmIdeal.nD Cert.RefGradSsmIdeal.τ Cert.RefGradSsmIdeal.sig) → Buf (Elt Ideal) ℓ) : Prop :=
  True

def Pre_GradAttn (m : (ℓ : Loc Cert.GradAttn.nD Cert.GradAttn.τ Cert.GradAttn.sig) → Buf (Elt Bits) ℓ) : Prop :=
  True

def Pre_GradAttnIdeal (m : (ℓ : Loc Cert.GradAttnIdeal.nD Cert.GradAttnIdeal.τ Cert.GradAttnIdeal.sig) → Buf (Elt Ideal) ℓ) : Prop :=
  True

def Pre_RefGradAttnIdeal (m : (ℓ : Loc Cert.RefGradAttnIdeal.nD Cert.RefGradAttnIdeal.τ Cert.RefGradAttnIdeal.sig) → Buf (Elt Ideal) ℓ) : Prop :=
  True

def Pre_BackAttn (m : (ℓ : Loc Cert.BackAttn.nD Cert.BackAttn.τ Cert.BackAttn.sig) → Buf (Elt Bits) ℓ) : Prop :=
  True

def Pre_BackAttnIdeal (m : (ℓ : Loc Cert.BackAttnIdeal.nD Cert.BackAttnIdeal.τ Cert.BackAttnIdeal.sig) → Buf (Elt Ideal) ℓ) : Prop :=
  True

def Pre_RefBackAttnIdeal (m : (ℓ : Loc Cert.RefBackAttnIdeal.nD Cert.RefBackAttnIdeal.τ Cert.RefBackAttnIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_RefSwigluIdeal (m : (ℓ : Loc Cert.RefSwigluIdeal.nD Cert.RefSwigluIdeal.τ Cert.RefSwigluIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_RefDownIdeal (m : (ℓ : Loc Cert.RefDownIdeal.nD Cert.RefDownIdeal.τ Cert.RefDownIdeal.sig) → Buf (Elt Ideal) ℓ) : Prop :=
  True

def Pre_Ssm (m : (ℓ : Loc Cert.Ssm.nD Cert.Ssm.τ Cert.Ssm.sig) → Buf (Elt Bits) ℓ) : Prop :=
  True

def Pre_SsmIdeal (m : (ℓ : Loc Cert.SsmIdeal.nD Cert.SsmIdeal.τ Cert.SsmIdeal.sig) → Buf (Elt Ideal) ℓ) : Prop :=
  True

def Pre_RefSsmIdeal (m : (ℓ : Loc Cert.RefSsmIdeal.nD Cert.RefSsmIdeal.τ Cert.RefSsmIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_RefOutIdeal (m : (ℓ : Loc Cert.RefOutIdeal.nD Cert.RefOutIdeal.τ Cert.RefOutIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_fwd [hPre_finite_fwd : Cert.Pre_finite_fwd.Facts] (m : (ℓ : Loc Cert.FwdIdeal.nD Cert.FwdIdeal.τ Cert.FwdIdeal.sig) → Buf (Elt Ideal) ℓ) : Prop :=
  ∀ c : Dev Cert.FwdIdeal.nD,
    (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))).1 = (fun _ => 1#1)
    ∧ (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))).2.1 = (fun _ => 1#1)
    ∧ (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))).2.2 = (fun _ => 1#1)

def Pre_RefFwdIdeal (m : (ℓ : Loc Cert.RefFwdIdeal.nD Cert.RefFwdIdeal.τ Cert.RefFwdIdeal.sig) → Buf (Elt Ideal) ℓ) : Prop :=
  True

def Pre_RefFwdIdeal_finite_fwd [hPre_finite_fwd : Cert.Pre_finite_fwd.Facts] (m : (ℓ : Loc Cert.RefFwdIdeal.nD Cert.RefFwdIdeal.τ Cert.RefFwdIdeal.sig) → Buf (Elt Ideal) ℓ) : Prop :=
  ∀ c : Dev Cert.RefFwdIdeal.nD,
    (Cert.Pre_finite_fwd.fn (F := Ideal) (m ((c.tc : Thread Cert.RefFwdIdeal.nD Cert.RefFwdIdeal.τ).loc Cert.RefFwdIdeal.main_arg0)) (m ((c.tc : Thread Cert.RefFwdIdeal.nD Cert.RefFwdIdeal.τ).loc Cert.RefFwdIdeal.main_arg1)) (m ((c.tc : Thread Cert.RefFwdIdeal.nD Cert.RefFwdIdeal.τ).loc Cert.RefFwdIdeal.main_arg2))).1 = (fun _ => 1#1)
    ∧ (Cert.Pre_finite_fwd.fn (F := Ideal) (m ((c.tc : Thread Cert.RefFwdIdeal.nD Cert.RefFwdIdeal.τ).loc Cert.RefFwdIdeal.main_arg0)) (m ((c.tc : Thread Cert.RefFwdIdeal.nD Cert.RefFwdIdeal.τ).loc Cert.RefFwdIdeal.main_arg1)) (m ((c.tc : Thread Cert.RefFwdIdeal.nD Cert.RefFwdIdeal.τ).loc Cert.RefFwdIdeal.main_arg2))).2.1 = (fun _ => 1#1)
    ∧ (Cert.Pre_finite_fwd.fn (F := Ideal) (m ((c.tc : Thread Cert.RefFwdIdeal.nD Cert.RefFwdIdeal.τ).loc Cert.RefFwdIdeal.main_arg0)) (m ((c.tc : Thread Cert.RefFwdIdeal.nD Cert.RefFwdIdeal.τ).loc Cert.RefFwdIdeal.main_arg1)) (m ((c.tc : Thread Cert.RefFwdIdeal.nD Cert.RefFwdIdeal.τ).loc Cert.RefFwdIdeal.main_arg2))).2.2 = (fun _ => 1#1)

def Pre_BackGate (m : (ℓ : Loc Cert.BackGate.nD Cert.BackGate.τ Cert.BackGate.sig) → Buf (Elt Bits) ℓ) : Prop :=
  True

def Pre_BackGateIdeal (m : (ℓ : Loc Cert.BackGateIdeal.nD Cert.BackGateIdeal.τ Cert.BackGateIdeal.sig) → Buf (Elt Ideal) ℓ) : Prop :=
  True

def Pre_RefBackGateIdeal (m : (ℓ : Loc Cert.RefBackGateIdeal.nD Cert.RefBackGateIdeal.τ Cert.RefBackGateIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_RefQkvIdeal (m : (ℓ : Loc Cert.RefQkvIdeal.nD Cert.RefQkvIdeal.τ Cert.RefQkvIdeal.sig) → Buf (Elt Ideal) ℓ) : Prop :=
  True

def Pre_Uq (m : (ℓ : Loc Cert.Uq.nD Cert.Uq.τ Cert.Uq.sig) → Buf (Elt Bits) ℓ) : Prop :=
  True

def Pre_UqIdeal (m : (ℓ : Loc Cert.UqIdeal.nD Cert.UqIdeal.τ Cert.UqIdeal.sig) → Buf (Elt Ideal) ℓ) : Prop :=
  True

def Pre_RefUqIdeal (m : (ℓ : Loc Cert.RefUqIdeal.nD Cert.RefUqIdeal.τ Cert.RefUqIdeal.sig) → Buf (Elt Ideal) ℓ) : Prop :=
  True

def Pre_Ukv (m : (ℓ : Loc Cert.Ukv.nD Cert.Ukv.τ Cert.Ukv.sig) → Buf (Elt Bits) ℓ) : Prop :=
  True

def Pre_UkvIdeal (m : (ℓ : Loc Cert.UkvIdeal.nD Cert.UkvIdeal.τ Cert.UkvIdeal.sig) → Buf (Elt Ideal) ℓ) : Prop :=
  True

def Pre_RefUkvIdeal (m : (ℓ : Loc Cert.RefUkvIdeal.nD Cert.RefUkvIdeal.τ Cert.RefUkvIdeal.sig) → Buf (Elt Ideal) ℓ) : Prop :=
  True

def Pre_BackUq (m : (ℓ : Loc Cert.BackUq.nD Cert.BackUq.τ Cert.BackUq.sig) → Buf (Elt Bits) ℓ) : Prop :=
  True

def Pre_BackUqIdeal (m : (ℓ : Loc Cert.BackUqIdeal.nD Cert.BackUqIdeal.τ Cert.BackUqIdeal.sig) → Buf (Elt Ideal) ℓ) : Prop :=
  True

def Pre_RefBackUqIdeal (m : (ℓ : Loc Cert.RefBackUqIdeal.nD Cert.RefBackUqIdeal.τ Cert.RefBackUqIdeal.sig) → Buf (Elt Ideal) ℓ) : Prop :=
  True

def Pre_GradUq (m : (ℓ : Loc Cert.GradUq.nD Cert.GradUq.τ Cert.GradUq.sig) → Buf (Elt Bits) ℓ) : Prop :=
  True

def Pre_GradUqIdeal (m : (ℓ : Loc Cert.GradUqIdeal.nD Cert.GradUqIdeal.τ Cert.GradUqIdeal.sig) → Buf (Elt Ideal) ℓ) : Prop :=
  True

def Pre_RefGradUqIdeal (m : (ℓ : Loc Cert.RefGradUqIdeal.nD Cert.RefGradUqIdeal.τ Cert.RefGradUqIdeal.sig) → Buf (Elt Ideal) ℓ) : Prop :=
  True

def Pre_GradQkv (m : (ℓ : Loc Cert.GradQkv.nD Cert.GradQkv.τ Cert.GradQkv.sig) → Buf (Elt Bits) ℓ) : Prop :=
  True

def Pre_GradQkvIdeal (m : (ℓ : Loc Cert.GradQkvIdeal.nD Cert.GradQkvIdeal.τ Cert.GradQkvIdeal.sig) → Buf (Elt Ideal) ℓ) : Prop :=
  True

def Pre_RefGradQkvIdeal (m : (ℓ : Loc Cert.RefGradQkvIdeal.nD Cert.RefGradQkvIdeal.τ Cert.RefGradQkvIdeal.sig) → Buf (Elt Ideal) ℓ) : Prop :=
  True

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_RefMixBwdIdeal (m : (ℓ : Loc Cert.RefMixBwdIdeal.nD Cert.RefMixBwdIdeal.τ Cert.RefMixBwdIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_RefNormBwdIdeal (m : (ℓ : Loc Cert.RefNormBwdIdeal.nD Cert.RefNormBwdIdeal.τ Cert.RefNormBwdIdeal.sig) → Buf (Elt Ideal) ℓ) : Prop :=
  True

def Pre_PostBwd (m : (ℓ : Loc Cert.PostBwd.nD Cert.PostBwd.τ Cert.PostBwd.sig) → Buf (Elt Bits) ℓ) : Prop :=
  True

def Pre_PostBwdIdeal (m : (ℓ : Loc Cert.PostBwdIdeal.nD Cert.PostBwdIdeal.τ Cert.PostBwdIdeal.sig) → Buf (Elt Ideal) ℓ) : Prop :=
  True

def Pre_RefPostBwdIdeal (m : (ℓ : Loc Cert.RefPostBwdIdeal.nD Cert.RefPostBwdIdeal.τ Cert.RefPostBwdIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_RefLossIdeal (m : (ℓ : Loc Cert.RefLossIdeal.nD Cert.RefLossIdeal.τ Cert.RefLossIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_GradDown [hGradDown : Cert.GradDown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1))
      ∧ r.2.sem = fun _ => 0)

def quiescent_GradDownIdeal [hGradDownIdeal : Cert.GradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ r.2.sem = fun _ => 0)

def quiescent_RefGradDownIdeal [hRefGradDownIdeal : Cert.RefGradDownIdeal.Facts] : Prop :=
  ∀ (m : (ℓ : Loc Cert.RefGradDownIdeal.nD Cert.RefGradDownIdeal.τ Cert.RefGradDownIdeal.sig) → Buf (Elt Ideal) ℓ) (g : Dev Cert.RefGradDownIdeal.nD → PrngReg), Pre_RefGradDownIdeal m →
    θ_run (Cert.RefGradDownIdeal.defs (F := Ideal)) (onTc (τ := Cert.RefGradDownIdeal.τ) (Cert.RefGradDownIdeal.main (F := Ideal))) ⟨m, fun _ => 0, g⟩ (fun r => (∀ c : Dev Cert.RefGradDownIdeal.nD,
      r.2.mem ((c.tc : Thread Cert.RefGradDownIdeal.nD Cert.RefGradDownIdeal.τ).loc Cert.RefGradDownIdeal.main_arg0) = m ((c.tc : Thread Cert.RefGradDownIdeal.nD Cert.RefGradDownIdeal.τ).loc Cert.RefGradDownIdeal.main_arg0)
      ∧ r.2.mem ((c.tc : Thread Cert.RefGradDownIdeal.nD Cert.RefGradDownIdeal.τ).loc Cert.RefGradDownIdeal.main_arg1) = m ((c.tc : Thread Cert.RefGradDownIdeal.nD Cert.RefGradDownIdeal.τ).loc Cert.RefGradDownIdeal.main_arg1))
      ∧ r.2.sem = fun _ => 0)

def quiescent_GradSsm [hGradSsm : Cert.GradSsm.Facts] : Prop :=
  ∀ (m : (ℓ : Loc Cert.GradSsm.nD Cert.GradSsm.τ Cert.GradSsm.sig) → Buf (Elt Bits) ℓ) (g : Dev Cert.GradSsm.nD → PrngReg), Pre_GradSsm m →
    θ_run (Cert.GradSsm.defs (F := Bits)) (onTc (τ := Cert.GradSsm.τ) (Cert.GradSsm.main (F := Bits))) ⟨m, fun _ => 0, g⟩ (fun r => (∀ c : Dev Cert.GradSsm.nD,
      r.2.mem ((c.tc : Thread Cert.GradSsm.nD Cert.GradSsm.τ).loc Cert.GradSsm.main_arg0) = m ((c.tc : Thread Cert.GradSsm.nD Cert.GradSsm.τ).loc Cert.GradSsm.main_arg0)
      ∧ r.2.mem ((c.tc : Thread Cert.GradSsm.nD Cert.GradSsm.τ).loc Cert.GradSsm.main_arg1) = m ((c.tc : Thread Cert.GradSsm.nD Cert.GradSsm.τ).loc Cert.GradSsm.main_arg1))
      ∧ r.2.sem = fun _ => 0)

def quiescent_GradSsmIdeal [hGradSsmIdeal : Cert.GradSsmIdeal.Facts] : Prop :=
  ∀ (m : (ℓ : Loc Cert.GradSsmIdeal.nD Cert.GradSsmIdeal.τ Cert.GradSsmIdeal.sig) → Buf (Elt Ideal) ℓ) (g : Dev Cert.GradSsmIdeal.nD → PrngReg), Pre_GradSsmIdeal m →
    θ_run (Cert.GradSsmIdeal.defs (F := Ideal)) (onTc (τ := Cert.GradSsmIdeal.τ) (Cert.GradSsmIdeal.main (F := Ideal))) ⟨m, fun _ => 0, g⟩ (fun r => (∀ c : Dev Cert.GradSsmIdeal.nD,
      r.2.mem ((c.tc : Thread Cert.GradSsmIdeal.nD Cert.GradSsmIdeal.τ).loc Cert.GradSsmIdeal.main_arg0) = m ((c.tc : Thread Cert.GradSsmIdeal.nD Cert.GradSsmIdeal.τ).loc Cert.GradSsmIdeal.main_arg0)
      ∧ r.2.mem ((c.tc : Thread Cert.GradSsmIdeal.nD Cert.GradSsmIdeal.τ).loc Cert.GradSsmIdeal.main_arg1) = m ((c.tc : Thread Cert.GradSsmIdeal.nD Cert.GradSsmIdeal.τ).loc Cert.GradSsmIdeal.main_arg1))
      ∧ r.2.sem = fun _ => 0)

def quiescent_RefGradSsmIdeal [hRefGradSsmIdeal : Cert.RefGradSsmIdeal.Facts] : Prop :=
  ∀ (m : (ℓ : Loc Cert.RefGradSsmIdeal.nD Cert.RefGradSsmIdeal.τ Cert.RefGradSsmIdeal.sig) → Buf (Elt Ideal) ℓ) (g : Dev Cert.RefGradSsmIdeal.nD → PrngReg), Pre_RefGradSsmIdeal m →
    θ_run (Cert.RefGradSsmIdeal.defs (F := Ideal)) (onTc (τ := Cert.RefGradSsmIdeal.τ) (Cert.RefGradSsmIdeal.main (F := Ideal))) ⟨m, fun _ => 0, g⟩ (fun r => (∀ c : Dev Cert.RefGradSsmIdeal.nD,
      r.2.mem ((c.tc : Thread Cert.RefGradSsmIdeal.nD Cert.RefGradSsmIdeal.τ).loc Cert.RefGradSsmIdeal.main_arg0) = m ((c.tc : Thread Cert.RefGradSsmIdeal.nD Cert.RefGradSsmIdeal.τ).loc Cert.RefGradSsmIdeal.main_arg0)
      ∧ r.2.mem ((c.tc : Thread Cert.RefGradSsmIdeal.nD Cert.RefGradSsmIdeal.τ).loc Cert.RefGradSsmIdeal.main_arg1) = m ((c.tc : Thread Cert.RefGradSsmIdeal.nD Cert.RefGradSsmIdeal.τ).loc Cert.RefGradSsmIdeal.main_arg1))
      ∧ r.2.sem = fun _ => 0)

def quiescent_GradAttn [hGradAttn : Cert.GradAttn.Facts] : Prop :=
  ∀ (m : (ℓ : Loc Cert.GradAttn.nD Cert.GradAttn.τ Cert.GradAttn.sig) → Buf (Elt Bits) ℓ) (g : Dev Cert.GradAttn.nD → PrngReg), Pre_GradAttn m →
    θ_run (Cert.GradAttn.defs (F := Bits)) (onTc (τ := Cert.GradAttn.τ) (Cert.GradAttn.main (F := Bits))) ⟨m, fun _ => 0, g⟩ (fun r => (∀ c : Dev Cert.GradAttn.nD,
      r.2.mem ((c.tc : Thread Cert.GradAttn.nD Cert.GradAttn.τ).loc Cert.GradAttn.main_arg0) = m ((c.tc : Thread Cert.GradAttn.nD Cert.GradAttn.τ).loc Cert.GradAttn.main_arg0)
      ∧ r.2.mem ((c.tc : Thread Cert.GradAttn.nD Cert.GradAttn.τ).loc Cert.GradAttn.main_arg1) = m ((c.tc : Thread Cert.GradAttn.nD Cert.GradAttn.τ).loc Cert.GradAttn.main_arg1))
      ∧ r.2.sem = fun _ => 0)

def quiescent_GradAttnIdeal [hGradAttnIdeal : Cert.GradAttnIdeal.Facts] : Prop :=
  ∀ (m : (ℓ : Loc Cert.GradAttnIdeal.nD Cert.GradAttnIdeal.τ Cert.GradAttnIdeal.sig) → Buf (Elt Ideal) ℓ) (g : Dev Cert.GradAttnIdeal.nD → PrngReg), Pre_GradAttnIdeal m →
    θ_run (Cert.GradAttnIdeal.defs (F := Ideal)) (onTc (τ := Cert.GradAttnIdeal.τ) (Cert.GradAttnIdeal.main (F := Ideal))) ⟨m, fun _ => 0, g⟩ (fun r => (∀ c : Dev Cert.GradAttnIdeal.nD,
      r.2.mem ((c.tc : Thread Cert.GradAttnIdeal.nD Cert.GradAttnIdeal.τ).loc Cert.GradAttnIdeal.main_arg0) = m ((c.tc : Thread Cert.GradAttnIdeal.nD Cert.GradAttnIdeal.τ).loc Cert.GradAttnIdeal.main_arg0)
      ∧ r.2.mem ((c.tc : Thread Cert.GradAttnIdeal.nD Cert.GradAttnIdeal.τ).loc Cert.GradAttnIdeal.main_arg1) = m ((c.tc : Thread Cert.GradAttnIdeal.nD Cert.GradAttnIdeal.τ).loc Cert.GradAttnIdeal.main_arg1))
      ∧ r.2.sem = fun _ => 0)

def quiescent_RefGradAttnIdeal [hRefGradAttnIdeal : Cert.RefGradAttnIdeal.Facts] : Prop :=
  ∀ (m : (ℓ : Loc Cert.RefGradAttnIdeal.nD Cert.RefGradAttnIdeal.τ Cert.RefGradAttnIdeal.sig) → Buf (Elt Ideal) ℓ) (g : Dev Cert.RefGradAttnIdeal.nD → PrngReg), Pre_RefGradAttnIdeal m →
    θ_run (Cert.RefGradAttnIdeal.defs (F := Ideal)) (onTc (τ := Cert.RefGradAttnIdeal.τ) (Cert.RefGradAttnIdeal.main (F := Ideal))) ⟨m, fun _ => 0, g⟩ (fun r => (∀ c : Dev Cert.RefGradAttnIdeal.nD,
      r.2.mem ((c.tc : Thread Cert.RefGradAttnIdeal.nD Cert.RefGradAttnIdeal.τ).loc Cert.RefGradAttnIdeal.main_arg0) = m ((c.tc : Thread Cert.RefGradAttnIdeal.nD Cert.RefGradAttnIdeal.τ).loc Cert.RefGradAttnIdeal.main_arg0)
      ∧ r.2.mem ((c.tc : Thread Cert.RefGradAttnIdeal.nD Cert.RefGradAttnIdeal.τ).loc Cert.RefGradAttnIdeal.main_arg1) = m ((c.tc : Thread Cert.RefGradAttnIdeal.nD Cert.RefGradAttnIdeal.τ).loc Cert.RefGradAttnIdeal.main_arg1))
      ∧ r.2.sem = fun _ => 0)

def quiescent_BackAttn [hBackAttn : Cert.BackAttn.Facts] : Prop :=
  ∀ (m : (ℓ : Loc Cert.BackAttn.nD Cert.BackAttn.τ Cert.BackAttn.sig) → Buf (Elt Bits) ℓ) (g : Dev Cert.BackAttn.nD → PrngReg), Pre_BackAttn m →
    θ_run (Cert.BackAttn.defs (F := Bits)) (onTc (τ := Cert.BackAttn.τ) (Cert.BackAttn.main (F := Bits))) ⟨m, fun _ => 0, g⟩ (fun r => (∀ c : Dev Cert.BackAttn.nD,
      r.2.mem ((c.tc : Thread Cert.BackAttn.nD Cert.BackAttn.τ).loc Cert.BackAttn.main_arg0) = m ((c.tc : Thread Cert.BackAttn.nD Cert.BackAttn.τ).loc Cert.BackAttn.main_arg0)
      ∧ r.2.mem ((c.tc : Thread Cert.BackAttn.nD Cert.BackAttn.τ).loc Cert.BackAttn.main_arg1) = m ((c.tc : Thread Cert.BackAttn.nD Cert.BackAttn.τ).loc Cert.BackAttn.main_arg1))
      ∧ r.2.sem = fun _ => 0)

def quiescent_BackAttnIdeal [hBackAttnIdeal : Cert.BackAttnIdeal.Facts] : Prop :=
  ∀ (m : (ℓ : Loc Cert.BackAttnIdeal.nD Cert.BackAttnIdeal.τ Cert.BackAttnIdeal.sig) → Buf (Elt Ideal) ℓ) (g : Dev Cert.BackAttnIdeal.nD → PrngReg), Pre_BackAttnIdeal m →
    θ_run (Cert.BackAttnIdeal.defs (F := Ideal)) (onTc (τ := Cert.BackAttnIdeal.τ) (Cert.BackAttnIdeal.main (F := Ideal))) ⟨m, fun _ => 0, g⟩ (fun r => (∀ c : Dev Cert.BackAttnIdeal.nD,
      r.2.mem ((c.tc : Thread Cert.BackAttnIdeal.nD Cert.BackAttnIdeal.τ).loc Cert.BackAttnIdeal.main_arg0) = m ((c.tc : Thread Cert.BackAttnIdeal.nD Cert.BackAttnIdeal.τ).loc Cert.BackAttnIdeal.main_arg0)
      ∧ r.2.mem ((c.tc : Thread Cert.BackAttnIdeal.nD Cert.BackAttnIdeal.τ).loc Cert.BackAttnIdeal.main_arg1) = m ((c.tc : Thread Cert.BackAttnIdeal.nD Cert.BackAttnIdeal.τ).loc Cert.BackAttnIdeal.main_arg1))
      ∧ r.2.sem = fun _ => 0)

def quiescent_RefBackAttnIdeal [hRefBackAttnIdeal : Cert.RefBackAttnIdeal.Facts] : Prop :=
  ∀ (m : (ℓ : Loc Cert.RefBackAttnIdeal.nD Cert.RefBackAttnIdeal.τ Cert.RefBackAttnIdeal.sig) → Buf (Elt Ideal) ℓ) (g : Dev Cert.RefBackAttnIdeal.nD → PrngReg), Pre_RefBackAttnIdeal m →
    θ_run (Cert.RefBackAttnIdeal.defs (F := Ideal)) (onTc (τ := Cert.RefBackAttnIdeal.τ) (Cert.RefBackAttnIdeal.main (F := Ideal))) ⟨m, fun _ => 0, g⟩ (fun r => (∀ c : Dev Cert.RefBackAttnIdeal.nD,
      r.2.mem ((c.tc : Thread Cert.RefBackAttnIdeal.nD Cert.RefBackAttnIdeal.τ).loc Cert.RefBackAttnIdeal.main_arg0) = m ((c.tc : Thread Cert.RefBackAttnIdeal.nD Cert.RefBackAttnIdeal.τ).loc Cert.RefBackAttnIdeal.main_arg0)
      ∧ r.2.mem ((c.tc : Thread Cert.RefBackAttnIdeal.nD Cert.RefBackAttnIdeal.τ).loc Cert.RefBackAttnIdeal.main_arg1) = m ((c.tc : Thread Cert.RefBackAttnIdeal.nD Cert.RefBackAttnIdeal.τ).loc Cert.RefBackAttnIdeal.main_arg1))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ r.2.sem = fun _ => 0)

def quiescent_RefSwigluIdeal [hRefSwigluIdeal : Cert.RefSwigluIdeal.Facts] : Prop :=
  ∀ (m : (ℓ : Loc Cert.RefSwigluIdeal.nD Cert.RefSwigluIdeal.τ Cert.RefSwigluIdeal.sig) → Buf (Elt Ideal) ℓ) (g : Dev Cert.RefSwigluIdeal.nD → PrngReg), Pre_RefSwigluIdeal m →
    θ_run (Cert.RefSwigluIdeal.defs (F := Ideal)) (onTc (τ := Cert.RefSwigluIdeal.τ) (Cert.RefSwigluIdeal.main (F := Ideal))) ⟨m, fun _ => 0, g⟩ (fun r => (∀ c : Dev Cert.RefSwigluIdeal.nD,
      r.2.mem ((c.tc : Thread Cert.RefSwigluIdeal.nD Cert.RefSwigluIdeal.τ).loc Cert.RefSwigluIdeal.main_arg0) = m ((c.tc : Thread Cert.RefSwigluIdeal.nD Cert.RefSwigluIdeal.τ).loc Cert.RefSwigluIdeal.main_arg0)
      ∧ r.2.mem ((c.tc : Thread Cert.RefSwigluIdeal.nD Cert.RefSwigluIdeal.τ).loc Cert.RefSwigluIdeal.main_arg1) = m ((c.tc : Thread Cert.RefSwigluIdeal.nD Cert.RefSwigluIdeal.τ).loc Cert.RefSwigluIdeal.main_arg1)
      ∧ r.2.mem ((c.tc : Thread Cert.RefSwigluIdeal.nD Cert.RefSwigluIdeal.τ).loc Cert.RefSwigluIdeal.main_arg2) = m ((c.tc : Thread Cert.RefSwigluIdeal.nD Cert.RefSwigluIdeal.τ).loc Cert.RefSwigluIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_RefDownIdeal [hRefDownIdeal : Cert.RefDownIdeal.Facts] : Prop :=
  ∀ (m : (ℓ : Loc Cert.RefDownIdeal.nD Cert.RefDownIdeal.τ Cert.RefDownIdeal.sig) → Buf (Elt Ideal) ℓ) (g : Dev Cert.RefDownIdeal.nD → PrngReg), Pre_RefDownIdeal m →
    θ_run (Cert.RefDownIdeal.defs (F := Ideal)) (onTc (τ := Cert.RefDownIdeal.τ) (Cert.RefDownIdeal.main (F := Ideal))) ⟨m, fun _ => 0, g⟩ (fun r => (∀ c : Dev Cert.RefDownIdeal.nD,
      r.2.mem ((c.tc : Thread Cert.RefDownIdeal.nD Cert.RefDownIdeal.τ).loc Cert.RefDownIdeal.main_arg0) = m ((c.tc : Thread Cert.RefDownIdeal.nD Cert.RefDownIdeal.τ).loc Cert.RefDownIdeal.main_arg0)
      ∧ r.2.mem ((c.tc : Thread Cert.RefDownIdeal.nD Cert.RefDownIdeal.τ).loc Cert.RefDownIdeal.main_arg1) = m ((c.tc : Thread Cert.RefDownIdeal.nD Cert.RefDownIdeal.τ).loc Cert.RefDownIdeal.main_arg1))
      ∧ r.2.sem = fun _ => 0)

def quiescent_Ssm [hSsm : Cert.Ssm.Facts] : Prop :=
  ∀ (m : (ℓ : Loc Cert.Ssm.nD Cert.Ssm.τ Cert.Ssm.sig) → Buf (Elt Bits) ℓ) (g : Dev Cert.Ssm.nD → PrngReg), Pre_Ssm m →
    θ_run (Cert.Ssm.defs (F := Bits)) (onTc (τ := Cert.Ssm.τ) (Cert.Ssm.main (F := Bits))) ⟨m, fun _ => 0, g⟩ (fun r => (∀ c : Dev Cert.Ssm.nD,
      r.2.mem ((c.tc : Thread Cert.Ssm.nD Cert.Ssm.τ).loc Cert.Ssm.main_arg0) = m ((c.tc : Thread Cert.Ssm.nD Cert.Ssm.τ).loc Cert.Ssm.main_arg0)
      ∧ r.2.mem ((c.tc : Thread Cert.Ssm.nD Cert.Ssm.τ).loc Cert.Ssm.main_arg1) = m ((c.tc : Thread Cert.Ssm.nD Cert.Ssm.τ).loc Cert.Ssm.main_arg1))
      ∧ r.2.sem = fun _ => 0)

def quiescent_SsmIdeal [hSsmIdeal : Cert.SsmIdeal.Facts] : Prop :=
  ∀ (m : (ℓ : Loc Cert.SsmIdeal.nD Cert.SsmIdeal.τ Cert.SsmIdeal.sig) → Buf (Elt Ideal) ℓ) (g : Dev Cert.SsmIdeal.nD → PrngReg), Pre_SsmIdeal m →
    θ_run (Cert.SsmIdeal.defs (F := Ideal)) (onTc (τ := Cert.SsmIdeal.τ) (Cert.SsmIdeal.main (F := Ideal))) ⟨m, fun _ => 0, g⟩ (fun r => (∀ c : Dev Cert.SsmIdeal.nD,
      r.2.mem ((c.tc : Thread Cert.SsmIdeal.nD Cert.SsmIdeal.τ).loc Cert.SsmIdeal.main_arg0) = m ((c.tc : Thread Cert.SsmIdeal.nD Cert.SsmIdeal.τ).loc Cert.SsmIdeal.main_arg0)
      ∧ r.2.mem ((c.tc : Thread Cert.SsmIdeal.nD Cert.SsmIdeal.τ).loc Cert.SsmIdeal.main_arg1) = m ((c.tc : Thread Cert.SsmIdeal.nD Cert.SsmIdeal.τ).loc Cert.SsmIdeal.main_arg1))
      ∧ r.2.sem = fun _ => 0)

def quiescent_RefSsmIdeal [hRefSsmIdeal : Cert.RefSsmIdeal.Facts] : Prop :=
  ∀ (m : (ℓ : Loc Cert.RefSsmIdeal.nD Cert.RefSsmIdeal.τ Cert.RefSsmIdeal.sig) → Buf (Elt Ideal) ℓ) (g : Dev Cert.RefSsmIdeal.nD → PrngReg), Pre_RefSsmIdeal m →
    θ_run (Cert.RefSsmIdeal.defs (F := Ideal)) (onTc (τ := Cert.RefSsmIdeal.τ) (Cert.RefSsmIdeal.main (F := Ideal))) ⟨m, fun _ => 0, g⟩ (fun r => (∀ c : Dev Cert.RefSsmIdeal.nD,
      r.2.mem ((c.tc : Thread Cert.RefSsmIdeal.nD Cert.RefSsmIdeal.τ).loc Cert.RefSsmIdeal.main_arg0) = m ((c.tc : Thread Cert.RefSsmIdeal.nD Cert.RefSsmIdeal.τ).loc Cert.RefSsmIdeal.main_arg0)
      ∧ r.2.mem ((c.tc : Thread Cert.RefSsmIdeal.nD Cert.RefSsmIdeal.τ).loc Cert.RefSsmIdeal.main_arg1) = m ((c.tc : Thread Cert.RefSsmIdeal.nD Cert.RefSsmIdeal.τ).loc Cert.RefSsmIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_RefOutIdeal [hRefOutIdeal : Cert.RefOutIdeal.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdIdeal_pre_finite_fwd [hFwdIdeal : Cert.FwdIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_fwd m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_RefFwdIdeal [hRefFwdIdeal : Cert.RefFwdIdeal.Facts] : Prop :=
  ∀ (m : (ℓ : Loc Cert.RefFwdIdeal.nD Cert.RefFwdIdeal.τ Cert.RefFwdIdeal.sig) → Buf (Elt Ideal) ℓ) (g : Dev Cert.RefFwdIdeal.nD → PrngReg), Pre_RefFwdIdeal m →
    θ_run (Cert.RefFwdIdeal.defs (F := Ideal)) (onTc (τ := Cert.RefFwdIdeal.τ) (Cert.RefFwdIdeal.main (F := Ideal))) ⟨m, fun _ => 0, g⟩ (fun r => (∀ c : Dev Cert.RefFwdIdeal.nD,
      r.2.mem ((c.tc : Thread Cert.RefFwdIdeal.nD Cert.RefFwdIdeal.τ).loc Cert.RefFwdIdeal.main_arg0) = m ((c.tc : Thread Cert.RefFwdIdeal.nD Cert.RefFwdIdeal.τ).loc Cert.RefFwdIdeal.main_arg0)
      ∧ r.2.mem ((c.tc : Thread Cert.RefFwdIdeal.nD Cert.RefFwdIdeal.τ).loc Cert.RefFwdIdeal.main_arg1) = m ((c.tc : Thread Cert.RefFwdIdeal.nD Cert.RefFwdIdeal.τ).loc Cert.RefFwdIdeal.main_arg1)
      ∧ r.2.mem ((c.tc : Thread Cert.RefFwdIdeal.nD Cert.RefFwdIdeal.τ).loc Cert.RefFwdIdeal.main_arg2) = m ((c.tc : Thread Cert.RefFwdIdeal.nD Cert.RefFwdIdeal.τ).loc Cert.RefFwdIdeal.main_arg2))
      ∧ r.2.sem = fun _ => 0)

def quiescent_RefFwdIdeal_pre_finite_fwd [hRefFwdIdeal : Cert.RefFwdIdeal.Facts] [hPre_finite_fwd : Cert.Pre_finite_fwd.Facts] : Prop :=
  ∀ (m : (ℓ : Loc Cert.RefFwdIdeal.nD Cert.RefFwdIdeal.τ Cert.RefFwdIdeal.sig) → Buf (Elt Ideal) ℓ) (g : Dev Cert.RefFwdIdeal.nD → PrngReg), Pre_RefFwdIdeal_finite_fwd m →
    θ_run (Cert.RefFwdIdeal.defs (F := Ideal)) (onTc (τ := Cert.RefFwdIdeal.τ) (Cert.RefFwdIdeal.main (F := Ideal))) ⟨m, fun _ => 0, g⟩ (fun r => (∀ c : Dev Cert.RefFwdIdeal.nD,
      r.2.mem ((c.tc : Thread Cert.RefFwdIdeal.nD Cert.RefFwdIdeal.τ).loc Cert.RefFwdIdeal.main_arg0) = m ((c.tc : Thread Cert.RefFwdIdeal.nD Cert.RefFwdIdeal.τ).loc Cert.RefFwdIdeal.main_arg0)
      ∧ r.2.mem ((c.tc : Thread Cert.RefFwdIdeal.nD Cert.RefFwdIdeal.τ).loc Cert.RefFwdIdeal.main_arg1) = m ((c.tc : Thread Cert.RefFwdIdeal.nD Cert.RefFwdIdeal.τ).loc Cert.RefFwdIdeal.main_arg1)
      ∧ r.2.mem ((c.tc : Thread Cert.RefFwdIdeal.nD Cert.RefFwdIdeal.τ).loc Cert.RefFwdIdeal.main_arg2) = m ((c.tc : Thread Cert.RefFwdIdeal.nD Cert.RefFwdIdeal.τ).loc Cert.RefFwdIdeal.main_arg2))
      ∧ r.2.sem = fun _ => 0)

def quiescent_BackGate [hBackGate : Cert.BackGate.Facts] : Prop :=
  ∀ (m : (ℓ : Loc Cert.BackGate.nD Cert.BackGate.τ Cert.BackGate.sig) → Buf (Elt Bits) ℓ) (g : Dev Cert.BackGate.nD → PrngReg), Pre_BackGate m →
    θ_run (Cert.BackGate.defs (F := Bits)) (onTc (τ := Cert.BackGate.τ) (Cert.BackGate.main (F := Bits))) ⟨m, fun _ => 0, g⟩ (fun r => (∀ c : Dev Cert.BackGate.nD,
      r.2.mem ((c.tc : Thread Cert.BackGate.nD Cert.BackGate.τ).loc Cert.BackGate.main_arg0) = m ((c.tc : Thread Cert.BackGate.nD Cert.BackGate.τ).loc Cert.BackGate.main_arg0)
      ∧ r.2.mem ((c.tc : Thread Cert.BackGate.nD Cert.BackGate.τ).loc Cert.BackGate.main_arg1) = m ((c.tc : Thread Cert.BackGate.nD Cert.BackGate.τ).loc Cert.BackGate.main_arg1))
      ∧ r.2.sem = fun _ => 0)

def quiescent_BackGateIdeal [hBackGateIdeal : Cert.BackGateIdeal.Facts] : Prop :=
  ∀ (m : (ℓ : Loc Cert.BackGateIdeal.nD Cert.BackGateIdeal.τ Cert.BackGateIdeal.sig) → Buf (Elt Ideal) ℓ) (g : Dev Cert.BackGateIdeal.nD → PrngReg), Pre_BackGateIdeal m →
    θ_run (Cert.BackGateIdeal.defs (F := Ideal)) (onTc (τ := Cert.BackGateIdeal.τ) (Cert.BackGateIdeal.main (F := Ideal))) ⟨m, fun _ => 0, g⟩ (fun r => (∀ c : Dev Cert.BackGateIdeal.nD,
      r.2.mem ((c.tc : Thread Cert.BackGateIdeal.nD Cert.BackGateIdeal.τ).loc Cert.BackGateIdeal.main_arg0) = m ((c.tc : Thread Cert.BackGateIdeal.nD Cert.BackGateIdeal.τ).loc Cert.BackGateIdeal.main_arg0)
      ∧ r.2.mem ((c.tc : Thread Cert.BackGateIdeal.nD Cert.BackGateIdeal.τ).loc Cert.BackGateIdeal.main_arg1) = m ((c.tc : Thread Cert.BackGateIdeal.nD Cert.BackGateIdeal.τ).loc Cert.BackGateIdeal.main_arg1))
      ∧ r.2.sem = fun _ => 0)

def quiescent_RefBackGateIdeal [hRefBackGateIdeal : Cert.RefBackGateIdeal.Facts] : Prop :=
  ∀ (m : (ℓ : Loc Cert.RefBackGateIdeal.nD Cert.RefBackGateIdeal.τ Cert.RefBackGateIdeal.sig) → Buf (Elt Ideal) ℓ) (g : Dev Cert.RefBackGateIdeal.nD → PrngReg), Pre_RefBackGateIdeal m →
    θ_run (Cert.RefBackGateIdeal.defs (F := Ideal)) (onTc (τ := Cert.RefBackGateIdeal.τ) (Cert.RefBackGateIdeal.main (F := Ideal))) ⟨m, fun _ => 0, g⟩ (fun r => (∀ c : Dev Cert.RefBackGateIdeal.nD,
      r.2.mem ((c.tc : Thread Cert.RefBackGateIdeal.nD Cert.RefBackGateIdeal.τ).loc Cert.RefBackGateIdeal.main_arg0) = m ((c.tc : Thread Cert.RefBackGateIdeal.nD Cert.RefBackGateIdeal.τ).loc Cert.RefBackGateIdeal.main_arg0)
      ∧ r.2.mem ((c.tc : Thread Cert.RefBackGateIdeal.nD Cert.RefBackGateIdeal.τ).loc Cert.RefBackGateIdeal.main_arg1) = m ((c.tc : Thread Cert.RefBackGateIdeal.nD Cert.RefBackGateIdeal.τ).loc Cert.RefBackGateIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_RefQkvIdeal [hRefQkvIdeal : Cert.RefQkvIdeal.Facts] : Prop :=
  ∀ (m : (ℓ : Loc Cert.RefQkvIdeal.nD Cert.RefQkvIdeal.τ Cert.RefQkvIdeal.sig) → Buf (Elt Ideal) ℓ) (g : Dev Cert.RefQkvIdeal.nD → PrngReg), Pre_RefQkvIdeal m →
    θ_run (Cert.RefQkvIdeal.defs (F := Ideal)) (onTc (τ := Cert.RefQkvIdeal.τ) (Cert.RefQkvIdeal.main (F := Ideal))) ⟨m, fun _ => 0, g⟩ (fun r => (∀ c : Dev Cert.RefQkvIdeal.nD,
      r.2.mem ((c.tc : Thread Cert.RefQkvIdeal.nD Cert.RefQkvIdeal.τ).loc Cert.RefQkvIdeal.main_arg0) = m ((c.tc : Thread Cert.RefQkvIdeal.nD Cert.RefQkvIdeal.τ).loc Cert.RefQkvIdeal.main_arg0)
      ∧ r.2.mem ((c.tc : Thread Cert.RefQkvIdeal.nD Cert.RefQkvIdeal.τ).loc Cert.RefQkvIdeal.main_arg1) = m ((c.tc : Thread Cert.RefQkvIdeal.nD Cert.RefQkvIdeal.τ).loc Cert.RefQkvIdeal.main_arg1))
      ∧ r.2.sem = fun _ => 0)

def quiescent_Uq [hUq : Cert.Uq.Facts] : Prop :=
  ∀ (m : (ℓ : Loc Cert.Uq.nD Cert.Uq.τ Cert.Uq.sig) → Buf (Elt Bits) ℓ) (g : Dev Cert.Uq.nD → PrngReg), Pre_Uq m →
    θ_run (Cert.Uq.defs (F := Bits)) (onTc (τ := Cert.Uq.τ) (Cert.Uq.main (F := Bits))) ⟨m, fun _ => 0, g⟩ (fun r => (∀ c : Dev Cert.Uq.nD,
      r.2.mem ((c.tc : Thread Cert.Uq.nD Cert.Uq.τ).loc Cert.Uq.main_arg0) = m ((c.tc : Thread Cert.Uq.nD Cert.Uq.τ).loc Cert.Uq.main_arg0)
      ∧ r.2.mem ((c.tc : Thread Cert.Uq.nD Cert.Uq.τ).loc Cert.Uq.main_arg1) = m ((c.tc : Thread Cert.Uq.nD Cert.Uq.τ).loc Cert.Uq.main_arg1))
      ∧ r.2.sem = fun _ => 0)

def quiescent_UqIdeal [hUqIdeal : Cert.UqIdeal.Facts] : Prop :=
  ∀ (m : (ℓ : Loc Cert.UqIdeal.nD Cert.UqIdeal.τ Cert.UqIdeal.sig) → Buf (Elt Ideal) ℓ) (g : Dev Cert.UqIdeal.nD → PrngReg), Pre_UqIdeal m →
    θ_run (Cert.UqIdeal.defs (F := Ideal)) (onTc (τ := Cert.UqIdeal.τ) (Cert.UqIdeal.main (F := Ideal))) ⟨m, fun _ => 0, g⟩ (fun r => (∀ c : Dev Cert.UqIdeal.nD,
      r.2.mem ((c.tc : Thread Cert.UqIdeal.nD Cert.UqIdeal.τ).loc Cert.UqIdeal.main_arg0) = m ((c.tc : Thread Cert.UqIdeal.nD Cert.UqIdeal.τ).loc Cert.UqIdeal.main_arg0)
      ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ r.2.sem = fun _ => 0)

def quiescent_RefUqIdeal [hRefUqIdeal : Cert.RefUqIdeal.Facts] : Prop :=
  ∀ (m : (ℓ : Loc Cert.RefUqIdeal.nD Cert.RefUqIdeal.τ Cert.RefUqIdeal.sig) → Buf (Elt Ideal) ℓ) (g : Dev Cert.RefUqIdeal.nD → PrngReg), Pre_RefUqIdeal m →
    θ_run (Cert.RefUqIdeal.defs (F := Ideal)) (onTc (τ := Cert.RefUqIdeal.τ) (Cert.RefUqIdeal.main (F := Ideal))) ⟨m, fun _ => 0, g⟩ (fun r => (∀ c : Dev Cert.RefUqIdeal.nD,
      r.2.mem ((c.tc : Thread Cert.RefUqIdeal.nD Cert.RefUqIdeal.τ).loc Cert.RefUqIdeal.main_arg0) = m ((c.tc : Thread Cert.RefUqIdeal.nD Cert.RefUqIdeal.τ).loc Cert.RefUqIdeal.main_arg0)
      ∧ r.2.mem ((c.tc : Thread Cert.RefUqIdeal.nD Cert.RefUqIdeal.τ).loc Cert.RefUqIdeal.main_arg1) = m ((c.tc : Thread Cert.RefUqIdeal.nD Cert.RefUqIdeal.τ).loc Cert.RefUqIdeal.main_arg1))
      ∧ r.2.sem = fun _ => 0)

def quiescent_Ukv [hUkv : Cert.Ukv.Facts] : Prop :=
  ∀ (m : (ℓ : Loc Cert.Ukv.nD Cert.Ukv.τ Cert.Ukv.sig) → Buf (Elt Bits) ℓ) (g : Dev Cert.Ukv.nD → PrngReg), Pre_Ukv m →
    θ_run (Cert.Ukv.defs (F := Bits)) (onTc (τ := Cert.Ukv.τ) (Cert.Ukv.main (F := Bits))) ⟨m, fun _ => 0, g⟩ (fun r => (∀ c : Dev Cert.Ukv.nD,
      r.2.mem ((c.tc : Thread Cert.Ukv.nD Cert.Ukv.τ).loc Cert.Ukv.main_arg0) = m ((c.tc : Thread Cert.Ukv.nD Cert.Ukv.τ).loc Cert.Ukv.main_arg0)
      ∧ r.2.mem ((c.tc : Thread Cert.Ukv.nD Cert.Ukv.τ).loc Cert.Ukv.main_arg1) = m ((c.tc : Thread Cert.Ukv.nD Cert.Ukv.τ).loc Cert.Ukv.main_arg1))
      ∧ r.2.sem = fun _ => 0)

def quiescent_UkvIdeal [hUkvIdeal : Cert.UkvIdeal.Facts] : Prop :=
  ∀ (m : (ℓ : Loc Cert.UkvIdeal.nD Cert.UkvIdeal.τ Cert.UkvIdeal.sig) → Buf (Elt Ideal) ℓ) (g : Dev Cert.UkvIdeal.nD → PrngReg), Pre_UkvIdeal m →
    θ_run (Cert.UkvIdeal.defs (F := Ideal)) (onTc (τ := Cert.UkvIdeal.τ) (Cert.UkvIdeal.main (F := Ideal))) ⟨m, fun _ => 0, g⟩ (fun r => (∀ c : Dev Cert.UkvIdeal.nD,
      r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
      ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1))
      ∧ r.2.sem = fun _ => 0)

def quiescent_RefUkvIdeal [hRefUkvIdeal : Cert.RefUkvIdeal.Facts] : Prop :=
  ∀ (m : (ℓ : Loc Cert.RefUkvIdeal.nD Cert.RefUkvIdeal.τ Cert.RefUkvIdeal.sig) → Buf (Elt Ideal) ℓ) (g : Dev Cert.RefUkvIdeal.nD → PrngReg), Pre_RefUkvIdeal m →
    θ_run (Cert.RefUkvIdeal.defs (F := Ideal)) (onTc (τ := Cert.RefUkvIdeal.τ) (Cert.RefUkvIdeal.main (F := Ideal))) ⟨m, fun _ => 0, g⟩ (fun r => (∀ c : Dev Cert.RefUkvIdeal.nD,
      r.2.mem ((c.tc : Thread Cert.RefUkvIdeal.nD Cert.RefUkvIdeal.τ).loc Cert.RefUkvIdeal.main_arg0) = m ((c.tc : Thread Cert.RefUkvIdeal.nD Cert.RefUkvIdeal.τ).loc Cert.RefUkvIdeal.main_arg0)
      ∧ r.2.mem ((c.tc : Thread Cert.RefUkvIdeal.nD Cert.RefUkvIdeal.τ).loc Cert.RefUkvIdeal.main_arg1) = m ((c.tc : Thread Cert.RefUkvIdeal.nD Cert.RefUkvIdeal.τ).loc Cert.RefUkvIdeal.main_arg1))
      ∧ r.2.sem = fun _ => 0)

def quiescent_BackUq [hBackUq : Cert.BackUq.Facts] : Prop :=
  ∀ (m : (ℓ : Loc Cert.BackUq.nD Cert.BackUq.τ Cert.BackUq.sig) → Buf (Elt Bits) ℓ) (g : Dev Cert.BackUq.nD → PrngReg), Pre_BackUq m →
    θ_run (Cert.BackUq.defs (F := Bits)) (onTc (τ := Cert.BackUq.τ) (Cert.BackUq.main (F := Bits))) ⟨m, fun _ => 0, g⟩ (fun r => (∀ c : Dev Cert.BackUq.nD,
      r.2.mem ((c.tc : Thread Cert.BackUq.nD Cert.BackUq.τ).loc Cert.BackUq.main_arg0) = m ((c.tc : Thread Cert.BackUq.nD Cert.BackUq.τ).loc Cert.BackUq.main_arg0)
      ∧ r.2.mem ((c.tc : Thread Cert.BackUq.nD Cert.BackUq.τ).loc Cert.BackUq.main_arg1) = m ((c.tc : Thread Cert.BackUq.nD Cert.BackUq.τ).loc Cert.BackUq.main_arg1))
      ∧ r.2.sem = fun _ => 0)

def quiescent_BackUqIdeal [hBackUqIdeal : Cert.BackUqIdeal.Facts] : Prop :=
  ∀ (m : (ℓ : Loc Cert.BackUqIdeal.nD Cert.BackUqIdeal.τ Cert.BackUqIdeal.sig) → Buf (Elt Ideal) ℓ) (g : Dev Cert.BackUqIdeal.nD → PrngReg), Pre_BackUqIdeal m →
    θ_run (Cert.BackUqIdeal.defs (F := Ideal)) (onTc (τ := Cert.BackUqIdeal.τ) (Cert.BackUqIdeal.main (F := Ideal))) ⟨m, fun _ => 0, g⟩ (fun r => (∀ c : Dev Cert.BackUqIdeal.nD,
      r.2.mem ((c.tc : Thread Cert.BackUqIdeal.nD Cert.BackUqIdeal.τ).loc Cert.BackUqIdeal.main_arg0) = m ((c.tc : Thread Cert.BackUqIdeal.nD Cert.BackUqIdeal.τ).loc Cert.BackUqIdeal.main_arg0)
      ∧ r.2.mem ((c.tc : Thread Cert.BackUqIdeal.nD Cert.BackUqIdeal.τ).loc Cert.BackUqIdeal.main_arg1) = m ((c.tc : Thread Cert.BackUqIdeal.nD Cert.BackUqIdeal.τ).loc Cert.BackUqIdeal.main_arg1))
      ∧ r.2.sem = fun _ => 0)

def quiescent_RefBackUqIdeal [hRefBackUqIdeal : Cert.RefBackUqIdeal.Facts] : Prop :=
  ∀ (m : (ℓ : Loc Cert.RefBackUqIdeal.nD Cert.RefBackUqIdeal.τ Cert.RefBackUqIdeal.sig) → Buf (Elt Ideal) ℓ) (g : Dev Cert.RefBackUqIdeal.nD → PrngReg), Pre_RefBackUqIdeal m →
    θ_run (Cert.RefBackUqIdeal.defs (F := Ideal)) (onTc (τ := Cert.RefBackUqIdeal.τ) (Cert.RefBackUqIdeal.main (F := Ideal))) ⟨m, fun _ => 0, g⟩ (fun r => (∀ c : Dev Cert.RefBackUqIdeal.nD,
      r.2.mem ((c.tc : Thread Cert.RefBackUqIdeal.nD Cert.RefBackUqIdeal.τ).loc Cert.RefBackUqIdeal.main_arg0) = m ((c.tc : Thread Cert.RefBackUqIdeal.nD Cert.RefBackUqIdeal.τ).loc Cert.RefBackUqIdeal.main_arg0)
      ∧ r.2.mem ((c.tc : Thread Cert.RefBackUqIdeal.nD Cert.RefBackUqIdeal.τ).loc Cert.RefBackUqIdeal.main_arg1) = m ((c.tc : Thread Cert.RefBackUqIdeal.nD Cert.RefBackUqIdeal.τ).loc Cert.RefBackUqIdeal.main_arg1))
      ∧ r.2.sem = fun _ => 0)

def quiescent_GradUq [hGradUq : Cert.GradUq.Facts] : Prop :=
  ∀ (m : (ℓ : Loc Cert.GradUq.nD Cert.GradUq.τ Cert.GradUq.sig) → Buf (Elt Bits) ℓ) (g : Dev Cert.GradUq.nD → PrngReg), Pre_GradUq m →
    θ_run (Cert.GradUq.defs (F := Bits)) (onTc (τ := Cert.GradUq.τ) (Cert.GradUq.main (F := Bits))) ⟨m, fun _ => 0, g⟩ (fun r => (∀ c : Dev Cert.GradUq.nD,
      r.2.mem ((c.tc : Thread Cert.GradUq.nD Cert.GradUq.τ).loc Cert.GradUq.main_arg0) = m ((c.tc : Thread Cert.GradUq.nD Cert.GradUq.τ).loc Cert.GradUq.main_arg0)
      ∧ r.2.mem ((c.tc : Thread Cert.GradUq.nD Cert.GradUq.τ).loc Cert.GradUq.main_arg1) = m ((c.tc : Thread Cert.GradUq.nD Cert.GradUq.τ).loc Cert.GradUq.main_arg1))
      ∧ r.2.sem = fun _ => 0)

def quiescent_GradUqIdeal [hGradUqIdeal : Cert.GradUqIdeal.Facts] : Prop :=
  ∀ (m : (ℓ : Loc Cert.GradUqIdeal.nD Cert.GradUqIdeal.τ Cert.GradUqIdeal.sig) → Buf (Elt Ideal) ℓ) (g : Dev Cert.GradUqIdeal.nD → PrngReg), Pre_GradUqIdeal m →
    θ_run (Cert.GradUqIdeal.defs (F := Ideal)) (onTc (τ := Cert.GradUqIdeal.τ) (Cert.GradUqIdeal.main (F := Ideal))) ⟨m, fun _ => 0, g⟩ (fun r => (∀ c : Dev Cert.GradUqIdeal.nD,
      r.2.mem ((c.tc : Thread Cert.GradUqIdeal.nD Cert.GradUqIdeal.τ).loc Cert.GradUqIdeal.main_arg0) = m ((c.tc : Thread Cert.GradUqIdeal.nD Cert.GradUqIdeal.τ).loc Cert.GradUqIdeal.main_arg0)
      ∧ r.2.mem ((c.tc : Thread Cert.GradUqIdeal.nD Cert.GradUqIdeal.τ).loc Cert.GradUqIdeal.main_arg1) = m ((c.tc : Thread Cert.GradUqIdeal.nD Cert.GradUqIdeal.τ).loc Cert.GradUqIdeal.main_arg1))
      ∧ r.2.sem = fun _ => 0)

def quiescent_RefGradUqIdeal [hRefGradUqIdeal : Cert.RefGradUqIdeal.Facts] : Prop :=
  ∀ (m : (ℓ : Loc Cert.RefGradUqIdeal.nD Cert.RefGradUqIdeal.τ Cert.RefGradUqIdeal.sig) → Buf (Elt Ideal) ℓ) (g : Dev Cert.RefGradUqIdeal.nD → PrngReg), Pre_RefGradUqIdeal m →
    θ_run (Cert.RefGradUqIdeal.defs (F := Ideal)) (onTc (τ := Cert.RefGradUqIdeal.τ) (Cert.RefGradUqIdeal.main (F := Ideal))) ⟨m, fun _ => 0, g⟩ (fun r => (∀ c : Dev Cert.RefGradUqIdeal.nD,
      r.2.mem ((c.tc : Thread Cert.RefGradUqIdeal.nD Cert.RefGradUqIdeal.τ).loc Cert.RefGradUqIdeal.main_arg0) = m ((c.tc : Thread Cert.RefGradUqIdeal.nD Cert.RefGradUqIdeal.τ).loc Cert.RefGradUqIdeal.main_arg0)
      ∧ r.2.mem ((c.tc : Thread Cert.RefGradUqIdeal.nD Cert.RefGradUqIdeal.τ).loc Cert.RefGradUqIdeal.main_arg1) = m ((c.tc : Thread Cert.RefGradUqIdeal.nD Cert.RefGradUqIdeal.τ).loc Cert.RefGradUqIdeal.main_arg1))
      ∧ r.2.sem = fun _ => 0)

def quiescent_GradQkv [hGradQkv : Cert.GradQkv.Facts] : Prop :=
  ∀ (m : (ℓ : Loc Cert.GradQkv.nD Cert.GradQkv.τ Cert.GradQkv.sig) → Buf (Elt Bits) ℓ) (g : Dev Cert.GradQkv.nD → PrngReg), Pre_GradQkv m →
    θ_run (Cert.GradQkv.defs (F := Bits)) (onTc (τ := Cert.GradQkv.τ) (Cert.GradQkv.main (F := Bits))) ⟨m, fun _ => 0, g⟩ (fun r => (∀ c : Dev Cert.GradQkv.nD,
      r.2.mem ((c.tc : Thread Cert.GradQkv.nD Cert.GradQkv.τ).loc Cert.GradQkv.main_arg0) = m ((c.tc : Thread Cert.GradQkv.nD Cert.GradQkv.τ).loc Cert.GradQkv.main_arg0)
      ∧ r.2.mem ((c.tc : Thread Cert.GradQkv.nD Cert.GradQkv.τ).loc Cert.GradQkv.main_arg1) = m ((c.tc : Thread Cert.GradQkv.nD Cert.GradQkv.τ).loc Cert.GradQkv.main_arg1))
      ∧ r.2.sem = fun _ => 0)

def quiescent_GradQkvIdeal [hGradQkvIdeal : Cert.GradQkvIdeal.Facts] : Prop :=
  ∀ (m : (ℓ : Loc Cert.GradQkvIdeal.nD Cert.GradQkvIdeal.τ Cert.GradQkvIdeal.sig) → Buf (Elt Ideal) ℓ) (g : Dev Cert.GradQkvIdeal.nD → PrngReg), Pre_GradQkvIdeal m →
    θ_run (Cert.GradQkvIdeal.defs (F := Ideal)) (onTc (τ := Cert.GradQkvIdeal.τ) (Cert.GradQkvIdeal.main (F := Ideal))) ⟨m, fun _ => 0, g⟩ (fun r => (∀ c : Dev Cert.GradQkvIdeal.nD,
      r.2.mem ((c.tc : Thread Cert.GradQkvIdeal.nD Cert.GradQkvIdeal.τ).loc Cert.GradQkvIdeal.main_arg0) = m ((c.tc : Thread Cert.GradQkvIdeal.nD Cert.GradQkvIdeal.τ).loc Cert.GradQkvIdeal.main_arg0)
      ∧ r.2.mem ((c.tc : Thread Cert.GradQkvIdeal.nD Cert.GradQkvIdeal.τ).loc Cert.GradQkvIdeal.main_arg1) = m ((c.tc : Thread Cert.GradQkvIdeal.nD Cert.GradQkvIdeal.τ).loc Cert.GradQkvIdeal.main_arg1))
      ∧ r.2.sem = fun _ => 0)

def quiescent_RefGradQkvIdeal [hRefGradQkvIdeal : Cert.RefGradQkvIdeal.Facts] : Prop :=
  ∀ (m : (ℓ : Loc Cert.RefGradQkvIdeal.nD Cert.RefGradQkvIdeal.τ Cert.RefGradQkvIdeal.sig) → Buf (Elt Ideal) ℓ) (g : Dev Cert.RefGradQkvIdeal.nD → PrngReg), Pre_RefGradQkvIdeal m →
    θ_run (Cert.RefGradQkvIdeal.defs (F := Ideal)) (onTc (τ := Cert.RefGradQkvIdeal.τ) (Cert.RefGradQkvIdeal.main (F := Ideal))) ⟨m, fun _ => 0, g⟩ (fun r => (∀ c : Dev Cert.RefGradQkvIdeal.nD,
      r.2.mem ((c.tc : Thread Cert.RefGradQkvIdeal.nD Cert.RefGradQkvIdeal.τ).loc Cert.RefGradQkvIdeal.main_arg0) = m ((c.tc : Thread Cert.RefGradQkvIdeal.nD Cert.RefGradQkvIdeal.τ).loc Cert.RefGradQkvIdeal.main_arg0)
      ∧ r.2.mem ((c.tc : Thread Cert.RefGradQkvIdeal.nD Cert.RefGradQkvIdeal.τ).loc Cert.RefGradQkvIdeal.main_arg1) = m ((c.tc : Thread Cert.RefGradQkvIdeal.nD Cert.RefGradQkvIdeal.τ).loc Cert.RefGradQkvIdeal.main_arg1))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3))
      ∧ r.2.sem = fun _ => 0)

def quiescent_RefMixBwdIdeal [hRefMixBwdIdeal : Cert.RefMixBwdIdeal.Facts] : Prop :=
  ∀ (m : (ℓ : Loc Cert.RefMixBwdIdeal.nD Cert.RefMixBwdIdeal.τ Cert.RefMixBwdIdeal.sig) → Buf (Elt Ideal) ℓ) (g : Dev Cert.RefMixBwdIdeal.nD → PrngReg), Pre_RefMixBwdIdeal m →
    θ_run (Cert.RefMixBwdIdeal.defs (F := Ideal)) (onTc (τ := Cert.RefMixBwdIdeal.τ) (Cert.RefMixBwdIdeal.main (F := Ideal))) ⟨m, fun _ => 0, g⟩ (fun r => (∀ c : Dev Cert.RefMixBwdIdeal.nD,
      r.2.mem ((c.tc : Thread Cert.RefMixBwdIdeal.nD Cert.RefMixBwdIdeal.τ).loc Cert.RefMixBwdIdeal.main_arg0) = m ((c.tc : Thread Cert.RefMixBwdIdeal.nD Cert.RefMixBwdIdeal.τ).loc Cert.RefMixBwdIdeal.main_arg0)
      ∧ r.2.mem ((c.tc : Thread Cert.RefMixBwdIdeal.nD Cert.RefMixBwdIdeal.τ).loc Cert.RefMixBwdIdeal.main_arg1) = m ((c.tc : Thread Cert.RefMixBwdIdeal.nD Cert.RefMixBwdIdeal.τ).loc Cert.RefMixBwdIdeal.main_arg1)
      ∧ r.2.mem ((c.tc : Thread Cert.RefMixBwdIdeal.nD Cert.RefMixBwdIdeal.τ).loc Cert.RefMixBwdIdeal.main_arg2) = m ((c.tc : Thread Cert.RefMixBwdIdeal.nD Cert.RefMixBwdIdeal.τ).loc Cert.RefMixBwdIdeal.main_arg2)
      ∧ r.2.mem ((c.tc : Thread Cert.RefMixBwdIdeal.nD Cert.RefMixBwdIdeal.τ).loc Cert.RefMixBwdIdeal.main_arg3) = m ((c.tc : Thread Cert.RefMixBwdIdeal.nD Cert.RefMixBwdIdeal.τ).loc Cert.RefMixBwdIdeal.main_arg3))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_RefNormBwdIdeal [hRefNormBwdIdeal : Cert.RefNormBwdIdeal.Facts] : Prop :=
  ∀ (m : (ℓ : Loc Cert.RefNormBwdIdeal.nD Cert.RefNormBwdIdeal.τ Cert.RefNormBwdIdeal.sig) → Buf (Elt Ideal) ℓ) (g : Dev Cert.RefNormBwdIdeal.nD → PrngReg), Pre_RefNormBwdIdeal m →
    θ_run (Cert.RefNormBwdIdeal.defs (F := Ideal)) (onTc (τ := Cert.RefNormBwdIdeal.τ) (Cert.RefNormBwdIdeal.main (F := Ideal))) ⟨m, fun _ => 0, g⟩ (fun r => (∀ c : Dev Cert.RefNormBwdIdeal.nD,
      r.2.mem ((c.tc : Thread Cert.RefNormBwdIdeal.nD Cert.RefNormBwdIdeal.τ).loc Cert.RefNormBwdIdeal.main_arg0) = m ((c.tc : Thread Cert.RefNormBwdIdeal.nD Cert.RefNormBwdIdeal.τ).loc Cert.RefNormBwdIdeal.main_arg0)
      ∧ r.2.mem ((c.tc : Thread Cert.RefNormBwdIdeal.nD Cert.RefNormBwdIdeal.τ).loc Cert.RefNormBwdIdeal.main_arg1) = m ((c.tc : Thread Cert.RefNormBwdIdeal.nD Cert.RefNormBwdIdeal.τ).loc Cert.RefNormBwdIdeal.main_arg1)
      ∧ r.2.mem ((c.tc : Thread Cert.RefNormBwdIdeal.nD Cert.RefNormBwdIdeal.τ).loc Cert.RefNormBwdIdeal.main_arg2) = m ((c.tc : Thread Cert.RefNormBwdIdeal.nD Cert.RefNormBwdIdeal.τ).loc Cert.RefNormBwdIdeal.main_arg2)
      ∧ r.2.mem ((c.tc : Thread Cert.RefNormBwdIdeal.nD Cert.RefNormBwdIdeal.τ).loc Cert.RefNormBwdIdeal.main_arg3) = m ((c.tc : Thread Cert.RefNormBwdIdeal.nD Cert.RefNormBwdIdeal.τ).loc Cert.RefNormBwdIdeal.main_arg3))
      ∧ r.2.sem = fun _ => 0)

def quiescent_PostBwd [hPostBwd : Cert.PostBwd.Facts] : Prop :=
  ∀ (m : (ℓ : Loc Cert.PostBwd.nD Cert.PostBwd.τ Cert.PostBwd.sig) → Buf (Elt Bits) ℓ) (g : Dev Cert.PostBwd.nD → PrngReg), Pre_PostBwd m →
    θ_run (Cert.PostBwd.defs (F := Bits)) (onTc (τ := Cert.PostBwd.τ) (Cert.PostBwd.main (F := Bits))) ⟨m, fun _ => 0, g⟩ (fun r => (∀ c : Dev Cert.PostBwd.nD,
      r.2.mem ((c.tc : Thread Cert.PostBwd.nD Cert.PostBwd.τ).loc Cert.PostBwd.main_arg0) = m ((c.tc : Thread Cert.PostBwd.nD Cert.PostBwd.τ).loc Cert.PostBwd.main_arg0)
      ∧ r.2.mem ((c.tc : Thread Cert.PostBwd.nD Cert.PostBwd.τ).loc Cert.PostBwd.main_arg1) = m ((c.tc : Thread Cert.PostBwd.nD Cert.PostBwd.τ).loc Cert.PostBwd.main_arg1)
      ∧ r.2.mem ((c.tc : Thread Cert.PostBwd.nD Cert.PostBwd.τ).loc Cert.PostBwd.main_arg2) = m ((c.tc : Thread Cert.PostBwd.nD Cert.PostBwd.τ).loc Cert.PostBwd.main_arg2)
      ∧ r.2.mem ((c.tc : Thread Cert.PostBwd.nD Cert.PostBwd.τ).loc Cert.PostBwd.main_arg3) = m ((c.tc : Thread Cert.PostBwd.nD Cert.PostBwd.τ).loc Cert.PostBwd.main_arg3)
      ∧ r.2.mem ((c.tc : Thread Cert.PostBwd.nD Cert.PostBwd.τ).loc Cert.PostBwd.main_arg4) = m ((c.tc : Thread Cert.PostBwd.nD Cert.PostBwd.τ).loc Cert.PostBwd.main_arg4)
      ∧ r.2.mem ((c.tc : Thread Cert.PostBwd.nD Cert.PostBwd.τ).loc Cert.PostBwd.main_arg5) = m ((c.tc : Thread Cert.PostBwd.nD Cert.PostBwd.τ).loc Cert.PostBwd.main_arg5))
      ∧ r.2.sem = fun _ => 0)

def quiescent_PostBwdIdeal [hPostBwdIdeal : Cert.PostBwdIdeal.Facts] : Prop :=
  ∀ (m : (ℓ : Loc Cert.PostBwdIdeal.nD Cert.PostBwdIdeal.τ Cert.PostBwdIdeal.sig) → Buf (Elt Ideal) ℓ) (g : Dev Cert.PostBwdIdeal.nD → PrngReg), Pre_PostBwdIdeal m →
    θ_run (Cert.PostBwdIdeal.defs (F := Ideal)) (onTc (τ := Cert.PostBwdIdeal.τ) (Cert.PostBwdIdeal.main (F := Ideal))) ⟨m, fun _ => 0, g⟩ (fun r => (∀ c : Dev Cert.PostBwdIdeal.nD,
      r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
      ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
      ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
      ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3)
      ∧ r.2.mem ((c.tc : Thread Cert.PostBwdIdeal.nD Cert.PostBwdIdeal.τ).loc Cert.PostBwdIdeal.main_arg4) = m ((c.tc : Thread Cert.PostBwdIdeal.nD Cert.PostBwdIdeal.τ).loc Cert.PostBwdIdeal.main_arg4)
      ∧ r.2.mem ((c.tc : Thread Cert.PostBwdIdeal.nD Cert.PostBwdIdeal.τ).loc Cert.PostBwdIdeal.main_arg5) = m ((c.tc : Thread Cert.PostBwdIdeal.nD Cert.PostBwdIdeal.τ).loc Cert.PostBwdIdeal.main_arg5))
      ∧ r.2.sem = fun _ => 0)

def quiescent_RefPostBwdIdeal [hRefPostBwdIdeal : Cert.RefPostBwdIdeal.Facts] : Prop :=
  ∀ (m : (ℓ : Loc Cert.RefPostBwdIdeal.nD Cert.RefPostBwdIdeal.τ Cert.RefPostBwdIdeal.sig) → Buf (Elt Ideal) ℓ) (g : Dev Cert.RefPostBwdIdeal.nD → PrngReg), Pre_RefPostBwdIdeal m →
    θ_run (Cert.RefPostBwdIdeal.defs (F := Ideal)) (onTc (τ := Cert.RefPostBwdIdeal.τ) (Cert.RefPostBwdIdeal.main (F := Ideal))) ⟨m, fun _ => 0, g⟩ (fun r => (∀ c : Dev Cert.RefPostBwdIdeal.nD,
      r.2.mem ((c.tc : Thread Cert.RefPostBwdIdeal.nD Cert.RefPostBwdIdeal.τ).loc Cert.RefPostBwdIdeal.main_arg0) = m ((c.tc : Thread Cert.RefPostBwdIdeal.nD Cert.RefPostBwdIdeal.τ).loc Cert.RefPostBwdIdeal.main_arg0)
      ∧ r.2.mem ((c.tc : Thread Cert.RefPostBwdIdeal.nD Cert.RefPostBwdIdeal.τ).loc Cert.RefPostBwdIdeal.main_arg1) = m ((c.tc : Thread Cert.RefPostBwdIdeal.nD Cert.RefPostBwdIdeal.τ).loc Cert.RefPostBwdIdeal.main_arg1)
      ∧ r.2.mem ((c.tc : Thread Cert.RefPostBwdIdeal.nD Cert.RefPostBwdIdeal.τ).loc Cert.RefPostBwdIdeal.main_arg2) = m ((c.tc : Thread Cert.RefPostBwdIdeal.nD Cert.RefPostBwdIdeal.τ).loc Cert.RefPostBwdIdeal.main_arg2)
      ∧ r.2.mem ((c.tc : Thread Cert.RefPostBwdIdeal.nD Cert.RefPostBwdIdeal.τ).loc Cert.RefPostBwdIdeal.main_arg3) = m ((c.tc : Thread Cert.RefPostBwdIdeal.nD Cert.RefPostBwdIdeal.τ).loc Cert.RefPostBwdIdeal.main_arg3)
      ∧ r.2.mem ((c.tc : Thread Cert.RefPostBwdIdeal.nD Cert.RefPostBwdIdeal.τ).loc Cert.RefPostBwdIdeal.main_arg4) = m ((c.tc : Thread Cert.RefPostBwdIdeal.nD Cert.RefPostBwdIdeal.τ).loc Cert.RefPostBwdIdeal.main_arg4)
      ∧ r.2.mem ((c.tc : Thread Cert.RefPostBwdIdeal.nD Cert.RefPostBwdIdeal.τ).loc Cert.RefPostBwdIdeal.main_arg5) = m ((c.tc : Thread Cert.RefPostBwdIdeal.nD Cert.RefPostBwdIdeal.τ).loc Cert.RefPostBwdIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_RefLossIdeal [hRefLossIdeal : Cert.RefLossIdeal.Facts] : Prop :=
  ∀ (m : (ℓ : Loc Cert.RefLossIdeal.nD Cert.RefLossIdeal.τ Cert.RefLossIdeal.sig) → Buf (Elt Ideal) ℓ) (g : Dev Cert.RefLossIdeal.nD → PrngReg), Pre_RefLossIdeal m →
    θ_run (Cert.RefLossIdeal.defs (F := Ideal)) (onTc (τ := Cert.RefLossIdeal.τ) (Cert.RefLossIdeal.main (F := Ideal))) ⟨m, fun _ => 0, g⟩ (fun r => (∀ c : Dev Cert.RefLossIdeal.nD,
      r.2.mem ((c.tc : Thread Cert.RefLossIdeal.nD Cert.RefLossIdeal.τ).loc Cert.RefLossIdeal.main_arg0) = m ((c.tc : Thread Cert.RefLossIdeal.nD Cert.RefLossIdeal.τ).loc Cert.RefLossIdeal.main_arg0)
      ∧ r.2.mem ((c.tc : Thread Cert.RefLossIdeal.nD Cert.RefLossIdeal.τ).loc Cert.RefLossIdeal.main_arg1) = m ((c.tc : Thread Cert.RefLossIdeal.nD Cert.RefLossIdeal.τ).loc Cert.RefLossIdeal.main_arg1)
      ∧ r.2.mem ((c.tc : Thread Cert.RefLossIdeal.nD Cert.RefLossIdeal.τ).loc Cert.RefLossIdeal.main_arg2) = m ((c.tc : Thread Cert.RefLossIdeal.nD Cert.RefLossIdeal.τ).loc Cert.RefLossIdeal.main_arg2)
      ∧ r.2.mem ((c.tc : Thread Cert.RefLossIdeal.nD Cert.RefLossIdeal.τ).loc Cert.RefLossIdeal.main_arg3) = m ((c.tc : Thread Cert.RefLossIdeal.nD Cert.RefLossIdeal.τ).loc Cert.RefLossIdeal.main_arg3)
      ∧ r.2.mem ((c.tc : Thread Cert.RefLossIdeal.nD Cert.RefLossIdeal.τ).loc Cert.RefLossIdeal.main_arg4) = m ((c.tc : Thread Cert.RefLossIdeal.nD Cert.RefLossIdeal.τ).loc Cert.RefLossIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v67_0)) (v1 : (c : Dev Cert.KernelIdeal.nD) → Buf (Elt Ideal) ((c.tc : Thread Cert.KernelIdeal.nD Cert.KernelIdeal.τ).loc Cert.KernelIdeal.main_v67_1)) (v2 : (c : Dev Cert.KernelIdeal.nD) → Buf (Elt Ideal) ((c.tc : Thread Cert.KernelIdeal.nD Cert.KernelIdeal.τ).loc Cert.KernelIdeal.main_v67_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67_0) = v0 c
          ∧ r.2.mem ((c.tc : Thread Cert.KernelIdeal.nD Cert.KernelIdeal.τ).loc Cert.KernelIdeal.main_v67_1) = v1 c
          ∧ r.2.mem ((c.tc : Thread Cert.KernelIdeal.nD Cert.KernelIdeal.τ).loc Cert.KernelIdeal.main_v67_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_GradDown_GradDownIdeal : Prop :=
  True

def algebraic_GradDownIdeal_RefGradDownIdeal [hGradDownIdeal : Cert.GradDownIdeal.Facts] [hRefGradDownIdeal : Cert.RefGradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.RefGradDownIdeal.nD Cert.RefGradDownIdeal.τ Cert.RefGradDownIdeal.sig) → Buf (Elt Ideal) ℓ) (g' : Dev Cert.RefGradDownIdeal.nD → PrngReg), Pre_GradDownIdeal m →
    (∀ c : Dev Cert.GradDownIdeal.nD,
      m' ((c.tc : Thread Cert.RefGradDownIdeal.nD Cert.RefGradDownIdeal.τ).loc Cert.RefGradDownIdeal.main_arg0) = m ((c.tc : Thread Cert.GradDownIdeal.nD Cert.GradDownIdeal.τ).loc Cert.GradDownIdeal.main_arg0)
      ∧ m' ((c.tc : Thread Cert.RefGradDownIdeal.nD Cert.RefGradDownIdeal.τ).loc Cert.RefGradDownIdeal.main_arg1) = m ((c.tc : Thread Cert.GradDownIdeal.nD Cert.GradDownIdeal.τ).loc Cert.GradDownIdeal.main_arg1)) →
    ∃ (v0 : (c : Dev Cert.GradDownIdeal.nD) → Buf (Elt Ideal) ((c.tc : Thread Cert.GradDownIdeal.nD Cert.GradDownIdeal.τ).loc Cert.GradDownIdeal.main_v0)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v0) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ θ_run (Cert.RefGradDownIdeal.defs (F := Ideal)) (onTc (τ := Cert.RefGradDownIdeal.τ) (Cert.RefGradDownIdeal.main (F := Ideal))) ⟨m', fun _ => 0, g'⟩ (fun r => ∀ c : Dev Cert.RefGradDownIdeal.nD,
          r.2.mem ((c.tc : Thread Cert.RefGradDownIdeal.nD Cert.RefGradDownIdeal.τ).loc Cert.RefGradDownIdeal.main_v5) = v0 c
          ∧ r.2.mem ((c.tc : Thread Cert.RefGradDownIdeal.nD Cert.RefGradDownIdeal.τ).loc Cert.RefGradDownIdeal.main_arg0) = m' ((c.tc : Thread Cert.RefGradDownIdeal.nD Cert.RefGradDownIdeal.τ).loc Cert.RefGradDownIdeal.main_arg0)
          ∧ r.2.mem ((c.tc : Thread Cert.RefGradDownIdeal.nD Cert.RefGradDownIdeal.τ).loc Cert.RefGradDownIdeal.main_arg1) = m' ((c.tc : Thread Cert.RefGradDownIdeal.nD Cert.RefGradDownIdeal.τ).loc Cert.RefGradDownIdeal.main_arg1))

def preserves_GradSsm_GradSsmIdeal : Prop :=
  True

def algebraic_GradSsmIdeal_RefGradSsmIdeal [hGradSsmIdeal : Cert.GradSsmIdeal.Facts] [hRefGradSsmIdeal : Cert.RefGradSsmIdeal.Facts] : Prop :=
  ∀ (m : (ℓ : Loc Cert.GradSsmIdeal.nD Cert.GradSsmIdeal.τ Cert.GradSsmIdeal.sig) → Buf (Elt Ideal) ℓ) (g : Dev Cert.GradSsmIdeal.nD → PrngReg)
    (m' : (ℓ : Loc Cert.RefGradSsmIdeal.nD Cert.RefGradSsmIdeal.τ Cert.RefGradSsmIdeal.sig) → Buf (Elt Ideal) ℓ) (g' : Dev Cert.RefGradSsmIdeal.nD → PrngReg), Pre_GradSsmIdeal m →
    (∀ c : Dev Cert.GradSsmIdeal.nD,
      m' ((c.tc : Thread Cert.RefGradSsmIdeal.nD Cert.RefGradSsmIdeal.τ).loc Cert.RefGradSsmIdeal.main_arg0) = m ((c.tc : Thread Cert.GradSsmIdeal.nD Cert.GradSsmIdeal.τ).loc Cert.GradSsmIdeal.main_arg0)
      ∧ m' ((c.tc : Thread Cert.RefGradSsmIdeal.nD Cert.RefGradSsmIdeal.τ).loc Cert.RefGradSsmIdeal.main_arg1) = m ((c.tc : Thread Cert.GradSsmIdeal.nD Cert.GradSsmIdeal.τ).loc Cert.GradSsmIdeal.main_arg1)) →
    ∃ (v0 : (c : Dev Cert.GradSsmIdeal.nD) → Buf (Elt Ideal) ((c.tc : Thread Cert.GradSsmIdeal.nD Cert.GradSsmIdeal.τ).loc Cert.GradSsmIdeal.main_v0)),
      θ_run (Cert.GradSsmIdeal.defs (F := Ideal)) (onTc (τ := Cert.GradSsmIdeal.τ) (Cert.GradSsmIdeal.main (F := Ideal))) ⟨m, fun _ => 0, g⟩ (fun r => ∀ c : Dev Cert.GradSsmIdeal.nD,
          r.2.mem ((c.tc : Thread Cert.GradSsmIdeal.nD Cert.GradSsmIdeal.τ).loc Cert.GradSsmIdeal.main_v0) = v0 c
          ∧ r.2.mem ((c.tc : Thread Cert.GradSsmIdeal.nD Cert.GradSsmIdeal.τ).loc Cert.GradSsmIdeal.main_arg0) = m ((c.tc : Thread Cert.GradSsmIdeal.nD Cert.GradSsmIdeal.τ).loc Cert.GradSsmIdeal.main_arg0)
          ∧ r.2.mem ((c.tc : Thread Cert.GradSsmIdeal.nD Cert.GradSsmIdeal.τ).loc Cert.GradSsmIdeal.main_arg1) = m ((c.tc : Thread Cert.GradSsmIdeal.nD Cert.GradSsmIdeal.τ).loc Cert.GradSsmIdeal.main_arg1))
      ∧ θ_run (Cert.RefGradSsmIdeal.defs (F := Ideal)) (onTc (τ := Cert.RefGradSsmIdeal.τ) (Cert.RefGradSsmIdeal.main (F := Ideal))) ⟨m', fun _ => 0, g'⟩ (fun r => ∀ c : Dev Cert.RefGradSsmIdeal.nD,
          r.2.mem ((c.tc : Thread Cert.RefGradSsmIdeal.nD Cert.RefGradSsmIdeal.τ).loc Cert.RefGradSsmIdeal.main_v5) = v0 c
          ∧ r.2.mem ((c.tc : Thread Cert.RefGradSsmIdeal.nD Cert.RefGradSsmIdeal.τ).loc Cert.RefGradSsmIdeal.main_arg0) = m' ((c.tc : Thread Cert.RefGradSsmIdeal.nD Cert.RefGradSsmIdeal.τ).loc Cert.RefGradSsmIdeal.main_arg0)
          ∧ r.2.mem ((c.tc : Thread Cert.RefGradSsmIdeal.nD Cert.RefGradSsmIdeal.τ).loc Cert.RefGradSsmIdeal.main_arg1) = m' ((c.tc : Thread Cert.RefGradSsmIdeal.nD Cert.RefGradSsmIdeal.τ).loc Cert.RefGradSsmIdeal.main_arg1))

def preserves_GradAttn_GradAttnIdeal : Prop :=
  True

def algebraic_GradAttnIdeal_RefGradAttnIdeal [hGradAttnIdeal : Cert.GradAttnIdeal.Facts] [hRefGradAttnIdeal : Cert.RefGradAttnIdeal.Facts] : Prop :=
  ∀ (m : (ℓ : Loc Cert.GradAttnIdeal.nD Cert.GradAttnIdeal.τ Cert.GradAttnIdeal.sig) → Buf (Elt Ideal) ℓ) (g : Dev Cert.GradAttnIdeal.nD → PrngReg)
    (m' : (ℓ : Loc Cert.RefGradAttnIdeal.nD Cert.RefGradAttnIdeal.τ Cert.RefGradAttnIdeal.sig) → Buf (Elt Ideal) ℓ) (g' : Dev Cert.RefGradAttnIdeal.nD → PrngReg), Pre_GradAttnIdeal m →
    (∀ c : Dev Cert.GradAttnIdeal.nD,
      m' ((c.tc : Thread Cert.RefGradAttnIdeal.nD Cert.RefGradAttnIdeal.τ).loc Cert.RefGradAttnIdeal.main_arg0) = m ((c.tc : Thread Cert.GradAttnIdeal.nD Cert.GradAttnIdeal.τ).loc Cert.GradAttnIdeal.main_arg0)
      ∧ m' ((c.tc : Thread Cert.RefGradAttnIdeal.nD Cert.RefGradAttnIdeal.τ).loc Cert.RefGradAttnIdeal.main_arg1) = m ((c.tc : Thread Cert.GradAttnIdeal.nD Cert.GradAttnIdeal.τ).loc Cert.GradAttnIdeal.main_arg1)) →
    ∃ (v0 : (c : Dev Cert.GradAttnIdeal.nD) → Buf (Elt Ideal) ((c.tc : Thread Cert.GradAttnIdeal.nD Cert.GradAttnIdeal.τ).loc Cert.GradAttnIdeal.main_v0)),
      θ_run (Cert.GradAttnIdeal.defs (F := Ideal)) (onTc (τ := Cert.GradAttnIdeal.τ) (Cert.GradAttnIdeal.main (F := Ideal))) ⟨m, fun _ => 0, g⟩ (fun r => ∀ c : Dev Cert.GradAttnIdeal.nD,
          r.2.mem ((c.tc : Thread Cert.GradAttnIdeal.nD Cert.GradAttnIdeal.τ).loc Cert.GradAttnIdeal.main_v0) = v0 c
          ∧ r.2.mem ((c.tc : Thread Cert.GradAttnIdeal.nD Cert.GradAttnIdeal.τ).loc Cert.GradAttnIdeal.main_arg0) = m ((c.tc : Thread Cert.GradAttnIdeal.nD Cert.GradAttnIdeal.τ).loc Cert.GradAttnIdeal.main_arg0)
          ∧ r.2.mem ((c.tc : Thread Cert.GradAttnIdeal.nD Cert.GradAttnIdeal.τ).loc Cert.GradAttnIdeal.main_arg1) = m ((c.tc : Thread Cert.GradAttnIdeal.nD Cert.GradAttnIdeal.τ).loc Cert.GradAttnIdeal.main_arg1))
      ∧ θ_run (Cert.RefGradAttnIdeal.defs (F := Ideal)) (onTc (τ := Cert.RefGradAttnIdeal.τ) (Cert.RefGradAttnIdeal.main (F := Ideal))) ⟨m', fun _ => 0, g'⟩ (fun r => ∀ c : Dev Cert.RefGradAttnIdeal.nD,
          r.2.mem ((c.tc : Thread Cert.RefGradAttnIdeal.nD Cert.RefGradAttnIdeal.τ).loc Cert.RefGradAttnIdeal.main_v5) = v0 c
          ∧ r.2.mem ((c.tc : Thread Cert.RefGradAttnIdeal.nD Cert.RefGradAttnIdeal.τ).loc Cert.RefGradAttnIdeal.main_arg0) = m' ((c.tc : Thread Cert.RefGradAttnIdeal.nD Cert.RefGradAttnIdeal.τ).loc Cert.RefGradAttnIdeal.main_arg0)
          ∧ r.2.mem ((c.tc : Thread Cert.RefGradAttnIdeal.nD Cert.RefGradAttnIdeal.τ).loc Cert.RefGradAttnIdeal.main_arg1) = m' ((c.tc : Thread Cert.RefGradAttnIdeal.nD Cert.RefGradAttnIdeal.τ).loc Cert.RefGradAttnIdeal.main_arg1))

def preserves_BackAttn_BackAttnIdeal : Prop :=
  True

def algebraic_BackAttnIdeal_RefBackAttnIdeal [hBackAttnIdeal : Cert.BackAttnIdeal.Facts] [hRefBackAttnIdeal : Cert.RefBackAttnIdeal.Facts] : Prop :=
  ∀ (m : (ℓ : Loc Cert.BackAttnIdeal.nD Cert.BackAttnIdeal.τ Cert.BackAttnIdeal.sig) → Buf (Elt Ideal) ℓ) (g : Dev Cert.BackAttnIdeal.nD → PrngReg)
    (m' : (ℓ : Loc Cert.RefBackAttnIdeal.nD Cert.RefBackAttnIdeal.τ Cert.RefBackAttnIdeal.sig) → Buf (Elt Ideal) ℓ) (g' : Dev Cert.RefBackAttnIdeal.nD → PrngReg), Pre_BackAttnIdeal m →
    (∀ c : Dev Cert.BackAttnIdeal.nD,
      m' ((c.tc : Thread Cert.RefBackAttnIdeal.nD Cert.RefBackAttnIdeal.τ).loc Cert.RefBackAttnIdeal.main_arg0) = m ((c.tc : Thread Cert.BackAttnIdeal.nD Cert.BackAttnIdeal.τ).loc Cert.BackAttnIdeal.main_arg0)
      ∧ m' ((c.tc : Thread Cert.RefBackAttnIdeal.nD Cert.RefBackAttnIdeal.τ).loc Cert.RefBackAttnIdeal.main_arg1) = m ((c.tc : Thread Cert.BackAttnIdeal.nD Cert.BackAttnIdeal.τ).loc Cert.BackAttnIdeal.main_arg1)) →
    ∃ (v0 : (c : Dev Cert.BackAttnIdeal.nD) → Buf (Elt Ideal) ((c.tc : Thread Cert.BackAttnIdeal.nD Cert.BackAttnIdeal.τ).loc Cert.BackAttnIdeal.main_v0)),
      θ_run (Cert.BackAttnIdeal.defs (F := Ideal)) (onTc (τ := Cert.BackAttnIdeal.τ) (Cert.BackAttnIdeal.main (F := Ideal))) ⟨m, fun _ => 0, g⟩ (fun r => ∀ c : Dev Cert.BackAttnIdeal.nD,
          r.2.mem ((c.tc : Thread Cert.BackAttnIdeal.nD Cert.BackAttnIdeal.τ).loc Cert.BackAttnIdeal.main_v0) = v0 c
          ∧ r.2.mem ((c.tc : Thread Cert.BackAttnIdeal.nD Cert.BackAttnIdeal.τ).loc Cert.BackAttnIdeal.main_arg0) = m ((c.tc : Thread Cert.BackAttnIdeal.nD Cert.BackAttnIdeal.τ).loc Cert.BackAttnIdeal.main_arg0)
          ∧ r.2.mem ((c.tc : Thread Cert.BackAttnIdeal.nD Cert.BackAttnIdeal.τ).loc Cert.BackAttnIdeal.main_arg1) = m ((c.tc : Thread Cert.BackAttnIdeal.nD Cert.BackAttnIdeal.τ).loc Cert.BackAttnIdeal.main_arg1))
      ∧ θ_run (Cert.RefBackAttnIdeal.defs (F := Ideal)) (onTc (τ := Cert.RefBackAttnIdeal.τ) (Cert.RefBackAttnIdeal.main (F := Ideal))) ⟨m', fun _ => 0, g'⟩ (fun r => ∀ c : Dev Cert.RefBackAttnIdeal.nD,
          r.2.mem ((c.tc : Thread Cert.RefBackAttnIdeal.nD Cert.RefBackAttnIdeal.τ).loc Cert.RefBackAttnIdeal.main_v5) = v0 c
          ∧ r.2.mem ((c.tc : Thread Cert.RefBackAttnIdeal.nD Cert.RefBackAttnIdeal.τ).loc Cert.RefBackAttnIdeal.main_arg0) = m' ((c.tc : Thread Cert.RefBackAttnIdeal.nD Cert.RefBackAttnIdeal.τ).loc Cert.RefBackAttnIdeal.main_arg0)
          ∧ r.2.mem ((c.tc : Thread Cert.RefBackAttnIdeal.nD Cert.RefBackAttnIdeal.τ).loc Cert.RefBackAttnIdeal.main_arg1) = m' ((c.tc : Thread Cert.RefBackAttnIdeal.nD Cert.RefBackAttnIdeal.τ).loc Cert.RefBackAttnIdeal.main_arg1))

def preserves_Swiglu_SwigluIdeal : Prop :=
  True

def algebraic_SwigluIdeal_RefSwigluIdeal [hSwigluIdeal : Cert.SwigluIdeal.Facts] [hRefSwigluIdeal : Cert.RefSwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.RefSwigluIdeal.nD Cert.RefSwigluIdeal.τ Cert.RefSwigluIdeal.sig) → Buf (Elt Ideal) ℓ) (g' : Dev Cert.RefSwigluIdeal.nD → PrngReg), Pre_SwigluIdeal m →
    (∀ c : Dev Cert.SwigluIdeal.nD,
      m' ((c.tc : Thread Cert.RefSwigluIdeal.nD Cert.RefSwigluIdeal.τ).loc Cert.RefSwigluIdeal.main_arg0) = m ((c.tc : Thread Cert.SwigluIdeal.nD Cert.SwigluIdeal.τ).loc Cert.SwigluIdeal.main_arg0)
      ∧ m' ((c.tc : Thread Cert.RefSwigluIdeal.nD Cert.RefSwigluIdeal.τ).loc Cert.RefSwigluIdeal.main_arg1) = m ((c.tc : Thread Cert.SwigluIdeal.nD Cert.SwigluIdeal.τ).loc Cert.SwigluIdeal.main_arg1)
      ∧ m' ((c.tc : Thread Cert.RefSwigluIdeal.nD Cert.RefSwigluIdeal.τ).loc Cert.RefSwigluIdeal.main_arg2) = m ((c.tc : Thread Cert.SwigluIdeal.nD Cert.SwigluIdeal.τ).loc Cert.SwigluIdeal.main_arg2)) →
    ∃ (v0 : (c : Dev Cert.SwigluIdeal.nD) → Buf (Elt Ideal) ((c.tc : Thread Cert.SwigluIdeal.nD Cert.SwigluIdeal.τ).loc Cert.SwigluIdeal.main_v0_0)) (v1 : (c : Dev Cert.SwigluIdeal.nD) → Buf (Elt Ideal) ((c.tc : Thread Cert.SwigluIdeal.nD Cert.SwigluIdeal.τ).loc Cert.SwigluIdeal.main_v0_1)) (v2 : (c : Dev Cert.SwigluIdeal.nD) → Buf (Elt Ideal) ((c.tc : Thread Cert.SwigluIdeal.nD Cert.SwigluIdeal.τ).loc Cert.SwigluIdeal.main_v0_2)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0_0) = v0 c
          ∧ r.2.mem ((c.tc : Thread Cert.SwigluIdeal.nD Cert.SwigluIdeal.τ).loc Cert.SwigluIdeal.main_v0_1) = v1 c
          ∧ r.2.mem ((c.tc : Thread Cert.SwigluIdeal.nD Cert.SwigluIdeal.τ).loc Cert.SwigluIdeal.main_v0_2) = v2 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ θ_run (Cert.RefSwigluIdeal.defs (F := Ideal)) (onTc (τ := Cert.RefSwigluIdeal.τ) (Cert.RefSwigluIdeal.main (F := Ideal))) ⟨m', fun _ => 0, g'⟩ (fun r => ∀ c : Dev Cert.RefSwigluIdeal.nD,
          r.2.mem ((c.tc : Thread Cert.RefSwigluIdeal.nD Cert.RefSwigluIdeal.τ).loc Cert.RefSwigluIdeal.main_v2) = v0 c
          ∧ r.2.mem ((c.tc : Thread Cert.RefSwigluIdeal.nD Cert.RefSwigluIdeal.τ).loc Cert.RefSwigluIdeal.main_v5) = v1 c
          ∧ r.2.mem ((c.tc : Thread Cert.RefSwigluIdeal.nD Cert.RefSwigluIdeal.τ).loc Cert.RefSwigluIdeal.main_v8) = v2 c
          ∧ r.2.mem ((c.tc : Thread Cert.RefSwigluIdeal.nD Cert.RefSwigluIdeal.τ).loc Cert.RefSwigluIdeal.main_arg0) = m' ((c.tc : Thread Cert.RefSwigluIdeal.nD Cert.RefSwigluIdeal.τ).loc Cert.RefSwigluIdeal.main_arg0)
          ∧ r.2.mem ((c.tc : Thread Cert.RefSwigluIdeal.nD Cert.RefSwigluIdeal.τ).loc Cert.RefSwigluIdeal.main_arg1) = m' ((c.tc : Thread Cert.RefSwigluIdeal.nD Cert.RefSwigluIdeal.τ).loc Cert.RefSwigluIdeal.main_arg1)
          ∧ r.2.mem ((c.tc : Thread Cert.RefSwigluIdeal.nD Cert.RefSwigluIdeal.τ).loc Cert.RefSwigluIdeal.main_arg2) = m' ((c.tc : Thread Cert.RefSwigluIdeal.nD Cert.RefSwigluIdeal.τ).loc Cert.RefSwigluIdeal.main_arg2))

def preserves_Down_DownIdeal : Prop :=
  True

def algebraic_DownIdeal_RefDownIdeal [hDownIdeal : Cert.DownIdeal.Facts] [hRefDownIdeal : Cert.RefDownIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.RefDownIdeal.nD Cert.RefDownIdeal.τ Cert.RefDownIdeal.sig) → Buf (Elt Ideal) ℓ) (g' : Dev Cert.RefDownIdeal.nD → PrngReg), Pre_DownIdeal m →
    (∀ c : Dev Cert.DownIdeal.nD,
      m' ((c.tc : Thread Cert.RefDownIdeal.nD Cert.RefDownIdeal.τ).loc Cert.RefDownIdeal.main_arg0) = m ((c.tc : Thread Cert.DownIdeal.nD Cert.DownIdeal.τ).loc Cert.DownIdeal.main_arg0)
      ∧ m' ((c.tc : Thread Cert.RefDownIdeal.nD Cert.RefDownIdeal.τ).loc Cert.RefDownIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.RefDownIdeal.defs (F := Ideal)) (onTc (τ := Cert.RefDownIdeal.τ) (Cert.RefDownIdeal.main (F := Ideal))) ⟨m', fun _ => 0, g'⟩ (fun r => ∀ c : Dev Cert.RefDownIdeal.nD,
          r.2.mem ((c.tc : Thread Cert.RefDownIdeal.nD Cert.RefDownIdeal.τ).loc Cert.RefDownIdeal.main_v2) = v0 c
          ∧ r.2.mem ((c.tc : Thread Cert.RefDownIdeal.nD Cert.RefDownIdeal.τ).loc Cert.RefDownIdeal.main_arg0) = m' ((c.tc : Thread Cert.RefDownIdeal.nD Cert.RefDownIdeal.τ).loc Cert.RefDownIdeal.main_arg0)
          ∧ r.2.mem ((c.tc : Thread Cert.RefDownIdeal.nD Cert.RefDownIdeal.τ).loc Cert.RefDownIdeal.main_arg1) = m' ((c.tc : Thread Cert.RefDownIdeal.nD Cert.RefDownIdeal.τ).loc Cert.RefDownIdeal.main_arg1))

def preserves_Ssm_SsmIdeal : Prop :=
  True

def algebraic_SsmIdeal_RefSsmIdeal [hSsmIdeal : Cert.SsmIdeal.Facts] [hRefSsmIdeal : Cert.RefSsmIdeal.Facts] : Prop :=
  ∀ (m : (ℓ : Loc Cert.SsmIdeal.nD Cert.SsmIdeal.τ Cert.SsmIdeal.sig) → Buf (Elt Ideal) ℓ) (g : Dev Cert.SsmIdeal.nD → PrngReg)
    (m' : (ℓ : Loc Cert.RefSsmIdeal.nD Cert.RefSsmIdeal.τ Cert.RefSsmIdeal.sig) → Buf (Elt Ideal) ℓ) (g' : Dev Cert.RefSsmIdeal.nD → PrngReg), Pre_SsmIdeal m →
    (∀ c : Dev Cert.SsmIdeal.nD,
      m' ((c.tc : Thread Cert.RefSsmIdeal.nD Cert.RefSsmIdeal.τ).loc Cert.RefSsmIdeal.main_arg0) = m ((c.tc : Thread Cert.SsmIdeal.nD Cert.SsmIdeal.τ).loc Cert.SsmIdeal.main_arg0)
      ∧ m' ((c.tc : Thread Cert.RefSsmIdeal.nD Cert.RefSsmIdeal.τ).loc Cert.RefSsmIdeal.main_arg1) = m ((c.tc : Thread Cert.SsmIdeal.nD Cert.SsmIdeal.τ).loc Cert.SsmIdeal.main_arg1)) →
    ∃ (v0 : (c : Dev Cert.SsmIdeal.nD) → Buf (Elt Ideal) ((c.tc : Thread Cert.SsmIdeal.nD Cert.SsmIdeal.τ).loc Cert.SsmIdeal.main_v0)),
      θ_run (Cert.SsmIdeal.defs (F := Ideal)) (onTc (τ := Cert.SsmIdeal.τ) (Cert.SsmIdeal.main (F := Ideal))) ⟨m, fun _ => 0, g⟩ (fun r => ∀ c : Dev Cert.SsmIdeal.nD,
          r.2.mem ((c.tc : Thread Cert.SsmIdeal.nD Cert.SsmIdeal.τ).loc Cert.SsmIdeal.main_v0) = v0 c
          ∧ r.2.mem ((c.tc : Thread Cert.SsmIdeal.nD Cert.SsmIdeal.τ).loc Cert.SsmIdeal.main_arg0) = m ((c.tc : Thread Cert.SsmIdeal.nD Cert.SsmIdeal.τ).loc Cert.SsmIdeal.main_arg0)
          ∧ r.2.mem ((c.tc : Thread Cert.SsmIdeal.nD Cert.SsmIdeal.τ).loc Cert.SsmIdeal.main_arg1) = m ((c.tc : Thread Cert.SsmIdeal.nD Cert.SsmIdeal.τ).loc Cert.SsmIdeal.main_arg1))
      ∧ θ_run (Cert.RefSsmIdeal.defs (F := Ideal)) (onTc (τ := Cert.RefSsmIdeal.τ) (Cert.RefSsmIdeal.main (F := Ideal))) ⟨m', fun _ => 0, g'⟩ (fun r => ∀ c : Dev Cert.RefSsmIdeal.nD,
          r.2.mem ((c.tc : Thread Cert.RefSsmIdeal.nD Cert.RefSsmIdeal.τ).loc Cert.RefSsmIdeal.main_v2) = v0 c
          ∧ r.2.mem ((c.tc : Thread Cert.RefSsmIdeal.nD Cert.RefSsmIdeal.τ).loc Cert.RefSsmIdeal.main_arg0) = m' ((c.tc : Thread Cert.RefSsmIdeal.nD Cert.RefSsmIdeal.τ).loc Cert.RefSsmIdeal.main_arg0)
          ∧ r.2.mem ((c.tc : Thread Cert.RefSsmIdeal.nD Cert.RefSsmIdeal.τ).loc Cert.RefSsmIdeal.main_arg1) = m' ((c.tc : Thread Cert.RefSsmIdeal.nD Cert.RefSsmIdeal.τ).loc Cert.RefSsmIdeal.main_arg1))

def preserves_Out_OutIdeal : Prop :=
  True

def algebraic_OutIdeal_RefOutIdeal [hOutIdeal : Cert.OutIdeal.Facts] [hRefOutIdeal : Cert.RefOutIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.RefOutIdeal.nD Cert.RefOutIdeal.τ Cert.RefOutIdeal.sig) → Buf (Elt Ideal) ℓ) (g' : Dev Cert.RefOutIdeal.nD → PrngReg), Pre_OutIdeal m →
    (∀ c : Dev Cert.OutIdeal.nD,
      m' ((c.tc : Thread Cert.RefOutIdeal.nD Cert.RefOutIdeal.τ).loc Cert.RefOutIdeal.main_arg0) = m ((c.tc : Thread Cert.OutIdeal.nD Cert.OutIdeal.τ).loc Cert.OutIdeal.main_arg0)
      ∧ m' ((c.tc : Thread Cert.RefOutIdeal.nD Cert.RefOutIdeal.τ).loc Cert.RefOutIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.RefOutIdeal.defs (F := Ideal)) (onTc (τ := Cert.RefOutIdeal.τ) (Cert.RefOutIdeal.main (F := Ideal))) ⟨m', fun _ => 0, g'⟩ (fun r => ∀ c : Dev Cert.RefOutIdeal.nD,
          r.2.mem ((c.tc : Thread Cert.RefOutIdeal.nD Cert.RefOutIdeal.τ).loc Cert.RefOutIdeal.main_v2) = v0 c
          ∧ r.2.mem ((c.tc : Thread Cert.RefOutIdeal.nD Cert.RefOutIdeal.τ).loc Cert.RefOutIdeal.main_arg0) = m' ((c.tc : Thread Cert.RefOutIdeal.nD Cert.RefOutIdeal.τ).loc Cert.RefOutIdeal.main_arg0)
          ∧ r.2.mem ((c.tc : Thread Cert.RefOutIdeal.nD Cert.RefOutIdeal.τ).loc Cert.RefOutIdeal.main_arg1) = m' ((c.tc : Thread Cert.RefOutIdeal.nD Cert.RefOutIdeal.τ).loc Cert.RefOutIdeal.main_arg1))

def preserves_Fwd_FwdIdeal : Prop :=
  IdealRules.named_const.Statement Cert.FwdIdeal.κ "mask" .f32 0xF149F2CA#32 ⊥

def algebraic_FwdIdeal_RefFwdIdeal_pre_finite_fwd [hFwdIdeal : Cert.FwdIdeal.Facts] [hRefFwdIdeal : Cert.RefFwdIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.RefFwdIdeal.nD Cert.RefFwdIdeal.τ Cert.RefFwdIdeal.sig) → Buf (Elt Ideal) ℓ) (g' : Dev Cert.RefFwdIdeal.nD → PrngReg), Pre_FwdIdeal_finite_fwd m →
    (∀ c : Dev Cert.FwdIdeal.nD,
      m' ((c.tc : Thread Cert.RefFwdIdeal.nD Cert.RefFwdIdeal.τ).loc Cert.RefFwdIdeal.main_arg0) = m ((c.tc : Thread Cert.FwdIdeal.nD Cert.FwdIdeal.τ).loc Cert.FwdIdeal.main_arg0)
      ∧ m' ((c.tc : Thread Cert.RefFwdIdeal.nD Cert.RefFwdIdeal.τ).loc Cert.RefFwdIdeal.main_arg1) = m ((c.tc : Thread Cert.FwdIdeal.nD Cert.FwdIdeal.τ).loc Cert.FwdIdeal.main_arg1)
      ∧ m' ((c.tc : Thread Cert.RefFwdIdeal.nD Cert.RefFwdIdeal.τ).loc Cert.RefFwdIdeal.main_arg2) = m ((c.tc : Thread Cert.FwdIdeal.nD Cert.FwdIdeal.τ).loc Cert.FwdIdeal.main_arg2)) →
    ∃ (v0 : (c : Dev Cert.FwdIdeal.nD) → Buf (Elt Ideal) ((c.tc : Thread Cert.FwdIdeal.nD Cert.FwdIdeal.τ).loc Cert.FwdIdeal.main_v7_0)) (v1 : (c : Dev Cert.FwdIdeal.nD) → Buf (Elt Ideal) ((c.tc : Thread Cert.FwdIdeal.nD Cert.FwdIdeal.τ).loc Cert.FwdIdeal.main_v7_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v7_0) = v0 c
          ∧ r.2.mem ((c.tc : Thread Cert.FwdIdeal.nD Cert.FwdIdeal.τ).loc Cert.FwdIdeal.main_v7_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ θ_run (Cert.RefFwdIdeal.defs (F := Ideal)) (onTc (τ := Cert.RefFwdIdeal.τ) (Cert.RefFwdIdeal.main (F := Ideal))) ⟨m', fun _ => 0, g'⟩ (fun r => ∀ c : Dev Cert.RefFwdIdeal.nD,
          r.2.mem ((c.tc : Thread Cert.RefFwdIdeal.nD Cert.RefFwdIdeal.τ).loc Cert.RefFwdIdeal.main_v54) = v0 c
          ∧ r.2.mem ((c.tc : Thread Cert.RefFwdIdeal.nD Cert.RefFwdIdeal.τ).loc Cert.RefFwdIdeal.main_v26) = v1 c
          ∧ r.2.mem ((c.tc : Thread Cert.RefFwdIdeal.nD Cert.RefFwdIdeal.τ).loc Cert.RefFwdIdeal.main_arg0) = m' ((c.tc : Thread Cert.RefFwdIdeal.nD Cert.RefFwdIdeal.τ).loc Cert.RefFwdIdeal.main_arg0)
          ∧ r.2.mem ((c.tc : Thread Cert.RefFwdIdeal.nD Cert.RefFwdIdeal.τ).loc Cert.RefFwdIdeal.main_arg1) = m' ((c.tc : Thread Cert.RefFwdIdeal.nD Cert.RefFwdIdeal.τ).loc Cert.RefFwdIdeal.main_arg1)
          ∧ r.2.mem ((c.tc : Thread Cert.RefFwdIdeal.nD Cert.RefFwdIdeal.τ).loc Cert.RefFwdIdeal.main_arg2) = m' ((c.tc : Thread Cert.RefFwdIdeal.nD Cert.RefFwdIdeal.τ).loc Cert.RefFwdIdeal.main_arg2))

def preserves_BackGate_BackGateIdeal : Prop :=
  True

def algebraic_BackGateIdeal_RefBackGateIdeal [hBackGateIdeal : Cert.BackGateIdeal.Facts] [hRefBackGateIdeal : Cert.RefBackGateIdeal.Facts] : Prop :=
  ∀ (m : (ℓ : Loc Cert.BackGateIdeal.nD Cert.BackGateIdeal.τ Cert.BackGateIdeal.sig) → Buf (Elt Ideal) ℓ) (g : Dev Cert.BackGateIdeal.nD → PrngReg)
    (m' : (ℓ : Loc Cert.RefBackGateIdeal.nD Cert.RefBackGateIdeal.τ Cert.RefBackGateIdeal.sig) → Buf (Elt Ideal) ℓ) (g' : Dev Cert.RefBackGateIdeal.nD → PrngReg), Pre_BackGateIdeal m →
    (∀ c : Dev Cert.BackGateIdeal.nD,
      m' ((c.tc : Thread Cert.RefBackGateIdeal.nD Cert.RefBackGateIdeal.τ).loc Cert.RefBackGateIdeal.main_arg0) = m ((c.tc : Thread Cert.BackGateIdeal.nD Cert.BackGateIdeal.τ).loc Cert.BackGateIdeal.main_arg0)
      ∧ m' ((c.tc : Thread Cert.RefBackGateIdeal.nD Cert.RefBackGateIdeal.τ).loc Cert.RefBackGateIdeal.main_arg1) = m ((c.tc : Thread Cert.BackGateIdeal.nD Cert.BackGateIdeal.τ).loc Cert.BackGateIdeal.main_arg1)) →
    ∃ (v0 : (c : Dev Cert.BackGateIdeal.nD) → Buf (Elt Ideal) ((c.tc : Thread Cert.BackGateIdeal.nD Cert.BackGateIdeal.τ).loc Cert.BackGateIdeal.main_v0)),
      θ_run (Cert.BackGateIdeal.defs (F := Ideal)) (onTc (τ := Cert.BackGateIdeal.τ) (Cert.BackGateIdeal.main (F := Ideal))) ⟨m, fun _ => 0, g⟩ (fun r => ∀ c : Dev Cert.BackGateIdeal.nD,
          r.2.mem ((c.tc : Thread Cert.BackGateIdeal.nD Cert.BackGateIdeal.τ).loc Cert.BackGateIdeal.main_v0) = v0 c
          ∧ r.2.mem ((c.tc : Thread Cert.BackGateIdeal.nD Cert.BackGateIdeal.τ).loc Cert.BackGateIdeal.main_arg0) = m ((c.tc : Thread Cert.BackGateIdeal.nD Cert.BackGateIdeal.τ).loc Cert.BackGateIdeal.main_arg0)
          ∧ r.2.mem ((c.tc : Thread Cert.BackGateIdeal.nD Cert.BackGateIdeal.τ).loc Cert.BackGateIdeal.main_arg1) = m ((c.tc : Thread Cert.BackGateIdeal.nD Cert.BackGateIdeal.τ).loc Cert.BackGateIdeal.main_arg1))
      ∧ θ_run (Cert.RefBackGateIdeal.defs (F := Ideal)) (onTc (τ := Cert.RefBackGateIdeal.τ) (Cert.RefBackGateIdeal.main (F := Ideal))) ⟨m', fun _ => 0, g'⟩ (fun r => ∀ c : Dev Cert.RefBackGateIdeal.nD,
          r.2.mem ((c.tc : Thread Cert.RefBackGateIdeal.nD Cert.RefBackGateIdeal.τ).loc Cert.RefBackGateIdeal.main_v4) = v0 c
          ∧ r.2.mem ((c.tc : Thread Cert.RefBackGateIdeal.nD Cert.RefBackGateIdeal.τ).loc Cert.RefBackGateIdeal.main_arg0) = m' ((c.tc : Thread Cert.RefBackGateIdeal.nD Cert.RefBackGateIdeal.τ).loc Cert.RefBackGateIdeal.main_arg0)
          ∧ r.2.mem ((c.tc : Thread Cert.RefBackGateIdeal.nD Cert.RefBackGateIdeal.τ).loc Cert.RefBackGateIdeal.main_arg1) = m' ((c.tc : Thread Cert.RefBackGateIdeal.nD Cert.RefBackGateIdeal.τ).loc Cert.RefBackGateIdeal.main_arg1))

def preserves_Qkv_QkvIdeal : Prop :=
  True

def algebraic_QkvIdeal_RefQkvIdeal [hQkvIdeal : Cert.QkvIdeal.Facts] [hRefQkvIdeal : Cert.RefQkvIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.RefQkvIdeal.nD Cert.RefQkvIdeal.τ Cert.RefQkvIdeal.sig) → Buf (Elt Ideal) ℓ) (g' : Dev Cert.RefQkvIdeal.nD → PrngReg), Pre_QkvIdeal m →
    (∀ c : Dev Cert.QkvIdeal.nD,
      m' ((c.tc : Thread Cert.RefQkvIdeal.nD Cert.RefQkvIdeal.τ).loc Cert.RefQkvIdeal.main_arg0) = m ((c.tc : Thread Cert.QkvIdeal.nD Cert.QkvIdeal.τ).loc Cert.QkvIdeal.main_arg0)
      ∧ m' ((c.tc : Thread Cert.RefQkvIdeal.nD Cert.RefQkvIdeal.τ).loc Cert.RefQkvIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.RefQkvIdeal.defs (F := Ideal)) (onTc (τ := Cert.RefQkvIdeal.τ) (Cert.RefQkvIdeal.main (F := Ideal))) ⟨m', fun _ => 0, g'⟩ (fun r => ∀ c : Dev Cert.RefQkvIdeal.nD,
          r.2.mem ((c.tc : Thread Cert.RefQkvIdeal.nD Cert.RefQkvIdeal.τ).loc Cert.RefQkvIdeal.main_v2) = v0 c
          ∧ r.2.mem ((c.tc : Thread Cert.RefQkvIdeal.nD Cert.RefQkvIdeal.τ).loc Cert.RefQkvIdeal.main_arg0) = m' ((c.tc : Thread Cert.RefQkvIdeal.nD Cert.RefQkvIdeal.τ).loc Cert.RefQkvIdeal.main_arg0)
          ∧ r.2.mem ((c.tc : Thread Cert.RefQkvIdeal.nD Cert.RefQkvIdeal.τ).loc Cert.RefQkvIdeal.main_arg1) = m' ((c.tc : Thread Cert.RefQkvIdeal.nD Cert.RefQkvIdeal.τ).loc Cert.RefQkvIdeal.main_arg1))

def preserves_Uq_UqIdeal : Prop :=
  True

def algebraic_UqIdeal_RefUqIdeal [hUqIdeal : Cert.UqIdeal.Facts] [hRefUqIdeal : Cert.RefUqIdeal.Facts] : Prop :=
  ∀ (m : (ℓ : Loc Cert.UqIdeal.nD Cert.UqIdeal.τ Cert.UqIdeal.sig) → Buf (Elt Ideal) ℓ) (g : Dev Cert.UqIdeal.nD → PrngReg)
    (m' : (ℓ : Loc Cert.RefUqIdeal.nD Cert.RefUqIdeal.τ Cert.RefUqIdeal.sig) → Buf (Elt Ideal) ℓ) (g' : Dev Cert.RefUqIdeal.nD → PrngReg), Pre_UqIdeal m →
    (∀ c : Dev Cert.UqIdeal.nD,
      m' ((c.tc : Thread Cert.RefUqIdeal.nD Cert.RefUqIdeal.τ).loc Cert.RefUqIdeal.main_arg0) = m ((c.tc : Thread Cert.UqIdeal.nD Cert.UqIdeal.τ).loc Cert.UqIdeal.main_arg0)
      ∧ m' ((c.tc : Thread Cert.RefUqIdeal.nD Cert.RefUqIdeal.τ).loc Cert.RefUqIdeal.main_arg1) = m ((c.tc : Thread Cert.UqIdeal.nD Cert.UqIdeal.τ).loc Cert.UqIdeal.main_arg1)) →
    ∃ (v0 : (c : Dev Cert.UqIdeal.nD) → Buf (Elt Ideal) ((c.tc : Thread Cert.UqIdeal.nD Cert.UqIdeal.τ).loc Cert.UqIdeal.main_v0)),
      θ_run (Cert.UqIdeal.defs (F := Ideal)) (onTc (τ := Cert.UqIdeal.τ) (Cert.UqIdeal.main (F := Ideal))) ⟨m, fun _ => 0, g⟩ (fun r => ∀ c : Dev Cert.UqIdeal.nD,
          r.2.mem ((c.tc : Thread Cert.UqIdeal.nD Cert.UqIdeal.τ).loc Cert.UqIdeal.main_v0) = v0 c
          ∧ r.2.mem ((c.tc : Thread Cert.UqIdeal.nD Cert.UqIdeal.τ).loc Cert.UqIdeal.main_arg0) = m ((c.tc : Thread Cert.UqIdeal.nD Cert.UqIdeal.τ).loc Cert.UqIdeal.main_arg0)
          ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ θ_run (Cert.RefUqIdeal.defs (F := Ideal)) (onTc (τ := Cert.RefUqIdeal.τ) (Cert.RefUqIdeal.main (F := Ideal))) ⟨m', fun _ => 0, g'⟩ (fun r => ∀ c : Dev Cert.RefUqIdeal.nD,
          r.2.mem ((c.tc : Thread Cert.RefUqIdeal.nD Cert.RefUqIdeal.τ).loc Cert.RefUqIdeal.main_v2) = v0 c
          ∧ r.2.mem ((c.tc : Thread Cert.RefUqIdeal.nD Cert.RefUqIdeal.τ).loc Cert.RefUqIdeal.main_arg0) = m' ((c.tc : Thread Cert.RefUqIdeal.nD Cert.RefUqIdeal.τ).loc Cert.RefUqIdeal.main_arg0)
          ∧ r.2.mem ((c.tc : Thread Cert.RefUqIdeal.nD Cert.RefUqIdeal.τ).loc Cert.RefUqIdeal.main_arg1) = m' ((c.tc : Thread Cert.RefUqIdeal.nD Cert.RefUqIdeal.τ).loc Cert.RefUqIdeal.main_arg1))

def preserves_Ukv_UkvIdeal : Prop :=
  True

def algebraic_UkvIdeal_RefUkvIdeal [hUkvIdeal : Cert.UkvIdeal.Facts] [hRefUkvIdeal : Cert.RefUkvIdeal.Facts] : Prop :=
  ∀ (m : (ℓ : Loc Cert.UkvIdeal.nD Cert.UkvIdeal.τ Cert.UkvIdeal.sig) → Buf (Elt Ideal) ℓ) (g : Dev Cert.UkvIdeal.nD → PrngReg)
    (m' : (ℓ : Loc Cert.RefUkvIdeal.nD Cert.RefUkvIdeal.τ Cert.RefUkvIdeal.sig) → Buf (Elt Ideal) ℓ) (g' : Dev Cert.RefUkvIdeal.nD → PrngReg), Pre_UkvIdeal m →
    (∀ c : Dev Cert.UkvIdeal.nD,
      m' ((c.tc : Thread Cert.RefUkvIdeal.nD Cert.RefUkvIdeal.τ).loc Cert.RefUkvIdeal.main_arg0) = m ((c.tc : Thread Cert.UkvIdeal.nD Cert.UkvIdeal.τ).loc Cert.UkvIdeal.main_arg0)
      ∧ m' ((c.tc : Thread Cert.RefUkvIdeal.nD Cert.RefUkvIdeal.τ).loc Cert.RefUkvIdeal.main_arg1) = m ((c.tc : Thread Cert.UkvIdeal.nD Cert.UkvIdeal.τ).loc Cert.UkvIdeal.main_arg1)) →
    ∃ (v0 : (c : Dev Cert.UkvIdeal.nD) → Buf (Elt Ideal) ((c.tc : Thread Cert.UkvIdeal.nD Cert.UkvIdeal.τ).loc Cert.UkvIdeal.main_v0)),
      θ_run (Cert.UkvIdeal.defs (F := Ideal)) (onTc (τ := Cert.UkvIdeal.τ) (Cert.UkvIdeal.main (F := Ideal))) ⟨m, fun _ => 0, g⟩ (fun r => ∀ c : Dev Cert.UkvIdeal.nD,
          r.2.mem ((c.tc : Thread Cert.UkvIdeal.nD Cert.UkvIdeal.τ).loc Cert.UkvIdeal.main_v0) = v0 c
          ∧ r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
          ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1))
      ∧ θ_run (Cert.RefUkvIdeal.defs (F := Ideal)) (onTc (τ := Cert.RefUkvIdeal.τ) (Cert.RefUkvIdeal.main (F := Ideal))) ⟨m', fun _ => 0, g'⟩ (fun r => ∀ c : Dev Cert.RefUkvIdeal.nD,
          r.2.mem ((c.tc : Thread Cert.RefUkvIdeal.nD Cert.RefUkvIdeal.τ).loc Cert.RefUkvIdeal.main_v3) = v0 c
          ∧ r.2.mem ((c.tc : Thread Cert.RefUkvIdeal.nD Cert.RefUkvIdeal.τ).loc Cert.RefUkvIdeal.main_arg0) = m' ((c.tc : Thread Cert.RefUkvIdeal.nD Cert.RefUkvIdeal.τ).loc Cert.RefUkvIdeal.main_arg0)
          ∧ r.2.mem ((c.tc : Thread Cert.RefUkvIdeal.nD Cert.RefUkvIdeal.τ).loc Cert.RefUkvIdeal.main_arg1) = m' ((c.tc : Thread Cert.RefUkvIdeal.nD Cert.RefUkvIdeal.τ).loc Cert.RefUkvIdeal.main_arg1))

def preserves_BackUq_BackUqIdeal : Prop :=
  True

def algebraic_BackUqIdeal_RefBackUqIdeal [hBackUqIdeal : Cert.BackUqIdeal.Facts] [hRefBackUqIdeal : Cert.RefBackUqIdeal.Facts] : Prop :=
  ∀ (m : (ℓ : Loc Cert.BackUqIdeal.nD Cert.BackUqIdeal.τ Cert.BackUqIdeal.sig) → Buf (Elt Ideal) ℓ) (g : Dev Cert.BackUqIdeal.nD → PrngReg)
    (m' : (ℓ : Loc Cert.RefBackUqIdeal.nD Cert.RefBackUqIdeal.τ Cert.RefBackUqIdeal.sig) → Buf (Elt Ideal) ℓ) (g' : Dev Cert.RefBackUqIdeal.nD → PrngReg), Pre_BackUqIdeal m →
    (∀ c : Dev Cert.BackUqIdeal.nD,
      m' ((c.tc : Thread Cert.RefBackUqIdeal.nD Cert.RefBackUqIdeal.τ).loc Cert.RefBackUqIdeal.main_arg0) = m ((c.tc : Thread Cert.BackUqIdeal.nD Cert.BackUqIdeal.τ).loc Cert.BackUqIdeal.main_arg0)
      ∧ m' ((c.tc : Thread Cert.RefBackUqIdeal.nD Cert.RefBackUqIdeal.τ).loc Cert.RefBackUqIdeal.main_arg1) = m ((c.tc : Thread Cert.BackUqIdeal.nD Cert.BackUqIdeal.τ).loc Cert.BackUqIdeal.main_arg1)) →
    ∃ (v0 : (c : Dev Cert.BackUqIdeal.nD) → Buf (Elt Ideal) ((c.tc : Thread Cert.BackUqIdeal.nD Cert.BackUqIdeal.τ).loc Cert.BackUqIdeal.main_v0)),
      θ_run (Cert.BackUqIdeal.defs (F := Ideal)) (onTc (τ := Cert.BackUqIdeal.τ) (Cert.BackUqIdeal.main (F := Ideal))) ⟨m, fun _ => 0, g⟩ (fun r => ∀ c : Dev Cert.BackUqIdeal.nD,
          r.2.mem ((c.tc : Thread Cert.BackUqIdeal.nD Cert.BackUqIdeal.τ).loc Cert.BackUqIdeal.main_v0) = v0 c
          ∧ r.2.mem ((c.tc : Thread Cert.BackUqIdeal.nD Cert.BackUqIdeal.τ).loc Cert.BackUqIdeal.main_arg0) = m ((c.tc : Thread Cert.BackUqIdeal.nD Cert.BackUqIdeal.τ).loc Cert.BackUqIdeal.main_arg0)
          ∧ r.2.mem ((c.tc : Thread Cert.BackUqIdeal.nD Cert.BackUqIdeal.τ).loc Cert.BackUqIdeal.main_arg1) = m ((c.tc : Thread Cert.BackUqIdeal.nD Cert.BackUqIdeal.τ).loc Cert.BackUqIdeal.main_arg1))
      ∧ θ_run (Cert.RefBackUqIdeal.defs (F := Ideal)) (onTc (τ := Cert.RefBackUqIdeal.τ) (Cert.RefBackUqIdeal.main (F := Ideal))) ⟨m', fun _ => 0, g'⟩ (fun r => ∀ c : Dev Cert.RefBackUqIdeal.nD,
          r.2.mem ((c.tc : Thread Cert.RefBackUqIdeal.nD Cert.RefBackUqIdeal.τ).loc Cert.RefBackUqIdeal.main_v4) = v0 c
          ∧ r.2.mem ((c.tc : Thread Cert.RefBackUqIdeal.nD Cert.RefBackUqIdeal.τ).loc Cert.RefBackUqIdeal.main_arg0) = m' ((c.tc : Thread Cert.RefBackUqIdeal.nD Cert.RefBackUqIdeal.τ).loc Cert.RefBackUqIdeal.main_arg0)
          ∧ r.2.mem ((c.tc : Thread Cert.RefBackUqIdeal.nD Cert.RefBackUqIdeal.τ).loc Cert.RefBackUqIdeal.main_arg1) = m' ((c.tc : Thread Cert.RefBackUqIdeal.nD Cert.RefBackUqIdeal.τ).loc Cert.RefBackUqIdeal.main_arg1))

def preserves_GradUq_GradUqIdeal : Prop :=
  True

def algebraic_GradUqIdeal_RefGradUqIdeal [hGradUqIdeal : Cert.GradUqIdeal.Facts] [hRefGradUqIdeal : Cert.RefGradUqIdeal.Facts] : Prop :=
  ∀ (m : (ℓ : Loc Cert.GradUqIdeal.nD Cert.GradUqIdeal.τ Cert.GradUqIdeal.sig) → Buf (Elt Ideal) ℓ) (g : Dev Cert.GradUqIdeal.nD → PrngReg)
    (m' : (ℓ : Loc Cert.RefGradUqIdeal.nD Cert.RefGradUqIdeal.τ Cert.RefGradUqIdeal.sig) → Buf (Elt Ideal) ℓ) (g' : Dev Cert.RefGradUqIdeal.nD → PrngReg), Pre_GradUqIdeal m →
    (∀ c : Dev Cert.GradUqIdeal.nD,
      m' ((c.tc : Thread Cert.RefGradUqIdeal.nD Cert.RefGradUqIdeal.τ).loc Cert.RefGradUqIdeal.main_arg0) = m ((c.tc : Thread Cert.GradUqIdeal.nD Cert.GradUqIdeal.τ).loc Cert.GradUqIdeal.main_arg0)
      ∧ m' ((c.tc : Thread Cert.RefGradUqIdeal.nD Cert.RefGradUqIdeal.τ).loc Cert.RefGradUqIdeal.main_arg1) = m ((c.tc : Thread Cert.GradUqIdeal.nD Cert.GradUqIdeal.τ).loc Cert.GradUqIdeal.main_arg1)) →
    ∃ (v0 : (c : Dev Cert.GradUqIdeal.nD) → Buf (Elt Ideal) ((c.tc : Thread Cert.GradUqIdeal.nD Cert.GradUqIdeal.τ).loc Cert.GradUqIdeal.main_v0)),
      θ_run (Cert.GradUqIdeal.defs (F := Ideal)) (onTc (τ := Cert.GradUqIdeal.τ) (Cert.GradUqIdeal.main (F := Ideal))) ⟨m, fun _ => 0, g⟩ (fun r => ∀ c : Dev Cert.GradUqIdeal.nD,
          r.2.mem ((c.tc : Thread Cert.GradUqIdeal.nD Cert.GradUqIdeal.τ).loc Cert.GradUqIdeal.main_v0) = v0 c
          ∧ r.2.mem ((c.tc : Thread Cert.GradUqIdeal.nD Cert.GradUqIdeal.τ).loc Cert.GradUqIdeal.main_arg0) = m ((c.tc : Thread Cert.GradUqIdeal.nD Cert.GradUqIdeal.τ).loc Cert.GradUqIdeal.main_arg0)
          ∧ r.2.mem ((c.tc : Thread Cert.GradUqIdeal.nD Cert.GradUqIdeal.τ).loc Cert.GradUqIdeal.main_arg1) = m ((c.tc : Thread Cert.GradUqIdeal.nD Cert.GradUqIdeal.τ).loc Cert.GradUqIdeal.main_arg1))
      ∧ θ_run (Cert.RefGradUqIdeal.defs (F := Ideal)) (onTc (τ := Cert.RefGradUqIdeal.τ) (Cert.RefGradUqIdeal.main (F := Ideal))) ⟨m', fun _ => 0, g'⟩ (fun r => ∀ c : Dev Cert.RefGradUqIdeal.nD,
          r.2.mem ((c.tc : Thread Cert.RefGradUqIdeal.nD Cert.RefGradUqIdeal.τ).loc Cert.RefGradUqIdeal.main_v5) = v0 c
          ∧ r.2.mem ((c.tc : Thread Cert.RefGradUqIdeal.nD Cert.RefGradUqIdeal.τ).loc Cert.RefGradUqIdeal.main_arg0) = m' ((c.tc : Thread Cert.RefGradUqIdeal.nD Cert.RefGradUqIdeal.τ).loc Cert.RefGradUqIdeal.main_arg0)
          ∧ r.2.mem ((c.tc : Thread Cert.RefGradUqIdeal.nD Cert.RefGradUqIdeal.τ).loc Cert.RefGradUqIdeal.main_arg1) = m' ((c.tc : Thread Cert.RefGradUqIdeal.nD Cert.RefGradUqIdeal.τ).loc Cert.RefGradUqIdeal.main_arg1))

def preserves_GradQkv_GradQkvIdeal : Prop :=
  True

def algebraic_GradQkvIdeal_RefGradQkvIdeal [hGradQkvIdeal : Cert.GradQkvIdeal.Facts] [hRefGradQkvIdeal : Cert.RefGradQkvIdeal.Facts] : Prop :=
  ∀ (m : (ℓ : Loc Cert.GradQkvIdeal.nD Cert.GradQkvIdeal.τ Cert.GradQkvIdeal.sig) → Buf (Elt Ideal) ℓ) (g : Dev Cert.GradQkvIdeal.nD → PrngReg)
    (m' : (ℓ : Loc Cert.RefGradQkvIdeal.nD Cert.RefGradQkvIdeal.τ Cert.RefGradQkvIdeal.sig) → Buf (Elt Ideal) ℓ) (g' : Dev Cert.RefGradQkvIdeal.nD → PrngReg), Pre_GradQkvIdeal m →
    (∀ c : Dev Cert.GradQkvIdeal.nD,
      m' ((c.tc : Thread Cert.RefGradQkvIdeal.nD Cert.RefGradQkvIdeal.τ).loc Cert.RefGradQkvIdeal.main_arg0) = m ((c.tc : Thread Cert.GradQkvIdeal.nD Cert.GradQkvIdeal.τ).loc Cert.GradQkvIdeal.main_arg0)
      ∧ m' ((c.tc : Thread Cert.RefGradQkvIdeal.nD Cert.RefGradQkvIdeal.τ).loc Cert.RefGradQkvIdeal.main_arg1) = m ((c.tc : Thread Cert.GradQkvIdeal.nD Cert.GradQkvIdeal.τ).loc Cert.GradQkvIdeal.main_arg1)) →
    ∃ (v0 : (c : Dev Cert.GradQkvIdeal.nD) → Buf (Elt Ideal) ((c.tc : Thread Cert.GradQkvIdeal.nD Cert.GradQkvIdeal.τ).loc Cert.GradQkvIdeal.main_v0)),
      θ_run (Cert.GradQkvIdeal.defs (F := Ideal)) (onTc (τ := Cert.GradQkvIdeal.τ) (Cert.GradQkvIdeal.main (F := Ideal))) ⟨m, fun _ => 0, g⟩ (fun r => ∀ c : Dev Cert.GradQkvIdeal.nD,
          r.2.mem ((c.tc : Thread Cert.GradQkvIdeal.nD Cert.GradQkvIdeal.τ).loc Cert.GradQkvIdeal.main_v0) = v0 c
          ∧ r.2.mem ((c.tc : Thread Cert.GradQkvIdeal.nD Cert.GradQkvIdeal.τ).loc Cert.GradQkvIdeal.main_arg0) = m ((c.tc : Thread Cert.GradQkvIdeal.nD Cert.GradQkvIdeal.τ).loc Cert.GradQkvIdeal.main_arg0)
          ∧ r.2.mem ((c.tc : Thread Cert.GradQkvIdeal.nD Cert.GradQkvIdeal.τ).loc Cert.GradQkvIdeal.main_arg1) = m ((c.tc : Thread Cert.GradQkvIdeal.nD Cert.GradQkvIdeal.τ).loc Cert.GradQkvIdeal.main_arg1))
      ∧ θ_run (Cert.RefGradQkvIdeal.defs (F := Ideal)) (onTc (τ := Cert.RefGradQkvIdeal.τ) (Cert.RefGradQkvIdeal.main (F := Ideal))) ⟨m', fun _ => 0, g'⟩ (fun r => ∀ c : Dev Cert.RefGradQkvIdeal.nD,
          r.2.mem ((c.tc : Thread Cert.RefGradQkvIdeal.nD Cert.RefGradQkvIdeal.τ).loc Cert.RefGradQkvIdeal.main_v5) = v0 c
          ∧ r.2.mem ((c.tc : Thread Cert.RefGradQkvIdeal.nD Cert.RefGradQkvIdeal.τ).loc Cert.RefGradQkvIdeal.main_arg0) = m' ((c.tc : Thread Cert.RefGradQkvIdeal.nD Cert.RefGradQkvIdeal.τ).loc Cert.RefGradQkvIdeal.main_arg0)
          ∧ r.2.mem ((c.tc : Thread Cert.RefGradQkvIdeal.nD Cert.RefGradQkvIdeal.τ).loc Cert.RefGradQkvIdeal.main_arg1) = m' ((c.tc : Thread Cert.RefGradQkvIdeal.nD Cert.RefGradQkvIdeal.τ).loc Cert.RefGradQkvIdeal.main_arg1))

def preserves_MixBwd_MixBwdIdeal : Prop :=
  True

def algebraic_MixBwdIdeal_RefMixBwdIdeal [hMixBwdIdeal : Cert.MixBwdIdeal.Facts] [hRefMixBwdIdeal : Cert.RefMixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.RefMixBwdIdeal.nD Cert.RefMixBwdIdeal.τ Cert.RefMixBwdIdeal.sig) → Buf (Elt Ideal) ℓ) (g' : Dev Cert.RefMixBwdIdeal.nD → PrngReg), Pre_MixBwdIdeal m →
    (∀ c : Dev Cert.MixBwdIdeal.nD,
      m' ((c.tc : Thread Cert.RefMixBwdIdeal.nD Cert.RefMixBwdIdeal.τ).loc Cert.RefMixBwdIdeal.main_arg0) = m ((c.tc : Thread Cert.MixBwdIdeal.nD Cert.MixBwdIdeal.τ).loc Cert.MixBwdIdeal.main_arg0)
      ∧ m' ((c.tc : Thread Cert.RefMixBwdIdeal.nD Cert.RefMixBwdIdeal.τ).loc Cert.RefMixBwdIdeal.main_arg1) = m ((c.tc : Thread Cert.MixBwdIdeal.nD Cert.MixBwdIdeal.τ).loc Cert.MixBwdIdeal.main_arg1)
      ∧ m' ((c.tc : Thread Cert.RefMixBwdIdeal.nD Cert.RefMixBwdIdeal.τ).loc Cert.RefMixBwdIdeal.main_arg2) = m ((c.tc : Thread Cert.MixBwdIdeal.nD Cert.MixBwdIdeal.τ).loc Cert.MixBwdIdeal.main_arg2)
      ∧ m' ((c.tc : Thread Cert.RefMixBwdIdeal.nD Cert.RefMixBwdIdeal.τ).loc Cert.RefMixBwdIdeal.main_arg3) = m ((c.tc : Thread Cert.MixBwdIdeal.nD Cert.MixBwdIdeal.τ).loc Cert.MixBwdIdeal.main_arg3)) →
    ∃ (v0 : (c : Dev Cert.MixBwdIdeal.nD) → Buf (Elt Ideal) ((c.tc : Thread Cert.MixBwdIdeal.nD Cert.MixBwdIdeal.τ).loc Cert.MixBwdIdeal.main_v0_0)) (v1 : (c : Dev Cert.MixBwdIdeal.nD) → Buf (Elt Ideal) ((c.tc : Thread Cert.MixBwdIdeal.nD Cert.MixBwdIdeal.τ).loc Cert.MixBwdIdeal.main_v0_1)) (v2 : (c : Dev Cert.MixBwdIdeal.nD) → Buf (Elt Ideal) ((c.tc : Thread Cert.MixBwdIdeal.nD Cert.MixBwdIdeal.τ).loc Cert.MixBwdIdeal.main_v0_2)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v0_0) = v0 c
          ∧ r.2.mem ((c.tc : Thread Cert.MixBwdIdeal.nD Cert.MixBwdIdeal.τ).loc Cert.MixBwdIdeal.main_v0_1) = v1 c
          ∧ r.2.mem ((c.tc : Thread Cert.MixBwdIdeal.nD Cert.MixBwdIdeal.τ).loc Cert.MixBwdIdeal.main_v0_2) = v2 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3))
      ∧ θ_run (Cert.RefMixBwdIdeal.defs (F := Ideal)) (onTc (τ := Cert.RefMixBwdIdeal.τ) (Cert.RefMixBwdIdeal.main (F := Ideal))) ⟨m', fun _ => 0, g'⟩ (fun r => ∀ c : Dev Cert.RefMixBwdIdeal.nD,
          r.2.mem ((c.tc : Thread Cert.RefMixBwdIdeal.nD Cert.RefMixBwdIdeal.τ).loc Cert.RefMixBwdIdeal.main_v30) = v0 c
          ∧ r.2.mem ((c.tc : Thread Cert.RefMixBwdIdeal.nD Cert.RefMixBwdIdeal.τ).loc Cert.RefMixBwdIdeal.main_v31) = v1 c
          ∧ r.2.mem ((c.tc : Thread Cert.RefMixBwdIdeal.nD Cert.RefMixBwdIdeal.τ).loc Cert.RefMixBwdIdeal.main_v33) = v2 c
          ∧ r.2.mem ((c.tc : Thread Cert.RefMixBwdIdeal.nD Cert.RefMixBwdIdeal.τ).loc Cert.RefMixBwdIdeal.main_arg0) = m' ((c.tc : Thread Cert.RefMixBwdIdeal.nD Cert.RefMixBwdIdeal.τ).loc Cert.RefMixBwdIdeal.main_arg0)
          ∧ r.2.mem ((c.tc : Thread Cert.RefMixBwdIdeal.nD Cert.RefMixBwdIdeal.τ).loc Cert.RefMixBwdIdeal.main_arg1) = m' ((c.tc : Thread Cert.RefMixBwdIdeal.nD Cert.RefMixBwdIdeal.τ).loc Cert.RefMixBwdIdeal.main_arg1)
          ∧ r.2.mem ((c.tc : Thread Cert.RefMixBwdIdeal.nD Cert.RefMixBwdIdeal.τ).loc Cert.RefMixBwdIdeal.main_arg2) = m' ((c.tc : Thread Cert.RefMixBwdIdeal.nD Cert.RefMixBwdIdeal.τ).loc Cert.RefMixBwdIdeal.main_arg2)
          ∧ r.2.mem ((c.tc : Thread Cert.RefMixBwdIdeal.nD Cert.RefMixBwdIdeal.τ).loc Cert.RefMixBwdIdeal.main_arg3) = m' ((c.tc : Thread Cert.RefMixBwdIdeal.nD Cert.RefMixBwdIdeal.τ).loc Cert.RefMixBwdIdeal.main_arg3))

def preserves_NormBwd_NormBwdIdeal : Prop :=
  True

def algebraic_NormBwdIdeal_RefNormBwdIdeal [hNormBwdIdeal : Cert.NormBwdIdeal.Facts] [hRefNormBwdIdeal : Cert.RefNormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.RefNormBwdIdeal.nD Cert.RefNormBwdIdeal.τ Cert.RefNormBwdIdeal.sig) → Buf (Elt Ideal) ℓ) (g' : Dev Cert.RefNormBwdIdeal.nD → PrngReg), Pre_NormBwdIdeal m →
    (∀ c : Dev Cert.NormBwdIdeal.nD,
      m' ((c.tc : Thread Cert.RefNormBwdIdeal.nD Cert.RefNormBwdIdeal.τ).loc Cert.RefNormBwdIdeal.main_arg0) = m ((c.tc : Thread Cert.NormBwdIdeal.nD Cert.NormBwdIdeal.τ).loc Cert.NormBwdIdeal.main_arg0)
      ∧ m' ((c.tc : Thread Cert.RefNormBwdIdeal.nD Cert.RefNormBwdIdeal.τ).loc Cert.RefNormBwdIdeal.main_arg1) = m ((c.tc : Thread Cert.NormBwdIdeal.nD Cert.NormBwdIdeal.τ).loc Cert.NormBwdIdeal.main_arg1)
      ∧ m' ((c.tc : Thread Cert.RefNormBwdIdeal.nD Cert.RefNormBwdIdeal.τ).loc Cert.RefNormBwdIdeal.main_arg2) = m ((c.tc : Thread Cert.NormBwdIdeal.nD Cert.NormBwdIdeal.τ).loc Cert.NormBwdIdeal.main_arg2)
      ∧ m' ((c.tc : Thread Cert.RefNormBwdIdeal.nD Cert.RefNormBwdIdeal.τ).loc Cert.RefNormBwdIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.RefNormBwdIdeal.defs (F := Ideal)) (onTc (τ := Cert.RefNormBwdIdeal.τ) (Cert.RefNormBwdIdeal.main (F := Ideal))) ⟨m', fun _ => 0, g'⟩ (fun r => ∀ c : Dev Cert.RefNormBwdIdeal.nD,
          r.2.mem ((c.tc : Thread Cert.RefNormBwdIdeal.nD Cert.RefNormBwdIdeal.τ).loc Cert.RefNormBwdIdeal.main_v34) = v0 c
          ∧ r.2.mem ((c.tc : Thread Cert.RefNormBwdIdeal.nD Cert.RefNormBwdIdeal.τ).loc Cert.RefNormBwdIdeal.main_v17) = v1 c
          ∧ r.2.mem ((c.tc : Thread Cert.RefNormBwdIdeal.nD Cert.RefNormBwdIdeal.τ).loc Cert.RefNormBwdIdeal.main_arg0) = m' ((c.tc : Thread Cert.RefNormBwdIdeal.nD Cert.RefNormBwdIdeal.τ).loc Cert.RefNormBwdIdeal.main_arg0)
          ∧ r.2.mem ((c.tc : Thread Cert.RefNormBwdIdeal.nD Cert.RefNormBwdIdeal.τ).loc Cert.RefNormBwdIdeal.main_arg1) = m' ((c.tc : Thread Cert.RefNormBwdIdeal.nD Cert.RefNormBwdIdeal.τ).loc Cert.RefNormBwdIdeal.main_arg1)
          ∧ r.2.mem ((c.tc : Thread Cert.RefNormBwdIdeal.nD Cert.RefNormBwdIdeal.τ).loc Cert.RefNormBwdIdeal.main_arg2) = m' ((c.tc : Thread Cert.RefNormBwdIdeal.nD Cert.RefNormBwdIdeal.τ).loc Cert.RefNormBwdIdeal.main_arg2)
          ∧ r.2.mem ((c.tc : Thread Cert.RefNormBwdIdeal.nD Cert.RefNormBwdIdeal.τ).loc Cert.RefNormBwdIdeal.main_arg3) = m' ((c.tc : Thread Cert.RefNormBwdIdeal.nD Cert.RefNormBwdIdeal.τ).loc Cert.RefNormBwdIdeal.main_arg3))

def preserves_PostBwd_PostBwdIdeal : Prop :=
  True

def algebraic_PostBwdIdeal_RefPostBwdIdeal [hPostBwdIdeal : Cert.PostBwdIdeal.Facts] [hRefPostBwdIdeal : Cert.RefPostBwdIdeal.Facts] : Prop :=
  ∀ (m : (ℓ : Loc Cert.PostBwdIdeal.nD Cert.PostBwdIdeal.τ Cert.PostBwdIdeal.sig) → Buf (Elt Ideal) ℓ) (g : Dev Cert.PostBwdIdeal.nD → PrngReg)
    (m' : (ℓ : Loc Cert.RefPostBwdIdeal.nD Cert.RefPostBwdIdeal.τ Cert.RefPostBwdIdeal.sig) → Buf (Elt Ideal) ℓ) (g' : Dev Cert.RefPostBwdIdeal.nD → PrngReg), Pre_PostBwdIdeal m →
    (∀ c : Dev Cert.PostBwdIdeal.nD,
      m' ((c.tc : Thread Cert.RefPostBwdIdeal.nD Cert.RefPostBwdIdeal.τ).loc Cert.RefPostBwdIdeal.main_arg0) = m ((c.tc : Thread Cert.PostBwdIdeal.nD Cert.PostBwdIdeal.τ).loc Cert.PostBwdIdeal.main_arg0)
      ∧ m' ((c.tc : Thread Cert.RefPostBwdIdeal.nD Cert.RefPostBwdIdeal.τ).loc Cert.RefPostBwdIdeal.main_arg1) = m ((c.tc : Thread Cert.PostBwdIdeal.nD Cert.PostBwdIdeal.τ).loc Cert.PostBwdIdeal.main_arg1)
      ∧ m' ((c.tc : Thread Cert.RefPostBwdIdeal.nD Cert.RefPostBwdIdeal.τ).loc Cert.RefPostBwdIdeal.main_arg2) = m ((c.tc : Thread Cert.PostBwdIdeal.nD Cert.PostBwdIdeal.τ).loc Cert.PostBwdIdeal.main_arg2)
      ∧ m' ((c.tc : Thread Cert.RefPostBwdIdeal.nD Cert.RefPostBwdIdeal.τ).loc Cert.RefPostBwdIdeal.main_arg3) = m ((c.tc : Thread Cert.PostBwdIdeal.nD Cert.PostBwdIdeal.τ).loc Cert.PostBwdIdeal.main_arg3)
      ∧ m' ((c.tc : Thread Cert.RefPostBwdIdeal.nD Cert.RefPostBwdIdeal.τ).loc Cert.RefPostBwdIdeal.main_arg4) = m ((c.tc : Thread Cert.PostBwdIdeal.nD Cert.PostBwdIdeal.τ).loc Cert.PostBwdIdeal.main_arg4)
      ∧ m' ((c.tc : Thread Cert.RefPostBwdIdeal.nD Cert.RefPostBwdIdeal.τ).loc Cert.RefPostBwdIdeal.main_arg5) = m ((c.tc : Thread Cert.PostBwdIdeal.nD Cert.PostBwdIdeal.τ).loc Cert.PostBwdIdeal.main_arg5)) →
    ∃ (v0 : (c : Dev Cert.PostBwdIdeal.nD) → Buf (Elt Ideal) ((c.tc : Thread Cert.PostBwdIdeal.nD Cert.PostBwdIdeal.τ).loc Cert.PostBwdIdeal.main_v0_0)) (v1 : (c : Dev Cert.PostBwdIdeal.nD) → Buf (Elt Ideal) ((c.tc : Thread Cert.PostBwdIdeal.nD Cert.PostBwdIdeal.τ).loc Cert.PostBwdIdeal.main_v0_1)) (v2 : (c : Dev Cert.PostBwdIdeal.nD) → Buf (Elt Ideal) ((c.tc : Thread Cert.PostBwdIdeal.nD Cert.PostBwdIdeal.τ).loc Cert.PostBwdIdeal.main_v0_2)) (v3 : (c : Dev Cert.PostBwdIdeal.nD) → Buf (Elt Ideal) ((c.tc : Thread Cert.PostBwdIdeal.nD Cert.PostBwdIdeal.τ).loc Cert.PostBwdIdeal.main_v0_3)),
      θ_run (Cert.PostBwdIdeal.defs (F := Ideal)) (onTc (τ := Cert.PostBwdIdeal.τ) (Cert.PostBwdIdeal.main (F := Ideal))) ⟨m, fun _ => 0, g⟩ (fun r => ∀ c : Dev Cert.PostBwdIdeal.nD,
          r.2.mem ((c.tc : Thread Cert.PostBwdIdeal.nD Cert.PostBwdIdeal.τ).loc Cert.PostBwdIdeal.main_v0_0) = v0 c
          ∧ r.2.mem ((c.tc : Thread Cert.PostBwdIdeal.nD Cert.PostBwdIdeal.τ).loc Cert.PostBwdIdeal.main_v0_1) = v1 c
          ∧ r.2.mem ((c.tc : Thread Cert.PostBwdIdeal.nD Cert.PostBwdIdeal.τ).loc Cert.PostBwdIdeal.main_v0_2) = v2 c
          ∧ r.2.mem ((c.tc : Thread Cert.PostBwdIdeal.nD Cert.PostBwdIdeal.τ).loc Cert.PostBwdIdeal.main_v0_3) = v3 c
          ∧ r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
          ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
          ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
          ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3)
          ∧ r.2.mem ((c.tc : Thread Cert.PostBwdIdeal.nD Cert.PostBwdIdeal.τ).loc Cert.PostBwdIdeal.main_arg4) = m ((c.tc : Thread Cert.PostBwdIdeal.nD Cert.PostBwdIdeal.τ).loc Cert.PostBwdIdeal.main_arg4)
          ∧ r.2.mem ((c.tc : Thread Cert.PostBwdIdeal.nD Cert.PostBwdIdeal.τ).loc Cert.PostBwdIdeal.main_arg5) = m ((c.tc : Thread Cert.PostBwdIdeal.nD Cert.PostBwdIdeal.τ).loc Cert.PostBwdIdeal.main_arg5))
      ∧ θ_run (Cert.RefPostBwdIdeal.defs (F := Ideal)) (onTc (τ := Cert.RefPostBwdIdeal.τ) (Cert.RefPostBwdIdeal.main (F := Ideal))) ⟨m', fun _ => 0, g'⟩ (fun r => ∀ c : Dev Cert.RefPostBwdIdeal.nD,
          r.2.mem ((c.tc : Thread Cert.RefPostBwdIdeal.nD Cert.RefPostBwdIdeal.τ).loc Cert.RefPostBwdIdeal.main_v50) = v0 c
          ∧ r.2.mem ((c.tc : Thread Cert.RefPostBwdIdeal.nD Cert.RefPostBwdIdeal.τ).loc Cert.RefPostBwdIdeal.main_v71) = v1 c
          ∧ r.2.mem ((c.tc : Thread Cert.RefPostBwdIdeal.nD Cert.RefPostBwdIdeal.τ).loc Cert.RefPostBwdIdeal.main_v33) = v2 c
          ∧ r.2.mem ((c.tc : Thread Cert.RefPostBwdIdeal.nD Cert.RefPostBwdIdeal.τ).loc Cert.RefPostBwdIdeal.main_v54) = v3 c
          ∧ r.2.mem ((c.tc : Thread Cert.RefPostBwdIdeal.nD Cert.RefPostBwdIdeal.τ).loc Cert.RefPostBwdIdeal.main_arg0) = m' ((c.tc : Thread Cert.RefPostBwdIdeal.nD Cert.RefPostBwdIdeal.τ).loc Cert.RefPostBwdIdeal.main_arg0)
          ∧ r.2.mem ((c.tc : Thread Cert.RefPostBwdIdeal.nD Cert.RefPostBwdIdeal.τ).loc Cert.RefPostBwdIdeal.main_arg1) = m' ((c.tc : Thread Cert.RefPostBwdIdeal.nD Cert.RefPostBwdIdeal.τ).loc Cert.RefPostBwdIdeal.main_arg1)
          ∧ r.2.mem ((c.tc : Thread Cert.RefPostBwdIdeal.nD Cert.RefPostBwdIdeal.τ).loc Cert.RefPostBwdIdeal.main_arg2) = m' ((c.tc : Thread Cert.RefPostBwdIdeal.nD Cert.RefPostBwdIdeal.τ).loc Cert.RefPostBwdIdeal.main_arg2)
          ∧ r.2.mem ((c.tc : Thread Cert.RefPostBwdIdeal.nD Cert.RefPostBwdIdeal.τ).loc Cert.RefPostBwdIdeal.main_arg3) = m' ((c.tc : Thread Cert.RefPostBwdIdeal.nD Cert.RefPostBwdIdeal.τ).loc Cert.RefPostBwdIdeal.main_arg3)
          ∧ r.2.mem ((c.tc : Thread Cert.RefPostBwdIdeal.nD Cert.RefPostBwdIdeal.τ).loc Cert.RefPostBwdIdeal.main_arg4) = m' ((c.tc : Thread Cert.RefPostBwdIdeal.nD Cert.RefPostBwdIdeal.τ).loc Cert.RefPostBwdIdeal.main_arg4)
          ∧ r.2.mem ((c.tc : Thread Cert.RefPostBwdIdeal.nD Cert.RefPostBwdIdeal.τ).loc Cert.RefPostBwdIdeal.main_arg5) = m' ((c.tc : Thread Cert.RefPostBwdIdeal.nD Cert.RefPostBwdIdeal.τ).loc Cert.RefPostBwdIdeal.main_arg5))

def preserves_Loss_LossIdeal : Prop :=
  True

def algebraic_LossIdeal_RefLossIdeal [hLossIdeal : Cert.LossIdeal.Facts] [hRefLossIdeal : Cert.RefLossIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.RefLossIdeal.nD Cert.RefLossIdeal.τ Cert.RefLossIdeal.sig) → Buf (Elt Ideal) ℓ) (g' : Dev Cert.RefLossIdeal.nD → PrngReg), Pre_LossIdeal m →
    (∀ c : Dev Cert.LossIdeal.nD,
      m' ((c.tc : Thread Cert.RefLossIdeal.nD Cert.RefLossIdeal.τ).loc Cert.RefLossIdeal.main_arg0) = m ((c.tc : Thread Cert.LossIdeal.nD Cert.LossIdeal.τ).loc Cert.LossIdeal.main_arg0)
      ∧ m' ((c.tc : Thread Cert.RefLossIdeal.nD Cert.RefLossIdeal.τ).loc Cert.RefLossIdeal.main_arg1) = m ((c.tc : Thread Cert.LossIdeal.nD Cert.LossIdeal.τ).loc Cert.LossIdeal.main_arg1)
      ∧ m' ((c.tc : Thread Cert.RefLossIdeal.nD Cert.RefLossIdeal.τ).loc Cert.RefLossIdeal.main_arg2) = m ((c.tc : Thread Cert.LossIdeal.nD Cert.LossIdeal.τ).loc Cert.LossIdeal.main_arg2)
      ∧ m' ((c.tc : Thread Cert.RefLossIdeal.nD Cert.RefLossIdeal.τ).loc Cert.RefLossIdeal.main_arg3) = m ((c.tc : Thread Cert.LossIdeal.nD Cert.LossIdeal.τ).loc Cert.LossIdeal.main_arg3)
      ∧ m' ((c.tc : Thread Cert.RefLossIdeal.nD Cert.RefLossIdeal.τ).loc Cert.RefLossIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)) (v4 : (c : Dev Cert.LossIdeal.nD) → Buf (Elt Ideal) ((c.tc : Thread Cert.LossIdeal.nD Cert.LossIdeal.τ).loc Cert.LossIdeal.main_v0_4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_v0_4) = v4 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.RefLossIdeal.defs (F := Ideal)) (onTc (τ := Cert.RefLossIdeal.τ) (Cert.RefLossIdeal.main (F := Ideal))) ⟨m', fun _ => 0, g'⟩ (fun r => ∀ c : Dev Cert.RefLossIdeal.nD,
          r.2.mem ((c.tc : Thread Cert.RefLossIdeal.nD Cert.RefLossIdeal.τ).loc Cert.RefLossIdeal.main_v63) = v0 c
          ∧ r.2.mem ((c.tc : Thread Cert.RefLossIdeal.nD Cert.RefLossIdeal.τ).loc Cert.RefLossIdeal.main_v40) = v1 c
          ∧ r.2.mem ((c.tc : Thread Cert.RefLossIdeal.nD Cert.RefLossIdeal.τ).loc Cert.RefLossIdeal.main_v64) = v2 c
          ∧ r.2.mem ((c.tc : Thread Cert.RefLossIdeal.nD Cert.RefLossIdeal.τ).loc Cert.RefLossIdeal.main_v65) = v3 c
          ∧ r.2.mem ((c.tc : Thread Cert.RefLossIdeal.nD Cert.RefLossIdeal.τ).loc Cert.RefLossIdeal.main_v43) = v4 c
          ∧ r.2.mem ((c.tc : Thread Cert.RefLossIdeal.nD Cert.RefLossIdeal.τ).loc Cert.RefLossIdeal.main_arg0) = m' ((c.tc : Thread Cert.RefLossIdeal.nD Cert.RefLossIdeal.τ).loc Cert.RefLossIdeal.main_arg0)
          ∧ r.2.mem ((c.tc : Thread Cert.RefLossIdeal.nD Cert.RefLossIdeal.τ).loc Cert.RefLossIdeal.main_arg1) = m' ((c.tc : Thread Cert.RefLossIdeal.nD Cert.RefLossIdeal.τ).loc Cert.RefLossIdeal.main_arg1)
          ∧ r.2.mem ((c.tc : Thread Cert.RefLossIdeal.nD Cert.RefLossIdeal.τ).loc Cert.RefLossIdeal.main_arg2) = m' ((c.tc : Thread Cert.RefLossIdeal.nD Cert.RefLossIdeal.τ).loc Cert.RefLossIdeal.main_arg2)
          ∧ r.2.mem ((c.tc : Thread Cert.RefLossIdeal.nD Cert.RefLossIdeal.τ).loc Cert.RefLossIdeal.main_arg3) = m' ((c.tc : Thread Cert.RefLossIdeal.nD Cert.RefLossIdeal.τ).loc Cert.RefLossIdeal.main_arg3)
          ∧ r.2.mem ((c.tc : Thread Cert.RefLossIdeal.nD Cert.RefLossIdeal.τ).loc Cert.RefLossIdeal.main_arg4) = m' ((c.tc : Thread Cert.RefLossIdeal.nD Cert.RefLossIdeal.τ).loc Cert.RefLossIdeal.main_arg4))

def Claim : Prop :=
  ∃ (hKernel : Cert.Kernel.Facts) (hKernelIdeal : Cert.KernelIdeal.Facts) (hReferenceIdeal : Cert.ReferenceIdeal.Facts) (hGradDown : Cert.GradDown.Facts) (hGradDownIdeal : Cert.GradDownIdeal.Facts) (hRefGradDownIdeal : Cert.RefGradDownIdeal.Facts) (hGradSsm : Cert.GradSsm.Facts) (hGradSsmIdeal : Cert.GradSsmIdeal.Facts) (hRefGradSsmIdeal : Cert.RefGradSsmIdeal.Facts) (hGradAttn : Cert.GradAttn.Facts) (hGradAttnIdeal : Cert.GradAttnIdeal.Facts) (hRefGradAttnIdeal : Cert.RefGradAttnIdeal.Facts) (hBackAttn : Cert.BackAttn.Facts) (hBackAttnIdeal : Cert.BackAttnIdeal.Facts) (hRefBackAttnIdeal : Cert.RefBackAttnIdeal.Facts) (hSwiglu : Cert.Swiglu.Facts) (hSwigluIdeal : Cert.SwigluIdeal.Facts) (hRefSwigluIdeal : Cert.RefSwigluIdeal.Facts) (hDown : Cert.Down.Facts) (hDownIdeal : Cert.DownIdeal.Facts) (hRefDownIdeal : Cert.RefDownIdeal.Facts) (hSsm : Cert.Ssm.Facts) (hSsmIdeal : Cert.SsmIdeal.Facts) (hRefSsmIdeal : Cert.RefSsmIdeal.Facts) (hOut : Cert.Out.Facts) (hOutIdeal : Cert.OutIdeal.Facts) (hRefOutIdeal : Cert.RefOutIdeal.Facts) (hFwd : Cert.Fwd.Facts) (hFwdIdeal : Cert.FwdIdeal.Facts) (hRefFwdIdeal : Cert.RefFwdIdeal.Facts) (hBackGate : Cert.BackGate.Facts) (hBackGateIdeal : Cert.BackGateIdeal.Facts) (hRefBackGateIdeal : Cert.RefBackGateIdeal.Facts) (hQkv : Cert.Qkv.Facts) (hQkvIdeal : Cert.QkvIdeal.Facts) (hRefQkvIdeal : Cert.RefQkvIdeal.Facts) (hUq : Cert.Uq.Facts) (hUqIdeal : Cert.UqIdeal.Facts) (hRefUqIdeal : Cert.RefUqIdeal.Facts) (hUkv : Cert.Ukv.Facts) (hUkvIdeal : Cert.UkvIdeal.Facts) (hRefUkvIdeal : Cert.RefUkvIdeal.Facts) (hBackUq : Cert.BackUq.Facts) (hBackUqIdeal : Cert.BackUqIdeal.Facts) (hRefBackUqIdeal : Cert.RefBackUqIdeal.Facts) (hGradUq : Cert.GradUq.Facts) (hGradUqIdeal : Cert.GradUqIdeal.Facts) (hRefGradUqIdeal : Cert.RefGradUqIdeal.Facts) (hGradQkv : Cert.GradQkv.Facts) (hGradQkvIdeal : Cert.GradQkvIdeal.Facts) (hRefGradQkvIdeal : Cert.RefGradQkvIdeal.Facts) (hMixBwd : Cert.MixBwd.Facts) (hMixBwdIdeal : Cert.MixBwdIdeal.Facts) (hRefMixBwdIdeal : Cert.RefMixBwdIdeal.Facts) (hNormBwd : Cert.NormBwd.Facts) (hNormBwdIdeal : Cert.NormBwdIdeal.Facts) (hRefNormBwdIdeal : Cert.RefNormBwdIdeal.Facts) (hPostBwd : Cert.PostBwd.Facts) (hPostBwdIdeal : Cert.PostBwdIdeal.Facts) (hRefPostBwdIdeal : Cert.RefPostBwdIdeal.Facts) (hLoss : Cert.Loss.Facts) (hLossIdeal : Cert.LossIdeal.Facts) (hRefLossIdeal : Cert.RefLossIdeal.Facts) (hPre_finite : Cert.Pre_finite.Facts) (hPre_finite_fwd : Cert.Pre_finite_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_GradDown (hGradDown := hGradDown)
    ∧ quiescent_GradDownIdeal (hGradDownIdeal := hGradDownIdeal)
    ∧ quiescent_RefGradDownIdeal (hRefGradDownIdeal := hRefGradDownIdeal)
    ∧ quiescent_GradSsm (hGradSsm := hGradSsm)
    ∧ quiescent_GradSsmIdeal (hGradSsmIdeal := hGradSsmIdeal)
    ∧ quiescent_RefGradSsmIdeal (hRefGradSsmIdeal := hRefGradSsmIdeal)
    ∧ quiescent_GradAttn (hGradAttn := hGradAttn)
    ∧ quiescent_GradAttnIdeal (hGradAttnIdeal := hGradAttnIdeal)
    ∧ quiescent_RefGradAttnIdeal (hRefGradAttnIdeal := hRefGradAttnIdeal)
    ∧ quiescent_BackAttn (hBackAttn := hBackAttn)
    ∧ quiescent_BackAttnIdeal (hBackAttnIdeal := hBackAttnIdeal)
    ∧ quiescent_RefBackAttnIdeal (hRefBackAttnIdeal := hRefBackAttnIdeal)
    ∧ quiescent_Swiglu (hSwiglu := hSwiglu)
    ∧ quiescent_SwigluIdeal (hSwigluIdeal := hSwigluIdeal)
    ∧ quiescent_RefSwigluIdeal (hRefSwigluIdeal := hRefSwigluIdeal)
    ∧ quiescent_Down (hDown := hDown)
    ∧ quiescent_DownIdeal (hDownIdeal := hDownIdeal)
    ∧ quiescent_RefDownIdeal (hRefDownIdeal := hRefDownIdeal)
    ∧ quiescent_Ssm (hSsm := hSsm)
    ∧ quiescent_SsmIdeal (hSsmIdeal := hSsmIdeal)
    ∧ quiescent_RefSsmIdeal (hRefSsmIdeal := hRefSsmIdeal)
    ∧ quiescent_Out (hOut := hOut)
    ∧ quiescent_OutIdeal (hOutIdeal := hOutIdeal)
    ∧ quiescent_RefOutIdeal (hRefOutIdeal := hRefOutIdeal)
    ∧ quiescent_Fwd (hFwd := hFwd)
    ∧ quiescent_FwdIdeal (hFwdIdeal := hFwdIdeal)
    ∧ quiescent_FwdIdeal_pre_finite_fwd (hFwdIdeal := hFwdIdeal) (hPre_finite_fwd := hPre_finite_fwd)
    ∧ quiescent_RefFwdIdeal (hRefFwdIdeal := hRefFwdIdeal)
    ∧ quiescent_RefFwdIdeal_pre_finite_fwd (hRefFwdIdeal := hRefFwdIdeal) (hPre_finite_fwd := hPre_finite_fwd)
    ∧ quiescent_BackGate (hBackGate := hBackGate)
    ∧ quiescent_BackGateIdeal (hBackGateIdeal := hBackGateIdeal)
    ∧ quiescent_RefBackGateIdeal (hRefBackGateIdeal := hRefBackGateIdeal)
    ∧ quiescent_Qkv (hQkv := hQkv)
    ∧ quiescent_QkvIdeal (hQkvIdeal := hQkvIdeal)
    ∧ quiescent_RefQkvIdeal (hRefQkvIdeal := hRefQkvIdeal)
    ∧ quiescent_Uq (hUq := hUq)
    ∧ quiescent_UqIdeal (hUqIdeal := hUqIdeal)
    ∧ quiescent_RefUqIdeal (hRefUqIdeal := hRefUqIdeal)
    ∧ quiescent_Ukv (hUkv := hUkv)
    ∧ quiescent_UkvIdeal (hUkvIdeal := hUkvIdeal)
    ∧ quiescent_RefUkvIdeal (hRefUkvIdeal := hRefUkvIdeal)
    ∧ quiescent_BackUq (hBackUq := hBackUq)
    ∧ quiescent_BackUqIdeal (hBackUqIdeal := hBackUqIdeal)
    ∧ quiescent_RefBackUqIdeal (hRefBackUqIdeal := hRefBackUqIdeal)
    ∧ quiescent_GradUq (hGradUq := hGradUq)
    ∧ quiescent_GradUqIdeal (hGradUqIdeal := hGradUqIdeal)
    ∧ quiescent_RefGradUqIdeal (hRefGradUqIdeal := hRefGradUqIdeal)
    ∧ quiescent_GradQkv (hGradQkv := hGradQkv)
    ∧ quiescent_GradQkvIdeal (hGradQkvIdeal := hGradQkvIdeal)
    ∧ quiescent_RefGradQkvIdeal (hRefGradQkvIdeal := hRefGradQkvIdeal)
    ∧ quiescent_MixBwd (hMixBwd := hMixBwd)
    ∧ quiescent_MixBwdIdeal (hMixBwdIdeal := hMixBwdIdeal)
    ∧ quiescent_RefMixBwdIdeal (hRefMixBwdIdeal := hRefMixBwdIdeal)
    ∧ quiescent_NormBwd (hNormBwd := hNormBwd)
    ∧ quiescent_NormBwdIdeal (hNormBwdIdeal := hNormBwdIdeal)
    ∧ quiescent_RefNormBwdIdeal (hRefNormBwdIdeal := hRefNormBwdIdeal)
    ∧ quiescent_PostBwd (hPostBwd := hPostBwd)
    ∧ quiescent_PostBwdIdeal (hPostBwdIdeal := hPostBwdIdeal)
    ∧ quiescent_RefPostBwdIdeal (hRefPostBwdIdeal := hRefPostBwdIdeal)
    ∧ quiescent_Loss (hLoss := hLoss)
    ∧ quiescent_LossIdeal (hLossIdeal := hLossIdeal)
    ∧ quiescent_RefLossIdeal (hRefLossIdeal := hRefLossIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_GradDown_GradDownIdeal
    ∧ algebraic_GradDownIdeal_RefGradDownIdeal (hGradDownIdeal := hGradDownIdeal) (hRefGradDownIdeal := hRefGradDownIdeal)
    ∧ preserves_GradSsm_GradSsmIdeal
    ∧ algebraic_GradSsmIdeal_RefGradSsmIdeal (hGradSsmIdeal := hGradSsmIdeal) (hRefGradSsmIdeal := hRefGradSsmIdeal)
    ∧ preserves_GradAttn_GradAttnIdeal
    ∧ algebraic_GradAttnIdeal_RefGradAttnIdeal (hGradAttnIdeal := hGradAttnIdeal) (hRefGradAttnIdeal := hRefGradAttnIdeal)
    ∧ preserves_BackAttn_BackAttnIdeal
    ∧ algebraic_BackAttnIdeal_RefBackAttnIdeal (hBackAttnIdeal := hBackAttnIdeal) (hRefBackAttnIdeal := hRefBackAttnIdeal)
    ∧ preserves_Swiglu_SwigluIdeal
    ∧ algebraic_SwigluIdeal_RefSwigluIdeal (hSwigluIdeal := hSwigluIdeal) (hRefSwigluIdeal := hRefSwigluIdeal)
    ∧ preserves_Down_DownIdeal
    ∧ algebraic_DownIdeal_RefDownIdeal (hDownIdeal := hDownIdeal) (hRefDownIdeal := hRefDownIdeal)
    ∧ preserves_Ssm_SsmIdeal
    ∧ algebraic_SsmIdeal_RefSsmIdeal (hSsmIdeal := hSsmIdeal) (hRefSsmIdeal := hRefSsmIdeal)
    ∧ preserves_Out_OutIdeal
    ∧ algebraic_OutIdeal_RefOutIdeal (hOutIdeal := hOutIdeal) (hRefOutIdeal := hRefOutIdeal)
    ∧ preserves_Fwd_FwdIdeal
    ∧ algebraic_FwdIdeal_RefFwdIdeal_pre_finite_fwd (hFwdIdeal := hFwdIdeal) (hRefFwdIdeal := hRefFwdIdeal) (hPre_finite_fwd := hPre_finite_fwd)
    ∧ preserves_BackGate_BackGateIdeal
    ∧ algebraic_BackGateIdeal_RefBackGateIdeal (hBackGateIdeal := hBackGateIdeal) (hRefBackGateIdeal := hRefBackGateIdeal)
    ∧ preserves_Qkv_QkvIdeal
    ∧ algebraic_QkvIdeal_RefQkvIdeal (hQkvIdeal := hQkvIdeal) (hRefQkvIdeal := hRefQkvIdeal)
    ∧ preserves_Uq_UqIdeal
    ∧ algebraic_UqIdeal_RefUqIdeal (hUqIdeal := hUqIdeal) (hRefUqIdeal := hRefUqIdeal)
    ∧ preserves_Ukv_UkvIdeal
    ∧ algebraic_UkvIdeal_RefUkvIdeal (hUkvIdeal := hUkvIdeal) (hRefUkvIdeal := hRefUkvIdeal)
    ∧ preserves_BackUq_BackUqIdeal
    ∧ algebraic_BackUqIdeal_RefBackUqIdeal (hBackUqIdeal := hBackUqIdeal) (hRefBackUqIdeal := hRefBackUqIdeal)
    ∧ preserves_GradUq_GradUqIdeal
    ∧ algebraic_GradUqIdeal_RefGradUqIdeal (hGradUqIdeal := hGradUqIdeal) (hRefGradUqIdeal := hRefGradUqIdeal)
    ∧ preserves_GradQkv_GradQkvIdeal
    ∧ algebraic_GradQkvIdeal_RefGradQkvIdeal (hGradQkvIdeal := hGradQkvIdeal) (hRefGradQkvIdeal := hRefGradQkvIdeal)
    ∧ preserves_MixBwd_MixBwdIdeal
    ∧ algebraic_MixBwdIdeal_RefMixBwdIdeal (hMixBwdIdeal := hMixBwdIdeal) (hRefMixBwdIdeal := hRefMixBwdIdeal)
    ∧ preserves_NormBwd_NormBwdIdeal
    ∧ algebraic_NormBwdIdeal_RefNormBwdIdeal (hNormBwdIdeal := hNormBwdIdeal) (hRefNormBwdIdeal := hRefNormBwdIdeal)
    ∧ preserves_PostBwd_PostBwdIdeal
    ∧ algebraic_PostBwdIdeal_RefPostBwdIdeal (hPostBwdIdeal := hPostBwdIdeal) (hRefPostBwdIdeal := hRefPostBwdIdeal)
    ∧ preserves_Loss_LossIdeal
    ∧ algebraic_LossIdeal_RefLossIdeal (hLossIdeal := hLossIdeal) (hRefLossIdeal := hRefLossIdeal)
-- ==== Pre_finite.lean ====
abbrev S8192x16x192 : Shape := ⟨3, ![8192, 16, 192]⟩
abbrev S8192x16x256 : Shape := ⟨3, ![8192, 16, 256]⟩
abbrev S8192x64 : Shape := ⟨2, ![8192, 64]⟩
abbrev S8192x2048 : Shape := ⟨2, ![8192, 2048]⟩
abbrev S_ : Shape := ⟨0, ![]⟩

class Facts : Prop where
  bcast_S_S8192x16x192 : S_.BroadcastsInDim S8192x16x192 (![] : Fin 0 → Fin S8192x16x192.rank)
  bcast_S_S8192x16x256 : S_.BroadcastsInDim S8192x16x256 (![] : Fin 0 → Fin S8192x16x256.rank)
  bcast_S_S8192x64 : S_.BroadcastsInDim S8192x64 (![] : Fin 0 → Fin S8192x64.rank)
  bcast_S_S8192x2048 : S_.BroadcastsInDim S8192x2048 (![] : Fin 0 → Fin S8192x2048.rank)

variable [Facts]

def fn {F : FTy → Type} [FloatOps F] (main_arg0 : FVec F S8192x16x192 .f32) (main_arg1 : FVec F S8192x16x256 .f32) (main_arg2 : FVec F S8192x64 .f32) (main_arg3 : FVec F S8192x2048 .f32) : IVec S8192x16x192 1 × IVec S8192x16x256 1 × IVec S8192x64 1 × IVec S8192x2048 1 :=
  let main_v0 : FVec F S8192x16x192 .f32 := Host.absf main_arg0
  let main_cst : FVec F S_ .f32 := constant S_ .f32 0x7F800000#32
  let main_v1 : FVec F S8192x16x192 .f32 := broadcastInDim S8192x16x192 ![] bcast_S_S8192x16x192 main_cst
  let main_v2 : IVec S8192x16x192 1 := cmpf .olt main_v0 main_v1
  let main_v3 : FVec F S8192x16x256 .f32 := Host.absf main_arg1
  let main_cst_0 : FVec F S_ .f32 := constant S_ .f32 0x7F800000#32
  let main_v4 : FVec F S8192x16x256 .f32 := broadcastInDim S8192x16x256 ![] bcast_S_S8192x16x256 main_cst_0
  let main_v5 : IVec S8192x16x256 1 := cmpf .olt main_v3 main_v4
  let main_v6 : FVec F S8192x64 .f32 := Host.absf main_arg2
  let main_cst_1 : FVec F S_ .f32 := constant S_ .f32 0x7F800000#32
  let main_v7 : FVec F S8192x64 .f32 := broadcastInDim S8192x64 ![] bcast_S_S8192x64 main_cst_1
  let main_v8 : IVec S8192x64 1 := cmpf .olt main_v6 main_v7
  let main_v9 : FVec F S8192x2048 .f32 := Host.absf main_arg3
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  (main_v2, main_v5, main_v8, main_v11)
-- ==== Pre_finite_fwd.lean ====
abbrev S8192x16x192 : Shape := ⟨3, ![8192, 16, 192]⟩
abbrev S8192x16x256 : Shape := ⟨3, ![8192, 16, 256]⟩
abbrev S8192x64 : Shape := ⟨2, ![8192, 64]⟩
abbrev S_ : Shape := ⟨0, ![]⟩

class Facts : Prop where
  bcast_S_S8192x16x192 : S_.BroadcastsInDim S8192x16x192 (![] : Fin 0 → Fin S8192x16x192.rank)
  bcast_S_S8192x16x256 : S_.BroadcastsInDim S8192x16x256 (![] : Fin 0 → Fin S8192x16x256.rank)
  bcast_S_S8192x64 : S_.BroadcastsInDim S8192x64 (![] : Fin 0 → Fin S8192x64.rank)

variable [Facts]

def fn {F : FTy → Type} [FloatOps F] (main_arg0 : FVec F S8192x16x192 .f32) (main_arg1 : FVec F S8192x16x256 .f32) (main_arg2 : FVec F S8192x64 .f32) : IVec S8192x16x192 1 × IVec S8192x16x256 1 × IVec S8192x64 1 :=
  let main_v0 : FVec F S8192x16x192 .f32 := Host.absf main_arg0
  let main_cst : FVec F S_ .f32 := constant S_ .f32 0x7F800000#32
  let main_v1 : FVec F S8192x16x192 .f32 := broadcastInDim S8192x16x192 ![] bcast_S_S8192x16x192 main_cst
  let main_v2 : IVec S8192x16x192 1 := cmpf .olt main_v0 main_v1
  let main_v3 : FVec F S8192x16x256 .f32 := Host.absf main_arg1
  let main_cst_0 : FVec F S_ .f32 := constant S_ .f32 0x7F800000#32
  let main_v4 : FVec F S8192x16x256 .f32 := broadcastInDim S8192x16x256 ![] bcast_S_S8192x16x256 main_cst_0
  let main_v5 : IVec S8192x16x256 1 := cmpf .olt main_v3 main_v4
  let main_v6 : FVec F S8192x64 .f32 := Host.absf main_arg2
  let main_cst_1 : FVec F S_ .f32 := constant S_ .f32 0x7F800000#32
  let main_v7 : FVec F S8192x64 .f32 := broadcastInDim S8192x64 ![] bcast_S_S8192x64 main_cst_1
  let main_v8 : IVec S8192x64 1 := cmpf .olt main_v6 main_v7
  (main_v2, main_v5, main_v8)
-- ==== Kernel.lean ====
abbrev S8192x16x192 : Shape := ⟨3, ![8192, 16, 192]⟩
abbrev S8192x16x256 : Shape := ⟨3, ![8192, 16, 256]⟩
abbrev S8192x64 : Shape := ⟨2, ![8192, 64]⟩
abbrev S8192x2048 : Shape := ⟨2, ![8192, 2048]⟩
abbrev S8192x16x128 : Shape := ⟨3, ![8192, 16, 128]⟩
abbrev S8192x1x64 : Shape := ⟨3, ![8192, 1, 64]⟩
abbrev S8192x16x64 : Shape := ⟨3, ![8192, 16, 64]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S16x8192 : Shape := ⟨2, ![16, 8192]⟩
abbrev S16x8192x1 : Shape := ⟨3, ![16, 8192, 1]⟩
abbrev S16x128x8192 : Shape := ⟨3, ![16, 128, 8192]⟩
abbrev S16x8x1x1024 : Shape := ⟨4, ![16, 8, 1, 1024]⟩
abbrev S8192x16 : Shape := ⟨2, ![8192, 16]⟩
abbrev S8192x4096 : Shape := ⟨2, ![8192, 4096]⟩
abbrev S8192x128 : Shape := ⟨2, ![8192, 128]⟩
abbrev S16x8192x128 : Shape := ⟨3, ![16, 8192, 128]⟩
abbrev S1024x256 : Shape := ⟨2, ![1024, 256]⟩
abbrev S1024x128 : Shape := ⟨2, ![1024, 128]⟩
abbrev S8192x256 : Shape := ⟨2, ![8192, 256]⟩
abbrev S1x8x1x1024 : Shape := ⟨4, ![1, 8, 1, 1024]⟩
abbrev S1x1024x128 : Shape := ⟨3, ![1, 1024, 128]⟩
abbrev S1024x1024 : Shape := ⟨2, ![1024, 1024]⟩
abbrev S1x1x1x1024 : Shape := ⟨4, ![1, 1, 1, 1024]⟩
abbrev S1x1024 : Shape := ⟨2, ![1, 1024]⟩

abbrev nBuf : Space → Nat
  | .hbm => 94
  | .vmem => 20
  | .smem => 0
  | _ => 0

abbrev bufTy : (tb : Table) → Fin (tcTables nBuf tb) → BufTy
  | .hbm, ⟨0, _⟩ => ⟨S8192x16x192, .f32⟩
  | .hbm, ⟨1, _⟩ => ⟨S8192x16x256, .f32⟩
  | .hbm, ⟨2, _⟩ => ⟨S8192x64, .f32⟩
  | .hbm, ⟨3, _⟩ => ⟨S8192x2048, .f32⟩
  | .hbm, ⟨4, _⟩ => ⟨S8192x16x128, .f32⟩
  | .hbm, ⟨5, _⟩ => ⟨S8192x1x64, .f32⟩
  | .hbm, ⟨6, _⟩ => ⟨S8192x16x64, .f32⟩
  | .hbm, ⟨7, _⟩ => ⟨S8192x16x192, .f32⟩
  | .hbm, ⟨8, _⟩ => ⟨S8192x16x128, .f32⟩
  | .hbm, ⟨9, _⟩ => ⟨S16x8192x8192, .f32⟩
  | .hbm, ⟨10, _⟩ => ⟨S_, .f32⟩
  | .hbm, ⟨11, _⟩ => ⟨S16x8192x8192, .f32⟩
  | .hbm, ⟨12, _⟩ => ⟨S16x8192x8192, .f32⟩
  | .hbm, ⟨13, _⟩ => ⟨S8192, .i32⟩
  | .hbm, ⟨14, _⟩ => ⟨S1x8192, .i32⟩
  | .hbm, ⟨15, _⟩ => ⟨S8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S1x8192x8192, .i1⟩
  | .hbm, ⟨21, _⟩ => ⟨S_, .f32⟩
  | .hbm, ⟨22, _⟩ => ⟨S_, .f32⟩
  | .hbm, ⟨23, _⟩ => ⟨S16x8192x8192, .i1⟩
  | .hbm, ⟨24, _⟩ => ⟨S16x8192x8192, .f32⟩
  | .hbm, ⟨25, _⟩ => ⟨S16x8192x8192, .f32⟩
  | .hbm, ⟨26, _⟩ => ⟨S_, .f32⟩
  | .hbm, ⟨27, _⟩ => ⟨S16x8192, .f32⟩
  | .hbm, ⟨28, _⟩ => ⟨S_, .f32⟩
  | .hbm, ⟨29, _⟩ => ⟨S16x8192, .f32⟩
  | .hbm, ⟨30, _⟩ => ⟨S16x8192, .f32⟩
  | .hbm, ⟨31, _⟩ => ⟨S16x8192x1, .f32⟩
  | .hbm, ⟨32, _⟩ => ⟨S16x8192x8192, .f32⟩
  | .hbm, ⟨33, _⟩ => ⟨S16x8192x8192, .f32⟩
  | .hbm, ⟨34, _⟩ => ⟨S16x8192x8192, .f32⟩
  | .hbm, ⟨35, _⟩ => ⟨S_, .f32⟩
  | .hbm, ⟨36, _⟩ => ⟨S16x8192, .f32⟩
  | .hbm, ⟨37, _⟩ => ⟨S16x8192x1, .f32⟩
  | .hbm, ⟨38, _⟩ => ⟨S16x8192x8192, .f32⟩
  | .hbm, ⟨39, _⟩ => ⟨S16x8192x8192, .f32⟩
  | .hbm, ⟨40, _⟩ => ⟨S16x128x8192, .f32⟩
  | .hbm, ⟨41, _⟩ => ⟨S8192x16x128, .f32⟩
  | .hbm, ⟨42, _⟩ => ⟨S8192x2048, .f32⟩
  | .hbm, ⟨43, _⟩ => ⟨S16x8192x8192, .f32⟩
  | .hbm, ⟨44, _⟩ => ⟨S_, .f32⟩
  | .hbm, ⟨45, _⟩ => ⟨S16x8192x8192, .f32⟩
  | .hbm, ⟨46, _⟩ => ⟨S16x8192x8192, .f32⟩
  | .hbm, ⟨47, _⟩ => ⟨S8192, .i32⟩
  | .hbm, ⟨48, _⟩ => ⟨S1x8192, .i32⟩
  | .hbm, ⟨49, _⟩ => ⟨S8192, .i32⟩
  | .hbm, ⟨50, _⟩ => ⟨S8192x1, .i32⟩
  | .hbm, ⟨51, _⟩ => ⟨S8192x8192, .i32⟩
  | .hbm, ⟨52, _⟩ => ⟨S8192x8192, .i32⟩
  | .hbm, ⟨53, _⟩ => ⟨S8192x8192, .i1⟩
  | .hbm, ⟨54, _⟩ => ⟨S1x8192x8192, .i1⟩
  | .hbm, ⟨55, _⟩ => ⟨S_, .f32⟩
  | .hbm, ⟨56, _⟩ => ⟨S_, .f32⟩
  | .hbm, ⟨57, _⟩ => ⟨S16x8192x8192, .i1⟩
  | .hbm, ⟨58, _⟩ => ⟨S16x8192x8192, .f32⟩
  | .hbm, ⟨59, _⟩ => ⟨S16x8192x8192, .f32⟩
  | .hbm, ⟨60, _⟩ => ⟨S_, .f32⟩
  | .hbm, ⟨61, _⟩ => ⟨S16x8192, .f32⟩
  | .hbm, ⟨62, _⟩ => ⟨S16x8192x1, .f32⟩
  | .hbm, ⟨63, _⟩ => ⟨S16x8192x8192, .f32⟩
  | .hbm, ⟨64, _⟩ => ⟨S16x8192x8192, .f32⟩
  | .hbm, ⟨65, _⟩ => ⟨S16x8192x8192, .f32⟩
  | .hbm, ⟨66, _⟩ => ⟨S_, .f32⟩
  | .hbm, ⟨67, _⟩ => ⟨S16x8192, .f32⟩
  | .hbm, ⟨68, _⟩ => ⟨S16x8192x1, .f32⟩
  | .hbm, ⟨69, _⟩ => ⟨S16x8192x1, .f32⟩
  | .hbm, ⟨70, _⟩ => ⟨S16x8192x1, .f32⟩
  | .hbm, ⟨71, _⟩ => ⟨S16x8192, .f32⟩
  | .hbm, ⟨72, _⟩ => ⟨S16x8x1x1024, .f32⟩
  | .hbm, ⟨73, _⟩ => ⟨S8192x2048, .f32⟩
  | .hbm, ⟨74, _⟩ => ⟨S8192x16x128, .f32⟩
  | .hbm, ⟨75, _⟩ => ⟨S_, .f32⟩
  | .hbm, ⟨76, _⟩ => ⟨S8192x16, .f32⟩
  | .hbm, ⟨77, _⟩ => ⟨S16x8192, .f32⟩
  | .hbm, ⟨78, _⟩ => ⟨S16x8x1x1024, .f32⟩
  | .hbm, ⟨79, _⟩ => ⟨S_, .i32⟩
  | .hbm, ⟨80, _⟩ => ⟨S_, .f32⟩
  | .hbm, ⟨81, _⟩ => ⟨S8192x16x256, .f32⟩
  | .hbm, ⟨82, _⟩ => ⟨S8192x4096, .f32⟩
  | .hbm, ⟨83, _⟩ => ⟨S_, .i32⟩
  | .hbm, ⟨84, _⟩ => ⟨S_, .f32⟩
  | .hbm, ⟨85, _⟩ => ⟨S8192x128, .f32⟩
  | .hbm, ⟨86, _⟩ => ⟨S8192x4096, .bf16⟩
  | .hbm, ⟨87, _⟩ => ⟨S8192x4096, .f32⟩
  | .hbm, ⟨88, _⟩ => ⟨S8192x4096, .bf16⟩
  | .hbm, ⟨89, _⟩ => ⟨S8192x128, .bf16⟩
  | .hbm, ⟨90, _⟩ => ⟨S8192x2048, .bf16⟩
  | .hbm, ⟨91, _⟩ => ⟨S8192x4096, .f32⟩
  | .hbm, ⟨92, _⟩ => ⟨S8192x4096, .bf16⟩
  | .hbm, ⟨93, _⟩ => ⟨S16x8192x128, .f32⟩
  | .local _ .vmem, ⟨0, _⟩ => ⟨S1024x256, .bf16⟩
  | .local _ .vmem, ⟨1, _⟩ => ⟨S1024x256, .bf16⟩
  | .local _ .vmem, ⟨2, _⟩ => ⟨S1024x128, .bf16⟩
  | .local _ .vmem, ⟨3, _⟩ => ⟨S1024x128, .bf16⟩
  | .local _ .vmem, ⟨4, _⟩ => ⟨S8192x256, .bf16⟩
  | .local _ .vmem, ⟨5, _⟩ => ⟨S8192x256, .bf16⟩
  | .local _ .vmem, ⟨6, _⟩ => ⟨S8192x128, .bf16⟩
  | .local _ .vmem, ⟨7, _⟩ => ⟨S8192x128, .bf16⟩
  | .local _ .vmem, ⟨8, _⟩ => ⟨S1x8x1x1024, .f32⟩
  | .local _ .vmem, ⟨9, _⟩ => ⟨S1x8x1x1024, .f32⟩
  | .local _ .vmem, ⟨10, _⟩ => ⟨S1x8x1x1024, .f32⟩
  | .local _ .vmem, ⟨11, _⟩ => ⟨S1x8x1x1024, .f32⟩
  | .local _ .vmem, ⟨12, _⟩ => ⟨S8192x256, .f32⟩
  | .local _ .vmem, ⟨13, _⟩ => ⟨S8192x256, .f32⟩
  | .local _ .vmem, ⟨14, _⟩ => ⟨S1024x256, .bf16⟩
  | .local _ .vmem, ⟨15, _⟩ => ⟨S1024x256, .bf16⟩
  | .local _ .vmem, ⟨16, _⟩ => ⟨S1x1024x128, .f32⟩
  | .local _ .vmem, ⟨17, _⟩ => ⟨S1x1024x128, .f32⟩
  | .local _ .vmem, ⟨18, _⟩ => ⟨S1024x256, .f32⟩
  | .local _ .vmem, ⟨19, _⟩ => ⟨S1024x128, .f32⟩
  | _, _ => ⟨S8192x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_8 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c : Ref sig .tc := ⟨.hbm, 79, rfl⟩
abbrev main_call2_v0 : Ref sig .tc := ⟨.hbm, 80, rfl⟩
abbrev main_v59 : Ref sig .tc := ⟨.hbm, 81, rfl⟩
abbrev main_v60 : Ref sig .tc := ⟨.hbm, 82, rfl⟩
abbrev main_c_9 : Ref sig .tc := ⟨.hbm, 83, rfl⟩
abbrev main_call3_v0 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67_0 : Ref sig .tc := ⟨.hbm, 91, rfl⟩
abbrev main_v67_1 : Ref sig .tc := ⟨.hbm, 92, rfl⟩
abbrev main_v67_2 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c1024_i32 : BitVec 32 := 1024#32
  let v18 : BitVec 32 := Scalar.muli arg1 c1024_i32
  v18
def k0_off1 (i : grid0.Coords) : Fin 2 → Nat :=
  let arg1 : BitVec 32 := BitVec.ofNat 32 (i 1).val
  let c1024_i32 : BitVec 32 := 1024#32
  let v18 : BitVec 32 := Scalar.muli arg1 c1024_i32
  let v19 : BitVec 32 := v18
  let v20 : Index := Scalar.indexCast v19
  let c0_10 : Index := 0#32
  ![v20.toNat, 0]
def k0_off2 (i : grid0.Coords) : Fin 2 → Nat :=
  let arg1 : BitVec 32 := BitVec.ofNat 32 (i 1).val
  let c1024_i32 : BitVec 32 := 1024#32
  let v18 : BitVec 32 := Scalar.muli arg1 c1024_i32
  let v19 : BitVec 32 := v18
  let v23 : Index := Scalar.indexCast v19
  let c0_11 : Index := 0#32
  ![v23.toNat, 0]
def k0_off3 (i : grid0.Coords) : Fin 4 → Nat :=
  let c0_14 : Index := 0#32
  let arg1 : BitVec 32 := BitVec.ofNat 32 (i 1).val
  let v29 : Index := Scalar.indexCast arg1
  let c0_15 : Index := 0#32
  let c0_16 : Index := 0#32
  ![0, v29.toNat, 0, 0]
@[reducible] def k0_t1_loop (i : grid0.Coords) : Scf.Loop 32 :=
  let arg1 : BitVec 32 := BitVec.ofNat 32 (i 1).val
  let c1_i32 : BitVec 32 := 1#32
  let v70 : BitVec 32 := Scalar.addi arg1 c1_i32
  let c8_i32 : BitVec 32 := 8#32
  let v71 : BitVec 32 := Scalar.subi c8_i32 v70
  let c1_i32_37 : BitVec 32 := 1#32
  let v73 : BitVec 32 := Scalar.divsi v71 c1_i32_37
  let v74 : BitVec 32 := Scalar.muli v73 c1_i32_37
  let v75 : BitVec 32 := Scalar.addi v70 v74
  let c1_i32_38 : BitVec 32 := 1#32
  ⟨v70, v75, c1_i32_38⟩
def k0_mult2 (i : grid0.Coords) (k0_t1 : Fin (k0_t1_loop i).trips) : BitVec 32 :=
  let arg1 : BitVec 32 := BitVec.ofNat 32 (i 1).val
  let c1_i32 : BitVec 32 := 1#32
  let v70 : BitVec 32 := Scalar.addi arg1 c1_i32
  let c1_i32_38 : BitVec 32 := 1#32
  let arg13 : BitVec 32 := Scf.iv v70 c1_i32_38 k0_t1
  let c1024_i32_51 : BitVec 32 := 1024#32
  let v85 : BitVec 32 := Scalar.muli arg13 c1024_i32_51
  v85
def k0_off4 (i : grid0.Coords) (k0_t1 : Fin (k0_t1_loop i).trips) : Fin 2 → Nat :=
  let arg1 : BitVec 32 := BitVec.ofNat 32 (i 1).val
  let c1_i32 : BitVec 32 := 1#32
  let v70 : BitVec 32 := Scalar.addi arg1 c1_i32
  let c1_i32_38 : BitVec 32 := 1#32
  let arg13 : BitVec 32 := Scf.iv v70 c1_i32_38 k0_t1
  let c1024_i32_51 : BitVec 32 := 1024#32
  let v85 : BitVec 32 := Scalar.muli arg13 c1024_i32_51
  let v86 : BitVec 32 := v85
  let v87 : Index := Scalar.indexCast v86
  let c0_52 : Index := 0#32
  ![v87.toNat, 0]
def k0_off5 (i : grid0.Coords) (k0_t1 : Fin (k0_t1_loop i).trips) : Fin 2 → Nat :=
  let arg1 : BitVec 32 := BitVec.ofNat 32 (i 1).val
  let c1_i32 : BitVec 32 := 1#32
  let v70 : BitVec 32 := Scalar.addi arg1 c1_i32
  let c1_i32_38 : BitVec 32 := 1#32
  let arg13 : BitVec 32 := Scf.iv v70 c1_i32_38 k0_t1
  let c1024_i32_51 : BitVec 32 := 1024#32
  let v85 : BitVec 32 := Scalar.muli arg13 c1024_i32_51
  let v86 : BitVec 32 := v85
  let v90 : Index := Scalar.indexCast v86
  let c0_53 : Index := 0#32
  ![v90.toNat, 0]
def k0_off6 (i : grid0.Coords) (k0_t1 : Fin (k0_t1_loop i).trips) : Fin 4 → Nat :=
  let c0_56 : Index := 0#32
  let arg1 : BitVec 32 := BitVec.ofNat 32 (i 1).val
  let c1_i32 : BitVec 32 := 1#32
  let v70 : BitVec 32 := Scalar.addi arg1 c1_i32
  let c1_i32_38 : BitVec 32 := 1#32
  let arg13 : BitVec 32 := Scf.iv v70 c1_i32_38 k0_t1
  let v96 : Index := Scalar.indexCast arg13
  let c0_57 : Index := 0#32
  let c0_58 : Index := 0#32
  ![0, v96.toNat, 0, 0]
@[reducible] def k0_t2_loop (i : grid0.Coords) : Scf.Loop 32 :=
  let arg1 : BitVec 32 := BitVec.ofNat 32 (i 1).val
  let c1_i32 : BitVec 32 := 1#32
  let v70 : BitVec 32 := Scalar.addi arg1 c1_i32
  let c8_i32 : BitVec 32 := 8#32
  let v71 : BitVec 32 := Scalar.subi c8_i32 v70
  let c1_i32_37 : BitVec 32 := 1#32
  let v73 : BitVec 32 := Scalar.divsi v71 c1_i32_37
  let v74 : BitVec 32 := Scalar.muli v73 c1_i32_37
  let v75 : BitVec 32 := Scalar.addi v70 v74
  let v72 : BitVec 32 := Scalar.addi v70 v71
  let c1_i32_39 : BitVec 32 := 1#32
  ⟨v75, v72, c1_i32_39⟩
def k0_mult3 (i : grid0.Coords) (k0_t2 : Fin (k0_t2_loop i).trips) : BitVec 32 :=
  let arg1 : BitVec 32 := BitVec.ofNat 32 (i 1).val
  let c1_i32 : BitVec 32 := 1#32
  let v70 : BitVec 32 := Scalar.addi arg1 c1_i32
  let c8_i32 : BitVec 32 := 8#32
  let v71 : BitVec 32 := Scalar.subi c8_i32 v70
  let c1_i32_37 : BitVec 32 := 1#32
  let v73 : BitVec 32 := Scalar.divsi v71 c1_i32_37
  let v74 : BitVec 32 := Scalar.muli v73 c1_i32_37
  let v75 : BitVec 32 := Scalar.addi v70 v74
  let c1_i32_39 : BitVec 32 := 1#32
  let arg13 : BitVec 32 := Scf.iv v75 c1_i32_39 k0_t2
  let c1024_i32_51 : BitVec 32 := 1024#32
  let v85 : BitVec 32 := Scalar.muli arg13 c1024_i32_51
  v85
def k0_off7 (i : grid0.Coords) (k0_t2 : Fin (k0_t2_loop i).trips) : Fin 2 → Nat :=
  let arg1 : BitVec 32 := BitVec.ofNat 32 (i 1).val
  let c1_i32 : BitVec 32 := 1#32
  let v70 : BitVec 32 := Scalar.addi arg1 c1_i32
  let c8_i32 : BitVec 32 := 8#32
  let v71 : BitVec 32 := Scalar.subi c8_i32 v70
  let c1_i32_37 : BitVec 32 := 1#32
  let v73 : BitVec 32 := Scalar.divsi v71 c1_i32_37
  let v74 : BitVec 32 := Scalar.muli v73 c1_i32_37
  let v75 : BitVec 32 := Scalar.addi v70 v74
  let c1_i32_39 : BitVec 32 := 1#32
  let arg13 : BitVec 32 := Scf.iv v75 c1_i32_39 k0_t2
  let c1024_i32_51 : BitVec 32 := 1024#32
  let v85 : BitVec 32 := Scalar.muli arg13 c1024_i32_51
  let v86 : BitVec 32 := v85
  let v87 : Index := Scalar.indexCast v86
  let c0_52 : Index := 0#32
  ![v87.toNat, 0]
def k0_off8 (i : grid0.Coords) (k0_t2 : Fin (k0_t2_loop i).trips) : Fin 2 → Nat :=
  let arg1 : BitVec 32 := BitVec.ofNat 32 (i 1).val
  let c1_i32 : BitVec 32 := 1#32
  let v70 : BitVec 32 := Scalar.addi arg1 c1_i32
  let c8_i32 : BitVec 32 := 8#32
  let v71 : BitVec 32 := Scalar.subi c8_i32 v70
  let c1_i32_37 : BitVec 32 := 1#32
  let v73 : BitVec 32 := Scalar.divsi v71 c1_i32_37
  let v74 : BitVec 32 := Scalar.muli v73 c1_i32_37
  let v75 : BitVec 32 := Scalar.addi v70 v74
  let c1_i32_39 : BitVec 32 := 1#32
  let arg13 : BitVec 32 := Scf.iv v75 c1_i32_39 k0_t2
  let c1024_i32_51 : BitVec 32 := 1024#32
  let v85 : BitVec 32 := Scalar.muli arg13 c1024_i32_51
  let v86 : BitVec 32 := v85
  let v90 : Index := Scalar.indexCast v86
  let c0_53 : Index := 0#32
  ![v90.toNat, 0]
def k0_off9 (i : grid0.Coords) (k0_t2 : Fin (k0_t2_loop i).trips) : Fin 4 → Nat :=
  let c0_56 : Index := 0#32
  let arg1 : BitVec 32 := BitVec.ofNat 32 (i 1).val
  let c1_i32 : BitVec 32 := 1#32
  let v70 : BitVec 32 := Scalar.addi arg1 c1_i32
  let c8_i32 : BitVec 32 := 8#32
  let v71 : BitVec 32 := Scalar.subi c8_i32 v70
  let c1_i32_37 : BitVec 32 := 1#32
  let v73 : BitVec 32 := Scalar.divsi v71 c1_i32_37
  let v74 : BitVec 32 := Scalar.muli v73 c1_i32_37
  let v75 : BitVec 32 := Scalar.addi v70 v74
  let c1_i32_39 : BitVec 32 := 1#32
  let arg13 : BitVec 32 := Scf.iv v75 c1_i32_39 k0_t2
  let v96 : Index := Scalar.indexCast arg13
  let c0_57 : Index := 0#32
  let c0_58 : Index := 0#32
  ![0, v96.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8192x16x192 : Shape := ⟨3, ![8192, 16, 192]⟩
abbrev S8192x16x256 : Shape := ⟨3, ![8192, 16, 256]⟩
abbrev S8192x64 : Shape := ⟨2, ![8192, 64]⟩
abbrev S8192x2048 : Shape := ⟨2, ![8192, 2048]⟩
abbrev S8192x1x64 : Shape := ⟨3, ![8192, 1, 64]⟩
abbrev S8192x16x64 : Shape := ⟨3, ![8192, 16, 64]⟩
abbrev S8192x16x128 : Shape := ⟨3, ![8192, 16, 128]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S16x8192 : Shape := ⟨2, ![16, 8192]⟩
abbrev S16x8192x1 : Shape := ⟨3, ![16, 8192, 1]⟩
abbrev S16x128x8192 : Shape := ⟨3, ![16, 128, 8192]⟩
abbrev S16x8192x192 : Shape := ⟨3, ![16, 8192, 192]⟩
abbrev S8192x4096 : Shape := ⟨2, ![8192, 4096]⟩
abbrev S16x8192x64 : Shape := ⟨3, ![16, 8192, 64]⟩
abbrev S16x8192x128 : Shape := ⟨3, ![16, 8192, 128]⟩

abbrev nBuf : Space → Nat
  | .hbm => 115
  | .vmem => 0
  | .smem => 0
  | _ => 0

abbrev bufTy : (tb : Table) → Fin (tcTables nBuf tb) → BufTy
  | .hbm, ⟨0, _⟩ => ⟨S8192x16x192, .f32⟩
  | .hbm, ⟨1, _⟩ => ⟨S8192x16x256, .f32⟩
  | .hbm, ⟨2, _⟩ => ⟨S8192x64, .f32⟩
  | .hbm, ⟨3, _⟩ => ⟨S8192x2048, .f32⟩
  | .hbm, ⟨4, _⟩ => ⟨S8192x1x64, .f32⟩
  | .hbm, ⟨5, _⟩ => ⟨S8192x16x64, .f32⟩
  | .hbm, ⟨6, _⟩ => ⟨S8192x16x128, .f32⟩
  | .hbm, ⟨7, _⟩ => ⟨S8192x16x128, .f32⟩
  | .hbm, ⟨8, _⟩ => ⟨S8192x16x192, .f32⟩
  | .hbm, ⟨9, _⟩ => ⟨S16x8192x8192, .f32⟩
  | .hbm, ⟨10, _⟩ => ⟨S_, .f32⟩
  | .hbm, ⟨11, _⟩ => ⟨S16x8192x8192, .f32⟩
  | .hbm, ⟨12, _⟩ => ⟨S16x8192x8192, .f32⟩
  | .hbm, ⟨13, _⟩ => ⟨S8192, .i32⟩
  | .hbm, ⟨14, _⟩ => ⟨S1x8192, .i32⟩
  | .hbm, ⟨15, _⟩ => ⟨S8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S1x8192x8192, .i1⟩
  | .hbm, ⟨21, _⟩ => ⟨S_, .f32⟩
  | .hbm, ⟨22, _⟩ => ⟨S_, .f32⟩
  | .hbm, ⟨23, _⟩ => ⟨S16x8192x8192, .i1⟩
  | .hbm, ⟨24, _⟩ => ⟨S16x8192x8192, .f32⟩
  | .hbm, ⟨25, _⟩ => ⟨S16x8192x8192, .f32⟩
  | .hbm, ⟨26, _⟩ => ⟨S_, .f32⟩
  | .hbm, ⟨27, _⟩ => ⟨S16x8192x8192, .f32⟩
  | .hbm, ⟨28, _⟩ => ⟨S_, .f32⟩
  | .hbm, ⟨29, _⟩ => ⟨S16x8192, .f32⟩
  | .hbm, ⟨30, _⟩ => ⟨S16x8192x1, .f32⟩
  | .hbm, ⟨31, _⟩ => ⟨S16x8192x8192, .f32⟩
  | .hbm, ⟨32, _⟩ => ⟨S16x8192x8192, .i1⟩
  | .hbm, ⟨33, _⟩ => ⟨S16x8192x8192, .f32⟩
  | .hbm, ⟨34, _⟩ => ⟨S_, .f32⟩
  | .hbm, ⟨35, _⟩ => ⟨S16x8192, .f32⟩
  | .hbm, ⟨36, _⟩ => ⟨S_, .f32⟩
  | .hbm, ⟨37, _⟩ => ⟨S16x8192, .f32⟩
  | .hbm, ⟨38, _⟩ => ⟨S16x8192, .f32⟩
  | .hbm, ⟨39, _⟩ => ⟨S_, .f32⟩
  | .hbm, ⟨40, _⟩ => ⟨S16x8192, .f32⟩
  | .hbm, ⟨41, _⟩ => ⟨S16x8192, .i1⟩
  | .hbm, ⟨42, _⟩ => ⟨S_, .f32⟩
  | .hbm, ⟨43, _⟩ => ⟨S16x8192, .f32⟩
  | .hbm, ⟨44, _⟩ => ⟨S16x8192, .i1⟩
  | .hbm, ⟨45, _⟩ => ⟨S_, .f32⟩
  | .hbm, ⟨46, _⟩ => ⟨S16x8192, .f32⟩
  | .hbm, ⟨47, _⟩ => ⟨S_, .f32⟩
  | .hbm, ⟨48, _⟩ => ⟨S16x8192, .f32⟩
  | .hbm, ⟨49, _⟩ => ⟨S_, .f32⟩
  | .hbm, ⟨50, _⟩ => ⟨S16x8192, .f32⟩
  | .hbm, ⟨51, _⟩ => ⟨S16x8192, .f32⟩
  | .hbm, ⟨52, _⟩ => ⟨S16x8192, .f32⟩
  | .hbm, ⟨53, _⟩ => ⟨S16x8192x1, .f32⟩
  | .hbm, ⟨54, _⟩ => ⟨S16x8192x8192, .f32⟩
  | .hbm, ⟨55, _⟩ => ⟨S16x8192x8192, .f32⟩
  | .hbm, ⟨56, _⟩ => ⟨S16x8192x8192, .f32⟩
  | .hbm, ⟨57, _⟩ => ⟨S_, .f32⟩
  | .hbm, ⟨58, _⟩ => ⟨S16x8192, .f32⟩
  | .hbm, ⟨59, _⟩ => ⟨S16x8192x1, .f32⟩
  | .hbm, ⟨60, _⟩ => ⟨S16x8192x8192, .f32⟩
  | .hbm, ⟨61, _⟩ => ⟨S16x8192x8192, .f32⟩
  | .hbm, ⟨62, _⟩ => ⟨S16x8192x1, .f32⟩
  | .hbm, ⟨63, _⟩ => ⟨S_, .f32⟩
  | .hbm, ⟨64, _⟩ => ⟨S16x8192x1, .f32⟩
  | .hbm, ⟨65, _⟩ => ⟨S16x8192x1, .f32⟩
  | .hbm, ⟨66, _⟩ => ⟨S16x128x8192, .f32⟩
  | .hbm, ⟨67, _⟩ => ⟨S8192x16x128, .f32⟩
  | .hbm, ⟨68, _⟩ => ⟨S8192x2048, .f32⟩
  | .hbm, ⟨69, _⟩ => ⟨S8192x16x128, .f32⟩
  | .hbm, ⟨70, _⟩ => ⟨S16x128x8192, .f32⟩
  | .hbm, ⟨71, _⟩ => ⟨S16x8192x8192, .f32⟩
  | .hbm, ⟨72, _⟩ => ⟨S16x128x8192, .f32⟩
  | .hbm, ⟨73, _⟩ => ⟨S8192x16x128, .f32⟩
  | .hbm, ⟨74, _⟩ => ⟨S16x8192x8192, .f32⟩
  | .hbm, ⟨75, _⟩ => ⟨S16x8192x8192, .f32⟩
  | .hbm, ⟨76, _⟩ => ⟨S16x8192x8192, .f32⟩
  | .hbm, ⟨77, _⟩ => ⟨S_, .f32⟩
  | .hbm, ⟨78, _⟩ => ⟨S16x8192, .f32⟩
  | .hbm, ⟨79, _⟩ => ⟨S16x8192x1, .f32⟩
  | .hbm, ⟨80, _⟩ => ⟨S16x8192x1, .f32⟩
  | .hbm, ⟨81, _⟩ => ⟨S16x8192x8192, .f32⟩
  | .hbm, ⟨82, _⟩ => ⟨S16x8192x8192, .f32⟩
  | .hbm, ⟨83, _⟩ => ⟨S_, .f32⟩
  | .hbm, ⟨84, _⟩ => ⟨S16x8192, .f32⟩
  | .hbm, ⟨85, _⟩ => ⟨S16x8192x8192, .f32⟩
  | .hbm, ⟨86, _⟩ => ⟨S16x8192x8192, .f32⟩
  | .hbm, ⟨87, _⟩ => ⟨S16x8192x8192, .f32⟩
  | .hbm, ⟨88, _⟩ => ⟨S_, .f32⟩
  | .hbm, ⟨89, _⟩ => ⟨S16x8192x8192, .f32⟩
  | .hbm, ⟨90, _⟩ => ⟨S16x8192x8192, .f32⟩
  | .hbm, ⟨91, _⟩ => ⟨S_, .f32⟩
  | .hbm, ⟨92, _⟩ => ⟨S16x8192x8192, .f32⟩
  | .hbm, ⟨93, _⟩ => ⟨S16x8192x8192, .f32⟩
  | .hbm, ⟨94, _⟩ => ⟨S16x8192x192, .f32⟩
  | .hbm, ⟨95, _⟩ => ⟨S8192x16x192, .f32⟩
  | .hbm, ⟨96, _⟩ => ⟨S16x8192x192, .f32⟩
  | .hbm, ⟨97, _⟩ => ⟨S8192x16x192, .f32⟩
  | .hbm, ⟨98, _⟩ => ⟨S8192x16x128, .f32⟩
  | .hbm, ⟨99, _⟩ => ⟨S8192x16x64, .f32⟩
  | .hbm, ⟨100, _⟩ => ⟨S_, .f32⟩
  | .hbm, ⟨101, _⟩ => ⟨S8192x16x256, .f32⟩
  | .hbm, ⟨102, _⟩ => ⟨S_, .f32⟩
  | .hbm, ⟨103, _⟩ => ⟨S8192x16x256, .f32⟩
  | .hbm, ⟨104, _⟩ => ⟨S8192x16x256, .f32⟩
  | .hbm, ⟨105, _⟩ => ⟨S_, .i32⟩
  | .hbm, ⟨106, _⟩ => ⟨S_, .f32⟩
  | .hbm, ⟨107, _⟩ => ⟨S8192x16x256, .f32⟩
  | .hbm, ⟨108, _⟩ => ⟨S8192x4096, .f32⟩
  | .hbm, ⟨109, _⟩ => ⟨S16x8192x64, .f32⟩
  | .hbm, ⟨110, _⟩ => ⟨S_, .i32⟩
  | .hbm, ⟨111, _⟩ => ⟨S_, .f32⟩
  | .hbm, ⟨112, _⟩ => ⟨S16x8192x128, .f32⟩
  | .hbm, ⟨113, _⟩ => ⟨S8192x4096, .f32⟩
  | .hbm, ⟨114, _⟩ => ⟨S8192x4096, .bf16⟩
  | _, _ => ⟨S8192x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_call0_v0 : Ref sig .tc := ⟨.hbm, 22, rfl⟩
abbrev main_v16_1 : Ref sig .tc := ⟨.hbm, 23, rfl⟩
abbrev main_call0_v2 : Ref sig .tc := ⟨.hbm, 24, rfl⟩
abbrev main_v16_0 : Ref sig .tc := ⟨.hbm, 25, rfl⟩
abbrev main_call0_cst : Ref sig .tc := ⟨.hbm, 26, rfl⟩
abbrev main_v16_2 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_call1_cst : Ref sig .tc := ⟨.hbm, 88, rfl⟩
abbrev main_call1_v0 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_14 : Ref sig .tc := ⟨.hbm, 100, rfl⟩
abbrev main_v74 : Ref sig .tc := ⟨.hbm, 101, rfl⟩
abbrev main_cst_15 : Ref sig .tc := ⟨.hbm, 102, rfl⟩
abbrev main_v75 : Ref sig .tc := ⟨.hbm, 103, rfl⟩
abbrev main_v76 : Ref sig .tc := ⟨.hbm, 104, rfl⟩
abbrev main_c : Ref sig .tc := ⟨.hbm, 105, rfl⟩
abbrev main_call2_v0 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c_16 : Ref sig .tc := ⟨.hbm, 110, rfl⟩
abbrev main_call3_v0 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩

abbrev nD : Nat := 1
abbrev τ : Topo := Topo.v7x

variable {F : FTy → Type} [FloatOps F]
-- ==== GradDown.lean ====
abbrev S8192x5632 : Shape := ⟨2, ![8192, 5632]⟩
abbrev S8192x2048 : Shape := ⟨2, ![8192, 2048]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGradDownIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GradSsm.lean ====
abbrev S8192x4096 : Shape := ⟨2, ![8192, 4096]⟩
abbrev S8192x2048 : Shape := ⟨2, ![8192, 2048]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S4096x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGradSsmIdeal.lean ====
abbrev S8192x4096 : Shape := ⟨2, ![8192, 4096]⟩
abbrev S8192x2048 : Shape := ⟨2, ![8192, 2048]⟩
abbrev S_ : Shape := ⟨0, ![]⟩
abbrev S4096x2048 : Shape := ⟨2, ![4096, 2048]⟩
abbrev S2048x4096 : Shape := ⟨2, ![2048, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S_, .f32⟩
  | .hbm, ⟨3, _⟩ => ⟨S4096x2048, .f32⟩
  | .hbm, ⟨4, _⟩ => ⟨S8192x4096, .f32⟩
  | .hbm, ⟨5, _⟩ => ⟨S8192x2048, .f32⟩
  | .hbm, ⟨6, _⟩ => ⟨S8192x2048, .f32⟩
  | .hbm, ⟨7, _⟩ => ⟨S2048x4096, .f32⟩
  | .hbm, ⟨8, _⟩ => ⟨S4096x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GradAttn.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGradAttnIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BackAttn.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefBackAttnIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Swiglu.lean ====
abbrev S8192x2048 : Shape := ⟨2, ![8192, 2048]⟩
abbrev S2048x5632 : Shape := ⟨2, ![2048, 5632]⟩
abbrev S8192x5632 : Shape := ⟨2, ![8192, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S2048x5632, .bf16⟩
  | .hbm, ⟨3, _⟩ => ⟨S8192x5632, .f32⟩
  | .hbm, ⟨4, _⟩ => ⟨S8192x5632, .f32⟩
  | .hbm, ⟨5, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefSwigluIdeal.lean ====
abbrev S8192x2048 : Shape := ⟨2, ![8192, 2048]⟩
abbrev S2048x5632 : Shape := ⟨2, ![2048, 5632]⟩
abbrev S8192x5632 : Shape := ⟨2, ![8192, 5632]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S2048x5632, .bf16⟩
  | .hbm, ⟨3, _⟩ => ⟨S8192x2048, .f32⟩
  | .hbm, ⟨4, _⟩ => ⟨S2048x5632, .f32⟩
  | .hbm, ⟨5, _⟩ => ⟨S8192x5632, .f32⟩
  | .hbm, ⟨6, _⟩ => ⟨S8192x2048, .f32⟩
  | .hbm, ⟨7, _⟩ => ⟨S2048x5632, .f32⟩
  | .hbm, ⟨8, _⟩ => ⟨S8192x5632, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Down.lean ====
abbrev S8192x5632 : Shape := ⟨2, ![8192, 5632]⟩
abbrev S5632x2048 : Shape := ⟨2, ![5632, 2048]⟩
abbrev S8192x2048 : Shape := ⟨2, ![8192, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDownIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x5632, .f32⟩
  | .hbm, ⟨3, _⟩ => ⟨S5632x2048, .f32⟩
  | .hbm, ⟨4, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Ssm.lean ====
abbrev S8192x4096 : Shape := ⟨2, ![8192, 4096]⟩
abbrev S4096x2048 : Shape := ⟨2, ![4096, 2048]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefSsmIdeal.lean ====
abbrev S8192x4096 : Shape := ⟨2, ![8192, 4096]⟩
abbrev S4096x2048 : Shape := ⟨2, ![4096, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x4096, .f32⟩
  | .hbm, ⟨3, _⟩ => ⟨S4096x2048, .f32⟩
  | .hbm, ⟨4, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Out.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefOutIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Fwd.lean ====
abbrev S8192x16x192 : Shape := ⟨3, ![8192, 16, 192]⟩
abbrev S8192x16x256 : Shape := ⟨3, ![8192, 16, 256]⟩
abbrev S8192x64 : Shape := ⟨2, ![8192, 64]⟩
abbrev S_ : Shape := ⟨0, ![]⟩
abbrev S8192x4096 : Shape := ⟨2, ![8192, 4096]⟩
abbrev S8192x128 : Shape := ⟨2, ![8192, 128]⟩
abbrev S8192x2048 : Shape := ⟨2, ![8192, 2048]⟩
abbrev S16x8x1x1024 : Shape := ⟨4, ![16, 8, 1, 1024]⟩
abbrev S1024x256 : Shape := ⟨2, ![1024, 256]⟩
abbrev S8192x256 : Shape := ⟨2, ![8192, 256]⟩
abbrev S1024x128 : Shape := ⟨2, ![1024, 128]⟩
abbrev S1x1x1x1024 : Shape := ⟨4, ![1, 1, 1, 1024]⟩
abbrev S1024x1 : Shape := ⟨2, ![1024, 1]⟩
abbrev S2x1024x1024 : Shape := ⟨3, ![2, 1024, 1024]⟩
abbrev S1024x1024 : Shape := ⟨2, ![1024, 1024]⟩
abbrev S1x1024x1024 : Shape := ⟨3, ![1, 1024, 1024]⟩
abbrev S1024 : Shape := ⟨1, ![1024]⟩
abbrev S128x128 : Shape := ⟨2, ![128, 128]⟩
abbrev S128x1 : Shape := ⟨2, ![128, 1]⟩
abbrev S128 : Shape := ⟨1, ![128]⟩
abbrev S1x128 : Shape := ⟨2, ![1, 128]⟩
abbrev S1x1024 : Shape := ⟨2, ![1, 1024]⟩

abbrev nBuf : Space → Nat
  | .hbm => 16
  | .vmem => 13
  | .smem => 0
  | _ => 0

abbrev bufTy : (tb : Table) → Fin (tcTables nBuf tb) → BufTy
  | .hbm, ⟨0, _⟩ => ⟨S8192x16x192, .f32⟩
  | .hbm, ⟨1, _⟩ => ⟨S8192x16x256, .f32⟩
  | .hbm, ⟨2, _⟩ => ⟨S8192x64, .f32⟩
  | .hbm, ⟨3, _⟩ => ⟨S_, .i32⟩
  | .hbm, ⟨4, _⟩ => ⟨S_, .f32⟩
  | .hbm, ⟨5, _⟩ => ⟨S8192x16x256, .f32⟩
  | .hbm, ⟨6, _⟩ => ⟨S8192x4096, .f32⟩
  | .hbm, ⟨7, _⟩ => ⟨S_, .i32⟩
  | .hbm, ⟨8, _⟩ => ⟨S_, .f32⟩
  | .hbm, ⟨9, _⟩ => ⟨S8192x128, .f32⟩
  | .hbm, ⟨10, _⟩ => ⟨S8192x4096, .bf16⟩
  | .hbm, ⟨11, _⟩ => ⟨S8192x4096, .f32⟩
  | .hbm, ⟨12, _⟩ => ⟨S8192x4096, .bf16⟩
  | .hbm, ⟨13, _⟩ => ⟨S8192x128, .bf16⟩
  | .hbm, ⟨14, _⟩ => ⟨S8192x2048, .bf16⟩
  | .hbm, ⟨15, _⟩ => ⟨S16x8x1x1024, .f32⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S1024x128, .bf16⟩
  | .local _ .vmem, ⟨6, _⟩ => ⟨S1024x128, .bf16⟩
  | .local _ .vmem, ⟨7, _⟩ => ⟨S1x1x1x1024, .f32⟩
  | .local _ .vmem, ⟨8, _⟩ => ⟨S1x1x1x1024, .f32⟩
  | .local _ .vmem, ⟨9, _⟩ => ⟨S1024x1, .f32⟩
  | .local _ .vmem, ⟨10, _⟩ => ⟨S1024x1, .f32⟩
  | .local _ .vmem, ⟨11, _⟩ => ⟨S1024x128, .f32⟩
  | .local _ .vmem, ⟨12, _⟩ => ⟨S2x1024x1024, .f32⟩
  | _, _ => ⟨S8192x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def k0_mult1 : BitVec 32 :=
  let c0_i32 : BitVec 32 := 0#32
  c0_i32
@[reducible] def k0_t1_loop (i : grid0.Coords) : Scf.Loop 32 :=
  let c0_i32_17 : BitVec 32 := 0#32
  let arg1 : BitVec 32 := BitVec.ofNat 32 (i 1).val
  let v28 : BitVec 32 := Scalar.subi arg1 c0_i32_17
  let c1_i32 : BitVec 32 := 1#32
  let v30 : BitVec 32 := Scalar.divsi v28 c1_i32
  let v31 : BitVec 32 := Scalar.muli v30 c1_i32
  let v32 : BitVec 32 := Scalar.addi c0_i32_17 v31
  let c1_i32_18 : BitVec 32 := 1#32
  ⟨c0_i32_17, v32, c1_i32_18⟩
def k0_mult2 (i : grid0.Coords) (k0_t1 : Fin (k0_t1_loop i).trips) : BitVec 32 :=
  let c0_i32_17 : BitVec 32 := 0#32
  let c1_i32_18 : BitVec 32 := 1#32
  let arg11 : BitVec 32 := Scf.iv c0_i32_17 c1_i32_18 k0_t1
  let c1_i32_66 : BitVec 32 := 1#32
  let v148 : BitVec 32 := Scalar.addi arg11 c1_i32_66
  let c1024_i32_67 : BitVec 32 := 1024#32
  let v149 : BitVec 32 := Scalar.muli v148 c1024_i32_67
  v149
def k0_off1 (i : grid0.Coords) (k0_t1 : Fin (k0_t1_loop i).trips) : Fin 2 → Nat :=
  let c0_i32_17 : BitVec 32 := 0#32
  let c1_i32_18 : BitVec 32 := 1#32
  let arg11 : BitVec 32 := Scf.iv c0_i32_17 c1_i32_18 k0_t1
  let c1_i32_66 : BitVec 32 := 1#32
  let v148 : BitVec 32 := Scalar.addi arg11 c1_i32_66
  let c1024_i32_67 : BitVec 32 := 1024#32
  let v149 : BitVec 32 := Scalar.muli v148 c1024_i32_67
  let v150 : BitVec 32 := v149
  let v151 : Index := Scalar.indexCast v150
  let c0_68 : Index := 0#32
  ![v151.toNat, 0]
def k0_off2 (i : grid0.Coords) (k0_t1 : Fin (k0_t1_loop i).trips) : Fin 2 → Nat :=
  let c0_i32_17 : BitVec 32 := 0#32
  let c1_i32_18 : BitVec 32 := 1#32
  let arg11 : BitVec 32 := Scf.iv c0_i32_17 c1_i32_18 k0_t1
  let c1_i32_66 : BitVec 32 := 1#32
  let v148 : BitVec 32 := Scalar.addi arg11 c1_i32_66
  let c1024_i32_67 : BitVec 32 := 1024#32
  let v149 : BitVec 32 := Scalar.muli v148 c1024_i32_67
  let v150 : BitVec 32 := v149
  let v154 : Index := Scalar.indexCast v150
  let c0_69 : Index := 0#32
  ![v154.toNat, 0]
def k0_off3 (i : grid0.Coords) (k0_t1 : Fin (k0_t1_loop i).trips) : Fin 3 → Nat :=
  let c0_i32_17 : BitVec 32 := 0#32
  let c1_i32_18 : BitVec 32 := 1#32
  let arg11 : BitVec 32 := Scf.iv c0_i32_17 c1_i32_18 k0_t1
  let c2_i32_72 : BitVec 32 := 2#32
  let v161 : BitVec 32 := Scalar.remsi arg11 c2_i32_72
  let v162 : Index := Scalar.indexCast v161
  let c0_73 : Index := 0#32
  let c0_74 : Index := 0#32
  ![v162.toNat, 0, 0]
def k0_mult3 (i : grid0.Coords) (k0_t1 : Fin (k0_t1_loop i).trips) : BitVec 32 :=
  let c0_i32_17 : BitVec 32 := 0#32
  let c1_i32_18 : BitVec 32 := 1#32
  let arg11 : BitVec 32 := Scf.iv c0_i32_17 c1_i32_18 k0_t1
  let c1024_i32_75 : BitVec 32 := 1024#32
  let v165 : BitVec 32 := Scalar.muli arg11 c1024_i32_75
  v165
def k0_off4 (i : grid0.Coords) (k0_t1 : Fin (k0_t1_loop i).trips) : Fin 2 → Nat :=
  let c0_i32_17 : BitVec 32 := 0#32
  let c1_i32_18 : BitVec 32 := 1#32
  let arg11 : BitVec 32 := Scf.iv c0_i32_17 c1_i32_18 k0_t1
  let c1024_i32_75 : BitVec 32 := 1024#32
  let v165 : BitVec 32 := Scalar.muli arg11 c1024_i32_75
  let v166 : BitVec 32 := v165
  let v167 : Index := Scalar.indexCast v166
  let c128_76 : Index := 128#32
  ![v167.toNat, 128]
def k0_off5 (i : grid0.Coords) (k0_t1 : Fin (k0_t1_loop i).trips) : Fin 3 → Nat :=
  let c0_i32_17 : BitVec 32 := 0#32
  let c1_i32_18 : BitVec 32 := 1#32
  let arg11 : BitVec 32 := Scf.iv c0_i32_17 c1_i32_18 k0_t1
  let c1_i32_92 : BitVec 32 := 1#32
  let v199 : BitVec 32 := Scalar.addi arg11 c1_i32_92
  let c2_i32_93 : BitVec 32 := 2#32
  let v200 : BitVec 32 := Scalar.remsi v199 c2_i32_93
  let v201 : Index := Scalar.indexCast v200
  let c0_94 : Index := 0#32
  let c0_95 : Index := 0#32
  ![v201.toNat, 0, 0]
@[reducible] def k0_t2_loop (i : grid0.Coords) : Scf.Loop 32 :=
  let c0_i32_17 : BitVec 32 := 0#32
  let arg1 : BitVec 32 := BitVec.ofNat 32 (i 1).val
  let v28 : BitVec 32 := Scalar.subi arg1 c0_i32_17
  let c1_i32 : BitVec 32 := 1#32
  let v30 : BitVec 32 := Scalar.divsi v28 c1_i32
  let v31 : BitVec 32 := Scalar.muli v30 c1_i32
  let v32 : BitVec 32 := Scalar.addi c0_i32_17 v31
  let v29 : BitVec 32 := Scalar.addi c0_i32_17 v28
  let c1_i32_19 : BitVec 32 := 1#32
  ⟨v32, v29, c1_i32_19⟩
def k0_mult4 (i : grid0.Coords) (k0_t2 : Fin (k0_t2_loop i).trips) : BitVec 32 :=
  let c0_i32_17 : BitVec 32 := 0#32
  let arg1 : BitVec 32 := BitVec.ofNat 32 (i 1).val
  let v28 : BitVec 32 := Scalar.subi arg1 c0_i32_17
  let c1_i32 : BitVec 32 := 1#32
  let v30 : BitVec 32 := Scalar.divsi v28 c1_i32
  let v31 : BitVec 32 := Scalar.muli v30 c1_i32
  let v32 : BitVec 32 := Scalar.addi c0_i32_17 v31
  let c1_i32_19 : BitVec 32 := 1#32
  let arg11 : BitVec 32 := Scf.iv v32 c1_i32_19 k0_t2
  let c1_i32_66 : BitVec 32 := 1#32
  let v148 : BitVec 32 := Scalar.addi arg11 c1_i32_66
  let c1024_i32_67 : BitVec 32 := 1024#32
  let v149 : BitVec 32 := Scalar.muli v148 c1024_i32_67
  v149
def k0_off6 (i : grid0.Coords) (k0_t2 : Fin (k0_t2_loop i).trips) : Fin 2 → Nat :=
  let c0_i32_17 : BitVec 32 := 0#32
  let arg1 : BitVec 32 := BitVec.ofNat 32 (i 1).val
  let v28 : BitVec 32 := Scalar.subi arg1 c0_i32_17
  let c1_i32 : BitVec 32 := 1#32
  let v30 : BitVec 32 := Scalar.divsi v28 c1_i32
  let v31 : BitVec 32 := Scalar.muli v30 c1_i32
  let v32 : BitVec 32 := Scalar.addi c0_i32_17 v31
  let c1_i32_19 : BitVec 32 := 1#32
  let arg11 : BitVec 32 := Scf.iv v32 c1_i32_19 k0_t2
  let c1_i32_66 : BitVec 32 := 1#32
  let v148 : BitVec 32 := Scalar.addi arg11 c1_i32_66
  let c1024_i32_67 : BitVec 32 := 1024#32
  let v149 : BitVec 32 := Scalar.muli v148 c1024_i32_67
  let v150 : BitVec 32 := v149
  let v151 : Index := Scalar.indexCast v150
  let c0_68 : Index := 0#32
  ![v151.toNat, 0]
def k0_off7 (i : grid0.Coords) (k0_t2 : Fin (k0_t2_loop i).trips) : Fin 2 → Nat :=
  let c0_i32_17 : BitVec 32 := 0#32
  let arg1 : BitVec 32 := BitVec.ofNat 32 (i 1).val
  let v28 : BitVec 32 := Scalar.subi arg1 c0_i32_17
  let c1_i32 : BitVec 32 := 1#32
  let v30 : BitVec 32 := Scalar.divsi v28 c1_i32
  let v31 : BitVec 32 := Scalar.muli v30 c1_i32
  let v32 : BitVec 32 := Scalar.addi c0_i32_17 v31
  let c1_i32_19 : BitVec 32 := 1#32
  let arg11 : BitVec 32 := Scf.iv v32 c1_i32_19 k0_t2
  let c1_i32_66 : BitVec 32 := 1#32
  let v148 : BitVec 32 := Scalar.addi arg11 c1_i32_66
  let c1024_i32_67 : BitVec 32 := 1024#32
  let v149 : BitVec 32 := Scalar.muli v148 c1024_i32_67
  let v150 : BitVec 32 := v149
  let v154 : Index := Scalar.indexCast v150
  let c0_69 : Index := 0#32
  ![v154.toNat, 0]
def k0_off8 (i : grid0.Coords) (k0_t2 : Fin (k0_t2_loop i).trips) : Fin 3 → Nat :=
  let c0_i32_17 : BitVec 32 := 0#32
  let arg1 : BitVec 32 := BitVec.ofNat 32 (i 1).val
  let v28 : BitVec 32 := Scalar.subi arg1 c0_i32_17
  let c1_i32 : BitVec 32 := 1#32
  let v30 : BitVec 32 := Scalar.divsi v28 c1_i32
  let v31 : BitVec 32 := Scalar.muli v30 c1_i32
  let v32 : BitVec 32 := Scalar.addi c0_i32_17 v31
  let c1_i32_19 : BitVec 32 := 1#32
  let arg11 : BitVec 32 := Scf.iv v32 c1_i32_19 k0_t2
  let c2_i32_72 : BitVec 32 := 2#32
  let v161 : BitVec 32 := Scalar.remsi arg11 c2_i32_72
  let v162 : Index := Scalar.indexCast v161
  let c0_73 : Index := 0#32
  let c0_74 : Index := 0#32
  ![v162.toNat, 0, 0]
def k0_mult5 (i : grid0.Coords) (k0_t2 : Fin (k0_t2_loop i).trips) : BitVec 32 :=
  let c0_i32_17 : BitVec 32 := 0#32
  let arg1 : BitVec 32 := BitVec.ofNat 32 (i 1).val
  let v28 : BitVec 32 := Scalar.subi arg1 c0_i32_17
  let c1_i32 : BitVec 32 := 1#32
  let v30 : BitVec 32 := Scalar.divsi v28 c1_i32
  let v31 : BitVec 32 := Scalar.muli v30 c1_i32
  let v32 : BitVec 32 := Scalar.addi c0_i32_17 v31
  let c1_i32_19 : BitVec 32 := 1#32
  let arg11 : BitVec 32 := Scf.iv v32 c1_i32_19 k0_t2
  let c1024_i32_75 : BitVec 32 := 1024#32
  let v165 : BitVec 32 := Scalar.muli arg11 c1024_i32_75
  v165
def k0_off9 (i : grid0.Coords) (k0_t2 : Fin (k0_t2_loop i).trips) : Fin 2 → Nat :=
  let c0_i32_17 : BitVec 32 := 0#32
  let arg1 : BitVec 32 := BitVec.ofNat 32 (i 1).val
  let v28 : BitVec 32 := Scalar.subi arg1 c0_i32_17
  let c1_i32 : BitVec 32 := 1#32
  let v30 : BitVec 32 := Scalar.divsi v28 c1_i32
  let v31 : BitVec 32 := Scalar.muli v30 c1_i32
  let v32 : BitVec 32 := Scalar.addi c0_i32_17 v31
  let c1_i32_19 : BitVec 32 := 1#32
  let arg11 : BitVec 32 := Scf.iv v32 c1_i32_19 k0_t2
  let c1024_i32_75 : BitVec 32 := 1024#32
  let v165 : BitVec 32 := Scalar.muli arg11 c1024_i32_75
  let v166 : BitVec 32 := v165
  let v167 : Index := Scalar.indexCast v166
  let c128_76 : Index := 128#32
  ![v167.toNat, 128]
def k0_off10 (i : grid0.Coords) (k0_t2 : Fin (k0_t2_loop i).trips) : Fin 3 → Nat :=
  let c0_i32_17 : BitVec 32 := 0#32
  let arg1 : BitVec 32 := BitVec.ofNat 32 (i 1).val
  let v28 : BitVec 32 := Scalar.subi arg1 c0_i32_17
  let c1_i32 : BitVec 32 := 1#32
  let v30 : BitVec 32 := Scalar.divsi v28 c1_i32
  let v31 : BitVec 32 := Scalar.muli v30 c1_i32
  let v32 : BitVec 32 := Scalar.addi c0_i32_17 v31
  let c1_i32_19 : BitVec 32 := 1#32
  let arg11 : BitVec 32 := Scf.iv v32 c1_i32_19 k0_t2
  let c1_i32_92 : BitVec 32 := 1#32
  let v199 : BitVec 32 := Scalar.addi arg11 c1_i32_92
  let c2_i32_93 : BitVec 32 := 2#32
  let v200 : BitVec 32 := Scalar.remsi v199 c2_i32_93
  let v201 : Index := Scalar.indexCast v200
  let c0_94 : Index := 0#32
  let c0_95 : Index := 0#32
  ![v201.toNat, 0, 0]
def k0_off11 (i : grid0.Coords) : Fin 3 → Nat :=
  let arg1 : BitVec 32 := BitVec.ofNat 32 (i 1).val
  let c2_i32 : BitVec 32 := 2#32
  let v33 : BitVec 32 := Scalar.remsi arg1 c2_i32
  let v34 : Index := Scalar.indexCast v33
  let c0_20 : Index := 0#32
  let c0_21 : Index := 0#32
  ![v34.toNat, 0, 0]
def k0_mult6 (i : grid0.Coords) : BitVec 32 :=
  let arg1 : BitVec 32 := BitVec.ofNat 32 (i 1).val
  let c1024_i32 : BitVec 32 := 1024#32
  let v42 : BitVec 32 := Scalar.muli arg1 c1024_i32
  v42
def k0_off12 (i : grid0.Coords) : Fin 2 → Nat :=
  let arg1 : BitVec 32 := BitVec.ofNat 32 (i 1).val
  let c1024_i32 : BitVec 32 := 1024#32
  let v42 : BitVec 32 := Scalar.muli arg1 c1024_i32
  let v43 : BitVec 32 := v42
  let v44 : Index := Scalar.indexCast v43
  let c128 : Index := 128#32
  ![v44.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8192x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FwdIdeal.lean ====
variable {F : FTy → Type} [FloatOps F] [Named F]
def κ : String → Option EReal := fun
  | "mask" => some ⊥
  | _ => none
-- ==== RefFwdIdeal.lean ====
abbrev S8192x16x192 : Shape := ⟨3, ![8192, 16, 192]⟩
abbrev S8192x16x256 : Shape := ⟨3, ![8192, 16, 256]⟩
abbrev S8192x64 : Shape := ⟨2, ![8192, 64]⟩
abbrev S8192x16x128 : Shape := ⟨3, ![8192, 16, 128]⟩
abbrev S8192x1x64 : Shape := ⟨3, ![8192, 1, 64]⟩
abbrev S8192x16x64 : Shape := ⟨3, ![8192, 16, 64]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S16x8192 : Shape := ⟨2, ![16, 8192]⟩
abbrev S16x8192x1 : Shape := ⟨3, ![16, 8192, 1]⟩
abbrev S16x8x1x1024 : Shape := ⟨4, ![16, 8, 1, 1024]⟩
abbrev S16x128x8192 : Shape := ⟨3, ![16, 128, 8192]⟩
abbrev S8192x2048 : Shape := ⟨2, ![8192, 2048]⟩

abbrev nBuf : Space → Nat
  | .hbm => 73
  | .vmem => 0
  | .smem => 0
  | _ => 0

abbrev bufTy : (tb : Table) → Fin (tcTables nBuf tb) → BufTy
  | .hbm, ⟨0, _⟩ => ⟨S8192x16x192, .f32⟩
  | .hbm, ⟨1, _⟩ => ⟨S8192x16x256, .f32⟩
  | .hbm, ⟨2, _⟩ => ⟨S8192x64, .f32⟩
  | .hbm, ⟨3, _⟩ => ⟨S8192x16x128, .f32⟩
  | .hbm, ⟨4, _⟩ => ⟨S8192x1x64, .f32⟩
  | .hbm, ⟨5, _⟩ => ⟨S8192x16x64, .f32⟩
  | .hbm, ⟨6, _⟩ => ⟨S8192x16x192, .f32⟩
  | .hbm, ⟨7, _⟩ => ⟨S16x8192x8192, .f32⟩
  | .hbm, ⟨8, _⟩ => ⟨S_, .f32⟩
  | .hbm, ⟨9, _⟩ => ⟨S16x8192x8192, .f32⟩
  | .hbm, ⟨10, _⟩ => ⟨S16x8192x8192, .f32⟩
  | .hbm, ⟨11, _⟩ => ⟨S8192, .i32⟩
  | .hbm, ⟨12, _⟩ => ⟨S1x8192, .i32⟩
  | .hbm, ⟨13, _⟩ => ⟨S8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S1x8192x8192, .i1⟩
  | .hbm, ⟨19, _⟩ => ⟨S_, .f32⟩
  | .hbm, ⟨20, _⟩ => ⟨S_, .f32⟩
  | .hbm, ⟨21, _⟩ => ⟨S16x8192x8192, .i1⟩
  | .hbm, ⟨22, _⟩ => ⟨S16x8192x8192, .f32⟩
  | .hbm, ⟨23, _⟩ => ⟨S16x8192x8192, .f32⟩
  | .hbm, ⟨24, _⟩ => ⟨S_, .f32⟩
  | .hbm, ⟨25, _⟩ => ⟨S16x8192, .f32⟩
  | .hbm, ⟨26, _⟩ => ⟨S16x8192x1, .f32⟩
  | .hbm, ⟨27, _⟩ => ⟨S16x8192x8192, .f32⟩
  | .hbm, ⟨28, _⟩ => ⟨S16x8192x8192, .f32⟩
  | .hbm, ⟨29, _⟩ => ⟨S16x8192x8192, .f32⟩
  | .hbm, ⟨30, _⟩ => ⟨S_, .f32⟩
  | .hbm, ⟨31, _⟩ => ⟨S16x8192, .f32⟩
  | .hbm, ⟨32, _⟩ => ⟨S16x8192x1, .f32⟩
  | .hbm, ⟨33, _⟩ => ⟨S16x8192x1, .f32⟩
  | .hbm, ⟨34, _⟩ => ⟨S16x8192x1, .f32⟩
  | .hbm, ⟨35, _⟩ => ⟨S16x8192, .f32⟩
  | .hbm, ⟨36, _⟩ => ⟨S16x8x1x1024, .f32⟩
  | .hbm, ⟨37, _⟩ => ⟨S8192x16x128, .f32⟩
  | .hbm, ⟨38, _⟩ => ⟨S16x8192x8192, .f32⟩
  | .hbm, ⟨39, _⟩ => ⟨S_, .f32⟩
  | .hbm, ⟨40, _⟩ => ⟨S16x8192x8192, .f32⟩
  | .hbm, ⟨41, _⟩ => ⟨S16x8192x8192, .f32⟩
  | .hbm, ⟨42, _⟩ => ⟨S8192, .i32⟩
  | .hbm, ⟨43, _⟩ => ⟨S1x8192, .i32⟩
  | .hbm, ⟨44, _⟩ => ⟨S8192, .i32⟩
  | .hbm, ⟨45, _⟩ => ⟨S8192x1, .i32⟩
  | .hbm, ⟨46, _⟩ => ⟨S8192x8192, .i32⟩
  | .hbm, ⟨47, _⟩ => ⟨S8192x8192, .i32⟩
  | .hbm, ⟨48, _⟩ => ⟨S8192x8192, .i1⟩
  | .hbm, ⟨49, _⟩ => ⟨S1x8192x8192, .i1⟩
  | .hbm, ⟨50, _⟩ => ⟨S_, .f32⟩
  | .hbm, ⟨51, _⟩ => ⟨S_, .f32⟩
  | .hbm, ⟨52, _⟩ => ⟨S16x8192x8192, .i1⟩
  | .hbm, ⟨53, _⟩ => ⟨S16x8192x8192, .f32⟩
  | .hbm, ⟨54, _⟩ => ⟨S16x8192x8192, .f32⟩
  | .hbm, ⟨55, _⟩ => ⟨S_, .f32⟩
  | .hbm, ⟨56, _⟩ => ⟨S16x8192, .f32⟩
  | .hbm, ⟨57, _⟩ => ⟨S_, .f32⟩
  | .hbm, ⟨58, _⟩ => ⟨S16x8192, .f32⟩
  | .hbm, ⟨59, _⟩ => ⟨S16x8192, .f32⟩
  | .hbm, ⟨60, _⟩ => ⟨S16x8192x1, .f32⟩
  | .hbm, ⟨61, _⟩ => ⟨S16x8192x8192, .f32⟩
  | .hbm, ⟨62, _⟩ => ⟨S16x8192x8192, .f32⟩
  | .hbm, ⟨63, _⟩ => ⟨S16x8192x8192, .f32⟩
  | .hbm, ⟨64, _⟩ => ⟨S_, .f32⟩
  | .hbm, ⟨65, _⟩ => ⟨S16x8192, .f32⟩
  | .hbm, ⟨66, _⟩ => ⟨S16x8192x1, .f32⟩
  | .hbm, ⟨67, _⟩ => ⟨S16x8192x8192, .f32⟩
  | .hbm, ⟨68, _⟩ => ⟨S16x8192x8192, .f32⟩
  | .hbm, ⟨69, _⟩ => ⟨S16x128x8192, .f32⟩
  | .hbm, ⟨70, _⟩ => ⟨S8192x16x128, .f32⟩
  | .hbm, ⟨71, _⟩ => ⟨S8192x2048, .f32⟩
  | .hbm, ⟨72, _⟩ => ⟨S8192x2048, .bf16⟩
  | _, _ => ⟨S8192x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== BackGate.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefBackGateIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Qkv.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefQkvIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x2048, .f32⟩
  | .hbm, ⟨3, _⟩ => ⟨S2048x1024, .f32⟩
  | .hbm, ⟨4, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Uq.lean ====
abbrev S8192x512 : Shape := ⟨2, ![8192, 512]⟩
abbrev S512x4096 : Shape := ⟨2, ![512, 4096]⟩
abbrev S8192x4096 : Shape := ⟨2, ![8192, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S512x4096, .bf16⟩
  | .hbm, ⟨2, _⟩ => ⟨S8192x4096, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefUqIdeal.lean ====
abbrev S8192x512 : Shape := ⟨2, ![8192, 512]⟩
abbrev S512x4096 : Shape := ⟨2, ![512, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x4096, .bf16⟩
  | .hbm, ⟨2, _⟩ => ⟨S8192x512, .f32⟩
  | .hbm, ⟨3, _⟩ => ⟨S512x4096, .f32⟩
  | .hbm, ⟨4, _⟩ => ⟨S8192x4096, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Ukv.lean ====
abbrev S8192x512 : Shape := ⟨2, ![8192, 512]⟩
abbrev S512x4096 : Shape := ⟨2, ![512, 4096]⟩
abbrev S8192x4096 : Shape := ⟨2, ![8192, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S512x4096, .bf16⟩
  | .hbm, ⟨2, _⟩ => ⟨S8192x4096, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefUkvIdeal.lean ====
abbrev S8192x512 : Shape := ⟨2, ![8192, 512]⟩
abbrev S512x4096 : Shape := ⟨2, ![512, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x4096, .bf16⟩
  | .hbm, ⟨2, _⟩ => ⟨S8192x512, .f32⟩
  | .hbm, ⟨3, _⟩ => ⟨S512x4096, .f32⟩
  | .hbm, ⟨4, _⟩ => ⟨S8192x4096, .f32⟩
  | .hbm, ⟨5, _⟩ => ⟨S8192x4096, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BackUq.lean ====
abbrev S8192x4096 : Shape := ⟨2, ![8192, 4096]⟩
abbrev S512x4096 : Shape := ⟨2, ![512, 4096]⟩
abbrev S8192x512 : Shape := ⟨2, ![8192, 512]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S512x4096, .bf16⟩
  | .hbm, ⟨2, _⟩ => ⟨S8192x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefBackUqIdeal.lean ====
abbrev S8192x4096 : Shape := ⟨2, ![8192, 4096]⟩
abbrev S512x4096 : Shape := ⟨2, ![512, 4096]⟩
abbrev S_ : Shape := ⟨0, ![]⟩
abbrev S8192x512 : Shape := ⟨2, ![8192, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S512x4096, .bf16⟩
  | .hbm, ⟨2, _⟩ => ⟨S_, .f32⟩
  | .hbm, ⟨3, _⟩ => ⟨S8192x512, .f32⟩
  | .hbm, ⟨4, _⟩ => ⟨S512x4096, .f32⟩
  | .hbm, ⟨5, _⟩ => ⟨S8192x4096, .f32⟩
  | .hbm, ⟨6, _⟩ => ⟨S8192x4096, .f32⟩
  | .hbm, ⟨7, _⟩ => ⟨S8192x512, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GradUq.lean ====
abbrev S8192x512 : Shape := ⟨2, ![8192, 512]⟩
abbrev S8192x4096 : Shape := ⟨2, ![8192, 4096]⟩
abbrev S512x4096 : Shape := ⟨2, ![512, 4096]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S8192x4096, .bf16⟩
  | .hbm, ⟨2, _⟩ => ⟨S512x4096, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGradUqIdeal.lean ====
abbrev S8192x512 : Shape := ⟨2, ![8192, 512]⟩
abbrev S8192x4096 : Shape := ⟨2, ![8192, 4096]⟩
abbrev S_ : Shape := ⟨0, ![]⟩
abbrev S512x4096 : Shape := ⟨2, ![512, 4096]⟩
abbrev S4096x512 : Shape := ⟨2, ![4096, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x4096, .bf16⟩
  | .hbm, ⟨2, _⟩ => ⟨S_, .f32⟩
  | .hbm, ⟨3, _⟩ => ⟨S512x4096, .f32⟩
  | .hbm, ⟨4, _⟩ => ⟨S8192x512, .f32⟩
  | .hbm, ⟨5, _⟩ => ⟨S8192x4096, .f32⟩
  | .hbm, ⟨6, _⟩ => ⟨S8192x4096, .f32⟩
  | .hbm, ⟨7, _⟩ => ⟨S4096x512, .f32⟩
  | .hbm, ⟨8, _⟩ => ⟨S512x4096, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GradQkv.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGradQkvIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S_, .f32⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MixBwd.lean ====
abbrev S8192x4096 : Shape := ⟨2, ![8192, 4096]⟩
abbrev S8192x2048 : Shape := ⟨2, ![8192, 2048]⟩
abbrev S256x2048 : Shape := ⟨2, ![256, 2048]⟩
abbrev S256x4096 : Shape := ⟨2, ![256, 4096]⟩

abbrev nBuf : Space → Nat
  | .hbm => 7
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x2048, .f32⟩
  | .hbm, ⟨3, _⟩ => ⟨S8192x2048, .bf16⟩
  | .hbm, ⟨4, _⟩ => ⟨S8192x2048, .bf16⟩
  | .hbm, ⟨5, _⟩ => ⟨S8192x2048, .bf16⟩
  | .hbm, ⟨6, _⟩ => ⟨S8192x4096, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x4096, .bf16⟩
  | .local _ .vmem, ⟨15, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefMixBwdIdeal.lean ====
abbrev S8192x4096 : Shape := ⟨2, ![8192, 4096]⟩
abbrev S8192x2048 : Shape := ⟨2, ![8192, 2048]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x2048, .f32⟩
  | .hbm, ⟨3, _⟩ => ⟨S8192x2048, .bf16⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .bf16⟩
  | .hbm, ⟨41, _⟩ => ⟨S8192x2048, .bf16⟩
  | .hbm, ⟨42, _⟩ => ⟨S8192x4096, .f32⟩
  | .hbm, ⟨43, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== NormBwd.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RefNormBwdIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== PostBwd.lean ====
abbrev S8192x2048 : Shape := ⟨2, ![8192, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 10
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8192x2048, .bf16⟩
  | .hbm, ⟨8, _⟩ => ⟨S1x2048, .f32⟩
  | .hbm, ⟨9, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S1x2048, .f32⟩
  | .local _ .vmem, ⟨9, _⟩ => ⟨S1x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .bf16⟩
  | .local _ .vmem, ⟨13, _⟩ => ⟨S128x2048, .bf16⟩
  | .local _ .vmem, ⟨14, _⟩ => ⟨S1x2048, .f32⟩
  | .local _ .vmem, ⟨15, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RefPostBwdIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 94
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S_, .f32⟩
  | .hbm, ⟨72, _⟩ => ⟨S2048, .f32⟩
  | .hbm, ⟨73, _⟩ => ⟨S1x2048, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S8192x2048, .f32⟩
  | .hbm, ⟨81, _⟩ => ⟨S8192x2048, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192, .f32⟩
  | .hbm, ⟨88, _⟩ => ⟨S8192x2048, .f32⟩
  | .hbm, ⟨89, _⟩ => ⟨S8192x2048, .f32⟩
  | .hbm, ⟨90, _⟩ => ⟨S8192x2048, .f32⟩
  | .hbm, ⟨91, _⟩ => ⟨S8192x2048, .f32⟩
  | .hbm, ⟨92, _⟩ => ⟨S8192x2048, .f32⟩
  | .hbm, ⟨93, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== Loss.lean ====
abbrev S8192x2048 : Shape := ⟨2, ![8192, 2048]⟩
abbrev S1x2048 : Shape := ⟨2, ![1, 2048]⟩
abbrev S1x128 : Shape := ⟨2, ![1, 128]⟩
abbrev S128x2048 : Shape := ⟨2, ![128, 2048]⟩
abbrev S128 : Shape := ⟨1, ![128]⟩
abbrev S128x1 : Shape := ⟨2, ![128, 1]⟩
abbrev S1x128x1 : Shape := ⟨3, ![1, 128, 1]⟩
abbrev S1 : Shape := ⟨1, ![1]⟩
abbrev S1x1x1 : Shape := ⟨3, ![1, 1, 1]⟩
abbrev S2048 : Shape := ⟨1, ![2048]⟩

abbrev nBuf : Space → Nat
  | .hbm => 10
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S1x128, .f32⟩
  | .hbm, ⟨6, _⟩ => ⟨S8192x2048, .f32⟩
  | .hbm, ⟨7, _⟩ => ⟨S8192x2048, .bf16⟩
  | .hbm, ⟨8, _⟩ => ⟨S8192x2048, .bf16⟩
  | .hbm, ⟨9, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S1x2048, .f32⟩
  | .local _ .vmem, ⟨9, _⟩ => ⟨S1x128, .f32⟩
  | .local _ .vmem, ⟨10, _⟩ => ⟨S128x2048, .f32⟩
  | .local _ .vmem, ⟨11, _⟩ => ⟨S128x2048, .f32⟩
  | .local _ .vmem, ⟨12, _⟩ => ⟨S128x2048, .bf16⟩
  | .local _ .vmem, ⟨13, _⟩ => ⟨S128x2048, .bf16⟩
  | .local _ .vmem, ⟨14, _⟩ => ⟨S128x2048, .bf16⟩
  | .local _ .vmem, ⟨15, _⟩ => ⟨S128x2048, .bf16⟩
  | .local _ .vmem, ⟨16, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RefLossIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S1x128 : Shape := ⟨2, ![1, 128]⟩

abbrev nBuf : Space → Nat
  | .hbm => 90
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S8192, .f32⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S_, .f32⟩
  | .hbm, ⟨63, _⟩ => ⟨S2048, .f32⟩
  | .hbm, ⟨64, _⟩ => ⟨S1x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S8192x2048, .f32⟩
  | .hbm, ⟨72, _⟩ => ⟨S8192x2048, .f32⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S_, .f32⟩
  | .hbm, ⟨78, _⟩ => ⟨S8192, .f32⟩
  | .hbm, ⟨79, _⟩ => ⟨S8192x2048, .f32⟩
  | .hbm, ⟨80, _⟩ => ⟨S8192x2048, .f32⟩
  | .hbm, ⟨81, _⟩ => ⟨S8192x2048, .f32⟩
  | .hbm, ⟨82, _⟩ => ⟨S8192x2048, .f32⟩
  | .hbm, ⟨83, _⟩ => ⟨S8192x2048, .f32⟩
  | .hbm, ⟨84, _⟩ => ⟨S8192x2048, .f32⟩
  | .hbm, ⟨85, _⟩ => ⟨S8192x2048, .f32⟩
  | .hbm, ⟨86, _⟩ => ⟨S8192x2048, .f32⟩
  | .hbm, ⟨87, _⟩ => ⟨S1x128, .f32⟩
  | .hbm, ⟨88, _⟩ => ⟨S8192x2048, .bf16⟩
  | .hbm, ⟨89, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_cst_11 : Ref sig .tc := ⟨.hbm, 52, rfl⟩
abbrev main_cst_12 : Ref sig .tc := ⟨.hbm, 53, rfl⟩
abbrev main_v35 : Ref sig .tc := ⟨.hbm, 54, rfl⟩
abbrev main_v36 : Ref sig .tc := ⟨.hbm, 55, rfl⟩
abbrev main_cst_13 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_14 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_16 : Ref sig .tc := ⟨.hbm, 74, rfl⟩
abbrev main_v52 : Ref sig .tc := ⟨.hbm, 75, rfl⟩
abbrev main_v53 : Ref sig .tc := ⟨.hbm, 76, rfl⟩
abbrev main_cst_17 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]
-- ==== Proof.Same.lean ====
module

public import proofs.«01_k».proof.Defs
public import proofs.«01_k».proof.Proof.Gen.Kernel
public import proofs.«01_k».proof.Proof.Gen.KernelIdeal

/-!
# The two printed programs are one text

No constant of the kernel is renamed, so the idealized program is the printed one. Read over the
bits, their host functions and their bodies are equal, and a run of one is a run of the other.
-/

@[expose] public section

namespace Cert.Same

open Idealize.ShloMosaic Idealize.SL.Sem

set_option maxHeartbeats 20000000 in  -- some eighty host operations are compared
/-- The host functions are equal. -/
theorem main_eq : (Cert.Kernel.main (F := Bits)) = Cert.KernelIdeal.main (F := Bits) := by
  unfold Cert.Kernel.main Cert.KernelIdeal.main
  rfl

set_option maxHeartbeats 20000000 in  -- the body is some two hundred operations
/-- The kernel bodies are equal. -/
theorem body_eq : @Cert.Kernel.cc0_attn_bwd Bits _ _ = @Cert.KernelIdeal.cc0_attn_bwd Bits _ _ := by
  unfold Cert.Kernel.cc0_attn_bwd Cert.KernelIdeal.cc0_attn_bwd
  rfl

set_option maxHeartbeats 20000000 in  -- as above
/-- The body labels have equal programs. -/
theorem defs0_eq : (Cert.Kernel.defs₀ (F := Bits)) = Cert.KernelIdeal.defs₀ (F := Bits) := by
  refine congrArg Defs.onTc ?_
  funext l a
  match l, a with
  | 0, (t, s) =>
    exact congrFun (congrFun (congrFun (congrFun (congrFun (congrFun (congrFun (congrFun (congrFun
      (congrFun (congrFun (congrFun (congrFun (congrFun (congrFun (congrFun (congrFun (congrFun
      (congrFun (congrFun (congrFun (congrFun (congrFun body_eq _) _) _) _) _) _) _) _) _) _) _)
      _) _) _) _) _) _) _) _) _) _) _) _

set_option maxHeartbeats 20000000 in  -- as above
/-- So have all labels, the pipeline's own included. -/
theorem defs_eq : (Cert.Kernel.defs (F := Bits)) = Cert.KernelIdeal.defs (F := Bits) :=
  congrArg (Pipeline.defs (Cert.Kernel.pcfgs (F := Bits))) defs0_eq

end Cert.Same

end
-- ==== Proof.Num.lean ====
/- Real numbers among the extended reals: the operations of the attention's gradient on finite values. -/
module

public import Idealize.ShloMosaic.PureOps.Ideal
public import Mathlib.Analysis.SpecialFunctions.Log.Basic
public import Mathlib.Data.EReal.Inv

@[expose] public section

noncomputable section

namespace Cert.Attn

open Idealize.ShloMosaic
open scoped BigOperators

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of finite values over the indices of an axis, as a sum over the numbers below its length. -/
theorem sum_coe {N : ℕ} (f : ℕ → ℝ) (g : Fin N → EReal) (h : ∀ i : Fin N, g i = (f i.val : EReal)) :
    ∑ i, g i = ((∑ i ∈ Finset.range N, f i : ℝ) : EReal) := by
  rw [Finset.sum_range, coe_sum]
  exact Finset.sum_congr rfl fun i _ => h i

theorem exp_coe (r : ℝ) : Ideal.exp (r : EReal) = (Real.exp r : EReal) := rfl
theorem exp_bot : Ideal.exp (⊥ : EReal) = 0 := rfl

theorem log_coe (r : ℝ) (h : 0 < r) : Ideal.log (r : EReal) = (Real.log r : EReal) := by
  show (if r ≤ 0 then (⊥ : EReal) else (Real.log r : EReal)) = _
  rw [if_neg (not_le.mpr h)]

theorem div_coe (a b : ℝ) (h : b ≠ 0) : Ideal.div (a : EReal) (b : EReal) = ((a / b : ℝ) : EReal) := by
  unfold Ideal.div
  rw [if_neg (by exact_mod_cast h), div_eq_mul_inv, EReal.coe_mul, EReal.coe_inv]

/-- The scores' scale, the number its constant denotes. -/
def sg : ℝ := (Ideal.ofBits .f32 0x3D93CD3A#32).toReal

theorem sg_eq : Ideal.ofBits .f32 0x3D93CD3A#32 = (sg : EReal) := by
  have h : ∃ r : ℝ, Ideal.ofBits .f32 0x3D93CD3A#32 = (r : EReal) := by
    simp only [Ideal.ofBits, Ideal.ieee]
    rw [if_neg (by decide), if_neg (by decide)]
    exact ⟨_, rfl⟩
  obtain ⟨r, h⟩ := h
  unfold sg
  rw [h, EReal.toReal_coe]

theorem negInf_eq : Ideal.ofBits .f32 0xFF800000#32 = (⊥ : EReal) := by
  simp [Ideal.ofBits, Ideal.ieee]

theorem posInf_eq : Ideal.ofBits .f32 0x7F800000#32 = (⊤ : EReal) := by
  simp [Ideal.ofBits, Ideal.ieee]

/-- A sum over a block of `b` numbers from `b * a` on continues a sum over the numbers before it. -/
theorem sum_block (f : ℕ → ℝ) (b a : ℕ) :
    ∑ i ∈ Finset.range (b * (a + 1)), f i = ∑ i ∈ Finset.range (b * a), f i + ∑ r ∈ Finset.range b, f (b * a + r) := by
  rw [Nat.mul_succ, Finset.sum_range_add]

end Cert.Attn

end
-- ==== Proof.Math.lean ====
/- The attention and its gradient over the reals, of one sequence of `8192` rows: the softmax does not depend on the number
   its rows are shifted by, and its gradient can be had from the rows' sums of output times incoming gradient. -/
module

public import proofs.«01_k».proof.Proof.Num

@[expose] public section

noncomputable section

namespace Cert.Attn

open scoped BigOperators
open Finset Idealize.ShloMosaic

/-- The arguments as real numbers: queries (row, head, column), keys and values, shared key columns, incoming gradient. -/
structure Args where
  q : ℕ → ℕ → ℕ → ℝ
  kv : ℕ → ℕ → ℕ → ℝ
  kp : ℕ → ℕ → ℝ
  ct : ℕ → ℕ → ℝ

namespace Args

variable (A : Args)

/-- The keys of head `h`. -/
def key (k h d : ℕ) : ℝ := if d < 128 then A.kv k h d else A.kp k (d - 128)
/-- The score of query `n` and key `k` in head `h`. -/
def score (h n k : ℕ) : ℝ := (∑ d ∈ range 192, A.q n h d * A.key k h d) * sg
/-- Its exponential, zero where the key comes after the query. -/
def ex (h n k : ℕ) : ℝ := if k ≤ n then Real.exp (A.score h n k) else 0
/-- The sum of a row's exponentials. -/
def tot (h n : ℕ) : ℝ := ∑ k ∈ range 8192, A.ex h n k
/-- The probabilities. -/
def pr (h n k : ℕ) : ℝ := A.ex h n k / A.tot h n
/-- The output. -/
def out (n h d : ℕ) : ℝ := ∑ k ∈ range 8192, A.kv k h (128 + d) * A.pr h n k
/-- A row's sum of output times incoming gradient. -/
def del (h n : ℕ) : ℝ := ∑ d ∈ range 128, A.out n h d * A.ct n (h * 128 + d)
/-- The probabilities' gradient. -/
def dp (h n k : ℕ) : ℝ := ∑ d ∈ range 128, A.ct n (h * 128 + d) * A.kv k h (128 + d)
/-- The scores' gradient. -/
def ds (h n k : ℕ) : ℝ := A.pr h n k * (A.dp h n k - A.del h n) * sg

theorem ex_nonneg (h n k : ℕ) : 0 ≤ A.ex h n k := by
  unfold ex; split
  · exact (Real.exp_pos _).le
  · exact le_rfl

theorem tot_pos (h n : ℕ) : 0 < A.tot h n := by
  refine sum_pos' (fun k _ => A.ex_nonneg h n k) ⟨0, by simp, ?_⟩
  rw [ex, if_pos (Nat.zero_le n)]
  exact Real.exp_pos _

/-- The row's exponentials of the scores less `M`. -/
def exM (M : ℝ) (h n k : ℕ) : ℝ := if k ≤ n then Real.exp (A.score h n k - M) else 0

theorem exM_eq (M : ℝ) (h n k : ℕ) : A.exM M h n k = A.ex h n k * Real.exp (-M) := by
  unfold exM ex
  split
  · rw [sub_eq_add_neg, Real.exp_add]
  · rw [zero_mul]

def totM (M : ℝ) (h n : ℕ) : ℝ := ∑ k ∈ range 8192, A.exM M h n k

theorem totM_eq (M : ℝ) (h n : ℕ) : A.totM M h n = A.tot h n * Real.exp (-M) := by
  unfold totM tot
  rw [sum_mul]
  exact sum_congr rfl fun k _ => A.exM_eq M h n k

theorem totM_pos (M : ℝ) (h n : ℕ) : 0 < A.totM M h n := by
  rw [totM_eq]; exact mul_pos (A.tot_pos h n) (Real.exp_pos _)

theorem pr_shift (M : ℝ) (h n k : ℕ) : A.exM M h n k / A.totM M h n = A.pr h n k := by
  rw [exM_eq, totM_eq, mul_div_mul_right _ _ (Real.exp_pos _).ne', pr]

/-- A row's log-sum is the logarithm of its sum of exponentials. -/
theorem lse_shift (M : ℝ) (h n : ℕ) : M + Real.log (A.totM M h n) = Real.log (A.tot h n) := by
  rw [totM_eq, Real.log_mul (A.tot_pos h n).ne' (Real.exp_pos _).ne', Real.log_exp]
  ring

/-- The exponential of a score less the row's log-sum is the probability. -/
theorem exp_lse (h n k : ℕ) (hk : k ≤ n) : Real.exp (A.score h n k - Real.log (A.tot h n)) = A.pr h n k := by
  rw [Real.exp_sub, Real.exp_log (A.tot_pos h n), pr, ex, if_pos hk]

/-- The row's sum of output times incoming gradient is the row's sum of probability times its gradient. -/
theorem del_eq (h n : ℕ) : A.del h n = ∑ k ∈ range 8192, A.dp h n k * A.pr h n k := by
  unfold del out dp
  simp only [sum_mul]
  rw [sum_comm]
  exact sum_congr rfl fun k _ => sum_congr rfl fun d _ => by ring

/-- The softmax's gradient as it is differentiated, from the scores less `M`. -/
theorem ds_shift (M : ℝ) (h n k : ℕ) :
    (A.dp h n k / A.totM M h n + -∑ j ∈ range 8192, A.dp h n j * (1 / (A.totM M h n * A.totM M h n)) * A.exM M h n j) * A.exM M h n k * sg
      = A.ds h n k := by
  have hl := (A.totM_pos M h n).ne'
  have e : ∑ j ∈ range 8192, A.dp h n j * (1 / (A.totM M h n * A.totM M h n)) * A.exM M h n j = A.del h n / A.totM M h n := by
    rw [del_eq, sum_div]
    refine sum_congr rfl fun j _ => ?_
    rw [← pr_shift A M]
    field_simp
  rw [e, ds, ← pr_shift A M]
  field_simp
  ring

/-- The padded keys and queries. -/
def keyP (h k j : ℕ) : ℝ := if j < 192 then A.key k h j else 0
def qP (h n j : ℕ) : ℝ := if j < 192 then A.q n h j else 0

/-- The queries' gradient, padded; the keys' and values'; the shared key columns', a head's, padded. -/
def dq (n h j : ℕ) : ℝ := if j < 192 then ∑ k ∈ range 8192, A.ds h n k * A.key k h j else 0
def dkv (k h j : ℕ) : ℝ := if j < 128 then ∑ n ∈ range 8192, A.ds h n k * A.q n h j else ∑ n ∈ range 8192, A.pr h n k * A.ct n (h * 128 + (j - 128))
def dkp (h k j : ℕ) : ℝ := if j < 64 then ∑ n ∈ range 8192, A.ds h n k * A.q n h (128 + j) else 0

end Args

theorem sitofp_zero32 : FloatOps.sitofp (F := Ideal) FTy.f32 0#32 = (0 : EReal) := by
  show (((0#32 : BitVec 32).toInt : ℝ) : EReal) = 0
  simp

theorem zero_bits : Ideal.ofBits FTy.f32 0#32 = (0 : EReal) := by
  simp [Ideal.ofBits, Ideal.ieee]

end Cert.Attn

end
-- ==== Proof.Ops.lean ====
/- The host operations of the kernel's program and of the reference, in steps: the keys, the scores, the softmax, and the
   gradients. Each result of the reference and each operand of the kernel is one of these terms. -/
module

public import proofs.«01_k».proof.Proof.Gen.ReferenceIdeal.Run

@[expose] public section

noncomputable section

namespace Cert.ReferenceIdeal.Attn

open Idealize.ShloMosaic Idealize.SL Idealize.SL.Sem Gen

variable {F : FTy → Type} [FloatOps F]

/-- The keys: a head's own columns and the shared ones. -/
def kArr (a1 : FVec F S8192x16x256 .f32) (a2 : FVec F S8192x64 .f32) : FVec F S8192x16x192 .f32 :=
  concatenate S8192x16x192 2 [⟨S8192x16x128, (extractStridedSlice S8192x16x128 ![0, 0, 0] a1 slices_S8192x16x256_S8192x16x128_0_0_0)⟩,
    ⟨S8192x16x64, (broadcastInDim S8192x16x64 ![0, 1, 2] bcast_S8192x1x64_S8192x16x64_0_1_2 (broadcastInDim S8192x1x64 ![0, 2] bcast_S8192x64_S8192x1x64_0_2 a2))⟩]
    concatenates_S8192x16x128_S8192x16x64_S8192x16x192_d2

/-- The values. -/
def vArr (a1 : FVec F S8192x16x256 .f32) : FVec F S8192x16x128 .f32 := extractStridedSlice S8192x16x128 ![0, 0, 128] a1 slices_S8192x16x256_S8192x16x128_0_0_128

/-- Where the key is not after the query. -/
def maskArr : IVec S16x8192x8192 1 :=
  broadcastInDim S16x8192x8192 ![0, 1, 2] bcast_S1x8192x8192_S16x8192x8192_0_1_2 (broadcastInDim S1x8192x8192 ![1, 2] bcast_S8192x8192_S1x8192x8192_1_2
    (cmpi .sle (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0)))))

/-- The scores, masked. -/
def sArr (a0 : FVec F S8192x16x192 .f32) (k : FVec F S8192x16x192 .f32) : FVec F S16x8192x8192 .f32 :=
  select maskArr
    (mulf (Host.dotGeneral dot_S8192x16x192_S8192x16x192_S16x8192x8192_2_2_0_0_1_1 none a0 k) (broadcastInDim S16x8192x8192 ![] bcast_S_S16x8192x8192 (constant S_ .f32 0x3D93CD3A#32)))
    (broadcastInDim S16x8192x8192 ![] bcast_S_S16x8192x8192 (id (constant S_ .f32 0xFF800000#32)))

/-- The rows' largest scores. -/
def mArr (s : FVec F S16x8192x8192 .f32) : FVec F S16x8192 .f32 :=
  Host.reduce FloatOps.maximumf s (constant S_ .f32 0xFF800000#32) reducesTo_S16x8192x8192_S16x8192_d2 h_S_

def mArr' (s : FVec F S16x8192x8192 .f32) : FVec F S16x8192 .f32 :=
  maximumf (broadcastInDim S16x8192 ![] bcast_S_S16x8192 (constant S_ .f32 0xFF800000#32)) (mArr s)

/-- A row's number at every key. -/
def rowArr (x : FVec F S16x8192x1 .f32) : FVec F S16x8192x8192 .f32 := broadcastInDim S16x8192x8192 ![0, 1, 2] bcast_S16x8192x1_S16x8192x8192_0_1_2 x

def colArr (x : FVec F S16x8192 .f32) : FVec F S16x8192x1 .f32 := broadcastInDim S16x8192x1 ![0, 1] bcast_S16x8192_S16x8192x1_0_1 x

/-- The exponentials of the scores less the row's number. -/
def uArr (s : FVec F S16x8192x8192 .f32) (x : FVec F S16x8192 .f32) : FVec F S16x8192x8192 .f32 := Host.exp (subf s (rowArr (colArr x)))

/-- The rows' sums. -/
def lArr (u : FVec F S16x8192x8192 .f32) : FVec F S16x8192 .f32 := Host.reduceAdd u (constant S_ .f32 0x00000000#32) reducesTo_S16x8192x8192_S16x8192_d2 h_S_

/-- The probabilities. -/
def pArr (u : FVec F S16x8192x8192 .f32) : FVec F S16x8192x8192 .f32 := Host.divf u (rowArr (colArr (lArr u)))

/-- The incoming gradient by head. -/
def ctArr (a3 : FVec F S8192x2048 .f32) : FVec F S16x128x8192 .f32 :=
  transpose S16x128x8192 [1, 2, 0] (shapeCast _ a3 shapeCasts_S8192x2048_S8192x16x128) transposes_S8192x16x128_S16x128x8192_1_2_0

/-- The probabilities' gradient. -/
def dpArr (a1 : FVec F S8192x16x256 .f32) (a3 : FVec F S8192x2048 .f32) : FVec F S16x8192x8192 .f32 :=
  Host.dotGeneral dot_S16x128x8192_S8192x16x128_S16x8192x8192_1_2_2_0_0_1 none (ctArr a3) (vArr a1)

/-- One over the square of the rows' sums. -/
def sqArr (u : FVec F S16x8192x8192 .f32) : FVec F S16x8192x1 .f32 :=
  Host.divf (broadcastInDim S16x8192x1 ![] bcast_S_S16x8192x1 (constant S_ .f32 0x3F800000#32)) (mulf (colArr (lArr u)) (colArr (lArr u)))

/-- The rows' term of the softmax's gradient. -/
def negArr (u dp : FVec F S16x8192x8192 .f32) : FVec F S16x8192 .f32 :=
  Host.reduceAdd (Host.negf (shapeCast _ (lArr (mulf (mulf dp (rowArr (sqArr u))) u)) shapeCasts_S16x8192_S16x8192x1)) (constant S_ .f32 0x00000000#32) reducesTo_S16x8192x1_S16x8192_d2 h_S_

/-- The scores' gradient. -/
def dsArr (u dp : FVec F S16x8192x8192 .f32) : FVec F S16x8192x8192 .f32 :=
  mulf (select maskArr (mulf (addf (Host.divf dp (rowArr (colArr (lArr u)))) (broadcastInDim S16x8192x8192 ![0, 1] bcast_S16x8192_S16x8192x8192_0_1 (negArr u dp))) u)
      (broadcastInDim S16x8192x8192 ![] bcast_S_S16x8192x8192 (constant S_ .f32 0x00000000#32)))
    (broadcastInDim S16x8192x8192 ![] bcast_S_S16x8192x8192 (constant S_ .f32 0x3D93CD3A#32))

/-- The queries' gradient from the scores'. -/
def dqArr (ds : FVec F S16x8192x8192 .f32) (k : FVec F S8192x16x192 .f32) : FVec F S8192x4096 .f32 :=
  shapeCast _ (pad S8192x16x256 ![0, 0, 0] ![0, 0, 64] ![0, 0, 0] (transpose S8192x16x192 [1, 0, 2]
    (Host.dotGeneral dot_S16x8192x8192_S8192x16x192_S16x8192x192_2_0_1_2_0_1 none ds k) transposes_S16x8192x192_S8192x16x192_1_0_2)
    (sitofp .f32 (constantI S_ 32 0#32)) pads_S8192x16x192_S8192x16x256_000_000_0640 h_S_) shapeCasts_S8192x16x256_S8192x4096

/-- The keys' gradient from the scores'. -/
def dkArr (ds : FVec F S16x8192x8192 .f32) (a0 : FVec F S8192x16x192 .f32) : FVec F S8192x16x192 .f32 :=
  transpose S8192x16x192 [1, 0, 2] (Host.dotGeneral dot_S16x8192x8192_S8192x16x192_S16x8192x192_1_0_2_2_0_1 none ds a0) transposes_S16x8192x192_S8192x16x192_1_0_2

/-- The values' gradient. -/
def dvArr (p : FVec F S16x8192x8192 .f32) (a3 : FVec F S8192x2048 .f32) : FVec F S8192x16x128 .f32 :=
  transpose S8192x16x128 [2, 0, 1] (Host.dotGeneral dot_S16x128x8192_S16x8192x8192_S16x128x8192_2_1_1_2_0_0 none (ctArr a3) p) transposes_S16x128x8192_S8192x16x128_2_0_1

section Args
variable (m : (ℓ : Loc nD τ sig) → Buf (Elt F) ℓ) (c : Dev nD)

def arg0 : FVec F S8192x16x192 .f32 := m ((c.tc : Thread nD τ).loc main_arg0)
def arg1 : FVec F S8192x16x256 .f32 := m ((c.tc : Thread nD τ).loc main_arg1)
def arg2 : FVec F S8192x64 .f32 := m ((c.tc : Thread nD τ).loc main_arg2)
def arg3 : FVec F S8192x2048 .f32 := m ((c.tc : Thread nD τ).loc main_arg3)

/-- The reference's exponentials and scores' gradient, of the arguments. -/
def refU : FVec F S16x8192x8192 .f32 := uArr (sArr (arg0 m c) (kArr (arg1 m c) (arg2 m c))) (mArr' (sArr (arg0 m c) (kArr (arg1 m c) (arg2 m c))))
def refDs : FVec F S16x8192x8192 .f32 := dsArr (refU m c) (dpArr (arg1 m c) (arg3 m c))

theorem out0_eq : Value.res_out0 m c = dqArr (refDs m c) (kArr (arg1 m c) (arg2 m c)) := rfl

theorem out1_eq : Value.res_out1 m c = truncf .bf16 (shapeCast S8192x4096 (addf
    (pad S8192x16x256 ![0, 0, 128] ![0, 0, 0] ![0, 0, 0] (dvArr (pArr (refU m c)) (arg3 m c)) (constant S_ .f32 0x00000000#32)
      pads_S8192x16x128_S8192x16x256_000_000_12800 h_S_)
    (pad S8192x16x256 ![0, 0, 0] ![0, 0, 128] ![0, 0, 0] (extractStridedSlice S8192x16x128 ![0, 0, 0] (dkArr (refDs m c) (arg0 m c))
      slices_S8192x16x192_S8192x16x128_0_0_0) (constant S_ .f32 0x00000000#32) pads_S8192x16x128_S8192x16x256_000_000_01280 h_S_))
    shapeCasts_S8192x16x256_S8192x4096) bitsLt_bf16_f32 := rfl

theorem out2_eq : Value.res_out2 m c = pad S16x8192x128 ![0, 0, 0] ![0, 0, 64] ![0, 0, 0] (transpose S16x8192x64 [1, 0, 2]
    (extractStridedSlice S8192x16x64 ![0, 0, 128] (dkArr (refDs m c) (arg0 m c)) slices_S8192x16x192_S8192x16x64_0_0_128) transposes_S8192x16x64_S16x8192x64_1_0_2)
    (sitofp .f32 (constantI S_ 32 0#32)) pads_S16x8192x64_S16x8192x128_000_000_0640 h_S_ := rfl

end Args

end Cert.ReferenceIdeal.Attn

end
-- ==== Proof.Reads.lean ====
/- The host operations' steps read at an index, over the reals. -/
module

public import proofs.«01_k».proof.Proof.Math
public import proofs.«01_k».proof.Proof.Ops
public import Idealize.ShloMosaic.Lib.Pointwise
public import Idealize.ShloMosaic.Lib.WordCmp

@[expose] public section

noncomputable section

namespace Cert.ReferenceIdeal.Attn

open Idealize.ShloMosaic Idealize.SL Idealize.SL.Sem Gen
open Cert.Attn
open scoped BigOperators

/-- A row's maximum, at an index. -/
theorem rowMax_read {H N K : ℕ} {u : Shape} (x : (⟨3, ![H, N, K]⟩ : Shape).Idx → EReal) (init : u.Idx → EReal)
    (h' : (⟨3, ![H, N, K]⟩ : Shape).ReducesTo [2] ⟨2, ![H, N]⟩) (hu : 0 < u.numel) (h : Fin H) (n : Fin N) :
    Host.reduce (FloatOps.maximumf (F := Ideal) (φ := .f32)) x init h' hu (ix2 h n)
      = Finset.univ.fold max (init (Shape.Idx.first hu)) fun k : Fin K => x (ix3 h n k) := by
  obtain ⟨h1, h2⟩ := h'
  have hr : (⟨3, ![H, N, K]⟩ : Shape).Reduces [2] ⟨2, ![H, N]⟩ := ⟨h1, (by decide : 0 < 2), h2⟩
  have e := Host.reduce_eq_fold_single (max : EReal → EReal → EReal) x init ⟨h1, h2⟩ hr hu (ix2 h n)
  have el : (x ∘ hr.lift (ix2 h n)) = fun k : Fin K => x (ix3 h n k) := by
    funext k
    refine congrArg x (funext fun c => Fin.ext ?_)
    rw [hr.lift_val]
    fin_cases c <;> rfl
  rw [el] at e
  exact e

/-- A maximum of numbers below infinity, one of them above its negative, is a real number. -/
theorem fold_max_real {K : ℕ} (f : Fin K → EReal) (ht : ∀ k, f k < ⊤) (k₀ : Fin K) (h₀ : ⊥ < f k₀) :
    ∃ M : ℝ, Finset.univ.fold max ⊥ f = (M : EReal) := by
  have h1 : Finset.univ.fold max ⊥ f < ⊤ := (Finset.fold_max_lt _).mpr ⟨bot_lt_top, fun k _ => ht k⟩
  have h2 : ⊥ < Finset.univ.fold max ⊥ f := (Finset.lt_fold_max _).mpr (Or.inr ⟨k₀, Finset.mem_univ _, h₀⟩)
  exact ⟨_, (EReal.coe_toReal h1.ne h2.ne').symm⟩

/-- The arrays hold the arguments. -/
structure HoldsArgs (A : Args) (a0 : FVec Ideal S8192x16x192 .f32) (a1 : FVec Ideal S8192x16x256 .f32) (a2 : FVec Ideal S8192x64 .f32)
    (a3 : FVec Ideal S8192x2048 .f32) : Prop where
  q : ∀ (n : Fin 8192) (h : Fin 16) (d : Fin 192), a0 (ix3 n h d) = (A.q n h d : EReal)
  kv : ∀ (n : Fin 8192) (h : Fin 16) (d : Fin 256), a1 (ix3 n h d) = (A.kv n h d : EReal)
  kp : ∀ (n : Fin 8192) (d : Fin 64), a2 (ix2 n d) = (A.kp n d : EReal)
  ct : ∀ (n : Fin 8192) (d : Fin 2048), a3 (ix2 n d) = (A.ct n d : EReal)

variable {A : Args} {a0 : FVec Ideal S8192x16x192 .f32} {a1 : FVec Ideal S8192x16x256 .f32} {a2 : FVec Ideal S8192x64 .f32}
  {a3 : FVec Ideal S8192x2048 .f32} (H : HoldsArgs A a0 a1 a2 a3)
include H

theorem kArr_holds (k : Fin 8192) (h : Fin 16) (d : Fin 192) : kArr a1 a2 (ix3 k h d) = (A.key k h d : EReal) := by
  pointwise [kArr]
  unfold Args.key
  split
  case isTrue hd => exact H.kv _ _ _
  case isFalse hd => exact H.kp _ _

omit H in
theorem maskArr_read (h : Fin 16) (n k : Fin 8192) : maskArr (ix3 h n k) = BitVec.ofBool (decide (k.val ≤ n.val)) := by
  pointwise [maskArr]
  exact WordCmp.cmpi_sle_ofNat (by have := k.isLt; omega) (by have := n.isLt; omega)

omit H in
theorem select_mask (h : Fin 16) (n k : Fin 8192) (x y : EReal) : Scalar.select (maskArr (ix3 h n k)) x y = if k.val ≤ n.val then x else y := by
  rw [maskArr_read]
  by_cases hk : k.val ≤ n.val
  · rw [if_pos hk, decide_eq_true hk]; rfl
  · rw [if_neg hk, decide_eq_false hk]; rfl

/-- The scores: real where the key is not after the query, else `-∞`. -/
theorem sArr_holds (h : Fin 16) (n k : Fin 8192) : sArr a0 (kArr a1 a2) (ix3 h n k) = if k.val ≤ n.val then (A.score h n k : EReal) else ⊥ := by
  pointwise [sArr]
  rw [select_mask, sum_coe (fun d => A.q n h d * A.key k h d) _ fun d => by rw [H.q, kArr_holds H, EReal.coe_mul], sg_eq, ← EReal.coe_mul]
  refine congrArg (fun y => if k.val ≤ n.val then (A.score h n k : EReal) else y) ?_
  exact negInf_eq

/-- The rows' largest scores are real. -/
theorem mArr_holds (h : Fin 16) (n : Fin 8192) : ∃ M : ℝ, mArr (sArr a0 (kArr a1 a2)) (ix2 h n) = (M : EReal) := by
  unfold mArr
  rw [show Host.reduce FloatOps.maximumf (sArr a0 (kArr a1 a2)) _ _ _ (ix2 h n) = _ from rowMax_read _ _ _ _ h n]
  rw [show (constant (F := Ideal) S_ .f32 0xFF800000#32) (Shape.Idx.first h_S_) = ⊥ from negInf_eq]
  refine fold_max_real _ (fun k => ?_) n ?_
  · rw [sArr_holds H]; split
    · exact EReal.coe_lt_top _
    · exact bot_lt_top
  · rw [sArr_holds H, if_pos le_rfl]; exact EReal.bot_lt_coe _

omit H in
/-- The larger of `-∞` and a number is the number. -/
theorem max_negInf_read (x : FVec Ideal S16x8192 .f32) (i : S16x8192.Idx) :
    maximumf (broadcastInDim S16x8192 ![] bcast_S_S16x8192 (constant S_ .f32 0xFF800000#32)) x i = x i := by
  have e : maximumf (broadcastInDim S16x8192 ![] bcast_S_S16x8192 (constant S_ .f32 0xFF800000#32)) x i = max (Ideal.ofBits FTy.f32 0xFF800000#32) (x i) := rfl
  rw [e, negInf_eq]
  exact max_eq_right bot_le

theorem mArr'_holds (h : Fin 16) (n : Fin 8192) : ∃ M : ℝ, mArr' (sArr a0 (kArr a1 a2)) (ix2 h n) = (M : EReal) := by
  obtain ⟨M, hM⟩ := mArr_holds H h n
  refine ⟨M, ?_⟩
  rw [← hM]
  exact max_negInf_read _ _

/-- The exponentials of the scores less a real number a row. -/
theorem uArr_holds {x : FVec Ideal S16x8192 .f32} {M : ℝ} {h : Fin 16} {n : Fin 8192} (hx : x (ix2 h n) = (M : EReal)) (k : Fin 8192) :
    uArr (sArr a0 (kArr a1 a2)) x (ix3 h n k) = (A.exM M h n k : EReal) := by
  have e : uArr (sArr a0 (kArr a1 a2)) x (ix3 h n k) = Ideal.exp (sArr a0 (kArr a1 a2) (ix3 h n k) - x (ix2 h n)) := by
    generalize sArr a0 (kArr a1 a2) = s
    pointwise [uArr, rowArr, colArr]
  rw [e, sArr_holds H, hx, Args.exM]
  split
  · rw [← EReal.coe_sub, exp_coe]
  · exact exp_bot

omit H in
theorem lArr_read (u : FVec Ideal S16x8192x8192 .f32) (h : Fin 16) (n : Fin 8192) : lArr u (ix2 h n) = ∑ k, u (ix3 h n k) := by
  pointwise [lArr]

omit H in
theorem lArr_holds {u : FVec Ideal S16x8192x8192 .f32} {f : ℕ → ℝ} {h : Fin 16} {n : Fin 8192} (hu : ∀ k, u (ix3 h n k) = (f k.val : EReal)) :
    lArr u (ix2 h n) = ((∑ k ∈ Finset.range 8192, f k : ℝ) : EReal) := by
  rw [lArr_read]
  exact sum_coe f _ hu

/-- The probabilities. -/
theorem pArr_holds {u : FVec Ideal S16x8192x8192 .f32} {M : ℝ} {h : Fin 16} {n : Fin 8192} (hu : ∀ k : Fin 8192, u (ix3 h n k) = (A.exM M h n k : EReal)) (k : Fin 8192) :
    pArr u (ix3 h n k) = (A.pr h n k : EReal) := by
  have e : pArr u (ix3 h n k) = Ideal.div (u (ix3 h n k)) (lArr u (ix2 h n)) := by
    generalize hl : lArr u = l
    unfold pArr
    rw [hl]
    pointwise [rowArr, colArr]
  rw [e, hu, lArr_holds hu]
  change Ideal.div _ (A.totM M h n : EReal) = _
  rw [div_coe _ _ (A.totM_pos M h n).ne', ← Args.pr_shift A M]

theorem ctArr_holds (h : Fin 16) (d : Fin 128) (n : Fin 8192) : ctArr a3 (ix3 h d n) = (A.ct n (h * 128 + d) : EReal) := by
  pointwise [ctArr]
  exact H.ct _ _

theorem vArr_holds (k : Fin 8192) (h : Fin 16) (d : Fin 128) : vArr a1 (ix3 k h d) = (A.kv k h (128 + d) : EReal) := by
  pointwise [vArr]
  exact H.kv _ _ _

theorem dpArr_holds (h : Fin 16) (n k : Fin 8192) : dpArr a1 a3 (ix3 h n k) = (A.dp h n k : EReal) := by
  pointwise [dpArr]
  exact sum_coe (fun d => A.ct n (h * 128 + d) * A.kv k h (128 + d)) _ fun d => by rw [ctArr_holds H, vArr_holds H, EReal.coe_mul]

/-- The scores' gradient. -/
theorem dsArr_holds {u dp : FVec Ideal S16x8192x8192 .f32} {M : ℝ} {h : Fin 16} {n : Fin 8192} (hu : ∀ k : Fin 8192, u (ix3 h n k) = (A.exM M h n k : EReal))
    (hdp : ∀ k : Fin 8192, dp (ix3 h n k) = (A.dp h n k : EReal)) (k : Fin 8192) : dsArr u dp (ix3 h n k) = (A.ds h n k : EReal) := by
  have hl : ∑ k, u (ix3 h n k) = (A.totM M h n : EReal) := sum_coe (fun k => A.exM M h n k) _ hu
  pointwise [dsArr, rowArr, colArr, negArr, sqArr, lArr]
  have one : (1 : EReal) = ((1 : ℝ) : EReal) := rfl
  have hs : ∑ x, dp (ix3 h n x) * Ideal.div 1 ((A.totM M h n : EReal) * (A.totM M h n : EReal)) * u (ix3 h n x)
      = ((∑ j ∈ Finset.range 8192, A.dp h n j * (1 / (A.totM M h n * A.totM M h n)) * A.exM M h n j : ℝ) : EReal) :=
    sum_coe (fun j => A.dp h n j * (1 / (A.totM M h n * A.totM M h n)) * A.exM M h n j) _ fun j => by
      rw [hdp, hu, one, ← EReal.coe_mul, div_coe _ _ (mul_pos (A.totM_pos M h n) (A.totM_pos M h n)).ne', EReal.coe_mul, EReal.coe_mul]
  rw [select_mask, hl, hs]
  rw [hdp, hu, div_coe _ _ (A.totM_pos M h n).ne', sg_eq, Fin.sum_univ_one, ← EReal.coe_neg, ← EReal.coe_add, ← EReal.coe_mul, ← Args.ds_shift A M]
  split
  · rw [← EReal.coe_mul]
  case isFalse hk =>
    rw [Args.exM, if_neg hk]
    simp

end Cert.ReferenceIdeal.Attn

end
-- ==== Proof.Step.lean ====
/- One grid point of the attention's backward kernel as functions of vectors: what the diagonal block and one later
   block of queries do to the three accumulators (the gradient of the queries, of the keys, of the values). -/
module

public import proofs.«01_k».proof.Proof.Gen.KernelIdeal.Skeleton
public import Idealize.ShloMosaic.Lib.VecWindow

@[expose] public section

noncomputable section

namespace Cert.KernelIdeal.Attn

open Idealize.ShloMosaic Idealize.SL Idealize.SL.Sem Gen

variable {F : FTy → Type} [FloatOps F]

/-- The three accumulators: of the queries' gradient (one head), of the key block's and of the value block's. -/
abbrev St (F : FTy → Type) := Vec F S8192x256 .f32 × Vec F S1024x256 .f32 × Vec F S1024x128 .f32

/-- The key block: the head's own columns and, behind them, the shared ones. -/
def keys (x0 : Vec F S1024x256 .bf16) (x1 : Vec F S1024x128 .bf16) : FVec F S1024x256 .bf16 :=
  k0_pay19 (VecWindow.window x0 ![0, 0] S1024x128.size inb_S1024x256_S1024x128_0_0) x1

/-- The value block. -/
def vals (x0 : Vec F S1024x256 .bf16) : FVec F S1024x128 .bf16 :=
  k0_pay20 (VecWindow.window x0 ![0, 128] S1024x128.size inb_S1024x256_S1024x128_0_128)

variable (i : grid0.Coords) (x0 : Vec F S1024x256 .bf16) (x1 : Vec F S1024x128 .bf16) (x2 : Vec F S8192x256 .bf16)
  (x3 : Vec F S8192x128 .bf16) (x4 x5 : Vec F S1x8x1x1024 .f32)

/-- The queries of the key block's own rows. -/
def qDiag : Vec F S1024x256 .bf16 := VecWindow.window x2 (k0_off1 i) S1024x256.size (k0_off1_inb i)
/-- The incoming gradient at the key block's own rows. -/
def ctDiag : Vec F S1024x128 .bf16 := VecWindow.window x3 (k0_off2 i) S1024x128.size (k0_off2_inb i)
/-- The rows' log-sums there. -/
def lseDiag : Vec F S1x1x1x1024 .f32 := VecWindow.window x4 (k0_off3 i) S1x1x1x1024.size (k0_off3_inb i)
/-- The rows' sums of output times incoming gradient there. -/
def deltaDiag : Vec F S1x1x1x1024 .f32 := VecWindow.window x5 (k0_off3 i) S1x1x1x1024.size (k0_off3_inb i)

/-- After the diagonal block, from the queries' gradient `a`. -/
def diag (a : Vec F S8192x256 .f32) : St F :=
  let v4 := keys x0 x1
  let v6 := vals x0
  let v22 := k0_pay24 (qDiag i x2)
  let v25 := k0_pay25 (ctDiag i x3)
  let v28 := k0_pay26 (VecWindow.window x0 ![0, 0] S1024x128.size inb_S1024x256_S1024x128_0_0) x1 (qDiag i x2)
  let v32 := k0_pay27 (lseDiag i x4)
  (VecWindow.put a (k0_off1 i) S1024x256.size
      (k0_pay32 v4 v6 v25 v28 v32 (deltaDiag i x5) (VecWindow.window a (k0_off1 i) S1024x256.size (k0_off1_inb i))),
    k0_pay31 v6 v22 v25 v28 v32 (deltaDiag i x5) (k0_pay22 (F := F)),
    k0_pay29 v25 v28 v32 (k0_pay23 (F := F)))

/-- What one later block of queries does. -/
def trip (v4 : FVec F S1024x256 .bf16) (v6 : FVec F S1024x128 .bf16) (k : Fin (k0_t1_loop i).trips) (s : St F) : St F :=
  let q : Vec F S1024x256 .bf16 := VecWindow.window x2 (k0_off4 i k) S1024x256.size (k0_off4_inb i k)
  let o : Vec F S1024x128 .bf16 := VecWindow.window x3 (k0_off5 i k) S1024x128.size (k0_off5_inb i k)
  let l : Vec F S1x1x1x1024 .f32 := VecWindow.window x4 (k0_off6 i k) S1x1x1x1024.size (k0_off6_inb i k)
  let d : Vec F S1x1x1x1024 .f32 := VecWindow.window x5 (k0_off6 i k) S1x1x1x1024.size (k0_off6_inb i k)
  (VecWindow.put s.1 (k0_off4 i k) S1024x256.size
      (k0_pay2 v4 (k0_pay11 v4 v6 q o l d) (VecWindow.window s.1 (k0_off4 i k) S1024x256.size (k0_off4_inb i k))),
    k0_pay1 (k0_pay12 v4 v6 q o l d s.2.1),
    k0_pay10 v4 q o l s.2.2)

/-- The accumulators after the first `k` later blocks, from `s`. -/
def fold (v4 : FVec F S1024x256 .bf16) (v6 : FVec F S1024x128 .bf16) (s : St F) : ℕ → St F
  | 0 => s
  | k + 1 => if h : k < (k0_t1_loop i).trips then trip i x2 x3 x4 x5 v4 v6 ⟨k, h⟩ (fold v4 v6 s k) else fold v4 v6 s k

theorem fold_succ (v4 : FVec F S1024x256 .bf16) (v6 : FVec F S1024x128 .bf16) (s : St F) (k : Fin (k0_t1_loop i).trips) :
    fold i x2 x3 x4 x5 v4 v6 s (k.val + 1) = trip i x2 x3 x4 x5 v4 v6 k (fold i x2 x3 x4 x5 v4 v6 s k.val) :=
  dif_pos k.isLt

/-- The accumulators at the end of the point, from the queries' gradient `a`. -/
def last (a : Vec F S8192x256 .f32) : St F :=
  fold i x2 x3 x4 x5 (keys x0 x1) (vals x0) (diag i x0 x1 x2 x3 x4 x5 a) (k0_t1_loop i).trips

/-- The block of the keys' and values' gradient the point writes. -/
def outKV (s : St F) : Vec F S1024x256 .bf16 :=
  k0_pay5 (VecWindow.window s.2.1 ![0, 0] S1024x128.size inb_S1024x256_S1024x128_0_0) s.2.2

/-- The block of the shared key columns' gradient the point writes. -/
def outKP (s : St F) : Vec F S1x1024x128 .f32 :=
  k0_pay6 (VecWindow.window s.2.1 ![0, 128] S1024x128.size inb_S1024x256_S1024x128_0_128)

end Cert.KernelIdeal.Attn

end
-- ==== Proof.Trips.lean ====
/- One trip of the kernel's loop over later query blocks, and all of them: what the generated run stores, read back,
   is the fold of the step on vectors. -/
module

public import proofs.«01_k».proof.Proof.Gen.KernelIdeal.Loops
public import proofs.«01_k».proof.Proof.Step

@[expose] public section

set_option maxHeartbeats 1000000

noncomputable section

namespace Cert.KernelIdeal.Attn

open Idealize.ShloMosaic Idealize.ShloMosaic.TcCoe Idealize.SL Idealize.SL.Sem Gen

variable {F : FTy → Type} [FloatOps F]

/-- What the trips before `k` stored, read back: the accumulators of the fold started at what the memrefs held. -/
theorem read_pb  (𝒱 : Variants) (c : Dev nD) (bd : Option 𝒱.V) (i : grid0.Coords) (arg2 : Memref sig .tc .vmem S1024x256 .bf16) (harg2 : arg2.IsWhole) (arg3 : Memref sig .tc .vmem S1024x128 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1x8x1x1024 .f32) (harg6 : arg6.IsWhole) (arg7 : Memref sig .tc .vmem S1x8x1x1024 .f32) (harg7 : arg7.IsWhole) (arg8 : Memref sig .tc .vmem S8192x256 .f32) (harg8 : arg8.IsWhole) (arg9 : Memref sig .tc .vmem S1024x256 .bf16) (harg9 : arg9.IsWhole) (arg10 : Memref sig .tc .vmem S1x1024x128 .f32) (harg10 : arg10.IsWhole) (arg11 : Memref sig .tc .vmem S1024x256 .f32) (harg11 : arg11.IsWhole) (arg12 : Memref sig .tc .vmem S1024x128 .f32) (harg12 : arg12.IsWhole) (v4 : FVec F S1024x256 .bf16) (v6 : FVec F S1024x128 .bf16) (v70 : BitVec 32)
    (x2 : Vec F S8192x256 .bf16) (x3 : Vec F S8192x128 .bf16) (x4 x5 : Vec F S1x8x1x1024 .f32)
    (X2 : BufTy.Contents (Elt F) arg4.view.ty) (X3 : BufTy.Contents (Elt F) arg5.view.ty) (X4 : BufTy.Contents (Elt F) arg6.view.ty) (X5 : BufTy.Contents (Elt F) arg7.view.ty)
    (h2 : arg4.view.read (Elt F) X2 = x2) (h3 : arg5.view.read (Elt F) X3 = x3) (h4 : arg6.view.read (Elt F) X4 = x4) (h5 : arg7.view.read (Elt F) X5 = x5)
    (G8 : BufTy.Contents (Elt F) arg8.view.ty) (G11 : BufTy.Contents (Elt F) arg11.view.ty) (G12 : BufTy.Contents (Elt F) arg12.view.ty)
    (s : St F) (e8 : arg8.view.read (Elt F) G8 = s.1) (e11 : arg11.view.read (Elt F) G11 = s.2.1) (e12 : arg12.view.read (Elt F) G12 = s.2.2)
    (k : ℕ) (hk : k ≤ (k0_t1_loop i).trips) :
    arg8.view.read (Elt F) (arg8.view.writes (Elt F) G8 (pb_k0_t1 (F := F) 𝒱 c bd i arg2 harg2 arg3 harg3 arg4 harg4 arg5 harg5 arg6 harg6 arg7 harg7 arg8 harg8 arg9 harg9 arg10 harg10 arg11 harg11 arg12 harg12 v4 v6 v70 X2 X3 X4 X5 G8 G11 G12 k).1) = (fold i x2 x3 x4 x5 v4 v6 s k).1
    ∧ arg11.view.read (Elt F) (arg11.view.writes (Elt F) G11 (pb_k0_t1 (F := F) 𝒱 c bd i arg2 harg2 arg3 harg3 arg4 harg4 arg5 harg5 arg6 harg6 arg7 harg7 arg8 harg8 arg9 harg9 arg10 harg10 arg11 harg11 arg12 harg12 v4 v6 v70 X2 X3 X4 X5 G8 G11 G12 k).2.1) = (fold i x2 x3 x4 x5 v4 v6 s k).2.1
    ∧ arg12.view.read (Elt F) (arg12.view.writes (Elt F) G12 (pb_k0_t1 (F := F) 𝒱 c bd i arg2 harg2 arg3 harg3 arg4 harg4 arg5 harg5 arg6 harg6 arg7 harg7 arg8 harg8 arg9 harg9 arg10 harg10 arg11 harg11 arg12 harg12 v4 v6 v70 X2 X3 X4 X5 G8 G11 G12 k).2.2) = (fold i x2 x3 x4 x5 v4 v6 s k).2.2 := by
  induction k with
  | zero => exact ⟨e8, e11, e12⟩
  | succ k ih =>
    obtain ⟨i8, i11, i12⟩ := ih (by omega)
    rw [fold_succ i x2 x3 x4 x5 v4 v6 s ⟨k, hk⟩]
    rw [pb_k0_t1_succ (F := F) 𝒱 c bd i arg2 harg2 arg3 harg3 arg4 harg4 arg5 harg5 arg6 harg6 arg7 harg7 arg8 harg8 arg9 harg9 arg10 harg10 arg11 harg11 arg12 harg12 v4 v6 v70 X2 X3 X4 X5 G8 G11 G12 ⟨k, hk⟩]
    unfold tripL_k0_t1
    delta trip_k0_t1
    dsimp only
    generalize hp : pb_k0_t1 (F := F) 𝒱 c bd i arg2 harg2 arg3 harg3 arg4 harg4 arg5 harg5 arg6 harg6 arg7 harg7 arg8 harg8 arg9 harg9 arg10 harg10 arg11 harg11 arg12 harg12 v4 v6 v70 X2 X3 X4 X5 G8 G11 G12 k = p at i8 i11 i12 ⊢
    refine ⟨?_, ?_, ?_⟩
    · rw [List.singleton_append, View.read_writes_cons_put arg8.view G8 _ _ _ rfl, i8, View.readAt_unit arg8.view _ _ rfl (k0_off4_inb i ⟨k, hk⟩), i8]
      delta trip_k0_t1.sl.r
      rw [View.readAt_unit arg4.view _ _ rfl (k0_off4_inb i ⟨k, hk⟩), View.readAt_unit arg5.view _ _ rfl (k0_off5_inb i ⟨k, hk⟩),
        View.readAt_unit arg6.view _ _ rfl (k0_off6_inb i ⟨k, hk⟩), View.readAt_unit arg7.view _ _ rfl (k0_off6_inb i ⟨k, hk⟩), h2, h3, h4, h5]
      rfl
    · rw [List.singleton_append]
      refine (View.read_writes_full arg11.view G11 _ _ _).trans ?_
      delta trip_k0_t1.sl.r_1
      rw [View.readAt_unit arg4.view _ _ rfl (k0_off4_inb i ⟨k, hk⟩), View.readAt_unit arg5.view _ _ rfl (k0_off5_inb i ⟨k, hk⟩),
        View.readAt_unit arg6.view _ _ rfl (k0_off6_inb i ⟨k, hk⟩), View.readAt_unit arg7.view _ _ rfl (k0_off6_inb i ⟨k, hk⟩), h2, h3, h4, h5]
      rw [show View.readAt (Elt F) arg11.view (Rect.unit ![0, 0] ![1024, 256] inb_S1024x256_S1024x256_0_0).toLoadRect (arg11.view.writes (Elt F) G11 p.2.1) = _ from View.readAt_full arg11.view _ _, i11]
      rfl
    · rw [List.singleton_append]
      refine (View.read_writes_full arg12.view G12 _ _ _).trans ?_
      rw [View.readAt_unit arg4.view _ _ rfl (k0_off4_inb i ⟨k, hk⟩), View.readAt_unit arg5.view _ _ rfl (k0_off5_inb i ⟨k, hk⟩),
        View.readAt_unit arg6.view _ _ rfl (k0_off6_inb i ⟨k, hk⟩), h2, h3, h4]
      rw [show View.readAt (Elt F) arg12.view (Rect.unit ![0, 0] ![1024, 128] inb_S1024x128_S1024x128_0_0).toLoadRect (arg12.view.writes (Elt F) G12 p.2.2) = _ from View.readAt_full arg12.view _ _, i12]
      rfl

/-- The same at the end of the loop, entered after the diagonal block. -/
theorem read_last  (𝒱 : Variants) (c : Dev nD) (bd : Option 𝒱.V) (i : grid0.Coords) (arg2 : Memref sig .tc .vmem S1024x256 .bf16) (harg2 : arg2.IsWhole) (arg3 : Memref sig .tc .vmem S1024x128 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1x8x1x1024 .f32) (harg6 : arg6.IsWhole) (arg7 : Memref sig .tc .vmem S1x8x1x1024 .f32) (harg7 : arg7.IsWhole) (arg8 : Memref sig .tc .vmem S8192x256 .f32) (harg8 : arg8.IsWhole) (arg9 : Memref sig .tc .vmem S1024x256 .bf16) (harg9 : arg9.IsWhole) (arg10 : Memref sig .tc .vmem S1x1024x128 .f32) (harg10 : arg10.IsWhole) (arg11 : Memref sig .tc .vmem S1024x256 .f32) (harg11 : arg11.IsWhole) (arg12 : Memref sig .tc .vmem S1024x128 .f32) (harg12 : arg12.IsWhole) (v4 : FVec F S1024x256 .bf16) (v6 : FVec F S1024x128 .bf16) (v70 : BitVec 32)
    (x0 : Vec F S1024x256 .bf16) (x1 : Vec F S1024x128 .bf16) (x2 : Vec F S8192x256 .bf16) (x3 : Vec F S8192x128 .bf16) (x4 x5 : Vec F S1x8x1x1024 .f32) (a : Vec F S8192x256 .f32)
    (X2 : BufTy.Contents (Elt F) arg4.view.ty) (X3 : BufTy.Contents (Elt F) arg5.view.ty) (X4 : BufTy.Contents (Elt F) arg6.view.ty) (X5 : BufTy.Contents (Elt F) arg7.view.ty)
    (h2 : arg4.view.read (Elt F) X2 = x2) (h3 : arg5.view.read (Elt F) X3 = x3) (h4 : arg6.view.read (Elt F) X4 = x4) (h5 : arg7.view.read (Elt F) X5 = x5)
    (G8 : BufTy.Contents (Elt F) arg8.view.ty) (G11 : BufTy.Contents (Elt F) arg11.view.ty) (G12 : BufTy.Contents (Elt F) arg12.view.ty)
    (hv4 : v4 = keys x0 x1) (hv6 : v6 = vals x0)
    (e8 : arg8.view.read (Elt F) G8 = (diag i x0 x1 x2 x3 x4 x5 a).1) (e11 : arg11.view.read (Elt F) G11 = (diag i x0 x1 x2 x3 x4 x5 a).2.1)
    (e12 : arg12.view.read (Elt F) G12 = (diag i x0 x1 x2 x3 x4 x5 a).2.2) :
    arg8.view.read (Elt F) (arg8.view.writes (Elt F) G8 (pb_k0_t1 (F := F) 𝒱 c bd i arg2 harg2 arg3 harg3 arg4 harg4 arg5 harg5 arg6 harg6 arg7 harg7 arg8 harg8 arg9 harg9 arg10 harg10 arg11 harg11 arg12 harg12 v4 v6 v70 X2 X3 X4 X5 G8 G11 G12 (k0_t1_loop i).trips).1) = (last i x0 x1 x2 x3 x4 x5 a).1
    ∧ arg11.view.read (Elt F) (arg11.view.writes (Elt F) G11 (pb_k0_t1 (F := F) 𝒱 c bd i arg2 harg2 arg3 harg3 arg4 harg4 arg5 harg5 arg6 harg6 arg7 harg7 arg8 harg8 arg9 harg9 arg10 harg10 arg11 harg11 arg12 harg12 v4 v6 v70 X2 X3 X4 X5 G8 G11 G12 (k0_t1_loop i).trips).2.1) = (last i x0 x1 x2 x3 x4 x5 a).2.1
    ∧ arg12.view.read (Elt F) (arg12.view.writes (Elt F) G12 (pb_k0_t1 (F := F) 𝒱 c bd i arg2 harg2 arg3 harg3 arg4 harg4 arg5 harg5 arg6 harg6 arg7 harg7 arg8 harg8 arg9 harg9 arg10 harg10 arg11 harg11 arg12 harg12 v4 v6 v70 X2 X3 X4 X5 G8 G11 G12 (k0_t1_loop i).trips).2.2) = (last i x0 x1 x2 x3 x4 x5 a).2.2 := by
  have R := read_pb (F := F) 𝒱 c bd i arg2 harg2 arg3 harg3 arg4 harg4 arg5 harg5 arg6 harg6 arg7 harg7 arg8 harg8 arg9 harg9 arg10 harg10 arg11 harg11 arg12 harg12 v4 v6 v70 x2 x3 x4 x5 X2 X3 X4 X5 h2 h3 h4 h5 G8 G11 G12 _ e8 e11 e12 _ le_rfl
  unfold last
  rw [← hv4, ← hv6]
  exact R

end Cert.KernelIdeal.Attn

end
-- ==== Proof.Run.lean ====
/- One grid point of the attention's backward kernel, run: what it leaves in the three result blocks, as the functions
   of Step.lean of the blocks it was given. -/
module

public import proofs.«01_k».proof.Proof.Trips
public import proofs.«01_k».proof.Proof.Gen.KernelIdeal.Points
public import Idealize.ShloMosaic.Lib.LoopRemainder

@[expose] public section

set_option maxRecDepth 16384
set_option maxHeartbeats 1000000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The point is the first of its head's: the kernel's own test. -/
abbrev first (i : grid0.Coords) : Prop := (Scalar.cmpi .ne (Scalar.extui (Scalar.cmpi .eq (BitVec.ofNat 32 (i 1).val) 0#32)) 0#32) = 1#1

theorem window_congr {α : Type} {s : Shape} (z w : s.Idx → α) (off size : Fin s.rank → ℕ) (inb : ∀ a, off a + size a ≤ s.size a) (h : z = w) :
    VecWindow.window z off size inb = VecWindow.window w off size inb := by rw [h]

/-- The three parts of `diag`, of a shared key block `kp` and accumulators known to be the ones it starts from. -/
theorem diag_dq (i : grid0.Coords) (x0 : Vec F S1024x256 .bf16) (x1 kp : Vec F S1024x128 .bf16) (x2 : Vec F S8192x256 .bf16) (x3 : Vec F S8192x128 .bf16) (x4 x5 : Vec F S1x8x1x1024 .f32)
    (a A : Vec F S8192x256 .f32) (w : Vec F S1024x256 .f32) (hk : kp = x1) (hA : A = a) (hw : w = VecWindow.window a (k0_off1 i) S1024x256.size (k0_off1_inb i)) :
    VecWindow.put A (k0_off1 i) S1024x256.size (k0_pay32 (k0_pay19 (VecWindow.window x0 ![0, 0] S1024x128.size inb_S1024x256_S1024x128_0_0) kp) (vals x0)
      (k0_pay25 (ctDiag i x3)) (k0_pay26 (VecWindow.window x0 ![0, 0] S1024x128.size inb_S1024x256_S1024x128_0_0) kp (qDiag i x2)) (k0_pay27 (lseDiag i x4)) (deltaDiag i x5) w)
      = (diag i x0 x1 x2 x3 x4 x5 a).1 := by
  subst hk hA hw; rfl

theorem diag_dk (i : grid0.Coords) (x0 : Vec F S1024x256 .bf16) (x1 kp : Vec F S1024x128 .bf16) (x2 : Vec F S8192x256 .bf16) (x3 : Vec F S8192x128 .bf16) (x4 x5 : Vec F S1x8x1x1024 .f32)
    (a : Vec F S8192x256 .f32) (w : Vec F S1024x256 .f32) (hk : kp = x1) (hw : w = k0_pay22) :
    k0_pay31 (vals x0) (k0_pay24 (qDiag i x2)) (k0_pay25 (ctDiag i x3)) (k0_pay26 (VecWindow.window x0 ![0, 0] S1024x128.size inb_S1024x256_S1024x128_0_0) kp (qDiag i x2))
      (k0_pay27 (lseDiag i x4)) (deltaDiag i x5) w = (diag i x0 x1 x2 x3 x4 x5 a).2.1 := by
  subst hk hw; rfl

theorem diag_dv (i : grid0.Coords) (x0 : Vec F S1024x256 .bf16) (x1 kp : Vec F S1024x128 .bf16) (x2 : Vec F S8192x256 .bf16) (x3 : Vec F S8192x128 .bf16) (x4 x5 : Vec F S1x8x1x1024 .f32)
    (a : Vec F S8192x256 .f32) (w : Vec F S1024x128 .f32) (hk : kp = x1) (hw : w = k0_pay23) :
    k0_pay29 (k0_pay25 (ctDiag i x3)) (k0_pay26 (VecWindow.window x0 ![0, 0] S1024x128.size inb_S1024x256_S1024x128_0_0) kp (qDiag i x2))
      (k0_pay27 (lseDiag i x4)) w = (diag i x0 x1 x2 x3 x4 x5 a).2.2 := by
  subst hk hw; rfl

theorem cov_dq (i : grid0.Coords) (m : Memref sig .tc .vmem S8192x256 .f32) :
    View.readCov (Val := Elt F) m.view [⟨Rect.unit ![0, 0] S8192x256.size inb_S8192x256_S8192x256_0_0, k0_pay21 (F := F)⟩] (Rect.unit (s := S8192x256) (k0_off1 i) S1024x256.size (k0_off1_inb i)).toLoadRect
      = VecWindow.window (k0_pay21 (F := F)) (k0_off1 i) S1024x256.size (k0_off1_inb i) := by
  unfold View.readCov
  rw [View.readAt_unit (Val := Elt F) m.view _ _ rfl (k0_off1_inb i)]
  rw [show View.read (Elt F) m.view (m.view.writes (Elt F) m.view.junk [⟨Rect.unit ![0, 0] S8192x256.size inb_S8192x256_S8192x256_0_0, k0_pay21 (F := F)⟩]) = _ from
    View.read_writes_full m.view _ _ _ _]

theorem cov_dk (m : Memref sig .tc .vmem S1024x256 .f32) :
    View.readCov (Val := Elt F) m.view [⟨Rect.unit ![0, 0] S1024x256.size inb_S1024x256_S1024x256_0_0, k0_pay22 (F := F)⟩] (Rect.unit ![0, 0] S1024x256.size inb_S1024x256_S1024x256_0_0).toLoadRect
      = k0_pay22 (F := F) := View.readCov_full m.view _ _ _ _

theorem cov_dv (m : Memref sig .tc .vmem S1024x128 .f32) :
    View.readCov (Val := Elt F) m.view [⟨Rect.unit ![0, 0] S1024x128.size inb_S1024x128_S1024x128_0_0, k0_pay23 (F := F)⟩] (Rect.unit ![0, 0] S1024x128.size inb_S1024x128_S1024x128_0_0).toLoadRect
      = k0_pay23 (F := F) := View.readCov_full m.view _ _ _ _

theorem run_point (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1x8x1x1024 .f32) (harg6 : arg6.IsWhole) (arg7 : Memref sig .tc .vmem S1x8x1x1024 .f32) (harg7 : arg7.IsWhole) (arg8 : Memref sig .tc .vmem S8192x256 .f32) (harg8 : arg8.IsWhole) (arg9 : Memref sig .tc .vmem S1024x256 .bf16) (harg9 : arg9.IsWhole) (arg10 : Memref sig .tc .vmem S1x1024x128 .f32) (harg10 : arg10.IsWhole) (arg11 : Memref sig .tc .vmem S1024x256 .f32) (harg11 : arg11.IsWhole) (arg12 : Memref sig .tc .vmem S1024x128 .f32) (harg12 : arg12.IsWhole)
    (x0 : Vec F S1024x256 .bf16) (x1 : Vec F S1024x128 .bf16) (x2 : Vec F S8192x256 .bf16) (x3 : Vec F S8192x128 .bf16) (x4 x5 : Vec F S1x8x1x1024 .f32)
    (d a : Vec F S8192x256 .f32) (ha : a = if first i then k0_pay21 (F := F) else d) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (last i x0 x1 x2 x3 x4 x5 a).1 ∗ owns (c : Thread nD τ) arg9 fullShare (outKV (last i x0 x1 x2 x3 x4 x5 a)) ∗ owns (c : Thread nD τ) arg10 fullShare (outKP (last i x0 x1 x2 x3 x4 x5 a)) ∗ (∃ d, owns (c : Thread nD τ) arg11 fullShare d) ∗ (∃ d, owns (c : Thread nD τ) arg12 fullShare d)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12) K := by
  simp only [cc0_attn_bwd_eq_skeleton]; unfold cc0_attn_bwd_skel
  simp only [k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
  subst hf0 hf1 hf2 hf3 hf4 hf5 hf6
  by_cases hc : first i
  · rw [if_pos hc] at ha
    subst ha
    sl_exec (disch := first | sl_exact hc)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; swap; · iexact H6
      ipureintro
      rw [View.writes_append]
      refine (read_last (F := F) Variants.none c none i arg2 harg2 arg3 harg3 arg4 harg4 arg5 harg5 arg6 harg6 arg7 harg7 arg8 harg8 arg9 harg9 arg10 harg10 arg11 harg11 arg12 harg12 _ _ _ (arg2.view.read (Elt F) f0) (arg3.view.read (Elt F) f1) (arg4.view.read (Elt F) f2) (arg5.view.read (Elt F) f3) (arg6.view.read (Elt F) f4) (arg7.view.read (Elt F) f5) (k0_pay21 (F := F)) f2 f3 f4 f5 rfl rfl rfl rfl _ _ _ ?_ ?_ ?_ ?_ ?_).1
      · exact congrArg (k0_pay19 (F := F) _) (View.readAt_full arg3.view _ _)
      · rfl
      · exact (View.read_writes_cons_put arg8.view _ _ _ _ rfl).trans (diag_dq i (arg2.view.read (Elt F) f0) (arg3.view.read (Elt F) f1) _ (arg4.view.read (Elt F) f2) (arg5.view.read (Elt F) f3) (arg6.view.read (Elt F) f4) (arg7.view.read (Elt F) f5) (k0_pay21 (F := F)) _ _ (View.readAt_full arg3.view _ _) (View.read_writes_full arg8.view _ _ _ _) (cov_dq i arg8))
      · exact (View.read_writes_full arg11.view _ _ _ _).trans (diag_dk i (arg2.view.read (Elt F) f0) (arg3.view.read (Elt F) f1) _ (arg4.view.read (Elt F) f2) (arg5.view.read (Elt F) f3) (arg6.view.read (Elt F) f4) (arg7.view.read (Elt F) f5) (k0_pay21 (F := F)) _ (View.readAt_full arg3.view _ _) (cov_dk arg11))
      · exact (View.read_writes_full arg12.view _ _ _ _).trans (diag_dv i (arg2.view.read (Elt F) f0) (arg3.view.read (Elt F) f1) _ (arg4.view.read (Elt F) f2) (arg5.view.read (Elt F) f3) (arg6.view.read (Elt F) f4) (arg7.view.read (Elt F) f5) (k0_pay21 (F := F)) _ (View.readAt_full arg3.view _ _) (cov_dv arg12))
    isplitl [H7]
    · iexists _; isplitr; swap; · iexact H7
      ipureintro
      refine (View.read_writes_full arg9.view _ _ _ _).trans ?_
      refine congrArg₂ (k0_pay5 (F := F)) ((View.readAt_unit arg11.view (arg11.view.writes (Elt F) _ (_ ++ _)) _ rfl inb_S1024x256_S1024x128_0_0).trans (window_congr _ _ _ _ _ ?_)) ((View.readAt_full arg12.view (arg12.view.writes (Elt F) _ (_ ++ _)) _).trans ?_)
      · rw [View.writes_append]
        refine (read_last (F := F) Variants.none c none i arg2 harg2 arg3 harg3 arg4 harg4 arg5 harg5 arg6 harg6 arg7 harg7 arg8 harg8 arg9 harg9 arg10 harg10 arg11 harg11 arg12 harg12 _ _ _ (arg2.view.read (Elt F) f0) (arg3.view.read (Elt F) f1) (arg4.view.read (Elt F) f2) (arg5.view.read (Elt F) f3) (arg6.view.read (Elt F) f4) (arg7.view.read (Elt F) f5) (k0_pay21 (F := F)) f2 f3 f4 f5 rfl rfl rfl rfl _ _ _ ?_ ?_ ?_ ?_ ?_).2.1
        · exact congrArg (k0_pay19 (F := F) _) (View.readAt_full arg3.view _ _)
        · rfl
        · exact (View.read_writes_cons_put arg8.view _ _ _ _ rfl).trans (diag_dq i (arg2.view.read (Elt F) f0) (arg3.view.read (Elt F) f1) _ (arg4.view.read (Elt F) f2) (arg5.view.read (Elt F) f3) (arg6.view.read (Elt F) f4) (arg7.view.read (Elt F) f5) (k0_pay21 (F := F)) _ _ (View.readAt_full arg3.view _ _) (View.read_writes_full arg8.view _ _ _ _) (cov_dq i arg8))
        · exact (View.read_writes_full arg11.view _ _ _ _).trans (diag_dk i (arg2.view.read (Elt F) f0) (arg3.view.read (Elt F) f1) _ (arg4.view.read (Elt F) f2) (arg5.view.read (Elt F) f3) (arg6.view.read (Elt F) f4) (arg7.view.read (Elt F) f5) (k0_pay21 (F := F)) _ (View.readAt_full arg3.view _ _) (cov_dk arg11))
        · exact (View.read_writes_full arg12.view _ _ _ _).trans (diag_dv i (arg2.view.read (Elt F) f0) (arg3.view.read (Elt F) f1) _ (arg4.view.read (Elt F) f2) (arg5.view.read (Elt F) f3) (arg6.view.read (Elt F) f4) (arg7.view.read (Elt F) f5) (k0_pay21 (F := F)) _ (View.readAt_full arg3.view _ _) (cov_dv arg12))
      · rw [View.writes_append]
        refine (read_last (F := F) Variants.none c none i arg2 harg2 arg3 harg3 arg4 harg4 arg5 harg5 arg6 harg6 arg7 harg7 arg8 harg8 arg9 harg9 arg10 harg10 arg11 harg11 arg12 harg12 _ _ _ (arg2.view.read (Elt F) f0) (arg3.view.read (Elt F) f1) (arg4.view.read (Elt F) f2) (arg5.view.read (Elt F) f3) (arg6.view.read (Elt F) f4) (arg7.view.read (Elt F) f5) (k0_pay21 (F := F)) f2 f3 f4 f5 rfl rfl rfl rfl _ _ _ ?_ ?_ ?_ ?_ ?_).2.2
        · exact congrArg (k0_pay19 (F := F) _) (View.readAt_full arg3.view _ _)
        · rfl
        · exact (View.read_writes_cons_put arg8.view _ _ _ _ rfl).trans (diag_dq i (arg2.view.read (Elt F) f0) (arg3.view.read (Elt F) f1) _ (arg4.view.read (Elt F) f2) (arg5.view.read (Elt F) f3) (arg6.view.read (Elt F) f4) (arg7.view.read (Elt F) f5) (k0_pay21 (F := F)) _ _ (View.readAt_full arg3.view _ _) (View.read_writes_full arg8.view _ _ _ _) (cov_dq i arg8))
        · exact (View.read_writes_full arg11.view _ _ _ _).trans (diag_dk i (arg2.view.read (Elt F) f0) (arg3.view.read (Elt F) f1) _ (arg4.view.read (Elt F) f2) (arg5.view.read (Elt F) f3) (arg6.view.read (Elt F) f4) (arg7.view.read (Elt F) f5) (k0_pay21 (F := F)) _ (View.readAt_full arg3.view _ _) (cov_dk arg11))
        · exact (View.read_writes_full arg12.view _ _ _ _).trans (diag_dv i (arg2.view.read (Elt F) f0) (arg3.view.read (Elt F) f1) _ (arg4.view.read (Elt F) f2) (arg5.view.read (Elt F) f3) (arg6.view.read (Elt F) f4) (arg7.view.read (Elt F) f5) (k0_pay21 (F := F)) _ (View.readAt_full arg3.view _ _) (cov_dv arg12))
    isplitl [H8]
    · iexists _; isplitr; swap; · iexact H8
      ipureintro
      refine (View.read_writes_full arg10.view _ _ _ _).trans ?_
      refine congrArg (k0_pay6 (F := F)) ((View.readAt_unit arg11.view (arg11.view.writes (Elt F) _ (_ ++ _)) _ rfl inb_S1024x256_S1024x128_0_128).trans (window_congr _ _ _ _ _ ?_))
      rw [View.writes_append]
      refine (read_last (F := F) Variants.none c none i arg2 harg2 arg3 harg3 arg4 harg4 arg5 harg5 arg6 harg6 arg7 harg7 arg8 harg8 arg9 harg9 arg10 harg10 arg11 harg11 arg12 harg12 _ _ _ (arg2.view.read (Elt F) f0) (arg3.view.read (Elt F) f1) (arg4.view.read (Elt F) f2) (arg5.view.read (Elt F) f3) (arg6.view.read (Elt F) f4) (arg7.view.read (Elt F) f5) (k0_pay21 (F := F)) f2 f3 f4 f5 rfl rfl rfl rfl _ _ _ ?_ ?_ ?_ ?_ ?_).2.1
      · exact congrArg (k0_pay19 (F := F) _) (View.readAt_full arg3.view _ _)
      · rfl
      · exact (View.read_writes_cons_put arg8.view _ _ _ _ rfl).trans (diag_dq i (arg2.view.read (Elt F) f0) (arg3.view.read (Elt F) f1) _ (arg4.view.read (Elt F) f2) (arg5.view.read (Elt F) f3) (arg6.view.read (Elt F) f4) (arg7.view.read (Elt F) f5) (k0_pay21 (F := F)) _ _ (View.readAt_full arg3.view _ _) (View.read_writes_full arg8.view _ _ _ _) (cov_dq i arg8))
      · exact (View.read_writes_full arg11.view _ _ _ _).trans (diag_dk i (arg2.view.read (Elt F) f0) (arg3.view.read (Elt F) f1) _ (arg4.view.read (Elt F) f2) (arg5.view.read (Elt F) f3) (arg6.view.read (Elt F) f4) (arg7.view.read (Elt F) f5) (k0_pay21 (F := F)) _ (View.readAt_full arg3.view _ _) (cov_dk arg11))
      · exact (View.read_writes_full arg12.view _ _ _ _).trans (diag_dv i (arg2.view.read (Elt F) f0) (arg3.view.read (Elt F) f1) _ (arg4.view.read (Elt F) f2) (arg5.view.read (Elt F) f3) (arg6.view.read (Elt F) f4) (arg7.view.read (Elt F) f5) (k0_pay21 (F := F)) _ (View.readAt_full arg3.view _ _) (cov_dv arg12))
    isplitl [HS0]
    · iexists _, _; isplitr; swap; · iexact HS0
      ipureintro; rfl
    iexists _, _; isplitr; swap; · iexact HS1
    ipureintro; rfl
  · rw [if_neg hc] at ha
    subst ha
    sl_exec (disch := first | sl_exact hc)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; swap; · iexact H6
      ipureintro
      rw [View.writes_append]
      refine (read_last (F := F) Variants.none c none i arg2 harg2 arg3 harg3 arg4 harg4 arg5 harg5 arg6 harg6 arg7 harg7 arg8 harg8 arg9 harg9 arg10 harg10 arg11 harg11 arg12 harg12 _ _ _ (arg2.view.read (Elt F) f0) (arg3.view.read (Elt F) f1) (arg4.view.read (Elt F) f2) (arg5.view.read (Elt F) f3) (arg6.view.read (Elt F) f4) (arg7.view.read (Elt F) f5) (arg8.view.read (Elt F) f6) f2 f3 f4 f5 rfl rfl rfl rfl _ _ _ ?_ ?_ ?_ ?_ ?_).1
      · exact congrArg (k0_pay19 (F := F) _) (View.readAt_full arg3.view _ _)
      · rfl
      · exact (View.read_writes_cons_put arg8.view _ _ _ _ rfl).trans (diag_dq i (arg2.view.read (Elt F) f0) (arg3.view.read (Elt F) f1) _ (arg4.view.read (Elt F) f2) (arg5.view.read (Elt F) f3) (arg6.view.read (Elt F) f4) (arg7.view.read (Elt F) f5) (arg8.view.read (Elt F) f6) _ _ (View.readAt_full arg3.view _ _) rfl rfl)
      · exact (View.read_writes_full arg11.view _ _ _ _).trans (diag_dk i (arg2.view.read (Elt F) f0) (arg3.view.read (Elt F) f1) _ (arg4.view.read (Elt F) f2) (arg5.view.read (Elt F) f3) (arg6.view.read (Elt F) f4) (arg7.view.read (Elt F) f5) (arg8.view.read (Elt F) f6) _ (View.readAt_full arg3.view _ _) (cov_dk arg11))
      · exact (View.read_writes_full arg12.view _ _ _ _).trans (diag_dv i (arg2.view.read (Elt F) f0) (arg3.view.read (Elt F) f1) _ (arg4.view.read (Elt F) f2) (arg5.view.read (Elt F) f3) (arg6.view.read (Elt F) f4) (arg7.view.read (Elt F) f5) (arg8.view.read (Elt F) f6) _ (View.readAt_full arg3.view _ _) (cov_dv arg12))
    isplitl [H7]
    · iexists _; isplitr; swap; · iexact H7
      ipureintro
      refine (View.read_writes_full arg9.view _ _ _ _).trans ?_
      refine congrArg₂ (k0_pay5 (F := F)) ((View.readAt_unit arg11.view (arg11.view.writes (Elt F) _ (_ ++ _)) _ rfl inb_S1024x256_S1024x128_0_0).trans (window_congr _ _ _ _ _ ?_)) ((View.readAt_full arg12.view (arg12.view.writes (Elt F) _ (_ ++ _)) _).trans ?_)
      · rw [View.writes_append]
        refine (read_last (F := F) Variants.none c none i arg2 harg2 arg3 harg3 arg4 harg4 arg5 harg5 arg6 harg6 arg7 harg7 arg8 harg8 arg9 harg9 arg10 harg10 arg11 harg11 arg12 harg12 _ _ _ (arg2.view.read (Elt F) f0) (arg3.view.read (Elt F) f1) (arg4.view.read (Elt F) f2) (arg5.view.read (Elt F) f3) (arg6.view.read (Elt F) f4) (arg7.view.read (Elt F) f5) (arg8.view.read (Elt F) f6) f2 f3 f4 f5 rfl rfl rfl rfl _ _ _ ?_ ?_ ?_ ?_ ?_).2.1
        · exact congrArg (k0_pay19 (F := F) _) (View.readAt_full arg3.view _ _)
        · rfl
        · exact (View.read_writes_cons_put arg8.view _ _ _ _ rfl).trans (diag_dq i (arg2.view.read (Elt F) f0) (arg3.view.read (Elt F) f1) _ (arg4.view.read (Elt F) f2) (arg5.view.read (Elt F) f3) (arg6.view.read (Elt F) f4) (arg7.view.read (Elt F) f5) (arg8.view.read (Elt F) f6) _ _ (View.readAt_full arg3.view _ _) rfl rfl)
        · exact (View.read_writes_full arg11.view _ _ _ _).trans (diag_dk i (arg2.view.read (Elt F) f0) (arg3.view.read (Elt F) f1) _ (arg4.view.read (Elt F) f2) (arg5.view.read (Elt F) f3) (arg6.view.read (Elt F) f4) (arg7.view.read (Elt F) f5) (arg8.view.read (Elt F) f6) _ (View.readAt_full arg3.view _ _) (cov_dk arg11))
        · exact (View.read_writes_full arg12.view _ _ _ _).trans (diag_dv i (arg2.view.read (Elt F) f0) (arg3.view.read (Elt F) f1) _ (arg4.view.read (Elt F) f2) (arg5.view.read (Elt F) f3) (arg6.view.read (Elt F) f4) (arg7.view.read (Elt F) f5) (arg8.view.read (Elt F) f6) _ (View.readAt_full arg3.view _ _) (cov_dv arg12))
      · rw [View.writes_append]
        refine (read_last (F := F) Variants.none c none i arg2 harg2 arg3 harg3 arg4 harg4 arg5 harg5 arg6 harg6 arg7 harg7 arg8 harg8 arg9 harg9 arg10 harg10 arg11 harg11 arg12 harg12 _ _ _ (arg2.view.read (Elt F) f0) (arg3.view.read (Elt F) f1) (arg4.view.read (Elt F) f2) (arg5.view.read (Elt F) f3) (arg6.view.read (Elt F) f4) (arg7.view.read (Elt F) f5) (arg8.view.read (Elt F) f6) f2 f3 f4 f5 rfl rfl rfl rfl _ _ _ ?_ ?_ ?_ ?_ ?_).2.2
        · exact congrArg (k0_pay19 (F := F) _) (View.readAt_full arg3.view _ _)
        · rfl
        · exact (View.read_writes_cons_put arg8.view _ _ _ _ rfl).trans (diag_dq i (arg2.view.read (Elt F) f0) (arg3.view.read (Elt F) f1) _ (arg4.view.read (Elt F) f2) (arg5.view.read (Elt F) f3) (arg6.view.read (Elt F) f4) (arg7.view.read (Elt F) f5) (arg8.view.read (Elt F) f6) _ _ (View.readAt_full arg3.view _ _) rfl rfl)
        · exact (View.read_writes_full arg11.view _ _ _ _).trans (diag_dk i (arg2.view.read (Elt F) f0) (arg3.view.read (Elt F) f1) _ (arg4.view.read (Elt F) f2) (arg5.view.read (Elt F) f3) (arg6.view.read (Elt F) f4) (arg7.view.read (Elt F) f5) (arg8.view.read (Elt F) f6) _ (View.readAt_full arg3.view _ _) (cov_dk arg11))
        · exact (View.read_writes_full arg12.view _ _ _ _).trans (diag_dv i (arg2.view.read (Elt F) f0) (arg3.view.read (Elt F) f1) _ (arg4.view.read (Elt F) f2) (arg5.view.read (Elt F) f3) (arg6.view.read (Elt F) f4) (arg7.view.read (Elt F) f5) (arg8.view.read (Elt F) f6) _ (View.readAt_full arg3.view _ _) (cov_dv arg12))
    isplitl [H8]
    · iexists _; isplitr; swap; · iexact H8
      ipureintro
      refine (View.read_writes_full arg10.view _ _ _ _).trans ?_
      refine congrArg (k0_pay6 (F := F)) ((View.readAt_unit arg11.view (arg11.view.writes (Elt F) _ (_ ++ _)) _ rfl inb_S1024x256_S1024x128_0_128).trans (window_congr _ _ _ _ _ ?_))
      rw [View.writes_append]
      refine (read_last (F := F) Variants.none c none i arg2 harg2 arg3 harg3 arg4 harg4 arg5 harg5 arg6 harg6 arg7 harg7 arg8 harg8 arg9 harg9 arg10 harg10 arg11 harg11 arg12 harg12 _ _ _ (arg2.view.read (Elt F) f0) (arg3.view.read (Elt F) f1) (arg4.view.read (Elt F) f2) (arg5.view.read (Elt F) f3) (arg6.view.read (Elt F) f4) (arg7.view.read (Elt F) f5) (arg8.view.read (Elt F) f6) f2 f3 f4 f5 rfl rfl rfl rfl _ _ _ ?_ ?_ ?_ ?_ ?_).2.1
      · exact congrArg (k0_pay19 (F := F) _) (View.readAt_full arg3.view _ _)
      · rfl
      · exact (View.read_writes_cons_put arg8.view _ _ _ _ rfl).trans (diag_dq i (arg2.view.read (Elt F) f0) (arg3.view.read (Elt F) f1) _ (arg4.view.read (Elt F) f2) (arg5.view.read (Elt F) f3) (arg6.view.read (Elt F) f4) (arg7.view.read (Elt F) f5) (arg8.view.read (Elt F) f6) _ _ (View.readAt_full arg3.view _ _) rfl rfl)
      · exact (View.read_writes_full arg11.view _ _ _ _).trans (diag_dk i (arg2.view.read (Elt F) f0) (arg3.view.read (Elt F) f1) _ (arg4.view.read (Elt F) f2) (arg5.view.read (Elt F) f3) (arg6.view.read (Elt F) f4) (arg7.view.read (Elt F) f5) (arg8.view.read (Elt F) f6) _ (View.readAt_full arg3.view _ _) (cov_dk arg11))
      · exact (View.read_writes_full arg12.view _ _ _ _).trans (diag_dv i (arg2.view.read (Elt F) f0) (arg3.view.read (Elt F) f1) _ (arg4.view.read (Elt F) f2) (arg5.view.read (Elt F) f3) (arg6.view.read (Elt F) f4) (arg7.view.read (Elt F) f5) (arg8.view.read (Elt F) f6) _ (View.readAt_full arg3.view _ _) (cov_dv arg12))
    isplitl [HS0]
    · iexists _, _; isplitr; swap; · iexact HS0
      ipureintro; rfl
    iexists _, _; isplitr; swap; · iexact HS1
    ipureintro; rfl

end Cert.KernelIdeal.Attn

end
-- ==== Proof.Launch.lean ====
/- The launch of the attention's backward kernel: what the result arrays' blocks hold after every grid point, and the
   run of the whole program to them. -/
module

public import proofs.«01_k».proof.Proof.Run
public import proofs.«01_k».proof.Proof.Gen.KernelIdeal.Frame
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of each head is every eighth. -/
theorem first_iff (t : Fin cfg0.N) : first (grid0.coords t) ↔ t.val % 8 = 0 := by
  have ht : t.val < 128 := Nat.lt_of_lt_of_eq t.isLt N_0
  have e1 : (grid0.coords t 1).val = t.val / 1 % 8 := Pipeline.Grid.coords_val t 1 (by decide) rfl
  simp only [first, e1]
  word_cmp

/-- The six input blocks of a point. -/
def blk0 (c : Dev nD) (t : Fin cfg0.N) : Vec F S1024x256 .bf16 := iblk m c 0 t
def blk1 (c : Dev nD) (t : Fin cfg0.N) : Vec F S1024x128 .bf16 := iblk m c 1 t
def blk2 (c : Dev nD) (t : Fin cfg0.N) : Vec F S8192x256 .bf16 := iblk m c 2 t
def blk3 (c : Dev nD) (t : Fin cfg0.N) : Vec F S8192x128 .bf16 := iblk m c 3 t
def blk4 (c : Dev nD) (t : Fin cfg0.N) : Vec F S1x8x1x1024 .f32 := iblk m c 4 t
def blk5 (c : Dev nD) (t : Fin cfg0.N) : Vec F S1x8x1x1024 .f32 := iblk m c 5 t

/-- The accumulators at the end of point `t`, from the queries' gradient `a`. -/
def pt (c : Dev nD) (t : Fin cfg0.N) (a : Vec F S8192x256 .f32) : St F :=
  last (grid0.coords t) (blk0 m c t) (blk1 m c t) (blk2 m c t) (blk3 m c t) (blk4 m c t) (blk5 m c t) a

/-- The queries' gradient a point starts from: zero at a head's first point, what the point before left otherwise. -/
def dqIn (c : Dev nD) : ℕ → Vec F S8192x256 .f32
  | 0 => k0_pay21
  | n + 1 => if (n + 1) % 8 = 0 then k0_pay21 else if h : n < cfg0.N then (pt m c ⟨n, h⟩ (dqIn c n)).1 else k0_pay21

theorem dqIn_reset (c : Dev nD) (n : ℕ) (h : n % 8 = 0) : dqIn m c n = k0_pay21 := by
  cases n with
  | zero => rfl
  | succ n => simp only [dqIn]; rw [if_pos h]

theorem dqIn_step (c : Dev nD) (n : ℕ) (h : (n + 1) % 8 ≠ 0) (hn : n < cfg0.N) : dqIn m c (n + 1) = (pt m c ⟨n, hn⟩ (dqIn m c n)).1 := by
  simp only [dqIn]; rw [if_neg h, dif_pos hn]

/-- The accumulators at the end of point `t`. -/
def stAt (c : Dev nD) (t : Fin cfg0.N) : St F := pt m c t (dqIn m c t.val)

/-- The proof data: the arrays as the region finds them, and what every point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (stAt m c t).1
    | ⟨7, _⟩ => outKV (stAt m c t)
    | ⟨8, _⟩ => outKP (stAt m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (stAt m c t).1 := by dsimp only [dats]
theorem after_7 (c : Dev nD) (t : Fin cfg0.N) : (dats m 0 c).after 7 t = outKV (stAt m c t) := by dsimp only [dats]
theorem after_8 (c : Dev nD) (t : Fin cfg0.N) : (dats m 0 c).after 8 t = outKP (stAt m c t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- The queries' gradient's staging buffer, before a point that is not its head's first, holds what the point before left. -/
theorem before_6 (c : Dev nD) (t : Fin cfg0.N) (d) (h : t.val % 8 ≠ 0) : (dats m 0 c).before 6 t d = dqIn m c t.val := by
  obtain ⟨n, hn⟩ := t
  cases n with
  | zero => exact absurd rfl h
  | succ n =>
    rw [(dats m 0 c).before_out_kept 6 rfl ⟨n + 1, hn⟩ (Nat.succ_ne_zero n)
      (by rw [← Bool.not_eq_true, flush0_6]; intro e; apply h; simp only [Nat.add_sub_cancel] at e; show (n + 1) % 8 = 0; omega)
      (fun _ => rfl) (fun _ _ => rfl) d, after_6]
    exact (dqIn_step m c n h _).symm

/-- What the body starts from, as its run takes it. -/
theorem dqIn_eq (c : Dev nD) (t : Fin cfg0.N) (d) :
    dqIn m c t.val = if first (grid0.coords t) then k0_pay21 (F := F) else (dats m 0 c).before 6 t d := by
  by_cases h : t.val % 8 = 0
  · rw [if_pos ((first_iff t).mpr h)]; exact dqIn_reset m c _ h
  · rw [if_neg (fun e => h ((first_iff t).mp e))]; exact (before_6 m c t d h).symm

/-- The pipeline's own invariant: the scratch buffers at some contents and the generator register. -/
theorem inv_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1600000 in
/-- The body at any point: the run of one point at the point's blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  rw [show (dats m 0 c).Φ t.castSucc = Pipeline.ΦA spec0 c from rfl, inv_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_point c (grid0.coords t) _ _ _ _ _ _ _ _ _ _ _ _ _ _ _ _ _ _ _ _ _ _ (blk0 m c t) (blk1 m c t) (blk2 m c t) (blk3 m c t) (blk4 m c t) (blk5 m c t)
    ((dats m 0 c).before 6 t d6) (dqIn m c t.val) (dqIn_eq m c t d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- The run of the whole program: every array ends at what its points' blocks make of it, and no semaphore is left raised. -/
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.KernelIdeal.Attn

end
-- ==== Proof.Host.lean ====
/- The arrays the kernel's launch finds, from the program's arguments. -/
module

public import proofs.«01_k».proof.Proof.Ops
public import proofs.«01_k».proof.Proof.Launch
public import Idealize.ShloMosaic.Lib.Claim

@[expose] public section

noncomputable section

namespace Cert.KernelIdeal.Attn

open Idealize.ShloMosaic Idealize.SL Idealize.SL.Sem Gen
open Cert.ReferenceIdeal.Attn (kArr vArr sArr mArr mArr' uArr lArr pArr colArr)

variable {F : FTy → Type} [FloatOps F]

/-- The padded queries. -/
def qArr (a0 : FVec F S8192x16x192 .f32) : FVec F S8192x4096 .bf16 :=
  truncf .bf16 (shapeCast S8192x4096 (pad S8192x16x256 ![0, 0, 0] ![0, 0, 64] ![0, 0, 0] a0 (sitofp .f32 (constantI S_ 32 0#32))
    pads_S8192x16x192_S8192x16x256_000_000_0640 h_S_) shapeCasts_S8192x16x256_S8192x4096) bitsLt_bf16_f32

/-- The keys and values, a head's next to each other. -/
def kvArr (a1 : FVec F S8192x16x256 .f32) : FVec F S8192x4096 .bf16 :=
  truncf .bf16 (shapeCast S8192x4096 a1 shapeCasts_S8192x16x256_S8192x4096) bitsLt_bf16_f32

/-- The padded shared key columns. -/
def kpArr (a2 : FVec F S8192x64 .f32) : FVec F S8192x128 .bf16 :=
  truncf .bf16 (pad S8192x128 ![0, 0] ![0, 64] ![0, 0] a2 (sitofp .f32 (constantI S_ 32 0#32)) pads_S8192x64_S8192x128_000_0640 h_S_) bitsLt_bf16_f32

/-- The incoming gradient. -/
def doArr (a3 : FVec F S8192x2048 .f32) : FVec F S8192x2048 .bf16 := truncf .bf16 a3 bitsLt_bf16_f32

/-- The rows' log-sums, from the scores. -/
def lseArr (s : FVec F S16x8192x8192 .f32) : FVec F S16x8x1x1024 .f32 :=
  shapeCast S16x8x1x1024 (shapeCast S16x8192 (addf (colArr (mArr s)) (Host.log (colArr (lArr (uArr s (mArr s)))))) shapeCasts_S16x8192x1_S16x8192)
    shapeCasts_S16x8192_S16x8x1x1024

/-- The output, from the values and the probabilities. -/
def oArr (v : FVec F S8192x16x128 .f32) (p : FVec F S16x8192x8192 .f32) : FVec F S8192x2048 .f32 :=
  shapeCast S8192x2048 (transpose S8192x16x128 [2, 0, 1] (Host.dotGeneral dot_S8192x16x128_S16x8192x8192_S16x128x8192_0_2_2_1_1_0 none v p)
    transposes_S16x128x8192_S8192x16x128_2_0_1) shapeCasts_S8192x16x128_S8192x2048

/-- The rows' sums of output times incoming gradient. -/
def deltaArr (o a3 : FVec F S8192x2048 .f32) : FVec F S16x8x1x1024 .f32 :=
  shapeCast S16x8x1x1024 (transpose S16x8192 [1, 0] (Host.reduceAdd (shapeCast S8192x16x128 (mulf o a3) shapeCasts_S8192x2048_S8192x16x128)
    (constant S_ .f32 0x00000000#32) reducesTo_S8192x16x128_S8192x16_d2 h_S_) transposes_S8192x16_S16x8192_1_0) shapeCasts_S16x8192_S16x8x1x1024

variable (m : (ℓ : Loc nD τ sig) → Buf (Elt F) ℓ) (c : Dev nD)

def arg0 : FVec F S8192x16x192 .f32 := m ((c.tc : Thread nD τ).loc main_arg0)
def arg1 : FVec F S8192x16x256 .f32 := m ((c.tc : Thread nD τ).loc main_arg1)
def arg2 : FVec F S8192x64 .f32 := m ((c.tc : Thread nD τ).loc main_arg2)
def arg3 : FVec F S8192x2048 .f32 := m ((c.tc : Thread nD τ).loc main_arg3)

/-- The scores. -/
def scores : FVec F S16x8192x8192 .f32 := sArr (arg0 m c) (kArr (arg1 m c) (arg2 m c))

theorem V_q : V m c main_v62 = qArr (arg0 m c) := by
  show StableHlo.after _ _ _ = _
  simp only [hostOps0, hostOps0_1, hostOps0_2, hostOps0_3, hostOps0_4, hostOps0_5, hostOps0_6, hostOps0_7, hostOps0_8, List.flatten_cons, List.flatten_nil, List.append_nil, List.cons_append, List.nil_append]
  entry_read
  rfl

theorem V_kv : V m c main_v64 = kvArr (arg1 m c) := by
  show StableHlo.after _ _ _ = _
  simp only [hostOps0, hostOps0_1, hostOps0_2, hostOps0_3, hostOps0_4, hostOps0_5, hostOps0_6, hostOps0_7, hostOps0_8, List.flatten_cons, List.flatten_nil, List.append_nil, List.cons_append, List.nil_append]
  entry_read
  rfl

theorem V_kp : V m c main_v65 = kpArr (arg2 m c) := by
  show StableHlo.after _ _ _ = _
  simp only [hostOps0, hostOps0_1, hostOps0_2, hostOps0_3, hostOps0_4, hostOps0_5, hostOps0_6, hostOps0_7, hostOps0_8, List.flatten_cons, List.flatten_nil, List.append_nil, List.cons_append, List.nil_append]
  entry_read
  rfl

theorem V_do : V m c main_v66 = doArr (arg3 m c) := by
  show StableHlo.after _ _ _ = _
  simp only [hostOps0, hostOps0_1, hostOps0_2, hostOps0_3, hostOps0_4, hostOps0_5, hostOps0_6, hostOps0_7, hostOps0_8, List.flatten_cons, List.flatten_nil, List.append_nil, List.cons_append, List.nil_append]
  entry_read
  rfl

theorem V_lse : V m c main_v53 = lseArr (scores m c) := by
  show StableHlo.after _ _ _ = _
  simp only [hostOps0, hostOps0_1, hostOps0_2, hostOps0_3, hostOps0_4, hostOps0_5, hostOps0_6, hostOps0_7, hostOps0_8, List.flatten_cons, List.flatten_nil, List.append_nil, List.cons_append, List.nil_append]
  entry_read
  rfl

theorem V_delta : V m c main_v58 = deltaArr (oArr (vArr (arg1 m c)) (pArr (uArr (scores m c) (mArr' (scores m c))))) (arg3 m c) := by
  show StableHlo.after _ _ _ = _
  simp only [hostOps0, hostOps0_1, hostOps0_2, hostOps0_3, hostOps0_4, hostOps0_5, hostOps0_6, hostOps0_7, hostOps0_8, List.flatten_cons, List.flatten_nil, List.append_nil, List.cons_append, List.nil_append]
  entry_read
  rfl

end Cert.KernelIdeal.Attn

end
-- ==== Proof.HostReads.lean ====
/- The kernel's operands at an index, over the reals. -/
module

public import proofs.«01_k».proof.Proof.Reads
public import proofs.«01_k».proof.Proof.Host

@[expose] public section

noncomputable section

namespace Cert.KernelIdeal.Attn

open Idealize.ShloMosaic Idealize.SL Idealize.SL.Sem Gen
open Cert.Attn
open Cert.ReferenceIdeal.Attn (HoldsArgs kArr vArr sArr mArr mArr' uArr lArr pArr colArr mArr_holds mArr'_holds uArr_holds pArr_holds lArr_holds vArr_holds)
open scoped BigOperators

variable {A : Args} {a0 : FVec Ideal S8192x16x192 .f32} {a1 : FVec Ideal S8192x16x256 .f32} {a2 : FVec Ideal S8192x64 .f32}
  {a3 : FVec Ideal S8192x2048 .f32} (H : HoldsArgs A a0 a1 a2 a3)
include H

theorem qArr_holds (n : Fin 8192) (h : Fin 16) (j : Fin 256) : qArr a0 (ix2 n ⟨h.val * 256 + j.val, by omega⟩) = (A.qP h n j : EReal) := by
  pointwise [qArr]
  unfold Args.qP
  split
  · exact H.q _ _ _
  · exact sitofp_zero32

theorem kvArr_holds (n : Fin 8192) (h : Fin 16) (j : Fin 256) : kvArr a1 (ix2 n ⟨h.val * 256 + j.val, by omega⟩) = (A.kv n h j : EReal) := by
  pointwise [kvArr]
  exact H.kv _ _ _

theorem kpArr_holds (n : Fin 8192) (j : Fin 128) : kpArr a2 (ix2 n j) = ((if j.val < 64 then A.kp n j else 0 : ℝ) : EReal) := by
  pointwise [kpArr]
  split
  · exact H.kp _ _
  · exact sitofp_zero32

theorem doArr_holds (n : Fin 8192) (e : Fin 2048) : doArr a3 (ix2 n e) = (A.ct n e : EReal) := by
  pointwise [doArr]
  exact H.ct _ _

omit H in
/-- A row's largest score and the logarithm of its sum, added and laid out in blocks of `1024`. -/
theorem lse_read (x l : FVec Ideal S16x8192 .f32) (h : Fin 16) (b : Fin 8) (n : Fin 1024) :
    shapeCast S16x8x1x1024 (shapeCast S16x8192 (addf (colArr x) (Host.log (colArr l))) shapeCasts_S16x8192x1_S16x8192) shapeCasts_S16x8192_S16x8x1x1024 (ix4 h b 0 n)
      = x (ix2 h ⟨b.val * 1024 + n.val, by omega⟩) + Ideal.log (l (ix2 h ⟨b.val * 1024 + n.val, by omega⟩)) := by
  pointwise [colArr]

/-- The rows' log-sums. -/
theorem lseArr_holds (h : Fin 16) (b : Fin 8) (n : Fin 1024) :
    lseArr (sArr a0 (kArr a1 a2)) (ix4 h b 0 n) = (Real.log (A.tot h (1024 * b.val + n.val)) : EReal) := by
  have hn : b.val * 1024 + n.val < 8192 := by omega
  obtain ⟨M, hM⟩ := mArr_holds H h ⟨b.val * 1024 + n.val, hn⟩
  have hu := uArr_holds H hM
  have e : lseArr (sArr a0 (kArr a1 a2)) (ix4 h b 0 n) = mArr (sArr a0 (kArr a1 a2)) (ix2 h ⟨b.val * 1024 + n.val, hn⟩)
      + Ideal.log (lArr (uArr (sArr a0 (kArr a1 a2)) (mArr (sArr a0 (kArr a1 a2)))) (ix2 h ⟨b.val * 1024 + n.val, hn⟩)) :=
    lse_read _ _ h b n
  rw [e, hM, lArr_holds hu]
  change _ + Ideal.log (A.totM M h (b.val * 1024 + n.val) : EReal) = _
  rw [log_coe _ (A.totM_pos M _ _), ← EReal.coe_add, A.lse_shift, Nat.mul_comm]

theorem oArr_holds {p : FVec Ideal S16x8192x8192 .f32} (hp : ∀ h n k, p (ix3 h n k) = (A.pr h.val n.val k.val : EReal)) (n : Fin 8192) (h : Fin 16) (d : Fin 128) :
    oArr (vArr a1) p (ix2 n ⟨h.val * 128 + d.val, by omega⟩) = (A.out n h d : EReal) := by
  generalize hv : vArr a1 = v
  have hv' : ∀ k h d, v (ix3 k h d) = (A.kv k.val h.val (128 + d.val) : EReal) := by rw [← hv]; exact vArr_holds H
  pointwise [oArr]
  exact sum_coe (fun k => A.kv k h (128 + d) * A.pr h n k) _ fun k => by rw [hv', hp, EReal.coe_mul]

theorem deltaArr_holds {o : FVec Ideal S8192x2048 .f32} (ho : ∀ (n : Fin 8192) (h : Fin 16) (d : Fin 128), o (ix2 n ⟨h.val * 128 + d.val, by omega⟩) = (A.out n h d : EReal))
    (h : Fin 16) (b : Fin 8) (n : Fin 1024) : deltaArr o a3 (ix4 h b 0 n) = (A.del h (1024 * b.val + n.val) : EReal) := by
  have hn : b.val * 1024 + n.val < 8192 := by omega
  pointwise [deltaArr]
  rw [Nat.mul_comm 1024]
  exact sum_coe (fun d => A.out (b.val * 1024 + n.val) h d * A.ct (b.val * 1024 + n.val) (h * 128 + d)) _ fun d => by
    rw [EReal.coe_mul]
    exact congrArg₂ _ (ho ⟨_, hn⟩ h d) (H.ct ⟨_, hn⟩ ⟨h.val * 128 + d.val, by omega⟩)

end Cert.KernelIdeal.Attn

end
-- ==== Proof.Payload.lean ====
/- One block of the attention's backward kernel over the reals: what each product of the kernel's text is at an index,
   of blocks with finite entries. -/
module

public import proofs.«01_k».proof.Proof.Num
public import proofs.«01_k».proof.Proof.Step
public import Idealize.ShloMosaic.Lib.Pointwise
public import Idealize.ShloMosaic.Lib.WordCmp

@[expose] public section

set_option maxRecDepth 16384

noncomputable section

namespace Cert.KernelIdeal.Attn

open Idealize.ShloMosaic Idealize.ShloMosaic.TcCoe Idealize.SL.Sem
open Cert.KernelIdeal.Gen Cert.Attn
open scoped BigOperators

/-- Row `r`, column `j` of the block is the real number `f r j`. -/
def Holds {a b : ℕ} (x : (⟨2, ![a, b]⟩ : Shape).Idx → EReal) (f : ℕ → ℕ → ℝ) : Prop :=
  ∀ (r : Fin a) (j : Fin b), x (ix2 r j) = ((f r.val j.val : ℝ) : EReal)

/-- The same of a row of 1024 numbers, stored as a [1, 1, 1, 1024] block. -/
def HoldsRow (x : (⟨4, ![1, 1, 1, 1024]⟩ : Shape).Idx → EReal) (f : ℕ → ℝ) : Prop :=
  ∀ n : Fin 1024, x (ix4 0 0 0 n) = ((f n.val : ℝ) : EReal)

variable {v4 : FVec Ideal S1024x256 .bf16} {v6 : FVec Ideal S1024x128 .bf16} {q : Vec Ideal S1024x256 .bf16} {o : Vec Ideal S1024x128 .bf16}
  {l d : Vec Ideal S1x1x1x1024 .f32}
  {kf vf qf of : ℕ → ℕ → ℝ} {lf df : ℕ → ℝ}

/-- The block's scores, less the rows' log-sums, exponentiated. -/
def prob (kf qf : ℕ → ℕ → ℝ) (lf : ℕ → ℝ) (r n : ℕ) : ℝ := Real.exp ((∑ j ∈ Finset.range 256, kf r j * qf n j) * sg - lf n)

/-- The block's scores' gradient, of the probabilities `p`. -/
def dscore (p vf of : ℕ → ℕ → ℝ) (df : ℕ → ℝ) (r n : ℕ) : ℝ := p r n * ((∑ j ∈ Finset.range 128, vf r j * of n j) - df n) * sg

/-- A product of two matrices with finite entries, at an index. -/
theorem dot_coe {N : ℕ} (f g : ℕ → ℝ) (x y : Fin N → EReal) (hx : ∀ i, x i = (f i.val : EReal)) (hy : ∀ i, y i = (g i.val : EReal)) :
    ∑ i, x i * y i = ((∑ i ∈ Finset.range N, f i * g i : ℝ) : EReal) :=
  sum_coe (fun i => f i * g i) _ fun i => by rw [hx, hy, EReal.coe_mul]

theorem pay9_holds (h4 : Holds v4 kf) (hq : Holds q qf) (hl : HoldsRow l lf) : Holds (k0_pay9 v4 q l) (prob kf qf lf) := by
  intro r n
  pointwise [k0_pay9, k0_pay7]
  rw [dot_coe (kf r.val) (qf n.val) _ _ (h4 r) (hq n), sg_eq, hl n, ← EReal.coe_mul, ← EReal.coe_sub, exp_coe]
  rfl

theorem pay11_holds (h4 : Holds v4 kf) (h6 : Holds v6 vf) (hq : Holds q qf) (ho : Holds o of) (hl : HoldsRow l lf) (hd : HoldsRow d df) :
    Holds (k0_pay11 v4 v6 q o l d) (dscore (prob kf qf lf) vf of df) := by
  intro r n
  pointwise [k0_pay11, k0_pay8]
  rw [pay9_holds h4 hq hl r n, dot_coe (vf r.val) (of n.val) _ _ (h6 r) (ho n), sg_eq, hd n, ← EReal.coe_sub, ← EReal.coe_mul, ← EReal.coe_mul]
  rfl

theorem pay2_holds {p : FVec Ideal S1024x1024 .bf16} {pf : ℕ → ℕ → ℝ} {a : Vec Ideal S1024x256 .f32} {af : ℕ → ℕ → ℝ} (h4 : Holds v4 kf)
    (hp : Holds p pf) (ha : Holds a af) : Holds (k0_pay2 v4 p a) (fun n j => af n j + ∑ r ∈ Finset.range 1024, pf r n * kf r j) := by
  intro n j
  pointwise [k0_pay2]
  rw [dot_coe (fun r => pf r n.val) (fun r => kf r j.val) _ _ (fun r => hp r n) (fun r => h4 r j), ha n j, ← EReal.coe_add]

theorem pay12_holds {a : Vec Ideal S1024x256 .f32} {af : ℕ → ℕ → ℝ}
    (h4 : Holds v4 kf) (h6 : Holds v6 vf) (hq : Holds q qf) (ho : Holds o of) (hl : HoldsRow l lf) (hd : HoldsRow d df) (ha : Holds a af) :
    Holds (k0_pay1 (k0_pay12 v4 v6 q o l d a)) (fun r j => af r j + ∑ n ∈ Finset.range 1024, dscore (prob kf qf lf) vf of df r n * qf n j) := by
  intro r j
  pointwise [k0_pay1, k0_pay12, k0_pay7]
  rw [dot_coe (fun n => dscore (prob kf qf lf) vf of df r.val n) (fun n => qf n j.val) _ _ (fun n => pay11_holds h4 h6 hq ho hl hd r n) (fun n => hq n j), ha r j,
    ← EReal.coe_add]

theorem pay10_holds {a : Vec Ideal S1024x128 .f32} {af : ℕ → ℕ → ℝ} (h4 : Holds v4 kf) (hq : Holds q qf) (ho : Holds o of) (hl : HoldsRow l lf)
    (ha : Holds a af) : Holds (k0_pay10 v4 q o l a) (fun r j => af r j + ∑ n ∈ Finset.range 1024, prob kf qf lf r n * of n j) := by
  intro r j
  pointwise [k0_pay10, k0_pay8]
  rw [dot_coe (fun n => prob kf qf lf r.val n) (fun n => of n j.val) _ _ (fun n => pay9_holds h4 hq hl r n) (fun n => ho n j), ha r j, ← EReal.coe_add]

/-! The block on the diagonal: the same products, the probabilities zero where the key comes after the query. -/

/-- The probabilities of the diagonal block. -/
def probDiag (kf qf : ℕ → ℕ → ℝ) (lf : ℕ → ℝ) (r n : ℕ) : ℝ := if r ≤ n then prob kf qf lf r n else 0

variable {x0 : Vec Ideal S1024x256 .bf16} {x1 : Vec Ideal S1024x128 .bf16} {w : Vec Ideal S1024x128 .bf16}

theorem pay28_holds (h4 : Holds (k0_pay19 w x1) kf) (hq : Holds q qf) (hl : HoldsRow l lf) :
    Holds (k0_pay28 (k0_pay26 w x1 q) (k0_pay27 l)) (probDiag kf qf lf) := by
  intro r n
  pointwise [k0_pay28, k0_pay27, k0_pay26, k0_pay24]
  rw [dot_coe (kf r.val) (qf n.val) _ _ (h4 r) (hq n), sg_eq, hl n, ← EReal.coe_mul, ← EReal.coe_sub, exp_coe]
  have hr : r.val < 2 ^ (32 - 1) := by have := r.isLt; omega
  have hn : n.val < 2 ^ (32 - 1) := by have := n.isLt; omega
  by_cases h : r.val ≤ n.val
  · rw [(WordCmp.cmpi_sle_ofNat_eq_one_iff hr hn).mpr h, probDiag, if_pos h]; rfl
  · rw [(WordCmp.cmpi_sle_ofNat_eq_zero_iff hr hn).mpr h, probDiag, if_neg h]; rfl

theorem pay29_holds {a : Vec Ideal S1024x128 .f32} {af : ℕ → ℕ → ℝ} (h4 : Holds (k0_pay19 w x1) kf) (hq : Holds q qf) (ho : Holds o of) (hl : HoldsRow l lf)
    (ha : Holds a af) : Holds (k0_pay29 (k0_pay25 o) (k0_pay26 w x1 q) (k0_pay27 l) a)
      (fun r j => af r j + ∑ n ∈ Finset.range 1024, probDiag kf qf lf r n * of n j) := by
  intro r j
  pointwise [k0_pay29, k0_pay25]
  rw [dot_coe (fun n => probDiag kf qf lf r.val n) (fun n => of n j.val) _ _ (fun n => pay28_holds h4 hq hl r n) (fun n => ho n j), ha r j, ← EReal.coe_add]

theorem pay30_holds (h4 : Holds (k0_pay19 w x1) kf) (h6 : Holds v6 vf) (hq : Holds q qf) (ho : Holds o of) (hl : HoldsRow l lf) (hd : HoldsRow d df) :
    Holds (k0_pay30 v6 (k0_pay25 o) (k0_pay26 w x1 q) (k0_pay27 l) d) (dscore (probDiag kf qf lf) vf of df) := by
  intro r n
  pointwise [k0_pay30, k0_pay25]
  rw [pay28_holds h4 hq hl r n, dot_coe (vf r.val) (of n.val) _ _ (h6 r) (ho n), sg_eq, hd n, ← EReal.coe_sub, ← EReal.coe_mul, ← EReal.coe_mul]
  rfl

theorem pay31_holds {a : Vec Ideal S1024x256 .f32} {af : ℕ → ℕ → ℝ} (h4 : Holds (k0_pay19 w x1) kf) (h6 : Holds v6 vf) (hq : Holds q qf) (ho : Holds o of)
    (hl : HoldsRow l lf) (hd : HoldsRow d df) (ha : Holds a af) :
    Holds (k0_pay31 v6 (k0_pay24 q) (k0_pay25 o) (k0_pay26 w x1 q) (k0_pay27 l) d a)
      (fun r j => af r j + ∑ n ∈ Finset.range 1024, dscore (probDiag kf qf lf) vf of df r n * qf n j) := by
  intro r j
  pointwise [k0_pay31, k0_pay24]
  rw [dot_coe (fun n => dscore (probDiag kf qf lf) vf of df r.val n) (fun n => qf n j.val) _ _ (fun n => pay30_holds h4 h6 hq ho hl hd r n) (fun n => hq n j),
    ha r j, ← EReal.coe_add]

theorem pay32_holds {a : Vec Ideal S1024x256 .f32} {af : ℕ → ℕ → ℝ} (h4 : Holds (k0_pay19 w x1) kf) (h6 : Holds v6 vf) (hq : Holds q qf) (ho : Holds o of)
    (hl : HoldsRow l lf) (hd : HoldsRow d df) (ha : Holds a af) :
    Holds (k0_pay32 (k0_pay19 w x1) v6 (k0_pay25 o) (k0_pay26 w x1 q) (k0_pay27 l) d a)
      (fun n j => af n j + ∑ r ∈ Finset.range 1024, dscore (probDiag kf qf lf) vf of df r n * kf r j) := by
  intro n j
  pointwise [k0_pay32]
  rw [dot_coe (fun r => dscore (probDiag kf qf lf) vf of df r n.val) (fun r => kf r j.val) _ _ (fun r => pay30_holds h4 h6 hq ho hl hd r n) (fun r => h4 r j),
    ha n j, ← EReal.coe_add]

theorem pay21_holds : Holds (k0_pay21 (F := Ideal)) (fun _ _ => 0) := by
  intro r j
  pointwise [k0_pay21]
  rfl

theorem pay22_holds : Holds (k0_pay22 (F := Ideal)) (fun _ _ => 0) := by
  intro r j
  pointwise [k0_pay22]
  rfl

theorem pay23_holds : Holds (k0_pay23 (F := Ideal)) (fun _ _ => 0) := by
  intro r j
  pointwise [k0_pay23]
  rfl

/-! Parts of a matrix. -/

theorem window_holds {a b : ℕ} {x : (⟨2, ![a, b]⟩ : Shape).Idx → EReal} {f : ℕ → ℕ → ℝ} (hx : Holds x f) (off : Fin 2 → ℕ) {A B : ℕ} (o0 o1 : ℕ)
    (he : off = ![o0, o1]) (inb : ∀ i, off i + (![A, B] : Fin 2 → ℕ) i ≤ (⟨2, ![a, b]⟩ : Shape).size i) :
    Holds (a := A) (b := B) (VecWindow.window (s := ⟨2, ![a, b]⟩) x off ![A, B] inb) (fun r j => f (o0 + r) (o1 + j)) := by
  subst he
  intro r j
  have h0 : o0 + A ≤ a := inb 0
  have h1 : o1 + B ≤ b := inb 1
  rw [← hx ⟨o0 + r.val, by omega⟩ ⟨o1 + j.val, by omega⟩]
  refine congrArg x ?_
  funext k
  refine Fin.ext ?_
  fin_cases k <;> simp [Rect.emb, Rect.unit, ix2]

theorem put_holds {a b : ℕ} {x : (⟨2, ![a, b]⟩ : Shape).Idx → EReal} {f : ℕ → ℕ → ℝ} (hx : Holds x f) (off : Fin 2 → ℕ) {A : ℕ} (o0 : ℕ)
    (he : off = ![o0, 0]) {y : (⟨2, ![A, b]⟩ : Shape).Idx → EReal} {g : ℕ → ℕ → ℝ} (hy : Holds y g) :
    Holds (VecWindow.put (s := ⟨2, ![a, b]⟩) x off ![A, b] y) (fun r j => if o0 ≤ r ∧ r < o0 + A then g (r - o0) j else f r j) := by
  subst he
  intro r j
  show VecWindow.put (s := ⟨2, ![a, b]⟩) x _ _ y (ix2 r j) = ((if o0 ≤ r.val ∧ r.val < o0 + A then g (r.val - o0) j.val else f r.val j.val : ℝ) : EReal)
  unfold VecWindow.put
  by_cases h : o0 ≤ r.val ∧ r.val < o0 + A
  · have hh : ∀ i : Fin 2, (![o0, 0] : Fin 2 → ℕ) i ≤ (ix2 r j i).val ∧ (ix2 r j i).val < (![o0, 0] : Fin 2 → ℕ) i + (![A, b] : Fin 2 → ℕ) i := by
      intro i
      fin_cases i
      · exact h
      · exact ⟨Nat.zero_le _, by simpa using j.isLt⟩
    rw [dif_pos hh, if_pos h, ← hy ⟨r.val - o0, by omega⟩ j]
    refine congrArg y ?_
    funext k
    refine Fin.ext ?_
    fin_cases k <;> simp [Rect.unitLocal, ix2]
  · have hh : ¬∀ i : Fin 2, (![o0, 0] : Fin 2 → ℕ) i ≤ (ix2 r j i).val ∧ (ix2 r j i).val < (![o0, 0] : Fin 2 → ℕ) i + (![A, b] : Fin 2 → ℕ) i :=
      fun hh => h (hh 0)
    rw [dif_neg hh, if_neg h]
    exact hx r j

theorem keys_holds {x0f x1f : ℕ → ℕ → ℝ} (h0 : Holds x0 x0f) (h1 : Holds x1 x1f) : Holds (keys x0 x1) (fun r j => if j < 128 then x0f r j else x1f r (j - 128)) := by
  intro r j
  have hw := window_holds h0 ![0, 0] 0 0 rfl inb_S1024x256_S1024x128_0_0
  pointwise [keys, k0_pay19]
  split
  case isTrue h => exact (hw r ⟨j.val, h⟩).trans (by simp only [Nat.zero_add, if_pos h])
  case isFalse h => exact (h1 r ⟨j.val - 128, by omega⟩).trans (by simp only [if_neg h])

theorem vals_holds {x0f : ℕ → ℕ → ℝ} (h0 : Holds x0 x0f) : Holds (vals x0) (fun r j => x0f r (128 + j)) := by
  have hw := window_holds h0 ![0, 128] 0 128 rfl inb_S1024x256_S1024x128_0_128
  intro r j
  pointwise [vals, k0_pay20]
  exact (hw r j).trans (by simp only [Nat.zero_add])

theorem outKV_holds {s : St Ideal} {f g : ℕ → ℕ → ℝ} (h1 : Holds s.2.1 f) (h2 : Holds s.2.2 g) :
    Holds (outKV s) (fun r j => if j < 128 then f r j else g r (j - 128)) := by
  have hw := window_holds h1 ![0, 0] 0 0 rfl inb_S1024x256_S1024x128_0_0
  intro r j
  pointwise [outKV, k0_pay5]
  split
  case isTrue h => exact (hw r ⟨j.val, h⟩).trans (by simp only [Nat.zero_add, if_pos h])
  case isFalse h => exact (h2 r ⟨j.val - 128, by omega⟩).trans (by simp only [if_neg h])

theorem outKP_holds {s : St Ideal} {f : ℕ → ℕ → ℝ} (h1 : Holds s.2.1 f) (r : Fin 1024) (j : Fin 128) :
    outKP s (ix3 0 r j) = ((f r.val (128 + j.val) : ℝ) : EReal) := by
  have hw := window_holds h1 ![0, 128] 0 128 rfl inb_S1024x256_S1024x128_0_128
  pointwise [outKP, k0_pay6]
  exact (hw r j).trans (by simp only [Nat.zero_add])

end Cert.KernelIdeal.Attn

end
-- ==== Proof.Fold.lean ====
/- What one grid point of the attention's backward kernel computes over the reals: from finite blocks of the operands, the
   sums of the accumulators over all rows of queries. -/
module

public import proofs.«01_k».proof.Proof.Payload

@[expose] public section

noncomputable section

namespace Cert.KernelIdeal.Attn

open Idealize.ShloMosaic Idealize.SL Idealize.SL.Sem Gen
open Cert.Attn

/-- The weight of key `κ` in the row of query `n`: zero where the key comes after the query. -/
def wgt (K Q : ℕ → ℕ → ℝ) (L : ℕ → ℝ) (κ n : ℕ) : ℝ := if κ ≤ n then prob K Q L κ n else 0

/-- The gradient of the score of key `κ` and query `n`. -/
def gsc (K V Q O : ℕ → ℕ → ℝ) (L D : ℕ → ℝ) : ℕ → ℕ → ℝ := dscore (wgt K Q L) V O D

theorem Holds.congr {a b : ℕ} {x : (⟨2, ![a, b]⟩ : Shape).Idx → EReal} {f g : ℕ → ℕ → ℝ} (h : Holds x f) (hfg : ∀ r < a, ∀ j < b, f r j = g r j) : Holds x g :=
  fun r j => (h r j).trans (by rw [hfg r.val r.isLt j.val j.isLt])

/-- The values of the eight blocks of rows, one row number after the other. -/
def HoldsTab (x : (⟨4, ![1, 8, 1, 1024]⟩ : Shape).Idx → EReal) (f : ℕ → ℝ) : Prop :=
  ∀ (b : Fin 8) (n : Fin 1024), x (ix4 0 b 0 n) = ((f (1024 * b.val + n.val) : ℝ) : EReal)

theorem windowTab_holds {x : (⟨4, ![1, 8, 1, 1024]⟩ : Shape).Idx → EReal} {f : ℕ → ℝ} (hx : HoldsTab x f) (off : Fin 4 → ℕ) (b : ℕ)
    (he : off = ![0, b, 0, 0]) (inb : ∀ i, off i + (![1, 1, 1, 1024] : Fin 4 → ℕ) i ≤ (⟨4, ![1, 8, 1, 1024]⟩ : Shape).size i) :
    HoldsRow (VecWindow.window (s := ⟨4, ![1, 8, 1, 1024]⟩) x off ![1, 1, 1, 1024] inb) (fun n => f (1024 * b + n)) := by
  subst he
  intro n
  have h1 : b + 1 ≤ 8 := inb 1
  rw [← hx ⟨b, by omega⟩ n]
  refine congrArg x ?_
  funext k
  refine Fin.ext ?_
  fin_cases k <;> simp [Rect.emb, Rect.unit, ix4]

theorem trips_eq : ∀ i : grid0.Coords, (k0_t1_loop i).trips = 7 - (i 1).val := by decide +kernel

variable {K V Q O : ℕ → ℕ → ℝ} {L D : ℕ → ℝ}

theorem prob_block (k b : ℕ) (r n : ℕ) (h : 1024 * k + r ≤ 1024 * b + n) :
    prob (fun r j => K (1024 * k + r) j) (fun n j => Q (1024 * b + n) j) (fun n => L (1024 * b + n)) r n = wgt K Q L (1024 * k + r) (1024 * b + n) := by
  rw [wgt, if_pos h]; rfl

theorem probDiag_block (k : ℕ) (r n : ℕ) :
    probDiag (fun r j => K (1024 * k + r) j) (fun n j => Q (1024 * k + n) j) (fun n => L (1024 * k + n)) r n = wgt K Q L (1024 * k + r) (1024 * k + n) := by
  unfold probDiag wgt
  by_cases h : r ≤ n
  · rw [if_pos h, if_pos (by omega)]; rfl
  · rw [if_neg h, if_neg (by omega)]

theorem wgt_zero {κ n : ℕ} (h : n < κ) : wgt K Q L κ n = 0 := by rw [wgt, if_neg (by omega)]

theorem gsc_zero {κ n : ℕ} (h : n < κ) : gsc K V Q O L D κ n = 0 := by
  show wgt K Q L κ n * _ * sg = 0
  rw [wgt_zero h, zero_mul, zero_mul]

variable (i : grid0.Coords) {x0 : Vec Ideal S1024x256 .bf16} {x1 : Vec Ideal S1024x128 .bf16} {x2 : Vec Ideal S8192x256 .bf16}
  {x3 : Vec Ideal S8192x128 .bf16} {x4 x5 : Vec Ideal S1x8x1x1024 .f32}

/-- What the accumulators hold once the queries' rows below `N` have been gone through. -/
structure Inv (K V Q O : ℕ → ℕ → ℝ) (L D : ℕ → ℝ) (af : ℕ → ℕ → ℝ) (ki N : ℕ) (s : St Ideal) : Prop where
  dq : Holds s.1 fun n j => af n j + if n < N then ∑ r ∈ Finset.range 1024, gsc K V Q O L D (1024 * ki + r) n * K (1024 * ki + r) j else 0
  dk : Holds s.2.1 fun r j => ∑ n ∈ Finset.range N, gsc K V Q O L D (1024 * ki + r) n * Q n j
  dv : Holds s.2.2 fun r j => ∑ n ∈ Finset.range N, wgt K Q L (1024 * ki + r) n * O n j

theorem diag_inv {a : Vec Ideal S8192x256 .f32} {af : ℕ → ℕ → ℝ}
    (hk : Holds (keys x0 x1) fun r j => K (1024 * (i 1).val + r) j) (hv : Holds (vals x0) fun r j => V (1024 * (i 1).val + r) j)
    (hq : Holds x2 Q) (ho : Holds x3 O) (hl : HoldsTab x4 L) (hd : HoldsTab x5 D) (ha : Holds a af) :
    Inv K V Q O L D af (i 1).val (1024 * ((i 1).val + 1)) (diag i x0 x1 x2 x3 x4 x5 a) := by
  have hi : (i 1).val < 8 := (i 1).isLt
  have wq : Holds (qDiag i x2) fun n j => Q (1024 * (i 1).val + n) j :=
    (window_holds hq _ _ _ (k0_off1_eq i) (k0_off1_inb i)).congr fun r _ j _ => by rw [Nat.zero_add]
  have wo : Holds (ctDiag i x3) fun n j => O (1024 * (i 1).val + n) j :=
    (window_holds ho _ _ _ (k0_off2_eq i) (k0_off2_inb i)).congr fun r _ j _ => by rw [Nat.zero_add]
  have wl : HoldsRow (lseDiag i x4) fun n => L (1024 * (i 1).val + n) := windowTab_holds hl _ _ (k0_off3_eq i) (k0_off3_inb i)
  have wd : HoldsRow (deltaDiag i x5) fun n => D (1024 * (i 1).val + n) := windowTab_holds hd _ _ (k0_off3_eq i) (k0_off3_inb i)
  have wa : Holds (VecWindow.window a (k0_off1 i) S1024x256.size (k0_off1_inb i)) fun n j => af (1024 * (i 1).val + n) j :=
    (window_holds ha _ _ _ (k0_off1_eq i) (k0_off1_inb i)).congr fun r _ j _ => by rw [Nat.zero_add]
  constructor
  · refine (put_holds ha _ _ (k0_off1_eq i) (pay32_holds hk hv wq wo wl wd wa)).congr fun n hn j hj => ?_
    by_cases h : 1024 * (i 1).val ≤ n ∧ n < 1024 * (i 1).val + 1024
    · rw [if_pos h, if_pos (by omega)]
      have e : 1024 * (i 1).val + (n - 1024 * (i 1).val) = n := by omega
      simp only [e]
      refine congrArg _ (Finset.sum_congr rfl fun r _ => ?_)
      unfold dscore
      rw [probDiag_block]
      simp only [e]
      rfl
    · rw [if_neg h]
      by_cases h' : n < 1024 * ((i 1).val + 1)
      · rw [if_pos h', Finset.sum_eq_zero fun r _ => by rw [gsc_zero (by omega), zero_mul], add_zero]
      · rw [if_neg h', add_zero]
  · refine (pay31_holds hk hv wq wo wl wd pay22_holds).congr fun r hr j hj => ?_
    have z : ∑ n ∈ Finset.range (1024 * (i 1).val), gsc K V Q O L D (1024 * (i 1).val + r) n * Q n j = 0 :=
      Finset.sum_eq_zero fun n hn => by rw [gsc_zero (by have := Finset.mem_range.mp hn; omega), zero_mul]
    rw [sum_block, z]
    refine congrArg _ (Finset.sum_congr rfl fun n _ => ?_)
    unfold dscore
    rw [probDiag_block]
    rfl
  · refine (pay29_holds hk wq wo wl pay23_holds).congr fun r hr j hj => ?_
    have z : ∑ n ∈ Finset.range (1024 * (i 1).val), wgt K Q L (1024 * (i 1).val + r) n * O n j = 0 :=
      Finset.sum_eq_zero fun n hn => by rw [wgt_zero (by have := Finset.mem_range.mp hn; omega), zero_mul]
    rw [sum_block, z]
    refine congrArg _ (Finset.sum_congr rfl fun n _ => ?_)
    rw [probDiag_block]

theorem trip_inv {af : ℕ → ℕ → ℝ} {v4 : FVec Ideal S1024x256 .bf16} {v6 : FVec Ideal S1024x128 .bf16}
    (hk : Holds v4 fun r j => K (1024 * (i 1).val + r) j) (hv : Holds v6 fun r j => V (1024 * (i 1).val + r) j)
    (hq : Holds x2 Q) (ho : Holds x3 O) (hl : HoldsTab x4 L) (hd : HoldsTab x5 D) (k : Fin (k0_t1_loop i).trips) (s : St Ideal)
    (hs : Inv K V Q O L D af (i 1).val (1024 * ((i 1).val + 1 + k.val)) s) :
    Inv K V Q O L D af (i 1).val (1024 * ((i 1).val + 1 + (k.val + 1))) (trip i x2 x3 x4 x5 v4 v6 k s) := by
  have hi : (i 1).val < 8 := (i 1).isLt
  set b := (i 1).val + 1 + k.val with hb
  have e4 : k0_off4 i k = ![1024 * b, 0] := (k0_off4_eq i k).trans (by rw [hb]; congr 1; omega)
  have e5 : k0_off5 i k = ![1024 * b, 0] := (k0_off5_eq i k).trans (by rw [hb]; congr 1; omega)
  have e6 : k0_off6 i k = ![0, b, 0, 0] := (k0_off6_eq i k).trans (by rw [hb]; congr 2; omega)
  have wq : Holds (VecWindow.window x2 (k0_off4 i k) S1024x256.size (k0_off4_inb i k)) fun n j => Q (1024 * b + n) j :=
    (window_holds hq _ _ _ e4 (k0_off4_inb i k)).congr fun r _ j _ => by rw [Nat.zero_add]
  have wo : Holds (VecWindow.window x3 (k0_off5 i k) S1024x128.size (k0_off5_inb i k)) fun n j => O (1024 * b + n) j :=
    (window_holds ho _ _ _ e5 (k0_off5_inb i k)).congr fun r _ j _ => by rw [Nat.zero_add]
  have wl : HoldsRow (VecWindow.window x4 (k0_off6 i k) S1x1x1x1024.size (k0_off6_inb i k)) fun n => L (1024 * b + n) := windowTab_holds hl _ _ e6 (k0_off6_inb i k)
  have wd : HoldsRow (VecWindow.window x5 (k0_off6 i k) S1x1x1x1024.size (k0_off6_inb i k)) fun n => D (1024 * b + n) := windowTab_holds hd _ _ e6 (k0_off6_inb i k)
  have wa := (window_holds hs.dq _ _ _ e4 (k0_off4_inb i k)).congr fun r _ j _ => by rw [Nat.zero_add]
  constructor
  · refine (put_holds hs.dq _ _ e4 (pay2_holds hk (pay11_holds hk hv wq wo wl wd) wa)).congr fun n hn j hj => ?_
    by_cases h : 1024 * b ≤ n ∧ n < 1024 * b + 1024
    · have e : 1024 * b + (n - 1024 * b) = n := by omega
      have h2 : ¬n < 1024 * b := by omega
      have h3 : n < 1024 * ((i 1).val + 1 + (k.val + 1)) := by omega
      simp only [e, if_pos h, if_pos h3, if_neg h2, add_zero]
      refine congrArg _ (Finset.sum_congr rfl fun r hr => ?_)
      have := Finset.mem_range.mp hr
      unfold dscore
      rw [prob_block _ _ _ _ (by omega)]
      simp only [e]
      rfl
    · rw [if_neg h]
      by_cases h' : n < 1024 * b
      · rw [if_pos h', if_pos (by omega)]
      · rw [if_neg h', if_neg (by omega)]
  · refine (pay12_holds hk hv wq wo wl wd hs.dk).congr fun r hr j hj => ?_
    rw [show (i 1).val + 1 + (k.val + 1) = b + 1 by omega, sum_block]
    refine congrArg _ (Finset.sum_congr rfl fun n _ => ?_)
    unfold dscore
    rw [prob_block _ _ _ _ (by omega)]
    rfl
  · refine (pay10_holds hk wq wo wl hs.dv).congr fun r hr j hj => ?_
    rw [show (i 1).val + 1 + (k.val + 1) = b + 1 by omega, sum_block]
    refine congrArg _ (Finset.sum_congr rfl fun n _ => ?_)
    rw [prob_block _ _ _ _ (by omega)]

theorem last_inv {a : Vec Ideal S8192x256 .f32} {af : ℕ → ℕ → ℝ}
    (hk : Holds (keys x0 x1) fun r j => K (1024 * (i 1).val + r) j) (hv : Holds (vals x0) fun r j => V (1024 * (i 1).val + r) j)
    (hq : Holds x2 Q) (ho : Holds x3 O) (hl : HoldsTab x4 L) (hd : HoldsTab x5 D) (ha : Holds a af) :
    Inv K V Q O L D af (i 1).val 8192 (last i x0 x1 x2 x3 x4 x5 a) := by
  have key : ∀ k, k ≤ (k0_t1_loop i).trips → Inv K V Q O L D af (i 1).val (1024 * ((i 1).val + 1 + k))
      (fold i x2 x3 x4 x5 (keys x0 x1) (vals x0) (diag i x0 x1 x2 x3 x4 x5 a) k) := by
    intro k
    induction k with
    | zero => exact fun _ => diag_inv i hk hv hq ho hl hd ha
    | succ k ih =>
      intro hk'
      rw [fold_succ i x2 x3 x4 x5 _ _ _ ⟨k, hk'⟩]
      exact trip_inv i hk hv hq ho hl hd ⟨k, hk'⟩ _ (ih (Nat.le_of_succ_le hk'))
  have h := key _ le_rfl
  have hi : (i 1).val < 8 := (i 1).isLt
  have e : 1024 * ((i 1).val + 1 + (k0_t1_loop i).trips) = 8192 := by rw [trips_eq i]; omega
  rw [e] at h
  exact h

end Cert.KernelIdeal.Attn

end
-- ==== Proof.Final.lean ====
/- The launch's result arrays, over the reals: the gradients of the queries, of the keys and values, and of the shared
   key columns. -/
module

public import proofs.«01_k».proof.Proof.HostReads
public import proofs.«01_k».proof.Proof.Fold
public import Idealize.ShloMosaic.Lib.Pipeline.ValueKit

@[expose] public section

noncomputable section

namespace Cert.KernelIdeal.Attn

open Idealize.ShloMosaic Idealize.SL Idealize.SL.Sem Gen
open Idealize.ShloMosaic.Pipeline (Dat)
open Cert.Attn
open Cert.ReferenceIdeal.Attn (HoldsArgs kArr vArr sArr mArr' uArr pArr mArr'_holds uArr_holds pArr_holds)
open scoped BigOperators

/-! ## The numbers of the blocks -/

section Numbers
variable (A : Args) (h : ℕ)

/-- The rows' log-sums. -/
abbrev lg (n : ℕ) : ℝ := Real.log (A.tot h n)

theorem scores_padded (n k : ℕ) : ∑ j ∈ Finset.range 256, A.keyP h k j * A.qP h n j = ∑ d ∈ Finset.range 192, A.q n h d * A.key k h d := by
  rw [show (256 : ℕ) = 192 + 64 from rfl, Finset.sum_range_add]
  have z : ∑ x ∈ Finset.range 64, A.keyP h k (192 + x) * A.qP h n (192 + x) = 0 :=
    Finset.sum_eq_zero fun x _ => by rw [Args.qP, if_neg (by omega), mul_zero]
  rw [z, add_zero]
  refine Finset.sum_congr rfl fun d hd => ?_
  rw [Args.keyP, Args.qP, if_pos (Finset.mem_range.mp hd), if_pos (Finset.mem_range.mp hd), mul_comm]

theorem wgt_eq (n k : ℕ) : wgt (A.keyP h) (A.qP h) (lg A h) k n = A.pr h n k := by
  unfold wgt prob
  split
  case isTrue hk =>
    rw [scores_padded]
    exact A.exp_lse h n k hk
  case isFalse hk => rw [Args.pr, Args.ex, if_neg hk, zero_div]

theorem gsc_eq (n k : ℕ) :
    gsc (A.keyP h) (fun k d => A.kv k h (128 + d)) (A.qP h) (fun n d => A.ct n (h * 128 + d)) (lg A h) (A.del h) k n = A.ds h n k := by
  unfold gsc dscore
  rw [wgt_eq, Args.ds, Args.dp, Finset.sum_congr rfl fun d _ => mul_comm (A.kv k h (128 + d)) (A.ct n (h * 128 + d))]

end Numbers

/-! ## The blocks -/

variable {A : Args} (m : (ℓ : Loc nD τ sig) → Buf (Elt Ideal) ℓ) (c : Dev nD)

theorem idx_0 : ∀ t : Fin cfg0.N, win0_0.index t = ![(grid0.coords t 1).val, (grid0.coords t 0).val] := by decide +kernel
theorem idx_1 : ∀ t : Fin cfg0.N, win0_1.index t = ![(grid0.coords t 1).val, 0] := by decide +kernel
theorem idx_2 : ∀ t : Fin cfg0.N, win0_2.index t = ![0, (grid0.coords t 0).val] := by decide +kernel
theorem idx_3 : ∀ t : Fin cfg0.N, win0_3.index t = ![0, (grid0.coords t 0).val] := by decide +kernel
theorem idx_4 : ∀ t : Fin cfg0.N, win0_4.index t = ![(grid0.coords t 0).val, 0, 0, 0] := by decide +kernel
theorem idx_5 : ∀ t : Fin cfg0.N, win0_5.index t = ![(grid0.coords t 0).val, 0, 0, 0] := by decide +kernel
theorem idx_6 : ∀ t : Fin cfg0.N, win0_6.index t = ![0, (grid0.coords t 0).val] := by decide +kernel
theorem idx_7 : ∀ t : Fin cfg0.N, win0_7.index t = ![(grid0.coords t 1).val, (grid0.coords t 0).val] := by decide +kernel
theorem idx_8 : ∀ t : Fin cfg0.N, win0_8.index t = ![(grid0.coords t 0).val, (grid0.coords t 1).val, 0] := by decide +kernel

theorem head_eq (t : Fin cfg0.N) : (grid0.coords t 0).val = t.val / 8 := by
  have ht : t.val < 128 := Nat.lt_of_lt_of_eq t.isLt N_0
  have e : (grid0.coords t 0).val = t.val / 8 % 16 := Pipeline.Grid.coords_val t 0 (by decide) rfl
  omega

theorem tile_eq (t : Fin cfg0.N) : (grid0.coords t 1).val = t.val % 8 := by
  have e : (grid0.coords t 1).val = t.val / 1 % 8 := Pipeline.Grid.coords_val t 1 (by decide) rfl
  omega

variable (H : HoldsArgs A (arg0 m c) (arg1 m c) (arg2 m c) (arg3 m c))
include H

theorem blk0_holds (t : Fin cfg0.N) : Holds (blk0 m c t) fun r j => A.kv (1024 * (grid0.coords t 1).val + r) (grid0.coords t 0).val j := by
  intro r j
  refine Eq.trans ?_ ((kvArr_holds H ⟨1024 * (grid0.coords t 1).val + r.val, by have := tile_eq t; omega⟩ (grid0.coords t 0) j))
  unfold blk0
  rw [← V_kv]
  blk_simp [iblk]
  refine congrArg (V m c main_v64) ?_
  blk_ext [idx_0]

theorem blk1_holds (t : Fin cfg0.N) : Holds (blk1 m c t) fun r j => if j < 64 then A.kp (1024 * (grid0.coords t 1).val + r) j else 0 := by
  intro r j
  refine Eq.trans ?_ ((kpArr_holds H ⟨1024 * (grid0.coords t 1).val + r.val, by have := tile_eq t; omega⟩ j))
  unfold blk1
  rw [← V_kp]
  blk_simp [iblk]
  refine congrArg (V m c main_v65) ?_
  blk_ext [idx_1]

theorem blk2_holds (t : Fin cfg0.N) : Holds (blk2 m c t) (A.qP (grid0.coords t 0).val) := by
  intro r j
  refine Eq.trans ?_ ((qArr_holds H r (grid0.coords t 0) j))
  unfold blk2
  rw [← V_q]
  blk_simp [iblk]
  refine congrArg (V m c main_v62) ?_
  blk_ext [idx_2]

theorem blk3_holds (t : Fin cfg0.N) : Holds (blk3 m c t) fun n d => A.ct n ((grid0.coords t 0).val * 128 + d) := by
  intro r j
  have hh : (grid0.coords t 0).val < 16 := (grid0.coords t 0).isLt
  refine Eq.trans ?_ ((doArr_holds H r ⟨(grid0.coords t 0).val * 128 + j.val, by omega⟩))
  unfold blk3
  rw [← V_do]
  blk_simp [iblk]
  refine congrArg (V m c main_v66) ?_
  blk_ext [idx_3]

theorem V_lse_holds (h : Fin 16) (b : Fin 8) (n : Fin 1024) : V m c main_v53 (ix4 h b 0 n) = (lg A h (1024 * b.val + n.val) : EReal) := by
  have e := V_lse m c
  unfold scores at e
  generalize V m c main_v53 = x at e ⊢
  subst e
  exact lseArr_holds H h b n

omit H in
/-- A read through window 4's block. -/
theorem read_4 (t : Fin cfg0.N) (x : FVec Ideal S16x8x1x1024 .f32) (b : Fin 8) (n : Fin 1024) :
    ((cfg0.win 4).blk t).view.read (Elt Ideal) x (ix4 0 b 0 n) = x (ix4 (grid0.coords t 0) b 0 n) := by
  blk_simp
  refine congrArg x ?_
  blk_ext [idx_4]

theorem blk4_holds (t : Fin cfg0.N) : HoldsTab (blk4 m c t) (lg A (grid0.coords t 0).val) := by
  intro b n
  have e := V_lse_holds m c H (grid0.coords t 0) b n
  unfold blk4 iblk
  exact (read_4 t (V m c main_v53) b n).trans e

theorem blk5_holds (t : Fin cfg0.N) : HoldsTab (blk5 m c t) (A.del (grid0.coords t 0).val) := by
  intro b n
  have hp : ∀ h n k, pArr (uArr (scores m c) (mArr' (scores m c))) (ix3 h n k) = (A.pr h.val n.val k.val : EReal) := fun h n k => by
    obtain ⟨M, hM⟩ := mArr'_holds H h n
    exact pArr_holds H (uArr_holds H hM) k
  refine Eq.trans ?_ (deltaArr_holds H (oArr_holds H hp) (grid0.coords t 0) b n)
  unfold blk5
  rw [← V_delta]
  blk_simp [iblk]
  refine congrArg (V m c main_v58) ?_
  blk_ext [idx_5]

/-! ## The accumulators after every point -/

theorem pt_inv (t : Fin cfg0.N) {a : Vec Ideal S8192x256 .f32} {af : ℕ → ℕ → ℝ} (ha : Holds a af) :
    Inv (A.keyP (grid0.coords t 0).val) (fun k d => A.kv k (grid0.coords t 0).val (128 + d)) (A.qP (grid0.coords t 0).val)
      (fun n d => A.ct n ((grid0.coords t 0).val * 128 + d)) (lg A (grid0.coords t 0).val) (A.del (grid0.coords t 0).val) af (grid0.coords t 1).val 8192
      (pt m c t a) := by
  refine last_inv (grid0.coords t) ?_ (vals_holds (blk0_holds m c H t)) (blk2_holds m c H t) (blk3_holds m c H t) (blk4_holds m c H t) (blk5_holds m c H t) ha
  refine (keys_holds (blk0_holds m c H t) (blk1_holds m c H t)).congr fun r _ j hj => ?_
  unfold Args.keyP Args.key
  by_cases h1 : j < 128
  · have h2 : j < 192 := by omega
    simp only [if_pos h1, if_pos h2]
  · by_cases h2 : j < 192
    · have h3 : j - 128 < 64 := by omega
      simp only [if_neg h1, if_pos h2, if_pos h3]
    · have h3 : ¬ j - 128 < 64 := by omega
      simp only [if_neg h1, if_neg h2, if_neg h3]

/-- The queries' gradient a point starts from: the sum over the keys of the head's earlier points. -/
theorem dqIn_holds (n : ℕ) (hn : n < cfg0.N) :
    Holds (dqIn m c n) fun r j => ∑ k ∈ Finset.range (1024 * (n % 8)), A.ds (n / 8) r k * A.keyP (n / 8) k j := by
  induction n with
  | zero =>
    rw [dqIn_reset m c 0 rfl]
    exact pay21_holds.congr fun r _ j _ => rfl
  | succ n ih =>
    by_cases h8 : (n + 1) % 8 = 0
    · rw [dqIn_reset m c _ h8]
      refine pay21_holds.congr fun r _ j _ => ?_
      rw [h8]; rfl
    · rw [dqIn_step m c n h8 (by omega)]
      refine (pt_inv m c H ⟨n, by omega⟩ (ih (by omega))).dq.congr fun r hr j _ => ?_
      have e1 : (n + 1) % 8 = n % 8 + 1 := by omega
      have e2 : (n + 1) / 8 = n / 8 := by omega
      rw [if_pos hr, e1, e2, sum_block]
      simp only [gsc_eq, head_eq, tile_eq]

/-- After a point, of its queries' gradient. -/
theorem stAt_dq (t : Fin cfg0.N) : Holds (stAt m c t).1 fun r j => ∑ k ∈ Finset.range (1024 * (t.val % 8 + 1)), A.ds (t.val / 8) r k * A.keyP (t.val / 8) k j := by
  refine (pt_inv m c H t (dqIn_holds m c H t.val t.isLt)).dq.congr fun r hr j _ => ?_
  rw [if_pos hr, sum_block]
  simp only [gsc_eq, head_eq, tile_eq]

theorem stAt_dk (t : Fin cfg0.N) : Holds (stAt m c t).2.1 fun r j => ∑ n ∈ Finset.range 8192, A.ds (t.val / 8) n (1024 * (t.val % 8) + r) * A.qP (t.val / 8) n j := by
  refine (pt_inv m c H t (dqIn_holds m c H t.val t.isLt)).dk.congr fun r hr j _ => ?_
  simp only [gsc_eq, head_eq, tile_eq]

theorem stAt_dv (t : Fin cfg0.N) : Holds (stAt m c t).2.2 fun r j => ∑ n ∈ Finset.range 8192, A.pr (t.val / 8) n (1024 * (t.val % 8) + r) * A.ct n (t.val / 8 * 128 + j) := by
  refine (pt_inv m c H t (dqIn_holds m c H t.val t.isLt)).dv.congr fun r hr j _ => ?_
  simp only [wgt_eq, head_eq, tile_eq]

/-! ## The result arrays -/

theorem final_dq {G : FVec Ideal S8192x4096 .f32} (hG : ∀ (n : Fin 8192) (h : Fin 16) (j : Fin 256), G (ix2 n ⟨h.val * 256 + j.val, by omega⟩) = (A.dq n h j : EReal)) :
    (dats m 0 c).arrAt 6 cfg0.N = G := by
  refine (dats m 0 c).arrAt_eq_of_covers 6 _ (by decide +kernel) fun t hf y => ?_
  blk_simp
  rw [after_6]
  obtain ⟨r, j, rfl⟩ : ∃ (r : Fin 8192) (j : Fin 256), y = ix2 r j := ⟨y 0, y 1, eq_ix2 y⟩
  have h7 := (flush0_6 t).mp hf
  have ht : t.val < 128 := Nat.lt_of_lt_of_eq t.isLt N_0
  refine (stAt_dq m c H t r j).trans (Eq.trans ?_ ((hG r ⟨t.val / 8, by omega⟩ j).symm.trans (congrArg G ?_)))
  · rw [h7, Args.dq]
    refine congrArg _ ?_
    show ∑ k ∈ Finset.range 8192, A.ds (t.val / 8) r k * A.keyP (t.val / 8) k j = _
    unfold Args.keyP
    split
    · rfl
    · simp only [mul_zero, Finset.sum_const_zero]
  · blk_ext [idx_6, head_eq]

theorem final_dkv {G : FVec Ideal S8192x4096 .bf16} (hG : ∀ (k : Fin 8192) (h : Fin 16) (j : Fin 256), G (ix2 k ⟨h.val * 256 + j.val, by omega⟩) = (A.dkv k h j : EReal)) :
    (dats m 0 c).arrAt 7 cfg0.N = G := by
  refine (dats m 0 c).arrAt_eq_of_covers 7 _ (by decide +kernel) fun t hf y => ?_
  blk_simp
  rw [after_7]
  obtain ⟨r, j, rfl⟩ : ∃ (r : Fin 1024) (j : Fin 256), y = ix2 r j := ⟨y 0, y 1, eq_ix2 y⟩
  have ht : t.val < 128 := Nat.lt_of_lt_of_eq t.isLt N_0
  refine (outKV_holds (stAt_dk m c H t) (stAt_dv m c H t) r j).trans
    (Eq.trans ?_ ((hG ⟨1024 * (t.val % 8) + r.val, by omega⟩ ⟨t.val / 8, by omega⟩ j).symm.trans (congrArg G ?_)))
  · rw [Args.dkv]
    refine congrArg _ ?_
    show (if j.val < 128 then _ else _) = _
    by_cases hj : j.val < 128
    · have hj' : j.val < 192 := by omega
      simp only [if_pos hj, Args.qP, if_pos hj']
    · simp only [if_neg hj]
  · blk_ext [idx_7, head_eq, tile_eq]

theorem final_dkp {G : FVec Ideal S16x8192x128 .f32} (hG : ∀ (h : Fin 16) (k : Fin 8192) (j : Fin 128), G (ix3 h k j) = (A.dkp h k j : EReal)) :
    (dats m 0 c).arrAt 8 cfg0.N = G := by
  refine (dats m 0 c).arrAt_eq_of_covers 8 _ (by decide +kernel) fun t hf y => ?_
  blk_simp
  rw [after_8]
  obtain ⟨z, r, j, rfl⟩ : ∃ (z : Fin 1) (r : Fin 1024) (j : Fin 128), y = ix3 z r j := ⟨y 0, y 1, y 2, eq_ix3 y⟩
  have ht : t.val < 128 := Nat.lt_of_lt_of_eq t.isLt N_0
  obtain rfl : z = 0 := Subsingleton.elim _ _
  refine (outKP_holds (stAt_dk m c H t) r j).trans
    (Eq.trans ?_ ((hG ⟨t.val / 8, by omega⟩ ⟨1024 * (t.val % 8) + r.val, by omega⟩ j).symm.trans (congrArg G ?_)))
  · rw [Args.dkp]
    refine congrArg _ ?_
    by_cases hj : j.val < 64
    · have hj' : 128 + j.val < 192 := by omega
      simp only [if_pos hj, Args.qP, if_pos hj']
    · have hj' : ¬ 128 + j.val < 192 := by omega
      simp only [if_neg hj, Args.qP, if_neg hj', mul_zero, Finset.sum_const_zero]
  · blk_ext [idx_8, head_eq, tile_eq]

end Cert.KernelIdeal.Attn

end
-- ==== Proof.Pre.lean ====
/- The precondition read: every entry of the four arguments is a real number. -/
module

public import proofs.«01_k».proof.Defs
public import proofs.«01_k».proof.Proof.Gen.Pre_finite
public import proofs.«01_k».proof.Proof.Gen.KernelIdeal
public import proofs.«01_k».proof.Proof.Final

@[expose] public section

noncomputable section

namespace Cert.KernelIdeal.Attn

open Idealize.ShloMosaic Idealize.SL Idealize.SL.Sem Gen
open Cert.Attn
open Cert.ReferenceIdeal.Attn (HoldsArgs)

/-- A number whose magnitude is below infinity is real. -/
theorem real_of_lt {x : EReal} (h : Ideal.cmp .olt (max x (-x)) (Ideal.ofBits .f32 0x7F800000#32) = 1#1) : x = (x.toReal : EReal) := by
  rw [posInf_eq] at h
  have h' : max x (-x) < ⊤ := by
    by_contra hn
    simp [Ideal.cmp, hn] at h
  have h1 : x ≠ ⊤ := ((le_max_left _ _).trans_lt h').ne
  have h2 : x ≠ ⊥ := fun e => by simp [e] at h'
  exact (EReal.coe_toReal h1 h2).symm

/-- Where the condition prints all ones, every entry is real. -/
theorem reals {s : Shape} (hb : Cert.Pre_finite.S_.BroadcastsInDim s ![]) (x : FVec Ideal s .f32)
    (h : cmpf .olt (Host.absf x) (broadcastInDim s ![] hb (constant Cert.Pre_finite.S_ .f32 0x7F800000#32)) = fun _ => 1#1) (i : s.Idx) :
    x i = ((x i).toReal : EReal) :=
  real_of_lt (congrFun h i)

/-- The real numbers of an array's entries. -/
def num2 {a b : ℕ} (x : (⟨2, ![a, b]⟩ : Shape).Idx → EReal) (i j : ℕ) : ℝ := if h : i < a ∧ j < b then (x (ix2 ⟨i, h.1⟩ ⟨j, h.2⟩)).toReal else 0
def num3 {a b d : ℕ} (x : (⟨3, ![a, b, d]⟩ : Shape).Idx → EReal) (i j k : ℕ) : ℝ :=
  if h : i < a ∧ j < b ∧ k < d then (x (ix3 ⟨i, h.1⟩ ⟨j, h.2.1⟩ ⟨k, h.2.2⟩)).toReal else 0

theorem num2_eq {a b : ℕ} {x : (⟨2, ![a, b]⟩ : Shape).Idx → EReal} (hx : ∀ i, x i = ((x i).toReal : EReal)) (i : Fin a) (j : Fin b) :
    x (ix2 i j) = (num2 x i j : EReal) := by
  rw [num2, dif_pos ⟨i.isLt, j.isLt⟩]; exact hx _

theorem num3_eq {a b d : ℕ} {x : (⟨3, ![a, b, d]⟩ : Shape).Idx → EReal} (hx : ∀ i, x i = ((x i).toReal : EReal)) (i : Fin a) (j : Fin b) (k : Fin d) :
    x (ix3 i j k) = (num3 x i j k : EReal) := by
  rw [num3, dif_pos ⟨i.isLt, j.isLt, k.isLt⟩]; exact hx _

/-- The arguments' numbers. -/
def args (m : (ℓ : Loc nD τ sig) → Buf (Elt Ideal) ℓ) (c : Dev nD) : Args where
  q := num3 (arg0 m c)
  kv := num3 (arg1 m c)
  kp := num2 (arg2 m c)
  ct := num2 (arg3 m c)

theorem holds_of_pre (m : (ℓ : Loc nD τ sig) → Buf (Elt Ideal) ℓ) (h : Cert.Pre_KernelIdeal_finite m) (c : Dev nD) :
    HoldsArgs (args m c) (arg0 m c) (arg1 m c) (arg2 m c) (arg3 m c) where
  q := num3_eq (reals _ _ (h c).1)
  kv := num3_eq (reals _ _ (h c).2.1)
  kp := num2_eq (reals _ _ (h c).2.2.1)
  ct := num2_eq (reals _ _ (h c).2.2.2)

end Cert.KernelIdeal.Attn

end
-- ==== Proof.RefOut.lean ====
/- The reference's results at an index, over the reals. -/
module

public import proofs.«01_k».proof.Proof.Reads

@[expose] public section

noncomputable section

namespace Cert.ReferenceIdeal.Attn

open Idealize.ShloMosaic Idealize.SL Idealize.SL.Sem Gen
open Cert.Attn
open scoped BigOperators

variable {A : Args} {a0 : FVec Ideal S8192x16x192 .f32} {a1 : FVec Ideal S8192x16x256 .f32} {a2 : FVec Ideal S8192x64 .f32}
  {a3 : FVec Ideal S8192x2048 .f32} (H : HoldsArgs A a0 a1 a2 a3)
include H

theorem dqArr_holds {ds : FVec Ideal S16x8192x8192 .f32} (hds : ∀ h n k, ds (ix3 h n k) = (A.ds h.val n.val k.val : EReal)) (n : Fin 8192) (h : Fin 16) (j : Fin 256) :
    dqArr ds (kArr a1 a2) (ix2 n ⟨h.val * 256 + j.val, by omega⟩) = (A.dq n h j : EReal) := by
  generalize hk : kArr a1 a2 = x
  have hk' : ∀ k h d, x (ix3 k h d) = (A.key k.val h.val d.val : EReal) := by rw [← hk]; exact kArr_holds H
  pointwise [dqArr]
  unfold Args.dq
  split
  case isTrue hj => exact (sum_coe (fun k => A.ds h n k * A.key k h j) _ fun k => by rw [hds, hk', EReal.coe_mul])
  case isFalse => exact sitofp_zero32

theorem dkArr_holds {ds : FVec Ideal S16x8192x8192 .f32} (hds : ∀ h n k, ds (ix3 h n k) = (A.ds h.val n.val k.val : EReal)) (k : Fin 8192) (h : Fin 16) (j : Fin 192) :
    dkArr ds a0 (ix3 k h j) = ((∑ n ∈ Finset.range 8192, A.ds h n k * A.q n h j : ℝ) : EReal) := by
  pointwise [dkArr]
  exact sum_coe (fun n => A.ds h n k * A.q n h j) _ fun n => by rw [hds, H.q, EReal.coe_mul]

theorem dvArr_holds {p : FVec Ideal S16x8192x8192 .f32} (hp : ∀ h n k, p (ix3 h n k) = (A.pr h.val n.val k.val : EReal)) (k : Fin 8192) (h : Fin 16) (j : Fin 128) :
    dvArr p a3 (ix3 k h j) = ((∑ n ∈ Finset.range 8192, A.pr h n k * A.ct n (h * 128 + j) : ℝ) : EReal) := by
  generalize hc : ctArr a3 = x
  have hc' : ∀ h d n, x (ix3 h d n) = (A.ct n.val (h.val * 128 + d.val) : EReal) := by rw [← hc]; exact ctArr_holds H
  unfold dvArr
  rw [hc]
  pointwise
  exact sum_coe (fun n => A.pr h n k * A.ct n (h * 128 + j)) _ fun n => by rw [hc', hp, mul_comm, EReal.coe_mul]

omit H in
/-- A head's keys' gradient next to its values'. -/
theorem kv_read (dv : FVec Ideal S8192x16x128 .f32) (dk : FVec Ideal S8192x16x192 .f32) (k : Fin 8192) (h : Fin 16) (j : Fin 256) :
    (truncf .bf16 (shapeCast S8192x4096 (addf
      (pad S8192x16x256 ![0, 0, 128] ![0, 0, 0] ![0, 0, 0] dv (constant S_ .f32 0x00000000#32) pads_S8192x16x128_S8192x16x256_000_000_12800 h_S_)
      (pad S8192x16x256 ![0, 0, 0] ![0, 0, 128] ![0, 0, 0] (extractStridedSlice S8192x16x128 ![0, 0, 0] dk slices_S8192x16x192_S8192x16x128_0_0_0)
        (constant S_ .f32 0x00000000#32) pads_S8192x16x128_S8192x16x256_000_000_01280 h_S_))
      shapeCasts_S8192x16x256_S8192x4096) bitsLt_bf16_f32 : FVec Ideal S8192x4096 .bf16) (ix2 k ⟨h.val * 256 + j.val, by omega⟩)
      = if hj : j.val < 128 then dk (ix3 k h ⟨j.val, by omega⟩) else dv (ix3 k h ⟨j.val - 128, by omega⟩) := by
  pointwise
  by_cases hj : j.val < 128
  · rw [dif_pos hj, dif_pos hj, dif_neg (by omega), zero_add]
  · rw [dif_neg hj, dif_neg hj, dif_pos (by omega), add_zero]

omit H in
/-- The shared columns' gradient, a head's. -/
theorem kp_read (dk : FVec Ideal S8192x16x192 .f32) (h : Fin 16) (k : Fin 8192) (j : Fin 128) :
    pad S16x8192x128 ![0, 0, 0] ![0, 0, 64] ![0, 0, 0] (transpose S16x8192x64 [1, 0, 2]
      (extractStridedSlice S8192x16x64 ![0, 0, 128] dk slices_S8192x16x192_S8192x16x64_0_0_128) transposes_S8192x16x64_S16x8192x64_1_0_2)
      (sitofp .f32 (constantI S_ 32 0#32)) pads_S16x8192x64_S16x8192x128_000_000_0640 h_S_ (ix3 h k j)
      = if hj : j.val < 64 then dk (ix3 k h ⟨128 + j.val, by omega⟩) else 0 := by
  pointwise
  split
  · rfl
  · exact sitofp_zero32

omit H

/-- The reference's results. -/
theorem out_holds (m : (ℓ : Loc nD τ sig) → Buf (Elt Ideal) ℓ) (c : Dev nD) (H : HoldsArgs A (arg0 m c) (arg1 m c) (arg2 m c) (arg3 m c)) :
    (∀ (n : Fin 8192) (h : Fin 16) (j : Fin 256), Value.res_out0 m c (ix2 n ⟨h.val * 256 + j.val, by omega⟩) = (A.dq n h j : EReal))
    ∧ (∀ (k : Fin 8192) (h : Fin 16) (j : Fin 256), Value.res_out1 m c (ix2 k ⟨h.val * 256 + j.val, by omega⟩) = (A.dkv k h j : EReal))
    ∧ (∀ (h : Fin 16) (k : Fin 8192) (j : Fin 128), Value.res_out2 m c (ix3 h k j) = (A.dkp h k j : EReal)) := by
  have hu : ∀ (h : Fin 16) (n : Fin 8192), ∃ M : ℝ, ∀ k : Fin 8192, refU m c (ix3 h n k) = (A.exM M h n k : EReal) := fun h n => by
    obtain ⟨M, hM⟩ := mArr'_holds H h n
    exact ⟨M, uArr_holds H hM⟩
  have hds : ∀ h n k, refDs m c (ix3 h n k) = (A.ds h.val n.val k.val : EReal) := fun h n k => by
    obtain ⟨M, hM⟩ := hu h n
    exact dsArr_holds H hM (dpArr_holds H h n) k
  have hp : ∀ h n k, pArr (refU m c) (ix3 h n k) = (A.pr h.val n.val k.val : EReal) := fun h n k => by
    obtain ⟨M, hM⟩ := hu h n
    exact pArr_holds H hM k
  refine ⟨fun n h j => ?_, fun k h j => ?_, fun h k j => ?_⟩
  · rw [out0_eq]; exact dqArr_holds H hds n h j
  · rw [out1_eq, kv_read, Args.dkv]
    split
    · exact dkArr_holds H hds _ _ _
    · exact dvArr_holds H hp _ _ _
  · rw [out2_eq, kp_read, Args.dkp]
    split
    · exact dkArr_holds H hds _ _ _
    · rfl

end Cert.ReferenceIdeal.Attn

end
-- ==== Proof.Value.lean ====
/- The kernel's program leaves the reference's results. -/
module

public import proofs.«01_k».proof.Proof.Pre
public import proofs.«01_k».proof.Proof.RefOut

@[expose] public section

noncomputable section

namespace Cert.KernelIdeal.Attn

open Idealize.ShloMosaic Idealize.SL Idealize.SL.Sem Gen
open Idealize.ShloMosaic.Pipeline (Dat)

/-- The run, its result arrays and its arguments read. -/
theorem run_results {F : FTy → Type} [FloatOps F] (m : (ℓ : Loc nD τ sig) → Buf (Elt F) ℓ) (g : Dev nD → PrngReg) :
    θ_run (defs (F := F)) (onTc (τ := τ) (main (F := F))) ⟨m, fun _ => 0, g⟩ fun r => ∀ c : Dev nD,
      r.2.mem ((c.tc : Thread nD τ).loc main_v67_0) = (dats m 0 c).arrAt 6 cfg0.N
      ∧ r.2.mem ((c.tc : Thread nD τ).loc main_v67_1) = (dats m 0 c).arrAt 7 cfg0.N
      ∧ r.2.mem ((c.tc : Thread nD τ).loc main_v67_2) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h.1 c).1 6, (h.1 c).1 7, (h.1 c).1 8,
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c)⟩) (run_main m g)

/-- The run, its arguments unchanged and every semaphore back at zero. -/
theorem run_frame {F : FTy → Type} [FloatOps F] (m : (ℓ : Loc nD τ sig) → Buf (Elt F) ℓ) (g : Dev nD → PrngReg) :
    θ_run (defs (F := F)) (onTc (τ := τ) (main (F := F))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun _ h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c)⟩, h.2⟩) (run_main m g)

/-- The value claim. -/
theorem value : Cert.algebraic_KernelIdeal_ReferenceIdeal_pre_finite := fun m g m' g' hpre hargs => by
  refine ⟨_, _, _, run_results m g, (θ_run Cert.ReferenceIdeal.defs _ _).mono (fun r h c => ?_) (Cert.ReferenceIdeal.Value.run m' g')⟩
  have H := holds_of_pre m hpre c
  have H' : Cert.ReferenceIdeal.Attn.HoldsArgs (args m c) (Cert.ReferenceIdeal.Attn.arg0 m' c) (Cert.ReferenceIdeal.Attn.arg1 m' c)
      (Cert.ReferenceIdeal.Attn.arg2 m' c) (Cert.ReferenceIdeal.Attn.arg3 m' c) := by
    have e0 : Cert.ReferenceIdeal.Attn.arg0 m' c = arg0 m c := (hargs c).1
    have e1 : Cert.ReferenceIdeal.Attn.arg1 m' c = arg1 m c := (hargs c).2.1
    have e2 : Cert.ReferenceIdeal.Attn.arg2 m' c = arg2 m c := (hargs c).2.2.1
    have e3 : Cert.ReferenceIdeal.Attn.arg3 m' c = arg3 m c := (hargs c).2.2.2
    rw [e0, e1, e2, e3]
    exact H
  obtain ⟨r0, r1, r2⟩ := Cert.ReferenceIdeal.Attn.out_holds m' c H'
  exact ⟨(h c).1.trans (final_dq m c H r0).symm, (h c).2.1.trans (final_dkv m c H r1).symm, (h c).2.2.1.trans (final_dkp m c H r2).symm, (h c).2.2.2⟩

end Cert.KernelIdeal.Attn

end
-- ==== Proof.Products.lean ====
/- What the programs of one matrix product share: an array's entry at two numbers, the sum a carried scratch builds block by
   block, and the logistic function written with a hyperbolic tangent. -/
module

public import Idealize.ShloMosaic.Lib.Pointwise
public import Idealize.ShloMosaic.PureOps.Ideal

@[expose] public section

noncomputable section

namespace Cert.Products

open Idealize.ShloMosaic
open scoped BigOperators

/-- The zero offsets of a whole block. -/
theorem hz : (![0, 0] : Fin 2 → Nat) = fun _ => 0 := funext fun a => by fin_cases a <;> rfl

/-- The entry of a two-dimensional array at two numbers; zero outside the array. -/
def at2 {a b : ℕ} (x : (⟨2, ![a, b]⟩ : Shape).Idx → EReal) (i j : ℕ) : EReal :=
  if h : i < a ∧ j < b then x (ix2 ⟨i, h.1⟩ ⟨j, h.2⟩) else 0

theorem at2_eq {a b : ℕ} (x : (⟨2, ![a, b]⟩ : Shape).Idx → EReal) {i j : ℕ} (hi : i < a) (hj : j < b) : at2 x i j = x (ix2 ⟨i, hi⟩ ⟨j, hj⟩) :=
  dif_pos ⟨hi, hj⟩

theorem at2_fin {a b : ℕ} (x : (⟨2, ![a, b]⟩ : Shape).Idx → EReal) (i : Fin a) (j : Fin b) : at2 x i j = x (ix2 i j) :=
  at2_eq x i.isLt j.isLt

/-- A value added to block by block along a run of `nk` points, started anew at the run's first point, is the sum of all the
    blocks met so far. -/
theorem blocks_sum {N nk T : ℕ} (hk : 0 < nk) (s : (n : ℕ) → n < N → EReal) (f : ℕ → ℕ → EReal)
    (h0 : ∀ n h, n % nk = 0 → s n h = ∑ r : Fin T, f (n / nk) (T * (n % nk) + r.val))
    (hs : ∀ n (h : n < N), ¬n % nk = 0 → s n h = s (n - 1) (Nat.lt_of_le_of_lt (Nat.sub_le _ _) h) + ∑ r : Fin T, f (n / nk) (T * (n % nk) + r.val)) :
    ∀ n h, s n h = ∑ k ∈ Finset.range (T * (n % nk + 1)), f (n / nk) k := by
  have step : ∀ n, ∑ k ∈ Finset.range (T * (n % nk + 1)), f (n / nk) k
      = ∑ k ∈ Finset.range (T * (n % nk)), f (n / nk) k + ∑ r : Fin T, f (n / nk) (T * (n % nk) + r.val) := fun n => by
    rw [Nat.mul_succ, Finset.sum_range_add, Finset.sum_range (n := T)]
  intro n
  induction n with
  | zero =>
    intro h
    rw [step, h0 0 h (Nat.zero_mod _), Nat.zero_mod, Nat.mul_zero, Finset.range_zero, Finset.sum_empty, zero_add]
  | succ n ih =>
    intro h
    by_cases e : (n + 1) % nk = 0
    · rw [step, h0 _ h e, e, Nat.mul_zero, Finset.range_zero, Finset.sum_empty, zero_add]
    · have e1 : (n + 1) % nk = n % nk + 1 := by
        have hlt := Nat.mod_lt n hk
        rw [Nat.add_mod] at e ⊢
        rcases Nat.lt_or_ge 1 nk with h1 | h1
        · rw [Nat.mod_eq_of_lt h1] at e ⊢
          rcases Nat.lt_or_ge (n % nk + 1) nk with h2 | h2
          · exact Nat.mod_eq_of_lt h2
          · exact absurd (by rw [show n % nk + 1 = nk by omega, Nat.mod_self]) e
        · exact absurd (by rw [show nk = 1 by omega, Nat.mod_one]) e
      have e2 : (n + 1) / nk = n / nk := by
        have a := Nat.div_add_mod (n + 1) nk
        have b := Nat.div_add_mod n nk
        rw [e1] at a
        exact Nat.eq_of_mul_eq_mul_left hk (by omega)
      rw [step, hs _ h e]
      refine congrArg (· + _) ?_
      rw [e1, e2]
      exact ih (Nat.lt_of_succ_lt h)

theorem half_bits : Ideal.ofBits .f32 0x3F000000#32 = ((1 / 2 : ℝ) : EReal) := by
  have h0 : (1056964608 >>> 23 : ℕ) = 126 := by decide
  have h1 : ¬BitVec.extractLsb' 31 1 1056964608#32 = 1#1 := by decide
  simp only [Ideal.ofBits, Ideal.ieee]
  rw [if_neg (by decide), if_neg (by decide)]
  refine congrArg _ ?_
  simp [h0, h1]
  norm_num

/-- The logistic function, with a hyperbolic tangent or with an exponential. -/
theorem logistic_eq (x : EReal) :
    ((1 / 2 : ℝ) : EReal) * Ideal.tanh (((1 / 2 : ℝ) : EReal) * x) + ((1 / 2 : ℝ) : EReal) = Ideal.div 1 (1 + Ideal.exp (-x)) := by
  have h2 : (0 : ℝ) < 1 / 2 := by norm_num
  induction x with
  | bot =>
    rw [EReal.coe_mul_bot_of_pos h2, EReal.neg_bot]
    show ((1 / 2 : ℝ) : EReal) * ((-1 : ℝ) : EReal) + _ = Ideal.div 1 (1 + ⊤)
    rw [show (1 : EReal) + ⊤ = ⊤ from rfl, Ideal.div, if_neg (by simp), EReal.inv_top, mul_zero, ← EReal.coe_mul, ← EReal.coe_add]
    norm_num
  | top =>
    rw [EReal.coe_mul_top_of_pos h2, EReal.neg_top]
    show ((1 / 2 : ℝ) : EReal) * 1 + _ = Ideal.div 1 (1 + 0)
    rw [add_zero, Ideal.div, if_neg one_ne_zero, mul_one, ← EReal.coe_add, ← EReal.coe_one, ← EReal.coe_inv, ← EReal.coe_mul]
    norm_num
  | coe r =>
    show ((1 / 2 : ℝ) : EReal) * Ideal.tanh (((1 / 2 : ℝ) : EReal) * (r : EReal)) + _ = Ideal.div 1 (1 + ((Real.exp (-r) : ℝ) : EReal))
    rw [← EReal.coe_mul]
    show ((1 / 2 : ℝ) : EReal) * ((Real.tanh (1 / 2 * r) : ℝ) : EReal) + _ = _
    have hp : (0 : ℝ) < 1 + Real.exp (-r) := by positivity
    have hn : ((1 + Real.exp (-r) : ℝ) : EReal) ≠ 0 := by exact_mod_cast hp.ne'
    rw [← EReal.coe_one, ← EReal.coe_add, ← EReal.coe_mul, ← EReal.coe_add, Ideal.div, if_neg hn, ← EReal.coe_inv, ← EReal.coe_mul]
    refine congrArg _ ?_
    have hr : Real.exp (-r) = Real.exp (-(1 / 2 * r)) / Real.exp (1 / 2 * r) := by rw [← Real.exp_sub]; ring_nf
    rw [Real.tanh_eq_sinh_div_cosh, Real.sinh_eq, Real.cosh_eq, hr]
    have h3 := Real.exp_pos (1 / 2 * r)
    have h4 := Real.exp_pos (-(1 / 2 * r))
    field_simp
    ring

end Cert.Products

end
-- ==== Proof.GradDown.lean ====
/- The gradient of the down projection's weights: the kernel's result is the reference's. -/
module

public import proofs.«01_k».proof.Defs
public import proofs.«01_k».proof.Proof.Products
public import proofs.«01_k».proof.Proof.Gen.GradDown
public import proofs.«01_k».proof.Proof.Gen.GradDownIdeal.Value
public import proofs.«01_k».proof.Proof.Gen.RefGradDownIdeal.Run
public import Idealize.ShloMosaic.Lib.Pipeline.ValueKit
public import Idealize.ShloMosaic.Lib.Quiescent

@[expose] public section

noncomputable section

namespace Cert.GradDownIdeal.Grad

open Idealize.ShloMosaic Idealize.ShloMosaic.TcCoe Idealize.SL Idealize.SL.Sem Gen Cert.Products
open Idealize.ShloMosaic.Pipeline (Dat)
open scoped BigOperators

/-! ## A block's product -/

theorem pay_at (x0 : Vec Ideal S2048x512 .bf16) (x1 : Vec Ideal S2048x1024 .bf16) (p : Fin 512) (q : Fin 1024) :
    k0_pay1 x0 x1 (ix2 p q) = ∑ r : Fin 2048, at2 x0 r p * at2 x1 r q := by
  simp only [at2_fin]
  pointwise [k0_pay1]

/-! ## The cases' values -/

section Cases
variable {F : FTy → Type} [FloatOps F]

theorem scr_A (c : Dev nD) (i : grid0.Coords) (a0 : Memref sig .tc .vmem S2048x512 .bf16) (h0 : a0.IsWhole) (a1 : Memref sig .tc .vmem S2048x1024 .bf16) (h1 : a1.IsWhole)
    (a2 : Memref sig .tc .vmem S512x1024 .f32) (h2 : a2.IsWhole) (a3 : Memref sig .tc .vmem S512x1024 .f32) (h3 : a3.IsWhole)
    (c0 : cond0_0 i) (c1 : ¬cond0_1 i) (c2 : ¬cond0_2 i) (x0 : Vec F S2048x512 .bf16) (x1 : Vec F S2048x1024 .bf16) :
    sout0_A_0 c i a0 h0 a1 h1 a2 h2 a3 h3 c0 c1 c2 x0 x1 = k0_pay1 x0 x1 := by
  unfold sout0_A_0
  rw [View.read_writes_eq_canon _ _ _ (scover0_A_0 c i a0 h0 a1 h1 a2 h2 a3 h3 c0 c1 c2 x0 x1)]
  unfold kernelRun0_A
  dsimp only
  sl_unfold_words
  rw [View.canon_unit_zero hz]
  unfold k0_pay2
  simp only [View.readAt_eq_ld, h0.read_unread, h1.read_unread, View.ld_unit_zero (S := S2048x512) hz, View.ld_unit_zero (S := S2048x1024) hz, shapeCast_self]

theorem scr_B (c : Dev nD) (i : grid0.Coords) (a0 : Memref sig .tc .vmem S2048x512 .bf16) (h0 : a0.IsWhole) (a1 : Memref sig .tc .vmem S2048x1024 .bf16) (h1 : a1.IsWhole)
    (a2 : Memref sig .tc .vmem S512x1024 .f32) (h2 : a2.IsWhole) (a3 : Memref sig .tc .vmem S512x1024 .f32) (h3 : a3.IsWhole)
    (c0 : ¬cond0_0 i) (c1 : cond0_1 i) (c2 : ¬cond0_2 i) (x0 : Vec F S2048x512 .bf16) (x1 : Vec F S2048x1024 .bf16) (xs : Vec F S512x1024 .f32) :
    sout0_B_0 c i a0 h0 a1 h1 a2 h2 a3 h3 c0 c1 c2 x0 x1 xs = addf xs (k0_pay1 x0 x1) := by
  unfold sout0_B_0
  rw [View.read_writes_eq_canon _ _ _ (scover0_B_0 c i a0 h0 a1 h1 a2 h2 a3 h3 c0 c1 c2 x0 x1 xs)]
  unfold kernelRun0_B
  dsimp only
  sl_unfold_words
  rw [View.canon_unit_zero hz]
  unfold k0_pay3
  simp only [View.readAt_eq_ld, h0.read_unread, h1.read_unread, h3.read_unread, View.ld_unit_zero (S := S2048x512) hz, View.ld_unit_zero (S := S2048x1024) hz,
    View.ld_unit_zero (S := S512x1024) hz, shapeCast_self]

theorem scr_C (c : Dev nD) (i : grid0.Coords) (a0 : Memref sig .tc .vmem S2048x512 .bf16) (h0 : a0.IsWhole) (a1 : Memref sig .tc .vmem S2048x1024 .bf16) (h1 : a1.IsWhole)
    (a2 : Memref sig .tc .vmem S512x1024 .f32) (h2 : a2.IsWhole) (a3 : Memref sig .tc .vmem S512x1024 .f32) (h3 : a3.IsWhole)
    (c0 : ¬cond0_0 i) (c1 : cond0_1 i) (c2 : cond0_2 i) (x0 : Vec F S2048x512 .bf16) (x1 : Vec F S2048x1024 .bf16) (xs : Vec F S512x1024 .f32) :
    sout0_C_0 c i a0 h0 a1 h1 a2 h2 a3 h3 c0 c1 c2 x0 x1 xs = addf xs (k0_pay1 x0 x1) := by
  unfold sout0_C_0
  rw [View.read_writes_eq_canon _ _ _ (scover0_C_0 c i a0 h0 a1 h1 a2 h2 a3 h3 c0 c1 c2 x0 x1 xs)]
  unfold kernelRun0_C
  dsimp only
  sl_unfold_words
  rw [View.canon_unit_zero hz]
  unfold k0_pay3
  simp only [View.readAt_eq_ld, h0.read_unread, h1.read_unread, h3.read_unread, View.ld_unit_zero (S := S2048x512) hz, View.ld_unit_zero (S := S2048x1024) hz,
    View.ld_unit_zero (S := S512x1024) hz, shapeCast_self]

theorem out_C (c : Dev nD) (i : grid0.Coords) (a0 : Memref sig .tc .vmem S2048x512 .bf16) (h0 : a0.IsWhole) (a1 : Memref sig .tc .vmem S2048x1024 .bf16) (h1 : a1.IsWhole)
    (a2 : Memref sig .tc .vmem S512x1024 .f32) (h2 : a2.IsWhole) (a3 : Memref sig .tc .vmem S512x1024 .f32) (h3 : a3.IsWhole)
    (c0 : ¬cond0_0 i) (c1 : cond0_1 i) (c2 : cond0_2 i) (x0 : Vec F S2048x512 .bf16) (x1 : Vec F S2048x1024 .bf16) (xs : Vec F S512x1024 .f32) :
    out0_C_2 c i a0 h0 a1 h1 a2 h2 a3 h3 c0 c1 c2 x0 x1 xs = sout0_C_0 c i a0 h0 a1 h1 a2 h2 a3 h3 c0 c1 c2 x0 x1 xs := by
  rw [scr_C]
  unfold out0_C_2
  rw [View.read_writes_eq_canon _ _ _ (cover0_C_2 c i a0 h0 a1 h1 a2 h2 a3 h3 c0 c1 c2 x0 x1 xs)]
  unfold kernelRun0_C
  dsimp only
  sl_unfold_words
  rw [View.canon_unit_zero hz, View.readCov_unit_zero (S := S512x1024) _ hz]
  unfold k0_pay3
  simp only [View.readAt_eq_ld, h0.read_unread, h1.read_unread, h3.read_unread, View.ld_unit_zero (S := S2048x512) hz, View.ld_unit_zero (S := S2048x1024) hz,
    View.ld_unit_zero (S := S512x1024) hz, shapeCast_self]

end Cases

/-! ## The blocks -/

variable (m : (ℓ : Loc nD τ sig) → Buf (Elt Ideal) ℓ) (c : Dev nD)

theorem idx_0 : ∀ t : Fin cfg0.N, win0_0.index t = ![t.val % 4, t.val / 8] := by decide +kernel
theorem idx_1 : ∀ t : Fin cfg0.N, win0_1.index t = ![t.val % 4, t.val / 4 % 2] := by decide +kernel
theorem idx_2 : ∀ t : Fin cfg0.N, win0_2.index t = ![t.val / 8, t.val / 4 % 2] := by decide +kernel

def arg0 : FVec Ideal S8192x5632 .bf16 := m ((c.tc : Thread nD τ).loc main_arg0)
def arg1 : FVec Ideal S8192x2048 .bf16 := m ((c.tc : Thread nD τ).loc main_arg1)

theorem blk_0 (t : Fin cfg0.N) (r : Fin 2048) (p : Fin 512) : at2 (iblk m c 0 t) r p = at2 (arg0 m c) (2048 * (t.val % 4) + r) (512 * (t.val / 8) + p) := by
  have ht : t.val < 88 := Nat.lt_of_lt_of_eq t.isLt N_0
  rw [at2_fin, at2_eq _ (by omega) (by omega)]
  have e : V m c main_arg0 = arg0 m c := V_main_arg0 m c
  rw [← e]
  blk_simp [iblk]
  refine congrArg (V m c main_arg0) ?_
  blk_ext [idx_0]

theorem blk_1 (t : Fin cfg0.N) (r : Fin 2048) (q : Fin 1024) : at2 (iblk m c 1 t) r q = at2 (arg1 m c) (2048 * (t.val % 4) + r) (1024 * (t.val / 4 % 2) + q) := by
  have ht : t.val < 88 := Nat.lt_of_lt_of_eq t.isLt N_0
  rw [at2_fin, at2_eq _ (by omega) (by omega)]
  have e : V m c main_arg1 = arg1 m c := V_main_arg1 m c
  rw [← e]
  blk_simp [iblk]
  refine congrArg (V m c main_arg1) ?_
  blk_ext [idx_1]

/-- The addends of the entry at place `p`, `q` of the result's block `b`. -/
def term (p q b k : ℕ) : EReal := at2 (arg0 m c) k (512 * (b / 2) + p) * at2 (arg1 m c) k (1024 * (b % 2) + q)

theorem point (t : Fin cfg0.N) (p : Fin 512) (q : Fin 1024) :
    k0_pay1 (iblk m c 0 t) (iblk m c 1 t) (ix2 p q) = ∑ r : Fin 2048, term m c p q (t.val / 4) (2048 * (t.val % 4) + r) := by
  have e : t.val / 4 / 2 = t.val / 8 := by omega
  refine (pay_at (iblk m c 0 t) (iblk m c 1 t) p q).trans (Finset.sum_congr rfl fun r _ => ?_)
  rw [blk_0, blk_1, term, e]

/-- The scratch after every point. -/
theorem scr (p : Fin 512) (q : Fin 1024) (n : ℕ) (h : n < cfg0.N) :
    (outsAt0 m c n h).2 (ix2 p q) = ∑ k ∈ Finset.range (2048 * (n % 4 + 1)), term m c p q (n / 4) k := by
  refine blocks_sum (by decide) (fun n h => (outsAt0 m c n h).2 (ix2 p q)) (term m c p q) (fun n h h0 => ?_) (fun n h h0 => ?_) n h
  · rw [outsAt0_A m c ⟨n, h⟩ h0 (by dsimp only; omega) (by dsimp only; omega)]
    dsimp only
    rw [scr_A]
    exact point m c ⟨n, h⟩ p q
  · rw [← point m c ⟨n, h⟩ p q]
    by_cases h2 : n % 4 = 3
    · rw [outsAt0_C m c ⟨n, h⟩ h0 (by dsimp only; omega) h2]
      dsimp only
      rw [scr_C]
      rfl
    · rw [outsAt0_B m c ⟨n, h⟩ h0 (by dsimp only; omega) h2]
      dsimp only
      rw [scr_B]
      rfl

/-- The result array. -/
theorem final {G : FVec Ideal S5632x2048 .f32} (hG : ∀ (i : Fin 5632) (j : Fin 2048), G (ix2 i j) = ∑ k : Fin 8192, at2 (arg0 m c) k i * at2 (arg1 m c) k j) :
    (dats m 0 c).arrAt 2 cfg0.N = G := by
  refine (dats m 0 c).arrAt_eq_of_covers 2 _ (by decide +kernel) fun t hf y => ?_
  have ht : t.val < 88 := Nat.lt_of_lt_of_eq t.isLt N_0
  have h3 : t.val % 4 = 3 := (flush0_2 t).mp hf
  have e : (outsAt0 m c t.val t.isLt).1 = (outsAt0 m c t.val t.isLt).2 := by
    rw [outsAt0_C m c t (by omega) (by omega) h3]
    dsimp only
    rw [out_C]
  blk_simp
  rw [after0_2, e]
  obtain ⟨p, q, rfl⟩ : ∃ (p : Fin 512) (q : Fin 1024), y = ix2 p q := ⟨y 0, y 1, eq_ix2 y⟩
  refine (scr m c p q t.val t.isLt).trans (Eq.trans ?_ ((hG ⟨512 * (t.val / 8) + p.val, by omega⟩ ⟨1024 * (t.val / 4 % 2) + q.val, by omega⟩).symm.trans (congrArg G ?_)))
  · have e2 : t.val / 4 / 2 = t.val / 8 := by omega
    rw [h3, Finset.sum_range]
    simp only [term, e2]
  · blk_ext [idx_2]

/-! ## The reference -/

/-- The reference's result, entry by entry. -/
theorem ref_at (x : FVec Ideal S8192x5632 .bf16) (y : FVec Ideal S8192x2048 .bf16) (i : Fin 5632) (j : Fin 2048) :
    transpose Cert.RefGradDownIdeal.S5632x2048 [1, 0] (Host.dotGeneral Cert.RefGradDownIdeal.dot_S8192x2048_S8192x5632_S2048x5632_0_0_1_1_n_n none
      (extf .f32 y Cert.RefGradDownIdeal.Gen.bitsLt_bf16_f32) (extf .f32 x Cert.RefGradDownIdeal.Gen.bitsLt_bf16_f32)) Cert.RefGradDownIdeal.Gen.transposes_S2048x5632_S5632x2048_1_0 (ix2 i j)
    = ∑ k : Fin 8192, at2 x k i * at2 y k j := by
  simp only [at2_fin]
  pointwise
  exact Finset.sum_congr rfl fun k _ => mul_comm _ _

/-- The value claim. -/
theorem value : Cert.algebraic_GradDownIdeal_RefGradDownIdeal := fun m g m' g' _ hargs => by
  refine ⟨_, Value.run_blocks m g, (θ_run Cert.RefGradDownIdeal.defs _ _).mono (fun r h c => ?_) (Cert.RefGradDownIdeal.Value.run m' g')⟩
  refine ⟨(h c).1.trans ?_, (h c).2⟩
  rw [(hargs c).1, (hargs c).2]
  exact (final m c (ref_at (arg0 m c) (arg1 m c))).symm

/-! ## The runs -/

/-- The printed program is its idealization: over the bits their bodies are equal, -/
theorem body_eq : @Cert.GradDown.cc0_mmg_down Bits _ _ = @Cert.GradDownIdeal.cc0_mmg_down Bits _ _ := by
  unfold Cert.GradDown.cc0_mmg_down Cert.GradDownIdeal.cc0_mmg_down
  rfl

/-- so are the programs of their body labels, -/
theorem defs0_eq : Cert.GradDown.defs₀ (F := Bits) = Cert.GradDownIdeal.defs₀ (F := Bits) := by
  refine congrArg Defs.onTc ?_
  funext l a
  match l, a with
  | 0, (t, s) =>
    exact
      congrFun (congrFun (congrFun (congrFun (congrFun (congrFun (congrFun (congrFun (congrFun
      body_eq _) _) _) _) _) _) _) _) _

/-- those of all labels, the pipeline's own included, -/
theorem defs_eq : Cert.GradDown.defs (F := Bits) = Cert.GradDownIdeal.defs (F := Bits) :=
  congrArg (Pipeline.defs (Cert.GradDown.pcfgs (F := Bits))) defs0_eq

/-- and their host functions. -/
theorem main_eq : Cert.GradDown.main (F := Bits) = Cert.GradDownIdeal.main (F := Bits) := rfl

/-- So the one run serves both. -/
theorem frame : Cert.quiescent_GradDown := fun m g _ =>
  (congrArg₂ (fun D B => θ_run D (onTc (τ := Cert.GradDown.τ) B) ⟨m, fun _ => 0, g⟩ _)
    defs_eq main_eq).mpr (Cert.GradDownIdeal.Gen.frame (F := Bits) m g)

/-- The reference runs, its arguments unchanged. -/
theorem ref_frame : Cert.quiescent_RefGradDownIdeal := fun m g _ =>
  (θ_run Cert.RefGradDownIdeal.defs _ _).mono (fun r h => ⟨fun c => (h c).2, sem_eq_zero_of_no_sems (by decide) r.2⟩) (Cert.RefGradDownIdeal.Value.run m g)

end Cert.GradDownIdeal.Grad

end
-- ==== Proof.GradSsm.lean ====
/- The gradient of the state-space block's output projection: the kernel's result is the reference's. -/
module

public import proofs.«01_k».proof.Defs
public import proofs.«01_k».proof.Proof.Products
public import proofs.«01_k».proof.Proof.Gen.GradSsm
public import proofs.«01_k».proof.Proof.Gen.GradSsmIdeal.Value
public import proofs.«01_k».proof.Proof.Gen.RefGradSsmIdeal.Run
public import Idealize.ShloMosaic.Lib.Pipeline.ValueKit
public import Idealize.ShloMosaic.Lib.Quiescent

@[expose] public section

noncomputable section

namespace Cert.GradSsmIdeal.Grad

open Idealize.ShloMosaic Idealize.ShloMosaic.TcCoe Idealize.SL Idealize.SL.Sem Gen Cert.Products
open Idealize.ShloMosaic.Pipeline (Dat)
open scoped BigOperators

/-! ## A block's product -/

theorem pay_at (x0 : Vec Ideal S2048x1024 .bf16) (x1 : Vec Ideal S2048x1024 .bf16) (p : Fin 1024) (q : Fin 1024) :
    k0_pay1 x0 x1 (ix2 p q) = ∑ r : Fin 2048, at2 x0 r p * at2 x1 r q := by
  simp only [at2_fin]
  pointwise [k0_pay1]

/-! ## The cases' values -/

section Cases
variable {F : FTy → Type} [FloatOps F]

theorem scr_A (c : Dev nD) (i : grid0.Coords) (a0 : Memref sig .tc .vmem S2048x1024 .bf16) (h0 : a0.IsWhole) (a1 : Memref sig .tc .vmem S2048x1024 .bf16) (h1 : a1.IsWhole)
    (a2 : Memref sig .tc .vmem S1024x1024 .f32) (h2 : a2.IsWhole) (a3 : Memref sig .tc .vmem S1024x1024 .f32) (h3 : a3.IsWhole)
    (c0 : cond0_0 i) (c1 : ¬cond0_1 i) (c2 : ¬cond0_2 i) (x0 : Vec F S2048x1024 .bf16) (x1 : Vec F S2048x1024 .bf16) :
    sout0_A_0 c i a0 h0 a1 h1 a2 h2 a3 h3 c0 c1 c2 x0 x1 = k0_pay1 x0 x1 := by
  unfold sout0_A_0
  rw [View.read_writes_eq_canon _ _ _ (scover0_A_0 c i a0 h0 a1 h1 a2 h2 a3 h3 c0 c1 c2 x0 x1)]
  unfold kernelRun0_A
  dsimp only
  sl_unfold_words
  rw [View.canon_unit_zero hz]
  unfold k0_pay2
  simp only [View.readAt_eq_ld, h0.read_unread, h1.read_unread, View.ld_unit_zero (S := S2048x1024) hz, shapeCast_self]

theorem scr_B (c : Dev nD) (i : grid0.Coords) (a0 : Memref sig .tc .vmem S2048x1024 .bf16) (h0 : a0.IsWhole) (a1 : Memref sig .tc .vmem S2048x1024 .bf16) (h1 : a1.IsWhole)
    (a2 : Memref sig .tc .vmem S1024x1024 .f32) (h2 : a2.IsWhole) (a3 : Memref sig .tc .vmem S1024x1024 .f32) (h3 : a3.IsWhole)
    (c0 : ¬cond0_0 i) (c1 : cond0_1 i) (c2 : ¬cond0_2 i) (x0 : Vec F S2048x1024 .bf16) (x1 : Vec F S2048x1024 .bf16) (xs : Vec F S1024x1024 .f32) :
    sout0_B_0 c i a0 h0 a1 h1 a2 h2 a3 h3 c0 c1 c2 x0 x1 xs = addf xs (k0_pay1 x0 x1) := by
  unfold sout0_B_0
  rw [View.read_writes_eq_canon _ _ _ (scover0_B_0 c i a0 h0 a1 h1 a2 h2 a3 h3 c0 c1 c2 x0 x1 xs)]
  unfold kernelRun0_B
  dsimp only
  sl_unfold_words
  rw [View.canon_unit_zero hz]
  unfold k0_pay3
  simp only [View.readAt_eq_ld, h0.read_unread, h1.read_unread, h3.read_unread, View.ld_unit_zero (S := S2048x1024) hz,
    View.ld_unit_zero (S := S1024x1024) hz, shapeCast_self]

theorem scr_C (c : Dev nD) (i : grid0.Coords) (a0 : Memref sig .tc .vmem S2048x1024 .bf16) (h0 : a0.IsWhole) (a1 : Memref sig .tc .vmem S2048x1024 .bf16) (h1 : a1.IsWhole)
    (a2 : Memref sig .tc .vmem S1024x1024 .f32) (h2 : a2.IsWhole) (a3 : Memref sig .tc .vmem S1024x1024 .f32) (h3 : a3.IsWhole)
    (c0 : ¬cond0_0 i) (c1 : cond0_1 i) (c2 : cond0_2 i) (x0 : Vec F S2048x1024 .bf16) (x1 : Vec F S2048x1024 .bf16) (xs : Vec F S1024x1024 .f32) :
    sout0_C_0 c i a0 h0 a1 h1 a2 h2 a3 h3 c0 c1 c2 x0 x1 xs = addf xs (k0_pay1 x0 x1) := by
  unfold sout0_C_0
  rw [View.read_writes_eq_canon _ _ _ (scover0_C_0 c i a0 h0 a1 h1 a2 h2 a3 h3 c0 c1 c2 x0 x1 xs)]
  unfold kernelRun0_C
  dsimp only
  sl_unfold_words
  rw [View.canon_unit_zero hz]
  unfold k0_pay3
  simp only [View.readAt_eq_ld, h0.read_unread, h1.read_unread, h3.read_unread, View.ld_unit_zero (S := S2048x1024) hz,
    View.ld_unit_zero (S := S1024x1024) hz, shapeCast_self]

theorem out_C (c : Dev nD) (i : grid0.Coords) (a0 : Memref sig .tc .vmem S2048x1024 .bf16) (h0 : a0.IsWhole) (a1 : Memref sig .tc .vmem S2048x1024 .bf16) (h1 : a1.IsWhole)
    (a2 : Memref sig .tc .vmem S1024x1024 .f32) (h2 : a2.IsWhole) (a3 : Memref sig .tc .vmem S1024x1024 .f32) (h3 : a3.IsWhole)
    (c0 : ¬cond0_0 i) (c1 : cond0_1 i) (c2 : cond0_2 i) (x0 : Vec F S2048x1024 .bf16) (x1 : Vec F S2048x1024 .bf16) (xs : Vec F S1024x1024 .f32) :
    out0_C_2 c i a0 h0 a1 h1 a2 h2 a3 h3 c0 c1 c2 x0 x1 xs = sout0_C_0 c i a0 h0 a1 h1 a2 h2 a3 h3 c0 c1 c2 x0 x1 xs := by
  rw [scr_C]
  unfold out0_C_2
  rw [View.read_writes_eq_canon _ _ _ (cover0_C_2 c i a0 h0 a1 h1 a2 h2 a3 h3 c0 c1 c2 x0 x1 xs)]
  unfold kernelRun0_C
  dsimp only
  sl_unfold_words
  rw [View.canon_unit_zero hz, View.readCov_unit_zero (S := S1024x1024) _ hz]
  unfold k0_pay3
  simp only [View.readAt_eq_ld, h0.read_unread, h1.read_unread, h3.read_unread, View.ld_unit_zero (S := S2048x1024) hz,
    View.ld_unit_zero (S := S1024x1024) hz, shapeCast_self]

end Cases

/-! ## The blocks -/

variable (m : (ℓ : Loc nD τ sig) → Buf (Elt Ideal) ℓ) (c : Dev nD)

theorem idx_0 : ∀ t : Fin cfg0.N, win0_0.index t = ![t.val % 4, t.val / 8] := by decide +kernel
theorem idx_1 : ∀ t : Fin cfg0.N, win0_1.index t = ![t.val % 4, t.val / 4 % 2] := by decide +kernel
theorem idx_2 : ∀ t : Fin cfg0.N, win0_2.index t = ![t.val / 8, t.val / 4 % 2] := by decide +kernel

def arg0 : FVec Ideal S8192x4096 .bf16 := m ((c.tc : Thread nD τ).loc main_arg0)
def arg1 : FVec Ideal S8192x2048 .bf16 := m ((c.tc : Thread nD τ).loc main_arg1)

theorem blk_0 (t : Fin cfg0.N) (r : Fin 2048) (p : Fin 1024) : at2 (iblk m c 0 t) r p = at2 (arg0 m c) (2048 * (t.val % 4) + r) (1024 * (t.val / 8) + p) := by
  have ht : t.val < 32 := Nat.lt_of_lt_of_eq t.isLt N_0
  rw [at2_fin, at2_eq _ (by omega) (by omega)]
  have e : V m c main_arg0 = arg0 m c := V_main_arg0 m c
  rw [← e]
  blk_simp [iblk]
  refine congrArg (V m c main_arg0) ?_
  blk_ext [idx_0]

theorem blk_1 (t : Fin cfg0.N) (r : Fin 2048) (q : Fin 1024) : at2 (iblk m c 1 t) r q = at2 (arg1 m c) (2048 * (t.val % 4) + r) (1024 * (t.val / 4 % 2) + q) := by
  have ht : t.val < 32 := Nat.lt_of_lt_of_eq t.isLt N_0
  rw [at2_fin, at2_eq _ (by omega) (by omega)]
  have e : V m c main_arg1 = arg1 m c := V_main_arg1 m c
  rw [← e]
  blk_simp [iblk]
  refine congrArg (V m c main_arg1) ?_
  blk_ext [idx_1]

/-- The addends of the entry at place `p`, `q` of the result's block `b`. -/
def term (p q b k : ℕ) : EReal := at2 (arg0 m c) k (1024 * (b / 2) + p) * at2 (arg1 m c) k (1024 * (b % 2) + q)

theorem point (t : Fin cfg0.N) (p : Fin 1024) (q : Fin 1024) :
    k0_pay1 (iblk m c 0 t) (iblk m c 1 t) (ix2 p q) = ∑ r : Fin 2048, term m c p q (t.val / 4) (2048 * (t.val % 4) + r) := by
  have e : t.val / 4 / 2 = t.val / 8 := by omega
  refine (pay_at (iblk m c 0 t) (iblk m c 1 t) p q).trans (Finset.sum_congr rfl fun r _ => ?_)
  rw [blk_0, blk_1, term, e]

/-- The scratch after every point. -/
theorem scr (p : Fin 1024) (q : Fin 1024) (n : ℕ) (h : n < cfg0.N) :
    (outsAt0 m c n h).2 (ix2 p q) = ∑ k ∈ Finset.range (2048 * (n % 4 + 1)), term m c p q (n / 4) k := by
  refine blocks_sum (by decide) (fun n h => (outsAt0 m c n h).2 (ix2 p q)) (term m c p q) (fun n h h0 => ?_) (fun n h h0 => ?_) n h
  · rw [outsAt0_A m c ⟨n, h⟩ h0 (by dsimp only; omega) (by dsimp only; omega)]
    dsimp only
    rw [scr_A]
    exact point m c ⟨n, h⟩ p q
  · rw [← point m c ⟨n, h⟩ p q]
    by_cases h2 : n % 4 = 3
    · rw [outsAt0_C m c ⟨n, h⟩ h0 (by dsimp only; omega) h2]
      dsimp only
      rw [scr_C]
      rfl
    · rw [outsAt0_B m c ⟨n, h⟩ h0 (by dsimp only; omega) h2]
      dsimp only
      rw [scr_B]
      rfl

/-- The result array. -/
theorem final {G : FVec Ideal S4096x2048 .f32} (hG : ∀ (i : Fin 4096) (j : Fin 2048), G (ix2 i j) = ∑ k : Fin 8192, at2 (arg0 m c) k i * at2 (arg1 m c) k j) :
    (dats m 0 c).arrAt 2 cfg0.N = G := by
  refine (dats m 0 c).arrAt_eq_of_covers 2 _ (by decide +kernel) fun t hf y => ?_
  have ht : t.val < 32 := Nat.lt_of_lt_of_eq t.isLt N_0
  have h3 : t.val % 4 = 3 := (flush0_2 t).mp hf
  have e : (outsAt0 m c t.val t.isLt).1 = (outsAt0 m c t.val t.isLt).2 := by
    rw [outsAt0_C m c t (by omega) (by omega) h3]
    dsimp only
    rw [out_C]
  blk_simp
  rw [after0_2, e]
  obtain ⟨p, q, rfl⟩ : ∃ (p : Fin 1024) (q : Fin 1024), y = ix2 p q := ⟨y 0, y 1, eq_ix2 y⟩
  refine (scr m c p q t.val t.isLt).trans (Eq.trans ?_ ((hG ⟨1024 * (t.val / 8) + p.val, by omega⟩ ⟨1024 * (t.val / 4 % 2) + q.val, by omega⟩).symm.trans (congrArg G ?_)))
  · have e2 : t.val / 4 / 2 = t.val / 8 := by omega
    rw [h3, Finset.sum_range]
    simp only [term, e2]
  · blk_ext [idx_2]

/-! ## The reference -/

/-- The reference's result, entry by entry. -/
theorem ref_at (x : FVec Ideal S8192x4096 .bf16) (y : FVec Ideal S8192x2048 .bf16) (i : Fin 4096) (j : Fin 2048) :
    transpose Cert.RefGradSsmIdeal.S4096x2048 [1, 0] (Host.dotGeneral Cert.RefGradSsmIdeal.dot_S8192x2048_S8192x4096_S2048x4096_0_0_1_1_n_n none
      (extf .f32 y Cert.RefGradSsmIdeal.Gen.bitsLt_bf16_f32) (extf .f32 x Cert.RefGradSsmIdeal.Gen.bitsLt_bf16_f32)) Cert.RefGradSsmIdeal.Gen.transposes_S2048x4096_S4096x2048_1_0 (ix2 i j)
    = ∑ k : Fin 8192, at2 x k i * at2 y k j := by
  simp only [at2_fin]
  pointwise
  exact Finset.sum_congr rfl fun k _ => mul_comm _ _

/-- The value claim. -/
theorem value : Cert.algebraic_GradSsmIdeal_RefGradSsmIdeal := fun m g m' g' _ hargs => by
  refine ⟨_, Value.run_blocks m g, (θ_run Cert.RefGradSsmIdeal.defs _ _).mono (fun r h c => ?_) (Cert.RefGradSsmIdeal.Value.run m' g')⟩
  refine ⟨(h c).1.trans ?_, (h c).2⟩
  rw [(hargs c).1, (hargs c).2]
  exact (final m c (ref_at (arg0 m c) (arg1 m c))).symm

/-! ## The runs -/

/-- The printed program is its idealization: over the bits their bodies are equal, -/
theorem body_eq : @Cert.GradSsm.cc0_mmg_ssm_o Bits _ _ = @Cert.GradSsmIdeal.cc0_mmg_ssm_o Bits _ _ := by
  unfold Cert.GradSsm.cc0_mmg_ssm_o Cert.GradSsmIdeal.cc0_mmg_ssm_o
  rfl

/-- so are the programs of their body labels, -/
theorem defs0_eq : Cert.GradSsm.defs₀ (F := Bits) = Cert.GradSsmIdeal.defs₀ (F := Bits) := by
  refine congrArg Defs.onTc ?_
  funext l a
  match l, a with
  | 0, (t, s) =>
    exact
      congrFun (congrFun (congrFun (congrFun (congrFun (congrFun (congrFun (congrFun (congrFun
      body_eq _) _) _) _) _) _) _) _) _

/-- those of all labels, the pipeline's own included, -/
theorem defs_eq : Cert.GradSsm.defs (F := Bits) = Cert.GradSsmIdeal.defs (F := Bits) :=
  congrArg (Pipeline.defs (Cert.GradSsm.pcfgs (F := Bits))) defs0_eq

/-- and their host functions. -/
theorem main_eq : Cert.GradSsm.main (F := Bits) = Cert.GradSsmIdeal.main (F := Bits) := rfl

/-- So the one run serves both. -/
theorem frame : Cert.quiescent_GradSsm := fun m g _ =>
  (congrArg₂ (fun D B => θ_run D (onTc (τ := Cert.GradSsm.τ) B) ⟨m, fun _ => 0, g⟩ _)
    defs_eq main_eq).mpr (Cert.GradSsmIdeal.Gen.frame (F := Bits) m g)

/-- The reference runs, its arguments unchanged. -/
theorem ref_frame : Cert.quiescent_RefGradSsmIdeal := fun m g _ =>
  (θ_run Cert.RefGradSsmIdeal.defs _ _).mono (fun r h => ⟨fun c => (h c).2, sem_eq_zero_of_no_sems (by decide) r.2⟩) (Cert.RefGradSsmIdeal.Value.run m g)

end Cert.GradSsmIdeal.Grad

end
-- ==== Proof.GradAttn.lean ====
/- The gradient of the attention's output projection (and of the layer input's gate): the kernel's result is the reference's. -/
module

public import proofs.«01_k».proof.Defs
public import proofs.«01_k».proof.Proof.Products
public import proofs.«01_k».proof.Proof.Gen.GradAttn
public import proofs.«01_k».proof.Proof.Gen.GradAttnIdeal.Value
public import proofs.«01_k».proof.Proof.Gen.RefGradAttnIdeal.Run
public import Idealize.ShloMosaic.Lib.Pipeline.ValueKit
public import Idealize.ShloMosaic.Lib.Quiescent

@[expose] public section

noncomputable section

namespace Cert.GradAttnIdeal.Grad

open Idealize.ShloMosaic Idealize.ShloMosaic.TcCoe Idealize.SL Idealize.SL.Sem Gen Cert.Products
open Idealize.ShloMosaic.Pipeline (Dat)
open scoped BigOperators

/-! ## A block's product -/

theorem pay_at (x0 : Vec Ideal S2048x1024 .bf16) (x1 : Vec Ideal S2048x1024 .bf16) (p : Fin 1024) (q : Fin 1024) :
    k0_pay1 x0 x1 (ix2 p q) = ∑ r : Fin 2048, at2 x0 r p * at2 x1 r q := by
  simp only [at2_fin]
  pointwise [k0_pay1]

/-! ## The cases' values -/

section Cases
variable {F : FTy → Type} [FloatOps F]

theorem scr_A (c : Dev nD) (i : grid0.Coords) (a0 : Memref sig .tc .vmem S2048x1024 .bf16) (h0 : a0.IsWhole) (a1 : Memref sig .tc .vmem S2048x1024 .bf16) (h1 : a1.IsWhole)
    (a2 : Memref sig .tc .vmem S1024x1024 .f32) (h2 : a2.IsWhole) (a3 : Memref sig .tc .vmem S1024x1024 .f32) (h3 : a3.IsWhole)
    (c0 : cond0_0 i) (c1 : ¬cond0_1 i) (c2 : ¬cond0_2 i) (x0 : Vec F S2048x1024 .bf16) (x1 : Vec F S2048x1024 .bf16) :
    sout0_A_0 c i a0 h0 a1 h1 a2 h2 a3 h3 c0 c1 c2 x0 x1 = k0_pay1 x0 x1 := by
  unfold sout0_A_0
  rw [View.read_writes_eq_canon _ _ _ (scover0_A_0 c i a0 h0 a1 h1 a2 h2 a3 h3 c0 c1 c2 x0 x1)]
  unfold kernelRun0_A
  dsimp only
  sl_unfold_words
  rw [View.canon_unit_zero hz]
  unfold k0_pay2
  simp only [View.readAt_eq_ld, h0.read_unread, h1.read_unread, View.ld_unit_zero (S := S2048x1024) hz, shapeCast_self]

theorem scr_B (c : Dev nD) (i : grid0.Coords) (a0 : Memref sig .tc .vmem S2048x1024 .bf16) (h0 : a0.IsWhole) (a1 : Memref sig .tc .vmem S2048x1024 .bf16) (h1 : a1.IsWhole)
    (a2 : Memref sig .tc .vmem S1024x1024 .f32) (h2 : a2.IsWhole) (a3 : Memref sig .tc .vmem S1024x1024 .f32) (h3 : a3.IsWhole)
    (c0 : ¬cond0_0 i) (c1 : cond0_1 i) (c2 : ¬cond0_2 i) (x0 : Vec F S2048x1024 .bf16) (x1 : Vec F S2048x1024 .bf16) (xs : Vec F S1024x1024 .f32) :
    sout0_B_0 c i a0 h0 a1 h1 a2 h2 a3 h3 c0 c1 c2 x0 x1 xs = addf xs (k0_pay1 x0 x1) := by
  unfold sout0_B_0
  rw [View.read_writes_eq_canon _ _ _ (scover0_B_0 c i a0 h0 a1 h1 a2 h2 a3 h3 c0 c1 c2 x0 x1 xs)]
  unfold kernelRun0_B
  dsimp only
  sl_unfold_words
  rw [View.canon_unit_zero hz]
  unfold k0_pay3
  simp only [View.readAt_eq_ld, h0.read_unread, h1.read_unread, h3.read_unread, View.ld_unit_zero (S := S2048x1024) hz,
    View.ld_unit_zero (S := S1024x1024) hz, shapeCast_self]

theorem scr_C (c : Dev nD) (i : grid0.Coords) (a0 : Memref sig .tc .vmem S2048x1024 .bf16) (h0 : a0.IsWhole) (a1 : Memref sig .tc .vmem S2048x1024 .bf16) (h1 : a1.IsWhole)
    (a2 : Memref sig .tc .vmem S1024x1024 .f32) (h2 : a2.IsWhole) (a3 : Memref sig .tc .vmem S1024x1024 .f32) (h3 : a3.IsWhole)
    (c0 : ¬cond0_0 i) (c1 : cond0_1 i) (c2 : cond0_2 i) (x0 : Vec F S2048x1024 .bf16) (x1 : Vec F S2048x1024 .bf16) (xs : Vec F S1024x1024 .f32) :
    sout0_C_0 c i a0 h0 a1 h1 a2 h2 a3 h3 c0 c1 c2 x0 x1 xs = addf xs (k0_pay1 x0 x1) := by
  unfold sout0_C_0
  rw [View.read_writes_eq_canon _ _ _ (scover0_C_0 c i a0 h0 a1 h1 a2 h2 a3 h3 c0 c1 c2 x0 x1 xs)]
  unfold kernelRun0_C
  dsimp only
  sl_unfold_words
  rw [View.canon_unit_zero hz]
  unfold k0_pay3
  simp only [View.readAt_eq_ld, h0.read_unread, h1.read_unread, h3.read_unread, View.ld_unit_zero (S := S2048x1024) hz,
    View.ld_unit_zero (S := S1024x1024) hz, shapeCast_self]

theorem out_C (c : Dev nD) (i : grid0.Coords) (a0 : Memref sig .tc .vmem S2048x1024 .bf16) (h0 : a0.IsWhole) (a1 : Memref sig .tc .vmem S2048x1024 .bf16) (h1 : a1.IsWhole)
    (a2 : Memref sig .tc .vmem S1024x1024 .f32) (h2 : a2.IsWhole) (a3 : Memref sig .tc .vmem S1024x1024 .f32) (h3 : a3.IsWhole)
    (c0 : ¬cond0_0 i) (c1 : cond0_1 i) (c2 : cond0_2 i) (x0 : Vec F S2048x1024 .bf16) (x1 : Vec F S2048x1024 .bf16) (xs : Vec F S1024x1024 .f32) :
    out0_C_2 c i a0 h0 a1 h1 a2 h2 a3 h3 c0 c1 c2 x0 x1 xs = sout0_C_0 c i a0 h0 a1 h1 a2 h2 a3 h3 c0 c1 c2 x0 x1 xs := by
  rw [scr_C]
  unfold out0_C_2
  rw [View.read_writes_eq_canon _ _ _ (cover0_C_2 c i a0 h0 a1 h1 a2 h2 a3 h3 c0 c1 c2 x0 x1 xs)]
  unfold kernelRun0_C
  dsimp only
  sl_unfold_words
  rw [View.canon_unit_zero hz, View.readCov_unit_zero (S := S1024x1024) _ hz]
  unfold k0_pay3
  simp only [View.readAt_eq_ld, h0.read_unread, h1.read_unread, h3.read_unread, View.ld_unit_zero (S := S2048x1024) hz,
    View.ld_unit_zero (S := S1024x1024) hz, shapeCast_self]

end Cases

/-! ## The blocks -/

variable (m : (ℓ : Loc nD τ sig) → Buf (Elt Ideal) ℓ) (c : Dev nD)

theorem idx_0 : ∀ t : Fin cfg0.N, win0_0.index t = ![t.val % 4, t.val / 8] := by decide +kernel
theorem idx_1 : ∀ t : Fin cfg0.N, win0_1.index t = ![t.val % 4, t.val / 4 % 2] := by decide +kernel
theorem idx_2 : ∀ t : Fin cfg0.N, win0_2.index t = ![t.val / 8, t.val / 4 % 2] := by decide +kernel

def arg0 : FVec Ideal S8192x2048 .bf16 := m ((c.tc : Thread nD τ).loc main_arg0)
def arg1 : FVec Ideal S8192x2048 .bf16 := m ((c.tc : Thread nD τ).loc main_arg1)

theorem blk_0 (t : Fin cfg0.N) (r : Fin 2048) (p : Fin 1024) : at2 (iblk m c 0 t) r p = at2 (arg0 m c) (2048 * (t.val % 4) + r) (1024 * (t.val / 8) + p) := by
  have ht : t.val < 16 := Nat.lt_of_lt_of_eq t.isLt N_0
  rw [at2_fin, at2_eq _ (by omega) (by omega)]
  have e : V m c main_arg0 = arg0 m c := V_main_arg0 m c
  rw [← e]
  blk_simp [iblk]
  refine congrArg (V m c main_arg0) ?_
  blk_ext [idx_0]

theorem blk_1 (t : Fin cfg0.N) (r : Fin 2048) (q : Fin 1024) : at2 (iblk m c 1 t) r q = at2 (arg1 m c) (2048 * (t.val % 4) + r) (1024 * (t.val / 4 % 2) + q) := by
  have ht : t.val < 16 := Nat.lt_of_lt_of_eq t.isLt N_0
  rw [at2_fin, at2_eq _ (by omega) (by omega)]
  have e : V m c main_arg1 = arg1 m c := V_main_arg1 m c
  rw [← e]
  blk_simp [iblk]
  refine congrArg (V m c main_arg1) ?_
  blk_ext [idx_1]

/-- The addends of the entry at place `p`, `q` of the result's block `b`. -/
def term (p q b k : ℕ) : EReal := at2 (arg0 m c) k (1024 * (b / 2) + p) * at2 (arg1 m c) k (1024 * (b % 2) + q)

theorem point (t : Fin cfg0.N) (p : Fin 1024) (q : Fin 1024) :
    k0_pay1 (iblk m c 0 t) (iblk m c 1 t) (ix2 p q) = ∑ r : Fin 2048, term m c p q (t.val / 4) (2048 * (t.val % 4) + r) := by
  have e : t.val / 4 / 2 = t.val / 8 := by omega
  refine (pay_at (iblk m c 0 t) (iblk m c 1 t) p q).trans (Finset.sum_congr rfl fun r _ => ?_)
  rw [blk_0, blk_1, term, e]

/-- The scratch after every point. -/
theorem scr (p : Fin 1024) (q : Fin 1024) (n : ℕ) (h : n < cfg0.N) :
    (outsAt0 m c n h).2 (ix2 p q) = ∑ k ∈ Finset.range (2048 * (n % 4 + 1)), term m c p q (n / 4) k := by
  refine blocks_sum (by decide) (fun n h => (outsAt0 m c n h).2 (ix2 p q)) (term m c p q) (fun n h h0 => ?_) (fun n h h0 => ?_) n h
  · rw [outsAt0_A m c ⟨n, h⟩ h0 (by dsimp only; omega) (by dsimp only; omega)]
    dsimp only
    rw [scr_A]
    exact point m c ⟨n, h⟩ p q
  · rw [← point m c ⟨n, h⟩ p q]
    by_cases h2 : n % 4 = 3
    · rw [outsAt0_C m c ⟨n, h⟩ h0 (by dsimp only; omega) h2]
      dsimp only
      rw [scr_C]
      rfl
    · rw [outsAt0_B m c ⟨n, h⟩ h0 (by dsimp only; omega) h2]
      dsimp only
      rw [scr_B]
      rfl

/-- The result array. -/
theorem final {G : FVec Ideal S2048x2048 .f32} (hG : ∀ (i : Fin 2048) (j : Fin 2048), G (ix2 i j) = ∑ k : Fin 8192, at2 (arg0 m c) k i * at2 (arg1 m c) k j) :
    (dats m 0 c).arrAt 2 cfg0.N = G := by
  refine (dats m 0 c).arrAt_eq_of_covers 2 _ (by decide +kernel) fun t hf y => ?_
  have ht : t.val < 16 := Nat.lt_of_lt_of_eq t.isLt N_0
  have h3 : t.val % 4 = 3 := (flush0_2 t).mp hf
  have e : (outsAt0 m c t.val t.isLt).1 = (outsAt0 m c t.val t.isLt).2 := by
    rw [outsAt0_C m c t (by omega) (by omega) h3]
    dsimp only
    rw [out_C]
  blk_simp
  rw [after0_2, e]
  obtain ⟨p, q, rfl⟩ : ∃ (p : Fin 1024) (q : Fin 1024), y = ix2 p q := ⟨y 0, y 1, eq_ix2 y⟩
  refine (scr m c p q t.val t.isLt).trans (Eq.trans ?_ ((hG ⟨1024 * (t.val / 8) + p.val, by omega⟩ ⟨1024 * (t.val / 4 % 2) + q.val, by omega⟩).symm.trans (congrArg G ?_)))
  · have e2 : t.val / 4 / 2 = t.val / 8 := by omega
    rw [h3, Finset.sum_range]
    simp only [term, e2]
  · blk_ext [idx_2]

/-! ## The reference -/

/-- The reference's result, entry by entry. -/
theorem ref_at (x : FVec Ideal S8192x2048 .bf16) (y : FVec Ideal S8192x2048 .bf16) (i : Fin 2048) (j : Fin 2048) :
    transpose Cert.RefGradAttnIdeal.S2048x2048 [1, 0] (Host.dotGeneral Cert.RefGradAttnIdeal.dot_S8192x2048_S8192x2048_S2048x2048_0_0_1_1_n_n none
      (extf .f32 y Cert.RefGradAttnIdeal.Gen.bitsLt_bf16_f32) (extf .f32 x Cert.RefGradAttnIdeal.Gen.bitsLt_bf16_f32)) Cert.RefGradAttnIdeal.Gen.transposes_S2048x2048_S2048x2048_1_0 (ix2 i j)
    = ∑ k : Fin 8192, at2 x k i * at2 y k j := by
  simp only [at2_fin]
  pointwise
  exact Finset.sum_congr rfl fun k _ => mul_comm _ _

/-- The value claim. -/
theorem value : Cert.algebraic_GradAttnIdeal_RefGradAttnIdeal := fun m g m' g' _ hargs => by
  refine ⟨_, Value.run_blocks m g, (θ_run Cert.RefGradAttnIdeal.defs _ _).mono (fun r h c => ?_) (Cert.RefGradAttnIdeal.Value.run m' g')⟩
  refine ⟨(h c).1.trans ?_, (h c).2⟩
  rw [(hargs c).1, (hargs c).2]
  exact (final m c (ref_at (arg0 m c) (arg1 m c))).symm

/-! ## The runs -/

/-- The printed program is its idealization: over the bits their bodies are equal, -/
theorem body_eq : @Cert.GradAttn.cc0_mmg_attn_o Bits _ _ = @Cert.GradAttnIdeal.cc0_mmg_attn_o Bits _ _ := by
  unfold Cert.GradAttn.cc0_mmg_attn_o Cert.GradAttnIdeal.cc0_mmg_attn_o
  rfl

/-- so are the programs of their body labels, -/
theorem defs0_eq : Cert.GradAttn.defs₀ (F := Bits) = Cert.GradAttnIdeal.defs₀ (F := Bits) := by
  refine congrArg Defs.onTc ?_
  funext l a
  match l, a with
  | 0, (t, s) =>
    exact
      congrFun (congrFun (congrFun (congrFun (congrFun (congrFun (congrFun (congrFun (congrFun
      body_eq _) _) _) _) _) _) _) _) _

/-- those of all labels, the pipeline's own included, -/
theorem defs_eq : Cert.GradAttn.defs (F := Bits) = Cert.GradAttnIdeal.defs (F := Bits) :=
  congrArg (Pipeline.defs (Cert.GradAttn.pcfgs (F := Bits))) defs0_eq

/-- and their host functions. -/
theorem main_eq : Cert.GradAttn.main (F := Bits) = Cert.GradAttnIdeal.main (F := Bits) := rfl

/-- So the one run serves both. -/
theorem frame : Cert.quiescent_GradAttn := fun m g _ =>
  (congrArg₂ (fun D B => θ_run D (onTc (τ := Cert.GradAttn.τ) B) ⟨m, fun _ => 0, g⟩ _)
    defs_eq main_eq).mpr (Cert.GradAttnIdeal.Gen.frame (F := Bits) m g)

/-- The reference runs, its arguments unchanged. -/
theorem ref_frame : Cert.quiescent_RefGradAttnIdeal := fun m g _ =>
  (θ_run Cert.RefGradAttnIdeal.defs _ _).mono (fun r h => ⟨fun c => (h c).2, sem_eq_zero_of_no_sems (by decide) r.2⟩) (Cert.RefGradAttnIdeal.Value.run m g)

end Cert.GradAttnIdeal.Grad

end
-- ==== Proof.BackAttn.lean ====
/- The gradient of the rows a square matrix was applied to: the output projections of the mixer and of the attention. -/
module

public import proofs.«01_k».proof.Defs
public import proofs.«01_k».proof.Proof.Products
public import proofs.«01_k».proof.Proof.Gen.BackAttn
public import proofs.«01_k».proof.Proof.Gen.BackAttnIdeal.Value
public import proofs.«01_k».proof.Proof.Gen.RefBackAttnIdeal.Run
public import Idealize.ShloMosaic.Lib.Pipeline.ValueKit
public import Idealize.ShloMosaic.Lib.Quiescent

@[expose] public section

noncomputable section

namespace Cert.BackAttnIdeal.Back

open Idealize.ShloMosaic Idealize.ShloMosaic.TcCoe Idealize.SL Idealize.SL.Sem Gen Cert.Products
open Idealize.ShloMosaic.Pipeline (Dat)
open scoped BigOperators

/-- A block's product. -/
theorem out_at (x0 : Vec Ideal S1024x2048 .bf16) (x1 : Vec Ideal S1024x2048 .bf16) (p : Fin 1024) (q : Fin 1024) :
    out0_2 x0 x1 (ix2 p q) = ∑ r : Fin 2048, at2 x0 p r * at2 x1 q r := by
  unfold out0_2
  rw [View.canon_unit_zero hz, View.ld_unit_zero (S := S1024x2048) hz, View.ld_unit_zero (S := S1024x2048) hz]
  simp only [at2_fin]
  pointwise [k0_pay1]

variable (m : (ℓ : Loc nD τ sig) → Buf (Elt Ideal) ℓ) (c : Dev nD)

theorem idx_0 : ∀ t : Fin cfg0.N, win0_0.index t = ![t.val / 2, 0] := by decide +kernel
theorem idx_1 : ∀ t : Fin cfg0.N, win0_1.index t = ![t.val % 2, 0] := by decide +kernel
theorem idx_2 : ∀ t : Fin cfg0.N, win0_2.index t = ![t.val / 2, t.val % 2] := by decide +kernel

def arg0 : FVec Ideal S8192x2048 .bf16 := m ((c.tc : Thread nD τ).loc main_arg0)
def arg1 : FVec Ideal S2048x2048 .bf16 := m ((c.tc : Thread nD τ).loc main_arg1)

theorem blk_0 (t : Fin cfg0.N) (p : Fin 1024) (r : Fin 2048) : at2 (iblk m c 0 t) p r = at2 (arg0 m c) (1024 * (t.val / 2) + p) r := by
  have ht : t.val < 16 := Nat.lt_of_lt_of_eq t.isLt N_0
  rw [at2_fin, at2_eq _ (by omega) (by omega)]
  have e : V m c main_arg0 = arg0 m c := V_main_arg0 m c
  rw [← e]
  blk_simp [iblk]
  refine congrArg (V m c main_arg0) ?_
  blk_ext [idx_0]

theorem blk_1 (t : Fin cfg0.N) (q : Fin 1024) (r : Fin 2048) : at2 (iblk m c 1 t) q r = at2 (arg1 m c) (1024 * (t.val % 2) + q) r := by
  rw [at2_fin, at2_eq _ (by omega) (by omega)]
  have e : V m c main_arg1 = arg1 m c := V_main_arg1 m c
  rw [← e]
  blk_simp [iblk]
  refine congrArg (V m c main_arg1) ?_
  blk_ext [idx_1]

/-- The result array. -/
theorem final {G : FVec Ideal S8192x2048 .bf16} (hG : ∀ (i : Fin 8192) (j : Fin 2048), G (ix2 i j) = ∑ k : Fin 2048, at2 (arg0 m c) i k * at2 (arg1 m c) j k) :
    (dats m 0 c).arrAt 2 cfg0.N = G := by
  refine (dats m 0 c).arrAt_eq_of_covers 2 _ (by decide +kernel) fun t hf y => ?_
  have ht : t.val < 16 := Nat.lt_of_lt_of_eq t.isLt N_0
  blk_simp
  rw [after0_2]
  obtain ⟨p, q, rfl⟩ : ∃ (p : Fin 1024) (q : Fin 1024), y = ix2 p q := ⟨y 0, y 1, eq_ix2 y⟩
  refine (out_at (iblk m c 0 t) (iblk m c 1 t) p q).trans
    (Eq.trans ?_ ((hG ⟨1024 * (t.val / 2) + p.val, by omega⟩ ⟨1024 * (t.val % 2) + q.val, by omega⟩).symm.trans (congrArg G ?_)))
  · simp only [blk_0, blk_1]
  · blk_ext [idx_2]

/-- The reference's result, entry by entry. -/
theorem ref_at (x : FVec Ideal S8192x2048 .bf16) (y : FVec Ideal S2048x2048 .bf16) (i : Fin 8192) (j : Fin 2048) :
    truncf .bf16 (Host.dotGeneral Cert.RefBackAttnIdeal.dot_S8192x2048_S2048x2048_S8192x2048_1_1_0_0_n_n none
      (extf .f32 x Cert.RefBackAttnIdeal.Gen.bitsLt_bf16_f32) (extf .f32 y Cert.RefBackAttnIdeal.Gen.bitsLt_bf16_f32)) Cert.RefBackAttnIdeal.Gen.bitsLt_bf16_f32 (ix2 i j)
    = ∑ k : Fin 2048, at2 x i k * at2 y j k := by
  simp only [at2_fin]
  pointwise

/-- The value claim. -/
theorem value : Cert.algebraic_BackAttnIdeal_RefBackAttnIdeal := fun m g m' g' _ hargs => by
  refine ⟨_, Value.run_blocks m g, (θ_run Cert.RefBackAttnIdeal.defs _ _).mono (fun r h c => ?_) (Cert.RefBackAttnIdeal.Value.run m' g')⟩
  refine ⟨(h c).1.trans ?_, (h c).2⟩
  rw [(hargs c).1, (hargs c).2]
  exact (final m c (ref_at (arg0 m c) (arg1 m c))).symm

/-! ## The runs -/

/-- The printed program is its idealization: over the bits their bodies are equal, -/
theorem body_eq : @Cert.BackAttn.cc0_mmb_attn_o Bits _ _ = @Cert.BackAttnIdeal.cc0_mmb_attn_o Bits _ _ := by
  unfold Cert.BackAttn.cc0_mmb_attn_o Cert.BackAttnIdeal.cc0_mmb_attn_o
  rfl

/-- so are the programs of their body labels, -/
theorem defs0_eq : Cert.BackAttn.defs₀ (F := Bits) = Cert.BackAttnIdeal.defs₀ (F := Bits) := by
  refine congrArg Defs.onTc ?_
  funext l a
  match l, a with
  | 0, (t, s) =>
    exact
      congrFun (congrFun (congrFun (congrFun (congrFun (congrFun (congrFun body_eq _) _) _) _) _)
      _) _

/-- those of all labels, the pipeline's own included, -/
theorem defs_eq : Cert.BackAttn.defs (F := Bits) = Cert.BackAttnIdeal.defs (F := Bits) :=
  congrArg (Pipeline.defs (Cert.BackAttn.pcfgs (F := Bits))) defs0_eq

/-- and their host functions. -/
theorem main_eq : Cert.BackAttn.main (F := Bits) = Cert.BackAttnIdeal.main (F := Bits) := rfl

/-- So the one run serves both. -/
theorem frame : Cert.quiescent_BackAttn := fun m g _ =>
  (congrArg₂ (fun D B => θ_run D (onTc (τ := Cert.BackAttn.τ) B) ⟨m, fun _ => 0, g⟩ _)
    defs_eq main_eq).mpr (Cert.BackAttnIdeal.Gen.frame (F := Bits) m g)

/-- The reference runs, its arguments unchanged. -/
theorem ref_frame : Cert.quiescent_RefBackAttnIdeal := fun m g _ =>
  (θ_run Cert.RefBackAttnIdeal.defs _ _).mono (fun r h => ⟨fun c => (h c).2, sem_eq_zero_of_no_sems (by decide) r.2⟩) (Cert.RefBackAttnIdeal.Value.run m g)

end Cert.BackAttnIdeal.Back

end
-- ==== Proof.Swiglu.lean ====
/- The gate's and the up product with the gated product of the two: the kernel's three results are the reference's. -/
module

public import proofs.«01_k».proof.Defs
public import proofs.«01_k».proof.Proof.Products
public import proofs.«01_k».proof.Proof.Gen.Swiglu
public import proofs.«01_k».proof.Proof.Gen.SwigluIdeal.Value
public import proofs.«01_k».proof.Proof.Gen.RefSwigluIdeal.Run
public import Idealize.ShloMosaic.Lib.Pipeline.ValueKit
public import Idealize.ShloMosaic.Lib.Quiescent
public import Idealize.ShloMosaic.Lib.IdealHost

@[expose] public section

noncomputable section

namespace Cert.SwigluIdeal.Mm

open Idealize.ShloMosaic Idealize.ShloMosaic.TcCoe Idealize.SL Idealize.SL.Sem Gen Cert.Products
open Idealize.ShloMosaic.Pipeline (Dat)
open scoped BigOperators

/-! ## A block's values -/

theorem pay1_at (x0 : Vec Ideal S1024x2048 .bf16) (x1 : Vec Ideal S2048x512 .bf16) (p : Fin 1024) (q : Fin 512) :
    k0_pay1 x0 x1 (ix2 p q) = ∑ r : Fin 2048, at2 x0 p r * at2 x1 r q := by
  simp only [at2_fin]
  pointwise [k0_pay1]

theorem pay2_eq (x0 : Vec Ideal S1024x2048 .bf16) (x1 : Vec Ideal S2048x512 .bf16) : k0_pay2 x0 x1 = k0_pay1 x0 x1 := rfl

/-- The gate's value times its logistic function times the other product. -/
def gated (g u : EReal) : EReal := g * Ideal.div 1 (1 + Ideal.exp (-g)) * u

theorem pay3_at (x0 : Vec Ideal S1024x2048 .bf16) (x1 x2 : Vec Ideal S2048x512 .bf16) (p : Fin 1024) (q : Fin 512) :
    k0_pay3 x0 x1 x2 (ix2 p q) = gated (k0_pay1 x0 x1 (ix2 p q)) (k0_pay1 x0 x2 (ix2 p q)) := by
  unfold k0_pay3
  rw [pay2_eq]
  generalize k0_pay1 x0 x1 = g
  generalize k0_pay1 x0 x2 = u
  rw [gated, ← logistic_eq, ← half_bits]
  pointwise

theorem out3_eq (x0 : Vec Ideal S1024x2048 .bf16) (x1 x2 : Vec Ideal S2048x512 .bf16) : out0_3 x0 x1 x2 = k0_pay1 x0 x1 := by
  unfold out0_3
  rw [View.canon_unit_zero hz, View.ld_unit_zero (S := S1024x2048) hz, View.ld_unit_zero (S := S2048x512) hz]

theorem out4_eq (x0 : Vec Ideal S1024x2048 .bf16) (x1 x2 : Vec Ideal S2048x512 .bf16) : out0_4 x0 x1 x2 = k0_pay1 x0 x2 := by
  unfold out0_4
  rw [View.canon_unit_zero hz, View.ld_unit_zero (S := S1024x2048) hz, View.ld_unit_zero (S := S2048x512) hz, pay2_eq]

theorem out5_eq (x0 : Vec Ideal S1024x2048 .bf16) (x1 x2 : Vec Ideal S2048x512 .bf16) : out0_5 x0 x1 x2 = k0_pay3 x0 x1 x2 := by
  unfold out0_5
  rw [View.canon_unit_zero hz, View.ld_unit_zero (S := S1024x2048) hz, View.ld_unit_zero (S := S2048x512) hz, View.ld_unit_zero (S := S2048x512) hz]

/-! ## The blocks -/

variable (m : (ℓ : Loc nD τ sig) → Buf (Elt Ideal) ℓ) (c : Dev nD)

theorem idx_0 : ∀ t : Fin cfg0.N, win0_0.index t = ![t.val / 11, 0] := by decide +kernel
theorem idx_1 : ∀ t : Fin cfg0.N, win0_1.index t = ![0, t.val % 11] := by decide +kernel
theorem idx_2 : ∀ t : Fin cfg0.N, win0_2.index t = ![0, t.val % 11] := by decide +kernel
theorem idx_3 : ∀ t : Fin cfg0.N, win0_3.index t = ![t.val / 11, t.val % 11] := by decide +kernel
theorem idx_4 : ∀ t : Fin cfg0.N, win0_4.index t = ![t.val / 11, t.val % 11] := by decide +kernel
theorem idx_5 : ∀ t : Fin cfg0.N, win0_5.index t = ![t.val / 11, t.val % 11] := by decide +kernel

def arg0 : FVec Ideal S8192x2048 .bf16 := m ((c.tc : Thread nD τ).loc main_arg0)
def arg1 : FVec Ideal S2048x5632 .bf16 := m ((c.tc : Thread nD τ).loc main_arg1)
def arg2 : FVec Ideal S2048x5632 .bf16 := m ((c.tc : Thread nD τ).loc main_arg2)

theorem blk_0 (t : Fin cfg0.N) (p : Fin 1024) (r : Fin 2048) : at2 (iblk m c 0 t) p r = at2 (arg0 m c) (1024 * (t.val / 11) + p) r := by
  have ht : t.val < 88 := Nat.lt_of_lt_of_eq t.isLt N_0
  rw [at2_fin, at2_eq _ (by omega) (by omega)]
  have e : V m c main_arg0 = arg0 m c := V_main_arg0 m c
  rw [← e]
  blk_simp [iblk]
  refine congrArg (V m c main_arg0) ?_
  blk_ext [idx_0]

theorem blk_1 (t : Fin cfg0.N) (r : Fin 2048) (q : Fin 512) : at2 (iblk m c 1 t) r q = at2 (arg1 m c) r (512 * (t.val % 11) + q) := by
  rw [at2_fin, at2_eq _ (by omega) (by omega)]
  have e : V m c main_arg1 = arg1 m c := V_main_arg1 m c
  rw [← e]
  blk_simp [iblk]
  refine congrArg (V m c main_arg1) ?_
  blk_ext [idx_1]

theorem blk_2 (t : Fin cfg0.N) (r : Fin 2048) (q : Fin 512) : at2 (iblk m c 2 t) r q = at2 (arg2 m c) r (512 * (t.val % 11) + q) := by
  rw [at2_fin, at2_eq _ (by omega) (by omega)]
  have e : V m c main_arg2 = arg2 m c := V_main_arg2 m c
  rw [← e]
  blk_simp [iblk]
  refine congrArg (V m c main_arg2) ?_
  blk_ext [idx_2]

/-- An entry of a product. -/
def dot (x : FVec Ideal S8192x2048 .bf16) (y : FVec Ideal S2048x5632 .bf16) (i j : ℕ) : EReal := ∑ k : Fin 2048, at2 x i k * at2 y k j

theorem gate_at (t : Fin cfg0.N) (p : Fin 1024) (q : Fin 512) :
    k0_pay1 (iblk m c 0 t) (iblk m c 1 t) (ix2 p q) = dot (arg0 m c) (arg1 m c) (1024 * (t.val / 11) + p) (512 * (t.val % 11) + q) := by
  refine (pay1_at (iblk m c 0 t) (iblk m c 1 t) p q).trans ?_
  simp only [blk_0, blk_1, dot]

theorem up_at (t : Fin cfg0.N) (p : Fin 1024) (q : Fin 512) :
    k0_pay1 (iblk m c 0 t) (iblk m c 2 t) (ix2 p q) = dot (arg0 m c) (arg2 m c) (1024 * (t.val / 11) + p) (512 * (t.val % 11) + q) := by
  refine (pay1_at (iblk m c 0 t) (iblk m c 2 t) p q).trans ?_
  simp only [blk_0, blk_2, dot]

/-! ## The result arrays -/

theorem final_3 {G : FVec Ideal S8192x5632 .f32} (hG : ∀ (i : Fin 8192) (j : Fin 5632), G (ix2 i j) = dot (arg0 m c) (arg1 m c) i j) :
    (dats m 0 c).arrAt 3 cfg0.N = G := by
  refine (dats m 0 c).arrAt_eq_of_covers 3 _ (by decide +kernel) fun t hf y => ?_
  have ht : t.val < 88 := Nat.lt_of_lt_of_eq t.isLt N_0
  blk_simp
  rw [after0_3, out3_eq]
  obtain ⟨p, q, rfl⟩ : ∃ (p : Fin 1024) (q : Fin 512), y = ix2 p q := ⟨y 0, y 1, eq_ix2 y⟩
  refine (gate_at m c t p q).trans ((hG ⟨1024 * (t.val / 11) + p.val, by omega⟩ ⟨512 * (t.val % 11) + q.val, by omega⟩).symm.trans (congrArg G ?_))
  blk_ext [idx_3]

theorem final_4 {G : FVec Ideal S8192x5632 .f32} (hG : ∀ (i : Fin 8192) (j : Fin 5632), G (ix2 i j) = dot (arg0 m c) (arg2 m c) i j) :
    (dats m 0 c).arrAt 4 cfg0.N = G := by
  refine (dats m 0 c).arrAt_eq_of_covers 4 _ (by decide +kernel) fun t hf y => ?_
  have ht : t.val < 88 := Nat.lt_of_lt_of_eq t.isLt N_0
  blk_simp
  rw [after0_4, out4_eq]
  obtain ⟨p, q, rfl⟩ : ∃ (p : Fin 1024) (q : Fin 512), y = ix2 p q := ⟨y 0, y 1, eq_ix2 y⟩
  refine (up_at m c t p q).trans ((hG ⟨1024 * (t.val / 11) + p.val, by omega⟩ ⟨512 * (t.val % 11) + q.val, by omega⟩).symm.trans (congrArg G ?_))
  blk_ext [idx_4]

theorem final_5 {G : FVec Ideal S8192x5632 .bf16}
    (hG : ∀ (i : Fin 8192) (j : Fin 5632), G (ix2 i j) = gated (dot (arg0 m c) (arg1 m c) i j) (dot (arg0 m c) (arg2 m c) i j)) :
    (dats m 0 c).arrAt 5 cfg0.N = G := by
  refine (dats m 0 c).arrAt_eq_of_covers 5 _ (by decide +kernel) fun t hf y => ?_
  have ht : t.val < 88 := Nat.lt_of_lt_of_eq t.isLt N_0
  blk_simp
  rw [after0_5, out5_eq]
  obtain ⟨p, q, rfl⟩ : ∃ (p : Fin 1024) (q : Fin 512), y = ix2 p q := ⟨y 0, y 1, eq_ix2 y⟩
  refine (pay3_at (iblk m c 0 t) (iblk m c 1 t) (iblk m c 2 t) p q).trans ?_
  rw [gate_at, up_at]
  refine (hG ⟨1024 * (t.val / 11) + p.val, by omega⟩ ⟨512 * (t.val % 11) + q.val, by omega⟩).symm.trans (congrArg G ?_)
  blk_ext [idx_5]

/-! ## The reference -/

/-- The reference's products. -/
def refDot (x : FVec Ideal S8192x2048 .bf16) (y : FVec Ideal S2048x5632 .bf16) : FVec Ideal S8192x5632 .f32 :=
  Host.dotGeneral Cert.RefSwigluIdeal.dot_S8192x2048_S2048x5632_S8192x5632_1_0_0_1_n_n none
    (extf .f32 x Cert.RefSwigluIdeal.Gen.bitsLt_bf16_f32) (extf .f32 y Cert.RefSwigluIdeal.Gen.bitsLt_bf16_f32)

theorem refDot_at (x : FVec Ideal S8192x2048 .bf16) (y : FVec Ideal S2048x5632 .bf16) (i : Fin 8192) (j : Fin 5632) : refDot x y (ix2 i j) = dot x y i j := by
  unfold refDot dot
  simp only [at2_fin]
  pointwise

/-- The reference's gated product. -/
def refGated (g u : FVec Ideal S8192x5632 .f32) : FVec Ideal S8192x5632 .bf16 :=
  truncf .bf16 (mulf (mulf g (Host.divf (broadcastInDim Cert.RefSwigluIdeal.S8192x5632 ![] Cert.RefSwigluIdeal.Gen.bcast_S_S8192x5632 (constant Cert.RefSwigluIdeal.S_ .f32 0x3F800000#32))
    (addf (broadcastInDim Cert.RefSwigluIdeal.S8192x5632 ![] Cert.RefSwigluIdeal.Gen.bcast_S_S8192x5632 (constant Cert.RefSwigluIdeal.S_ .f32 0x3F800000#32)) (Host.exp (Host.negf g))))) u)
    Cert.RefSwigluIdeal.Gen.bitsLt_bf16_f32

theorem refGated_at (g u : FVec Ideal S8192x5632 .f32) (i : Fin 8192) (j : Fin 5632) : refGated g u (ix2 i j) = gated (g (ix2 i j)) (u (ix2 i j)) := by
  unfold refGated gated
  pointwise

/-- The value claim. -/
theorem value : Cert.algebraic_SwigluIdeal_RefSwigluIdeal := fun m g m' g' _ hargs => by
  refine ⟨_, _, _, Value.run_blocks m g, (θ_run Cert.RefSwigluIdeal.defs _ _).mono (fun r h c => ?_) (Cert.RefSwigluIdeal.Value.run m' g')⟩
  refine ⟨(h c).1.trans ?_, (h c).2.1.trans ?_, (h c).2.2.1.trans ?_, (h c).2.2.2⟩
  · rw [(hargs c).1, (hargs c).2.1]
    exact (final_3 m c (refDot_at (arg0 m c) (arg1 m c))).symm
  · rw [(hargs c).1, (hargs c).2.2]
    exact (final_4 m c (refDot_at (arg0 m c) (arg2 m c))).symm
  · rw [(hargs c).1, (hargs c).2.1, (hargs c).2.2]
    refine (final_5 m c (G := refGated (refDot (arg0 m c) (arg1 m c)) (refDot (arg0 m c) (arg2 m c))) fun i j => ?_).symm
    rw [refGated_at, refDot_at, refDot_at]

/-! ## The runs -/

/-- The printed program is its idealization: over the bits their bodies are equal, -/
theorem body_eq : @Cert.Swiglu.cc0_mm_swiglu Bits _ _ = @Cert.SwigluIdeal.cc0_mm_swiglu Bits _ _ := by
  unfold Cert.Swiglu.cc0_mm_swiglu Cert.SwigluIdeal.cc0_mm_swiglu
  rfl

/-- so are the programs of their body labels, -/
theorem defs0_eq : Cert.Swiglu.defs₀ (F := Bits) = Cert.SwigluIdeal.defs₀ (F := Bits) := by
  refine congrArg Defs.onTc ?_
  funext l a
  match l, a with
  | 0, (t, s) =>
    exact
      congrFun (congrFun (congrFun (congrFun (congrFun (congrFun (congrFun (congrFun (congrFun
      (congrFun (congrFun (congrFun (congrFun body_eq _) _) _) _) _) _) _) _) _) _) _) _) _

/-- those of all labels, the pipeline's own included, -/
theorem defs_eq : Cert.Swiglu.defs (F := Bits) = Cert.SwigluIdeal.defs (F := Bits) :=
  congrArg (Pipeline.defs (Cert.Swiglu.pcfgs (F := Bits))) defs0_eq

/-- and their host functions. -/
theorem main_eq : Cert.Swiglu.main (F := Bits) = Cert.SwigluIdeal.main (F := Bits) := rfl

/-- So the one run serves both. -/
theorem frame : Cert.quiescent_Swiglu := fun m g _ =>
  (congrArg₂ (fun D B => θ_run D (onTc (τ := Cert.Swiglu.τ) B) ⟨m, fun _ => 0, g⟩ _)
    defs_eq main_eq).mpr (Cert.SwigluIdeal.Gen.frame (F := Bits) m g)

/-- The reference runs, its arguments unchanged. -/
theorem ref_frame : Cert.quiescent_RefSwigluIdeal := fun m g _ =>
  (θ_run Cert.RefSwigluIdeal.defs _ _).mono (fun r h => ⟨fun c => (h c).2.2.2, sem_eq_zero_of_no_sems (by decide) r.2⟩) (Cert.RefSwigluIdeal.Value.run m g)

end Cert.SwigluIdeal.Mm

end
-- ==== Proof.Down.lean ====
/- The down projection: the kernel's result is the reference's. -/
module

public import proofs.«01_k».proof.Defs
public import proofs.«01_k».proof.Proof.Products
public import proofs.«01_k».proof.Proof.Gen.Down
public import proofs.«01_k».proof.Proof.Gen.DownIdeal.Value
public import proofs.«01_k».proof.Proof.Gen.RefDownIdeal.Run
public import Idealize.ShloMosaic.Lib.Pipeline.ValueKit
public import Idealize.ShloMosaic.Lib.Quiescent

@[expose] public section

noncomputable section

namespace Cert.DownIdeal.Mm

open Idealize.ShloMosaic Idealize.ShloMosaic.TcCoe Idealize.SL Idealize.SL.Sem Gen Cert.Products
open Idealize.ShloMosaic.Pipeline (Dat)
open scoped BigOperators

/-! ## A block's product -/

theorem pay_at (x0 : Vec Ideal S1024x1408 .bf16) (x1 : Vec Ideal S1408x1024 .bf16) (p : Fin 1024) (q : Fin 1024) :
    k0_pay1 x0 x1 (ix2 p q) = ∑ r : Fin 1408, at2 x0 p r * at2 x1 r q := by
  simp only [at2_fin]
  pointwise [k0_pay1]

/-! ## The cases' values -/

section Cases
variable {F : FTy → Type} [FloatOps F]

theorem scr_A (c : Dev nD) (i : grid0.Coords) (a0 : Memref sig .tc .vmem S1024x1408 .bf16) (h0 : a0.IsWhole) (a1 : Memref sig .tc .vmem S1408x1024 .bf16) (h1 : a1.IsWhole)
    (a2 : Memref sig .tc .vmem S1024x1024 .f32) (h2 : a2.IsWhole) (a3 : Memref sig .tc .vmem S1024x1024 .f32) (h3 : a3.IsWhole)
    (c0 : cond0_0 i) (c1 : ¬cond0_1 i) (c2 : ¬cond0_2 i) (x0 : Vec F S1024x1408 .bf16) (x1 : Vec F S1408x1024 .bf16) :
    sout0_A_0 c i a0 h0 a1 h1 a2 h2 a3 h3 c0 c1 c2 x0 x1 = k0_pay1 x0 x1 := by
  unfold sout0_A_0
  rw [View.read_writes_eq_canon _ _ _ (scover0_A_0 c i a0 h0 a1 h1 a2 h2 a3 h3 c0 c1 c2 x0 x1)]
  unfold kernelRun0_A
  dsimp only
  sl_unfold_words
  rw [View.canon_unit_zero hz]
  unfold k0_pay2
  simp only [View.readAt_eq_ld, h0.read_unread, h1.read_unread, View.ld_unit_zero (S := S1024x1408) hz, View.ld_unit_zero (S := S1408x1024) hz, shapeCast_self]

theorem scr_B (c : Dev nD) (i : grid0.Coords) (a0 : Memref sig .tc .vmem S1024x1408 .bf16) (h0 : a0.IsWhole) (a1 : Memref sig .tc .vmem S1408x1024 .bf16) (h1 : a1.IsWhole)
    (a2 : Memref sig .tc .vmem S1024x1024 .f32) (h2 : a2.IsWhole) (a3 : Memref sig .tc .vmem S1024x1024 .f32) (h3 : a3.IsWhole)
    (c0 : ¬cond0_0 i) (c1 : cond0_1 i) (c2 : ¬cond0_2 i) (x0 : Vec F S1024x1408 .bf16) (x1 : Vec F S1408x1024 .bf16) (xs : Vec F S1024x1024 .f32) :
    sout0_B_0 c i a0 h0 a1 h1 a2 h2 a3 h3 c0 c1 c2 x0 x1 xs = addf xs (k0_pay1 x0 x1) := by
  unfold sout0_B_0
  rw [View.read_writes_eq_canon _ _ _ (scover0_B_0 c i a0 h0 a1 h1 a2 h2 a3 h3 c0 c1 c2 x0 x1 xs)]
  unfold kernelRun0_B
  dsimp only
  sl_unfold_words
  rw [View.canon_unit_zero hz]
  unfold k0_pay3
  simp only [View.readAt_eq_ld, h0.read_unread, h1.read_unread, h3.read_unread, View.ld_unit_zero (S := S1024x1408) hz, View.ld_unit_zero (S := S1408x1024) hz,
    View.ld_unit_zero (S := S1024x1024) hz, shapeCast_self]

theorem scr_C (c : Dev nD) (i : grid0.Coords) (a0 : Memref sig .tc .vmem S1024x1408 .bf16) (h0 : a0.IsWhole) (a1 : Memref sig .tc .vmem S1408x1024 .bf16) (h1 : a1.IsWhole)
    (a2 : Memref sig .tc .vmem S1024x1024 .f32) (h2 : a2.IsWhole) (a3 : Memref sig .tc .vmem S1024x1024 .f32) (h3 : a3.IsWhole)
    (c0 : ¬cond0_0 i) (c1 : cond0_1 i) (c2 : cond0_2 i) (x0 : Vec F S1024x1408 .bf16) (x1 : Vec F S1408x1024 .bf16) (xs : Vec F S1024x1024 .f32) :
    sout0_C_0 c i a0 h0 a1 h1 a2 h2 a3 h3 c0 c1 c2 x0 x1 xs = addf xs (k0_pay1 x0 x1) := by
  unfold sout0_C_0
  rw [View.read_writes_eq_canon _ _ _ (scover0_C_0 c i a0 h0 a1 h1 a2 h2 a3 h3 c0 c1 c2 x0 x1 xs)]
  unfold kernelRun0_C
  dsimp only
  sl_unfold_words
  rw [View.canon_unit_zero hz]
  unfold k0_pay3
  simp only [View.readAt_eq_ld, h0.read_unread, h1.read_unread, h3.read_unread, View.ld_unit_zero (S := S1024x1408) hz, View.ld_unit_zero (S := S1408x1024) hz,
    View.ld_unit_zero (S := S1024x1024) hz, shapeCast_self]

theorem out_C (c : Dev nD) (i : grid0.Coords) (a0 : Memref sig .tc .vmem S1024x1408 .bf16) (h0 : a0.IsWhole) (a1 : Memref sig .tc .vmem S1408x1024 .bf16) (h1 : a1.IsWhole)
    (a2 : Memref sig .tc .vmem S1024x1024 .f32) (h2 : a2.IsWhole) (a3 : Memref sig .tc .vmem S1024x1024 .f32) (h3 : a3.IsWhole)
    (c0 : ¬cond0_0 i) (c1 : cond0_1 i) (c2 : cond0_2 i) (x0 : Vec F S1024x1408 .bf16) (x1 : Vec F S1408x1024 .bf16) (xs : Vec F S1024x1024 .f32) :
    out0_C_2 c i a0 h0 a1 h1 a2 h2 a3 h3 c0 c1 c2 x0 x1 xs = sout0_C_0 c i a0 h0 a1 h1 a2 h2 a3 h3 c0 c1 c2 x0 x1 xs := by
  rw [scr_C]
  unfold out0_C_2
  rw [View.read_writes_eq_canon _ _ _ (cover0_C_2 c i a0 h0 a1 h1 a2 h2 a3 h3 c0 c1 c2 x0 x1 xs)]
  unfold kernelRun0_C
  dsimp only
  sl_unfold_words
  rw [View.canon_unit_zero hz, View.readCov_unit_zero (S := S1024x1024) _ hz]
  unfold k0_pay3
  simp only [View.readAt_eq_ld, h0.read_unread, h1.read_unread, h3.read_unread, View.ld_unit_zero (S := S1024x1408) hz, View.ld_unit_zero (S := S1408x1024) hz,
    View.ld_unit_zero (S := S1024x1024) hz, shapeCast_self]

end Cases

/-! ## The blocks -/

variable (m : (ℓ : Loc nD τ sig) → Buf (Elt Ideal) ℓ) (c : Dev nD)

theorem idx_0 : ∀ t : Fin cfg0.N, win0_0.index t = ![t.val / 8, t.val % 4] := by decide +kernel
theorem idx_1 : ∀ t : Fin cfg0.N, win0_1.index t = ![t.val % 4, t.val / 4 % 2] := by decide +kernel
theorem idx_2 : ∀ t : Fin cfg0.N, win0_2.index t = ![t.val / 8, t.val / 4 % 2] := by decide +kernel

def arg0 : FVec Ideal S8192x5632 .bf16 := m ((c.tc : Thread nD τ).loc main_arg0)
def arg1 : FVec Ideal S5632x2048 .bf16 := m ((c.tc : Thread nD τ).loc main_arg1)

theorem blk_0 (t : Fin cfg0.N) (p : Fin 1024) (r : Fin 1408) : at2 (iblk m c 0 t) p r = at2 (arg0 m c) (1024 * (t.val / 8) + p) (1408 * (t.val % 4) + r) := by
  have ht : t.val < 64 := Nat.lt_of_lt_of_eq t.isLt N_0
  rw [at2_fin, at2_eq _ (by omega) (by omega)]
  have e : V m c main_arg0 = arg0 m c := V_main_arg0 m c
  rw [← e]
  blk_simp [iblk]
  refine congrArg (V m c main_arg0) ?_
  blk_ext [idx_0]

theorem blk_1 (t : Fin cfg0.N) (r : Fin 1408) (q : Fin 1024) : at2 (iblk m c 1 t) r q = at2 (arg1 m c) (1408 * (t.val % 4) + r) (1024 * (t.val / 4 % 2) + q) := by
  have ht : t.val < 64 := Nat.lt_of_lt_of_eq t.isLt N_0
  rw [at2_fin, at2_eq _ (by omega) (by omega)]
  have e : V m c main_arg1 = arg1 m c := V_main_arg1 m c
  rw [← e]
  blk_simp [iblk]
  refine congrArg (V m c main_arg1) ?_
  blk_ext [idx_1]

/-- The addends of the entry at place `p`, `q` of the result's block `b`. -/
def term (p q b k : ℕ) : EReal := at2 (arg0 m c) (1024 * (b / 2) + p) k * at2 (arg1 m c) k (1024 * (b % 2) + q)

theorem point (t : Fin cfg0.N) (p : Fin 1024) (q : Fin 1024) :
    k0_pay1 (iblk m c 0 t) (iblk m c 1 t) (ix2 p q) = ∑ r : Fin 1408, term m c p q (t.val / 4) (1408 * (t.val % 4) + r) := by
  have e : t.val / 4 / 2 = t.val / 8 := by omega
  refine (pay_at (iblk m c 0 t) (iblk m c 1 t) p q).trans (Finset.sum_congr rfl fun r _ => ?_)
  rw [blk_0, blk_1, term, e]

/-- The scratch after every point. -/
theorem scr (p : Fin 1024) (q : Fin 1024) (n : ℕ) (h : n < cfg0.N) :
    (outsAt0 m c n h).2 (ix2 p q) = ∑ k ∈ Finset.range (1408 * (n % 4 + 1)), term m c p q (n / 4) k := by
  refine blocks_sum (by decide) (fun n h => (outsAt0 m c n h).2 (ix2 p q)) (term m c p q) (fun n h h0 => ?_) (fun n h h0 => ?_) n h
  · rw [outsAt0_A m c ⟨n, h⟩ h0 (by dsimp only; omega) (by dsimp only; omega)]
    dsimp only
    rw [scr_A]
    exact point m c ⟨n, h⟩ p q
  · rw [← point m c ⟨n, h⟩ p q]
    by_cases h2 : n % 4 = 3
    · rw [outsAt0_C m c ⟨n, h⟩ h0 (by dsimp only; omega) h2]
      dsimp only
      rw [scr_C]
      rfl
    · rw [outsAt0_B m c ⟨n, h⟩ h0 (by dsimp only; omega) h2]
      dsimp only
      rw [scr_B]
      rfl

/-- The result array. -/
theorem final {G : FVec Ideal S8192x2048 .f32} (hG : ∀ (i : Fin 8192) (j : Fin 2048), G (ix2 i j) = ∑ k : Fin 5632, at2 (arg0 m c) i k * at2 (arg1 m c) k j) :
    (dats m 0 c).arrAt 2 cfg0.N = G := by
  refine (dats m 0 c).arrAt_eq_of_covers 2 _ (by decide +kernel) fun t hf y => ?_
  have ht : t.val < 64 := Nat.lt_of_lt_of_eq t.isLt N_0
  have h3 : t.val % 4 = 3 := (flush0_2 t).mp hf
  have e : (outsAt0 m c t.val t.isLt).1 = (outsAt0 m c t.val t.isLt).2 := by
    rw [outsAt0_C m c t (by omega) (by omega) h3]
    dsimp only
    rw [out_C]
  blk_simp
  rw [after0_2, e]
  obtain ⟨p, q, rfl⟩ : ∃ (p : Fin 1024) (q : Fin 1024), y = ix2 p q := ⟨y 0, y 1, eq_ix2 y⟩
  refine (scr m c p q t.val t.isLt).trans (Eq.trans ?_ ((hG ⟨1024 * (t.val / 8) + p.val, by omega⟩ ⟨1024 * (t.val / 4 % 2) + q.val, by omega⟩).symm.trans (congrArg G ?_)))
  · have e2 : t.val / 4 / 2 = t.val / 8 := by omega
    rw [h3, Finset.sum_range]
    simp only [term, e2]
  · blk_ext [idx_2]

/-! ## The reference -/

/-- The reference's result, entry by entry. -/
theorem ref_at (x : FVec Ideal S8192x5632 .bf16) (y : FVec Ideal S5632x2048 .bf16) (i : Fin 8192) (j : Fin 2048) :
    Host.dotGeneral Cert.RefDownIdeal.dot_S8192x5632_S5632x2048_S8192x2048_1_0_0_1_n_n none
      (extf .f32 x Cert.RefDownIdeal.Gen.bitsLt_bf16_f32) (extf .f32 y Cert.RefDownIdeal.Gen.bitsLt_bf16_f32) (ix2 i j)
    = ∑ k : Fin 5632, at2 x i k * at2 y k j := by
  simp only [at2_fin]
  pointwise

/-- The value claim. -/
theorem value : Cert.algebraic_DownIdeal_RefDownIdeal := fun m g m' g' _ hargs => by
  refine ⟨_, Value.run_blocks m g, (θ_run Cert.RefDownIdeal.defs _ _).mono (fun r h c => ?_) (Cert.RefDownIdeal.Value.run m' g')⟩
  refine ⟨(h c).1.trans ?_, (h c).2⟩
  rw [(hargs c).1, (hargs c).2]
  exact (final m c (ref_at (arg0 m c) (arg1 m c))).symm

/-! ## The runs -/

/-- The printed program is its idealization: over the bits their bodies are equal, -/
theorem body_eq : @Cert.Down.cc0_mm_down Bits _ _ = @Cert.DownIdeal.cc0_mm_down Bits _ _ := by
  unfold Cert.Down.cc0_mm_down Cert.DownIdeal.cc0_mm_down
  rfl

/-- so are the programs of their body labels, -/
theorem defs0_eq : Cert.Down.defs₀ (F := Bits) = Cert.DownIdeal.defs₀ (F := Bits) := by
  refine congrArg Defs.onTc ?_
  funext l a
  match l, a with
  | 0, (t, s) =>
    exact
      congrFun (congrFun (congrFun (congrFun (congrFun (congrFun (congrFun (congrFun (congrFun
      body_eq _) _) _) _) _) _) _) _) _

/-- those of all labels, the pipeline's own included, -/
theorem defs_eq : Cert.Down.defs (F := Bits) = Cert.DownIdeal.defs (F := Bits) :=
  congrArg (Pipeline.defs (Cert.Down.pcfgs (F := Bits))) defs0_eq

/-- and their host functions. -/
theorem main_eq : Cert.Down.main (F := Bits) = Cert.DownIdeal.main (F := Bits) := rfl

/-- So the one run serves both. -/
theorem frame : Cert.quiescent_Down := fun m g _ =>
  (congrArg₂ (fun D B => θ_run D (onTc (τ := Cert.Down.τ) B) ⟨m, fun _ => 0, g⟩ _)
    defs_eq main_eq).mpr (Cert.DownIdeal.Gen.frame (F := Bits) m g)

/-- The reference runs, its arguments unchanged. -/
theorem ref_frame : Cert.quiescent_RefDownIdeal := fun m g _ =>
  (θ_run Cert.RefDownIdeal.defs _ _).mono (fun r h => ⟨fun c => (h c).2, sem_eq_zero_of_no_sems (by decide) r.2⟩) (Cert.RefDownIdeal.Value.run m g)

end Cert.DownIdeal.Mm

end
-- ==== Proof.Ssm.lean ====
/- The state-space block's output projection: the kernel's result is the reference's. -/
module

public import proofs.«01_k».proof.Defs
public import proofs.«01_k».proof.Proof.Products
public import proofs.«01_k».proof.Proof.Gen.Ssm
public import proofs.«01_k».proof.Proof.Gen.SsmIdeal.Value
public import proofs.«01_k».proof.Proof.Gen.RefSsmIdeal.Run
public import Idealize.ShloMosaic.Lib.Pipeline.ValueKit
public import Idealize.ShloMosaic.Lib.Quiescent

@[expose] public section

noncomputable section

namespace Cert.SsmIdeal.Mm

open Idealize.ShloMosaic Idealize.ShloMosaic.TcCoe Idealize.SL Idealize.SL.Sem Gen Cert.Products
open Idealize.ShloMosaic.Pipeline (Dat)
open scoped BigOperators

/-! ## A block's product -/

theorem pay_at (x0 : Vec Ideal S1024x2048 .bf16) (x1 : Vec Ideal S2048x1024 .bf16) (p : Fin 1024) (q : Fin 1024) :
    k0_pay1 x0 x1 (ix2 p q) = ∑ r : Fin 2048, at2 x0 p r * at2 x1 r q := by
  simp only [at2_fin]
  pointwise [k0_pay1]

/-! ## The cases' values -/

section Cases
variable {F : FTy → Type} [FloatOps F]

theorem scr_A (c : Dev nD) (i : grid0.Coords) (a0 : Memref sig .tc .vmem S1024x2048 .bf16) (h0 : a0.IsWhole) (a1 : Memref sig .tc .vmem S2048x1024 .bf16) (h1 : a1.IsWhole)
    (a2 : Memref sig .tc .vmem S1024x1024 .f32) (h2 : a2.IsWhole) (a3 : Memref sig .tc .vmem S1024x1024 .f32) (h3 : a3.IsWhole)
    (c0 : cond0_0 i) (c1 : ¬cond0_1 i) (c2 : ¬cond0_2 i) (x0 : Vec F S1024x2048 .bf16) (x1 : Vec F S2048x1024 .bf16) :
    sout0_A_0 c i a0 h0 a1 h1 a2 h2 a3 h3 c0 c1 c2 x0 x1 = k0_pay1 x0 x1 := by
  unfold sout0_A_0
  rw [View.read_writes_eq_canon _ _ _ (scover0_A_0 c i a0 h0 a1 h1 a2 h2 a3 h3 c0 c1 c2 x0 x1)]
  unfold kernelRun0_A
  dsimp only
  sl_unfold_words
  rw [View.canon_unit_zero hz]
  unfold k0_pay2
  simp only [View.readAt_eq_ld, h0.read_unread, h1.read_unread, View.ld_unit_zero (S := S1024x2048) hz, View.ld_unit_zero (S := S2048x1024) hz, shapeCast_self]

theorem scr_B (c : Dev nD) (i : grid0.Coords) (a0 : Memref sig .tc .vmem S1024x2048 .bf16) (h0 : a0.IsWhole) (a1 : Memref sig .tc .vmem S2048x1024 .bf16) (h1 : a1.IsWhole)
    (a2 : Memref sig .tc .vmem S1024x1024 .f32) (h2 : a2.IsWhole) (a3 : Memref sig .tc .vmem S1024x1024 .f32) (h3 : a3.IsWhole)
    (c0 : ¬cond0_0 i) (c1 : cond0_1 i) (c2 : cond0_2 i) (x0 : Vec F S1024x2048 .bf16) (x1 : Vec F S2048x1024 .bf16) (xs : Vec F S1024x1024 .f32) :
    sout0_B_0 c i a0 h0 a1 h1 a2 h2 a3 h3 c0 c1 c2 x0 x1 xs = addf xs (k0_pay1 x0 x1) := by
  unfold sout0_B_0
  rw [View.read_writes_eq_canon _ _ _ (scover0_B_0 c i a0 h0 a1 h1 a2 h2 a3 h3 c0 c1 c2 x0 x1 xs)]
  unfold kernelRun0_B
  dsimp only
  sl_unfold_words
  rw [View.canon_unit_zero hz]
  unfold k0_pay3
  simp only [View.readAt_eq_ld, h0.read_unread, h1.read_unread, h3.read_unread, View.ld_unit_zero (S := S1024x2048) hz, View.ld_unit_zero (S := S2048x1024) hz,
    View.ld_unit_zero (S := S1024x1024) hz, shapeCast_self]

theorem out_B (c : Dev nD) (i : grid0.Coords) (a0 : Memref sig .tc .vmem S1024x2048 .bf16) (h0 : a0.IsWhole) (a1 : Memref sig .tc .vmem S2048x1024 .bf16) (h1 : a1.IsWhole)
    (a2 : Memref sig .tc .vmem S1024x1024 .f32) (h2 : a2.IsWhole) (a3 : Memref sig .tc .vmem S1024x1024 .f32) (h3 : a3.IsWhole)
    (c0 : ¬cond0_0 i) (c1 : cond0_1 i) (c2 : cond0_2 i) (x0 : Vec F S1024x2048 .bf16) (x1 : Vec F S2048x1024 .bf16) (xs : Vec F S1024x1024 .f32) :
    out0_B_2 c i a0 h0 a1 h1 a2 h2 a3 h3 c0 c1 c2 x0 x1 xs = sout0_B_0 c i a0 h0 a1 h1 a2 h2 a3 h3 c0 c1 c2 x0 x1 xs := by
  rw [scr_B]
  unfold out0_B_2
  rw [View.read_writes_eq_canon _ _ _ (cover0_B_2 c i a0 h0 a1 h1 a2 h2 a3 h3 c0 c1 c2 x0 x1 xs)]
  unfold kernelRun0_B
  dsimp only
  sl_unfold_words
  rw [View.canon_unit_zero hz, View.readCov_unit_zero (S := S1024x1024) _ hz]
  unfold k0_pay3
  simp only [View.readAt_eq_ld, h0.read_unread, h1.read_unread, h3.read_unread, View.ld_unit_zero (S := S1024x2048) hz, View.ld_unit_zero (S := S2048x1024) hz,
    View.ld_unit_zero (S := S1024x1024) hz, shapeCast_self]

end Cases

/-! ## The blocks -/

variable (m : (ℓ : Loc nD τ sig) → Buf (Elt Ideal) ℓ) (c : Dev nD)

theorem idx_0 : ∀ t : Fin cfg0.N, win0_0.index t = ![t.val / 4, t.val % 2] := by decide +kernel
theorem idx_1 : ∀ t : Fin cfg0.N, win0_1.index t = ![t.val % 2, t.val / 2 % 2] := by decide +kernel
theorem idx_2 : ∀ t : Fin cfg0.N, win0_2.index t = ![t.val / 4, t.val / 2 % 2] := by decide +kernel

def arg0 : FVec Ideal S8192x4096 .bf16 := m ((c.tc : Thread nD τ).loc main_arg0)
def arg1 : FVec Ideal S4096x2048 .bf16 := m ((c.tc : Thread nD τ).loc main_arg1)

theorem blk_0 (t : Fin cfg0.N) (p : Fin 1024) (r : Fin 2048) : at2 (iblk m c 0 t) p r = at2 (arg0 m c) (1024 * (t.val / 4) + p) (2048 * (t.val % 2) + r) := by
  have ht : t.val < 32 := Nat.lt_of_lt_of_eq t.isLt N_0
  rw [at2_fin, at2_eq _ (by omega) (by omega)]
  have e : V m c main_arg0 = arg0 m c := V_main_arg0 m c
  rw [← e]
  blk_simp [iblk]
  refine congrArg (V m c main_arg0) ?_
  blk_ext [idx_0]

theorem blk_1 (t : Fin cfg0.N) (r : Fin 2048) (q : Fin 1024) : at2 (iblk m c 1 t) r q = at2 (arg1 m c) (2048 * (t.val % 2) + r) (1024 * (t.val / 2 % 2) + q) := by
  have ht : t.val < 32 := Nat.lt_of_lt_of_eq t.isLt N_0
  rw [at2_fin, at2_eq _ (by omega) (by omega)]
  have e : V m c main_arg1 = arg1 m c := V_main_arg1 m c
  rw [← e]
  blk_simp [iblk]
  refine congrArg (V m c main_arg1) ?_
  blk_ext [idx_1]

/-- The addends of the entry at place `p`, `q` of the result's block `b`. -/
def term (p q b k : ℕ) : EReal := at2 (arg0 m c) (1024 * (b / 2) + p) k * at2 (arg1 m c) k (1024 * (b % 2) + q)

theorem point (t : Fin cfg0.N) (p : Fin 1024) (q : Fin 1024) :
    k0_pay1 (iblk m c 0 t) (iblk m c 1 t) (ix2 p q) = ∑ r : Fin 2048, term m c p q (t.val / 2) (2048 * (t.val % 2) + r) := by
  have e : t.val / 2 / 2 = t.val / 4 := by omega
  refine (pay_at (iblk m c 0 t) (iblk m c 1 t) p q).trans (Finset.sum_congr rfl fun r _ => ?_)
  rw [blk_0, blk_1, term, e]

/-- The scratch after every point. -/
theorem scr (p : Fin 1024) (q : Fin 1024) (n : ℕ) (h : n < cfg0.N) :
    (outsAt0 m c n h).2 (ix2 p q) = ∑ k ∈ Finset.range (2048 * (n % 2 + 1)), term m c p q (n / 2) k := by
  refine blocks_sum (by decide) (fun n h => (outsAt0 m c n h).2 (ix2 p q)) (term m c p q) (fun n h h0 => ?_) (fun n h h0 => ?_) n h
  · rw [outsAt0_A m c ⟨n, h⟩ h0 (by dsimp only; omega) (by dsimp only; omega)]
    dsimp only
    rw [scr_A]
    exact point m c ⟨n, h⟩ p q
  · rw [← point m c ⟨n, h⟩ p q]
    rw [outsAt0_B m c ⟨n, h⟩ h0 (by dsimp only; omega) (by dsimp only; omega)]
    dsimp only
    rw [scr_B]
    rfl

/-- The result array. -/
theorem final {G : FVec Ideal S8192x2048 .f32} (hG : ∀ (i : Fin 8192) (j : Fin 2048), G (ix2 i j) = ∑ k : Fin 4096, at2 (arg0 m c) i k * at2 (arg1 m c) k j) :
    (dats m 0 c).arrAt 2 cfg0.N = G := by
  refine (dats m 0 c).arrAt_eq_of_covers 2 _ (by decide +kernel) fun t hf y => ?_
  have ht : t.val < 32 := Nat.lt_of_lt_of_eq t.isLt N_0
  have h3 : t.val % 2 = 1 := (flush0_2 t).mp hf
  have e : (outsAt0 m c t.val t.isLt).1 = (outsAt0 m c t.val t.isLt).2 := by
    rw [outsAt0_B m c t (by omega) h3 h3]
    dsimp only
    rw [out_B]
  blk_simp
  rw [after0_2, e]
  obtain ⟨p, q, rfl⟩ : ∃ (p : Fin 1024) (q : Fin 1024), y = ix2 p q := ⟨y 0, y 1, eq_ix2 y⟩
  refine (scr m c p q t.val t.isLt).trans (Eq.trans ?_ ((hG ⟨1024 * (t.val / 4) + p.val, by omega⟩ ⟨1024 * (t.val / 2 % 2) + q.val, by omega⟩).symm.trans (congrArg G ?_)))
  · have e2 : t.val / 2 / 2 = t.val / 4 := by omega
    rw [h3, Finset.sum_range]
    simp only [term, e2]
  · blk_ext [idx_2]

/-! ## The reference -/

/-- The reference's result, entry by entry. -/
theorem ref_at (x : FVec Ideal S8192x4096 .bf16) (y : FVec Ideal S4096x2048 .bf16) (i : Fin 8192) (j : Fin 2048) :
    Host.dotGeneral Cert.RefSsmIdeal.dot_S8192x4096_S4096x2048_S8192x2048_1_0_0_1_n_n none
      (extf .f32 x Cert.RefSsmIdeal.Gen.bitsLt_bf16_f32) (extf .f32 y Cert.RefSsmIdeal.Gen.bitsLt_bf16_f32) (ix2 i j)
    = ∑ k : Fin 4096, at2 x i k * at2 y k j := by
  simp only [at2_fin]
  pointwise

/-- The value claim. -/
theorem value : Cert.algebraic_SsmIdeal_RefSsmIdeal := fun m g m' g' _ hargs => by
  refine ⟨_, Value.run_blocks m g, (θ_run Cert.RefSsmIdeal.defs _ _).mono (fun r h c => ?_) (Cert.RefSsmIdeal.Value.run m' g')⟩
  refine ⟨(h c).1.trans ?_, (h c).2⟩
  rw [(hargs c).1, (hargs c).2]
  exact (final m c (ref_at (arg0 m c) (arg1 m c))).symm

/-! ## The runs -/

/-- The printed program is its idealization: over the bits their bodies are equal, -/
theorem body_eq : @Cert.Ssm.cc0_mm_ssm_o Bits _ _ = @Cert.SsmIdeal.cc0_mm_ssm_o Bits _ _ := by
  unfold Cert.Ssm.cc0_mm_ssm_o Cert.SsmIdeal.cc0_mm_ssm_o
  rfl

/-- so are the programs of their body labels, -/
theorem defs0_eq : Cert.Ssm.defs₀ (F := Bits) = Cert.SsmIdeal.defs₀ (F := Bits) := by
  refine congrArg Defs.onTc ?_
  funext l a
  match l, a with
  | 0, (t, s) =>
    exact
      congrFun (congrFun (congrFun (congrFun (congrFun (congrFun (congrFun (congrFun (congrFun
      body_eq _) _) _) _) _) _) _) _) _

/-- those of all labels, the pipeline's own included, -/
theorem defs_eq : Cert.Ssm.defs (F := Bits) = Cert.SsmIdeal.defs (F := Bits) :=
  congrArg (Pipeline.defs (Cert.Ssm.pcfgs (F := Bits))) defs0_eq

/-- and their host functions. -/
theorem main_eq : Cert.Ssm.main (F := Bits) = Cert.SsmIdeal.main (F := Bits) := rfl

/-- So the one run serves both. -/
theorem frame : Cert.quiescent_Ssm := fun m g _ =>
  (congrArg₂ (fun D B => θ_run D (onTc (τ := Cert.Ssm.τ) B) ⟨m, fun _ => 0, g⟩ _)
    defs_eq main_eq).mpr (Cert.SsmIdeal.Gen.frame (F := Bits) m g)

/-- The reference runs, its arguments unchanged. -/
theorem ref_frame : Cert.quiescent_RefSsmIdeal := fun m g _ =>
  (θ_run Cert.RefSsmIdeal.defs _ _).mono (fun r h => ⟨fun c => (h c).2, sem_eq_zero_of_no_sems (by decide) r.2⟩) (Cert.RefSsmIdeal.Value.run m g)

end Cert.SsmIdeal.Mm

end
-- ==== Proof.Out.lean ====
/- A product of the step's rows with a square matrix, in one block of the sum: the output projections of the mixer and of the
   attention, and the layer input's gate. -/
module

public import proofs.«01_k».proof.Defs
public import proofs.«01_k».proof.Proof.Products
public import proofs.«01_k».proof.Proof.Gen.Out
public import proofs.«01_k».proof.Proof.Gen.OutIdeal.Value
public import proofs.«01_k».proof.Proof.Gen.RefOutIdeal.Run
public import Idealize.ShloMosaic.Lib.Pipeline.ValueKit
public import Idealize.ShloMosaic.Lib.Quiescent

@[expose] public section

noncomputable section

namespace Cert.OutIdeal.Mm

open Idealize.ShloMosaic Idealize.ShloMosaic.TcCoe Idealize.SL Idealize.SL.Sem Gen Cert.Products
open Idealize.ShloMosaic.Pipeline (Dat)
open scoped BigOperators

/-- A block's product. -/
theorem out_at (x0 : Vec Ideal S1024x2048 .bf16) (x1 : Vec Ideal S2048x1024 .bf16) (p : Fin 1024) (q : Fin 1024) :
    out0_2 x0 x1 (ix2 p q) = ∑ r : Fin 2048, at2 x0 p r * at2 x1 r q := by
  unfold out0_2
  rw [View.canon_unit_zero hz, View.ld_unit_zero (S := S1024x2048) hz, View.ld_unit_zero (S := S2048x1024) hz]
  simp only [at2_fin]
  pointwise [k0_pay1]

variable (m : (ℓ : Loc nD τ sig) → Buf (Elt Ideal) ℓ) (c : Dev nD)

theorem idx_0 : ∀ t : Fin cfg0.N, win0_0.index t = ![t.val / 2, 0] := by decide +kernel
theorem idx_1 : ∀ t : Fin cfg0.N, win0_1.index t = ![0, t.val % 2] := by decide +kernel
theorem idx_2 : ∀ t : Fin cfg0.N, win0_2.index t = ![t.val / 2, t.val % 2] := by decide +kernel

def arg0 : FVec Ideal S8192x2048 .bf16 := m ((c.tc : Thread nD τ).loc main_arg0)
def arg1 : FVec Ideal S2048x2048 .bf16 := m ((c.tc : Thread nD τ).loc main_arg1)

theorem blk_0 (t : Fin cfg0.N) (p : Fin 1024) (r : Fin 2048) : at2 (iblk m c 0 t) p r = at2 (arg0 m c) (1024 * (t.val / 2) + p) r := by
  have ht : t.val < 16 := Nat.lt_of_lt_of_eq t.isLt N_0
  rw [at2_fin, at2_eq _ (by omega) (by omega)]
  have e : V m c main_arg0 = arg0 m c := V_main_arg0 m c
  rw [← e]
  blk_simp [iblk]
  refine congrArg (V m c main_arg0) ?_
  blk_ext [idx_0]

theorem blk_1 (t : Fin cfg0.N) (r : Fin 2048) (q : Fin 1024) : at2 (iblk m c 1 t) r q = at2 (arg1 m c) r (1024 * (t.val % 2) + q) := by
  rw [at2_fin, at2_eq _ (by omega) (by omega)]
  have e : V m c main_arg1 = arg1 m c := V_main_arg1 m c
  rw [← e]
  blk_simp [iblk]
  refine congrArg (V m c main_arg1) ?_
  blk_ext [idx_1]

/-- The result array. -/
theorem final {G : FVec Ideal S8192x2048 .f32} (hG : ∀ (i : Fin 8192) (j : Fin 2048), G (ix2 i j) = ∑ k : Fin 2048, at2 (arg0 m c) i k * at2 (arg1 m c) k j) :
    (dats m 0 c).arrAt 2 cfg0.N = G := by
  refine (dats m 0 c).arrAt_eq_of_covers 2 _ (by decide +kernel) fun t hf y => ?_
  have ht : t.val < 16 := Nat.lt_of_lt_of_eq t.isLt N_0
  blk_simp
  rw [after0_2]
  obtain ⟨p, q, rfl⟩ : ∃ (p : Fin 1024) (q : Fin 1024), y = ix2 p q := ⟨y 0, y 1, eq_ix2 y⟩
  refine (out_at (iblk m c 0 t) (iblk m c 1 t) p q).trans
    (Eq.trans ?_ ((hG ⟨1024 * (t.val / 2) + p.val, by omega⟩ ⟨1024 * (t.val % 2) + q.val, by omega⟩).symm.trans (congrArg G ?_)))
  · simp only [blk_0, blk_1]
  · blk_ext [idx_2]

/-- The reference's result, entry by entry. -/
theorem ref_at (x : FVec Ideal S8192x2048 .bf16) (y : FVec Ideal S2048x2048 .bf16) (i : Fin 8192) (j : Fin 2048) :
    Host.dotGeneral Cert.RefOutIdeal.dot_S8192x2048_S2048x2048_S8192x2048_1_0_0_1_n_n none
      (extf .f32 x Cert.RefOutIdeal.Gen.bitsLt_bf16_f32) (extf .f32 y Cert.RefOutIdeal.Gen.bitsLt_bf16_f32) (ix2 i j)
    = ∑ k : Fin 2048, at2 x i k * at2 y k j := by
  simp only [at2_fin]
  pointwise

/-- The value claim. -/
theorem value : Cert.algebraic_OutIdeal_RefOutIdeal := fun m g m' g' _ hargs => by
  refine ⟨_, Value.run_blocks m g, (θ_run Cert.RefOutIdeal.defs _ _).mono (fun r h c => ?_) (Cert.RefOutIdeal.Value.run m' g')⟩
  refine ⟨(h c).1.trans ?_, (h c).2⟩
  rw [(hargs c).1, (hargs c).2]
  exact (final m c (ref_at (arg0 m c) (arg1 m c))).symm

/-! ## The runs -/

/-- The printed program is its idealization: over the bits their bodies are equal, -/
theorem body_eq : @Cert.Out.cc0_mm_out Bits _ _ = @Cert.OutIdeal.cc0_mm_out Bits _ _ := by
  unfold Cert.Out.cc0_mm_out Cert.OutIdeal.cc0_mm_out
  rfl

/-- so are the programs of their body labels, -/
theorem defs0_eq : Cert.Out.defs₀ (F := Bits) = Cert.OutIdeal.defs₀ (F := Bits) := by
  refine congrArg Defs.onTc ?_
  funext l a
  match l, a with
  | 0, (t, s) =>
    exact
      congrFun (congrFun (congrFun (congrFun (congrFun (congrFun (congrFun body_eq _) _) _) _) _)
      _) _

/-- those of all labels, the pipeline's own included, -/
theorem defs_eq : Cert.Out.defs (F := Bits) = Cert.OutIdeal.defs (F := Bits) :=
  congrArg (Pipeline.defs (Cert.Out.pcfgs (F := Bits))) defs0_eq

/-- and their host functions. -/
theorem main_eq : Cert.Out.main (F := Bits) = Cert.OutIdeal.main (F := Bits) := rfl

/-- So the one run serves both. -/
theorem frame : Cert.quiescent_Out := fun m g _ =>
  (congrArg₂ (fun D B => θ_run D (onTc (τ := Cert.Out.τ) B) ⟨m, fun _ => 0, g⟩ _)
    defs_eq main_eq).mpr (Cert.OutIdeal.Gen.frame (F := Bits) m g)

/-- The reference runs, its arguments unchanged. -/
theorem ref_frame : Cert.quiescent_RefOutIdeal := fun m g _ =>
  (θ_run Cert.RefOutIdeal.defs _ _).mono (fun r h => ⟨fun c => (h c).2, sem_eq_zero_of_no_sems (by decide) r.2⟩) (Cert.RefOutIdeal.Value.run m g)

end Cert.OutIdeal.Mm

end
-- ==== Proof.FwdStep.lean ====
/- One grid point of the attention's forward kernel as functions of vectors: the scores of every block of keys, what one
   block does to the running maximum, the running sum and the running output, and what the point writes at the end. -/
module

public import proofs.«01_k».proof.Proof.Gen.FwdIdeal.Skeleton
public import Idealize.ShloMosaic.Lib.VecWindow

@[expose] public section

noncomputable section

namespace Cert.FwdIdeal.Attn

open Idealize.ShloMosaic Idealize.SL Idealize.SL.Sem Gen

variable {F : FTy → Type} [FloatOps F] [Named F]

/-- The rows' running maximum, their running sum of exponentials, and the running output. -/
abbrev St (F : FTy → Type) := Vec F S1024x1 .f32 × Vec F S1024x1 .f32 × Vec F S1024x128 .f32

/-- Where the scores of block `k` are kept: the two places are taken in turn. -/
def slot (k : ℕ) : Fin 3 → ℕ := ![k % 2, 0, 0]

theorem slot_inb (k : ℕ) : ∀ a, slot k a + S1x1024x1024.size a ≤ S2x1024x1024.size a := by
  intro a
  have := Nat.mod_lt k (by decide : 2 > 0)
  fin_cases a
  · show k % 2 + 1 ≤ 2
    omega
  · exact Nat.le_refl 1024
  · exact Nat.le_refl 1024

variable (i : grid0.Coords) (x0 : Vec F S1024x256 .bf16) (x1 : Vec F S8192x256 .bf16) (x2 : Vec F S8192x128 .bf16)

/-- The scores of the point's queries and block `k` of the keys, as they are kept. -/
def sc : ℕ → Vec F S1x1024x1024 .f32
  | 0 => k0_pay20 x0 (VecWindow.window x1 ![0, 0] S1024x128.size inb_S8192x256_S1024x128_0_0) (VecWindow.window x2 ![0, 0] S1024x128.size inb_S8192x128_S1024x128_0_0)
  | k + 1 =>
    if h : k < (k0_t1_loop i).trips then
      k0_pay23 (k0_pay2 (k0_pay16 x0) (VecWindow.window x1 (k0_off1 i ⟨k, h⟩) S1024x128.size (k0_off1_inb i ⟨k, h⟩))
        (VecWindow.window x2 (k0_off2 i ⟨k, h⟩) S1024x128.size (k0_off2_inb i ⟨k, h⟩)))
    else sc k

theorem sc_succ (k : Fin (k0_t1_loop i).trips) :
    sc i x0 x1 x2 (k.val + 1) = k0_pay23 (k0_pay2 (k0_pay16 x0) (VecWindow.window x1 (k0_off1 i k) S1024x128.size (k0_off1_inb i k))
      (VecWindow.window x2 (k0_off2 i k) S1024x128.size (k0_off2_inb i k))) := dif_pos k.isLt

/-- Where a point starts. -/
def init : St F := (k0_pay17, k0_pay18, k0_pay19)

/-- What a block of keys before the queries' own does, of its scores `s`. -/
def trip (k : Fin (k0_t1_loop i).trips) (s : Vec F S1x1024x1024 .f32) (a : St F) : St F :=
  (k0_pay22 (k0_pay5 s a.1), k0_pay8 s a.1 a.2.1,
    k0_pay21 (k0_pay4 (VecWindow.window x1 (k0_off4 i k) S1024x128.size (k0_off4_inb i k))) (k0_pay6 s a.1) (k0_pay7 s a.1) a.2.2)

/-- The accumulators after the first `k` blocks. -/
def fold : ℕ → St F
  | 0 => init
  | k + 1 => if h : k < (k0_t1_loop i).trips then trip i x1 ⟨k, h⟩ (sc i x0 x1 x2 k) (fold k) else fold k

theorem fold_succ (k : Fin (k0_t1_loop i).trips) :
    fold i x0 x1 x2 (k.val + 1) = trip i x1 k (sc i x0 x1 x2 k.val) (fold i x0 x1 x2 k.val) := dif_pos k.isLt

/-- What the queries' own block of keys does, of its scores `s`. -/
def diag (s : Vec F S1x1024x1024 .f32) (a : St F) : St F :=
  (k0_pay34 (k0_pay28 s a.1), k0_pay31 s a.1 a.2.1,
    k0_pay33 (k0_pay32 s (VecWindow.window x1 (k0_off12 i) S1024x128.size (k0_off12_inb i)) a.1 a.2.2))

/-- The accumulators at the end of the point. -/
def last : St F := diag i x1 (sc i x0 x1 x2 (k0_t1_loop i).trips) (fold i x0 x1 x2 (k0_t1_loop i).trips)

/-- The block of the output the point writes. -/
def outO (a : St F) : Vec F S1024x128 .bf16 := k0_pay35 a.2.1 a.2.2

/-- The row of log-sums the point writes. -/
def outL (a : St F) : Vec F S1x1x1x1024 .f32 :=
  k0_pay1 (k0_pay36 a.2.1 a.1) k0_pay37 (k0_pay38 a.2.1 a.1) (k0_pay39 a.2.1 a.1) (k0_pay40 a.2.1 a.1)

end Cert.FwdIdeal.Attn

end
-- ==== Proof.FwdRow.lean ====
/- One row of the attention's forward kernel over the reals: the running maximum, the running sum of exponentials and the
   running output, as a block of keys continues them. -/
module

public import proofs.«01_k».proof.Proof.Reads

@[expose] public section

noncomputable section

namespace Cert.Attn

open Idealize.ShloMosaic
open Cert.ReferenceIdeal.Attn (fold_max_real)
open scoped BigOperators

variable {A : Args} {h n N : ℕ}

/-- What a row's accumulators hold after the keys below `N`: a maximum, and the sums of the exponentials of the scores less it. -/
def Row (A : Args) (h n N : ℕ) (mx l : EReal) (acc : Fin 128 → EReal) : Prop :=
  ∃ M : ℝ, mx = (if N = 0 then ⊥ else (M : EReal)) ∧ l = ((∑ κ ∈ Finset.range N, A.exM M h n κ * 1 : ℝ) : EReal)
    ∧ ∀ d : Fin 128, acc d = ((∑ κ ∈ Finset.range N, A.exM M h n κ * A.kv κ h (128 + d.val) : ℝ) : EReal)

/-- Sums of exponentials of the scores less one number, brought to another. -/
theorem rescale (M M' : ℝ) (g : ℕ → ℝ) :
    Real.exp (M - M') * ∑ κ ∈ Finset.range N, A.exM M h n κ * g κ = ∑ κ ∈ Finset.range N, A.exM M' h n κ * g κ := by
  rw [Finset.mul_sum]
  refine Finset.sum_congr rfl fun κ _ => ?_
  rw [Args.exM_eq, Args.exM_eq, show -M' = (M - M') + -M by ring, Real.exp_add]
  ring

/-- The exponential of the step from the old maximum to the new one brings the sums over. -/
theorem step_scale {M0 M : ℝ} {m0 : EReal} (hm : m0 = if N = 0 then ⊥ else (M0 : EReal)) (g : ℕ → ℝ) :
    Ideal.exp (m0 - (M : EReal)) * ((∑ κ ∈ Finset.range N, A.exM M0 h n κ * g κ : ℝ) : EReal)
      = ((∑ κ ∈ Finset.range N, A.exM M h n κ * g κ : ℝ) : EReal) := by
  by_cases h0 : N = 0
  · subst h0
    simp only [Finset.range_zero, Finset.sum_empty, EReal.coe_zero, mul_zero]
  · rw [hm, if_neg h0, ← EReal.coe_sub, exp_coe, ← EReal.coe_mul, rescale]

theorem step_max {M0 : ℝ} {m0 : EReal} (hm : m0 = if N = 0 then ⊥ else (M0 : EReal)) (hN : N ≤ n) (f : Fin 1024 → EReal)
    (hf : ∀ κ, f κ = if N + κ.val ≤ n then (A.score h n (N + κ.val) : EReal) else ⊥) :
    ∃ M : ℝ, max m0 (Finset.univ.fold max ⊥ f) = (M : EReal) := by
  obtain ⟨M1, h1⟩ := fold_max_real f (fun κ => by
    rw [hf]; split
    · exact EReal.coe_lt_top _
    · exact bot_lt_top) 0 (by rw [hf, if_pos (by simpa using hN)]; exact EReal.bot_lt_coe _)
  rw [h1, hm]
  by_cases h0 : N = 0
  · exact ⟨M1, by rw [if_pos h0]; exact max_eq_right bot_le⟩
  · exact ⟨max M0 M1, by rw [if_neg h0]; exact (EReal.coe_strictMono.monotone.map_max (a := M0) (b := M1)).symm⟩

theorem step_exp (M : ℝ) (f : Fin 1024 → EReal)
    (hf : ∀ κ, f κ = if N + κ.val ≤ n then (A.score h n (N + κ.val) : EReal) else ⊥) (κ : Fin 1024) :
    Ideal.exp (f κ - (M : EReal)) = (A.exM M h n (N + κ.val) : EReal) := by
  rw [hf, Args.exM]
  split
  · rw [← EReal.coe_sub, exp_coe]
  · exact exp_bot

/-- A block of 1024 keys continues the row. -/
theorem Row.step {mx l mx' l' : EReal} {acc acc' : Fin 128 → EReal} (hr : Row A h n N mx l acc) (hN : N ≤ n) (f : Fin 1024 → EReal)
    (hf : ∀ κ, f κ = if N + κ.val ≤ n then (A.score h n (N + κ.val) : EReal) else ⊥) (v : Fin 1024 → Fin 128 → EReal)
    (hv : ∀ κ d, v κ d = (A.kv (N + κ.val) h (128 + d.val) : EReal))
    (e1 : mx' = max mx (Finset.univ.fold max ⊥ f)) (e2 : l' = Ideal.exp (mx - mx') * l + ∑ κ, Ideal.exp (f κ - mx'))
    (e3 : ∀ d, acc' d = Ideal.exp (mx - mx') * acc d + ∑ κ, Ideal.exp (f κ - mx') * v κ d) :
    Row A h n (N + 1024) mx' l' acc' := by
  obtain ⟨M0, hm, hl, ha⟩ := hr
  obtain ⟨M, hM⟩ := step_max hm hN f hf
  rw [hM] at e1
  subst e1
  refine ⟨M, by rw [if_neg (by omega)], ?_, fun d => ?_⟩
  · rw [e2, hl, step_scale hm, sum_coe (fun κ => A.exM M h n (N + κ) * 1) _ fun κ => by rw [step_exp M f hf, mul_one], ← EReal.coe_add, ← Finset.sum_range_add]
  · rw [e3, ha, step_scale hm, sum_coe (fun κ => A.exM M h n (N + κ) * A.kv (N + κ) h (128 + d.val)) _ fun κ => by rw [step_exp M f hf, hv, EReal.coe_mul],
      ← EReal.coe_add, ← Finset.sum_range_add]

/-- Where a row starts. -/
theorem Row.zero : Row A h n 0 ⊥ 0 fun _ => 0 := ⟨0, by rw [if_pos rfl], by simp, fun d => by simp⟩

/-- A sum over the keys up to the query's is the sum over all of them. -/
theorem sum_all (M : ℝ) (g : ℕ → ℝ) (hn : n < N) (hN : N ≤ 8192) :
    ∑ κ ∈ Finset.range N, A.exM M h n κ * g κ = ∑ κ ∈ Finset.range 8192, A.exM M h n κ * g κ := by
  refine Finset.sum_subset (Finset.range_mono hN) fun κ _ hκ => ?_
  have : N ≤ κ := not_lt.mp fun hlt => hκ (Finset.mem_range.mpr hlt)
  rw [Args.exM, if_neg (by omega), zero_mul]

/-- The row's output, once every key up to the query's has been gone through. -/
theorem Row.out {mx l : EReal} {acc : Fin 128 → EReal} (hr : Row A h n N mx l acc) (hn : n < N) (hN : N ≤ 8192) (d : Fin 128) :
    Ideal.div (acc d) l = (A.out n h d.val : EReal) := by
  obtain ⟨M, -, hl, ha⟩ := hr
  have e : ∑ κ ∈ Finset.range N, A.exM M h n κ * 1 = A.totM M h n := by
    rw [sum_all M (fun _ => 1) hn hN]
    exact Finset.sum_congr rfl fun κ _ => mul_one _
  rw [hl, ha, e, sum_all M (fun κ => A.kv κ h (128 + d.val)) hn hN, div_coe _ _ (A.totM_pos M h n).ne', Finset.sum_div, Args.out]
  refine congrArg _ (Finset.sum_congr rfl fun κ _ => ?_)
  rw [← A.pr_shift M]
  ring

/-- The row's log-sum. -/
theorem Row.lse {mx l : EReal} {acc : Fin 128 → EReal} (hr : Row A h n N mx l acc) (hn : n < N) (hN : N ≤ 8192) :
    mx + Ideal.log l = (Real.log (A.tot h n) : EReal) := by
  obtain ⟨M, hm, hl, -⟩ := hr
  have e : ∑ κ ∈ Finset.range N, A.exM M h n κ * 1 = A.totM M h n := by
    rw [sum_all M (fun _ => 1) hn hN]
    exact Finset.sum_congr rfl fun κ _ => mul_one _
  rw [hm, if_neg (by omega), hl, e, log_coe _ (A.totM_pos M h n), ← EReal.coe_add, A.lse_shift M]

end Cert.Attn

end
-- ==== Proof.FwdPayload.lean ====
/- One block of the attention's forward kernel over the reals: what its text is at an index. -/
module

public import proofs.«01_k».proof.Proof.FwdStep
public import proofs.«01_k».proof.Proof.FwdRow
public import proofs.«01_k».proof.Proof.Fold

@[expose] public section

set_option maxRecDepth 16384

noncomputable section

namespace Cert.FwdIdeal.Attn

open Idealize.ShloMosaic Idealize.ShloMosaic.TcCoe Idealize.SL.Sem
open Cert.FwdIdeal.Gen Cert.Attn
open Cert.KernelIdeal.Attn (Holds window_holds dot_coe)
open scoped BigOperators

/-- A row's maximum, at an index. -/
theorem rowMax_read {N K : ℕ} (x : (⟨2, ![N, K]⟩ : Shape).Idx → EReal) (hr : (⟨2, ![N, K]⟩ : Shape).Reduces [1] ⟨1, ![N]⟩)
    (hφ : FKind.Formats .f32) (r : Fin N) :
    multiReduction (F := Ideal) .maximumf [1] ⟨1, ![N]⟩ x 0xFF800000#32 hr hφ rfl (ix1 r) = Finset.univ.fold max ⊥ fun k : Fin K => x (ix2 r k) := by
  have e := Ideal.multiReduction_maximumf_single x 0xFF800000#32 hr hφ rfl (ix1 r)
  have el : (x ∘ hr.lift (ix1 r)) = fun k : Fin K => x (ix2 r k) := by
    funext k
    refine congrArg x (funext fun c => Fin.ext ?_)
    rw [hr.lift_val]
    fin_cases c <;> rfl
  rw [el, show (FloatOps.ofBits (F := Ideal) .f32 0xFF800000#32) = (⊥ : EReal) from negInf_eq] at e
  exact e

/-- The constant that masks is minus infinity. -/
theorem mask_eq : Named.named (F := Ideal) κ "mask" (φ := .f32) 0xF149F2CA#32 = (⊥ : EReal) := IdealRules.named_const.ideal_named_scalar _ _ _ _ rfl

variable {x0 : FVec Ideal S1024x256 .bf16} {w0 w1 : Vec Ideal S1024x128 .bf16} {qf f0 f1 : ℕ → ℕ → ℝ}

/-- The scores of a block. -/
def bsc (qf f0 f1 : ℕ → ℕ → ℝ) (r κ : ℕ) : ℝ := (∑ j ∈ Finset.range 128, qf r j * f0 κ j + ∑ j ∈ Finset.range 128, qf r (128 + j) * f1 κ j) * sg

theorem pay2_holds (hq : Holds x0 qf) (h0 : Holds w0 f0) (h1 : Holds w1 f1) : Holds (k0_pay2 x0 w0 w1) (bsc qf f0 f1) := by
  intro r κ
  pointwise [k0_pay2]
  rw [dot_coe (N := 128) (qf r.val) (f0 κ.val) _ _ (fun j => hq r ⟨j.val, by omega⟩) (h0 κ),
    dot_coe (N := 128) (fun j => qf r.val (128 + j)) (f1 κ.val) _ _ (fun j => hq r ⟨128 + j.val, by omega⟩) (h1 κ), sg_eq, ← EReal.coe_add, ← EReal.coe_mul]
  rfl

theorem pay23_read (x : FVec Ideal S1024x1024 .f32) (r κ : Fin 1024) : k0_pay23 x (ix3 0 r κ) = x (ix2 r κ) := by
  pointwise [k0_pay23]

theorem pay3_read (s : Vec Ideal S1x1024x1024 .f32) (r κ : Fin 1024) : k0_pay3 s (ix2 r κ) = s (ix3 0 r κ) := by
  pointwise [k0_pay3]

theorem pay20_eq : k0_pay20 x0 w0 w1 = k0_pay23 (k0_pay2 x0 w0 w1) := by
  unfold k0_pay20 k0_pay16
  simp only [shapeCast_self]
  rfl

theorem pay5_read (s : Vec Ideal S1x1024x1024 .f32) (mx : Vec Ideal S1024x1 .f32) (r : Fin 1024) :
    k0_pay5 s mx (ix2 r 0) = max (mx (ix2 r 0)) (Finset.univ.fold max ⊥ fun κ : Fin 1024 => s (ix3 0 r κ)) := by
  have e := rowMax_read (k0_pay3 s) reduces_S1024x1024_S1024 (.inl rfl) r
  simp only [pay3_read] at e
  unfold k0_pay5
  generalize multiReduction .maximumf [1] S1024 (k0_pay3 s) 0xFF800000#32 reduces_S1024x1024_S1024 (.inl rfl) rfl = y at e ⊢
  rw [← e]
  pointwise

/-- What a block of keys before the queries' own does to a row. -/
theorem pay6_read (s : Vec Ideal S1x1024x1024 .f32) (mx : Vec Ideal S1024x1 .f32) (r : Fin 1024) :
    k0_pay6 s mx (ix2 r 0) = Ideal.exp (mx (ix2 r 0) - k0_pay5 s mx (ix2 r 0)) := by
  unfold k0_pay6
  generalize k0_pay5 s mx = y
  pointwise

theorem pay7_read (s : Vec Ideal S1x1024x1024 .f32) (mx : Vec Ideal S1024x1 .f32) (r κ : Fin 1024) :
    k0_pay7 s mx (ix2 r κ) = Ideal.exp (s (ix3 0 r κ) - k0_pay5 s mx (ix2 r 0)) := by
  unfold k0_pay7
  rw [← pay3_read s r κ]
  generalize k0_pay5 s mx = y
  generalize k0_pay3 s = z
  pointwise

theorem pay8_read (s : Vec Ideal S1x1024x1024 .f32) (mx l : Vec Ideal S1024x1 .f32) (r : Fin 1024) :
    k0_pay8 s mx l (ix2 r 0) = Ideal.exp (mx (ix2 r 0) - k0_pay5 s mx (ix2 r 0)) * l (ix2 r 0)
      + ∑ κ : Fin 1024, Ideal.exp (s (ix3 0 r κ) - k0_pay5 s mx (ix2 r 0)) := by
  rw [← pay6_read]
  rw [← Finset.sum_congr rfl fun κ _ => pay7_read s mx r κ]
  unfold k0_pay8
  generalize k0_pay6 s mx = y
  generalize k0_pay7 s mx = z
  pointwise

theorem pay21_read (s : Vec Ideal S1x1024x1024 .f32) (mx : Vec Ideal S1024x1 .f32) (v : Vec Ideal S1024x128 .bf16) (a : Vec Ideal S1024x128 .f32)
    (r : Fin 1024) (d : Fin 128) :
    k0_pay21 (k0_pay4 v) (k0_pay6 s mx) (k0_pay7 s mx) a (ix2 r d) = Ideal.exp (mx (ix2 r 0) - k0_pay5 s mx (ix2 r 0)) * a (ix2 r d)
      + ∑ κ : Fin 1024, Ideal.exp (s (ix3 0 r κ) - k0_pay5 s mx (ix2 r 0)) * v (ix2 κ d) := by
  rw [← pay6_read]
  rw [← Finset.sum_congr rfl fun κ _ => congrArg (· * v (ix2 κ d)) (pay7_read s mx r κ)]
  generalize k0_pay6 s mx = y
  generalize k0_pay7 s mx = z
  pointwise [k0_pay21, k0_pay4]

/-! The queries' own block of keys: the same, of the scores masked. -/

theorem pay27_read (s : Vec Ideal S1x1024x1024 .f32) (r κ : Fin 1024) :
    k0_pay27 s (ix2 r κ) = if κ.val ≤ r.val then s (ix3 0 r κ) else ⊥ := by
  pointwise [k0_pay27]
  have hr : r.val < 2 ^ (32 - 1) := by have := r.isLt; omega
  have hk : κ.val < 2 ^ (32 - 1) := by have := κ.isLt; omega
  rw [mask_eq, WordCmp.cmpi_sge_ofNat hr hk]
  by_cases h : κ.val ≤ r.val
  · rw [if_pos h, decide_eq_true h]; rfl
  · rw [if_neg h, decide_eq_false h]; rfl

/-- The masked scores as they would be kept. -/
def masked (s : Vec Ideal S1x1024x1024 .f32) : FVec Ideal S1x1024x1024 .f32 := k0_pay23 (k0_pay27 s)

theorem pay3_masked (s : Vec Ideal S1x1024x1024 .f32) : k0_pay3 (masked s) = k0_pay27 s := by
  funext y
  obtain ⟨r, κ, rfl⟩ : ∃ (r κ : Fin 1024), y = ix2 r κ := ⟨y 0, y 1, eq_ix2 y⟩
  rw [pay3_read, masked, pay23_read]

theorem pay28_eq (s : Vec Ideal S1x1024x1024 .f32) (mx : Vec Ideal S1024x1 .f32) : k0_pay28 s mx = k0_pay5 (masked s) mx := by
  unfold k0_pay5
  rw [pay3_masked]
  rfl

theorem pay29_eq (s : Vec Ideal S1x1024x1024 .f32) (mx : Vec Ideal S1024x1 .f32) : k0_pay29 s mx = k0_pay6 (masked s) mx := by
  unfold k0_pay6
  rw [← pay28_eq]
  rfl

theorem pay30_eq (s : Vec Ideal S1x1024x1024 .f32) (mx : Vec Ideal S1024x1 .f32) : k0_pay30 s mx = k0_pay7 (masked s) mx := by
  unfold k0_pay7
  rw [← pay28_eq, pay3_masked]
  rfl

theorem pay31_eq (s : Vec Ideal S1x1024x1024 .f32) (mx l : Vec Ideal S1024x1 .f32) : k0_pay31 s mx l = k0_pay8 (masked s) mx l := by
  unfold k0_pay8
  rw [← pay29_eq, ← pay30_eq]
  rfl

theorem pay32_eq (s : Vec Ideal S1x1024x1024 .f32) (v : Vec Ideal S1024x128 .bf16) (mx : Vec Ideal S1024x1 .f32) (a : Vec Ideal S1024x128 .f32) :
    k0_pay33 (k0_pay32 s v mx a) = k0_pay21 (k0_pay4 v) (k0_pay6 (masked s) mx) (k0_pay7 (masked s) mx) a := by
  rw [← pay29_eq, ← pay30_eq]
  rfl

theorem masked_read (s : Vec Ideal S1x1024x1024 .f32) (r κ : Fin 1024) : masked s (ix3 0 r κ) = if κ.val ≤ r.val then s (ix3 0 r κ) else ⊥ := by
  rw [masked, pay23_read, pay27_read]

/-- Casting a column to its own shape changes nothing. -/
theorem pay22_eq (x : FVec Ideal S1024x1 .f32) : k0_pay22 x = x := shapeCast_self _ _

theorem pay34_eq (x : FVec Ideal S1024x1 .f32) : k0_pay34 x = x := shapeCast_self _ _

end Cert.FwdIdeal.Attn

end
-- ==== Proof.FwdTrips.lean ====
/- The forward kernel's loop over the blocks of keys before the queries' own: what the generated run stores, read back, is
   the fold of the step on vectors, and the place kept for scores holds the next block's. -/
module

public import proofs.«01_k».proof.Proof.Gen.FwdIdeal.Loops
public import proofs.«01_k».proof.Proof.FwdStep

@[expose] public section

set_option maxRecDepth 16384
set_option maxHeartbeats 1000000

noncomputable section

namespace Cert.FwdIdeal.Attn

open Idealize.ShloMosaic Idealize.ShloMosaic.TcCoe Idealize.SL Idealize.SL.Sem Gen

variable {F : FTy → Type} [FloatOps F] [Named F]

theorem window_congr {α : Type} {s : Shape} (z w : s.Idx → α) (off size : Fin s.rank → ℕ) (inb : ∀ a, off a + size a ≤ s.size a) (h : z = w) :
    VecWindow.window z off size inb = VecWindow.window w off size inb := by rw [h]

/-- A block of scores read where it is kept. -/
theorem slot_read (arg10 : Memref sig .tc .vmem S2x1024x1024 .f32) (f : BufTy.Contents (Elt F) arg10.view.ty) {off : Fin 3 → ℕ} (k : ℕ) (h : off = slot k)
    (inb : ∀ a, off a + S1x1024x1024.size a ≤ S2x1024x1024.size a) :
    arg10.view.readAt (Elt F) (Rect.unit (s := S2x1024x1024) off S1x1024x1024.size inb).toLoadRect f
      = VecWindow.window (arg10.view.read (Elt F) f) (slot k) S1x1024x1024.size (slot_inb k) := by
  subst h
  exact View.readAt_unit arg10.view f inb rfl inb

section
variable (i : grid0.Coords) (k : Fin (k0_t1_loop i).trips) (arg3 : Memref sig .tc .vmem S8192x256 .bf16) (arg4 : Memref sig .tc .vmem S8192x128 .bf16) (v1 : FVec F S1024x256 .bf16)
  (arg7 arg8 : Memref sig .tc .vmem S1024x1 .f32) (arg10 : Memref sig .tc .vmem S2x1024x1024 .f32) (X1 : BufTy.Contents (Elt F) arg3.view.ty) (X2 : BufTy.Contents (Elt F) arg4.view.ty)
  (f7 : BufTy.Contents (Elt F) arg7.view.ty) (f8 : BufTy.Contents (Elt F) arg8.view.ty) (f10 : BufTy.Contents (Elt F) arg10.view.ty)

/-! The values a block computes, by the names the run gives them, as the step's functions of what was loaded. -/

theorem val_max : trip_k0_t1.sl.v173 i arg7 arg10 k f7 f10 = k0_pay5 (arg10.view.readAt (Elt F) (Rect.unit (s := S2x1024x1024) (k0_off3 i k) S1x1024x1024.size (k0_off3_inb i k)).toLoadRect f10) (arg7.view.readAt (Elt F) (Rect.unit (s := S1024x1) ![0, 0] S1024x1.size inb_S1024x1_S1024x1_0_0).toLoadRect f7) := rfl

theorem val_alpha : trip_k0_t1.sl.v175 i arg7 arg10 k f7 f10 = k0_pay6 (arg10.view.readAt (Elt F) (Rect.unit (s := S2x1024x1024) (k0_off3 i k) S1x1024x1024.size (k0_off3_inb i k)).toLoadRect f10) (arg7.view.readAt (Elt F) (Rect.unit (s := S1024x1) ![0, 0] S1024x1.size inb_S1024x1_S1024x1_0_0).toLoadRect f7) := rfl

theorem val_prob : trip_k0_t1.sl.v178 i arg7 arg10 k f7 f10 = k0_pay7 (arg10.view.readAt (Elt F) (Rect.unit (s := S2x1024x1024) (k0_off3 i k) S1x1024x1024.size (k0_off3_inb i k)).toLoadRect f10) (arg7.view.readAt (Elt F) (Rect.unit (s := S1024x1) ![0, 0] S1024x1.size inb_S1024x1_S1024x1_0_0).toLoadRect f7) := rfl

theorem val_sum : trip_k0_t1.sl.v186 i arg7 arg8 arg10 k f7 f8 f10 = k0_pay8 (arg10.view.readAt (Elt F) (Rect.unit (s := S2x1024x1024) (k0_off3 i k) S1x1024x1024.size (k0_off3_inb i k)).toLoadRect f10) (arg7.view.readAt (Elt F) (Rect.unit (s := S1024x1) ![0, 0] S1024x1.size inb_S1024x1_S1024x1_0_0).toLoadRect f7) (arg8.view.readAt (Elt F) (Rect.unit (s := S1024x1) ![0, 0] S1024x1.size inb_S1024x1_S1024x1_0_0).toLoadRect f8) := rfl

theorem val_keys : trip_k0_t1.sl.v160 i arg3 arg4 v1 X1 X2 k = k0_pay2 v1
    (arg3.view.readAt (Elt F) (Rect.unit (s := S8192x256) (k0_off1 i k) S1024x128.size (k0_off1_inb i k)).toLoadRect X1)
    (arg4.view.readAt (Elt F) (Rect.unit (s := S8192x128) (k0_off2 i k) S1024x128.size (k0_off2_inb i k)).toLoadRect X2) := rfl

theorem val_vals : trip_k0_t1.sl.v169 i arg3 X1 k = k0_pay4
    (arg3.view.readAt (Elt F) (Rect.unit (s := S8192x256) (k0_off4 i k) S1024x128.size (k0_off4_inb i k)).toLoadRect X1) := rfl

end

/-- What the blocks before `k` stored, read back. -/
theorem read_pb (𝒱 : Variants)(c : Dev nD) (bd : Option 𝒱.V) (i : grid0.Coords) (arg2 : Memref sig .tc .vmem S1024x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1x1x1x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S2x1024x1024 .f32) (harg10 : arg10.IsWhole) (arg1 : BitVec 32) (v1 : FVec F S1024x256 .bf16) (c0_i32_17 : BitVec 32) (v31 : BitVec 32)
    (x0 : Vec F S1024x256 .bf16) (x1 : Vec F S8192x256 .bf16) (x2 : Vec F S8192x128 .bf16)
    (X1 : BufTy.Contents (Elt F) arg3.view.ty) (X2 : BufTy.Contents (Elt F) arg4.view.ty) (hv1 : v1 = k0_pay16 x0)
    (h1 : arg3.view.read (Elt F) X1 = x1) (h2 : arg4.view.read (Elt F) X2 = x2)
    (G7 : BufTy.Contents (Elt F) arg7.view.ty) (G8 : BufTy.Contents (Elt F) arg8.view.ty) (G9 : BufTy.Contents (Elt F) arg9.view.ty) (G10 : BufTy.Contents (Elt F) arg10.view.ty)
    (e7 : arg7.view.read (Elt F) G7 = k0_pay17) (e8 : arg8.view.read (Elt F) G8 = k0_pay18) (e9 : arg9.view.read (Elt F) G9 = k0_pay19)
    (e10 : VecWindow.window (arg10.view.read (Elt F) G10) (slot 0) S1x1024x1024.size (slot_inb 0) = sc i x0 x1 x2 0)
    (k : ℕ) (hk : k ≤ (k0_t1_loop i).trips) :
    arg7.view.read (Elt F) (arg7.view.writes (Elt F) G7 (pb_k0_t1 (F := F) 𝒱 c bd i arg2 harg2 arg3 harg3 arg4 harg4 arg5 harg5 arg6 harg6 arg7 harg7 arg8 harg8 arg9 harg9 arg10 harg10 arg1 v1 c0_i32_17 v31 X1 X2 G7 G8 G9 G10 k).1) = (fold i x0 x1 x2 k).1
    ∧ arg8.view.read (Elt F) (arg8.view.writes (Elt F) G8 (pb_k0_t1 (F := F) 𝒱 c bd i arg2 harg2 arg3 harg3 arg4 harg4 arg5 harg5 arg6 harg6 arg7 harg7 arg8 harg8 arg9 harg9 arg10 harg10 arg1 v1 c0_i32_17 v31 X1 X2 G7 G8 G9 G10 k).2.1) = (fold i x0 x1 x2 k).2.1
    ∧ arg9.view.read (Elt F) (arg9.view.writes (Elt F) G9 (pb_k0_t1 (F := F) 𝒱 c bd i arg2 harg2 arg3 harg3 arg4 harg4 arg5 harg5 arg6 harg6 arg7 harg7 arg8 harg8 arg9 harg9 arg10 harg10 arg1 v1 c0_i32_17 v31 X1 X2 G7 G8 G9 G10 k).2.2.1) = (fold i x0 x1 x2 k).2.2
    ∧ VecWindow.window (arg10.view.read (Elt F) (arg10.view.writes (Elt F) G10 (pb_k0_t1 (F := F) 𝒱 c bd i arg2 harg2 arg3 harg3 arg4 harg4 arg5 harg5 arg6 harg6 arg7 harg7 arg8 harg8 arg9 harg9 arg10 harg10 arg1 v1 c0_i32_17 v31 X1 X2 G7 G8 G9 G10 k).2.2.2)) (slot k) S1x1024x1024.size (slot_inb k) = sc i x0 x1 x2 k := by
  induction k with
  | zero => exact ⟨e7, e8, e9, e10⟩
  | succ k ih =>
    obtain ⟨i7, i8, i9, i10⟩ := ih (by omega)
    rw [fold_succ i x0 x1 x2 ⟨k, hk⟩, sc_succ i x0 x1 x2 ⟨k, hk⟩]
    rw [pb_k0_t1_succ (F := F) 𝒱 c bd i arg2 harg2 arg3 harg3 arg4 harg4 arg5 harg5 arg6 harg6 arg7 harg7 arg8 harg8 arg9 harg9 arg10 harg10 arg1 v1 c0_i32_17 v31 X1 X2 G7 G8 G9 G10 ⟨k, hk⟩]
    unfold tripL_k0_t1
    delta trip_k0_t1
    dsimp only
    generalize hp : (pb_k0_t1 (F := F) 𝒱 c bd i arg2 harg2 arg3 harg3 arg4 harg4 arg5 harg5 arg6 harg6 arg7 harg7 arg8 harg8 arg9 harg9 arg10 harg10 arg1 v1 c0_i32_17 v31 X1 X2 G7 G8 G9 G10 k) = p at i7 i8 i9 i10 ⊢
    have s10 : ∀ inb, arg10.view.readAt (Elt F) (Rect.unit (s := S2x1024x1024) (k0_off3 i ⟨k, hk⟩) S1x1024x1024.size inb).toLoadRect (arg10.view.writes (Elt F) G10 p.2.2.2)
        = sc i x0 x1 x2 k := fun inb => (slot_read arg10 _ k (k0_off3_eq i ⟨k, hk⟩) inb).trans i10
    have s7 : ∀ inb, arg7.view.readAt (Elt F) (Rect.unit (s := S1024x1) ![0, 0] S1024x1.size inb).toLoadRect (arg7.view.writes (Elt F) G7 p.1)
        = (fold i x0 x1 x2 k).1 := fun inb => (View.readAt_full arg7.view _ inb).trans i7
    have s8 : ∀ inb, arg8.view.readAt (Elt F) (Rect.unit (s := S1024x1) ![0, 0] S1024x1.size inb).toLoadRect (arg8.view.writes (Elt F) G8 p.2.1)
        = (fold i x0 x1 x2 k).2.1 := fun inb => (View.readAt_full arg8.view _ inb).trans i8
    have s9 : ∀ inb, arg9.view.readAt (Elt F) (Rect.unit (s := S1024x128) ![0, 0] S1024x128.size inb).toLoadRect (arg9.view.writes (Elt F) G9 p.2.2.1)
        = (fold i x0 x1 x2 k).2.2 := fun inb => (View.readAt_full arg9.view _ inb).trans i9
    have s3 : ∀ (off : Fin 2 → ℕ) (inb : ∀ a, off a + S1024x128.size a ≤ S8192x256.size a), arg3.view.readAt (Elt F) (Rect.unit (s := S8192x256) off S1024x128.size inb).toLoadRect X1
        = VecWindow.window x1 off S1024x128.size inb := fun off inb => (View.readAt_unit arg3.view X1 inb rfl inb).trans (by rw [h1])
    have s4 : ∀ (off : Fin 2 → ℕ) (inb : ∀ a, off a + S1024x128.size a ≤ S8192x128.size a), arg4.view.readAt (Elt F) (Rect.unit (s := S8192x128) off S1024x128.size inb).toLoadRect X2
        = VecWindow.window x2 off S1024x128.size inb := fun off inb => (View.readAt_unit arg4.view X2 inb rfl inb).trans (by rw [h2])
    refine ⟨?_, ?_, ?_, ?_⟩
    · rw [List.singleton_append]
      refine (View.read_writes_full arg7.view G7 _ _ _).trans ?_
      rw [val_max, s10, s7]
      rfl
    · rw [List.singleton_append]
      refine (View.read_writes_full arg8.view G8 _ _ _).trans ?_
      rw [val_sum, s10, s7, s8]
      rfl
    · rw [List.singleton_append]
      refine (View.read_writes_full arg9.view G9 _ _ _).trans ?_
      rw [val_vals, val_alpha, val_prob, s10, s7, s3]
      exact congrArg (k0_pay21 _ _ _) (s9 _)
    · rw [List.singleton_append]
      rw [val_keys, s3, s4, hv1]
      exact (window_congr _ _ _ _ _ (View.read_writes_cons_put arg10.view _ _ _ _ (k0_off5_eq i ⟨k, hk⟩))).trans (VecWindow.window_put_same _ _ _ _ _)

end Cert.FwdIdeal.Attn

end
-- ==== Proof.FwdRun.lean ====
/- One grid point of the attention's forward kernel, run: what it leaves in the two result blocks, as the functions of
   FwdStep.lean of the blocks it was given. -/
module

public import proofs.«01_k».proof.Proof.FwdTrips
public import proofs.«01_k».proof.Proof.Gen.FwdIdeal.Points
public import Idealize.ShloMosaic.Lib.LoopRemainder

@[expose] public section

set_option maxRecDepth 16384
set_option maxHeartbeats 1000000

noncomputable section

namespace Cert.FwdIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FwdIdeal.Gen

variable {F : FTy → Type} [FloatOps F] [Named F]

local notation "𝕄" => MT nD τ sig Unit (Elt F) ℕ (UR sig nD τ) ℕ

/-- The loop runs over the blocks of keys before the queries' own. -/
theorem trips_eq : ∀ i : grid0.Coords, (k0_t1_loop i).trips = (i 1).val := by decide +kernel

theorem run_point (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1x1x1x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S2x1024x1024 .f32) (harg10 : arg10.IsWhole)
    (x0 : Vec F S1024x256 .bf16) (x1 : Vec F S8192x256 .bf16) (x2 : Vec F S8192x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare (outO (last i x0 x1 x2)) ∗ owns (c : Thread nD τ) arg6 fullShare (outL (last i x0 x1 x2)) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_attn_fwd i arg2 harg2 arg3 harg3 arg4 harg4 arg5 harg5 arg6 harg6 arg7 harg7 arg8 harg8 arg9 harg9 arg10 harg10) K := by
  simp only [cc0_attn_fwd_eq_skeleton]; unfold cc0_attn_fwd_skel
  simp only [k0_part3_eq_skeleton, k0_part4_eq_skeleton, k0_part5_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  subst hf0 hf1 hf2
  sl_exec
  have tr : (k0_t1_loop i).trips = (i 1).val := trips_eq i
  obtain ⟨q7, q8, q9, q10⟩ := read_pb (F := F) Variants.none c none i arg2 harg2 arg3 harg3 arg4 harg4 arg5 harg5 arg6 harg6 arg7 harg7 arg8 harg8 arg9 harg9 arg10 harg10 (BitVec.ofNat 32 (i 1).val) (run_point.sl.r c arg2 f0) 0#32 (run_point.sl.v31 i)
    (arg2.view.read (Elt F) f0) (arg3.view.read (Elt F) f1) (arg4.view.read (Elt F) f2) f1 f2 (congrArg k0_pay16 (View.readAt_full arg2.view _ _)) rfl rfl
    (arg7.view.writes (Elt F) arg7.view.junk run_point.sl.H5_1) (arg8.view.writes (Elt F) arg8.view.junk run_point.sl.H6_1) (arg9.view.writes (Elt F) arg9.view.junk run_point.sl.H7_1)
    (arg10.view.writes (Elt F) f8 [⟨Rect.unit ![0, 0, 0] S1x1024x1024.size inb_S2x1024x1024_S1x1024x1024_0_0_0,
      k0_pay20 (arg2.view.readAt (Elt F) (Rect.unit (s := S1024x256) ![0, 0] S1024x256.size inb_S1024x256_S1024x256_0_0).toLoadRect f0)
        (arg3.view.readAt (Elt F) (Rect.unit (s := S8192x256) ![0, 0] S1024x128.size inb_S8192x256_S1024x128_0_0).toLoadRect f1)
        (arg4.view.readAt (Elt F) (Rect.unit (s := S8192x128) ![0, 0] S1024x128.size inb_S8192x128_S1024x128_0_0).toLoadRect f2)⟩])
    (View.read_writes_full arg7.view _ _ _ _) (View.read_writes_full arg8.view _ _ _ _) (View.read_writes_full arg9.view _ _ _ _)
    (by
      refine (window_congr _ _ _ _ _ (View.read_writes_cons_put arg10.view _ _ _ _ (show (![0, 0, 0] : Fin 3 → ℕ) = slot 0 from rfl))).trans ((VecWindow.window_put_same _ _ _ _ _).trans ?_)
      exact congrArg (fun a => k0_pay20 a _ _) (View.readAt_full arg2.view _ _))
    (k0_t1_loop i).trips le_rfl
  have s35 : run_point.sl.v35 c i arg2 harg2 arg3 harg3 arg4 harg4 arg5 harg5 arg6 harg6 arg7 harg7 arg8 harg8 arg9 harg9 arg10 harg10 f0 f1 f2 f8 = sc i (arg2.view.read (Elt F) f0) (arg3.view.read (Elt F) f1) (arg4.view.read (Elt F) f2) (k0_t1_loop i).trips := by
    delta run_point.sl.v35
    rw [slot_read arg10 _ (k0_t1_loop i).trips (by rw [tr]; exact k0_off11_eq i), View.writes_append]
    exact q10
  have s47 : run_point.sl.v47 c i arg2 harg2 arg3 harg3 arg4 harg4 arg5 harg5 arg6 harg6 arg7 harg7 arg8 harg8 arg9 harg9 arg10 harg10 f0 f1 f2 f8 = (fold i (arg2.view.read (Elt F) f0) (arg3.view.read (Elt F) f1) (arg4.view.read (Elt F) f2) (k0_t1_loop i).trips).1 := by
    delta run_point.sl.v47 View.readCov
    refine (View.readAt_full arg7.view _ _).trans ?_
    rw [View.writes_append]
    exact q7
  have s56 : run_point.sl.v56 c i arg2 harg2 arg3 harg3 arg4 harg4 arg5 harg5 arg6 harg6 arg7 harg7 arg8 harg8 arg9 harg9 arg10 harg10 f0 f1 f2 f8 = (fold i (arg2.view.read (Elt F) f0) (arg3.view.read (Elt F) f1) (arg4.view.read (Elt F) f2) (k0_t1_loop i).trips).2.1 := by
    delta run_point.sl.v56 View.readCov
    refine (View.readAt_full arg8.view _ _).trans ?_
    rw [View.writes_append]
    exact q8
  have s64 : run_point.sl.v64 c i arg2 harg2 arg3 harg3 arg4 harg4 arg5 harg5 arg6 harg6 arg7 harg7 arg8 harg8 arg9 harg9 arg10 harg10 f0 f1 f2 f8 = (fold i (arg2.view.read (Elt F) f0) (arg3.view.read (Elt F) f1) (arg4.view.read (Elt F) f2) (k0_t1_loop i).trips).2.2 := by
    delta run_point.sl.v64 View.readCov
    refine (View.readAt_full arg9.view _ _).trans ?_
    rw [View.writes_append]
    exact q9
  have s76 : run_point.sl.v76 c i arg2 harg2 arg3 harg3 arg4 harg4 arg5 harg5 arg6 harg6 arg7 harg7 arg8 harg8 arg9 harg9 arg10 harg10 f0 f1 f2 f8 = (last i (arg2.view.read (Elt F) f0) (arg3.view.read (Elt F) f1) (arg4.view.read (Elt F) f2)).2.1 := by
    delta run_point.sl.v76 run_point.sl.H6_1_1
    rw [s35, s47, s56]
    exact View.readCov_full arg8.view _ _ _ _
  have s77 : run_point.sl.v77 c i arg2 harg2 arg3 harg3 arg4 harg4 arg5 harg5 arg6 harg6 arg7 harg7 arg8 harg8 arg9 harg9 arg10 harg10 f0 f1 f2 f8 = (last i (arg2.view.read (Elt F) f0) (arg3.view.read (Elt F) f1) (arg4.view.read (Elt F) f2)).2.2 := by
    delta run_point.sl.v77 run_point.sl.H7_1_1 run_point.sl.r_2
    rw [s35, s47, s64, View.readAt_unit arg3.view f1 _ rfl (k0_off12_inb i)]
    exact View.readCov_full arg9.view _ _ _ _
  have s82 : run_point.sl.v82 c i arg2 harg2 arg3 harg3 arg4 harg4 arg5 harg5 arg6 harg6 arg7 harg7 arg8 harg8 arg9 harg9 arg10 harg10 f0 f1 f2 f8 = (last i (arg2.view.read (Elt F) f0) (arg3.view.read (Elt F) f1) (arg4.view.read (Elt F) f2)).1 := by
    delta run_point.sl.v82 run_point.sl.H5_1_1 run_point.sl.r_1
    rw [s35, s47]
    exact View.readCov_full arg7.view _ _ _ _
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; swap; · iexact H3
    ipureintro
    rw [s76, s77]
    exact View.read_writes_full arg5.view _ _ _ _
  isplitl [H4]
  · iexists _; isplitr; swap; · iexact H4
    ipureintro
    delta run_point.sl.r_3 run_point.sl.r_4 run_point.sl.r_5 run_point.sl.r_6
    rw [s76, s82]
    exact View.read_writes_full arg6.view _ _ _ _
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  iexists _, _; isplitr; swap; · iexact H8
  ipureintro; rfl

end Cert.FwdIdeal.Attn

end
-- ==== Proof.FwdFold.lean ====
/- What one grid point of the attention's forward kernel computes over the reals: from finite blocks of the operands, the
   rows' outputs and log-sums. -/
module

public import proofs.«01_k».proof.Proof.FwdPayload
public import proofs.«01_k».proof.Proof.FwdTrips
public import proofs.«01_k».proof.Proof.FwdRun
public import proofs.«01_k».proof.Proof.Final

@[expose] public section

noncomputable section

namespace Cert.FwdIdeal.Attn

open Idealize.ShloMosaic Idealize.SL Idealize.SL.Sem Gen
open Cert.Attn
open Cert.KernelIdeal.Attn (Holds window_holds dot_coe scores_padded)
open scoped BigOperators

variable {A : Args} {h : ℕ}

/-- The shared key columns, padded. -/
def kpP (A : Args) (κ j : ℕ) : ℝ := if j < 64 then A.kp κ j else 0

theorem bsc_score (n c r κ : ℕ) :
    bsc (fun r j => A.qP h (n + r) j) (fun κ j => A.kv (c + κ) h j) (fun κ j => kpP A (c + κ) j) r κ = A.score h (n + r) (c + κ) := by
  unfold bsc Args.score kpP
  rw [← scores_padded, show (256 : ℕ) = 128 + 128 from rfl, Finset.sum_range_add]
  refine congrArg (· * sg) (congrArg₂ (· + ·) (Finset.sum_congr rfl fun j hj => ?_) (Finset.sum_congr rfl fun j hj => ?_))
  · have h1 : j < 128 := Finset.mem_range.mp hj
    have h2 : j < 192 := by omega
    rw [mul_comm, Args.keyP, if_pos h2, Args.key, if_pos h1]
  · beta_reduce
    have h0 : j < 128 := Finset.mem_range.mp hj
    have h1 : ¬ 128 + j < 128 := by omega
    rw [mul_comm, Args.keyP, Args.key, if_neg h1]
    by_cases h3 : j < 64
    · rw [if_pos h3, if_pos (by omega), Nat.add_sub_cancel_left]
    · rw [if_neg h3, if_neg (by omega)]

variable (i : grid0.Coords) {x0 : Vec Ideal S1024x256 .bf16} {x1 : Vec Ideal S8192x256 .bf16} {x2 : Vec Ideal S8192x128 .bf16}
  (hq : Holds x0 fun r j => A.qP h (1024 * (i 1).val + r) j) (h1 : Holds x1 fun κ j => A.kv κ h j) (h2 : Holds x2 fun κ j => kpP A κ j)

include hq h1 h2 in
/-- The scores kept of a block of keys. -/
theorem sc_holds (k : ℕ) (hk : k ≤ (k0_t1_loop i).trips) (r κ : Fin 1024) :
    sc i x0 x1 x2 k (ix3 0 r κ) = (A.score h (1024 * (i 1).val + r.val) (1024 * k + κ.val) : EReal) := by
  match k, hk with
  | 0, _ =>
    have w1 := window_holds h1 ![0, 0] 0 0 rfl inb_S8192x256_S1024x128_0_0
    have w2 := window_holds h2 ![0, 0] 0 0 rfl inb_S8192x128_S1024x128_0_0
    simp only [Nat.zero_add] at w1 w2
    have e := pay2_holds hq w1 w2 r κ
    unfold sc
    rw [pay20_eq, pay23_read]
    refine e.trans (congrArg _ ?_)
    have := bsc_score (A := A) (h := h) (1024 * (i 1).val) 0 r.val κ.val
    simp only [Nat.zero_add] at this
    rw [this, Nat.mul_zero, Nat.zero_add]
  | k + 1, hk =>
    have w1 := window_holds h1 _ _ _ (k0_off1_eq i ⟨k, hk⟩) (k0_off1_inb i ⟨k, hk⟩)
    have w2 := window_holds h2 _ _ _ (k0_off2_eq i ⟨k, hk⟩) (k0_off2_inb i ⟨k, hk⟩)
    simp only [Nat.zero_add] at w1 w2
    have e := pay2_holds hq w1 w2 r κ
    rw [sc_succ i x0 x1 x2 ⟨k, hk⟩, pay23_read]
    rw [show k0_pay16 x0 = x0 from shapeCast_self _ _]
    exact e.trans (congrArg _ (bsc_score _ _ _ _))

/-- What the accumulators hold of every row once the keys below `N` have been gone through. -/
def Inv (A : Args) (h b N : ℕ) (s : St Ideal) : Prop :=
  ∀ r : Fin 1024, Row A h (1024 * b + r.val) N (s.1 (ix2 r 0)) (s.2.1 (ix2 r 0)) fun d => s.2.2 (ix2 r d)

theorem init_inv : Inv A h (i 1).val 0 init := by
  intro r
  have e1 : k0_pay17 (F := Ideal) (ix2 r 0) = (⊥ : EReal) := by
    pointwise [k0_pay17]
    exact mask_eq
  have e2 : k0_pay18 (F := Ideal) (ix2 r 0) = (0 : EReal) := by
    pointwise [k0_pay18]
  have e3 : ∀ d : Fin 128, k0_pay19 (F := Ideal) (ix2 r d) = (0 : EReal) := fun d => by
    pointwise [k0_pay19]
  show Row A h _ 0 (k0_pay17 (F := Ideal) (ix2 r 0)) (k0_pay18 (F := Ideal) (ix2 r 0)) fun d => k0_pay19 (F := Ideal) (ix2 r d)
  simp only [e1, e2, e3]
  exact Row.zero

include h1 in
theorem trip_inv (k : Fin (k0_t1_loop i).trips) {s : Vec Ideal S1x1024x1024 .f32} {a : St Ideal}
    (hs : ∀ r κ : Fin 1024, s (ix3 0 r κ) = (A.score h (1024 * (i 1).val + r.val) (1024 * k.val + κ.val) : EReal))
    (ha : Inv A h (i 1).val (1024 * k.val) a) : Inv A h (i 1).val (1024 * (k.val + 1)) (trip i x1 k s a) := by
  intro r
  have hk : k.val < (i 1).val := k.isLt.trans_eq (trips_eq i)
  have hv := window_holds h1 _ _ _ (k0_off4_eq i k) (k0_off4_inb i k)
  refine Row.step (N := 1024 * k.val) (ha r) (by omega) (fun κ => s (ix3 0 r κ)) (fun κ => ?_) (fun κ d => VecWindow.window x1 (k0_off4 i k) S1024x128.size (k0_off4_inb i k) (ix2 κ d))
    (fun κ d => hv κ d) ?_ ?_ fun d => ?_
  · rw [hs, if_pos (by have := κ.isLt; omega)]
  · show k0_pay22 (k0_pay5 s a.1) (ix2 r 0) = _
    rw [pay22_eq, pay5_read]
  · show k0_pay8 s a.1 a.2.1 (ix2 r 0) = Ideal.exp (_ - k0_pay22 (k0_pay5 s a.1) (ix2 r 0)) * _ + ∑ κ : Fin 1024, Ideal.exp (_ - k0_pay22 (k0_pay5 s a.1) (ix2 r 0))
    rw [pay22_eq, pay8_read]
  · show k0_pay21 _ (k0_pay6 s a.1) (k0_pay7 s a.1) a.2.2 (ix2 r d)
      = Ideal.exp (_ - k0_pay22 (k0_pay5 s a.1) (ix2 r 0)) * _ + ∑ κ : Fin 1024, Ideal.exp (_ - k0_pay22 (k0_pay5 s a.1) (ix2 r 0)) * _
    rw [pay22_eq, pay21_read]

include h1 in
theorem diag_inv {s : Vec Ideal S1x1024x1024 .f32} {a : St Ideal}
    (hs : ∀ r κ : Fin 1024, s (ix3 0 r κ) = (A.score h (1024 * (i 1).val + r.val) (1024 * (i 1).val + κ.val) : EReal))
    (ha : Inv A h (i 1).val (1024 * (i 1).val) a) : Inv A h (i 1).val (1024 * ((i 1).val + 1)) (diag i x1 s a) := by
  intro r
  have hv := window_holds h1 _ _ _ (k0_off12_eq i) (k0_off12_inb i)
  refine Row.step (N := 1024 * (i 1).val) (ha r) (by omega) (fun κ => masked s (ix3 0 r κ)) (fun κ => ?_) (fun κ d => VecWindow.window x1 (k0_off12 i) S1024x128.size (k0_off12_inb i) (ix2 κ d))
    (fun κ d => hv κ d) ?_ ?_ fun d => ?_
  · rw [masked_read, hs]
    by_cases hk : κ.val ≤ r.val
    · rw [if_pos hk, if_pos (by omega)]
    · rw [if_neg hk, if_neg (by omega)]
  · show k0_pay34 (k0_pay28 s a.1) (ix2 r 0) = _
    rw [pay34_eq, pay28_eq, pay5_read]
  · show k0_pay31 s a.1 a.2.1 (ix2 r 0) = Ideal.exp (_ - k0_pay34 (k0_pay28 s a.1) (ix2 r 0)) * _ + ∑ κ : Fin 1024, Ideal.exp (_ - k0_pay34 (k0_pay28 s a.1) (ix2 r 0))
    rw [pay34_eq, pay28_eq, pay31_eq, pay8_read]
  · show k0_pay33 (k0_pay32 s _ a.1 a.2.2) (ix2 r d)
      = Ideal.exp (_ - k0_pay34 (k0_pay28 s a.1) (ix2 r 0)) * _ + ∑ κ : Fin 1024, Ideal.exp (_ - k0_pay34 (k0_pay28 s a.1) (ix2 r 0)) * _
    rw [pay34_eq, pay28_eq, pay32_eq, pay21_read]

include hq h1 h2 in
/-- The accumulators at the end of the point. -/
theorem last_inv : Inv A h (i 1).val (1024 * ((i 1).val + 1)) (last i x0 x1 x2) := by
  have key : ∀ k, k ≤ (k0_t1_loop i).trips → Inv A h (i 1).val (1024 * k) (fold i x0 x1 x2 k) := by
    intro k
    induction k with
    | zero => exact fun _ => init_inv i
    | succ k ih =>
      intro hk
      rw [fold_succ i x0 x1 x2 ⟨k, hk⟩]
      exact trip_inv i h1 ⟨k, hk⟩ (sc_holds i hq h1 h2 k (Nat.le_of_succ_le hk)) (ih (Nat.le_of_succ_le hk))
  have e := trips_eq i
  have hk := key _ le_rfl
  have hs := sc_holds i hq h1 h2 _ le_rfl
  unfold last
  generalize (k0_t1_loop i).trips = T at e hk hs ⊢
  subst e
  exact diag_inv i h1 hs hk

end Cert.FwdIdeal.Attn

end
-- ==== Proof.FwdOut.lean ====
/- What a grid point of the attention's forward kernel writes, read at an index: the output divided by the rows' sums, and
   the column of log-sums laid along a row, 128 at a time. -/
module

public import proofs.«01_k».proof.Proof.FwdFold

@[expose] public section

set_option maxRecDepth 16384

noncomputable section

namespace Cert.FwdIdeal.Attn

open Idealize.ShloMosaic Idealize.SL Idealize.SL.Sem Gen
open Cert.Attn
open scoped BigOperators

theorem outO_read (a : St Ideal) (r : Fin 1024) (d : Fin 128) : outO a (ix2 r d) = Ideal.div (a.2.2 (ix2 r d)) (a.2.1 (ix2 r 0)) := by
  unfold outO
  generalize a.2.1 = x
  generalize a.2.2 = y
  pointwise [k0_pay35]

/-- 128 entries of a column, from entry `o` on, as a row: the sums down the columns of the matrix that has them on its diagonal. -/
def piece (o : ℕ) (hs : S1024x1.Slices ![o, 0] S128x1) (x : FVec Ideal S1024x1 .f32) : FVec Ideal S1x128 .f32 :=
  shapeCast S1x128 (multiReduction .add [0] S128 (select k0_pay37 (broadcastTo S128x128 (shapeCast S128x1 (extractStridedSlice S128x1 ![o, 0] x hs)
    shapeCasts_S128x1_S128x1) broadcasts_S128x1_S128x128) (broadcast S128x128 (Scalar.ofBits .f32 0x00000000#32))) 0x00000000#32 reduces_S128x128_S128 (.inl rfl) rfl)
    shapeCasts_S128_S1x128

theorem piece_read (o : ℕ) (ho : o ≤ 896) (hs : S1024x1.Slices ![o, 0] S128x1) (x : FVec Ideal S1024x1 .f32) (c : Fin 128) :
    piece o hs x (ix2 0 c) = x (ix2 ⟨o + c.val, by omega⟩ 0) := by
  pointwise [piece, k0_pay37]
  have hc : c.val < 2 ^ 32 := by have := c.isLt; omega
  refine (Finset.sum_eq_single c (fun r _ hr => ?_) fun h => absurd (Finset.mem_univ c) h).trans ?_
  · have hr' : r.val < 2 ^ 32 := by have := r.isLt; omega
    rw [WordCmp.cmpi_eq_ofNat hr' hc, decide_eq_false fun e => hr (Fin.ext e)]
    rfl
  · rw [WordCmp.cmpi_eq_ofNat hc hc, decide_eq_true rfl]
    rfl

theorem outL_eq (a : St Ideal) : outL a = shapeCast S1x1x1x1024 (concatenate S1x1024 1
    [⟨S1x128, piece 0 slices_S1024x1_o0_0_S128x1 (k0_pay36 a.2.1 a.1)⟩, ⟨S1x128, piece 128 slices_S1024x1_o128_0_S128x1 (k0_pay36 a.2.1 a.1)⟩,
      ⟨S1x128, piece 256 slices_S1024x1_o256_0_S128x1 (k0_pay36 a.2.1 a.1)⟩, ⟨S1x128, piece 384 slices_S1024x1_o384_0_S128x1 (k0_pay36 a.2.1 a.1)⟩,
      ⟨S1x128, piece 512 slices_S1024x1_o512_0_S128x1 (k0_pay36 a.2.1 a.1)⟩, ⟨S1x128, piece 640 slices_S1024x1_o640_0_S128x1 (k0_pay36 a.2.1 a.1)⟩,
      ⟨S1x128, piece 768 slices_S1024x1_o768_0_S128x1 (k0_pay36 a.2.1 a.1)⟩, ⟨S1x128, piece 896 slices_S1024x1_o896_0_S128x1 (k0_pay36 a.2.1 a.1)⟩]
    concatenates_S1x128_S1x128_S1x128_S1x128_S1x128_S1x128_S1x128_S1x128_S1x1024_d1) shapeCasts_S1x1024_S1x1x1x1024 := rfl

/-- Eight rows of 128 numbers next to each other. -/
theorem eight_read (p0 p1 p2 p3 p4 p5 p6 p7 : FVec Ideal S1x128 .f32) (f : ℕ → EReal)
    (h0 : ∀ c : Fin 128, p0 (ix2 0 c) = f (0 + c.val)) (h1 : ∀ c : Fin 128, p1 (ix2 0 c) = f (128 + c.val))
    (h2 : ∀ c : Fin 128, p2 (ix2 0 c) = f (256 + c.val)) (h3 : ∀ c : Fin 128, p3 (ix2 0 c) = f (384 + c.val))
    (h4 : ∀ c : Fin 128, p4 (ix2 0 c) = f (512 + c.val)) (h5 : ∀ c : Fin 128, p5 (ix2 0 c) = f (640 + c.val))
    (h6 : ∀ c : Fin 128, p6 (ix2 0 c) = f (768 + c.val)) (h7 : ∀ c : Fin 128, p7 (ix2 0 c) = f (896 + c.val)) (n : Fin 1024) :
    shapeCast S1x1x1x1024 (concatenate S1x1024 1 [⟨S1x128, p0⟩, ⟨S1x128, p1⟩, ⟨S1x128, p2⟩, ⟨S1x128, p3⟩, ⟨S1x128, p4⟩, ⟨S1x128, p5⟩, ⟨S1x128, p6⟩, ⟨S1x128, p7⟩]
      concatenates_S1x128_S1x128_S1x128_S1x128_S1x128_S1x128_S1x128_S1x128_S1x1024_d1) shapeCasts_S1x1024_S1x1x1x1024 (ix4 0 0 0 n) = f n.val := by
  pointwise
  simp only [h0, h1, h2, h3, h4, h5, h6, h7]
  split_ifs <;> exact congrArg f (by omega)

theorem outL_read (a : St Ideal) (n : Fin 1024) : outL a (ix4 0 0 0 n) = a.1 (ix2 n 0) + Ideal.log (a.2.1 (ix2 n 0)) := by
  rw [outL_eq]
  have e : ∀ r : Fin 1024, k0_pay36 a.2.1 a.1 (ix2 r 0) = a.1 (ix2 r 0) + Ideal.log (a.2.1 (ix2 r 0)) := fun r => by
    generalize a.2.1 = x
    generalize a.1 = y
    pointwise [k0_pay36]
  rw [← e]
  generalize k0_pay36 a.2.1 a.1 = x
  have p : ∀ (o : ℕ) (ho : o ≤ 896) (hs : S1024x1.Slices ![o, 0] S128x1) (c : Fin 128),
      piece o hs x (ix2 0 c) = (fun k : ℕ => if h : k < 1024 then x (ix2 ⟨k, h⟩ 0) else 0) (o + c.val) := fun o ho hs c => by
    rw [piece_read o ho hs x c]
    have hc : o + c.val < 1024 := by omega
    show _ = if h : o + c.val < 1024 then x (ix2 ⟨o + c.val, h⟩ 0) else 0
    rw [dif_pos hc]
  refine (eight_read _ _ _ _ _ _ _ _ (fun k : ℕ => if h : k < 1024 then x (ix2 ⟨k, h⟩ 0) else 0) (p 0 (by omega) _) (p 128 (by omega) _) (p 256 (by omega) _)
    (p 384 (by omega) _) (p 512 (by omega) _) (p 640 (by omega) _) (p 768 (by omega) _) (p 896 (by omega) _) n).trans ?_
  exact dif_pos n.isLt

end Cert.FwdIdeal.Attn

end
-- ==== Proof.FwdLaunch.lean ====
/- The launch of the attention's forward kernel: what the result arrays' blocks hold after every grid point, and the
   run of the whole program to them. -/
module

public import proofs.«01_k».proof.Proof.FwdRun
public import proofs.«01_k».proof.Proof.Gen.FwdIdeal.Frame
public import Idealize.ShloMosaic.Lib.Claim

@[expose] public section

set_option maxRecDepth 16384

noncomputable section

namespace Cert.FwdIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.FwdIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The three input blocks of a point. -/
def blk0 (c : Dev nD) (t : Fin cfg0.N) : Vec F S1024x256 .bf16 := iblk m c 0 t
def blk1 (c : Dev nD) (t : Fin cfg0.N) : Vec F S8192x256 .bf16 := iblk m c 1 t
def blk2 (c : Dev nD) (t : Fin cfg0.N) : Vec F S8192x128 .bf16 := iblk m c 2 t

/-- The accumulators at the end of point `t`. -/
def stAt (c : Dev nD) (t : Fin cfg0.N) : St F := last (grid0.coords t) (blk0 m c t) (blk1 m c t) (blk2 m c t)

/-- The proof data: the arrays as the region finds them, and what every point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outO (stAt m c t)
    | ⟨4, _⟩ => outL (stAt m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outO (stAt m c t) := by dsimp only [dats]
theorem after_4 (c : Dev nD) (t : Fin cfg0.N) : (dats m 0 c).after 4 t = outL (stAt m c t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The pipeline's own invariant: the scratch buffers at some contents and the generator register. -/
theorem inv_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 1600000 in
/-- The body at any point: the run of one point at the point's blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4]
  rw [show (dats m 0 c).Φ t.castSucc = Pipeline.ΦA spec0 c from rfl, inv_eq]
  iintro ⟨⟨⟨HS0, HS1, HS2, HS3⟩, Hg⟩, Ho, ⟨%d0, H0⟩, ⟨%d1, H1⟩, ⟨%d2, H2⟩, ⟨%d3, H3⟩, ⟨%d4, H4⟩⟩
  iapply (run_point c (grid0.coords t) _ _ _ _ _ _ _ _ _ _ _ _ _ _ _ _ _ _ (blk0 m c t) (blk1 m c t) (blk2 m c t) Set.univ _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  iintro ⟨H0, H1, H2, H3, H4, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  iexact H4

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- The run of the whole program: every array ends at what its points' blocks make of it, and no semaphore is left raised. -/
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.FwdIdeal.Attn

end
-- ==== Proof.FwdFinal.lean ====
/- The forward launch's operands and its result arrays, over the reals: the output and the rows' log-sums. -/
module

public import proofs.«01_k».proof.Proof.FwdOut
public import proofs.«01_k».proof.Proof.FwdLaunch
public import proofs.«01_k».proof.Proof.HostReads
public import Idealize.ShloMosaic.Lib.Pipeline.ValueKit

@[expose] public section

noncomputable section

namespace Cert.FwdIdeal.Attn

open Idealize.ShloMosaic Idealize.SL Idealize.SL.Sem Gen
open Idealize.ShloMosaic.Pipeline (Dat)
open Cert.Attn
open Cert.KernelIdeal.Attn (Holds qArr kvArr kpArr qArr_holds kvArr_holds kpArr_holds)
open Cert.ReferenceIdeal.Attn (HoldsArgs)
open scoped BigOperators

variable (m : (ℓ : Loc nD τ sig) → Buf (Elt Ideal) ℓ) (c : Dev nD)

def arg0 : FVec Ideal S8192x16x192 .f32 := m ((c.tc : Thread nD τ).loc main_arg0)
def arg1 : FVec Ideal S8192x16x256 .f32 := m ((c.tc : Thread nD τ).loc main_arg1)
def arg2 : FVec Ideal S8192x64 .f32 := m ((c.tc : Thread nD τ).loc main_arg2)

theorem V_q : V m c main_v3 = qArr (arg0 m c) := by
  show StableHlo.after _ _ _ = _
  simp only [hostOps0, hostOps0_1, hostOps0_2, hostOps0_3, hostOps0_4, List.flatten_cons, List.flatten_nil, List.append_nil, List.cons_append, List.nil_append]
  entry_read
  rfl

theorem V_kv : V m c main_v5 = kvArr (arg1 m c) := by
  show StableHlo.after _ _ _ = _
  simp only [hostOps0, hostOps0_1, hostOps0_2, hostOps0_3, hostOps0_4, List.flatten_cons, List.flatten_nil, List.append_nil, List.cons_append, List.nil_append]
  entry_read
  rfl

theorem V_kp : V m c main_v6 = kpArr (arg2 m c) := by
  show StableHlo.after _ _ _ = _
  simp only [hostOps0, hostOps0_1, hostOps0_2, hostOps0_3, hostOps0_4, List.flatten_cons, List.flatten_nil, List.append_nil, List.cons_append, List.nil_append]
  entry_read
  rfl

theorem idx_0 : ∀ t : Fin cfg0.N, win0_0.index t = ![(grid0.coords t 1).val, (grid0.coords t 0).val] := by decide +kernel
theorem idx_1 : ∀ t : Fin cfg0.N, win0_1.index t = ![0, (grid0.coords t 0).val] := by decide +kernel
theorem idx_2 : ∀ t : Fin cfg0.N, win0_2.index t = ![0, 0] := by decide +kernel
theorem idx_3 : ∀ t : Fin cfg0.N, win0_3.index t = ![(grid0.coords t 1).val, (grid0.coords t 0).val] := by decide +kernel
theorem idx_4 : ∀ t : Fin cfg0.N, win0_4.index t = ![(grid0.coords t 0).val, (grid0.coords t 1).val, 0, 0] := by decide +kernel

theorem head_eq (t : Fin cfg0.N) : (grid0.coords t 0).val = t.val / 8 := by
  have ht : t.val < 128 := Nat.lt_of_lt_of_eq t.isLt N_0
  have e : (grid0.coords t 0).val = t.val / 8 % 16 := Pipeline.Grid.coords_val t 0 (by decide) rfl
  omega

theorem tile_eq (t : Fin cfg0.N) : (grid0.coords t 1).val = t.val % 8 := by
  have e : (grid0.coords t 1).val = t.val / 1 % 8 := Pipeline.Grid.coords_val t 1 (by decide) rfl
  omega

variable {A : Args} {a3 : FVec Ideal S8192x2048 .f32} (H : HoldsArgs A (arg0 m c) (arg1 m c) (arg2 m c) a3)
include H

theorem blk0_holds (t : Fin cfg0.N) : Holds (blk0 m c t) fun r j => A.qP (grid0.coords t 0).val (1024 * (grid0.coords t 1).val + r) j := by
  intro r j
  refine Eq.trans ?_ (qArr_holds H ⟨1024 * (grid0.coords t 1).val + r.val, by have := tile_eq t; omega⟩ (grid0.coords t 0) j)
  unfold blk0
  rw [← V_q]
  blk_simp [iblk]
  refine congrArg (V m c main_v3) ?_
  blk_ext [idx_0]

theorem blk1_holds (t : Fin cfg0.N) : Holds (blk1 m c t) fun κ j => A.kv κ (grid0.coords t 0).val j := by
  intro r j
  refine Eq.trans ?_ (kvArr_holds H r (grid0.coords t 0) j)
  unfold blk1
  rw [← V_kv]
  blk_simp [iblk]
  refine congrArg (V m c main_v5) ?_
  blk_ext [idx_1]

theorem blk2_holds (t : Fin cfg0.N) : Holds (blk2 m c t) fun κ j => kpP A κ j := by
  intro r j
  refine Eq.trans ?_ (kpArr_holds H r j)
  unfold blk2
  rw [← V_kp]
  blk_simp [iblk]
  refine congrArg (V m c main_v6) ?_
  blk_ext [idx_2]

/-- The accumulators at the end of a point. -/
theorem stAt_inv (t : Fin cfg0.N) : Inv A (t.val / 8) (t.val % 8) (1024 * (t.val % 8 + 1)) (stAt m c t) := by
  have e := last_inv (grid0.coords t) (blk0_holds m c H t) (blk1_holds m c H t) (blk2_holds m c H t)
  rw [head_eq, tile_eq] at e
  exact e

theorem final_o {G : FVec Ideal S8192x2048 .bf16} (hG : ∀ (n : Fin 8192) (h : Fin 16) (d : Fin 128), G (ix2 n ⟨h.val * 128 + d.val, by omega⟩) = (A.out n h d : EReal)) :
    (dats m 0 c).arrAt 3 cfg0.N = G := by
  refine (dats m 0 c).arrAt_eq_of_covers 3 _ (by decide +kernel) fun t hf y => ?_
  blk_simp
  rw [after_3]
  obtain ⟨r, d, rfl⟩ : ∃ (r : Fin 1024) (d : Fin 128), y = ix2 r d := ⟨y 0, y 1, eq_ix2 y⟩
  have ht : t.val < 128 := Nat.lt_of_lt_of_eq t.isLt N_0
  rw [outO_read]
  refine ((stAt_inv m c H t r).out (by omega) (by omega) d).trans
    ((hG ⟨1024 * (t.val % 8) + r.val, by omega⟩ ⟨t.val / 8, by omega⟩ d).symm.trans (congrArg G ?_))
  blk_ext [idx_3, head_eq, tile_eq]

theorem final_lse {G : FVec Ideal S16x8x1x1024 .f32}
    (hG : ∀ (h : Fin 16) (b : Fin 8) (n : Fin 1024), G (ix4 h b 0 n) = (Real.log (A.tot h (1024 * b.val + n.val)) : EReal)) :
    (dats m 0 c).arrAt 4 cfg0.N = G := by
  refine (dats m 0 c).arrAt_eq_of_covers 4 _ (by decide +kernel) fun t hf y => ?_
  blk_simp
  rw [after_4]
  obtain ⟨z0, z1, z2, n, rfl⟩ : ∃ (z0 z1 z2 : Fin 1) (n : Fin 1024), y = ix4 z0 z1 z2 n := ⟨y 0, y 1, y 2, y 3, eq_ix4 y⟩
  obtain rfl : z0 = 0 := Subsingleton.elim _ _
  obtain rfl : z1 = 0 := Subsingleton.elim _ _
  obtain rfl : z2 = 0 := Subsingleton.elim _ _
  have ht : t.val < 128 := Nat.lt_of_lt_of_eq t.isLt N_0
  rw [outL_read]
  refine ((stAt_inv m c H t n).lse (by omega) (by omega)).trans
    ((hG ⟨t.val / 8, by omega⟩ ⟨t.val % 8, by omega⟩ n).symm.trans (congrArg G ?_))
  blk_ext [idx_4, head_eq, tile_eq]

end Cert.FwdIdeal.Attn

end
-- ==== Proof.FwdValue.lean ====
/- The forward program leaves the reference's results. -/
module

public import proofs.«01_k».proof.Defs
public import proofs.«01_k».proof.Proof.Gen.Pre_finite_fwd
public import proofs.«01_k».proof.Proof.Gen.FwdIdeal
public import proofs.«01_k».proof.Proof.Gen.RefFwdIdeal.Run
public import proofs.«01_k».proof.Proof.Pre
public import proofs.«01_k».proof.Proof.FwdFinal

@[expose] public section

noncomputable section

namespace Cert.FwdIdeal.Attn

open Idealize.ShloMosaic Idealize.SL Idealize.SL.Sem Gen
open Idealize.ShloMosaic.Pipeline (Dat)
open Cert.Attn
open Cert.KernelIdeal.Attn (num2 num3 num2_eq num3_eq real_of_lt lseArr oArr lseArr_holds oArr_holds)
open Cert.ReferenceIdeal.Attn (HoldsArgs kArr vArr sArr mArr' uArr pArr mArr'_holds uArr_holds pArr_holds)

/-- Where the condition prints all ones, every entry is real. -/
theorem reals {s : Shape} (hb : Cert.Pre_finite_fwd.S_.BroadcastsInDim s ![]) (x : FVec Ideal s .f32)
    (h : cmpf .olt (Host.absf x) (broadcastInDim s ![] hb (constant Cert.Pre_finite_fwd.S_ .f32 0x7F800000#32)) = fun _ => 1#1) (i : s.Idx) :
    x i = ((x i).toReal : EReal) :=
  real_of_lt (congrFun h i)

/-- The arguments' numbers; no incoming gradient is read. -/
def args (m : (ℓ : Loc nD τ sig) → Buf (Elt Ideal) ℓ) (c : Dev nD) : Args where
  q := num3 (arg0 m c)
  kv := num3 (arg1 m c)
  kp := num2 (arg2 m c)
  ct := fun _ _ => 0

theorem holds_of_pre (m : (ℓ : Loc nD τ sig) → Buf (Elt Ideal) ℓ) (h : Cert.Pre_FwdIdeal_finite_fwd m) (c : Dev nD) :
    HoldsArgs (args m c) (arg0 m c) (arg1 m c) (arg2 m c) (fun _ => ((0 : ℝ) : EReal)) where
  q := num3_eq (reals _ _ (h c).1)
  kv := num3_eq (reals _ _ (h c).2.1)
  kp := num2_eq (reals _ _ (h c).2.2)
  ct := fun _ _ => rfl

section Reference
variable (m : (ℓ : Loc Cert.RefFwdIdeal.nD Cert.RefFwdIdeal.τ Cert.RefFwdIdeal.sig) → Buf (Elt Ideal) ℓ) (c : Dev Cert.RefFwdIdeal.nD)

def ref0 : FVec Ideal S8192x16x192 .f32 := m ((c.tc : Thread Cert.RefFwdIdeal.nD Cert.RefFwdIdeal.τ).loc Cert.RefFwdIdeal.main_arg0)
def ref1 : FVec Ideal S8192x16x256 .f32 := m ((c.tc : Thread Cert.RefFwdIdeal.nD Cert.RefFwdIdeal.τ).loc Cert.RefFwdIdeal.main_arg1)
def ref2 : FVec Ideal S8192x64 .f32 := m ((c.tc : Thread Cert.RefFwdIdeal.nD Cert.RefFwdIdeal.τ).loc Cert.RefFwdIdeal.main_arg2)

/-- The reference's scores. -/
def refS : FVec Ideal Cert.ReferenceIdeal.S16x8192x8192 .f32 := sArr (ref0 m c) (kArr (ref1 m c) (ref2 m c))

theorem out1_eq : Cert.RefFwdIdeal.Value.res_out1 m c = lseArr (refS m c) := rfl

theorem out0_eq : Cert.RefFwdIdeal.Value.res_out0 m c
    = truncf .bf16 (oArr (vArr (ref1 m c)) (pArr (uArr (refS m c) (mArr' (refS m c))))) Cert.KernelIdeal.Gen.bitsLt_bf16_f32 := rfl

variable {A : Args} {a3 : FVec Ideal S8192x2048 .f32} (H : HoldsArgs A (ref0 m c) (ref1 m c) (ref2 m c) a3)
include H

theorem out1_holds (h : Fin 16) (b : Fin 8) (n : Fin 1024) :
    Cert.RefFwdIdeal.Value.res_out1 m c (ix4 h b 0 n) = (Real.log (A.tot h (1024 * b.val + n.val)) : EReal) := by
  rw [out1_eq]
  exact lseArr_holds H h b n

theorem out0_holds (n : Fin 8192) (h : Fin 16) (d : Fin 128) :
    Cert.RefFwdIdeal.Value.res_out0 m c (ix2 n ⟨h.val * 128 + d.val, by omega⟩) = (A.out n h d : EReal) := by
  rw [out0_eq]
  have hp : ∀ h n k, pArr (uArr (refS m c) (mArr' (refS m c))) (ix3 h n k) = (A.pr h.val n.val k.val : EReal) := fun h n k => by
    obtain ⟨M, hM⟩ := mArr'_holds H h n
    exact pArr_holds H (uArr_holds H hM) k
  exact oArr_holds H hp n h d

end Reference

/-- The run, its result arrays and its arguments read. -/
theorem run_results {F : FTy → Type} [FloatOps F] [Named F] (m : (ℓ : Loc nD τ sig) → Buf (Elt F) ℓ) (g : Dev nD → PrngReg) :
    θ_run (defs (F := F)) (onTc (τ := τ) (main (F := F))) ⟨m, fun _ => 0, g⟩ fun r => ∀ c : Dev nD,
      r.2.mem ((c.tc : Thread nD τ).loc main_v7_0) = (dats m 0 c).arrAt 3 cfg0.N
      ∧ r.2.mem ((c.tc : Thread nD τ).loc main_v7_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.1 c).1 3, (h.1 c).1 4,
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c)⟩) (run_main m g)

/-- The run, its arguments unchanged and every semaphore back at zero. -/
theorem run_frame {F : FTy → Type} [FloatOps F] [Named F] (m : (ℓ : Loc nD τ sig) → Buf (Elt F) ℓ) (g : Dev nD → PrngReg) :
    θ_run (defs (F := F)) (onTc (τ := τ) (main (F := F))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun _ h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c)⟩, h.2⟩) (run_main m g)

/-- The value claim. -/
theorem value : Cert.algebraic_FwdIdeal_RefFwdIdeal_pre_finite_fwd := fun m g m' g' hpre hargs => by
  refine ⟨_, _, run_results m g, (θ_run Cert.RefFwdIdeal.defs _ _).mono (fun r h c => ?_) (Cert.RefFwdIdeal.Value.run m' g')⟩
  have H := holds_of_pre m hpre c
  have H' : HoldsArgs (args m c) (ref0 m' c) (ref1 m' c) (ref2 m' c) (fun _ => ((0 : ℝ) : EReal)) := by
    have e0 : ref0 m' c = arg0 m c := (hargs c).1
    have e1 : ref1 m' c = arg1 m c := (hargs c).2.1
    have e2 : ref2 m' c = arg2 m c := (hargs c).2.2
    rw [e0, e1, e2]
    exact H
  exact ⟨(h c).1.trans (final_o m c H (out0_holds m' c H')).symm, (h c).2.1.trans (final_lse m c H (out1_holds m' c H')).symm, (h c).2.2⟩

end Cert.FwdIdeal.Attn

end
-- ==== Proof.FwdSame.lean ====
/- The forward attention's printed program is its idealization with the named constant read as its bits, so a run of one is a
   run of the other. -/
module

public import proofs.«01_k».proof.Proof.Gen.Fwd
public import proofs.«01_k».proof.Proof.FwdValue

@[expose] public section

namespace Cert.FwdIdeal.Attn

open Idealize.ShloMosaic Idealize.SL.Sem

/-- Where floats are bits, a named constant is the constant printed. -/
@[reducible] noncomputable def bitsNamed : Named Bits := ⟨fun _ _ φ b => FloatOps.ofBits φ b⟩

attribute [local instance] bitsNamed

/-- Said of one constant. -/
theorem named_bits (κ : String → Option EReal) (n : String) {φ : FTy} (b : BitVec φ.bits) :
    Named.named (F := Bits) κ n b = Scalar.ofBits φ b := rfl

set_option maxHeartbeats 20000000 in  -- some forty operations
/-- Part 1 of the kernel bodies is one, -/
theorem part1_eq : @Cert.Fwd.k0_part1 Bits _ _ = @Cert.FwdIdeal.k0_part1 Bits _ _ := by
  unfold Cert.Fwd.k0_part1 Cert.FwdIdeal.k0_part1
  rfl

set_option maxHeartbeats 20000000 in  -- some forty operations
/-- Part 2 of the kernel bodies is one, -/
theorem part2_eq : @Cert.Fwd.k0_part2 Bits _ _ = @Cert.FwdIdeal.k0_part2 Bits _ _ := by
  unfold Cert.Fwd.k0_part2 Cert.FwdIdeal.k0_part2
  rfl

set_option maxHeartbeats 20000000 in  -- some forty operations
/-- Part 3 of the kernel bodies is one, -/
theorem part3_eq : @Cert.Fwd.k0_part3 Bits _ _ = @Cert.FwdIdeal.k0_part3 Bits _ _ _ := by
  unfold Cert.Fwd.k0_part3 Cert.FwdIdeal.k0_part3
  rw [named_bits]
  rfl

set_option maxHeartbeats 20000000 in  -- some forty operations
/-- Part 4 of the kernel bodies is one, -/
theorem part4_eq : @Cert.Fwd.k0_part4 Bits _ _ = @Cert.FwdIdeal.k0_part4 Bits _ _ _ := by
  unfold Cert.Fwd.k0_part4 Cert.FwdIdeal.k0_part4
  rw [named_bits]
  rfl

set_option maxHeartbeats 20000000 in  -- some forty operations
/-- Part 5 of the kernel bodies is one, -/
theorem part5_eq : @Cert.Fwd.k0_part5 Bits _ _ = @Cert.FwdIdeal.k0_part5 Bits _ _ := by
  unfold Cert.Fwd.k0_part5 Cert.FwdIdeal.k0_part5
  rfl

set_option maxHeartbeats 20000000 in  -- the body is some two hundred operations
/-- and so are the bodies, -/
theorem body_eq : @Cert.Fwd.cc0_attn_fwd Bits _ _ = @Cert.FwdIdeal.cc0_attn_fwd Bits _ _ _ := by
  unfold Cert.Fwd.cc0_attn_fwd Cert.FwdIdeal.cc0_attn_fwd
  rw [part3_eq, part4_eq, part5_eq]
  rfl

set_option maxHeartbeats 20000000 in  -- as above
/-- so are the programs of their body labels, -/
theorem defs0_eq : Cert.Fwd.defs₀ (F := Bits) = Cert.FwdIdeal.defs₀ (F := Bits) := by
  refine congrArg Defs.onTc ?_
  funext l a
  match l, a with
  | 0, (t, s) =>
    exact
      congrFun (congrFun (congrFun (congrFun (congrFun (congrFun (congrFun (congrFun (congrFun
      (congrFun (congrFun (congrFun (congrFun (congrFun (congrFun (congrFun (congrFun (congrFun
      (congrFun body_eq _) _) _) _) _) _) _) _) _) _) _) _) _) _) _) _) _) _) _

set_option maxHeartbeats 20000000 in  -- as above
/-- those of all labels, the pipeline's own included, -/
theorem defs_eq : Cert.Fwd.defs (F := Bits) = Cert.FwdIdeal.defs (F := Bits) :=
  congrArg (Pipeline.defs (Cert.Fwd.pcfgs (F := Bits))) defs0_eq

/-- and their host functions. -/
theorem main_eq : Cert.Fwd.main (F := Bits) = Cert.FwdIdeal.main (F := Bits) := rfl

set_option maxHeartbeats 4000000 in  -- the two programs' signatures are compared
/-- So the one run serves both. -/
theorem frame : Cert.quiescent_Fwd := fun m g _ =>
  (congrArg₂ (fun D B => θ_run D (onTc (τ := Cert.Fwd.τ) B) ⟨m, fun _ => 0, g⟩ _)
    defs_eq main_eq).mpr (run_frame (F := Bits) m g)

/-- The reference runs, its arguments unchanged. -/
theorem ref_frame : Cert.quiescent_RefFwdIdeal := fun m g _ =>
  (θ_run Cert.RefFwdIdeal.defs _ _).mono (fun r h => ⟨fun c => (h c).2.2,
    sem_eq_zero_of_no_sems (by decide) r.2⟩) (Cert.RefFwdIdeal.Value.run m g)

/-- The constant that is named stands for minus infinity. -/
theorem preserves : Cert.preserves_Fwd_FwdIdeal := IdealRules.named_const.statement _ _ _ _ _ rfl

end Cert.FwdIdeal.Attn
-- ==== Proof.BackGate.lean ====
/- The gradient of the rows that the layer input's gate was computed from. -/
module

public import proofs.«01_k».proof.Defs
public import proofs.«01_k».proof.Proof.Products
public import proofs.«01_k».proof.Proof.Gen.BackGate
public import proofs.«01_k».proof.Proof.Gen.BackGateIdeal.Value
public import proofs.«01_k».proof.Proof.Gen.RefBackGateIdeal.Run
public import Idealize.ShloMosaic.Lib.Pipeline.ValueKit
public import Idealize.ShloMosaic.Lib.Quiescent

@[expose] public section

noncomputable section

namespace Cert.BackGateIdeal.Back

open Idealize.ShloMosaic Idealize.ShloMosaic.TcCoe Idealize.SL Idealize.SL.Sem Gen Cert.Products
open Idealize.ShloMosaic.Pipeline (Dat)
open scoped BigOperators

/-- A block's product. -/
theorem out_at (x0 : Vec Ideal S1024x2048 .bf16) (x1 : Vec Ideal S1024x2048 .bf16) (p : Fin 1024) (q : Fin 1024) :
    out0_2 x0 x1 (ix2 p q) = ∑ r : Fin 2048, at2 x0 p r * at2 x1 q r := by
  unfold out0_2
  rw [View.canon_unit_zero hz, View.ld_unit_zero (S := S1024x2048) hz, View.ld_unit_zero (S := S1024x2048) hz]
  simp only [at2_fin]
  pointwise [k0_pay1]

variable (m : (ℓ : Loc nD τ sig) → Buf (Elt Ideal) ℓ) (c : Dev nD)

theorem idx_0 : ∀ t : Fin cfg0.N, win0_0.index t = ![t.val / 2, 0] := by decide +kernel
theorem idx_1 : ∀ t : Fin cfg0.N, win0_1.index t = ![t.val % 2, 0] := by decide +kernel
theorem idx_2 : ∀ t : Fin cfg0.N, win0_2.index t = ![t.val / 2, t.val % 2] := by decide +kernel

def arg0 : FVec Ideal S8192x2048 .bf16 := m ((c.tc : Thread nD τ).loc main_arg0)
def arg1 : FVec Ideal S2048x2048 .bf16 := m ((c.tc : Thread nD τ).loc main_arg1)

theorem blk_0 (t : Fin cfg0.N) (p : Fin 1024) (r : Fin 2048) : at2 (iblk m c 0 t) p r = at2 (arg0 m c) (1024 * (t.val / 2) + p) r := by
  have ht : t.val < 16 := Nat.lt_of_lt_of_eq t.isLt N_0
  rw [at2_fin, at2_eq _ (by omega) (by omega)]
  have e : V m c main_arg0 = arg0 m c := V_main_arg0 m c
  rw [← e]
  blk_simp [iblk]
  refine congrArg (V m c main_arg0) ?_
  blk_ext [idx_0]

theorem blk_1 (t : Fin cfg0.N) (q : Fin 1024) (r : Fin 2048) : at2 (iblk m c 1 t) q r = at2 (arg1 m c) (1024 * (t.val % 2) + q) r := by
  rw [at2_fin, at2_eq _ (by omega) (by omega)]
  have e : V m c main_arg1 = arg1 m c := V_main_arg1 m c
  rw [← e]
  blk_simp [iblk]
  refine congrArg (V m c main_arg1) ?_
  blk_ext [idx_1]

/-- The result array. -/
theorem final {G : FVec Ideal S8192x2048 .f32} (hG : ∀ (i : Fin 8192) (j : Fin 2048), G (ix2 i j) = ∑ k : Fin 2048, at2 (arg0 m c) i k * at2 (arg1 m c) j k) :
    (dats m 0 c).arrAt 2 cfg0.N = G := by
  refine (dats m 0 c).arrAt_eq_of_covers 2 _ (by decide +kernel) fun t hf y => ?_
  have ht : t.val < 16 := Nat.lt_of_lt_of_eq t.isLt N_0
  blk_simp
  rw [after0_2]
  obtain ⟨p, q, rfl⟩ : ∃ (p : Fin 1024) (q : Fin 1024), y = ix2 p q := ⟨y 0, y 1, eq_ix2 y⟩
  refine (out_at (iblk m c 0 t) (iblk m c 1 t) p q).trans
    (Eq.trans ?_ ((hG ⟨1024 * (t.val / 2) + p.val, by omega⟩ ⟨1024 * (t.val % 2) + q.val, by omega⟩).symm.trans (congrArg G ?_)))
  · simp only [blk_0, blk_1]
  · blk_ext [idx_2]

/-- The reference's result, entry by entry. -/
theorem ref_at (x : FVec Ideal S8192x2048 .bf16) (y : FVec Ideal S2048x2048 .bf16) (i : Fin 8192) (j : Fin 2048) :
    Host.dotGeneral Cert.RefBackGateIdeal.dot_S8192x2048_S2048x2048_S8192x2048_1_1_0_0_n_n none
      (extf .f32 x Cert.RefBackGateIdeal.Gen.bitsLt_bf16_f32) (extf .f32 y Cert.RefBackGateIdeal.Gen.bitsLt_bf16_f32) (ix2 i j)
    = ∑ k : Fin 2048, at2 x i k * at2 y j k := by
  simp only [at2_fin]
  pointwise

/-- The value claim. -/
theorem value : Cert.algebraic_BackGateIdeal_RefBackGateIdeal := fun m g m' g' _ hargs => by
  refine ⟨_, Value.run_blocks m g, (θ_run Cert.RefBackGateIdeal.defs _ _).mono (fun r h c => ?_) (Cert.RefBackGateIdeal.Value.run m' g')⟩
  refine ⟨(h c).1.trans ?_, (h c).2⟩
  rw [(hargs c).1, (hargs c).2]
  exact (final m c (ref_at (arg0 m c) (arg1 m c))).symm

/-! ## The runs -/

/-- The printed program is its idealization: over the bits their bodies are equal, -/
theorem body_eq : @Cert.BackGate.cc0_mmb_ple_gate Bits _ _ = @Cert.BackGateIdeal.cc0_mmb_ple_gate Bits _ _ := by
  unfold Cert.BackGate.cc0_mmb_ple_gate Cert.BackGateIdeal.cc0_mmb_ple_gate
  rfl

/-- so are the programs of their body labels, -/
theorem defs0_eq : Cert.BackGate.defs₀ (F := Bits) = Cert.BackGateIdeal.defs₀ (F := Bits) := by
  refine congrArg Defs.onTc ?_
  funext l a
  match l, a with
  | 0, (t, s) =>
    exact
      congrFun (congrFun (congrFun (congrFun (congrFun (congrFun (congrFun body_eq _) _) _) _) _)
      _) _

/-- those of all labels, the pipeline's own included, -/
theorem defs_eq : Cert.BackGate.defs (F := Bits) = Cert.BackGateIdeal.defs (F := Bits) :=
  congrArg (Pipeline.defs (Cert.BackGate.pcfgs (F := Bits))) defs0_eq

/-- and their host functions. -/
theorem main_eq : Cert.BackGate.main (F := Bits) = Cert.BackGateIdeal.main (F := Bits) := rfl

/-- So the one run serves both. -/
theorem frame : Cert.quiescent_BackGate := fun m g _ =>
  (congrArg₂ (fun D B => θ_run D (onTc (τ := Cert.BackGate.τ) B) ⟨m, fun _ => 0, g⟩ _)
    defs_eq main_eq).mpr (Cert.BackGateIdeal.Gen.frame (F := Bits) m g)

/-- The reference runs, its arguments unchanged. -/
theorem ref_frame : Cert.quiescent_RefBackGateIdeal := fun m g _ =>
  (θ_run Cert.RefBackGateIdeal.defs _ _).mono (fun r h => ⟨fun c => (h c).2, sem_eq_zero_of_no_sems (by decide) r.2⟩) (Cert.RefBackGateIdeal.Value.run m g)

end Cert.BackGateIdeal.Back

end
-- ==== Proof.Qkv.lean ====
/- The product with the columns of the mixer's first matrix that give the latents of the queries, keys and values. -/
module

public import proofs.«01_k».proof.Defs
public import proofs.«01_k».proof.Proof.Products
public import proofs.«01_k».proof.Proof.Gen.Qkv
public import proofs.«01_k».proof.Proof.Gen.QkvIdeal.Value
public import proofs.«01_k».proof.Proof.Gen.RefQkvIdeal.Run
public import Idealize.ShloMosaic.Lib.Pipeline.ValueKit
public import Idealize.ShloMosaic.Lib.Quiescent

@[expose] public section

noncomputable section

namespace Cert.QkvIdeal.Mm

open Idealize.ShloMosaic Idealize.ShloMosaic.TcCoe Idealize.SL Idealize.SL.Sem Gen Cert.Products
open Idealize.ShloMosaic.Pipeline (Dat)
open scoped BigOperators

/-- A block's product. -/
theorem out_at (x0 : Vec Ideal S1024x2048 .bf16) (x1 : Vec Ideal S2048x1024 .bf16) (p : Fin 1024) (q : Fin 1024) :
    out0_2 x0 x1 (ix2 p q) = ∑ r : Fin 2048, at2 x0 p r * at2 x1 r q := by
  unfold out0_2
  rw [View.canon_unit_zero hz, View.ld_unit_zero (S := S1024x2048) hz, View.ld_unit_zero (S := S2048x1024) hz]
  simp only [at2_fin]
  pointwise [k0_pay1]

variable (m : (ℓ : Loc nD τ sig) → Buf (Elt Ideal) ℓ) (c : Dev nD)

theorem idx_0 : ∀ t : Fin cfg0.N, win0_0.index t = ![t.val, 0] := by decide +kernel
theorem idx_1 : ∀ t : Fin cfg0.N, win0_1.index t = ![0, 0] := by decide +kernel
theorem idx_2 : ∀ t : Fin cfg0.N, win0_2.index t = ![t.val, 0] := by decide +kernel

def arg0 : FVec Ideal S8192x2048 .bf16 := m ((c.tc : Thread nD τ).loc main_arg0)
def arg1 : FVec Ideal S2048x1024 .bf16 := m ((c.tc : Thread nD τ).loc main_arg1)

theorem blk_0 (t : Fin cfg0.N) (p : Fin 1024) (r : Fin 2048) : at2 (iblk m c 0 t) p r = at2 (arg0 m c) (1024 * t.val + p) r := by
  have ht : t.val < 8 := Nat.lt_of_lt_of_eq t.isLt N_0
  rw [at2_fin, at2_eq _ (by omega) (by omega)]
  have e : V m c main_arg0 = arg0 m c := V_main_arg0 m c
  rw [← e]
  blk_simp [iblk]
  refine congrArg (V m c main_arg0) ?_
  blk_ext [idx_0]

theorem blk_1 (t : Fin cfg0.N) (r : Fin 2048) (q : Fin 1024) : at2 (iblk m c 1 t) r q = at2 (arg1 m c) r q := by
  rw [at2_fin, at2_eq _ (by omega) (by omega)]
  have e : V m c main_arg1 = arg1 m c := V_main_arg1 m c
  rw [← e]
  blk_simp [iblk]
  refine congrArg (V m c main_arg1) ?_
  blk_ext [idx_1]

/-- The result array. -/
theorem final {G : FVec Ideal S8192x1024 .f32} (hG : ∀ (i : Fin 8192) (j : Fin 1024), G (ix2 i j) = ∑ k : Fin 2048, at2 (arg0 m c) i k * at2 (arg1 m c) k j) :
    (dats m 0 c).arrAt 2 cfg0.N = G := by
  refine (dats m 0 c).arrAt_eq_of_covers 2 _ (by decide +kernel) fun t hf y => ?_
  have ht : t.val < 8 := Nat.lt_of_lt_of_eq t.isLt N_0
  blk_simp
  rw [after0_2]
  obtain ⟨p, q, rfl⟩ : ∃ (p : Fin 1024) (q : Fin 1024), y = ix2 p q := ⟨y 0, y 1, eq_ix2 y⟩
  refine (out_at (iblk m c 0 t) (iblk m c 1 t) p q).trans
    (Eq.trans ?_ ((hG ⟨1024 * t.val + p.val, by omega⟩ q).symm.trans (congrArg G ?_)))
  · simp only [blk_0, blk_1]
  · blk_ext [idx_2]

/-- The reference's result, entry by entry. -/
theorem ref_at (x : FVec Ideal S8192x2048 .bf16) (y : FVec Ideal S2048x1024 .bf16) (i : Fin 8192) (j : Fin 1024) :
    Host.dotGeneral Cert.RefQkvIdeal.dot_S8192x2048_S2048x1024_S8192x1024_1_0_0_1_n_n none
      (extf .f32 x Cert.RefQkvIdeal.Gen.bitsLt_bf16_f32) (extf .f32 y Cert.RefQkvIdeal.Gen.bitsLt_bf16_f32) (ix2 i j)
    = ∑ k : Fin 2048, at2 x i k * at2 y k j := by
  simp only [at2_fin]
  pointwise

/-- The value claim. -/
theorem value : Cert.algebraic_QkvIdeal_RefQkvIdeal := fun m g m' g' _ hargs => by
  refine ⟨_, Value.run_blocks m g, (θ_run Cert.RefQkvIdeal.defs _ _).mono (fun r h c => ?_) (Cert.RefQkvIdeal.Value.run m' g')⟩
  refine ⟨(h c).1.trans ?_, (h c).2⟩
  rw [(hargs c).1, (hargs c).2]
  exact (final m c (ref_at (arg0 m c) (arg1 m c))).symm

/-! ## The runs -/

/-- The printed program is its idealization: over the bits their bodies are equal, -/
theorem body_eq : @Cert.Qkv.cc0_mm_qkv Bits _ _ = @Cert.QkvIdeal.cc0_mm_qkv Bits _ _ := by
  unfold Cert.Qkv.cc0_mm_qkv Cert.QkvIdeal.cc0_mm_qkv
  rfl

/-- so are the programs of their body labels, -/
theorem defs0_eq : Cert.Qkv.defs₀ (F := Bits) = Cert.QkvIdeal.defs₀ (F := Bits) := by
  refine congrArg Defs.onTc ?_
  funext l a
  match l, a with
  | 0, (t, s) =>
    exact
      congrFun (congrFun (congrFun (congrFun (congrFun (congrFun (congrFun body_eq _) _) _) _) _)
      _) _

/-- those of all labels, the pipeline's own included, -/
theorem defs_eq : Cert.Qkv.defs (F := Bits) = Cert.QkvIdeal.defs (F := Bits) :=
  congrArg (Pipeline.defs (Cert.Qkv.pcfgs (F := Bits))) defs0_eq

/-- and their host functions. -/
theorem main_eq : Cert.Qkv.main (F := Bits) = Cert.QkvIdeal.main (F := Bits) := rfl

/-- So the one run serves both. -/
theorem frame : Cert.quiescent_Qkv := fun m g _ =>
  (congrArg₂ (fun D B => θ_run D (onTc (τ := Cert.Qkv.τ) B) ⟨m, fun _ => 0, g⟩ _)
    defs_eq main_eq).mpr (Cert.QkvIdeal.Gen.frame (F := Bits) m g)

/-- The reference runs, its arguments unchanged. -/
theorem ref_frame : Cert.quiescent_RefQkvIdeal := fun m g _ =>
  (θ_run Cert.RefQkvIdeal.defs _ _).mono (fun r h => ⟨fun c => (h c).2, sem_eq_zero_of_no_sems (by decide) r.2⟩) (Cert.RefQkvIdeal.Value.run m g)

end Cert.QkvIdeal.Mm

end
-- ==== Proof.Uq.lean ====
/- The product with the matrix that raises the queries' latents to the heads. -/
module

public import proofs.«01_k».proof.Defs
public import proofs.«01_k».proof.Proof.Products
public import proofs.«01_k».proof.Proof.Gen.Uq
public import proofs.«01_k».proof.Proof.Gen.UqIdeal.Value
public import proofs.«01_k».proof.Proof.Gen.RefUqIdeal.Run
public import Idealize.ShloMosaic.Lib.Pipeline.ValueKit
public import Idealize.ShloMosaic.Lib.Quiescent

@[expose] public section

noncomputable section

namespace Cert.UqIdeal.Mm

open Idealize.ShloMosaic Idealize.ShloMosaic.TcCoe Idealize.SL Idealize.SL.Sem Gen Cert.Products
open Idealize.ShloMosaic.Pipeline (Dat)
open scoped BigOperators

/-- A block's product. -/
theorem out_at (x0 : Vec Ideal S1024x512 .bf16) (x1 : Vec Ideal S512x1024 .bf16) (p : Fin 1024) (q : Fin 1024) :
    out0_2 x0 x1 (ix2 p q) = ∑ r : Fin 512, at2 x0 p r * at2 x1 r q := by
  unfold out0_2
  rw [View.canon_unit_zero hz, View.ld_unit_zero (S := S1024x512) hz, View.ld_unit_zero (S := S512x1024) hz]
  simp only [at2_fin]
  pointwise [k0_pay1]

variable (m : (ℓ : Loc nD τ sig) → Buf (Elt Ideal) ℓ) (c : Dev nD)

theorem idx_0 : ∀ t : Fin cfg0.N, win0_0.index t = ![t.val / 4, 0] := by decide +kernel
theorem idx_1 : ∀ t : Fin cfg0.N, win0_1.index t = ![0, t.val % 4] := by decide +kernel
theorem idx_2 : ∀ t : Fin cfg0.N, win0_2.index t = ![t.val / 4, t.val % 4] := by decide +kernel

def arg0 : FVec Ideal S8192x512 .bf16 := m ((c.tc : Thread nD τ).loc main_arg0)
def arg1 : FVec Ideal S512x4096 .bf16 := m ((c.tc : Thread nD τ).loc main_arg1)

theorem blk_0 (t : Fin cfg0.N) (p : Fin 1024) (r : Fin 512) : at2 (iblk m c 0 t) p r = at2 (arg0 m c) (1024 * (t.val / 4) + p) r := by
  have ht : t.val < 32 := Nat.lt_of_lt_of_eq t.isLt N_0
  rw [at2_fin, at2_eq _ (by omega) (by omega)]
  have e : V m c main_arg0 = arg0 m c := V_main_arg0 m c
  rw [← e]
  blk_simp [iblk]
  refine congrArg (V m c main_arg0) ?_
  blk_ext [idx_0]

theorem blk_1 (t : Fin cfg0.N) (r : Fin 512) (q : Fin 1024) : at2 (iblk m c 1 t) r q = at2 (arg1 m c) r (1024 * (t.val % 4) + q) := by
  rw [at2_fin, at2_eq _ (by omega) (by omega)]
  have e : V m c main_arg1 = arg1 m c := V_main_arg1 m c
  rw [← e]
  blk_simp [iblk]
  refine congrArg (V m c main_arg1) ?_
  blk_ext [idx_1]

/-- The result array. -/
theorem final {G : FVec Ideal S8192x4096 .f32} (hG : ∀ (i : Fin 8192) (j : Fin 4096), G (ix2 i j) = ∑ k : Fin 512, at2 (arg0 m c) i k * at2 (arg1 m c) k j) :
    (dats m 0 c).arrAt 2 cfg0.N = G := by
  refine (dats m 0 c).arrAt_eq_of_covers 2 _ (by decide +kernel) fun t hf y => ?_
  have ht : t.val < 32 := Nat.lt_of_lt_of_eq t.isLt N_0
  blk_simp
  rw [after0_2]
  obtain ⟨p, q, rfl⟩ : ∃ (p : Fin 1024) (q : Fin 1024), y = ix2 p q := ⟨y 0, y 1, eq_ix2 y⟩
  refine (out_at (iblk m c 0 t) (iblk m c 1 t) p q).trans
    (Eq.trans ?_ ((hG ⟨1024 * (t.val / 4) + p.val, by omega⟩ ⟨1024 * (t.val % 4) + q.val, by omega⟩).symm.trans (congrArg G ?_)))
  · simp only [blk_0, blk_1]
  · blk_ext [idx_2]

/-- The reference's result, entry by entry. -/
theorem ref_at (x : FVec Ideal S8192x512 .bf16) (y : FVec Ideal S512x4096 .bf16) (i : Fin 8192) (j : Fin 4096) :
    Host.dotGeneral Cert.RefUqIdeal.dot_S8192x512_S512x4096_S8192x4096_1_0_0_1_n_n none
      (extf .f32 x Cert.RefUqIdeal.Gen.bitsLt_bf16_f32) (extf .f32 y Cert.RefUqIdeal.Gen.bitsLt_bf16_f32) (ix2 i j)
    = ∑ k : Fin 512, at2 x i k * at2 y k j := by
  simp only [at2_fin]
  pointwise

/-- The value claim. -/
theorem value : Cert.algebraic_UqIdeal_RefUqIdeal := fun m g m' g' _ hargs => by
  refine ⟨_, Value.run_blocks m g, (θ_run Cert.RefUqIdeal.defs _ _).mono (fun r h c => ?_) (Cert.RefUqIdeal.Value.run m' g')⟩
  refine ⟨(h c).1.trans ?_, (h c).2⟩
  rw [(hargs c).1, (hargs c).2]
  exact (final m c (ref_at (arg0 m c) (arg1 m c))).symm

/-! ## The runs -/

/-- The printed program is its idealization: over the bits their bodies are equal, -/
theorem body_eq : @Cert.Uq.cc0_mm_uq Bits _ _ = @Cert.UqIdeal.cc0_mm_uq Bits _ _ := by
  unfold Cert.Uq.cc0_mm_uq Cert.UqIdeal.cc0_mm_uq
  rfl

/-- so are the programs of their body labels, -/
theorem defs0_eq : Cert.Uq.defs₀ (F := Bits) = Cert.UqIdeal.defs₀ (F := Bits) := by
  refine congrArg Defs.onTc ?_
  funext l a
  match l, a with
  | 0, (t, s) =>
    exact
      congrFun (congrFun (congrFun (congrFun (congrFun (congrFun (congrFun body_eq _) _) _) _) _)
      _) _

/-- those of all labels, the pipeline's own included, -/
theorem defs_eq : Cert.Uq.defs (F := Bits) = Cert.UqIdeal.defs (F := Bits) :=
  congrArg (Pipeline.defs (Cert.Uq.pcfgs (F := Bits))) defs0_eq

/-- and their host functions. -/
theorem main_eq : Cert.Uq.main (F := Bits) = Cert.UqIdeal.main (F := Bits) := rfl

/-- So the one run serves both. -/
theorem frame : Cert.quiescent_Uq := fun m g _ =>
  (congrArg₂ (fun D B => θ_run D (onTc (τ := Cert.Uq.τ) B) ⟨m, fun _ => 0, g⟩ _)
    defs_eq main_eq).mpr (Cert.UqIdeal.Gen.frame (F := Bits) m g)

/-- The reference runs, its arguments unchanged. -/
theorem ref_frame : Cert.quiescent_RefUqIdeal := fun m g _ =>
  (θ_run Cert.RefUqIdeal.defs _ _).mono (fun r h => ⟨fun c => (h c).2, sem_eq_zero_of_no_sems (by decide) r.2⟩) (Cert.RefUqIdeal.Value.run m g)

end Cert.UqIdeal.Mm

end
-- ==== Proof.Ukv.lean ====
/- The product with the matrix that raises the keys' and values' latents to the heads. -/
module

public import proofs.«01_k».proof.Defs
public import proofs.«01_k».proof.Proof.Products
public import proofs.«01_k».proof.Proof.Gen.Ukv
public import proofs.«01_k».proof.Proof.Gen.UkvIdeal.Value
public import proofs.«01_k».proof.Proof.Gen.RefUkvIdeal.Run
public import Idealize.ShloMosaic.Lib.Pipeline.ValueKit
public import Idealize.ShloMosaic.Lib.Quiescent

@[expose] public section

noncomputable section

namespace Cert.UkvIdeal.Mm

open Idealize.ShloMosaic Idealize.ShloMosaic.TcCoe Idealize.SL Idealize.SL.Sem Gen Cert.Products
open Idealize.ShloMosaic.Pipeline (Dat)
open scoped BigOperators

/-- A block's product. -/
theorem out_at (x0 : Vec Ideal S1024x512 .bf16) (x1 : Vec Ideal S512x1024 .bf16) (p : Fin 1024) (q : Fin 1024) :
    out0_2 x0 x1 (ix2 p q) = ∑ r : Fin 512, at2 x0 p r * at2 x1 r q := by
  unfold out0_2
  rw [View.canon_unit_zero hz, View.ld_unit_zero (S := S1024x512) hz, View.ld_unit_zero (S := S512x1024) hz]
  simp only [at2_fin]
  pointwise [k0_pay1]

variable (m : (ℓ : Loc nD τ sig) → Buf (Elt Ideal) ℓ) (c : Dev nD)

theorem idx_0 : ∀ t : Fin cfg0.N, win0_0.index t = ![t.val / 4, 0] := by decide +kernel
theorem idx_1 : ∀ t : Fin cfg0.N, win0_1.index t = ![0, t.val % 4] := by decide +kernel
theorem idx_2 : ∀ t : Fin cfg0.N, win0_2.index t = ![t.val / 4, t.val % 4] := by decide +kernel

def arg0 : FVec Ideal S8192x512 .bf16 := m ((c.tc : Thread nD τ).loc main_arg0)
def arg1 : FVec Ideal S512x4096 .bf16 := m ((c.tc : Thread nD τ).loc main_arg1)

theorem blk_0 (t : Fin cfg0.N) (p : Fin 1024) (r : Fin 512) : at2 (iblk m c 0 t) p r = at2 (arg0 m c) (1024 * (t.val / 4) + p) r := by
  have ht : t.val < 32 := Nat.lt_of_lt_of_eq t.isLt N_0
  rw [at2_fin, at2_eq _ (by omega) (by omega)]
  have e : V m c main_arg0 = arg0 m c := V_main_arg0 m c
  rw [← e]
  blk_simp [iblk]
  refine congrArg (V m c main_arg0) ?_
  blk_ext [idx_0]

theorem blk_1 (t : Fin cfg0.N) (r : Fin 512) (q : Fin 1024) : at2 (iblk m c 1 t) r q = at2 (arg1 m c) r (1024 * (t.val % 4) + q) := by
  rw [at2_fin, at2_eq _ (by omega) (by omega)]
  have e : V m c main_arg1 = arg1 m c := V_main_arg1 m c
  rw [← e]
  blk_simp [iblk]
  refine congrArg (V m c main_arg1) ?_
  blk_ext [idx_1]

/-- The result array. -/
theorem final {G : FVec Ideal S8192x4096 .bf16} (hG : ∀ (i : Fin 8192) (j : Fin 4096), G (ix2 i j) = ∑ k : Fin 512, at2 (arg0 m c) i k * at2 (arg1 m c) k j) :
    (dats m 0 c).arrAt 2 cfg0.N = G := by
  refine (dats m 0 c).arrAt_eq_of_covers 2 _ (by decide +kernel) fun t hf y => ?_
  have ht : t.val < 32 := Nat.lt_of_lt_of_eq t.isLt N_0
  blk_simp
  rw [after0_2]
  obtain ⟨p, q, rfl⟩ : ∃ (p : Fin 1024) (q : Fin 1024), y = ix2 p q := ⟨y 0, y 1, eq_ix2 y⟩
  refine (out_at (iblk m c 0 t) (iblk m c 1 t) p q).trans
    (Eq.trans ?_ ((hG ⟨1024 * (t.val / 4) + p.val, by omega⟩ ⟨1024 * (t.val % 4) + q.val, by omega⟩).symm.trans (congrArg G ?_)))
  · simp only [blk_0, blk_1]
  · blk_ext [idx_2]

/-- The reference's result, entry by entry. -/
theorem ref_at (x : FVec Ideal S8192x512 .bf16) (y : FVec Ideal S512x4096 .bf16) (i : Fin 8192) (j : Fin 4096) :
    truncf .bf16 (Host.dotGeneral Cert.RefUkvIdeal.dot_S8192x512_S512x4096_S8192x4096_1_0_0_1_n_n none
      (extf .f32 x Cert.RefUkvIdeal.Gen.bitsLt_bf16_f32) (extf .f32 y Cert.RefUkvIdeal.Gen.bitsLt_bf16_f32)) Cert.RefUkvIdeal.Gen.bitsLt_bf16_f32 (ix2 i j)
    = ∑ k : Fin 512, at2 x i k * at2 y k j := by
  simp only [at2_fin]
  pointwise

/-- The value claim. -/
theorem value : Cert.algebraic_UkvIdeal_RefUkvIdeal := fun m g m' g' _ hargs => by
  refine ⟨_, Value.run_blocks m g, (θ_run Cert.RefUkvIdeal.defs _ _).mono (fun r h c => ?_) (Cert.RefUkvIdeal.Value.run m' g')⟩
  refine ⟨(h c).1.trans ?_, (h c).2⟩
  rw [(hargs c).1, (hargs c).2]
  exact (final m c (ref_at (arg0 m c) (arg1 m c))).symm

/-! ## The runs -/

/-- The printed program is its idealization: over the bits their bodies are equal, -/
theorem body_eq : @Cert.Ukv.cc0_mm_ukv Bits _ _ = @Cert.UkvIdeal.cc0_mm_ukv Bits _ _ := by
  unfold Cert.Ukv.cc0_mm_ukv Cert.UkvIdeal.cc0_mm_ukv
  rfl

/-- so are the programs of their body labels, -/
theorem defs0_eq : Cert.Ukv.defs₀ (F := Bits) = Cert.UkvIdeal.defs₀ (F := Bits) := by
  refine congrArg Defs.onTc ?_
  funext l a
  match l, a with
  | 0, (t, s) =>
    exact
      congrFun (congrFun (congrFun (congrFun (congrFun (congrFun (congrFun body_eq _) _) _) _) _)
      _) _

/-- those of all labels, the pipeline's own included, -/
theorem defs_eq : Cert.Ukv.defs (F := Bits) = Cert.UkvIdeal.defs (F := Bits) :=
  congrArg (Pipeline.defs (Cert.Ukv.pcfgs (F := Bits))) defs0_eq

/-- and their host functions. -/
theorem main_eq : Cert.Ukv.main (F := Bits) = Cert.UkvIdeal.main (F := Bits) := rfl

/-- So the one run serves both. -/
theorem frame : Cert.quiescent_Ukv := fun m g _ =>
  (congrArg₂ (fun D B => θ_run D (onTc (τ := Cert.Ukv.τ) B) ⟨m, fun _ => 0, g⟩ _)
    defs_eq main_eq).mpr (Cert.UkvIdeal.Gen.frame (F := Bits) m g)

/-- The reference runs, its arguments unchanged. -/
theorem ref_frame : Cert.quiescent_RefUkvIdeal := fun m g _ =>
  (θ_run Cert.RefUkvIdeal.defs _ _).mono (fun r h => ⟨fun c => (h c).2, sem_eq_zero_of_no_sems (by decide) r.2⟩) (Cert.RefUkvIdeal.Value.run m g)

end Cert.UkvIdeal.Mm

end
-- ==== Proof.BackUq.lean ====
/- The gradient of the queries' latents. -/
module

public import proofs.«01_k».proof.Defs
public import proofs.«01_k».proof.Proof.Products
public import proofs.«01_k».proof.Proof.Gen.BackUq
public import proofs.«01_k».proof.Proof.Gen.BackUqIdeal.Value
public import proofs.«01_k».proof.Proof.Gen.RefBackUqIdeal.Run
public import Idealize.ShloMosaic.Lib.Pipeline.ValueKit
public import Idealize.ShloMosaic.Lib.Quiescent

@[expose] public section

noncomputable section

namespace Cert.BackUqIdeal.Mm

open Idealize.ShloMosaic Idealize.ShloMosaic.TcCoe Idealize.SL Idealize.SL.Sem Gen Cert.Products
open Idealize.ShloMosaic.Pipeline (Dat)
open scoped BigOperators

/-! ## A block's product -/

theorem pay_at (x0 : Vec Ideal S1024x2048 .bf16) (x1 : Vec Ideal S512x2048 .bf16) (p : Fin 1024) (q : Fin 512) :
    k0_pay1 x0 x1 (ix2 p q) = ∑ r : Fin 2048, at2 x0 p r * at2 x1 q r := by
  simp only [at2_fin]
  pointwise [k0_pay1]

/-! ## The cases' values -/

section Cases
variable {F : FTy → Type} [FloatOps F]

theorem scr_A (c : Dev nD) (i : grid0.Coords) (a0 : Memref sig .tc .vmem S1024x2048 .bf16) (h0 : a0.IsWhole) (a1 : Memref sig .tc .vmem S512x2048 .bf16) (h1 : a1.IsWhole)
    (a2 : Memref sig .tc .vmem S1024x512 .f32) (h2 : a2.IsWhole) (a3 : Memref sig .tc .vmem S1024x512 .f32) (h3 : a3.IsWhole)
    (c0 : cond0_0 i) (c1 : ¬cond0_1 i) (c2 : ¬cond0_2 i) (x0 : Vec F S1024x2048 .bf16) (x1 : Vec F S512x2048 .bf16) :
    sout0_A_0 c i a0 h0 a1 h1 a2 h2 a3 h3 c0 c1 c2 x0 x1 = k0_pay1 x0 x1 := by
  unfold sout0_A_0
  rw [View.read_writes_eq_canon _ _ _ (scover0_A_0 c i a0 h0 a1 h1 a2 h2 a3 h3 c0 c1 c2 x0 x1)]
  unfold kernelRun0_A
  dsimp only
  sl_unfold_words
  rw [View.canon_unit_zero hz]
  unfold k0_pay2
  simp only [View.readAt_eq_ld, h0.read_unread, h1.read_unread, View.ld_unit_zero (S := S1024x2048) hz, View.ld_unit_zero (S := S512x2048) hz, shapeCast_self]

theorem scr_B (c : Dev nD) (i : grid0.Coords) (a0 : Memref sig .tc .vmem S1024x2048 .bf16) (h0 : a0.IsWhole) (a1 : Memref sig .tc .vmem S512x2048 .bf16) (h1 : a1.IsWhole)
    (a2 : Memref sig .tc .vmem S1024x512 .f32) (h2 : a2.IsWhole) (a3 : Memref sig .tc .vmem S1024x512 .f32) (h3 : a3.IsWhole)
    (c0 : ¬cond0_0 i) (c1 : cond0_1 i) (c2 : cond0_2 i) (x0 : Vec F S1024x2048 .bf16) (x1 : Vec F S512x2048 .bf16) (xs : Vec F S1024x512 .f32) :
    sout0_B_0 c i a0 h0 a1 h1 a2 h2 a3 h3 c0 c1 c2 x0 x1 xs = addf xs (k0_pay1 x0 x1) := by
  unfold sout0_B_0
  rw [View.read_writes_eq_canon _ _ _ (scover0_B_0 c i a0 h0 a1 h1 a2 h2 a3 h3 c0 c1 c2 x0 x1 xs)]
  unfold kernelRun0_B
  dsimp only
  sl_unfold_words
  rw [View.canon_unit_zero hz]
  unfold k0_pay3
  simp only [View.readAt_eq_ld, h0.read_unread, h1.read_unread, h3.read_unread, View.ld_unit_zero (S := S1024x2048) hz, View.ld_unit_zero (S := S512x2048) hz,
    View.ld_unit_zero (S := S1024x512) hz, shapeCast_self]

theorem out_B (c : Dev nD) (i : grid0.Coords) (a0 : Memref sig .tc .vmem S1024x2048 .bf16) (h0 : a0.IsWhole) (a1 : Memref sig .tc .vmem S512x2048 .bf16) (h1 : a1.IsWhole)
    (a2 : Memref sig .tc .vmem S1024x512 .f32) (h2 : a2.IsWhole) (a3 : Memref sig .tc .vmem S1024x512 .f32) (h3 : a3.IsWhole)
    (c0 : ¬cond0_0 i) (c1 : cond0_1 i) (c2 : cond0_2 i) (x0 : Vec F S1024x2048 .bf16) (x1 : Vec F S512x2048 .bf16) (xs : Vec F S1024x512 .f32) :
    out0_B_2 c i a0 h0 a1 h1 a2 h2 a3 h3 c0 c1 c2 x0 x1 xs = sout0_B_0 c i a0 h0 a1 h1 a2 h2 a3 h3 c0 c1 c2 x0 x1 xs := by
  rw [scr_B]
  unfold out0_B_2
  rw [View.read_writes_eq_canon _ _ _ (cover0_B_2 c i a0 h0 a1 h1 a2 h2 a3 h3 c0 c1 c2 x0 x1 xs)]
  unfold kernelRun0_B
  dsimp only
  sl_unfold_words
  rw [View.canon_unit_zero hz, View.readCov_unit_zero (S := S1024x512) _ hz]
  unfold k0_pay3
  simp only [View.readAt_eq_ld, h0.read_unread, h1.read_unread, h3.read_unread, View.ld_unit_zero (S := S1024x2048) hz, View.ld_unit_zero (S := S512x2048) hz,
    View.ld_unit_zero (S := S1024x512) hz, shapeCast_self]

end Cases

/-! ## The blocks -/

variable (m : (ℓ : Loc nD τ sig) → Buf (Elt Ideal) ℓ) (c : Dev nD)

theorem idx_0 : ∀ t : Fin cfg0.N, win0_0.index t = ![t.val / 2, t.val % 2] := by decide +kernel
theorem idx_1 : ∀ t : Fin cfg0.N, win0_1.index t = ![0, t.val % 2] := by decide +kernel
theorem idx_2 : ∀ t : Fin cfg0.N, win0_2.index t = ![t.val / 2, 0] := by decide +kernel

def arg0 : FVec Ideal S8192x4096 .bf16 := m ((c.tc : Thread nD τ).loc main_arg0)
def arg1 : FVec Ideal S512x4096 .bf16 := m ((c.tc : Thread nD τ).loc main_arg1)

theorem blk_0 (t : Fin cfg0.N) (p : Fin 1024) (r : Fin 2048) : at2 (iblk m c 0 t) p r = at2 (arg0 m c) (1024 * (t.val / 2) + p) (2048 * (t.val % 2) + r) := by
  have ht : t.val < 16 := Nat.lt_of_lt_of_eq t.isLt N_0
  rw [at2_fin, at2_eq _ (by omega) (by omega)]
  have e : V m c main_arg0 = arg0 m c := V_main_arg0 m c
  rw [← e]
  blk_simp [iblk]
  refine congrArg (V m c main_arg0) ?_
  blk_ext [idx_0]

theorem blk_1 (t : Fin cfg0.N) (q : Fin 512) (r : Fin 2048) : at2 (iblk m c 1 t) q r = at2 (arg1 m c) q (2048 * (t.val % 2) + r) := by
  have ht : t.val < 16 := Nat.lt_of_lt_of_eq t.isLt N_0
  rw [at2_fin, at2_eq _ (by omega) (by omega)]
  have e : V m c main_arg1 = arg1 m c := V_main_arg1 m c
  rw [← e]
  blk_simp [iblk]
  refine congrArg (V m c main_arg1) ?_
  blk_ext [idx_1]

/-- The addends of the entry at place `p`, `q` of the result's block `b`. -/
def term (p q b k : ℕ) : EReal := at2 (arg0 m c) (1024 * b + p) k * at2 (arg1 m c) q k

theorem point (t : Fin cfg0.N) (p : Fin 1024) (q : Fin 512) :
    k0_pay1 (iblk m c 0 t) (iblk m c 1 t) (ix2 p q) = ∑ r : Fin 2048, term m c p q (t.val / 2) (2048 * (t.val % 2) + r) := by
  refine (pay_at (iblk m c 0 t) (iblk m c 1 t) p q).trans (Finset.sum_congr rfl fun r _ => ?_)
  rw [blk_0, blk_1, term]

/-- The scratch after every point. -/
theorem scr (p : Fin 1024) (q : Fin 512) (n : ℕ) (h : n < cfg0.N) :
    (outsAt0 m c n h).2 (ix2 p q) = ∑ k ∈ Finset.range (2048 * (n % 2 + 1)), term m c p q (n / 2) k := by
  refine blocks_sum (by decide) (fun n h => (outsAt0 m c n h).2 (ix2 p q)) (term m c p q) (fun n h h0 => ?_) (fun n h h0 => ?_) n h
  · rw [outsAt0_A m c ⟨n, h⟩ h0 (by dsimp only; omega) (by dsimp only; omega)]
    dsimp only
    rw [scr_A]
    exact point m c ⟨n, h⟩ p q
  · rw [← point m c ⟨n, h⟩ p q]
    rw [outsAt0_B m c ⟨n, h⟩ h0 (by dsimp only; omega) (by dsimp only; omega)]
    dsimp only
    rw [scr_B]
    rfl

/-- The result array. -/
theorem final {G : FVec Ideal S8192x512 .f32} (hG : ∀ (i : Fin 8192) (j : Fin 512), G (ix2 i j) = ∑ k : Fin 4096, at2 (arg0 m c) i k * at2 (arg1 m c) j k) :
    (dats m 0 c).arrAt 2 cfg0.N = G := by
  refine (dats m 0 c).arrAt_eq_of_covers 2 _ (by decide +kernel) fun t hf y => ?_
  have ht : t.val < 16 := Nat.lt_of_lt_of_eq t.isLt N_0
  have h3 : t.val % 2 = 1 := (flush0_2 t).mp hf
  have e : (outsAt0 m c t.val t.isLt).1 = (outsAt0 m c t.val t.isLt).2 := by
    rw [outsAt0_B m c t (by omega) h3 h3]
    dsimp only
    rw [out_B]
  blk_simp
  rw [after0_2, e]
  obtain ⟨p, q, rfl⟩ : ∃ (p : Fin 1024) (q : Fin 512), y = ix2 p q := ⟨y 0, y 1, eq_ix2 y⟩
  refine (scr m c p q t.val t.isLt).trans (Eq.trans ?_ ((hG ⟨1024 * (t.val / 2) + p.val, by omega⟩ q).symm.trans (congrArg G ?_)))
  · rw [h3, Finset.sum_range]
    simp only [term]
  · blk_ext [idx_2]

/-! ## The reference -/

/-- The reference's result, entry by entry. -/
theorem ref_at (x : FVec Ideal S8192x4096 .bf16) (y : FVec Ideal S512x4096 .bf16) (i : Fin 8192) (j : Fin 512) :
    Host.dotGeneral Cert.RefBackUqIdeal.dot_S8192x4096_S512x4096_S8192x512_1_1_0_0_n_n none
      (extf .f32 x Cert.RefBackUqIdeal.Gen.bitsLt_bf16_f32) (extf .f32 y Cert.RefBackUqIdeal.Gen.bitsLt_bf16_f32) (ix2 i j)
    = ∑ k : Fin 4096, at2 x i k * at2 y j k := by
  simp only [at2_fin]
  pointwise

/-- The value claim. -/
theorem value : Cert.algebraic_BackUqIdeal_RefBackUqIdeal := fun m g m' g' _ hargs => by
  refine ⟨_, Value.run_blocks m g, (θ_run Cert.RefBackUqIdeal.defs _ _).mono (fun r h c => ?_) (Cert.RefBackUqIdeal.Value.run m' g')⟩
  refine ⟨(h c).1.trans ?_, (h c).2⟩
  rw [(hargs c).1, (hargs c).2]
  exact (final m c (ref_at (arg0 m c) (arg1 m c))).symm

/-! ## The runs -/

/-- The printed program is its idealization: over the bits their bodies are equal, -/
theorem body_eq : @Cert.BackUq.cc0_mmb_uq Bits _ _ = @Cert.BackUqIdeal.cc0_mmb_uq Bits _ _ := by
  unfold Cert.BackUq.cc0_mmb_uq Cert.BackUqIdeal.cc0_mmb_uq
  rfl

/-- so are the programs of their body labels, -/
theorem defs0_eq : Cert.BackUq.defs₀ (F := Bits) = Cert.BackUqIdeal.defs₀ (F := Bits) := by
  refine congrArg Defs.onTc ?_
  funext l a
  match l, a with
  | 0, (t, s) =>
    exact
      congrFun (congrFun (congrFun (congrFun (congrFun (congrFun (congrFun (congrFun (congrFun
      body_eq _) _) _) _) _) _) _) _) _

/-- those of all labels, the pipeline's own included, -/
theorem defs_eq : Cert.BackUq.defs (F := Bits) = Cert.BackUqIdeal.defs (F := Bits) :=
  congrArg (Pipeline.defs (Cert.BackUq.pcfgs (F := Bits))) defs0_eq

/-- and their host functions. -/
theorem main_eq : Cert.BackUq.main (F := Bits) = Cert.BackUqIdeal.main (F := Bits) := rfl

/-- So the one run serves both. -/
theorem frame : Cert.quiescent_BackUq := fun m g _ =>
  (congrArg₂ (fun D B => θ_run D (onTc (τ := Cert.BackUq.τ) B) ⟨m, fun _ => 0, g⟩ _)
    defs_eq main_eq).mpr (Cert.BackUqIdeal.Gen.frame (F := Bits) m g)

/-- The reference runs, its arguments unchanged. -/
theorem ref_frame : Cert.quiescent_RefBackUqIdeal := fun m g _ =>
  (θ_run Cert.RefBackUqIdeal.defs _ _).mono (fun r h => ⟨fun c => (h c).2, sem_eq_zero_of_no_sems (by decide) r.2⟩) (Cert.RefBackUqIdeal.Value.run m g)

end Cert.BackUqIdeal.Mm

end
-- ==== Proof.GradUq.lean ====
/- The gradient of a matrix that raises latents to the heads (the queries', and the keys' and values'): the kernel's result is the
   reference's. -/
module

public import proofs.«01_k».proof.Defs
public import proofs.«01_k».proof.Proof.Products
public import proofs.«01_k».proof.Proof.Gen.GradUq
public import proofs.«01_k».proof.Proof.Gen.GradUqIdeal.Value
public import proofs.«01_k».proof.Proof.Gen.RefGradUqIdeal.Run
public import Idealize.ShloMosaic.Lib.Pipeline.ValueKit
public import Idealize.ShloMosaic.Lib.Quiescent

@[expose] public section

noncomputable section

namespace Cert.GradUqIdeal.Grad

open Idealize.ShloMosaic Idealize.ShloMosaic.TcCoe Idealize.SL Idealize.SL.Sem Gen Cert.Products
open Idealize.ShloMosaic.Pipeline (Dat)
open scoped BigOperators

/-! ## A block's product -/

theorem pay_at (x0 : Vec Ideal S2048x512 .bf16) (x1 : Vec Ideal S2048x1024 .bf16) (p : Fin 512) (q : Fin 1024) :
    k0_pay1 x0 x1 (ix2 p q) = ∑ r : Fin 2048, at2 x0 r p * at2 x1 r q := by
  simp only [at2_fin]
  pointwise [k0_pay1]

/-! ## The cases' values -/

section Cases
variable {F : FTy → Type} [FloatOps F]

theorem scr_A (c : Dev nD) (i : grid0.Coords) (a0 : Memref sig .tc .vmem S2048x512 .bf16) (h0 : a0.IsWhole) (a1 : Memref sig .tc .vmem S2048x1024 .bf16) (h1 : a1.IsWhole)
    (a2 : Memref sig .tc .vmem S512x1024 .f32) (h2 : a2.IsWhole) (a3 : Memref sig .tc .vmem S512x1024 .f32) (h3 : a3.IsWhole)
    (c0 : cond0_0 i) (c1 : ¬cond0_1 i) (c2 : ¬cond0_2 i) (x0 : Vec F S2048x512 .bf16) (x1 : Vec F S2048x1024 .bf16) :
    sout0_A_0 c i a0 h0 a1 h1 a2 h2 a3 h3 c0 c1 c2 x0 x1 = k0_pay1 x0 x1 := by
  unfold sout0_A_0
  rw [View.read_writes_eq_canon _ _ _ (scover0_A_0 c i a0 h0 a1 h1 a2 h2 a3 h3 c0 c1 c2 x0 x1)]
  unfold kernelRun0_A
  dsimp only
  sl_unfold_words
  rw [View.canon_unit_zero hz]
  unfold k0_pay2
  simp only [View.readAt_eq_ld, h0.read_unread, h1.read_unread, View.ld_unit_zero (S := S2048x512) hz, View.ld_unit_zero (S := S2048x1024) hz, shapeCast_self]

theorem scr_B (c : Dev nD) (i : grid0.Coords) (a0 : Memref sig .tc .vmem S2048x512 .bf16) (h0 : a0.IsWhole) (a1 : Memref sig .tc .vmem S2048x1024 .bf16) (h1 : a1.IsWhole)
    (a2 : Memref sig .tc .vmem S512x1024 .f32) (h2 : a2.IsWhole) (a3 : Memref sig .tc .vmem S512x1024 .f32) (h3 : a3.IsWhole)
    (c0 : ¬cond0_0 i) (c1 : cond0_1 i) (c2 : ¬cond0_2 i) (x0 : Vec F S2048x512 .bf16) (x1 : Vec F S2048x1024 .bf16) (xs : Vec F S512x1024 .f32) :
    sout0_B_0 c i a0 h0 a1 h1 a2 h2 a3 h3 c0 c1 c2 x0 x1 xs = addf xs (k0_pay1 x0 x1) := by
  unfold sout0_B_0
  rw [View.read_writes_eq_canon _ _ _ (scover0_B_0 c i a0 h0 a1 h1 a2 h2 a3 h3 c0 c1 c2 x0 x1 xs)]
  unfold kernelRun0_B
  dsimp only
  sl_unfold_words
  rw [View.canon_unit_zero hz]
  unfold k0_pay3
  simp only [View.readAt_eq_ld, h0.read_unread, h1.read_unread, h3.read_unread, View.ld_unit_zero (S := S2048x512) hz, View.ld_unit_zero (S := S2048x1024) hz,
    View.ld_unit_zero (S := S512x1024) hz, shapeCast_self]

theorem scr_C (c : Dev nD) (i : grid0.Coords) (a0 : Memref sig .tc .vmem S2048x512 .bf16) (h0 : a0.IsWhole) (a1 : Memref sig .tc .vmem S2048x1024 .bf16) (h1 : a1.IsWhole)
    (a2 : Memref sig .tc .vmem S512x1024 .f32) (h2 : a2.IsWhole) (a3 : Memref sig .tc .vmem S512x1024 .f32) (h3 : a3.IsWhole)
    (c0 : ¬cond0_0 i) (c1 : cond0_1 i) (c2 : cond0_2 i) (x0 : Vec F S2048x512 .bf16) (x1 : Vec F S2048x1024 .bf16) (xs : Vec F S512x1024 .f32) :
    sout0_C_0 c i a0 h0 a1 h1 a2 h2 a3 h3 c0 c1 c2 x0 x1 xs = addf xs (k0_pay1 x0 x1) := by
  unfold sout0_C_0
  rw [View.read_writes_eq_canon _ _ _ (scover0_C_0 c i a0 h0 a1 h1 a2 h2 a3 h3 c0 c1 c2 x0 x1 xs)]
  unfold kernelRun0_C
  dsimp only
  sl_unfold_words
  rw [View.canon_unit_zero hz]
  unfold k0_pay3
  simp only [View.readAt_eq_ld, h0.read_unread, h1.read_unread, h3.read_unread, View.ld_unit_zero (S := S2048x512) hz, View.ld_unit_zero (S := S2048x1024) hz,
    View.ld_unit_zero (S := S512x1024) hz, shapeCast_self]

theorem out_C (c : Dev nD) (i : grid0.Coords) (a0 : Memref sig .tc .vmem S2048x512 .bf16) (h0 : a0.IsWhole) (a1 : Memref sig .tc .vmem S2048x1024 .bf16) (h1 : a1.IsWhole)
    (a2 : Memref sig .tc .vmem S512x1024 .f32) (h2 : a2.IsWhole) (a3 : Memref sig .tc .vmem S512x1024 .f32) (h3 : a3.IsWhole)
    (c0 : ¬cond0_0 i) (c1 : cond0_1 i) (c2 : cond0_2 i) (x0 : Vec F S2048x512 .bf16) (x1 : Vec F S2048x1024 .bf16) (xs : Vec F S512x1024 .f32) :
    out0_C_2 c i a0 h0 a1 h1 a2 h2 a3 h3 c0 c1 c2 x0 x1 xs = sout0_C_0 c i a0 h0 a1 h1 a2 h2 a3 h3 c0 c1 c2 x0 x1 xs := by
  rw [scr_C]
  unfold out0_C_2
  rw [View.read_writes_eq_canon _ _ _ (cover0_C_2 c i a0 h0 a1 h1 a2 h2 a3 h3 c0 c1 c2 x0 x1 xs)]
  unfold kernelRun0_C
  dsimp only
  sl_unfold_words
  rw [View.canon_unit_zero hz, View.readCov_unit_zero (S := S512x1024) _ hz]
  unfold k0_pay3
  simp only [View.readAt_eq_ld, h0.read_unread, h1.read_unread, h3.read_unread, View.ld_unit_zero (S := S2048x512) hz, View.ld_unit_zero (S := S2048x1024) hz,
    View.ld_unit_zero (S := S512x1024) hz, shapeCast_self]

end Cases

/-! ## The blocks -/

variable (m : (ℓ : Loc nD τ sig) → Buf (Elt Ideal) ℓ) (c : Dev nD)

theorem idx_0 : ∀ t : Fin cfg0.N, win0_0.index t = ![t.val % 4, 0] := by decide +kernel
theorem idx_1 : ∀ t : Fin cfg0.N, win0_1.index t = ![t.val % 4, t.val / 4] := by decide +kernel
theorem idx_2 : ∀ t : Fin cfg0.N, win0_2.index t = ![0, t.val / 4] := by decide +kernel

def arg0 : FVec Ideal S8192x512 .bf16 := m ((c.tc : Thread nD τ).loc main_arg0)
def arg1 : FVec Ideal S8192x4096 .bf16 := m ((c.tc : Thread nD τ).loc main_arg1)

theorem blk_0 (t : Fin cfg0.N) (r : Fin 2048) (p : Fin 512) : at2 (iblk m c 0 t) r p = at2 (arg0 m c) (2048 * (t.val % 4) + r) p := by
  have ht : t.val < 16 := Nat.lt_of_lt_of_eq t.isLt N_0
  rw [at2_fin, at2_eq _ (by omega) (by omega)]
  have e : V m c main_arg0 = arg0 m c := V_main_arg0 m c
  rw [← e]
  blk_simp [iblk]
  refine congrArg (V m c main_arg0) ?_
  blk_ext [idx_0]

theorem blk_1 (t : Fin cfg0.N) (r : Fin 2048) (q : Fin 1024) : at2 (iblk m c 1 t) r q = at2 (arg1 m c) (2048 * (t.val % 4) + r) (1024 * (t.val / 4) + q) := by
  have ht : t.val < 16 := Nat.lt_of_lt_of_eq t.isLt N_0
  rw [at2_fin, at2_eq _ (by omega) (by omega)]
  have e : V m c main_arg1 = arg1 m c := V_main_arg1 m c
  rw [← e]
  blk_simp [iblk]
  refine congrArg (V m c main_arg1) ?_
  blk_ext [idx_1]

/-- The addends of the entry at place `p`, `q` of the result's block `b`. -/
def term (p q b k : ℕ) : EReal := at2 (arg0 m c) k p * at2 (arg1 m c) k (1024 * b + q)

theorem point (t : Fin cfg0.N) (p : Fin 512) (q : Fin 1024) :
    k0_pay1 (iblk m c 0 t) (iblk m c 1 t) (ix2 p q) = ∑ r : Fin 2048, term m c p q (t.val / 4) (2048 * (t.val % 4) + r) := by
  refine (pay_at (iblk m c 0 t) (iblk m c 1 t) p q).trans (Finset.sum_congr rfl fun r _ => ?_)
  rw [blk_0, blk_1, term]

/-- The scratch after every point. -/
theorem scr (p : Fin 512) (q : Fin 1024) (n : ℕ) (h : n < cfg0.N) :
    (outsAt0 m c n h).2 (ix2 p q) = ∑ k ∈ Finset.range (2048 * (n % 4 + 1)), term m c p q (n / 4) k := by
  refine blocks_sum (by decide) (fun n h => (outsAt0 m c n h).2 (ix2 p q)) (term m c p q) (fun n h h0 => ?_) (fun n h h0 => ?_) n h
  · rw [outsAt0_A m c ⟨n, h⟩ h0 (by dsimp only; omega) (by dsimp only; omega)]
    dsimp only
    rw [scr_A]
    exact point m c ⟨n, h⟩ p q
  · rw [← point m c ⟨n, h⟩ p q]
    by_cases h2 : n % 4 = 3
    · rw [outsAt0_C m c ⟨n, h⟩ h0 (by dsimp only; omega) h2]
      dsimp only
      rw [scr_C]
      rfl
    · rw [outsAt0_B m c ⟨n, h⟩ h0 (by dsimp only; omega) h2]
      dsimp only
      rw [scr_B]
      rfl

/-- The result array. -/
theorem final {G : FVec Ideal S512x4096 .f32} (hG : ∀ (i : Fin 512) (j : Fin 4096), G (ix2 i j) = ∑ k : Fin 8192, at2 (arg0 m c) k i * at2 (arg1 m c) k j) :
    (dats m 0 c).arrAt 2 cfg0.N = G := by
  refine (dats m 0 c).arrAt_eq_of_covers 2 _ (by decide +kernel) fun t hf y => ?_
  have ht : t.val < 16 := Nat.lt_of_lt_of_eq t.isLt N_0
  have h3 : t.val % 4 = 3 := (flush0_2 t).mp hf
  have e : (outsAt0 m c t.val t.isLt).1 = (outsAt0 m c t.val t.isLt).2 := by
    rw [outsAt0_C m c t (by omega) (by omega) h3]
    dsimp only
    rw [out_C]
  blk_simp
  rw [after0_2, e]
  obtain ⟨p, q, rfl⟩ : ∃ (p : Fin 512) (q : Fin 1024), y = ix2 p q := ⟨y 0, y 1, eq_ix2 y⟩
  refine (scr m c p q t.val t.isLt).trans (Eq.trans ?_ ((hG p ⟨1024 * (t.val / 4) + q.val, by omega⟩).symm.trans (congrArg G ?_)))
  · rw [h3, Finset.sum_range]
    simp only [term]
  · blk_ext [idx_2]

/-! ## The reference -/

/-- The reference's result, entry by entry. -/
theorem ref_at (x : FVec Ideal S8192x512 .bf16) (y : FVec Ideal S8192x4096 .bf16) (i : Fin 512) (j : Fin 4096) :
    transpose Cert.RefGradUqIdeal.S512x4096 [1, 0] (Host.dotGeneral Cert.RefGradUqIdeal.dot_S8192x4096_S8192x512_S4096x512_0_0_1_1_n_n none
      (extf .f32 y Cert.RefGradUqIdeal.Gen.bitsLt_bf16_f32) (extf .f32 x Cert.RefGradUqIdeal.Gen.bitsLt_bf16_f32)) Cert.RefGradUqIdeal.Gen.transposes_S4096x512_S512x4096_1_0 (ix2 i j)
    = ∑ k : Fin 8192, at2 x k i * at2 y k j := by
  simp only [at2_fin]
  pointwise
  exact Finset.sum_congr rfl fun k _ => mul_comm _ _

/-- The value claim. -/
theorem value : Cert.algebraic_GradUqIdeal_RefGradUqIdeal := fun m g m' g' _ hargs => by
  refine ⟨_, Value.run_blocks m g, (θ_run Cert.RefGradUqIdeal.defs _ _).mono (fun r h c => ?_) (Cert.RefGradUqIdeal.Value.run m' g')⟩
  refine ⟨(h c).1.trans ?_, (h c).2⟩
  rw [(hargs c).1, (hargs c).2]
  exact (final m c (ref_at (arg0 m c) (arg1 m c))).symm

/-! ## The runs -/

/-- The printed program is its idealization: over the bits their bodies are equal, -/
theorem body_eq : @Cert.GradUq.cc0_mmg_uq Bits _ _ = @Cert.GradUqIdeal.cc0_mmg_uq Bits _ _ := by
  unfold Cert.GradUq.cc0_mmg_uq Cert.GradUqIdeal.cc0_mmg_uq
  rfl

/-- so are the programs of their body labels, -/
theorem defs0_eq : Cert.GradUq.defs₀ (F := Bits) = Cert.GradUqIdeal.defs₀ (F := Bits) := by
  refine congrArg Defs.onTc ?_
  funext l a
  match l, a with
  | 0, (t, s) =>
    exact
      congrFun (congrFun (congrFun (congrFun (congrFun (congrFun (congrFun (congrFun (congrFun
      body_eq _) _) _) _) _) _) _) _) _

/-- those of all labels, the pipeline's own included, -/
theorem defs_eq : Cert.GradUq.defs (F := Bits) = Cert.GradUqIdeal.defs (F := Bits) :=
  congrArg (Pipeline.defs (Cert.GradUq.pcfgs (F := Bits))) defs0_eq

/-- and their host functions. -/
theorem main_eq : Cert.GradUq.main (F := Bits) = Cert.GradUqIdeal.main (F := Bits) := rfl

/-- So the one run serves both. -/
theorem frame : Cert.quiescent_GradUq := fun m g _ =>
  (congrArg₂ (fun D B => θ_run D (onTc (τ := Cert.GradUq.τ) B) ⟨m, fun _ => 0, g⟩ _)
    defs_eq main_eq).mpr (Cert.GradUqIdeal.Gen.frame (F := Bits) m g)

/-- The reference runs, its arguments unchanged. -/
theorem ref_frame : Cert.quiescent_RefGradUqIdeal := fun m g _ =>
  (θ_run Cert.RefGradUqIdeal.defs _ _).mono (fun r h => ⟨fun c => (h c).2, sem_eq_zero_of_no_sems (by decide) r.2⟩) (Cert.RefGradUqIdeal.Value.run m g)

end Cert.GradUqIdeal.Grad

end
-- ==== Proof.GradQkv.lean ====
/- The gradient of the columns that give the latents of the queries, keys and values: the kernel's result is the reference's. -/
module

public import proofs.«01_k».proof.Defs
public import proofs.«01_k».proof.Proof.Products
public import proofs.«01_k».proof.Proof.Gen.GradQkv
public import proofs.«01_k».proof.Proof.Gen.GradQkvIdeal.Value
public import proofs.«01_k».proof.Proof.Gen.RefGradQkvIdeal.Run
public import Idealize.ShloMosaic.Lib.Pipeline.ValueKit
public import Idealize.ShloMosaic.Lib.Quiescent

@[expose] public section

noncomputable section

namespace Cert.GradQkvIdeal.Grad

open Idealize.ShloMosaic Idealize.ShloMosaic.TcCoe Idealize.SL Idealize.SL.Sem Gen Cert.Products
open Idealize.ShloMosaic.Pipeline (Dat)
open scoped BigOperators

/-! ## A block's product -/

theorem pay_at (x0 : Vec Ideal S2048x1024 .bf16) (x1 : Vec Ideal S2048x1024 .bf16) (p : Fin 1024) (q : Fin 1024) :
    k0_pay1 x0 x1 (ix2 p q) = ∑ r : Fin 2048, at2 x0 r p * at2 x1 r q := by
  simp only [at2_fin]
  pointwise [k0_pay1]

/-! ## The cases' values -/

section Cases
variable {F : FTy → Type} [FloatOps F]

theorem scr_A (c : Dev nD) (i : grid0.Coords) (a0 : Memref sig .tc .vmem S2048x1024 .bf16) (h0 : a0.IsWhole) (a1 : Memref sig .tc .vmem S2048x1024 .bf16) (h1 : a1.IsWhole)
    (a2 : Memref sig .tc .vmem S1024x1024 .f32) (h2 : a2.IsWhole) (a3 : Memref sig .tc .vmem S1024x1024 .f32) (h3 : a3.IsWhole)
    (c0 : cond0_0 i) (c1 : ¬cond0_1 i) (c2 : ¬cond0_2 i) (x0 : Vec F S2048x1024 .bf16) (x1 : Vec F S2048x1024 .bf16) :
    sout0_A_0 c i a0 h0 a1 h1 a2 h2 a3 h3 c0 c1 c2 x0 x1 = k0_pay1 x0 x1 := by
  unfold sout0_A_0
  rw [View.read_writes_eq_canon _ _ _ (scover0_A_0 c i a0 h0 a1 h1 a2 h2 a3 h3 c0 c1 c2 x0 x1)]
  unfold kernelRun0_A
  dsimp only
  sl_unfold_words
  rw [View.canon_unit_zero hz]
  unfold k0_pay2
  simp only [View.readAt_eq_ld, h0.read_unread, h1.read_unread, View.ld_unit_zero (S := S2048x1024) hz, shapeCast_self]

theorem scr_B (c : Dev nD) (i : grid0.Coords) (a0 : Memref sig .tc .vmem S2048x1024 .bf16) (h0 : a0.IsWhole) (a1 : Memref sig .tc .vmem S2048x1024 .bf16) (h1 : a1.IsWhole)
    (a2 : Memref sig .tc .vmem S1024x1024 .f32) (h2 : a2.IsWhole) (a3 : Memref sig .tc .vmem S1024x1024 .f32) (h3 : a3.IsWhole)
    (c0 : ¬cond0_0 i) (c1 : cond0_1 i) (c2 : ¬cond0_2 i) (x0 : Vec F S2048x1024 .bf16) (x1 : Vec F S2048x1024 .bf16) (xs : Vec F S1024x1024 .f32) :
    sout0_B_0 c i a0 h0 a1 h1 a2 h2 a3 h3 c0 c1 c2 x0 x1 xs = addf xs (k0_pay1 x0 x1) := by
  unfold sout0_B_0
  rw [View.read_writes_eq_canon _ _ _ (scover0_B_0 c i a0 h0 a1 h1 a2 h2 a3 h3 c0 c1 c2 x0 x1 xs)]
  unfold kernelRun0_B
  dsimp only
  sl_unfold_words
  rw [View.canon_unit_zero hz]
  unfold k0_pay3
  simp only [View.readAt_eq_ld, h0.read_unread, h1.read_unread, h3.read_unread, View.ld_unit_zero (S := S2048x1024) hz,
    View.ld_unit_zero (S := S1024x1024) hz, shapeCast_self]

theorem scr_C (c : Dev nD) (i : grid0.Coords) (a0 : Memref sig .tc .vmem S2048x1024 .bf16) (h0 : a0.IsWhole) (a1 : Memref sig .tc .vmem S2048x1024 .bf16) (h1 : a1.IsWhole)
    (a2 : Memref sig .tc .vmem S1024x1024 .f32) (h2 : a2.IsWhole) (a3 : Memref sig .tc .vmem S1024x1024 .f32) (h3 : a3.IsWhole)
    (c0 : ¬cond0_0 i) (c1 : cond0_1 i) (c2 : cond0_2 i) (x0 : Vec F S2048x1024 .bf16) (x1 : Vec F S2048x1024 .bf16) (xs : Vec F S1024x1024 .f32) :
    sout0_C_0 c i a0 h0 a1 h1 a2 h2 a3 h3 c0 c1 c2 x0 x1 xs = addf xs (k0_pay1 x0 x1) := by
  unfold sout0_C_0
  rw [View.read_writes_eq_canon _ _ _ (scover0_C_0 c i a0 h0 a1 h1 a2 h2 a3 h3 c0 c1 c2 x0 x1 xs)]
  unfold kernelRun0_C
  dsimp only
  sl_unfold_words
  rw [View.canon_unit_zero hz]
  unfold k0_pay3
  simp only [View.readAt_eq_ld, h0.read_unread, h1.read_unread, h3.read_unread, View.ld_unit_zero (S := S2048x1024) hz,
    View.ld_unit_zero (S := S1024x1024) hz, shapeCast_self]

theorem out_C (c : Dev nD) (i : grid0.Coords) (a0 : Memref sig .tc .vmem S2048x1024 .bf16) (h0 : a0.IsWhole) (a1 : Memref sig .tc .vmem S2048x1024 .bf16) (h1 : a1.IsWhole)
    (a2 : Memref sig .tc .vmem S1024x1024 .f32) (h2 : a2.IsWhole) (a3 : Memref sig .tc .vmem S1024x1024 .f32) (h3 : a3.IsWhole)
    (c0 : ¬cond0_0 i) (c1 : cond0_1 i) (c2 : cond0_2 i) (x0 : Vec F S2048x1024 .bf16) (x1 : Vec F S2048x1024 .bf16) (xs : Vec F S1024x1024 .f32) :
    out0_C_2 c i a0 h0 a1 h1 a2 h2 a3 h3 c0 c1 c2 x0 x1 xs = sout0_C_0 c i a0 h0 a1 h1 a2 h2 a3 h3 c0 c1 c2 x0 x1 xs := by
  rw [scr_C]
  unfold out0_C_2
  rw [View.read_writes_eq_canon _ _ _ (cover0_C_2 c i a0 h0 a1 h1 a2 h2 a3 h3 c0 c1 c2 x0 x1 xs)]
  unfold kernelRun0_C
  dsimp only
  sl_unfold_words
  rw [View.canon_unit_zero hz, View.readCov_unit_zero (S := S1024x1024) _ hz]
  unfold k0_pay3
  simp only [View.readAt_eq_ld, h0.read_unread, h1.read_unread, h3.read_unread, View.ld_unit_zero (S := S2048x1024) hz,
    View.ld_unit_zero (S := S1024x1024) hz, shapeCast_self]

end Cases

/-! ## The blocks -/

variable (m : (ℓ : Loc nD τ sig) → Buf (Elt Ideal) ℓ) (c : Dev nD)

theorem idx_0 : ∀ t : Fin cfg0.N, win0_0.index t = ![t.val % 4, t.val / 4] := by decide +kernel
theorem idx_1 : ∀ t : Fin cfg0.N, win0_1.index t = ![t.val % 4, 0] := by decide +kernel
theorem idx_2 : ∀ t : Fin cfg0.N, win0_2.index t = ![t.val / 4, 0] := by decide +kernel

def arg0 : FVec Ideal S8192x2048 .bf16 := m ((c.tc : Thread nD τ).loc main_arg0)
def arg1 : FVec Ideal S8192x1024 .bf16 := m ((c.tc : Thread nD τ).loc main_arg1)

theorem blk_0 (t : Fin cfg0.N) (r : Fin 2048) (p : Fin 1024) : at2 (iblk m c 0 t) r p = at2 (arg0 m c) (2048 * (t.val % 4) + r) (1024 * (t.val / 4) + p) := by
  have ht : t.val < 8 := Nat.lt_of_lt_of_eq t.isLt N_0
  rw [at2_fin, at2_eq _ (by omega) (by omega)]
  have e : V m c main_arg0 = arg0 m c := V_main_arg0 m c
  rw [← e]
  blk_simp [iblk]
  refine congrArg (V m c main_arg0) ?_
  blk_ext [idx_0]

theorem blk_1 (t : Fin cfg0.N) (r : Fin 2048) (q : Fin 1024) : at2 (iblk m c 1 t) r q = at2 (arg1 m c) (2048 * (t.val % 4) + r) q := by
  have ht : t.val < 8 := Nat.lt_of_lt_of_eq t.isLt N_0
  rw [at2_fin, at2_eq _ (by omega) (by omega)]
  have e : V m c main_arg1 = arg1 m c := V_main_arg1 m c
  rw [← e]
  blk_simp [iblk]
  refine congrArg (V m c main_arg1) ?_
  blk_ext [idx_1]

/-- The addends of the entry at place `p`, `q` of the result's block `b`. -/
def term (p q b k : ℕ) : EReal := at2 (arg0 m c) k (1024 * b + p) * at2 (arg1 m c) k q

theorem point (t : Fin cfg0.N) (p : Fin 1024) (q : Fin 1024) :
    k0_pay1 (iblk m c 0 t) (iblk m c 1 t) (ix2 p q) = ∑ r : Fin 2048, term m c p q (t.val / 4) (2048 * (t.val % 4) + r) := by
  refine (pay_at (iblk m c 0 t) (iblk m c 1 t) p q).trans (Finset.sum_congr rfl fun r _ => ?_)
  rw [blk_0, blk_1, term]

/-- The scratch after every point. -/
theorem scr (p : Fin 1024) (q : Fin 1024) (n : ℕ) (h : n < cfg0.N) :
    (outsAt0 m c n h).2 (ix2 p q) = ∑ k ∈ Finset.range (2048 * (n % 4 + 1)), term m c p q (n / 4) k := by
  refine blocks_sum (by decide) (fun n h => (outsAt0 m c n h).2 (ix2 p q)) (term m c p q) (fun n h h0 => ?_) (fun n h h0 => ?_) n h
  · rw [outsAt0_A m c ⟨n, h⟩ h0 (by dsimp only; omega) (by dsimp only; omega)]
    dsimp only
    rw [scr_A]
    exact point m c ⟨n, h⟩ p q
  · rw [← point m c ⟨n, h⟩ p q]
    by_cases h2 : n % 4 = 3
    · rw [outsAt0_C m c ⟨n, h⟩ h0 (by dsimp only; omega) h2]
      dsimp only
      rw [scr_C]
      rfl
    · rw [outsAt0_B m c ⟨n, h⟩ h0 (by dsimp only; omega) h2]
      dsimp only
      rw [scr_B]
      rfl

/-- The result array. -/
theorem final {G : FVec Ideal S2048x1024 .f32} (hG : ∀ (i : Fin 2048) (j : Fin 1024), G (ix2 i j) = ∑ k : Fin 8192, at2 (arg0 m c) k i * at2 (arg1 m c) k j) :
    (dats m 0 c).arrAt 2 cfg0.N = G := by
  refine (dats m 0 c).arrAt_eq_of_covers 2 _ (by decide +kernel) fun t hf y => ?_
  have ht : t.val < 8 := Nat.lt_of_lt_of_eq t.isLt N_0
  have h3 : t.val % 4 = 3 := (flush0_2 t).mp hf
  have e : (outsAt0 m c t.val t.isLt).1 = (outsAt0 m c t.val t.isLt).2 := by
    rw [outsAt0_C m c t (by omega) (by omega) h3]
    dsimp only
    rw [out_C]
  blk_simp
  rw [after0_2, e]
  obtain ⟨p, q, rfl⟩ : ∃ (p : Fin 1024) (q : Fin 1024), y = ix2 p q := ⟨y 0, y 1, eq_ix2 y⟩
  refine (scr m c p q t.val t.isLt).trans (Eq.trans ?_ ((hG ⟨1024 * (t.val / 4) + p.val, by omega⟩ q).symm.trans (congrArg G ?_)))
  · rw [h3, Finset.sum_range]
    simp only [term]
  · blk_ext [idx_2]

/-! ## The reference -/

/-- The reference's result, entry by entry. -/
theorem ref_at (x : FVec Ideal S8192x2048 .bf16) (y : FVec Ideal S8192x1024 .bf16) (i : Fin 2048) (j : Fin 1024) :
    transpose Cert.RefGradQkvIdeal.S2048x1024 [1, 0] (Host.dotGeneral Cert.RefGradQkvIdeal.dot_S8192x1024_S8192x2048_S1024x2048_0_0_1_1_n_n none
      (extf .f32 y Cert.RefGradQkvIdeal.Gen.bitsLt_bf16_f32) (extf .f32 x Cert.RefGradQkvIdeal.Gen.bitsLt_bf16_f32)) Cert.RefGradQkvIdeal.Gen.transposes_S1024x2048_S2048x1024_1_0 (ix2 i j)
    = ∑ k : Fin 8192, at2 x k i * at2 y k j := by
  simp only [at2_fin]
  pointwise
  exact Finset.sum_congr rfl fun k _ => mul_comm _ _

/-- The value claim. -/
theorem value : Cert.algebraic_GradQkvIdeal_RefGradQkvIdeal := fun m g m' g' _ hargs => by
  refine ⟨_, Value.run_blocks m g, (θ_run Cert.RefGradQkvIdeal.defs _ _).mono (fun r h c => ?_) (Cert.RefGradQkvIdeal.Value.run m' g')⟩
  refine ⟨(h c).1.trans ?_, (h c).2⟩
  rw [(hargs c).1, (hargs c).2]
  exact (final m c (ref_at (arg0 m c) (arg1 m c))).symm

/-! ## The runs -/

/-- The printed program is its idealization: over the bits their bodies are equal, -/
theorem body_eq : @Cert.GradQkv.cc0_mmg_qkv Bits _ _ = @Cert.GradQkvIdeal.cc0_mmg_qkv Bits _ _ := by
  unfold Cert.GradQkv.cc0_mmg_qkv Cert.GradQkvIdeal.cc0_mmg_qkv
  rfl

/-- so are the programs of their body labels, -/
theorem defs0_eq : Cert.GradQkv.defs₀ (F := Bits) = Cert.GradQkvIdeal.defs₀ (F := Bits) := by
  refine congrArg Defs.onTc ?_
  funext l a
  match l, a with
  | 0, (t, s) =>
    exact
      congrFun (congrFun (congrFun (congrFun (congrFun (congrFun (congrFun (congrFun (congrFun
      body_eq _) _) _) _) _) _) _) _) _

/-- those of all labels, the pipeline's own included, -/
theorem defs_eq : Cert.GradQkv.defs (F := Bits) = Cert.GradQkvIdeal.defs (F := Bits) :=
  congrArg (Pipeline.defs (Cert.GradQkv.pcfgs (F := Bits))) defs0_eq

/-- and their host functions. -/
theorem main_eq : Cert.GradQkv.main (F := Bits) = Cert.GradQkvIdeal.main (F := Bits) := rfl

/-- So the one run serves both. -/
theorem frame : Cert.quiescent_GradQkv := fun m g _ =>
  (congrArg₂ (fun D B => θ_run D (onTc (τ := Cert.GradQkv.τ) B) ⟨m, fun _ => 0, g⟩ _)
    defs_eq main_eq).mpr (Cert.GradQkvIdeal.Gen.frame (F := Bits) m g)

/-- The reference runs, its arguments unchanged. -/
theorem ref_frame : Cert.quiescent_RefGradQkvIdeal := fun m g _ =>
  (θ_run Cert.RefGradQkvIdeal.defs _ _).mono (fun r h => ⟨fun c => (h c).2, sem_eq_zero_of_no_sems (by decide) r.2⟩) (Cert.RefGradQkvIdeal.Value.run m g)

end Cert.GradQkvIdeal.Grad

end
-- ==== Proof.MixBwd.lean ====
/- The gated sum's gradients: the kernel's three results — towards the two mixed values and towards the two gates — are the
   reference's. -/
module

public import proofs.«01_k».proof.Defs
public import proofs.«01_k».proof.Proof.Products
public import proofs.«01_k».proof.Proof.Gen.MixBwd
public import proofs.«01_k».proof.Proof.Gen.MixBwdIdeal.Value
public import proofs.«01_k».proof.Proof.Gen.RefMixBwdIdeal.Run
public import Idealize.ShloMosaic.Lib.Pipeline.ValueKit
public import Idealize.ShloMosaic.Lib.Quiescent
public import Idealize.ShloMosaic.Lib.IdealHost

@[expose] public section

noncomputable section

namespace Cert.MixBwdIdeal.Mm

open Idealize.ShloMosaic Idealize.ShloMosaic.TcCoe Idealize.SL Idealize.SL.Sem Gen Cert.Products
open Idealize.ShloMosaic.Pipeline (Dat)
open scoped BigOperators

/-! ## A block's values -/

/-- The logistic function. -/
def logi (z : EReal) : EReal := Ideal.div 1 (1 + Ideal.exp (-z))

/-- The gradient towards a gate: the incoming one times the gated value times the logistic function's derivative. -/
def back (d a z : EReal) : EReal := d * a * (logi z * (1 - logi z))

theorem pay3_at (x : Vec Ideal S256x2048 .f32) (p : Fin 256) (q : Fin 2048) : k0_pay3 x (ix2 p q) = logi (x (ix2 p q)) := by
  rw [logi, ← logistic_eq, ← half_bits]
  pointwise [k0_pay3]

theorem pay4_eq (x : Vec Ideal S256x2048 .f32) : k0_pay4 x = k0_pay3 x := rfl

theorem pay7_at (z : Vec Ideal S256x2048 .f32) (d : Vec Ideal S256x2048 .bf16) (p : Fin 256) (q : Fin 2048) :
    k0_pay7 z d (ix2 p q) = logi (z (ix2 p q)) * d (ix2 p q) := by
  rw [mul_comm, ← pay3_at]
  pointwise [k0_pay7]

theorem pay5_eq (z : Vec Ideal S256x2048 .f32) (d : Vec Ideal S256x2048 .bf16) : k0_pay1 (k0_pay5 z d) = k0_pay7 z d := rfl

theorem pay6_at (z w a b : Vec Ideal S256x2048 .f32) (d : Vec Ideal S256x2048 .bf16) (p : Fin 256) (q : Fin 4096) :
    k0_pay2 (k0_pay6 z w a b d) (ix2 p q) = if q.val < 2048 then back (at2 d p q) (at2 a p q) (at2 z p q)
      else back (at2 d p (q - 2048)) (at2 b p (q - 2048)) (at2 w p (q - 2048)) := by
  pointwise [k0_pay2, k0_pay6]
  by_cases h : q.val < 2048
  · rw [dif_pos h, if_pos h, pay3_at, at2_eq _ p.isLt h, at2_eq _ p.isLt h, at2_eq _ p.isLt h, back, mul_assoc]
  · have h' : q.val - 2048 < 2048 := by omega
    rw [dif_neg h, if_neg h, pay4_eq, pay3_at, at2_eq _ p.isLt h', at2_eq _ p.isLt h', at2_eq _ p.isLt h', back, mul_assoc]

theorem out5_eq (x0 x1 x2 x3 : Vec Ideal S256x2048 .f32) (x4 : Vec Ideal S256x2048 .bf16) : out0_5 x0 x1 x2 x3 x4 = k0_pay7 x0 x4 := by
  unfold out0_5
  rw [View.canon_unit_zero hz, View.ld_unit_zero (S := S256x2048) hz, View.ld_unit_zero (S := S256x2048) hz]

theorem out6_eq (x0 x1 x2 x3 : Vec Ideal S256x2048 .f32) (x4 : Vec Ideal S256x2048 .bf16) : out0_6 x0 x1 x2 x3 x4 = k0_pay7 x1 x4 := by
  unfold out0_6
  rw [View.canon_unit_zero hz, View.ld_unit_zero (S := S256x2048) hz, View.ld_unit_zero (S := S256x2048) hz, pay5_eq]

theorem out7_eq (x0 x1 x2 x3 : Vec Ideal S256x2048 .f32) (x4 : Vec Ideal S256x2048 .bf16) :
    out0_7 x0 x1 x2 x3 x4 = k0_pay2 (k0_pay6 x0 x1 x2 x3 x4) := by
  unfold out0_7
  rw [View.canon_unit_zero hz]
  simp only [View.ld_unit_zero (S := S256x2048) hz]

/-! ## The blocks -/

variable (m : (ℓ : Loc nD τ sig) → Buf (Elt Ideal) ℓ) (c : Dev nD)

theorem idx_0 : ∀ t : Fin cfg0.N, win0_0.index t = ![t.val, 0] := by decide +kernel
theorem idx_1 : ∀ t : Fin cfg0.N, win0_1.index t = ![t.val, 1] := by decide +kernel
theorem idx_2 : ∀ t : Fin cfg0.N, win0_2.index t = ![t.val, 0] := by decide +kernel
theorem idx_3 : ∀ t : Fin cfg0.N, win0_3.index t = ![t.val, 0] := by decide +kernel
theorem idx_4 : ∀ t : Fin cfg0.N, win0_4.index t = ![t.val, 0] := by decide +kernel
theorem idx_5 : ∀ t : Fin cfg0.N, win0_5.index t = ![t.val, 0] := by decide +kernel
theorem idx_6 : ∀ t : Fin cfg0.N, win0_6.index t = ![t.val, 0] := by decide +kernel
theorem idx_7 : ∀ t : Fin cfg0.N, win0_7.index t = ![t.val, 0] := by decide +kernel

def arg0 : FVec Ideal S8192x4096 .f32 := m ((c.tc : Thread nD τ).loc main_arg0)
def arg1 : FVec Ideal S8192x2048 .f32 := m ((c.tc : Thread nD τ).loc main_arg1)
def arg2 : FVec Ideal S8192x2048 .f32 := m ((c.tc : Thread nD τ).loc main_arg2)
def arg3 : FVec Ideal S8192x2048 .bf16 := m ((c.tc : Thread nD τ).loc main_arg3)

theorem blk_0 (t : Fin cfg0.N) (p : Fin 256) (r : Fin 2048) : iblk m c 0 t (ix2 p r) = at2 (arg0 m c) (256 * t.val + p) r := by
  have ht : t.val < 32 := Nat.lt_of_lt_of_eq t.isLt N_0
  rw [at2_eq _ (by omega) (by omega)]
  have e : V m c main_arg0 = arg0 m c := V_main_arg0 m c
  rw [← e]
  blk_simp [iblk]
  refine congrArg (V m c main_arg0) ?_
  blk_ext [idx_0]

theorem blk_1 (t : Fin cfg0.N) (p : Fin 256) (r : Fin 2048) : iblk m c 1 t (ix2 p r) = at2 (arg0 m c) (256 * t.val + p) (2048 + r) := by
  have ht : t.val < 32 := Nat.lt_of_lt_of_eq t.isLt N_0
  rw [at2_eq _ (by omega) (by omega)]
  have e : V m c main_arg0 = arg0 m c := V_main_arg0 m c
  rw [← e]
  blk_simp [iblk]
  refine congrArg (V m c main_arg0) ?_
  blk_ext [idx_1]

theorem blk_2 (t : Fin cfg0.N) (p : Fin 256) (r : Fin 2048) : iblk m c 2 t (ix2 p r) = at2 (arg1 m c) (256 * t.val + p) r := by
  have ht : t.val < 32 := Nat.lt_of_lt_of_eq t.isLt N_0
  rw [at2_eq _ (by omega) (by omega)]
  have e : V m c main_arg1 = arg1 m c := V_main_arg1 m c
  rw [← e]
  blk_simp [iblk]
  refine congrArg (V m c main_arg1) ?_
  blk_ext [idx_2]

theorem blk_3 (t : Fin cfg0.N) (p : Fin 256) (r : Fin 2048) : iblk m c 3 t (ix2 p r) = at2 (arg2 m c) (256 * t.val + p) r := by
  have ht : t.val < 32 := Nat.lt_of_lt_of_eq t.isLt N_0
  rw [at2_eq _ (by omega) (by omega)]
  have e : V m c main_arg2 = arg2 m c := V_main_arg2 m c
  rw [← e]
  blk_simp [iblk]
  refine congrArg (V m c main_arg2) ?_
  blk_ext [idx_3]

theorem blk_4 (t : Fin cfg0.N) (p : Fin 256) (r : Fin 2048) : iblk m c 4 t (ix2 p r) = at2 (arg3 m c) (256 * t.val + p) r := by
  have ht : t.val < 32 := Nat.lt_of_lt_of_eq t.isLt N_0
  rw [at2_eq _ (by omega) (by omega)]
  have e : V m c main_arg3 = arg3 m c := V_main_arg3 m c
  rw [← e]
  blk_simp [iblk]
  refine congrArg (V m c main_arg3) ?_
  blk_ext [idx_4]

/-! ## The result arrays -/

/-- An entry of the gradient towards the gates. -/
def dgate (z : FVec Ideal S8192x4096 .f32) (a b : FVec Ideal S8192x2048 .f32) (d : FVec Ideal S8192x2048 .bf16) (i j : ℕ) : EReal :=
  if j < 2048 then back (at2 d i j) (at2 a i j) (at2 z i j) else back (at2 d i (j - 2048)) (at2 b i (j - 2048)) (at2 z i j)

theorem dgate_at (t : Fin cfg0.N) (p : Fin 256) (q : Fin 4096) :
    k0_pay2 (k0_pay6 (iblk m c 0 t) (iblk m c 1 t) (iblk m c 2 t) (iblk m c 3 t) (iblk m c 4 t)) (ix2 p q)
      = dgate (arg0 m c) (arg1 m c) (arg2 m c) (arg3 m c) (256 * t.val + p) q := by
  refine (pay6_at (iblk m c 0 t) (iblk m c 1 t) (iblk m c 2 t) (iblk m c 3 t) (iblk m c 4 t) p q).trans ?_
  unfold dgate
  by_cases h : q.val < 2048
  · rw [if_pos h, if_pos h, at2_eq _ p.isLt h, at2_eq _ p.isLt h, at2_eq _ p.isLt h]
    exact congr (congr (congrArg back (blk_4 m c t p ⟨q, h⟩)) (blk_2 m c t p ⟨q, h⟩)) (blk_0 m c t p ⟨q, h⟩)
  · have h' : q.val - 2048 < 2048 := by omega
    rw [if_neg h, if_neg h, at2_eq _ p.isLt h', at2_eq _ p.isLt h', at2_eq _ p.isLt h']
    refine congr (congr (congrArg back (blk_4 m c t p ⟨q - 2048, h'⟩)) (blk_3 m c t p ⟨q - 2048, h'⟩)) ((blk_1 m c t p ⟨q - 2048, h'⟩).trans ?_)
    exact congrArg (at2 (arg0 m c) _) (by show 2048 + (q.val - 2048) = q.val; omega)

theorem final_5 {G : FVec Ideal S8192x2048 .bf16} (hG : ∀ (i : Fin 8192) (j : Fin 2048), G (ix2 i j) = logi (at2 (arg0 m c) i j) * at2 (arg3 m c) i j) :
    (dats m 0 c).arrAt 5 cfg0.N = G := by
  refine (dats m 0 c).arrAt_eq_of_covers 5 _ (by decide +kernel) fun t hf y => ?_
  have ht : t.val < 32 := Nat.lt_of_lt_of_eq t.isLt N_0
  blk_simp
  rw [after0_5, out5_eq]
  obtain ⟨p, q, rfl⟩ : ∃ (p : Fin 256) (q : Fin 2048), y = ix2 p q := ⟨y 0, y 1, eq_ix2 y⟩
  refine (pay7_at (iblk m c 0 t) (iblk m c 4 t) p q).trans ?_
  rw [blk_0, blk_4]
  refine (hG ⟨256 * t.val + p.val, by omega⟩ q).symm.trans (congrArg G ?_)
  blk_ext [idx_5]

theorem final_6 {G : FVec Ideal S8192x2048 .bf16} (hG : ∀ (i : Fin 8192) (j : Fin 2048), G (ix2 i j) = logi (at2 (arg0 m c) i (2048 + j)) * at2 (arg3 m c) i j) :
    (dats m 0 c).arrAt 6 cfg0.N = G := by
  refine (dats m 0 c).arrAt_eq_of_covers 6 _ (by decide +kernel) fun t hf y => ?_
  have ht : t.val < 32 := Nat.lt_of_lt_of_eq t.isLt N_0
  blk_simp
  rw [after0_6, out6_eq]
  obtain ⟨p, q, rfl⟩ : ∃ (p : Fin 256) (q : Fin 2048), y = ix2 p q := ⟨y 0, y 1, eq_ix2 y⟩
  refine (pay7_at (iblk m c 1 t) (iblk m c 4 t) p q).trans ?_
  rw [blk_1, blk_4]
  refine (hG ⟨256 * t.val + p.val, by omega⟩ q).symm.trans (congrArg G ?_)
  blk_ext [idx_6]

theorem final_7 {G : FVec Ideal S8192x4096 .bf16}
    (hG : ∀ (i : Fin 8192) (j : Fin 4096), G (ix2 i j) = dgate (arg0 m c) (arg1 m c) (arg2 m c) (arg3 m c) i j) :
    (dats m 0 c).arrAt 7 cfg0.N = G := by
  refine (dats m 0 c).arrAt_eq_of_covers 7 _ (by decide +kernel) fun t hf y => ?_
  have ht : t.val < 32 := Nat.lt_of_lt_of_eq t.isLt N_0
  blk_simp
  rw [after0_7, out7_eq]
  obtain ⟨p, q, rfl⟩ : ∃ (p : Fin 256) (q : Fin 4096), y = ix2 p q := ⟨y 0, y 1, eq_ix2 y⟩
  refine (dgate_at m c t p q).trans ?_
  refine (hG ⟨256 * t.val + p.val, by omega⟩ q).symm.trans (congrArg G ?_)
  blk_ext [idx_7]

/-! ## The reference -/

/-- The reference's logistic function of a half of the gates. -/
def refSig (z : FVec Ideal S8192x2048 .f32) : FVec Ideal S8192x2048 .f32 :=
  Host.divf (broadcastInDim Cert.RefMixBwdIdeal.S8192x2048 ![] Cert.RefMixBwdIdeal.Gen.bcast_S_S8192x2048 (constant Cert.RefMixBwdIdeal.S_ .f32 0x3F800000#32))
    (addf (broadcastInDim Cert.RefMixBwdIdeal.S8192x2048 ![] Cert.RefMixBwdIdeal.Gen.bcast_S_S8192x2048 (constant Cert.RefMixBwdIdeal.S_ .f32 0x3F800000#32)) (Host.exp (Host.negf z)))

theorem refSig_at (z : FVec Ideal S8192x2048 .f32) (i : Fin 8192) (j : Fin 2048) : refSig z (ix2 i j) = logi (z (ix2 i j)) := by
  unfold refSig logi
  pointwise

/-- The gates' two halves. -/
def lo (z : FVec Ideal S8192x4096 .f32) : FVec Ideal S8192x2048 .f32 :=
  extractStridedSlice Cert.RefMixBwdIdeal.S8192x2048 ![0, 0] z Cert.RefMixBwdIdeal.Gen.slices_S8192x4096_S8192x2048_0_0
def hi (z : FVec Ideal S8192x4096 .f32) : FVec Ideal S8192x2048 .f32 :=
  extractStridedSlice Cert.RefMixBwdIdeal.S8192x2048 ![0, 2048] z Cert.RefMixBwdIdeal.Gen.slices_S8192x4096_S8192x2048_0_2048

theorem lo_at (z : FVec Ideal S8192x4096 .f32) (i : Fin 8192) (j : Fin 2048) : lo z (ix2 i j) = at2 z i j := by
  rw [at2_eq _ (by omega) (by omega)]
  pointwise [lo]

theorem hi_at (z : FVec Ideal S8192x4096 .f32) (i : Fin 8192) (j : Fin 2048) : hi z (ix2 i j) = at2 z i (2048 + j) := by
  rw [at2_eq _ (by omega) (by omega)]
  pointwise [hi]

/-- The reference's gradient towards a mixed value. -/
def refD (s : FVec Ideal S8192x2048 .f32) (d : FVec Ideal S8192x2048 .bf16) : FVec Ideal S8192x2048 .bf16 :=
  truncf .bf16 (mulf s (extf .f32 d Cert.RefMixBwdIdeal.Gen.bitsLt_bf16_f32)) Cert.RefMixBwdIdeal.Gen.bitsLt_bf16_f32

theorem refD_at (s : FVec Ideal S8192x2048 .f32) (d : FVec Ideal S8192x2048 .bf16) (i : Fin 8192) (j : Fin 2048) :
    refD s d (ix2 i j) = s (ix2 i j) * d (ix2 i j) := by
  pointwise [refD]

/-- The reference's gradient towards a gate. -/
def refBack (d : FVec Ideal S8192x2048 .bf16) (a z : FVec Ideal S8192x2048 .f32) : FVec Ideal S8192x2048 .f32 :=
  mulf (mulf (extf .f32 d Cert.RefMixBwdIdeal.Gen.bitsLt_bf16_f32) a)
    (mulf (refSig z) (subf (broadcastInDim Cert.RefMixBwdIdeal.S8192x2048 ![] Cert.RefMixBwdIdeal.Gen.bcast_S_S8192x2048 (constant Cert.RefMixBwdIdeal.S_ .f32 0x3F800000#32)) (refSig z)))

theorem refBack_at (d : FVec Ideal S8192x2048 .bf16) (a z : FVec Ideal S8192x2048 .f32) (i : Fin 8192) (j : Fin 2048) :
    refBack d a z (ix2 i j) = back (d (ix2 i j)) (a (ix2 i j)) (z (ix2 i j)) := by
  rw [back, ← refSig_at]
  pointwise [refBack]

/-- The two side by side. -/
def refGates (z : FVec Ideal S8192x4096 .f32) (a b : FVec Ideal S8192x2048 .f32) (d : FVec Ideal S8192x2048 .bf16) : FVec Ideal S8192x4096 .bf16 :=
  truncf .bf16 (concatenate Cert.RefMixBwdIdeal.S8192x4096 1 [⟨Cert.RefMixBwdIdeal.S8192x2048, refBack d a (lo z)⟩, ⟨Cert.RefMixBwdIdeal.S8192x2048, refBack d b (hi z)⟩]
    Cert.RefMixBwdIdeal.Gen.concatenates_S8192x2048_S8192x2048_S8192x4096_d1) Cert.RefMixBwdIdeal.Gen.bitsLt_bf16_f32

theorem refGates_at (z : FVec Ideal S8192x4096 .f32) (a b : FVec Ideal S8192x2048 .f32) (d : FVec Ideal S8192x2048 .bf16) (i : Fin 8192) (j : Fin 4096) :
    refGates z a b d (ix2 i j) = dgate z a b d i j := by
  unfold refGates dgate
  generalize eu : refBack d a (lo z) = u
  generalize ev : refBack d b (hi z) = v
  pointwise
  subst eu ev
  by_cases h : j.val < 2048
  · rw [dif_pos h, if_pos h, refBack_at, lo_at, at2_eq d i.isLt h, at2_eq a i.isLt h]
  · have h' : j.val - 2048 < 2048 := by omega
    rw [dif_neg h, if_neg h, refBack_at, hi_at, at2_eq d i.isLt h', at2_eq b i.isLt h']
    refine congrArg (back _ _) (congrArg (at2 z i) ?_)
    show 2048 + (j.val - 2048) = j.val
    omega

/-- The value claim. -/
theorem value : Cert.algebraic_MixBwdIdeal_RefMixBwdIdeal := fun m g m' g' _ hargs => by
  refine ⟨_, _, _, Value.run_blocks m g, (θ_run Cert.RefMixBwdIdeal.defs _ _).mono (fun r h c => ?_) (Cert.RefMixBwdIdeal.Value.run m' g')⟩
  refine ⟨(h c).1.trans ?_, (h c).2.1.trans ?_, (h c).2.2.1.trans ?_, (h c).2.2.2⟩
  · rw [(hargs c).1, (hargs c).2.2.2]
    refine (final_5 m c (G := refD (refSig (lo (arg0 m c))) (arg3 m c)) fun i j => ?_).symm
    rw [refD_at, refSig_at, lo_at, at2_fin (arg3 m c)]
  · rw [(hargs c).1, (hargs c).2.2.2]
    refine (final_6 m c (G := refD (refSig (hi (arg0 m c))) (arg3 m c)) fun i j => ?_).symm
    rw [refD_at, refSig_at, hi_at, at2_fin (arg3 m c)]
  · rw [(hargs c).1, (hargs c).2.1, (hargs c).2.2.1, (hargs c).2.2.2]
    exact (final_7 m c (refGates_at (arg0 m c) (arg1 m c) (arg2 m c) (arg3 m c))).symm

/-! ## The runs -/

/-- The printed program is its idealization: over the bits their bodies are equal, -/
theorem body_eq : @Cert.MixBwd.cc0_mix_bwd Bits _ _ = @Cert.MixBwdIdeal.cc0_mix_bwd Bits _ _ := by
  unfold Cert.MixBwd.cc0_mix_bwd Cert.MixBwdIdeal.cc0_mix_bwd
  rfl

/-- so are the programs of their body labels, -/
theorem defs0_eq : Cert.MixBwd.defs₀ (F := Bits) = Cert.MixBwdIdeal.defs₀ (F := Bits) := by
  refine congrArg Defs.onTc ?_
  funext l a
  match l, a with
  | 0, (t, s) =>
    exact
      congrFun (congrFun (congrFun (congrFun (congrFun (congrFun (congrFun (congrFun (congrFun
      (congrFun (congrFun (congrFun (congrFun (congrFun (congrFun (congrFun (congrFun body_eq
      _) _) _) _) _) _) _) _) _) _) _) _) _) _) _) _) _

/-- those of all labels, the pipeline's own included, -/
theorem defs_eq : Cert.MixBwd.defs (F := Bits) = Cert.MixBwdIdeal.defs (F := Bits) :=
  congrArg (Pipeline.defs (Cert.MixBwd.pcfgs (F := Bits))) defs0_eq

/-- and their host functions. -/
theorem main_eq : Cert.MixBwd.main (F := Bits) = Cert.MixBwdIdeal.main (F := Bits) := rfl

/-- So the one run serves both. -/
theorem frame : Cert.quiescent_MixBwd := fun m g _ =>
  (congrArg₂ (fun D B => θ_run D (onTc (τ := Cert.MixBwd.τ) B) ⟨m, fun _ => 0, g⟩ _)
    defs_eq main_eq).mpr (Cert.MixBwdIdeal.Gen.frame (F := Bits) m g)

/-- The reference runs, its arguments unchanged. -/
theorem ref_frame : Cert.quiescent_RefMixBwdIdeal := fun m g _ =>
  (θ_run Cert.RefMixBwdIdeal.defs _ _).mono (fun r h => ⟨fun c => (h c).2.2.2, sem_eq_zero_of_no_sems (by decide) r.2⟩) (Cert.RefMixBwdIdeal.Value.run m g)

end Cert.MixBwdIdeal.Mm

end
-- ==== Proof.Norm.lean ====
/- The gradient of a row scaled to unit mean square: the kernel's form of it and the chain rule's agree, whatever the row
   holds. -/
module

public import Idealize.ShloMosaic.PureOps.Ideal

@[expose] public section

noncomputable section

namespace Cert.Norm

open Idealize.ShloMosaic
open scoped BigOperators

theorem width_bits : Ideal.ofBits .f32 0x45000000#32 = ((2048 : ℝ) : EReal) := by
  have h0 : (1157627904 >>> 23 : ℕ) = 138 := by decide
  have h1 : ¬BitVec.extractLsb' 31 1 1157627904#32 = 1#1 := by decide
  simp only [Ideal.ofBits, Ideal.ieee]
  rw [if_neg (by decide), if_neg (by decide)]
  refine congrArg _ ?_
  simp [h0, h1]
  norm_num

theorem neg_half_bits : Ideal.ofBits .f32 0xBF000000#32 = ((-(1 / 2) : ℝ) : EReal) := by
  have h0 : (3204448256 >>> 23 : ℕ) = 382 := by decide
  have h1 : BitVec.extractLsb' 31 1 3204448256#32 = 1#1 := by decide
  simp only [Ideal.ofBits, Ideal.ieee]
  rw [if_neg (by decide), if_neg (by decide)]
  refine congrArg _ ?_
  simp [h0, h1]
  norm_num

/-- The number added to the mean square is positive. -/
theorem eps_bits : ∃ e : ℝ, 0 < e ∧ Ideal.ofBits .f32 0x358637BD#32 = (e : EReal) := by
  have h0 : (897988541 >>> 23 : ℕ) = 107 := by decide
  have h1 : ¬BitVec.extractLsb' 31 1 897988541#32 = 1#1 := by decide
  simp only [Ideal.ofBits, Ideal.ieee]
  rw [if_neg (by decide), if_neg (by decide)]
  refine ⟨_, ?_, rfl⟩
  simp [h0, h1]

/-- A row's mean square, with the small number added. -/
def ms (x : Fin 2048 → EReal) : EReal := Ideal.div (∑ k, x k * x k) (Ideal.ofBits .f32 0x45000000#32) + Ideal.ofBits .f32 0x358637BD#32

theorem sq_nonneg (a : EReal) : 0 ≤ a * a := by
  rcases le_total 0 a with h | h
  · exact mul_nonneg h h
  · rw [← neg_mul_neg]
    have h' : 0 ≤ -a := EReal.neg_nonneg.mpr h
    exact mul_nonneg h' h'

theorem ms_pos (x : Fin 2048 → EReal) : 0 < ms x := by
  obtain ⟨e, he, hb⟩ := eps_bits
  have h2 : ((2048 : ℝ) : EReal) ≠ 0 := by norm_cast
  have hi : (0 : EReal) ≤ ((2048 : ℝ) : EReal)⁻¹ := by rw [← EReal.coe_inv]; exact EReal.coe_nonneg.mpr (by norm_num)
  rw [ms, hb, width_bits, Ideal.div, if_neg h2]
  exact lt_of_lt_of_le (EReal.coe_pos.mpr he) (le_add_of_nonneg_left (mul_nonneg (Finset.sum_nonneg fun k _ => sq_nonneg _) hi))

/-- A factor that is a nonnegative number leaves a sum, also of infinite addends. -/
theorem sum_mul_coe {ι : Type} (s : Finset ι) (f : ι → EReal) {r : ℝ} (hr : 0 ≤ r) : ∑ k ∈ s, f k * (r : EReal) = (∑ k ∈ s, f k) * (r : EReal) := by
  classical
  induction s using Finset.induction_on with
  | empty => simp
  | insert a s ha ih =>
    rw [Finset.sum_insert ha, Finset.sum_insert ha, ih, mul_comm _ (r : EReal), mul_comm _ (r : EReal), mul_comm _ (r : EReal)]
    exact (EReal.left_distrib_of_nonneg_of_ne_top (EReal.coe_nonneg.mpr hr) (EReal.coe_ne_top r) _ _).symm

/-- The chain rule's factor of the row, in the gradient towards it. -/
def rowSlope (x g : Fin 2048 → EReal) : EReal :=
  Ideal.div ((∑ k, x k * g k) * (Ideal.ofBits .f32 0xBF000000#32 * Ideal.div (Ideal.rsqrt (ms x)) (ms x))) (Ideal.ofBits .f32 0x45000000#32)

/-- The kernel's gradient of a scaled row's entry is the chain rule's. -/
theorem row_eq (x g : Fin 2048 → EReal) (a b : EReal) :
    Ideal.rsqrt (ms x) * (b - a * Ideal.rsqrt (ms x) * Ideal.div (∑ k, g k * (x k * Ideal.rsqrt (ms x))) (Ideal.ofBits .f32 0x45000000#32))
      = b * Ideal.rsqrt (ms x) + a * rowSlope x g + rowSlope x g * a := by
  have h2 : ((2048 : ℝ) : EReal) ≠ 0 := by norm_cast
  have hv := ms_pos x
  unfold rowSlope
  rw [neg_half_bits, width_bits]
  generalize ms x = v at hv
  induction v with
  | bot => exact absurd hv (by simp)
  | top =>
    have h0 : Ideal.rsqrt ⊤ = 0 := rfl
    have h1 : Ideal.div 0 ⊤ = 0 := by rw [Ideal.div, if_neg (by simp), zero_mul]
    have h3 : Ideal.div 0 ((2048 : ℝ) : EReal) = 0 := by rw [Ideal.div, if_neg h2, zero_mul]
    simp only [h0, h1, h3, mul_zero, zero_mul, add_zero]
  | coe v =>
    have hv : 0 < v := EReal.coe_pos.mp hv
    have hn : (v : EReal) ≠ 0 := by exact_mod_cast hv.ne'
    obtain ⟨s, hs, hss, hr⟩ : ∃ s : ℝ, 0 ≤ s ∧ s * s = v⁻¹ ∧ Ideal.rsqrt (v : EReal) = (s : EReal) := by
      refine ⟨(Real.sqrt v)⁻¹, inv_nonneg.mpr (Real.sqrt_nonneg v), ?_, ?_⟩
      · rw [← mul_inv, Real.mul_self_sqrt hv.le]
      · show (if v < 0 then ⊥ else if v = 0 then ⊤ else (((Real.sqrt v)⁻¹ : ℝ) : EReal)) = _
        rw [if_neg (not_lt.mpr hv.le), if_neg hv.ne']
    have hsum : ∑ k, g k * (x k * (s : EReal)) = (∑ k, x k * g k) * (s : EReal) := by
      rw [← sum_mul_coe _ _ hs]
      exact Finset.sum_congr rfl fun k _ => by rw [← mul_assoc, mul_comm (g k)]
    rw [hr, hsum]
    generalize ∑ k, x k * g k = T
    simp only [Ideal.div, if_neg h2, if_neg hn]
    rw [← EReal.coe_inv, ← EReal.coe_inv, sub_eq_add_neg, EReal.left_distrib_of_nonneg_of_ne_top (EReal.coe_nonneg.mpr hs) (EReal.coe_ne_top s),
      add_assoc, mul_comm b]
    refine congrArg (fun z => (s : EReal) * b + z) ?_
    set d : ℝ := 1 / 2 * (s * v⁻¹) * 2048⁻¹ with hd
    have hd0 : 0 ≤ d := by positivity
    have e1 : a * (T * (((-(1 / 2) : ℝ) : EReal) * ((s : EReal) * ((v⁻¹ : ℝ) : EReal))) * (((2048 : ℝ)⁻¹ : ℝ) : EReal)) = -(a * T) * (d : EReal) := by
      rw [show T * (((-(1 / 2) : ℝ) : EReal) * ((s : EReal) * ((v⁻¹ : ℝ) : EReal))) * (((2048 : ℝ)⁻¹ : ℝ) : EReal)
        = T * ((((-(1 / 2) : ℝ) : EReal) * ((s : EReal) * ((v⁻¹ : ℝ) : EReal))) * (((2048 : ℝ)⁻¹ : ℝ) : EReal)) from mul_assoc _ _ _,
        ← EReal.coe_mul, ← EReal.coe_mul, ← EReal.coe_mul, ← mul_assoc, show -(1 / 2) * (s * v⁻¹) * 2048⁻¹ = -d by rw [hd]; ring, EReal.coe_neg,
        mul_neg, neg_mul]
    rw [mul_comm _ a, e1, ← EReal.left_distrib_of_nonneg (EReal.coe_nonneg.mpr hd0) (EReal.coe_nonneg.mpr hd0), ← EReal.coe_add, mul_neg, neg_mul]
    refine congrArg Neg.neg ?_
    rw [show d + d = s * s * s * 2048⁻¹ by rw [hd, hss]; ring, EReal.coe_mul, EReal.coe_mul, EReal.coe_mul]
    ac_rfl

/-- The chain rule's gradient towards a row, for the gradient `g` towards the scaled row. -/
def dxRow (x g : Fin 2048 → EReal) (j : Fin 2048) : EReal := g j * Ideal.rsqrt (ms x) + x j * rowSlope x g + rowSlope x g * x j

theorem dxRow_eq (x g : Fin 2048 → EReal) (j : Fin 2048) :
    dxRow x g j = Ideal.rsqrt (ms x) * (g j - x j * Ideal.rsqrt (ms x) * Ideal.div (∑ k, g k * (x k * Ideal.rsqrt (ms x))) (Ideal.ofBits .f32 0x45000000#32)) :=
  (row_eq x g (x j) (g j)).symm

end Cert.Norm

end
-- ==== Proof.NormBwd.lean ====
/- The gradients through the mixer's norm: the kernel's two results — towards the layer's input, beside the gradient that
   passes the norm by, and towards the norm's weight — are the reference's. -/
module

public import proofs.«01_k».proof.Defs
public import proofs.«01_k».proof.Proof.Products
public import proofs.«01_k».proof.Proof.Norm
public import proofs.«01_k».proof.Proof.Gen.NormBwd
public import proofs.«01_k».proof.Proof.Gen.NormBwdIdeal.Value
public import proofs.«01_k».proof.Proof.Gen.RefNormBwdIdeal.Run
public import Idealize.ShloMosaic.Lib.Pipeline.ValueKit
public import Idealize.ShloMosaic.Lib.Quiescent
public import Idealize.ShloMosaic.Lib.IdealHost

@[expose] public section

noncomputable section

namespace Cert.NormBwdIdeal.Grad

open Idealize.ShloMosaic Idealize.ShloMosaic.TcCoe Idealize.SL Idealize.SL.Sem Gen Cert.Products Cert.Norm
open Idealize.ShloMosaic.Pipeline (Dat)
open scoped BigOperators

/-! ## A block's values -/

theorem pay1_at (x : Vec Ideal S256x2048 .f32) (p : Fin 256) (q : Fin 1) : k0_pay1 x (ix2 p q) = Ideal.rsqrt (ms fun k => at2 x p k) := by
  unfold ms
  simp only [at2_fin]
  pointwise [k0_pay1]

theorem pay3_at (x u h : Vec Ideal S256x2048 .f32) (g : Vec Ideal S1x2048 .f32) (p : Fin 256) (q : Fin 2048) :
    k0_pay3 x u h g (ix2 p q) = at2 h p q + (at2 u p q * at2 g 0 q * Ideal.rsqrt (ms fun k => at2 x p k)
      + at2 x p q * rowSlope (fun k => at2 x p k) (fun k => at2 u p k * at2 g 0 k)
      + rowSlope (fun k => at2 x p k) (fun k => at2 u p k * at2 g 0 k) * at2 x p q) := by
  rw [← row_eq, ← pay1_at x p 0]
  simp only [at2_fin]
  have e : ∀ k : Fin 2048, at2 g 0 k = g (ix2 0 k) := fun k => at2_fin g 0 k
  simp only [e]
  pointwise [k0_pay3, k0_pay2]

theorem pay5_at (x u : Vec Ideal S256x2048 .f32) (w : Vec Ideal S1x2048 .f32) (p : Fin 1) (q : Fin 2048) :
    k0_pay5 x u w (ix2 p q) = w (ix2 p q) + ∑ r : Fin 256, at2 u r q * (at2 x r q * Ideal.rsqrt (ms fun k => at2 x r k)) := by
  simp only [← pay1_at x _ 0]
  simp only [at2_fin]
  pointwise [k0_pay5, k0_pay2]

theorem pay4_at (p : Fin 1) (q : Fin 2048) : (k0_pay4 (F := Ideal)) (ix2 p q) = 0 := by
  pointwise [k0_pay4]

/-! ## The cases' values -/

section Cases
variable {F : FTy → Type} [FloatOps F]

theorem row_A (c : Dev nD) (i : grid0.Coords) (a0 : Memref sig .tc .vmem S256x2048 .f32) (h0 : a0.IsWhole) (a1 : Memref sig .tc .vmem S256x2048 .f32) (h1 : a1.IsWhole)
    (a2 : Memref sig .tc .vmem S256x2048 .f32) (h2 : a2.IsWhole) (a3 : Memref sig .tc .vmem S1x2048 .f32) (h3 : a3.IsWhole)
    (a4 : Memref sig .tc .vmem S256x2048 .f32) (h4 : a4.IsWhole) (a5 : Memref sig .tc .vmem S1x2048 .f32) (h5 : a5.IsWhole)
    (c0 : cond0_0 i) (x0 x1 x2 : Vec F S256x2048 .f32) (x3 : Vec F S1x2048 .f32) :
    out0_A_4 c i a0 h0 a1 h1 a2 h2 a3 h3 a4 h4 a5 h5 c0 x0 x1 x2 x3 = k0_pay3 x0 x1 x2 x3 := by
  unfold out0_A_4
  rw [View.read_writes_eq_canon _ _ _ (cover0_A_4 c i a0 h0 a1 h1 a2 h2 a3 h3 a4 h4 a5 h5 c0 x0 x1 x2 x3)]
  unfold kernelRun0_A
  dsimp only
  sl_unfold_words
  rw [View.canon_unit_zero hz]
  simp only [View.readAt_eq_ld, h0.read_unread, h1.read_unread, h2.read_unread, h3.read_unread, View.ld_unit_zero (S := S256x2048) hz, View.ld_unit_zero (S := S1x2048) hz]

theorem row_B (c : Dev nD) (i : grid0.Coords) (a0 : Memref sig .tc .vmem S256x2048 .f32) (h0 : a0.IsWhole) (a1 : Memref sig .tc .vmem S256x2048 .f32) (h1 : a1.IsWhole)
    (a2 : Memref sig .tc .vmem S256x2048 .f32) (h2 : a2.IsWhole) (a3 : Memref sig .tc .vmem S1x2048 .f32) (h3 : a3.IsWhole)
    (a4 : Memref sig .tc .vmem S256x2048 .f32) (h4 : a4.IsWhole) (a5 : Memref sig .tc .vmem S1x2048 .f32) (h5 : a5.IsWhole)
    (c0 : ¬cond0_0 i) (x0 x1 x2 : Vec F S256x2048 .f32) (x3 xo : Vec F S1x2048 .f32) :
    out0_B_4 c i a0 h0 a1 h1 a2 h2 a3 h3 a4 h4 a5 h5 c0 x0 x1 x2 x3 xo = k0_pay3 x0 x1 x2 x3 := by
  unfold out0_B_4
  rw [View.read_writes_eq_canon _ _ _ (cover0_B_4 c i a0 h0 a1 h1 a2 h2 a3 h3 a4 h4 a5 h5 c0 x0 x1 x2 x3 xo)]
  unfold kernelRun0_B
  dsimp only
  sl_unfold_words
  rw [View.canon_unit_zero hz]
  simp only [View.readAt_eq_ld, h0.read_unread, h1.read_unread, h2.read_unread, h3.read_unread, View.ld_unit_zero (S := S256x2048) hz, View.ld_unit_zero (S := S1x2048) hz]

theorem acc_A (c : Dev nD) (i : grid0.Coords) (a0 : Memref sig .tc .vmem S256x2048 .f32) (h0 : a0.IsWhole) (a1 : Memref sig .tc .vmem S256x2048 .f32) (h1 : a1.IsWhole)
    (a2 : Memref sig .tc .vmem S256x2048 .f32) (h2 : a2.IsWhole) (a3 : Memref sig .tc .vmem S1x2048 .f32) (h3 : a3.IsWhole)
    (a4 : Memref sig .tc .vmem S256x2048 .f32) (h4 : a4.IsWhole) (a5 : Memref sig .tc .vmem S1x2048 .f32) (h5 : a5.IsWhole)
    (c0 : cond0_0 i) (x0 x1 x2 : Vec F S256x2048 .f32) (x3 : Vec F S1x2048 .f32) :
    out0_A_5 c i a0 h0 a1 h1 a2 h2 a3 h3 a4 h4 a5 h5 c0 x0 x1 x2 x3 = k0_pay5 x0 x1 k0_pay4 := by
  unfold out0_A_5
  rw [View.read_writes_eq_canon _ _ _ (cover0_A_5 c i a0 h0 a1 h1 a2 h2 a3 h3 a4 h4 a5 h5 c0 x0 x1 x2 x3)]
  unfold kernelRun0_A
  dsimp only
  sl_unfold_words
  rw [View.canon_cons_unit_zero hz, View.readCov_unit_zero (S := S1x2048) _ hz]
  simp only [View.readAt_eq_ld, h0.read_unread, h1.read_unread, View.ld_unit_zero (S := S256x2048) hz]

theorem acc_B (c : Dev nD) (i : grid0.Coords) (a0 : Memref sig .tc .vmem S256x2048 .f32) (h0 : a0.IsWhole) (a1 : Memref sig .tc .vmem S256x2048 .f32) (h1 : a1.IsWhole)
    (a2 : Memref sig .tc .vmem S256x2048 .f32) (h2 : a2.IsWhole) (a3 : Memref sig .tc .vmem S1x2048 .f32) (h3 : a3.IsWhole)
    (a4 : Memref sig .tc .vmem S256x2048 .f32) (h4 : a4.IsWhole) (a5 : Memref sig .tc .vmem S1x2048 .f32) (h5 : a5.IsWhole)
    (c0 : ¬cond0_0 i) (x0 x1 x2 : Vec F S256x2048 .f32) (x3 xo : Vec F S1x2048 .f32) :
    out0_B_5 c i a0 h0 a1 h1 a2 h2 a3 h3 a4 h4 a5 h5 c0 x0 x1 x2 x3 xo = k0_pay5 x0 x1 xo := by
  unfold out0_B_5
  rw [View.read_writes_eq_canon _ _ _ (cover0_B_5 c i a0 h0 a1 h1 a2 h2 a3 h3 a4 h4 a5 h5 c0 x0 x1 x2 x3 xo)]
  unfold kernelRun0_B
  dsimp only
  sl_unfold_words
  rw [View.canon_unit_zero hz]
  simp only [View.readAt_eq_ld, h0.read_unread, h1.read_unread, h5.read_unread, View.ld_unit_zero (S := S256x2048) hz, View.ld_unit_zero (S := S1x2048) hz]

end Cases

/-! ## The blocks -/

variable (m : (ℓ : Loc nD τ sig) → Buf (Elt Ideal) ℓ) (c : Dev nD)

theorem idx_0 : ∀ t : Fin cfg0.N, win0_0.index t = ![t.val, 0] := by decide +kernel
theorem idx_1 : ∀ t : Fin cfg0.N, win0_1.index t = ![t.val, 0] := by decide +kernel
theorem idx_2 : ∀ t : Fin cfg0.N, win0_2.index t = ![t.val, 0] := by decide +kernel
theorem idx_3 : ∀ t : Fin cfg0.N, win0_3.index t = ![0, 0] := by decide +kernel
theorem idx_4 : ∀ t : Fin cfg0.N, win0_4.index t = ![t.val, 0] := by decide +kernel
theorem idx_5 : ∀ t : Fin cfg0.N, win0_5.index t = ![0, 0] := by decide +kernel

def arg0 : FVec Ideal S8192x2048 .f32 := m ((c.tc : Thread nD τ).loc main_arg0)
def arg1 : FVec Ideal S8192x2048 .f32 := m ((c.tc : Thread nD τ).loc main_arg1)
def arg2 : FVec Ideal S8192x2048 .f32 := m ((c.tc : Thread nD τ).loc main_arg2)
def arg3 : FVec Ideal S1x2048 .f32 := m ((c.tc : Thread nD τ).loc main_arg3)

theorem blk_0 (t : Fin cfg0.N) (p : Fin 256) (r : Fin 2048) : at2 (iblk m c 0 t) p r = at2 (arg0 m c) (256 * t.val + p) r := by
  have ht : t.val < 32 := Nat.lt_of_lt_of_eq t.isLt N_0
  rw [at2_fin, at2_eq _ (by omega) (by omega)]
  have e : V m c main_arg0 = arg0 m c := V_main_arg0 m c
  rw [← e]
  blk_simp [iblk]
  refine congrArg (V m c main_arg0) ?_
  blk_ext [idx_0]

theorem blk_1 (t : Fin cfg0.N) (p : Fin 256) (r : Fin 2048) : at2 (iblk m c 1 t) p r = at2 (arg1 m c) (256 * t.val + p) r := by
  have ht : t.val < 32 := Nat.lt_of_lt_of_eq t.isLt N_0
  rw [at2_fin, at2_eq _ (by omega) (by omega)]
  have e : V m c main_arg1 = arg1 m c := V_main_arg1 m c
  rw [← e]
  blk_simp [iblk]
  refine congrArg (V m c main_arg1) ?_
  blk_ext [idx_1]

theorem blk_2 (t : Fin cfg0.N) (p : Fin 256) (r : Fin 2048) : at2 (iblk m c 2 t) p r = at2 (arg2 m c) (256 * t.val + p) r := by
  have ht : t.val < 32 := Nat.lt_of_lt_of_eq t.isLt N_0
  rw [at2_fin, at2_eq _ (by omega) (by omega)]
  have e : V m c main_arg2 = arg2 m c := V_main_arg2 m c
  rw [← e]
  blk_simp [iblk]
  refine congrArg (V m c main_arg2) ?_
  blk_ext [idx_2]

theorem blk_3 (t : Fin cfg0.N) (r : Fin 2048) : at2 (iblk m c 3 t) 0 r = at2 (arg3 m c) 0 r := by
  rw [at2_eq _ (by omega) (by omega), at2_eq _ (by omega) (by omega)]
  have e : V m c main_arg3 = arg3 m c := V_main_arg3 m c
  rw [← e]
  blk_simp [iblk]
  refine congrArg (V m c main_arg3) ?_
  blk_ext [idx_3]

/-! ## The result arrays -/

/-- An entry of the gradient towards the layer's input. -/
def dx (x u h : FVec Ideal S8192x2048 .f32) (g : FVec Ideal S1x2048 .f32) (i j : ℕ) : EReal :=
  at2 h i j + (at2 u i j * at2 g 0 j * Ideal.rsqrt (ms fun k => at2 x i k)
    + at2 x i j * rowSlope (fun k => at2 x i k) (fun k => at2 u i k * at2 g 0 k)
    + rowSlope (fun k => at2 x i k) (fun k => at2 u i k * at2 g 0 k) * at2 x i j)

/-- A row's share of the gradient towards the weight's entry `j`. -/
def share (x u : FVec Ideal S8192x2048 .f32) (j i : ℕ) : EReal := at2 u i j * (at2 x i j * Ideal.rsqrt (ms fun k => at2 x i k))

theorem row_out (t : Fin cfg0.N) :
    (outsAt0 m c t.val t.isLt).1 = k0_pay3 (iblk m c 0 t) (iblk m c 1 t) (iblk m c 2 t) (iblk m c 3 t) := by
  by_cases h0 : t.val % 32 = 0
  · rw [outsAt0_A m c t h0]
    dsimp only
    rw [row_A]
  · rw [outsAt0_B m c t h0]
    dsimp only
    rw [row_B]

theorem dx_at (t : Fin cfg0.N) (p : Fin 256) (q : Fin 2048) :
    k0_pay3 (iblk m c 0 t) (iblk m c 1 t) (iblk m c 2 t) (iblk m c 3 t) (ix2 p q)
      = dx (arg0 m c) (arg1 m c) (arg2 m c) (arg3 m c) (256 * t.val + p) q := by
  refine (pay3_at (iblk m c 0 t) (iblk m c 1 t) (iblk m c 2 t) (iblk m c 3 t) p q).trans ?_
  simp only [blk_0, blk_1, blk_2, blk_3, dx]

theorem final_4 {G : FVec Ideal S8192x2048 .f32}
    (hG : ∀ (i : Fin 8192) (j : Fin 2048), G (ix2 i j) = dx (arg0 m c) (arg1 m c) (arg2 m c) (arg3 m c) i j) :
    (dats m 0 c).arrAt 4 cfg0.N = G := by
  refine (dats m 0 c).arrAt_eq_of_covers 4 _ (by decide +kernel) fun t hf y => ?_
  have ht : t.val < 32 := Nat.lt_of_lt_of_eq t.isLt N_0
  blk_simp
  rw [after0_4, row_out]
  obtain ⟨p, q, rfl⟩ : ∃ (p : Fin 256) (q : Fin 2048), y = ix2 p q := ⟨y 0, y 1, eq_ix2 y⟩
  refine (dx_at m c t p q).trans ((hG ⟨256 * t.val + p.val, by omega⟩ q).symm.trans (congrArg G ?_))
  blk_ext [idx_4]

/-- The rows' shares a point adds, -/
theorem point (t : Fin cfg0.N) (q : Fin 2048) (w : EReal) :
    w + ∑ r : Fin 256, at2 (iblk m c 1 t) r q * (at2 (iblk m c 0 t) r q * Ideal.rsqrt (ms fun k => at2 (iblk m c 0 t) r k))
      = w + ∑ r : Fin 256, share (arg0 m c) (arg1 m c) q (256 * (t.val % 32) + r) := by
  have ht : t.val < 32 := Nat.lt_of_lt_of_eq t.isLt N_0
  simp only [blk_0, blk_1, share, Nat.mod_eq_of_lt ht]

/-- and the sum after every point. -/
theorem acc (p : Fin 1) (q : Fin 2048) (n : ℕ) (h : n < cfg0.N) :
    (outsAt0 m c n h).2 (ix2 p q) = ∑ k ∈ Finset.range (256 * (n % 32 + 1)), share (arg0 m c) (arg1 m c) q k := by
  refine blocks_sum (by decide) (fun n h => (outsAt0 m c n h).2 (ix2 p q)) (fun _ => share (arg0 m c) (arg1 m c) q) (fun n h h0 => ?_) (fun n h h0 => ?_) n h
  · rw [outsAt0_A m c ⟨n, h⟩ h0]
    dsimp only
    rw [acc_A]
    refine (pay5_at (iblk m c 0 ⟨n, h⟩) (iblk m c 1 ⟨n, h⟩) _ p q).trans ((point m c ⟨n, h⟩ q _).trans ?_)
    rw [pay4_at, zero_add]
  · rw [outsAt0_B m c ⟨n, h⟩ h0]
    dsimp only
    rw [acc_B]
    exact (pay5_at (iblk m c 0 ⟨n, h⟩) (iblk m c 1 ⟨n, h⟩) _ p q).trans (point m c ⟨n, h⟩ q _)

theorem final_5 {G : FVec Ideal S1x2048 .f32} (hG : ∀ (i : Fin 1) (j : Fin 2048), G (ix2 i j) = ∑ k : Fin 8192, share (arg0 m c) (arg1 m c) j k) :
    (dats m 0 c).arrAt 5 cfg0.N = G := by
  refine (dats m 0 c).arrAt_eq_of_covers 5 _ (by decide +kernel) fun t hf y => ?_
  have h3 : t.val % 32 = 31 := (flush0_5 t).mp hf
  blk_simp
  rw [after0_5]
  obtain ⟨p, q, rfl⟩ : ∃ (p : Fin 1) (q : Fin 2048), y = ix2 p q := ⟨y 0, y 1, eq_ix2 y⟩
  refine (acc m c p q t.val t.isLt).trans (Eq.trans ?_ ((hG p q).symm.trans (congrArg G ?_)))
  · rw [h3, Finset.sum_range]
  · blk_ext [idx_5]

/-! ## The reference -/

section Ref
open Cert.RefNormBwdIdeal.Gen

/-- The reference's mean squares. -/
def refMs (x : FVec Ideal Cert.RefNormBwdIdeal.S8192x2048 .f32) : FVec Ideal Cert.RefNormBwdIdeal.S8192x1 .f32 :=
  addf (Host.divf (broadcastInDim Cert.RefNormBwdIdeal.S8192x1 ![0] bcast_S8192_S8192x1_0
      (Host.reduceAdd (mulf x x) (constant Cert.RefNormBwdIdeal.S_ .f32 0x00000000#32) reducesTo_S8192x2048_S8192_d1 h_S_))
    (broadcastInDim Cert.RefNormBwdIdeal.S8192x1 ![] bcast_S_S8192x1 (constant Cert.RefNormBwdIdeal.S_ .f32 0x45000000#32)))
    (broadcastInDim Cert.RefNormBwdIdeal.S8192x1 ![] bcast_S_S8192x1 (constant Cert.RefNormBwdIdeal.S_ .f32 0x358637BD#32))

theorem refMs_at (x : FVec Ideal Cert.RefNormBwdIdeal.S8192x2048 .f32) (p : Fin 8192) (q : Fin 1) : refMs x (ix2 p q) = ms fun k => at2 x p k := by
  unfold ms
  simp only [at2_fin]
  pointwise [refMs]

/-- The reference's slopes of the rows, for the gradients `g` towards the scaled rows. -/
def refSlope (x g : FVec Ideal Cert.RefNormBwdIdeal.S8192x2048 .f32) : FVec Ideal Cert.RefNormBwdIdeal.S8192 .f32 :=
  Host.reduceAdd (Host.divf (mulf (shapeCast Cert.RefNormBwdIdeal.S8192x1
      (Host.reduceAdd (mulf x g) (constant Cert.RefNormBwdIdeal.S_ .f32 0x00000000#32) reducesTo_S8192x2048_S8192_d1 h_S_) shapeCasts_S8192_S8192x1)
      (mulf (broadcastInDim Cert.RefNormBwdIdeal.S8192x1 ![] bcast_S_S8192x1 (constant Cert.RefNormBwdIdeal.S_ .f32 0xBF000000#32))
        (Host.divf (Host.rsqrt (refMs x)) (refMs x))))
    (broadcastInDim Cert.RefNormBwdIdeal.S8192x1 ![] bcast_S_S8192x1 (constant Cert.RefNormBwdIdeal.S_ .f32 0x45000000#32)))
    (constant Cert.RefNormBwdIdeal.S_ .f32 0x00000000#32) reducesTo_S8192x1_S8192_d1 h_S_

theorem refSlope_at (x g : FVec Ideal Cert.RefNormBwdIdeal.S8192x2048 .f32) (p : Fin 8192) :
    refSlope x g (ix1 p) = rowSlope (fun k => at2 x p k) (fun k => at2 g p k) := by
  rw [rowSlope, ← refMs_at x p 0]
  simp only [at2_fin]
  pointwise [refSlope]
  exact Fin.sum_univ_one _

/-- The reference's gradients towards the scaled rows. -/
def refG (u : FVec Ideal Cert.RefNormBwdIdeal.S8192x2048 .f32) (g : FVec Ideal Cert.RefNormBwdIdeal.S1x2048 .f32) : FVec Ideal Cert.RefNormBwdIdeal.S8192x2048 .f32 :=
  mulf u (broadcastInDim Cert.RefNormBwdIdeal.S8192x2048 ![0, 1] bcast_S1x2048_S8192x2048_0_1 g)

theorem refG_at (u : FVec Ideal Cert.RefNormBwdIdeal.S8192x2048 .f32) (g : FVec Ideal Cert.RefNormBwdIdeal.S1x2048 .f32) (i : Fin 8192) (j : Fin 2048) :
    refG u g (ix2 i j) = at2 u i j * at2 g 0 j := by
  have e : at2 g 0 j = g (ix2 0 j) := at2_fin g 0 j
  rw [e, at2_fin]
  pointwise [refG]

/-- The reference's first result. -/
def refDx (x u h : FVec Ideal Cert.RefNormBwdIdeal.S8192x2048 .f32) (g : FVec Ideal Cert.RefNormBwdIdeal.S1x2048 .f32) : FVec Ideal Cert.RefNormBwdIdeal.S8192x2048 .f32 :=
  addf h (addf (addf (mulf (refG u g) (broadcastInDim Cert.RefNormBwdIdeal.S8192x2048 ![0, 1] bcast_S8192x1_S8192x2048_0_1 (Host.rsqrt (refMs x))))
    (mulf x (broadcastInDim Cert.RefNormBwdIdeal.S8192x2048 ![0] bcast_S8192_S8192x2048_0 (refSlope x (refG u g)))))
    (mulf (broadcastInDim Cert.RefNormBwdIdeal.S8192x2048 ![0] bcast_S8192_S8192x2048_0 (refSlope x (refG u g))) x))

theorem refDx_at (x u h : FVec Ideal Cert.RefNormBwdIdeal.S8192x2048 .f32) (g : FVec Ideal Cert.RefNormBwdIdeal.S1x2048 .f32) (i : Fin 8192) (j : Fin 2048) :
    refDx x u h g (ix2 i j) = dx x u h g i j := by
  have e : (fun k : Fin 2048 => at2 (refG u g) i k) = fun k : Fin 2048 => at2 u i k * at2 g 0 k := funext fun k => by rw [at2_fin, refG_at]
  rw [dx, ← e, ← refSlope_at, ← refMs_at x i 0, ← refG_at, at2_fin, at2_fin]
  pointwise [refDx]

/-- The reference's second result. -/
def refDw (x u : FVec Ideal Cert.RefNormBwdIdeal.S8192x2048 .f32) : FVec Ideal Cert.RefNormBwdIdeal.S1x2048 .f32 :=
  shapeCast Cert.RefNormBwdIdeal.S1x2048 (Host.reduceAdd (mulf (mulf x (broadcastInDim Cert.RefNormBwdIdeal.S8192x2048 ![0, 1] bcast_S8192x1_S8192x2048_0_1 (Host.rsqrt (refMs x)))) u)
    (constant Cert.RefNormBwdIdeal.S_ .f32 0x00000000#32) reducesTo_S8192x2048_S2048_d0 h_S_) Cert.RefNormBwdIdeal.Gen.shapeCasts_S2048_S1x2048

theorem refDw_at (x u : FVec Ideal Cert.RefNormBwdIdeal.S8192x2048 .f32) (i : Fin 1) (j : Fin 2048) :
    refDw x u (ix2 i j) = ∑ k : Fin 8192, share x u j k := by
  simp only [share, ← refMs_at x _ 0]
  simp only [at2_fin]
  pointwise [refDw]
  exact Finset.sum_congr rfl fun k _ => mul_comm _ _

end Ref

/-- The value claim. -/
theorem value : Cert.algebraic_NormBwdIdeal_RefNormBwdIdeal := fun m g m' g' _ hargs => by
  refine ⟨_, _, Value.run_blocks m g, (θ_run Cert.RefNormBwdIdeal.defs _ _).mono (fun r h c => ?_) (Cert.RefNormBwdIdeal.Value.run m' g')⟩
  refine ⟨(h c).1.trans ?_, (h c).2.1.trans ?_, (h c).2.2⟩
  · rw [(hargs c).1, (hargs c).2.1, (hargs c).2.2.1, (hargs c).2.2.2]
    exact (final_4 m c (refDx_at (arg0 m c) (arg1 m c) (arg2 m c) (arg3 m c))).symm
  · rw [(hargs c).1, (hargs c).2.1]
    exact (final_5 m c (refDw_at (arg0 m c) (arg1 m c))).symm

/-! ## The runs -/

/-- The printed program is its idealization: over the bits their bodies are equal, -/
theorem body_eq : @Cert.NormBwd.cc0_norm_pre_bwd Bits _ _ = @Cert.NormBwdIdeal.cc0_norm_pre_bwd Bits _ _ := by
  unfold Cert.NormBwd.cc0_norm_pre_bwd Cert.NormBwdIdeal.cc0_norm_pre_bwd
  rfl

/-- so are the programs of their body labels, -/
theorem defs0_eq : Cert.NormBwd.defs₀ (F := Bits) = Cert.NormBwdIdeal.defs₀ (F := Bits) := by
  refine congrArg Defs.onTc ?_
  funext l a
  match l, a with
  | 0, (t, s) =>
    exact
      congrFun (congrFun (congrFun (congrFun (congrFun (congrFun (congrFun (congrFun (congrFun
      (congrFun (congrFun (congrFun (congrFun body_eq _) _) _) _) _) _) _) _) _) _) _) _) _

/-- those of all labels, the pipeline's own included, -/
theorem defs_eq : Cert.NormBwd.defs (F := Bits) = Cert.NormBwdIdeal.defs (F := Bits) :=
  congrArg (Pipeline.defs (Cert.NormBwd.pcfgs (F := Bits))) defs0_eq

/-- and their host functions. -/
theorem main_eq : Cert.NormBwd.main (F := Bits) = Cert.NormBwdIdeal.main (F := Bits) := rfl

/-- So the one run serves both. -/
theorem frame : Cert.quiescent_NormBwd := fun m g _ =>
  (congrArg₂ (fun D B => θ_run D (onTc (τ := Cert.NormBwd.τ) B) ⟨m, fun _ => 0, g⟩ _)
    defs_eq main_eq).mpr (Cert.NormBwdIdeal.Gen.frame (F := Bits) m g)

/-- The reference runs, its arguments unchanged. -/
theorem ref_frame : Cert.quiescent_RefNormBwdIdeal := fun m g _ =>
  (θ_run Cert.RefNormBwdIdeal.defs _ _).mono (fun r h => ⟨fun c => (h c).2.2, sem_eq_zero_of_no_sems (by decide) r.2⟩) (Cert.RefNormBwdIdeal.Value.run m g)

end Cert.NormBwdIdeal.Grad

end
-- ==== Proof.PostBwd.lean ====
/- The gradients through the norm after a part of the layer, the residual sum, and the norm before the next part: the kernel's
   four results — towards the residual row, towards the part's output, and towards the two norms' weights — are the
   reference's. -/
module

public import proofs.«01_k».proof.Proof.NormBwd
public import proofs.«01_k».proof.Proof.Gen.PostBwd
public import proofs.«01_k».proof.Proof.Gen.PostBwdIdeal.Value
public import proofs.«01_k».proof.Proof.Gen.RefPostBwdIdeal.Run

@[expose] public section

noncomputable section

namespace Cert.PostBwdIdeal.Grad

open Idealize.ShloMosaic Idealize.ShloMosaic.TcCoe Idealize.SL Idealize.SL.Sem Gen Cert.Products Cert.Norm
open Idealize.ShloMosaic.Pipeline (Dat)
open Cert.NormBwdIdeal.Grad (refMs refMs_at refSlope refSlope_at refG refG_at refDw refDw_at share)
open scoped BigOperators

/-! ## The rows' mathematics -/

/-- A row of an array. -/
def row {a : ℕ} (x : (⟨2, ![a, 2048]⟩ : Shape).Idx → EReal) (i : ℕ) : Fin 2048 → EReal := fun k => at2 x i k

/-- The residual sum: the row and the scaled row of the part's output. -/
def hn (h m w : Fin 2048 → EReal) (j : Fin 2048) : EReal := h j + m j * Ideal.rsqrt (ms m) * w j

/-- The gradient towards the residual sum. -/
def dh (h m d n w v : Fin 2048 → EReal) (j : Fin 2048) : EReal := d j + dxRow (hn h m w) (fun k => n k * v k) j

/-- The gradient towards the part's output. -/
def dm (h m d n w v : Fin 2048 → EReal) (j : Fin 2048) : EReal := dxRow m (fun k => dh h m d n w v k * w k) j

/-- A row's share of the gradient towards the second norm's weight, -/
def sharePre (h m n w : Fin 2048 → EReal) (j : Fin 2048) : EReal := n j * (hn h m w j * Ideal.rsqrt (ms (hn h m w)))

/-- and towards the first's. -/
def sharePost (h m d n w v : Fin 2048 → EReal) (j : Fin 2048) : EReal := dh h m d n w v j * (m j * Ideal.rsqrt (ms m))

/-! ## A block's values -/

section Block
variable (h m d n : Vec Ideal S128x2048 .f32) (w v : Vec Ideal S1x2048 .f32) (p : Fin 128) (q : Fin 2048)

theorem row_0 (k : Fin 2048) : row w 0 k = w (ix2 0 k) := at2_fin w 0 k

theorem row_p (k : Fin 2048) : row h p k = h (ix2 p k) := at2_fin h p k

theorem pay2_at (z : Fin 1) : k0_pay2 m (ix2 p z) = Ideal.rsqrt (ms (row m p)) := by
  unfold ms
  simp only [row_p]
  pointwise [k0_pay2]

theorem pay3_at : k0_pay3 h m w (ix2 p q) = hn (row h p) (row m p) (row w 0) q := by
  rw [hn, ← pay2_at m p 0]
  simp only [row_p, row_0]
  pointwise [k0_pay3]

theorem row_pay3 : row (k0_pay3 h m w) p = hn (row h p) (row m p) (row w 0) := funext fun k => by rw [row_p, pay3_at]

theorem pay4_at (z : Fin 1) : k0_pay4 h m w (ix2 p z) = Ideal.rsqrt (ms (row (k0_pay3 h m w) p)) := by
  unfold ms
  simp only [row_p]
  pointwise [k0_pay4]

theorem pay7_at : k0_pay7 d (k0_pay4 h m w) (k0_pay6 h m n w v) (ix2 p q) = dh (row h p) (row m p) (row d p) (row n p) (row w 0) (row v 0) q := by
  rw [dh, ← row_pay3, dxRow_eq, ← pay4_at h m w p 0]
  simp only [row_p, row_0]
  pointwise [k0_pay7, k0_pay6, k0_pay5]

theorem row_pay7 : row (k0_pay7 d (k0_pay4 h m w) (k0_pay6 h m n w v)) p = dh (row h p) (row m p) (row d p) (row n p) (row w 0) (row v 0) :=
  funext fun k => by rw [row_p, pay7_at]

theorem pay10_at : k0_pay10 m d w (k0_pay2 m) (k0_pay4 h m w) (k0_pay6 h m n w v) (ix2 p q)
    = dm (row h p) (row m p) (row d p) (row n p) (row w 0) (row v 0) q := by
  rw [dm, ← row_pay7, dxRow_eq, ← pay2_at m p 0]
  simp only [row_p, row_0]
  pointwise [k0_pay10, k0_pay8]

theorem pay12_at (y : Vec Ideal S1x2048 .f32) (z : Fin 1) : k0_pay12 n (k0_pay5 h m w) y (ix2 z q)
    = y (ix2 z q) + ∑ r : Fin 128, sharePre (row h r) (row m r) (row n r) (row w 0) q := by
  simp only [sharePre, ← row_pay3, ← pay4_at h m w _ 0, row_p]
  pointwise [k0_pay12, k0_pay5]

theorem pay1_at (y : Vec Ideal S1x2048 .f32) (z : Fin 1) :
    k0_pay1 (k0_pay9 m d (k0_pay2 m) (k0_pay4 h m w) (k0_pay6 h m n w v)) y (ix2 z q)
      = y (ix2 z q) + ∑ r : Fin 128, sharePost (row h r) (row m r) (row d r) (row n r) (row w 0) (row v 0) q := by
  simp only [sharePost, ← row_pay7, ← pay2_at m _ 0, row_p]
  pointwise [k0_pay1, k0_pay9, k0_pay8]

theorem pay11_at (z : Fin 1) : (k0_pay11 (F := Ideal)) (ix2 z q) = 0 := by
  pointwise [k0_pay11]

theorem pay13_at (z : Fin 1) : (k0_pay13 (F := Ideal)) (ix2 z q) = 0 := by
  pointwise [k0_pay13]

end Block

/-! ## The cases' values -/

section Cases
variable {F : FTy → Type} [FloatOps F] (c : Dev nD) (i : grid0.Coords)
  (a0 : Memref sig .tc .vmem S128x2048 .f32) (h0 : a0.IsWhole) (a1 : Memref sig .tc .vmem S128x2048 .f32) (h1 : a1.IsWhole)
  (a2 : Memref sig .tc .vmem S128x2048 .f32) (h2 : a2.IsWhole) (a3 : Memref sig .tc .vmem S128x2048 .f32) (h3 : a3.IsWhole)
  (a4 : Memref sig .tc .vmem S1x2048 .f32) (h4 : a4.IsWhole) (a5 : Memref sig .tc .vmem S1x2048 .f32) (h5 : a5.IsWhole)
  (a6 : Memref sig .tc .vmem S128x2048 .f32) (h6 : a6.IsWhole) (a7 : Memref sig .tc .vmem S128x2048 .bf16) (h7 : a7.IsWhole)
  (a8 : Memref sig .tc .vmem S1x2048 .f32) (h8 : a8.IsWhole) (a9 : Memref sig .tc .vmem S1x2048 .f32) (h9 : a9.IsWhole)
  (x0 x1 x2 x3 : Vec F S128x2048 .f32) (x4 x5 y z : Vec F S1x2048 .f32)

theorem out_A_6 (c0 : cond0_0 i) (c1 : cond0_1 i) : out0_A_6 c i a0 h0 a1 h1 a2 h2 a3 h3 a4 h4 a5 h5 a6 h6 a7 h7 a8 h8 a9 h9 c0 c1 x0 x1 x2 x3 x4 x5 = k0_pay7 x2 (k0_pay4 x0 x1 x4) (k0_pay6 x0 x1 x3 x4 x5) := by
  unfold out0_A_6
  rw [View.read_writes_eq_canon _ _ _ (cover0_A_6 c i a0 h0 a1 h1 a2 h2 a3 h3 a4 h4 a5 h5 a6 h6 a7 h7 a8 h8 a9 h9 c0 c1 x0 x1 x2 x3 x4 x5)]
  unfold kernelRun0_A
  dsimp only
  sl_unfold_words
  rw [View.canon_unit_zero hz]
  simp only [View.readAt_eq_ld, h0.read_unread, h1.read_unread, h2.read_unread, h3.read_unread, h4.read_unread, h5.read_unread, View.ld_unit_zero (S := S128x2048) hz, View.ld_unit_zero (S := S1x2048) hz]

theorem out_A_7 (c0 : cond0_0 i) (c1 : cond0_1 i) : out0_A_7 c i a0 h0 a1 h1 a2 h2 a3 h3 a4 h4 a5 h5 a6 h6 a7 h7 a8 h8 a9 h9 c0 c1 x0 x1 x2 x3 x4 x5 = k0_pay10 x1 x2 x4 (k0_pay2 x1) (k0_pay4 x0 x1 x4) (k0_pay6 x0 x1 x3 x4 x5) := by
  unfold out0_A_7
  rw [View.read_writes_eq_canon _ _ _ (cover0_A_7 c i a0 h0 a1 h1 a2 h2 a3 h3 a4 h4 a5 h5 a6 h6 a7 h7 a8 h8 a9 h9 c0 c1 x0 x1 x2 x3 x4 x5)]
  unfold kernelRun0_A
  dsimp only
  sl_unfold_words
  rw [View.canon_unit_zero hz]
  simp only [View.readAt_eq_ld, h0.read_unread, h1.read_unread, h2.read_unread, h3.read_unread, h4.read_unread, h5.read_unread, View.ld_unit_zero (S := S128x2048) hz, View.ld_unit_zero (S := S1x2048) hz]

theorem out_A_8 (c0 : cond0_0 i) (c1 : cond0_1 i) : out0_A_8 c i a0 h0 a1 h1 a2 h2 a3 h3 a4 h4 a5 h5 a6 h6 a7 h7 a8 h8 a9 h9 c0 c1 x0 x1 x2 x3 x4 x5 = k0_pay12 x3 (k0_pay5 x0 x1 x4) k0_pay11 := by
  unfold out0_A_8
  rw [View.read_writes_eq_canon _ _ _ (cover0_A_8 c i a0 h0 a1 h1 a2 h2 a3 h3 a4 h4 a5 h5 a6 h6 a7 h7 a8 h8 a9 h9 c0 c1 x0 x1 x2 x3 x4 x5)]
  unfold kernelRun0_A
  dsimp only
  sl_unfold_words
  rw [View.canon_cons_unit_zero hz, View.readCov_unit_zero (S := S1x2048) _ hz]
  simp only [View.readAt_eq_ld, h0.read_unread, h1.read_unread, h2.read_unread, h3.read_unread, h4.read_unread, h5.read_unread, View.ld_unit_zero (S := S128x2048) hz, View.ld_unit_zero (S := S1x2048) hz]

theorem out_A_9 (c0 : cond0_0 i) (c1 : cond0_1 i) : out0_A_9 c i a0 h0 a1 h1 a2 h2 a3 h3 a4 h4 a5 h5 a6 h6 a7 h7 a8 h8 a9 h9 c0 c1 x0 x1 x2 x3 x4 x5 = k0_pay1 (k0_pay9 x1 x2 (k0_pay2 x1) (k0_pay4 x0 x1 x4) (k0_pay6 x0 x1 x3 x4 x5)) k0_pay13 := by
  unfold out0_A_9
  rw [View.read_writes_eq_canon _ _ _ (cover0_A_9 c i a0 h0 a1 h1 a2 h2 a3 h3 a4 h4 a5 h5 a6 h6 a7 h7 a8 h8 a9 h9 c0 c1 x0 x1 x2 x3 x4 x5)]
  unfold kernelRun0_A
  dsimp only
  sl_unfold_words
  rw [View.canon_cons_unit_zero hz, View.readCov_unit_zero (S := S1x2048) _ hz]
  simp only [View.readAt_eq_ld, h0.read_unread, h1.read_unread, h2.read_unread, h3.read_unread, h4.read_unread, h5.read_unread, View.ld_unit_zero (S := S128x2048) hz, View.ld_unit_zero (S := S1x2048) hz]

theorem out_B_6 (c0 : ¬cond0_0 i) (c1 : ¬cond0_1 i) : out0_B_6 c i a0 h0 a1 h1 a2 h2 a3 h3 a4 h4 a5 h5 a6 h6 a7 h7 a8 h8 a9 h9 c0 c1 x0 x1 x2 x3 x4 x5 y z = k0_pay7 x2 (k0_pay4 x0 x1 x4) (k0_pay6 x0 x1 x3 x4 x5) := by
  unfold out0_B_6
  rw [View.read_writes_eq_canon _ _ _ (cover0_B_6 c i a0 h0 a1 h1 a2 h2 a3 h3 a4 h4 a5 h5 a6 h6 a7 h7 a8 h8 a9 h9 c0 c1 x0 x1 x2 x3 x4 x5 y z)]
  unfold kernelRun0_B
  dsimp only
  sl_unfold_words
  rw [View.canon_unit_zero hz]
  simp only [View.readAt_eq_ld, h0.read_unread, h1.read_unread, h2.read_unread, h3.read_unread, h4.read_unread, h5.read_unread, View.ld_unit_zero (S := S128x2048) hz, View.ld_unit_zero (S := S1x2048) hz]

theorem out_B_7 (c0 : ¬cond0_0 i) (c1 : ¬cond0_1 i) : out0_B_7 c i a0 h0 a1 h1 a2 h2 a3 h3 a4 h4 a5 h5 a6 h6 a7 h7 a8 h8 a9 h9 c0 c1 x0 x1 x2 x3 x4 x5 y z = k0_pay10 x1 x2 x4 (k0_pay2 x1) (k0_pay4 x0 x1 x4) (k0_pay6 x0 x1 x3 x4 x5) := by
  unfold out0_B_7
  rw [View.read_writes_eq_canon _ _ _ (cover0_B_7 c i a0 h0 a1 h1 a2 h2 a3 h3 a4 h4 a5 h5 a6 h6 a7 h7 a8 h8 a9 h9 c0 c1 x0 x1 x2 x3 x4 x5 y z)]
  unfold kernelRun0_B
  dsimp only
  sl_unfold_words
  rw [View.canon_unit_zero hz]
  simp only [View.readAt_eq_ld, h0.read_unread, h1.read_unread, h2.read_unread, h3.read_unread, h4.read_unread, h5.read_unread, View.ld_unit_zero (S := S128x2048) hz, View.ld_unit_zero (S := S1x2048) hz]

theorem out_B_8 (c0 : ¬cond0_0 i) (c1 : ¬cond0_1 i) : out0_B_8 c i a0 h0 a1 h1 a2 h2 a3 h3 a4 h4 a5 h5 a6 h6 a7 h7 a8 h8 a9 h9 c0 c1 x0 x1 x2 x3 x4 x5 y z = k0_pay12 x3 (k0_pay5 x0 x1 x4) y := by
  unfold out0_B_8
  rw [View.read_writes_eq_canon _ _ _ (cover0_B_8 c i a0 h0 a1 h1 a2 h2 a3 h3 a4 h4 a5 h5 a6 h6 a7 h7 a8 h8 a9 h9 c0 c1 x0 x1 x2 x3 x4 x5 y z)]
  unfold kernelRun0_B
  dsimp only
  sl_unfold_words
  rw [View.canon_unit_zero hz]
  simp only [View.readAt_eq_ld, h0.read_unread, h1.read_unread, h2.read_unread, h3.read_unread, h4.read_unread, h5.read_unread, h8.read_unread, View.ld_unit_zero (S := S128x2048) hz, View.ld_unit_zero (S := S1x2048) hz]

theorem out_B_9 (c0 : ¬cond0_0 i) (c1 : ¬cond0_1 i) : out0_B_9 c i a0 h0 a1 h1 a2 h2 a3 h3 a4 h4 a5 h5 a6 h6 a7 h7 a8 h8 a9 h9 c0 c1 x0 x1 x2 x3 x4 x5 y z = k0_pay1 (k0_pay9 x1 x2 (k0_pay2 x1) (k0_pay4 x0 x1 x4) (k0_pay6 x0 x1 x3 x4 x5)) z := by
  unfold out0_B_9
  rw [View.read_writes_eq_canon _ _ _ (cover0_B_9 c i a0 h0 a1 h1 a2 h2 a3 h3 a4 h4 a5 h5 a6 h6 a7 h7 a8 h8 a9 h9 c0 c1 x0 x1 x2 x3 x4 x5 y z)]
  unfold kernelRun0_B
  dsimp only
  sl_unfold_words
  rw [View.canon_unit_zero hz]
  simp only [View.readAt_eq_ld, h0.read_unread, h1.read_unread, h2.read_unread, h3.read_unread, h4.read_unread, h5.read_unread, h9.read_unread, View.ld_unit_zero (S := S128x2048) hz, View.ld_unit_zero (S := S1x2048) hz]

end Cases

/-! ## The blocks -/

variable (m : (ℓ : Loc nD τ sig) → Buf (Elt Ideal) ℓ) (c : Dev nD)

theorem idx_0 : ∀ t : Fin cfg0.N, win0_0.index t = ![t.val, 0] := by decide +kernel
theorem idx_1 : ∀ t : Fin cfg0.N, win0_1.index t = ![t.val, 0] := by decide +kernel
theorem idx_2 : ∀ t : Fin cfg0.N, win0_2.index t = ![t.val, 0] := by decide +kernel
theorem idx_3 : ∀ t : Fin cfg0.N, win0_3.index t = ![t.val, 0] := by decide +kernel
theorem idx_4 : ∀ t : Fin cfg0.N, win0_4.index t = ![0, 0] := by decide +kernel
theorem idx_5 : ∀ t : Fin cfg0.N, win0_5.index t = ![0, 0] := by decide +kernel
theorem idx_6 : ∀ t : Fin cfg0.N, win0_6.index t = ![t.val, 0] := by decide +kernel
theorem idx_7 : ∀ t : Fin cfg0.N, win0_7.index t = ![t.val, 0] := by decide +kernel
theorem idx_8 : ∀ t : Fin cfg0.N, win0_8.index t = ![0, 0] := by decide +kernel
theorem idx_9 : ∀ t : Fin cfg0.N, win0_9.index t = ![0, 0] := by decide +kernel

def arg0 : FVec Ideal S8192x2048 .f32 := m ((c.tc : Thread nD τ).loc main_arg0)
def arg1 : FVec Ideal S8192x2048 .f32 := m ((c.tc : Thread nD τ).loc main_arg1)
def arg2 : FVec Ideal S8192x2048 .f32 := m ((c.tc : Thread nD τ).loc main_arg2)
def arg3 : FVec Ideal S8192x2048 .f32 := m ((c.tc : Thread nD τ).loc main_arg3)
def arg4 : FVec Ideal S1x2048 .f32 := m ((c.tc : Thread nD τ).loc main_arg4)
def arg5 : FVec Ideal S1x2048 .f32 := m ((c.tc : Thread nD τ).loc main_arg5)

theorem blk_0 (t : Fin cfg0.N) (p : Fin 128) : row (iblk m c 0 t) p = row (arg0 m c) (128 * t.val + p) := by
  have ht : t.val < 64 := Nat.lt_of_lt_of_eq t.isLt N_0
  funext r
  rw [row, row, at2_fin, at2_eq _ (by omega) (by omega)]
  have e : V m c main_arg0 = arg0 m c := V_main_arg0 m c
  rw [← e]
  blk_simp [iblk]
  refine congrArg (V m c main_arg0) ?_
  blk_ext [idx_0]

theorem blk_1 (t : Fin cfg0.N) (p : Fin 128) : row (iblk m c 1 t) p = row (arg1 m c) (128 * t.val + p) := by
  have ht : t.val < 64 := Nat.lt_of_lt_of_eq t.isLt N_0
  funext r
  rw [row, row, at2_fin, at2_eq _ (by omega) (by omega)]
  have e : V m c main_arg1 = arg1 m c := V_main_arg1 m c
  rw [← e]
  blk_simp [iblk]
  refine congrArg (V m c main_arg1) ?_
  blk_ext [idx_1]

theorem blk_2 (t : Fin cfg0.N) (p : Fin 128) : row (iblk m c 2 t) p = row (arg2 m c) (128 * t.val + p) := by
  have ht : t.val < 64 := Nat.lt_of_lt_of_eq t.isLt N_0
  funext r
  rw [row, row, at2_fin, at2_eq _ (by omega) (by omega)]
  have e : V m c main_arg2 = arg2 m c := V_main_arg2 m c
  rw [← e]
  blk_simp [iblk]
  refine congrArg (V m c main_arg2) ?_
  blk_ext [idx_2]

theorem blk_3 (t : Fin cfg0.N) (p : Fin 128) : row (iblk m c 3 t) p = row (arg3 m c) (128 * t.val + p) := by
  have ht : t.val < 64 := Nat.lt_of_lt_of_eq t.isLt N_0
  funext r
  rw [row, row, at2_fin, at2_eq _ (by omega) (by omega)]
  have e : V m c main_arg3 = arg3 m c := V_main_arg3 m c
  rw [← e]
  blk_simp [iblk]
  refine congrArg (V m c main_arg3) ?_
  blk_ext [idx_3]

theorem blk_4 (t : Fin cfg0.N) : row (iblk m c 4 t) 0 = row (arg4 m c) 0 := by
  funext r
  rw [row, row, at2_eq _ (by omega) (by omega), at2_eq _ (by omega) (by omega)]
  have e : V m c main_arg4 = arg4 m c := V_main_arg4 m c
  rw [← e]
  blk_simp [iblk]
  refine congrArg (V m c main_arg4) ?_
  blk_ext [idx_4]

theorem blk_5 (t : Fin cfg0.N) : row (iblk m c 5 t) 0 = row (arg5 m c) 0 := by
  funext r
  rw [row, row, at2_eq _ (by omega) (by omega), at2_eq _ (by omega) (by omega)]
  have e : V m c main_arg5 = arg5 m c := V_main_arg5 m c
  rw [← e]
  blk_simp [iblk]
  refine congrArg (V m c main_arg5) ?_
  blk_ext [idx_5]

/-! ## The result arrays -/

theorem outs (t : Fin cfg0.N) :
    (outsAt0 m c t.val t.isLt).1 = k0_pay7 (iblk m c 2 t) (k0_pay4 (iblk m c 0 t) (iblk m c 1 t) (iblk m c 4 t))
        (k0_pay6 (iblk m c 0 t) (iblk m c 1 t) (iblk m c 3 t) (iblk m c 4 t) (iblk m c 5 t))
      ∧ (outsAt0 m c t.val t.isLt).2.1 = k0_pay10 (iblk m c 1 t) (iblk m c 2 t) (iblk m c 4 t) (k0_pay2 (iblk m c 1 t))
        (k0_pay4 (iblk m c 0 t) (iblk m c 1 t) (iblk m c 4 t)) (k0_pay6 (iblk m c 0 t) (iblk m c 1 t) (iblk m c 3 t) (iblk m c 4 t) (iblk m c 5 t)) := by
  by_cases h0 : t.val % 64 = 0
  · rw [outsAt0_A m c t h0 h0]
    dsimp only
    rw [out_A_6, out_A_7]
    exact ⟨rfl, rfl⟩
  · rw [outsAt0_B m c t h0 h0]
    dsimp only
    rw [out_B_6, out_B_7]
    exact ⟨rfl, rfl⟩

theorem final_6 {G : FVec Ideal S8192x2048 .f32} (hG : ∀ (i : Fin 8192) (j : Fin 2048), G (ix2 i j)
      = dh (row (arg0 m c) i) (row (arg1 m c) i) (row (arg2 m c) i) (row (arg3 m c) i) (row (arg4 m c) 0) (row (arg5 m c) 0) j) :
    (dats m 0 c).arrAt 6 cfg0.N = G := by
  refine (dats m 0 c).arrAt_eq_of_covers 6 _ (by decide +kernel) fun t hf y => ?_
  have ht : t.val < 64 := Nat.lt_of_lt_of_eq t.isLt N_0
  blk_simp
  rw [after0_6, (outs m c t).1]
  obtain ⟨p, q, rfl⟩ : ∃ (p : Fin 128) (q : Fin 2048), y = ix2 p q := ⟨y 0, y 1, eq_ix2 y⟩
  refine (pay7_at (iblk m c 0 t) (iblk m c 1 t) (iblk m c 2 t) (iblk m c 3 t) (iblk m c 4 t) (iblk m c 5 t) p q).trans ?_
  rw [blk_0, blk_1, blk_2, blk_3, blk_4, blk_5]
  refine (hG ⟨128 * t.val + p.val, by omega⟩ q).symm.trans (congrArg G ?_)
  blk_ext [idx_6]

theorem final_7 {G : FVec Ideal S8192x2048 .bf16} (hG : ∀ (i : Fin 8192) (j : Fin 2048), G (ix2 i j)
      = dm (row (arg0 m c) i) (row (arg1 m c) i) (row (arg2 m c) i) (row (arg3 m c) i) (row (arg4 m c) 0) (row (arg5 m c) 0) j) :
    (dats m 0 c).arrAt 7 cfg0.N = G := by
  refine (dats m 0 c).arrAt_eq_of_covers 7 _ (by decide +kernel) fun t hf y => ?_
  have ht : t.val < 64 := Nat.lt_of_lt_of_eq t.isLt N_0
  blk_simp
  rw [after0_7, (outs m c t).2]
  obtain ⟨p, q, rfl⟩ : ∃ (p : Fin 128) (q : Fin 2048), y = ix2 p q := ⟨y 0, y 1, eq_ix2 y⟩
  refine (pay10_at (iblk m c 0 t) (iblk m c 1 t) (iblk m c 2 t) (iblk m c 3 t) (iblk m c 4 t) (iblk m c 5 t) p q).trans ?_
  rw [blk_0, blk_1, blk_2, blk_3, blk_4, blk_5]
  refine (hG ⟨128 * t.val + p.val, by omega⟩ q).symm.trans (congrArg G ?_)
  blk_ext [idx_7]

/-- The share of the second norm's weight, of a row of the arrays, -/
def rowPre (q : Fin 2048) (i : ℕ) : EReal := sharePre (row (arg0 m c) i) (row (arg1 m c) i) (row (arg3 m c) i) (row (arg4 m c) 0) q

/-- and of the first's. -/
def rowPost (q : Fin 2048) (i : ℕ) : EReal :=
  sharePost (row (arg0 m c) i) (row (arg1 m c) i) (row (arg2 m c) i) (row (arg3 m c) i) (row (arg4 m c) 0) (row (arg5 m c) 0) q

/-- A point adds its rows' shares, -/
theorem point_8 (t : Fin cfg0.N) (y : Vec Ideal S1x2048 .f32) (p : Fin 1) (q : Fin 2048) :
    k0_pay12 (iblk m c 3 t) (k0_pay5 (iblk m c 0 t) (iblk m c 1 t) (iblk m c 4 t)) y (ix2 p q)
      = y (ix2 p q) + ∑ r : Fin 128, rowPre m c q (128 * (t.val % 64) + r) := by
  have ht : t.val < 64 := Nat.lt_of_lt_of_eq t.isLt N_0
  refine (pay12_at (iblk m c 0 t) (iblk m c 1 t) (iblk m c 3 t) (iblk m c 4 t) q y p).trans ?_
  simp only [blk_0, blk_1, blk_3, blk_4, rowPre, Nat.mod_eq_of_lt ht]

theorem point_9 (t : Fin cfg0.N) (y : Vec Ideal S1x2048 .f32) (p : Fin 1) (q : Fin 2048) :
    k0_pay1 (k0_pay9 (iblk m c 1 t) (iblk m c 2 t) (k0_pay2 (iblk m c 1 t)) (k0_pay4 (iblk m c 0 t) (iblk m c 1 t) (iblk m c 4 t))
        (k0_pay6 (iblk m c 0 t) (iblk m c 1 t) (iblk m c 3 t) (iblk m c 4 t) (iblk m c 5 t))) y (ix2 p q)
      = y (ix2 p q) + ∑ r : Fin 128, rowPost m c q (128 * (t.val % 64) + r) := by
  have ht : t.val < 64 := Nat.lt_of_lt_of_eq t.isLt N_0
  refine (pay1_at (iblk m c 0 t) (iblk m c 1 t) (iblk m c 2 t) (iblk m c 3 t) (iblk m c 4 t) (iblk m c 5 t) q y p).trans ?_
  simp only [blk_0, blk_1, blk_2, blk_3, blk_4, blk_5, rowPost, Nat.mod_eq_of_lt ht]

/-- and the sums after every point. -/
theorem acc_8 (p : Fin 1) (q : Fin 2048) (n : ℕ) (h : n < cfg0.N) :
    (outsAt0 m c n h).2.2.1 (ix2 p q) = ∑ k ∈ Finset.range (128 * (n % 64 + 1)), rowPre m c q k := by
  refine blocks_sum (by decide) (fun n h => (outsAt0 m c n h).2.2.1 (ix2 p q)) (fun _ => rowPre m c q) (fun n h h0 => ?_) (fun n h h0 => ?_) n h
  · rw [outsAt0_A m c ⟨n, h⟩ h0 h0]
    dsimp only
    rw [out_A_8]
    refine (point_8 m c ⟨n, h⟩ _ p q).trans ?_
    rw [pay11_at, zero_add]
  · rw [outsAt0_B m c ⟨n, h⟩ h0 h0]
    dsimp only
    rw [out_B_8]
    exact point_8 m c ⟨n, h⟩ _ p q

theorem acc_9 (p : Fin 1) (q : Fin 2048) (n : ℕ) (h : n < cfg0.N) :
    (outsAt0 m c n h).2.2.2 (ix2 p q) = ∑ k ∈ Finset.range (128 * (n % 64 + 1)), rowPost m c q k := by
  refine blocks_sum (by decide) (fun n h => (outsAt0 m c n h).2.2.2 (ix2 p q)) (fun _ => rowPost m c q) (fun n h h0 => ?_) (fun n h h0 => ?_) n h
  · rw [outsAt0_A m c ⟨n, h⟩ h0 h0]
    dsimp only
    rw [out_A_9]
    refine (point_9 m c ⟨n, h⟩ _ p q).trans ?_
    rw [pay13_at, zero_add]
  · rw [outsAt0_B m c ⟨n, h⟩ h0 h0]
    dsimp only
    rw [out_B_9]
    exact point_9 m c ⟨n, h⟩ _ p q

theorem final_8 {G : FVec Ideal S1x2048 .f32} (hG : ∀ (i : Fin 1) (j : Fin 2048), G (ix2 i j) = ∑ k : Fin 8192, rowPre m c j k) :
    (dats m 0 c).arrAt 8 cfg0.N = G := by
  refine (dats m 0 c).arrAt_eq_of_covers 8 _ (by decide +kernel) fun t hf y => ?_
  have h3 : t.val % 64 = 63 := (flush0_8 t).mp hf
  blk_simp
  rw [after0_8]
  obtain ⟨p, q, rfl⟩ : ∃ (p : Fin 1) (q : Fin 2048), y = ix2 p q := ⟨y 0, y 1, eq_ix2 y⟩
  refine (acc_8 m c p q t.val t.isLt).trans (Eq.trans ?_ ((hG p q).symm.trans (congrArg G ?_)))
  · rw [h3, Finset.sum_range]
  · blk_ext [idx_8]

theorem final_9 {G : FVec Ideal S1x2048 .f32} (hG : ∀ (i : Fin 1) (j : Fin 2048), G (ix2 i j) = ∑ k : Fin 8192, rowPost m c j k) :
    (dats m 0 c).arrAt 9 cfg0.N = G := by
  refine (dats m 0 c).arrAt_eq_of_covers 9 _ (by decide +kernel) fun t hf y => ?_
  have h3 : t.val % 64 = 63 := (flush0_9 t).mp hf
  blk_simp
  rw [after0_9]
  obtain ⟨p, q, rfl⟩ : ∃ (p : Fin 1) (q : Fin 2048), y = ix2 p q := ⟨y 0, y 1, eq_ix2 y⟩
  refine (acc_9 m c p q t.val t.isLt).trans (Eq.trans ?_ ((hG p q).symm.trans (congrArg G ?_)))
  · rw [h3, Finset.sum_range]
  · blk_ext [idx_9]

/-! ## The reference -/

section Ref
open Cert.RefPostBwdIdeal.Gen

variable (h u d n : FVec Ideal Cert.RefPostBwdIdeal.S8192x2048 .f32) (w v : FVec Ideal Cert.RefPostBwdIdeal.S1x2048 .f32)
  (i : Fin 8192) (j : Fin 2048)

theorem row_i : row h i j = h (ix2 i j) := at2_fin h i j

/-- The reference's residual sums. -/
def refHn : FVec Ideal Cert.RefPostBwdIdeal.S8192x2048 .f32 :=
  addf h (mulf (mulf u (broadcastInDim Cert.RefPostBwdIdeal.S8192x2048 ![0, 1] bcast_S8192x1_S8192x2048_0_1 (Host.rsqrt (refMs u))))
    (broadcastInDim Cert.RefPostBwdIdeal.S8192x2048 ![0, 1] bcast_S1x2048_S8192x2048_0_1 w))

theorem refHn_at : refHn h u w (ix2 i j) = hn (row h i) (row u i) (row w 0) j := by
  have e : refMs u (ix2 i 0) = ms (row u i) := refMs_at u i 0
  rw [hn, ← e, row_0, row_i, row_i]
  pointwise [refHn]

theorem row_refHn : row (refHn h u w) i = hn (row h i) (row u i) (row w 0) := funext fun k => by rw [row_i, refHn_at]

/-- The reference's gradient towards rows that are scaled. -/
def refD (c x g : FVec Ideal Cert.RefPostBwdIdeal.S8192x2048 .f32) : FVec Ideal Cert.RefPostBwdIdeal.S8192x2048 .f32 :=
  addf (addf c (mulf x (broadcastInDim Cert.RefPostBwdIdeal.S8192x2048 ![0] bcast_S8192_S8192x2048_0 (refSlope x g))))
    (mulf (broadcastInDim Cert.RefPostBwdIdeal.S8192x2048 ![0] bcast_S8192_S8192x2048_0 (refSlope x g)) x)

/-- Its first addend. -/
def refA (x g : FVec Ideal Cert.RefPostBwdIdeal.S8192x2048 .f32) : FVec Ideal Cert.RefPostBwdIdeal.S8192x2048 .f32 :=
  mulf g (broadcastInDim Cert.RefPostBwdIdeal.S8192x2048 ![0, 1] bcast_S8192x1_S8192x2048_0_1 (Host.rsqrt (refMs x)))

theorem refA_at (x g : FVec Ideal Cert.RefPostBwdIdeal.S8192x2048 .f32) : refA x g (ix2 i j) = row g i j * Ideal.rsqrt (ms (row x i)) := by
  have e : refMs x (ix2 i 0) = ms (row x i) := refMs_at x i 0
  rw [← e, row_i]
  pointwise [refA]

theorem refD_at (c x g : FVec Ideal Cert.RefPostBwdIdeal.S8192x2048 .f32) :
    refD c x g (ix2 i j) = c (ix2 i j) + row x i j * rowSlope (row x i) (row g i) + rowSlope (row x i) (row g i) * row x i j := by
  have e : refSlope x g (ix1 i) = rowSlope (row x i) (row g i) := refSlope_at x g i
  rw [← e, row_i]
  pointwise [refD]

theorem row_refG : row (refG n v) i = fun k => row n i k * row v 0 k := funext fun k => by rw [row_i, refG_at]; rfl

/-- The reference's gradient towards the residual sums. -/
def refDh : FVec Ideal Cert.RefPostBwdIdeal.S8192x2048 .f32 :=
  refD (addf d (refA (refHn h u w) (refG n v))) (refHn h u w) (refG n v)

theorem refDh_at : refDh h u d n w v (ix2 i j) = dh (row h i) (row u i) (row d i) (row n i) (row w 0) (row v 0) j := by
  have e : addf d (refA (refHn h u w) (refG n v)) (ix2 i j) = row d i j + refA (refHn h u w) (refG n v) (ix2 i j) := by
    rw [row_i]
    pointwise []
  rw [refDh, refD_at, e, refA_at, row_refG, row_refHn, dh, dxRow, add_assoc, add_assoc, add_assoc]

/-- The same, as the reference hands it on. -/
def refDh' : FVec Ideal Cert.RefPostBwdIdeal.S8192x2048 .f32 :=
  shapeCast Cert.RefPostBwdIdeal.S8192x2048 (refDh h u d n w v) shapeCasts_S8192x2048_S8192x2048

theorem row_refDh' : row (refDh' h u d n w v) i = dh (row h i) (row u i) (row d i) (row n i) (row w 0) (row v 0) := funext fun k => by
  rw [row_i, ← refDh_at]
  pointwise [refDh']

/-- The reference's gradient towards the part's output. -/
def refDm : FVec Ideal Cert.RefPostBwdIdeal.S8192x2048 .bf16 :=
  truncf .bf16 (refD (refA u (refG (refDh' h u d n w v) w)) u (refG (refDh' h u d n w v) w)) Cert.RefPostBwdIdeal.Gen.bitsLt_bf16_f32

theorem refDm_at : refDm h u d n w v (ix2 i j) = dm (row h i) (row u i) (row d i) (row n i) (row w 0) (row v 0) j := by
  have e : refDm h u d n w v (ix2 i j) = refD (refA u (refG (refDh' h u d n w v) w)) u (refG (refDh' h u d n w v) w) (ix2 i j) := by
    pointwise [refDm]
  rw [e, refD_at, refA_at, row_refG, row_refDh', dm, dxRow]

end Ref

theorem refPre_at (i : Fin 1) (j : Fin 2048) : refDw (refHn (arg0 m c) (arg1 m c) (arg4 m c)) (arg3 m c) (ix2 i j) = ∑ k : Fin 8192, rowPre m c j k := by
  refine (refDw_at _ _ i j).trans (Finset.sum_congr rfl fun k _ => ?_)
  rw [rowPre, sharePre, ← row_refHn]
  rfl

theorem refPost_at (i : Fin 1) (j : Fin 2048) :
    refDw (arg1 m c) (refDh' (arg0 m c) (arg1 m c) (arg2 m c) (arg3 m c) (arg4 m c) (arg5 m c)) (ix2 i j) = ∑ k : Fin 8192, rowPost m c j k := by
  refine (refDw_at _ _ i j).trans (Finset.sum_congr rfl fun k _ => ?_)
  rw [rowPost, sharePost, ← row_refDh']
  rfl

/-- The value claim. -/
theorem value : Cert.algebraic_PostBwdIdeal_RefPostBwdIdeal := fun m g m' g' _ hargs => by
  refine ⟨_, _, _, _, Value.run_blocks m g, (θ_run Cert.RefPostBwdIdeal.defs _ _).mono (fun r h c => ?_) (Cert.RefPostBwdIdeal.Value.run m' g')⟩
  obtain ⟨e0, e1, e2, e3, e4, e5⟩ := hargs c
  refine ⟨(h c).1.trans ?_, (h c).2.1.trans ?_, (h c).2.2.1.trans ?_, (h c).2.2.2.1.trans ?_, (h c).2.2.2.2⟩
  · unfold Cert.RefPostBwdIdeal.Value.res_main_v50
    rw [e0, e1, e2, e3, e4, e5]
    exact (final_6 m c (refDh_at (arg0 m c) (arg1 m c) (arg2 m c) (arg3 m c) (arg4 m c) (arg5 m c))).symm
  · unfold Cert.RefPostBwdIdeal.Value.res_main_v71
    rw [e0, e1, e2, e3, e4, e5]
    exact (final_7 m c (refDm_at (arg0 m c) (arg1 m c) (arg2 m c) (arg3 m c) (arg4 m c) (arg5 m c))).symm
  · rw [e0, e1, e3, e4]
    exact (final_8 m c (refPre_at m c)).symm
  · unfold Cert.RefPostBwdIdeal.Value.res_main_v54
    rw [e0, e1, e2, e3, e4, e5]
    exact (final_9 m c (refPost_at m c)).symm

/-! ## The runs -/

/-- The printed program is its idealization: over the bits their bodies are equal, -/
theorem body_eq : @Cert.PostBwd.cc0_post_mix_bwd Bits _ _ = @Cert.PostBwdIdeal.cc0_post_mix_bwd Bits _ _ := by
  unfold Cert.PostBwd.cc0_post_mix_bwd Cert.PostBwdIdeal.cc0_post_mix_bwd
  rfl

/-- so are the programs of their body labels, -/
theorem defs0_eq : Cert.PostBwd.defs₀ (F := Bits) = Cert.PostBwdIdeal.defs₀ (F := Bits) := by
  refine congrArg Defs.onTc ?_
  funext l a
  match l, a with
  | 0, (t, s) =>
    exact
      (congrFun (congrFun (congrFun (congrFun (congrFun (congrFun (congrFun (congrFun (congrFun (congrFun (congrFun (congrFun (congrFun (congrFun (congrFun (congrFun (congrFun (congrFun (congrFun (congrFun (congrFun body_eq _) _) _) _) _) _) _) _) _) _) _) _) _) _) _) _) _) _) _) _) _)

/-- those of all labels, the pipeline's own included, -/
theorem defs_eq : Cert.PostBwd.defs (F := Bits) = Cert.PostBwdIdeal.defs (F := Bits) :=
  congrArg (Pipeline.defs (Cert.PostBwd.pcfgs (F := Bits))) defs0_eq

/-- and their host functions. -/
theorem main_eq : Cert.PostBwd.main (F := Bits) = Cert.PostBwdIdeal.main (F := Bits) := rfl

/-- So the one run serves both. -/
theorem frame : Cert.quiescent_PostBwd := fun m g _ =>
  (congrArg₂ (fun D B => θ_run D (onTc (τ := Cert.PostBwd.τ) B) ⟨m, fun _ => 0, g⟩ _)
    defs_eq main_eq).mpr (Cert.PostBwdIdeal.Gen.frame (F := Bits) m g)

/-- The reference runs, its arguments unchanged. -/
theorem ref_frame : Cert.quiescent_RefPostBwdIdeal := fun m g _ =>
  (θ_run Cert.RefPostBwdIdeal.defs _ _).mono (fun r h => ⟨fun c => (h c).2.2.2.2, sem_eq_zero_of_no_sems (by decide) r.2⟩) (Cert.RefPostBwdIdeal.Value.run m g)

end Cert.PostBwdIdeal.Grad

end
-- ==== Proof.Loss.lean ====
/- The loss head: the layer input's gate and norm, the last residual sum, and the loss. The kernel's five results — the loss, and
   the gradients towards the residual row, the embedding, its gate and the norm's weight — are the reference's. -/
module

public import proofs.«01_k».proof.Proof.PostBwd
public import proofs.«01_k».proof.Proof.MixBwd
public import proofs.«01_k».proof.Proof.Gen.Loss
public import proofs.«01_k».proof.Proof.Gen.LossIdeal.Value
public import proofs.«01_k».proof.Proof.Gen.RefLossIdeal.Run

@[expose] public section

noncomputable section

namespace Cert.LossIdeal.Grad

open Idealize.ShloMosaic Idealize.ShloMosaic.TcCoe Idealize.SL Idealize.SL.Sem Gen Cert.Products Cert.Norm
open Idealize.ShloMosaic.Pipeline (Dat)
open Cert.MixBwdIdeal.Mm (logi refSig refSig_at)
open Cert.NormBwdIdeal.Grad (refG refDw refDw_at share)
open Cert.PostBwdIdeal.Grad (row hn row_0 row_p row_i refHn refHn_at refA refA_at refD refD_at row_refG)
open scoped BigOperators

/-! ## The rows' mathematics -/

theorem two_bits : Ideal.ofBits .f32 0x40000000#32 = ((2 : ℝ) : EReal) := by
  have h0 : (1073741824 >>> 23 : ℕ) = 128 := by decide
  have h1 : ¬BitVec.extractLsb' 31 1 1073741824#32 = 1#1 := by decide
  simp only [Ideal.ofBits, Ideal.ieee]
  rw [if_neg (by decide), if_neg (by decide)]
  refine congrArg _ ?_
  simp [h0, h1]
  norm_num

theorem inv_bits : Ideal.ofBits .f32 0x3A000000#32 = ((1 / 2048 : ℝ) : EReal) := by
  have h0 : (973078528 >>> 23 : ℕ) = 116 := by decide
  have h1 : ¬BitVec.extractLsb' 31 1 973078528#32 = 1#1 := by decide
  simp only [Ideal.ofBits, Ideal.ieee]
  rw [if_neg (by decide), if_neg (by decide)]
  refine congrArg _ ?_
  simp [h0, h1]
  norm_num

/-- Half the mean's factor, times the square's, is the kernel's factor. -/
theorem scale_eq (x : EReal) :
    Ideal.div (Ideal.ofBits .f32 0x3F000000#32 * 1) (Ideal.ofBits .f32 0x45000000#32) * (Ideal.ofBits .f32 0x40000000#32 * x)
      = x * Ideal.ofBits .f32 0x3A000000#32 := by
  have h2 : ((2048 : ℝ) : EReal) ≠ 0 := by norm_cast
  rw [half_bits, width_bits, two_bits, inv_bits, Ideal.div, if_neg h2, mul_one, ← EReal.coe_inv, ← EReal.coe_mul, ← mul_assoc, ← EReal.coe_mul, mul_comm]
  norm_num

/-- The gated row. -/
def gated (g e : Fin 2048 → EReal) (j : Fin 2048) : EReal := e j * logi (g j)

/-- The last residual sum, less its target. -/
def diff (h g e t w : Fin 2048 → EReal) (j : Fin 2048) : EReal := hn h (gated g e) w j - t j

/-- A row's share of the loss. -/
def lossRow (h g e t w : Fin 2048 → EReal) : EReal :=
  Ideal.ofBits .f32 0x3F000000#32 * Ideal.div (∑ k, diff h g e t w k * diff h g e t w k) (Ideal.ofBits .f32 0x45000000#32)

/-- The gradient towards the residual sum, -/
def dy (h g e t w : Fin 2048 → EReal) (j : Fin 2048) : EReal := diff h g e t w j * Ideal.ofBits .f32 0x3A000000#32

/-- towards the gated row, -/
def dx (h g e t w : Fin 2048 → EReal) (j : Fin 2048) : EReal := dxRow (gated g e) (fun k => dy h g e t w k * w k) j

/-- towards its gate, -/
def dgate (h g e t w : Fin 2048 → EReal) (j : Fin 2048) : EReal := dx h g e t w j * e j * logi (g j) * (1 - logi (g j))

/-- and a row's share of the one towards the norm's weight. -/
def shareW (h g e t w : Fin 2048 → EReal) (j : Fin 2048) : EReal := dy h g e t w j * (gated g e j * Ideal.rsqrt (ms (gated g e)))

/-! ## A block's values -/

section Block
variable (h g e t : Vec Ideal S128x2048 .f32) (w : Vec Ideal S1x2048 .f32) (p : Fin 128) (q : Fin 2048)

theorem pay3_at : k0_pay3 g (ix2 p q) = logi (row g p q) := by
  rw [logi, ← logistic_eq, ← half_bits, row_p]
  pointwise [k0_pay3]

theorem pay4_at : k0_pay4 g e (ix2 p q) = gated (row g p) (row e p) q := by
  rw [gated, ← pay3_at, row_p]
  pointwise [k0_pay4]

theorem row_pay4 : row (k0_pay4 g e) p = gated (row g p) (row e p) := funext fun k => by rw [row_p, pay4_at]

theorem pay5_at (z : Fin 1) : k0_pay5 g e (ix2 p z) = Ideal.rsqrt (ms (row (k0_pay4 g e) p)) := by
  unfold ms
  simp only [row_p]
  pointwise [k0_pay5]

theorem pay6_at : k0_pay6 h g e t w (ix2 p q) = diff (row h p) (row g p) (row e p) (row t p) (row w 0) q := by
  rw [diff, hn, ← row_pay4, ← pay5_at g e p 0]
  simp only [row_p, row_0]
  pointwise [k0_pay6]

theorem pay9_at : k0_pay9 (k0_pay6 h g e t w) k0_pay8 (ix2 p q) = dy (row h p) (row g p) (row e p) (row t p) (row w 0) q := by
  rw [dy, ← pay6_at]
  pointwise [k0_pay9, k0_pay8]

theorem row_pay9 : row (k0_pay9 (k0_pay6 h g e t w) k0_pay8) p = dy (row h p) (row g p) (row e p) (row t p) (row w 0) :=
  funext fun k => by rw [row_p, pay9_at]

theorem pay11_at : k0_pay11 w (k0_pay4 g e) (k0_pay5 g e) (k0_pay6 h g e t w) k0_pay8 (ix2 p q)
    = dx (row h p) (row g p) (row e p) (row t p) (row w 0) q := by
  rw [dx, dxRow_eq, ← row_pay4, ← row_pay9, ← pay5_at g e p 0]
  simp only [row_p, row_0]
  pointwise [k0_pay11, k0_pay10]

theorem pay15_at : k0_pay15 w (k0_pay3 g) (k0_pay4 g e) (k0_pay5 g e) (k0_pay6 h g e t w) k0_pay8 (ix2 p q)
    = dx (row h p) (row g p) (row e p) (row t p) (row w 0) q * logi (row g p q) := by
  rw [← pay11_at, ← pay3_at]
  pointwise [k0_pay15]

theorem pay16_at : k0_pay16 e w (k0_pay3 g) (k0_pay4 g e) (k0_pay5 g e) (k0_pay6 h g e t w) k0_pay8 (ix2 p q)
    = dgate (row h p) (row g p) (row e p) (row t p) (row w 0) q := by
  rw [dgate, ← pay11_at, ← pay3_at, row_p]
  pointwise [k0_pay16]

theorem pay2_at (y : Vec Ideal S1x2048 .f32) (z : Fin 1) :
    k0_pay2 (k0_pay12 (k0_pay4 g e) (k0_pay5 g e) (k0_pay6 h g e t w) k0_pay8) y (ix2 z q)
      = y (ix2 z q) + ∑ r : Fin 128, shareW (row h r) (row g r) (row e r) (row t r) (row w 0) q := by
  simp only [shareW, ← row_pay4, ← row_pay9, ← pay5_at g e _ 0, row_p]
  pointwise [k0_pay2, k0_pay12, k0_pay10]

theorem pay7_eq : k0_pay7 h g e t w = ∑ r : Fin 128, lossRow (row h r) (row g r) (row e r) (row t r) (row w 0) := by
  have hh : (0 : ℝ) ≤ 1 / 2 := by norm_num
  simp only [lossRow, ← pay6_at]
  simp only [mul_comm (Ideal.ofBits .f32 0x3F000000#32)]
  rw [half_bits, sum_mul_coe _ _ hh, mul_comm, ← half_bits]
  pointwise [k0_pay7]
  simp only [Fin.sum_univ_one]

theorem pay14_at (s : Ideal .f32) (y : Vec Ideal S1x128 .f32) (z : Fin 1) (k : Fin 128) : k0_pay14 s y (ix2 z k) = y (ix2 z k) + s := by
  pointwise [k0_pay14]

theorem pay1_at (z : Fin 1) : (k0_pay1 (F := Ideal)) (ix2 z q) = 0 := by
  pointwise [k0_pay1]

theorem pay13_at (z : Fin 1) (k : Fin 128) : (k0_pay13 (F := Ideal)) (ix2 z k) = 0 := by
  pointwise [k0_pay13]

end Block

/-! ## The cases' values -/

section Cases
variable {F : FTy → Type} [FloatOps F] (c : Dev nD) (i : grid0.Coords)
  (a0 : Memref sig .tc .vmem S128x2048 .f32) (h0 : a0.IsWhole) (a1 : Memref sig .tc .vmem S128x2048 .f32) (h1 : a1.IsWhole)
  (a2 : Memref sig .tc .vmem S128x2048 .f32) (h2 : a2.IsWhole) (a3 : Memref sig .tc .vmem S128x2048 .f32) (h3 : a3.IsWhole)
  (a4 : Memref sig .tc .vmem S1x2048 .f32) (h4 : a4.IsWhole) (a5 : Memref sig .tc .vmem S1x128 .f32) (h5 : a5.IsWhole)
  (a6 : Memref sig .tc .vmem S128x2048 .f32) (h6 : a6.IsWhole) (a7 : Memref sig .tc .vmem S128x2048 .bf16) (h7 : a7.IsWhole)
  (a8 : Memref sig .tc .vmem S128x2048 .bf16) (h8 : a8.IsWhole) (a9 : Memref sig .tc .vmem S1x2048 .f32) (h9 : a9.IsWhole)
  (x0 x1 x2 x3 : Vec F S128x2048 .f32) (x4 : Vec F S1x2048 .f32) (y : Vec F S1x128 .f32) (z : Vec F S1x2048 .f32)

theorem out_A_5 (c0 : cond0_0 i) (c1 : cond0_1 i) : out0_A_5 c i a0 h0 a1 h1 a2 h2 a3 h3 a4 h4 a5 h5 a6 h6 a7 h7 a8 h8 a9 h9 c0 c1 x0 x1 x2 x3 x4 = k0_pay14 (k0_pay7 x0 x1 x2 x3 x4) k0_pay13 := by
  unfold out0_A_5
  rw [View.read_writes_eq_canon _ _ _ (cover0_A_5 c i a0 h0 a1 h1 a2 h2 a3 h3 a4 h4 a5 h5 a6 h6 a7 h7 a8 h8 a9 h9 c0 c1 x0 x1 x2 x3 x4)]
  unfold kernelRun0_A
  dsimp only
  sl_unfold_words
  rw [View.canon_cons_unit_zero hz, View.readCov_unit_zero (S := S1x128) _ hz]
  simp only [View.readAt_eq_ld, h0.read_unread, h1.read_unread, h2.read_unread, h3.read_unread, h4.read_unread, View.ld_unit_zero (S := S128x2048) hz, View.ld_unit_zero (S := S1x2048) hz, View.ld_unit_zero (S := S1x128) hz]

theorem out_A_6 (c0 : cond0_0 i) (c1 : cond0_1 i) : out0_A_6 c i a0 h0 a1 h1 a2 h2 a3 h3 a4 h4 a5 h5 a6 h6 a7 h7 a8 h8 a9 h9 c0 c1 x0 x1 x2 x3 x4 = k0_pay9 (k0_pay6 x0 x1 x2 x3 x4) k0_pay8 := by
  unfold out0_A_6
  rw [View.read_writes_eq_canon _ _ _ (cover0_A_6 c i a0 h0 a1 h1 a2 h2 a3 h3 a4 h4 a5 h5 a6 h6 a7 h7 a8 h8 a9 h9 c0 c1 x0 x1 x2 x3 x4)]
  unfold kernelRun0_A
  dsimp only
  sl_unfold_words
  rw [View.canon_unit_zero hz]
  simp only [View.readAt_eq_ld, h0.read_unread, h1.read_unread, h2.read_unread, h3.read_unread, h4.read_unread, View.ld_unit_zero (S := S128x2048) hz, View.ld_unit_zero (S := S1x2048) hz]

theorem out_A_7 (c0 : cond0_0 i) (c1 : cond0_1 i) : out0_A_7 c i a0 h0 a1 h1 a2 h2 a3 h3 a4 h4 a5 h5 a6 h6 a7 h7 a8 h8 a9 h9 c0 c1 x0 x1 x2 x3 x4 = k0_pay15 x4 (k0_pay3 x1) (k0_pay4 x1 x2) (k0_pay5 x1 x2) (k0_pay6 x0 x1 x2 x3 x4) k0_pay8 := by
  unfold out0_A_7
  rw [View.read_writes_eq_canon _ _ _ (cover0_A_7 c i a0 h0 a1 h1 a2 h2 a3 h3 a4 h4 a5 h5 a6 h6 a7 h7 a8 h8 a9 h9 c0 c1 x0 x1 x2 x3 x4)]
  unfold kernelRun0_A
  dsimp only
  sl_unfold_words
  rw [View.canon_unit_zero hz]
  simp only [View.readAt_eq_ld, h0.read_unread, h1.read_unread, h2.read_unread, h3.read_unread, h4.read_unread, View.ld_unit_zero (S := S128x2048) hz, View.ld_unit_zero (S := S1x2048) hz]

theorem out_A_8 (c0 : cond0_0 i) (c1 : cond0_1 i) : out0_A_8 c i a0 h0 a1 h1 a2 h2 a3 h3 a4 h4 a5 h5 a6 h6 a7 h7 a8 h8 a9 h9 c0 c1 x0 x1 x2 x3 x4 = k0_pay16 x2 x4 (k0_pay3 x1) (k0_pay4 x1 x2) (k0_pay5 x1 x2) (k0_pay6 x0 x1 x2 x3 x4) k0_pay8 := by
  unfold out0_A_8
  rw [View.read_writes_eq_canon _ _ _ (cover0_A_8 c i a0 h0 a1 h1 a2 h2 a3 h3 a4 h4 a5 h5 a6 h6 a7 h7 a8 h8 a9 h9 c0 c1 x0 x1 x2 x3 x4)]
  unfold kernelRun0_A
  dsimp only
  sl_unfold_words
  rw [View.canon_unit_zero hz]
  simp only [View.readAt_eq_ld, h0.read_unread, h1.read_unread, h2.read_unread, h3.read_unread, h4.read_unread, View.ld_unit_zero (S := S128x2048) hz, View.ld_unit_zero (S := S1x2048) hz]

theorem out_A_9 (c0 : cond0_0 i) (c1 : cond0_1 i) : out0_A_9 c i a0 h0 a1 h1 a2 h2 a3 h3 a4 h4 a5 h5 a6 h6 a7 h7 a8 h8 a9 h9 c0 c1 x0 x1 x2 x3 x4 = k0_pay2 (k0_pay12 (k0_pay4 x1 x2) (k0_pay5 x1 x2) (k0_pay6 x0 x1 x2 x3 x4) k0_pay8) k0_pay1 := by
  unfold out0_A_9
  rw [View.read_writes_eq_canon _ _ _ (cover0_A_9 c i a0 h0 a1 h1 a2 h2 a3 h3 a4 h4 a5 h5 a6 h6 a7 h7 a8 h8 a9 h9 c0 c1 x0 x1 x2 x3 x4)]
  unfold kernelRun0_A
  dsimp only
  sl_unfold_words
  rw [View.canon_cons_unit_zero hz, View.readCov_unit_zero (S := S1x2048) _ hz]
  simp only [View.readAt_eq_ld, h0.read_unread, h1.read_unread, h2.read_unread, h3.read_unread, h4.read_unread, View.ld_unit_zero (S := S128x2048) hz, View.ld_unit_zero (S := S1x2048) hz]

theorem out_B_5 (c0 : ¬cond0_0 i) (c1 : ¬cond0_1 i) : out0_B_5 c i a0 h0 a1 h1 a2 h2 a3 h3 a4 h4 a5 h5 a6 h6 a7 h7 a8 h8 a9 h9 c0 c1 x0 x1 x2 x3 x4 y z = k0_pay14 (k0_pay7 x0 x1 x2 x3 x4) y := by
  unfold out0_B_5
  rw [View.read_writes_eq_canon _ _ _ (cover0_B_5 c i a0 h0 a1 h1 a2 h2 a3 h3 a4 h4 a5 h5 a6 h6 a7 h7 a8 h8 a9 h9 c0 c1 x0 x1 x2 x3 x4 y z)]
  unfold kernelRun0_B
  dsimp only
  sl_unfold_words
  rw [View.canon_unit_zero hz]
  simp only [View.readAt_eq_ld, h0.read_unread, h1.read_unread, h2.read_unread, h3.read_unread, h4.read_unread, h5.read_unread, View.ld_unit_zero (S := S128x2048) hz, View.ld_unit_zero (S := S1x2048) hz, View.ld_unit_zero (S := S1x128) hz]

theorem out_B_6 (c0 : ¬cond0_0 i) (c1 : ¬cond0_1 i) : out0_B_6 c i a0 h0 a1 h1 a2 h2 a3 h3 a4 h4 a5 h5 a6 h6 a7 h7 a8 h8 a9 h9 c0 c1 x0 x1 x2 x3 x4 y z = k0_pay9 (k0_pay6 x0 x1 x2 x3 x4) k0_pay8 := by
  unfold out0_B_6
  rw [View.read_writes_eq_canon _ _ _ (cover0_B_6 c i a0 h0 a1 h1 a2 h2 a3 h3 a4 h4 a5 h5 a6 h6 a7 h7 a8 h8 a9 h9 c0 c1 x0 x1 x2 x3 x4 y z)]
  unfold kernelRun0_B
  dsimp only
  sl_unfold_words
  rw [View.canon_unit_zero hz]
  simp only [View.readAt_eq_ld, h0.read_unread, h1.read_unread, h2.read_unread, h3.read_unread, h4.read_unread, View.ld_unit_zero (S := S128x2048) hz, View.ld_unit_zero (S := S1x2048) hz]

theorem out_B_7 (c0 : ¬cond0_0 i) (c1 : ¬cond0_1 i) : out0_B_7 c i a0 h0 a1 h1 a2 h2 a3 h3 a4 h4 a5 h5 a6 h6 a7 h7 a8 h8 a9 h9 c0 c1 x0 x1 x2 x3 x4 y z = k0_pay15 x4 (k0_pay3 x1) (k0_pay4 x1 x2) (k0_pay5 x1 x2) (k0_pay6 x0 x1 x2 x3 x4) k0_pay8 := by
  unfold out0_B_7
  rw [View.read_writes_eq_canon _ _ _ (cover0_B_7 c i a0 h0 a1 h1 a2 h2 a3 h3 a4 h4 a5 h5 a6 h6 a7 h7 a8 h8 a9 h9 c0 c1 x0 x1 x2 x3 x4 y z)]
  unfold kernelRun0_B
  dsimp only
  sl_unfold_words
  rw [View.canon_unit_zero hz]
  simp only [View.readAt_eq_ld, h0.read_unread, h1.read_unread, h2.read_unread, h3.read_unread, h4.read_unread, View.ld_unit_zero (S := S128x2048) hz, View.ld_unit_zero (S := S1x2048) hz]

theorem out_B_8 (c0 : ¬cond0_0 i) (c1 : ¬cond0_1 i) : out0_B_8 c i a0 h0 a1 h1 a2 h2 a3 h3 a4 h4 a5 h5 a6 h6 a7 h7 a8 h8 a9 h9 c0 c1 x0 x1 x2 x3 x4 y z = k0_pay16 x2 x4 (k0_pay3 x1) (k0_pay4 x1 x2) (k0_pay5 x1 x2) (k0_pay6 x0 x1 x2 x3 x4) k0_pay8 := by
  unfold out0_B_8
  rw [View.read_writes_eq_canon _ _ _ (cover0_B_8 c i a0 h0 a1 h1 a2 h2 a3 h3 a4 h4 a5 h5 a6 h6 a7 h7 a8 h8 a9 h9 c0 c1 x0 x1 x2 x3 x4 y z)]
  unfold kernelRun0_B
  dsimp only
  sl_unfold_words
  rw [View.canon_unit_zero hz]
  simp only [View.readAt_eq_ld, h0.read_unread, h1.read_unread, h2.read_unread, h3.read_unread, h4.read_unread, View.ld_unit_zero (S := S128x2048) hz, View.ld_unit_zero (S := S1x2048) hz]

theorem out_B_9 (c0 : ¬cond0_0 i) (c1 : ¬cond0_1 i) : out0_B_9 c i a0 h0 a1 h1 a2 h2 a3 h3 a4 h4 a5 h5 a6 h6 a7 h7 a8 h8 a9 h9 c0 c1 x0 x1 x2 x3 x4 y z = k0_pay2 (k0_pay12 (k0_pay4 x1 x2) (k0_pay5 x1 x2) (k0_pay6 x0 x1 x2 x3 x4) k0_pay8) z := by
  unfold out0_B_9
  rw [View.read_writes_eq_canon _ _ _ (cover0_B_9 c i a0 h0 a1 h1 a2 h2 a3 h3 a4 h4 a5 h5 a6 h6 a7 h7 a8 h8 a9 h9 c0 c1 x0 x1 x2 x3 x4 y z)]
  unfold kernelRun0_B
  dsimp only
  sl_unfold_words
  rw [View.canon_unit_zero hz]
  simp only [View.readAt_eq_ld, h0.read_unread, h1.read_unread, h2.read_unread, h3.read_unread, h4.read_unread, h9.read_unread, View.ld_unit_zero (S := S128x2048) hz, View.ld_unit_zero (S := S1x2048) hz]

end Cases

/-! ## The blocks -/

variable (m : (ℓ : Loc nD τ sig) → Buf (Elt Ideal) ℓ) (c : Dev nD)

theorem idx_0 : ∀ t : Fin cfg0.N, win0_0.index t = ![t.val, 0] := by decide +kernel
theorem idx_1 : ∀ t : Fin cfg0.N, win0_1.index t = ![t.val, 0] := by decide +kernel
theorem idx_2 : ∀ t : Fin cfg0.N, win0_2.index t = ![t.val, 0] := by decide +kernel
theorem idx_3 : ∀ t : Fin cfg0.N, win0_3.index t = ![t.val, 0] := by decide +kernel
theorem idx_4 : ∀ t : Fin cfg0.N, win0_4.index t = ![0, 0] := by decide +kernel
theorem idx_5 : ∀ t : Fin cfg0.N, win0_5.index t = ![0, 0] := by decide +kernel
theorem idx_6 : ∀ t : Fin cfg0.N, win0_6.index t = ![t.val, 0] := by decide +kernel
theorem idx_7 : ∀ t : Fin cfg0.N, win0_7.index t = ![t.val, 0] := by decide +kernel
theorem idx_8 : ∀ t : Fin cfg0.N, win0_8.index t = ![t.val, 0] := by decide +kernel
theorem idx_9 : ∀ t : Fin cfg0.N, win0_9.index t = ![0, 0] := by decide +kernel

def arg0 : FVec Ideal S8192x2048 .f32 := m ((c.tc : Thread nD τ).loc main_arg0)
def arg1 : FVec Ideal S8192x2048 .f32 := m ((c.tc : Thread nD τ).loc main_arg1)
def arg2 : FVec Ideal S8192x2048 .f32 := m ((c.tc : Thread nD τ).loc main_arg2)
def arg3 : FVec Ideal S8192x2048 .f32 := m ((c.tc : Thread nD τ).loc main_arg3)
def arg4 : FVec Ideal S1x2048 .f32 := m ((c.tc : Thread nD τ).loc main_arg4)

theorem blk_0 (t : Fin cfg0.N) (p : Fin 128) : row (iblk m c 0 t) p = row (arg0 m c) (128 * t.val + p) := by
  have ht : t.val < 64 := Nat.lt_of_lt_of_eq t.isLt N_0
  funext r
  rw [row, row, at2_fin, at2_eq _ (by omega) (by omega)]
  have e : V m c main_arg0 = arg0 m c := V_main_arg0 m c
  rw [← e]
  blk_simp [iblk]
  refine congrArg (V m c main_arg0) ?_
  blk_ext [idx_0]

theorem blk_1 (t : Fin cfg0.N) (p : Fin 128) : row (iblk m c 1 t) p = row (arg1 m c) (128 * t.val + p) := by
  have ht : t.val < 64 := Nat.lt_of_lt_of_eq t.isLt N_0
  funext r
  rw [row, row, at2_fin, at2_eq _ (by omega) (by omega)]
  have e : V m c main_arg1 = arg1 m c := V_main_arg1 m c
  rw [← e]
  blk_simp [iblk]
  refine congrArg (V m c main_arg1) ?_
  blk_ext [idx_1]

theorem blk_2 (t : Fin cfg0.N) (p : Fin 128) : row (iblk m c 2 t) p = row (arg2 m c) (128 * t.val + p) := by
  have ht : t.val < 64 := Nat.lt_of_lt_of_eq t.isLt N_0
  funext r
  rw [row, row, at2_fin, at2_eq _ (by omega) (by omega)]
  have e : V m c main_arg2 = arg2 m c := V_main_arg2 m c
  rw [← e]
  blk_simp [iblk]
  refine congrArg (V m c main_arg2) ?_
  blk_ext [idx_2]

theorem blk_3 (t : Fin cfg0.N) (p : Fin 128) : row (iblk m c 3 t) p = row (arg3 m c) (128 * t.val + p) := by
  have ht : t.val < 64 := Nat.lt_of_lt_of_eq t.isLt N_0
  funext r
  rw [row, row, at2_fin, at2_eq _ (by omega) (by omega)]
  have e : V m c main_arg3 = arg3 m c := V_main_arg3 m c
  rw [← e]
  blk_simp [iblk]
  refine congrArg (V m c main_arg3) ?_
  blk_ext [idx_3]

theorem blk_4 (t : Fin cfg0.N) : row (iblk m c 4 t) 0 = row (arg4 m c) 0 := by
  funext r
  rw [row, row, at2_eq _ (by omega) (by omega), at2_eq _ (by omega) (by omega)]
  have e : V m c main_arg4 = arg4 m c := V_main_arg4 m c
  rw [← e]
  blk_simp [iblk]
  refine congrArg (V m c main_arg4) ?_
  blk_ext [idx_4]

/-! ## The result arrays -/

theorem outs (t : Fin cfg0.N) :
    (outsAt0 m c t.val t.isLt).2.1 = k0_pay9 (k0_pay6 (iblk m c 0 t) (iblk m c 1 t) (iblk m c 2 t) (iblk m c 3 t) (iblk m c 4 t)) k0_pay8
      ∧ (outsAt0 m c t.val t.isLt).2.2.1 = k0_pay15 (iblk m c 4 t) (k0_pay3 (iblk m c 1 t)) (k0_pay4 (iblk m c 1 t) (iblk m c 2 t)) (k0_pay5 (iblk m c 1 t) (iblk m c 2 t)) (k0_pay6 (iblk m c 0 t) (iblk m c 1 t) (iblk m c 2 t) (iblk m c 3 t) (iblk m c 4 t)) k0_pay8
      ∧ (outsAt0 m c t.val t.isLt).2.2.2.1 = k0_pay16 (iblk m c 2 t) (iblk m c 4 t) (k0_pay3 (iblk m c 1 t)) (k0_pay4 (iblk m c 1 t) (iblk m c 2 t)) (k0_pay5 (iblk m c 1 t) (iblk m c 2 t)) (k0_pay6 (iblk m c 0 t) (iblk m c 1 t) (iblk m c 2 t) (iblk m c 3 t) (iblk m c 4 t)) k0_pay8 := by
  by_cases h0 : t.val % 64 = 0
  · rw [outsAt0_A m c t h0 h0]
    dsimp only
    rw [out_A_6, out_A_7, out_A_8]
    exact ⟨rfl, rfl, rfl⟩
  · rw [outsAt0_B m c t h0 h0]
    dsimp only
    rw [out_B_6, out_B_7, out_B_8]
    exact ⟨rfl, rfl, rfl⟩

theorem final_6 {G : FVec Ideal S8192x2048 .f32} (hG : ∀ (i : Fin 8192) (j : Fin 2048), G (ix2 i j)
      = dy (row (arg0 m c) i) (row (arg1 m c) i) (row (arg2 m c) i) (row (arg3 m c) i) (row (arg4 m c) 0) j) :
    (dats m 0 c).arrAt 6 cfg0.N = G := by
  refine (dats m 0 c).arrAt_eq_of_covers 6 _ (by decide +kernel) fun t hf y => ?_
  have ht : t.val < 64 := Nat.lt_of_lt_of_eq t.isLt N_0
  blk_simp
  rw [after0_6, (outs m c t).1]
  obtain ⟨p, q, rfl⟩ : ∃ (p : Fin 128) (q : Fin 2048), y = ix2 p q := ⟨y 0, y 1, eq_ix2 y⟩
  refine (pay9_at (iblk m c 0 t) (iblk m c 1 t) (iblk m c 2 t) (iblk m c 3 t) (iblk m c 4 t) p q).trans ?_
  rw [blk_0, blk_1, blk_2, blk_3, blk_4]
  refine (hG ⟨128 * t.val + p.val, by omega⟩ q).symm.trans (congrArg G ?_)
  blk_ext [idx_6]

theorem final_7 {G : FVec Ideal S8192x2048 .bf16} (hG : ∀ (i : Fin 8192) (j : Fin 2048), G (ix2 i j)
      = dx (row (arg0 m c) i) (row (arg1 m c) i) (row (arg2 m c) i) (row (arg3 m c) i) (row (arg4 m c) 0) j * logi (row (arg1 m c) i j)) :
    (dats m 0 c).arrAt 7 cfg0.N = G := by
  refine (dats m 0 c).arrAt_eq_of_covers 7 _ (by decide +kernel) fun t hf y => ?_
  have ht : t.val < 64 := Nat.lt_of_lt_of_eq t.isLt N_0
  blk_simp
  rw [after0_7, (outs m c t).2.1]
  obtain ⟨p, q, rfl⟩ : ∃ (p : Fin 128) (q : Fin 2048), y = ix2 p q := ⟨y 0, y 1, eq_ix2 y⟩
  refine (pay15_at (iblk m c 0 t) (iblk m c 1 t) (iblk m c 2 t) (iblk m c 3 t) (iblk m c 4 t) p q).trans ?_
  rw [blk_0, blk_1, blk_2, blk_3, blk_4]
  refine (hG ⟨128 * t.val + p.val, by omega⟩ q).symm.trans (congrArg G ?_)
  blk_ext [idx_7]

theorem final_8 {G : FVec Ideal S8192x2048 .bf16} (hG : ∀ (i : Fin 8192) (j : Fin 2048), G (ix2 i j)
      = dgate (row (arg0 m c) i) (row (arg1 m c) i) (row (arg2 m c) i) (row (arg3 m c) i) (row (arg4 m c) 0) j) :
    (dats m 0 c).arrAt 8 cfg0.N = G := by
  refine (dats m 0 c).arrAt_eq_of_covers 8 _ (by decide +kernel) fun t hf y => ?_
  have ht : t.val < 64 := Nat.lt_of_lt_of_eq t.isLt N_0
  blk_simp
  rw [after0_8, (outs m c t).2.2]
  obtain ⟨p, q, rfl⟩ : ∃ (p : Fin 128) (q : Fin 2048), y = ix2 p q := ⟨y 0, y 1, eq_ix2 y⟩
  refine (pay16_at (iblk m c 0 t) (iblk m c 1 t) (iblk m c 2 t) (iblk m c 3 t) (iblk m c 4 t) p q).trans ?_
  rw [blk_0, blk_1, blk_2, blk_3, blk_4]
  refine (hG ⟨128 * t.val + p.val, by omega⟩ q).symm.trans (congrArg G ?_)
  blk_ext [idx_8]

/-- The share of the loss, of a row of the arrays, -/
def rowLoss (i : ℕ) : EReal := lossRow (row (arg0 m c) i) (row (arg1 m c) i) (row (arg2 m c) i) (row (arg3 m c) i) (row (arg4 m c) 0)

/-- and of the gradient towards the norm's weight. -/
def rowW (q : Fin 2048) (i : ℕ) : EReal := shareW (row (arg0 m c) i) (row (arg1 m c) i) (row (arg2 m c) i) (row (arg3 m c) i) (row (arg4 m c) 0) q

/-- A point adds its rows' shares, -/
theorem point_5 (t : Fin cfg0.N) (y : Vec Ideal S1x128 .f32) (p : Fin 1) (q : Fin 128) :
    k0_pay14 (k0_pay7 (iblk m c 0 t) (iblk m c 1 t) (iblk m c 2 t) (iblk m c 3 t) (iblk m c 4 t)) y (ix2 p q)
      = y (ix2 p q) + ∑ r : Fin 128, rowLoss m c (128 * (t.val % 64) + r) := by
  have ht : t.val < 64 := Nat.lt_of_lt_of_eq t.isLt N_0
  refine (pay14_at _ y p q).trans (congrArg (y (ix2 p q) + ·) ((pay7_eq (iblk m c 0 t) (iblk m c 1 t) (iblk m c 2 t) (iblk m c 3 t) (iblk m c 4 t)).trans ?_))
  simp only [blk_0, blk_1, blk_2, blk_3, blk_4, rowLoss, Nat.mod_eq_of_lt ht]

theorem point_9 (t : Fin cfg0.N) (z : Vec Ideal S1x2048 .f32) (p : Fin 1) (q : Fin 2048) :
    k0_pay2 (k0_pay12 (k0_pay4 (iblk m c 1 t) (iblk m c 2 t)) (k0_pay5 (iblk m c 1 t) (iblk m c 2 t)) (k0_pay6 (iblk m c 0 t) (iblk m c 1 t) (iblk m c 2 t) (iblk m c 3 t) (iblk m c 4 t)) k0_pay8) z (ix2 p q)
      = z (ix2 p q) + ∑ r : Fin 128, rowW m c q (128 * (t.val % 64) + r) := by
  have ht : t.val < 64 := Nat.lt_of_lt_of_eq t.isLt N_0
  refine (pay2_at (iblk m c 0 t) (iblk m c 1 t) (iblk m c 2 t) (iblk m c 3 t) (iblk m c 4 t) q z p).trans ?_
  simp only [blk_0, blk_1, blk_2, blk_3, blk_4, rowW, Nat.mod_eq_of_lt ht]

/-- and the sums after every point. -/
theorem acc_5 (p : Fin 1) (q : Fin 128) (n : ℕ) (h : n < cfg0.N) :
    (outsAt0 m c n h).1 (ix2 p q) = ∑ k ∈ Finset.range (128 * (n % 64 + 1)), rowLoss m c k := by
  refine blocks_sum (by decide) (fun n h => (outsAt0 m c n h).1 (ix2 p q)) (fun _ => rowLoss m c) (fun n h h0 => ?_) (fun n h h0 => ?_) n h
  · rw [outsAt0_A m c ⟨n, h⟩ h0 h0]
    dsimp only
    rw [out_A_5]
    refine (point_5 m c ⟨n, h⟩ _ p q).trans ?_
    rw [pay13_at, zero_add]
  · rw [outsAt0_B m c ⟨n, h⟩ h0 h0]
    dsimp only
    rw [out_B_5]
    exact point_5 m c ⟨n, h⟩ _ p q

theorem acc_9 (p : Fin 1) (q : Fin 2048) (n : ℕ) (h : n < cfg0.N) :
    (outsAt0 m c n h).2.2.2.2 (ix2 p q) = ∑ k ∈ Finset.range (128 * (n % 64 + 1)), rowW m c q k := by
  refine blocks_sum (by decide) (fun n h => (outsAt0 m c n h).2.2.2.2 (ix2 p q)) (fun _ => rowW m c q) (fun n h h0 => ?_) (fun n h h0 => ?_) n h
  · rw [outsAt0_A m c ⟨n, h⟩ h0 h0]
    dsimp only
    rw [out_A_9]
    refine (point_9 m c ⟨n, h⟩ _ p q).trans ?_
    rw [pay1_at, zero_add]
  · rw [outsAt0_B m c ⟨n, h⟩ h0 h0]
    dsimp only
    rw [out_B_9]
    exact point_9 m c ⟨n, h⟩ _ p q

theorem final_5 {G : FVec Ideal S1x128 .f32} (hG : ∀ (i : Fin 1) (j : Fin 128), G (ix2 i j) = ∑ k : Fin 8192, rowLoss m c k) :
    (dats m 0 c).arrAt 5 cfg0.N = G := by
  refine (dats m 0 c).arrAt_eq_of_covers 5 _ (by decide +kernel) fun t hf y => ?_
  have h3 : t.val % 64 = 63 := (flush0_5 t).mp hf
  blk_simp
  rw [after0_5]
  obtain ⟨p, q, rfl⟩ : ∃ (p : Fin 1) (q : Fin 128), y = ix2 p q := ⟨y 0, y 1, eq_ix2 y⟩
  refine (acc_5 m c p q t.val t.isLt).trans (Eq.trans ?_ ((hG p q).symm.trans (congrArg G ?_)))
  · rw [h3, Finset.sum_range]
  · blk_ext [idx_5]

theorem final_9 {G : FVec Ideal S1x2048 .f32} (hG : ∀ (i : Fin 1) (j : Fin 2048), G (ix2 i j) = ∑ k : Fin 8192, rowW m c j k) :
    (dats m 0 c).arrAt 9 cfg0.N = G := by
  refine (dats m 0 c).arrAt_eq_of_covers 9 _ (by decide +kernel) fun t hf y => ?_
  have h3 : t.val % 64 = 63 := (flush0_9 t).mp hf
  blk_simp
  rw [after0_9]
  obtain ⟨p, q, rfl⟩ : ∃ (p : Fin 1) (q : Fin 2048), y = ix2 p q := ⟨y 0, y 1, eq_ix2 y⟩
  refine (acc_9 m c p q t.val t.isLt).trans (Eq.trans ?_ ((hG p q).symm.trans (congrArg G ?_)))
  · rw [h3, Finset.sum_range]
  · blk_ext [idx_9]

/-! ## The reference -/

section Ref
open Cert.RefLossIdeal.Gen

variable (h g e t : FVec Ideal Cert.RefLossIdeal.S8192x2048 .f32) (w : FVec Ideal Cert.RefLossIdeal.S1x2048 .f32) (i : Fin 8192) (j : Fin 2048)

/-- The reference's gated rows. -/
def refE : FVec Ideal Cert.RefLossIdeal.S8192x2048 .f32 := mulf e (refSig g)

theorem row_refE : row (refE g e) i = gated (row g i) (row e i) := funext fun k => by
  have a : refSig g (ix2 i k) = logi (g (ix2 i k)) := refSig_at g i k
  rw [gated, row_i, row_i, row_i, ← a]
  pointwise [refE]

/-- Its residual sums, less their targets. -/
def refDiff : FVec Ideal Cert.RefLossIdeal.S8192x2048 .f32 := subf (refHn h (refE g e) w) t

theorem refDiff_at : refDiff h g e t w (ix2 i j) = diff (row h i) (row g i) (row e i) (row t i) (row w 0) j := by
  have a : refHn h (refE g e) w (ix2 i j) = hn (row h i) (row (refE g e) i) (row w 0) j := refHn_at h (refE g e) w i j
  rw [diff, ← row_refE, ← a, row_i]
  pointwise [refDiff]

/-- Its gradient towards the residual sums. -/
def refDy : FVec Ideal Cert.RefLossIdeal.S8192x2048 .f32 :=
  mulf (broadcastInDim Cert.RefLossIdeal.S8192x2048 ![0] bcast_S8192_S8192x2048_0 (Host.divf
      (broadcastInDim Cert.RefLossIdeal.S8192 ![] bcast_S_S8192 (mulf (constant Cert.RefLossIdeal.S_ .f32 0x3F000000#32) (constant Cert.RefLossIdeal.S_ .f32 0x3F800000#32)))
      (broadcastInDim Cert.RefLossIdeal.S8192 ![] bcast_S_S8192 (constant Cert.RefLossIdeal.S_ .f32 0x45000000#32))))
    (mulf (broadcastInDim Cert.RefLossIdeal.S8192x2048 ![] bcast_S_S8192x2048 (constant Cert.RefLossIdeal.S_ .f32 0x40000000#32)) (refDiff h g e t w))

theorem refDy_at : refDy h g e t w (ix2 i j) = dy (row h i) (row g i) (row e i) (row t i) (row w 0) j := by
  rw [dy, ← refDiff_at, ← scale_eq]
  pointwise [refDy]

theorem row_refDy : row (refDy h g e t w) i = dy (row h i) (row g i) (row e i) (row t i) (row w 0) := funext fun k => by rw [row_i, refDy_at]

/-- Its gradient towards the gated rows. -/
def refDx : FVec Ideal Cert.RefLossIdeal.S8192x2048 .f32 :=
  refD (refA (refE g e) (refG (refDy h g e t w) w)) (refE g e) (refG (refDy h g e t w) w)

theorem refDx_at : refDx h g e t w (ix2 i j) = dx (row h i) (row g i) (row e i) (row t i) (row w 0) j := by
  rw [refDx, refD_at, refA_at, row_refG, row_refDy, row_refE, dx, dxRow]

/-- Its gradient towards the embedding, -/
def refDpe : FVec Ideal Cert.RefLossIdeal.S8192x2048 .bf16 := truncf .bf16 (mulf (refDx h g e t w) (refSig g)) Cert.RefLossIdeal.Gen.bitsLt_bf16_f32

theorem refDpe_at : refDpe h g e t w (ix2 i j) = dx (row h i) (row g i) (row e i) (row t i) (row w 0) j * logi (row g i j) := by
  have a : refSig g (ix2 i j) = logi (g (ix2 i j)) := refSig_at g i j
  rw [← refDx_at, row_i, ← a]
  pointwise [refDpe]

/-- and towards its gate. -/
def refDgate : FVec Ideal Cert.RefLossIdeal.S8192x2048 .bf16 :=
  truncf .bf16 (mulf (mulf e (refDx h g e t w)) (mulf (refSig g)
    (subf (broadcastInDim Cert.RefLossIdeal.S8192x2048 ![] bcast_S_S8192x2048 (constant Cert.RefLossIdeal.S_ .f32 0x3F800000#32)) (refSig g)))) Cert.RefLossIdeal.Gen.bitsLt_bf16_f32

theorem refDgate_at : refDgate h g e t w (ix2 i j) = dgate (row h i) (row g i) (row e i) (row t i) (row w 0) j := by
  have a : refSig g (ix2 i j) = logi (g (ix2 i j)) := refSig_at g i j
  rw [dgate, ← refDx_at, row_i, row_i, ← a, mul_assoc, mul_comm (refDx h g e t w (ix2 i j))]
  pointwise [refDgate]

/-- Its loss, in every lane. -/
def refLoss : FVec Ideal Cert.RefLossIdeal.S1x128 .f32 :=
  broadcastInDim Cert.RefLossIdeal.S1x128 ![] bcast_S_S1x128 (mulf (constant Cert.RefLossIdeal.S_ .f32 0x3F000000#32)
    (Host.reduceAdd (Host.divf (Host.reduceAdd (mulf (refDiff h g e t w) (refDiff h g e t w)) (constant Cert.RefLossIdeal.S_ .f32 0x00000000#32) reducesTo_S8192x2048_S8192_d1 h_S_)
      (broadcastInDim Cert.RefLossIdeal.S8192 ![] bcast_S_S8192 (constant Cert.RefLossIdeal.S_ .f32 0x45000000#32)))
      (constant Cert.RefLossIdeal.S_ .f32 0x00000000#32) reducesTo_S8192_S_d0 h_S_))

theorem refLoss_at (z : Fin 1) (k : Fin 128) : refLoss h g e t w (ix2 z k) = ∑ i : Fin 8192, lossRow (row h i) (row g i) (row e i) (row t i) (row w 0) := by
  have hh : (0 : ℝ) ≤ 1 / 2 := by norm_num
  simp only [lossRow, ← refDiff_at]
  simp only [mul_comm (Ideal.ofBits .f32 0x3F000000#32)]
  rw [half_bits, sum_mul_coe _ _ hh, mul_comm, ← half_bits]
  pointwise [refLoss]

end Ref

theorem refW_at (i : Fin 1) (j : Fin 2048) :
    refDw (refE (arg1 m c) (arg2 m c)) (refDy (arg0 m c) (arg1 m c) (arg2 m c) (arg3 m c) (arg4 m c)) (ix2 i j) = ∑ k : Fin 8192, rowW m c j k := by
  refine (refDw_at _ _ i j).trans (Finset.sum_congr rfl fun k _ => ?_)
  rw [rowW, shareW, ← row_refDy, ← row_refE]
  rfl

/-- The value claim. -/
theorem value : Cert.algebraic_LossIdeal_RefLossIdeal := fun m g m' g' _ hargs => by
  refine ⟨_, _, _, _, _, Value.run_blocks m g, (θ_run Cert.RefLossIdeal.defs _ _).mono (fun r h c => ?_) (Cert.RefLossIdeal.Value.run m' g')⟩
  obtain ⟨e0, e1, e2, e3, e4⟩ := hargs c
  refine ⟨(h c).1.trans ?_, (h c).2.1.trans ?_, (h c).2.2.1.trans ?_, (h c).2.2.2.1.trans ?_, (h c).2.2.2.2.1.trans ?_, (h c).2.2.2.2.2⟩
  · rw [e0, e1, e2, e3, e4]
    exact (final_5 m c (refLoss_at (arg0 m c) (arg1 m c) (arg2 m c) (arg3 m c) (arg4 m c))).symm
  · rw [e0, e1, e2, e3, e4]
    exact (final_6 m c (refDy_at (arg0 m c) (arg1 m c) (arg2 m c) (arg3 m c) (arg4 m c))).symm
  · unfold Cert.RefLossIdeal.Value.res_main_v64
    rw [e0, e1, e2, e3, e4]
    exact (final_7 m c (refDpe_at (arg0 m c) (arg1 m c) (arg2 m c) (arg3 m c) (arg4 m c))).symm
  · unfold Cert.RefLossIdeal.Value.res_main_v65
    rw [e0, e1, e2, e3, e4]
    exact (final_8 m c (refDgate_at (arg0 m c) (arg1 m c) (arg2 m c) (arg3 m c) (arg4 m c))).symm
  · rw [e0, e1, e2, e3, e4]
    exact (final_9 m c (refW_at m c)).symm

/-! ## The runs -/

/-- The printed program is its idealization: over the bits their bodies are equal, -/
theorem body_eq : @Cert.Loss.cc0_ple_loss Bits _ _ = @Cert.LossIdeal.cc0_ple_loss Bits _ _ := by
  unfold Cert.Loss.cc0_ple_loss Cert.LossIdeal.cc0_ple_loss
  rfl

/-- so are the programs of their body labels, -/
theorem defs0_eq : Cert.Loss.defs₀ (F := Bits) = Cert.LossIdeal.defs₀ (F := Bits) := by
  refine congrArg Defs.onTc ?_
  funext l a
  match l, a with
  | 0, (t, s) =>
    exact
      (congrFun (congrFun (congrFun (congrFun (congrFun (congrFun (congrFun (congrFun (congrFun (congrFun (congrFun (congrFun (congrFun (congrFun (congrFun (congrFun (congrFun (congrFun (congrFun (congrFun (congrFun body_eq _) _) _) _) _) _) _) _) _) _) _) _) _) _) _) _) _) _) _) _) _)

/-- those of all labels, the pipeline's own included, -/
theorem defs_eq : Cert.Loss.defs (F := Bits) = Cert.LossIdeal.defs (F := Bits) :=
  congrArg (Pipeline.defs (Cert.Loss.pcfgs (F := Bits))) defs0_eq

/-- and their host functions. -/
theorem main_eq : Cert.Loss.main (F := Bits) = Cert.LossIdeal.main (F := Bits) := rfl

/-- So the one run serves both. -/
theorem frame : Cert.quiescent_Loss := fun m g _ =>
  (congrArg₂ (fun D B => θ_run D (onTc (τ := Cert.Loss.τ) B) ⟨m, fun _ => 0, g⟩ _)
    defs_eq main_eq).mpr (Cert.LossIdeal.Gen.frame (F := Bits) m g)

/-- The reference runs, its arguments unchanged. -/
theorem ref_frame : Cert.quiescent_RefLossIdeal := fun m g _ =>
  (θ_run Cert.RefLossIdeal.defs _ _).mono (fun r h => ⟨fun c => (h c).2.2.2.2.2, sem_eq_zero_of_no_sems (by decide) r.2⟩) (Cert.RefLossIdeal.Value.run m g)

end Cert.LossIdeal.Grad

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.GradDown
public import proofs.«01_k».proof.Proof.Gen.GradDownIdeal.Value
public import proofs.«01_k».proof.Proof.Gen.RefGradDownIdeal
public import proofs.«01_k».proof.Proof.Gen.RefGradDownIdeal.Run
public import proofs.«01_k».proof.Proof.Gen.GradSsm
public import proofs.«01_k».proof.Proof.Gen.GradSsmIdeal.Value
public import proofs.«01_k».proof.Proof.Gen.RefGradSsmIdeal
public import proofs.«01_k».proof.Proof.Gen.RefGradSsmIdeal.Run
public import proofs.«01_k».proof.Proof.Gen.GradAttn
public import proofs.«01_k».proof.Proof.Gen.GradAttnIdeal.Value
public import proofs.«01_k».proof.Proof.Gen.RefGradAttnIdeal
public import proofs.«01_k».proof.Proof.Gen.RefGradAttnIdeal.Run
public import proofs.«01_k».proof.Proof.Gen.BackAttn
public import proofs.«01_k».proof.Proof.Gen.BackAttnIdeal.Value
public import proofs.«01_k».proof.Proof.Gen.RefBackAttnIdeal
public import proofs.«01_k».proof.Proof.Gen.RefBackAttnIdeal.Run
public import proofs.«01_k».proof.Proof.Gen.Swiglu
public import proofs.«01_k».proof.Proof.Gen.SwigluIdeal.Value
public import proofs.«01_k».proof.Proof.Gen.RefSwigluIdeal
public import proofs.«01_k».proof.Proof.Gen.RefSwigluIdeal.Run
public import proofs.«01_k».proof.Proof.Gen.Down
public import proofs.«01_k».proof.Proof.Gen.DownIdeal.Value
public import proofs.«01_k».proof.Proof.Gen.RefDownIdeal
public import proofs.«01_k».proof.Proof.Gen.RefDownIdeal.Run
public import proofs.«01_k».proof.Proof.Gen.Ssm
public import proofs.«01_k».proof.Proof.Gen.SsmIdeal.Value
public import proofs.«01_k».proof.Proof.Gen.RefSsmIdeal
public import proofs.«01_k».proof.Proof.Gen.RefSsmIdeal.Run
public import proofs.«01_k».proof.Proof.Gen.Out
public import proofs.«01_k».proof.Proof.Gen.OutIdeal.Value
public import proofs.«01_k».proof.Proof.Gen.RefOutIdeal
public import proofs.«01_k».proof.Proof.Gen.RefOutIdeal.Run
public import proofs.«01_k».proof.Proof.Gen.Fwd
public import proofs.«01_k».proof.Proof.Gen.FwdIdeal
public import proofs.«01_k».proof.Proof.Gen.FwdIdeal.Skeleton
public import proofs.«01_k».proof.Proof.Gen.FwdIdeal.Loops
public import proofs.«01_k».proof.Proof.Gen.FwdIdeal.Frame
public import proofs.«01_k».proof.Proof.Gen.RefFwdIdeal
public import proofs.«01_k».proof.Proof.Gen.RefFwdIdeal.Run
public import proofs.«01_k».proof.Proof.Gen.Pre_finite_fwd
public import proofs.«01_k».proof.Proof.Gen.BackGate
public import proofs.«01_k».proof.Proof.Gen.BackGateIdeal.Value
public import proofs.«01_k».proof.Proof.Gen.RefBackGateIdeal
public import proofs.«01_k».proof.Proof.Gen.RefBackGateIdeal.Run
public import proofs.«01_k».proof.Proof.Gen.Qkv
public import proofs.«01_k».proof.Proof.Gen.QkvIdeal.Value
public import proofs.«01_k».proof.Proof.Gen.RefQkvIdeal
public import proofs.«01_k».proof.Proof.Gen.RefQkvIdeal.Run
public import proofs.«01_k».proof.Proof.Gen.Uq
public import proofs.«01_k».proof.Proof.Gen.UqIdeal.Value
public import proofs.«01_k».proof.Proof.Gen.RefUqIdeal
public import proofs.«01_k».proof.Proof.Gen.RefUqIdeal.Run
public import proofs.«01_k».proof.Proof.Gen.Ukv
public import proofs.«01_k».proof.Proof.Gen.UkvIdeal.Value
public import proofs.«01_k».proof.Proof.Gen.RefUkvIdeal
public import proofs.«01_k».proof.Proof.Gen.RefUkvIdeal.Run
public import proofs.«01_k».proof.Proof.Gen.BackUq
public import proofs.«01_k».proof.Proof.Gen.BackUqIdeal.Value
public import proofs.«01_k».proof.Proof.Gen.RefBackUqIdeal
public import proofs.«01_k».proof.Proof.Gen.RefBackUqIdeal.Run
public import proofs.«01_k».proof.Proof.Gen.GradUq
public import proofs.«01_k».proof.Proof.Gen.GradUqIdeal.Value
public import proofs.«01_k».proof.Proof.Gen.RefGradUqIdeal
public import proofs.«01_k».proof.Proof.Gen.RefGradUqIdeal.Run
public import proofs.«01_k».proof.Proof.Gen.GradQkv
public import proofs.«01_k».proof.Proof.Gen.GradQkvIdeal.Value
public import proofs.«01_k».proof.Proof.Gen.RefGradQkvIdeal
public import proofs.«01_k».proof.Proof.Gen.RefGradQkvIdeal.Run
public import proofs.«01_k».proof.Proof.Gen.MixBwd
public import proofs.«01_k».proof.Proof.Gen.MixBwdIdeal.Value
public import proofs.«01_k».proof.Proof.Gen.RefMixBwdIdeal
public import proofs.«01_k».proof.Proof.Gen.RefMixBwdIdeal.Run
public import proofs.«01_k».proof.Proof.Gen.NormBwd
public import proofs.«01_k».proof.Proof.Gen.NormBwdIdeal.Value
public import proofs.«01_k».proof.Proof.Gen.RefNormBwdIdeal
public import proofs.«01_k».proof.Proof.Gen.RefNormBwdIdeal.Run
public import proofs.«01_k».proof.Proof.Gen.PostBwd
public import proofs.«01_k».proof.Proof.Gen.PostBwdIdeal.Value
public import proofs.«01_k».proof.Proof.Gen.RefPostBwdIdeal
public import proofs.«01_k».proof.Proof.Gen.RefPostBwdIdeal.Run
public import proofs.«01_k».proof.Proof.Gen.Loss
public import proofs.«01_k».proof.Proof.Gen.LossIdeal.Value
public import proofs.«01_k».proof.Proof.Gen.RefLossIdeal
public import proofs.«01_k».proof.Proof.Gen.RefLossIdeal.Run
public import proofs.«01_k».proof.Proof.Same
public import proofs.«01_k».proof.Proof.Value
public import proofs.«01_k».proof.Proof.GradDown
public import proofs.«01_k».proof.Proof.GradSsm
public import proofs.«01_k».proof.Proof.GradAttn
public import proofs.«01_k».proof.Proof.BackAttn
public import proofs.«01_k».proof.Proof.Swiglu
public import proofs.«01_k».proof.Proof.Down
public import proofs.«01_k».proof.Proof.Ssm
public import proofs.«01_k».proof.Proof.Out
public import proofs.«01_k».proof.Proof.FwdSame
public import proofs.«01_k».proof.Proof.BackGate
public import proofs.«01_k».proof.Proof.Qkv
public import proofs.«01_k».proof.Proof.Uq
public import proofs.«01_k».proof.Proof.Ukv
public import proofs.«01_k».proof.Proof.BackUq
public import proofs.«01_k».proof.Proof.GradUq
public import proofs.«01_k».proof.Proof.GradQkv
public import proofs.«01_k».proof.Proof.MixBwd
public import proofs.«01_k».proof.Proof.NormBwd
public import proofs.«01_k».proof.Proof.PostBwd
public import proofs.«01_k».proof.Proof.Loss
public import Idealize.ShloMosaic.Adequacy
public import Idealize.ShloMosaic.Init
public import Idealize.ShloMosaic.Lib.Quiescent

@[expose] public section

noncomputable section

namespace Cert.Proof

open Idealize.ShloMosaic Idealize.SL.Sem Cert.Kernel

set_option maxHeartbeats 4000000 in  -- the two programs' signatures are compared
/-- The kernel's two programs have one text, so the run is one. -/
theorem kernel : Cert.quiescent_Kernel := by
  intro m g _
  exact (congrArg₂ (fun D B => θ_run D (onTc (τ := Cert.Kernel.τ) B) ⟨m, fun _ => 0, g⟩ _) Cert.Same.defs_eq Cert.Same.main_eq).mpr
    (Cert.KernelIdeal.Attn.run_frame (F := Bits) m g)

/-- The reference runs, its arguments unchanged. -/
theorem reference : Cert.quiescent_ReferenceIdeal := fun m g _ =>
  (θ_run Cert.ReferenceIdeal.defs _ _).mono (fun r h => ⟨fun c => (h c).2.2.2, sem_eq_zero_of_no_sems (by decide) r.2⟩) (Cert.ReferenceIdeal.Value.run m g)

theorem claim : Cert.Claim := ⟨Cert.Kernel.Gen.facts, Cert.KernelIdeal.Gen.facts, Cert.ReferenceIdeal.Gen.facts,
  Cert.GradDown.Gen.facts, Cert.GradDownIdeal.Gen.facts, Cert.RefGradDownIdeal.Gen.facts,
  Cert.GradSsm.Gen.facts, Cert.GradSsmIdeal.Gen.facts, Cert.RefGradSsmIdeal.Gen.facts,
  Cert.GradAttn.Gen.facts, Cert.GradAttnIdeal.Gen.facts, Cert.RefGradAttnIdeal.Gen.facts,
  Cert.BackAttn.Gen.facts, Cert.BackAttnIdeal.Gen.facts, Cert.RefBackAttnIdeal.Gen.facts,
  Cert.Swiglu.Gen.facts, Cert.SwigluIdeal.Gen.facts, Cert.RefSwigluIdeal.Gen.facts,
  Cert.Down.Gen.facts, Cert.DownIdeal.Gen.facts, Cert.RefDownIdeal.Gen.facts,
  Cert.Ssm.Gen.facts, Cert.SsmIdeal.Gen.facts, Cert.RefSsmIdeal.Gen.facts,
  Cert.Out.Gen.facts, Cert.OutIdeal.Gen.facts, Cert.RefOutIdeal.Gen.facts,
  Cert.Fwd.Gen.facts, Cert.FwdIdeal.Gen.facts, Cert.RefFwdIdeal.Gen.facts,
  Cert.BackGate.Gen.facts, Cert.BackGateIdeal.Gen.facts, Cert.RefBackGateIdeal.Gen.facts,
  Cert.Qkv.Gen.facts, Cert.QkvIdeal.Gen.facts, Cert.RefQkvIdeal.Gen.facts,
  Cert.Uq.Gen.facts, Cert.UqIdeal.Gen.facts, Cert.RefUqIdeal.Gen.facts,
  Cert.Ukv.Gen.facts, Cert.UkvIdeal.Gen.facts, Cert.RefUkvIdeal.Gen.facts,
  Cert.BackUq.Gen.facts, Cert.BackUqIdeal.Gen.facts, Cert.RefBackUqIdeal.Gen.facts,
  Cert.GradUq.Gen.facts, Cert.GradUqIdeal.Gen.facts, Cert.RefGradUqIdeal.Gen.facts,
  Cert.GradQkv.Gen.facts, Cert.GradQkvIdeal.Gen.facts, Cert.RefGradQkvIdeal.Gen.facts,
  Cert.MixBwd.Gen.facts, Cert.MixBwdIdeal.Gen.facts, Cert.RefMixBwdIdeal.Gen.facts,
  Cert.NormBwd.Gen.facts, Cert.NormBwdIdeal.Gen.facts, Cert.RefNormBwdIdeal.Gen.facts,
  Cert.PostBwd.Gen.facts, Cert.PostBwdIdeal.Gen.facts, Cert.RefPostBwdIdeal.Gen.facts,
  Cert.Loss.Gen.facts, Cert.LossIdeal.Gen.facts, Cert.RefLossIdeal.Gen.facts,
  Cert.Pre_finite.Gen.facts, Cert.Pre_finite_fwd.Gen.facts,
  kernel, fun m g _ => Cert.KernelIdeal.Attn.run_frame m g, fun m g _ => Cert.KernelIdeal.Attn.run_frame m g,
  reference, fun m g _ => reference m g trivial,
  Cert.GradDownIdeal.Grad.frame, fun m g _ => Cert.GradDownIdeal.Gen.frame m g, Cert.GradDownIdeal.Grad.ref_frame,
  Cert.GradSsmIdeal.Grad.frame, fun m g _ => Cert.GradSsmIdeal.Gen.frame m g, Cert.GradSsmIdeal.Grad.ref_frame,
  Cert.GradAttnIdeal.Grad.frame, fun m g _ => Cert.GradAttnIdeal.Gen.frame m g, Cert.GradAttnIdeal.Grad.ref_frame,
  Cert.BackAttnIdeal.Back.frame, fun m g _ => Cert.BackAttnIdeal.Gen.frame m g, Cert.BackAttnIdeal.Back.ref_frame,
  Cert.SwigluIdeal.Mm.frame, fun m g _ => Cert.SwigluIdeal.Gen.frame m g, Cert.SwigluIdeal.Mm.ref_frame,
  Cert.DownIdeal.Mm.frame, fun m g _ => Cert.DownIdeal.Gen.frame m g, Cert.DownIdeal.Mm.ref_frame,
  Cert.SsmIdeal.Mm.frame, fun m g _ => Cert.SsmIdeal.Gen.frame m g, Cert.SsmIdeal.Mm.ref_frame,
  Cert.OutIdeal.Mm.frame, fun m g _ => Cert.OutIdeal.Gen.frame m g, Cert.OutIdeal.Mm.ref_frame,
  Cert.FwdIdeal.Attn.frame, fun m g _ => Cert.FwdIdeal.Attn.run_frame m g,
  fun m g _ => Cert.FwdIdeal.Attn.run_frame m g,
  Cert.FwdIdeal.Attn.ref_frame, fun m g _ => Cert.FwdIdeal.Attn.ref_frame m g trivial,
  Cert.BackGateIdeal.Back.frame, fun m g _ => Cert.BackGateIdeal.Gen.frame m g, Cert.BackGateIdeal.Back.ref_frame,
  Cert.QkvIdeal.Mm.frame, fun m g _ => Cert.QkvIdeal.Gen.frame m g, Cert.QkvIdeal.Mm.ref_frame,
  Cert.UqIdeal.Mm.frame, fun m g _ => Cert.UqIdeal.Gen.frame m g, Cert.UqIdeal.Mm.ref_frame,
  Cert.UkvIdeal.Mm.frame, fun m g _ => Cert.UkvIdeal.Gen.frame m g, Cert.UkvIdeal.Mm.ref_frame,
  Cert.BackUqIdeal.Mm.frame, fun m g _ => Cert.BackUqIdeal.Gen.frame m g, Cert.BackUqIdeal.Mm.ref_frame,
  Cert.GradUqIdeal.Grad.frame, fun m g _ => Cert.GradUqIdeal.Gen.frame m g, Cert.GradUqIdeal.Grad.ref_frame,
  Cert.GradQkvIdeal.Grad.frame, fun m g _ => Cert.GradQkvIdeal.Gen.frame m g, Cert.GradQkvIdeal.Grad.ref_frame,
  Cert.MixBwdIdeal.Mm.frame, fun m g _ => Cert.MixBwdIdeal.Gen.frame m g, Cert.MixBwdIdeal.Mm.ref_frame,
  Cert.NormBwdIdeal.Grad.frame, fun m g _ => Cert.NormBwdIdeal.Gen.frame m g, Cert.NormBwdIdeal.Grad.ref_frame,
  Cert.PostBwdIdeal.Grad.frame, fun m g _ => Cert.PostBwdIdeal.Gen.frame m g, Cert.PostBwdIdeal.Grad.ref_frame,
  Cert.LossIdeal.Grad.frame, fun m g _ => Cert.LossIdeal.Gen.frame m g, Cert.LossIdeal.Grad.ref_frame,
  trivial, Cert.KernelIdeal.Attn.value,
  trivial, Cert.GradDownIdeal.Grad.value,
  trivial, Cert.GradSsmIdeal.Grad.value,
  trivial, Cert.GradAttnIdeal.Grad.value,
  trivial, Cert.BackAttnIdeal.Back.value,
  trivial, Cert.SwigluIdeal.Mm.value,
  trivial, Cert.DownIdeal.Mm.value,
  trivial, Cert.SsmIdeal.Mm.value,
  trivial, Cert.OutIdeal.Mm.value,
  Cert.FwdIdeal.Attn.preserves, Cert.FwdIdeal.Attn.value,
  trivial, Cert.BackGateIdeal.Back.value,
  trivial, Cert.QkvIdeal.Mm.value,
  trivial, Cert.UqIdeal.Mm.value,
  trivial, Cert.UkvIdeal.Mm.value,
  trivial, Cert.BackUqIdeal.Mm.value,
  trivial, Cert.GradUqIdeal.Grad.value,
  trivial, Cert.GradQkvIdeal.Grad.value,
  trivial, Cert.MixBwdIdeal.Mm.value,
  trivial, Cert.NormBwdIdeal.Grad.value,
  trivial, Cert.PostBwdIdeal.Grad.value,
  trivial, Cert.LossIdeal.Grad.value⟩

end Cert.Proof

end
